-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxIdeal_up_finite [hPre_up_finite : Cert.Pre_up_finite.Facts] (m : (ℓ : Loc Cert.UpDxIdeal.nD Cert.UpDxIdeal.τ Cert.UpDxIdeal.sig) → Buf (Elt Ideal) ℓ) : Prop :=
  ∀ c : Dev Cert.UpDxIdeal.nD,
    (Cert.Pre_up_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).1 = (fun _ => 1#1)
    ∧ (Cert.Pre_up_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.1 = (fun _ => 1#1)
    ∧ (Cert.Pre_up_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.2.1 = (fun _ => 1#1)
    ∧ (Cert.Pre_up_finite.fn (F := Ideal) (m ((c.tc : Thread Cert.UpDxIdeal.nD Cert.UpDxIdeal.τ).loc Cert.UpDxIdeal.main_arg0)) (m ((c.tc : Thread Cert.UpDxIdeal.nD Cert.UpDxIdeal.τ).loc Cert.UpDxIdeal.main_arg1)) (m ((c.tc : Thread Cert.UpDxIdeal.nD Cert.UpDxIdeal.τ).loc Cert.UpDxIdeal.main_arg2)) (m ((c.tc : Thread Cert.UpDxIdeal.nD Cert.UpDxIdeal.τ).loc Cert.UpDxIdeal.main_arg3)) (m ((c.tc : Thread Cert.UpDxIdeal.nD Cert.UpDxIdeal.τ).loc Cert.UpDxIdeal.main_arg4))).2.2.2 = (fun _ => 1#1)

def Pre_UpDxRefIdeal (m : (ℓ : Loc Cert.UpDxRefIdeal.nD Cert.UpDxRefIdeal.τ Cert.UpDxRefIdeal.sig) → Buf (Elt Ideal) ℓ) : Prop :=
  True

def Pre_UpDxRefIdeal_up_finite [hPre_up_finite : Cert.Pre_up_finite.Facts] (m : (ℓ : Loc Cert.UpDxRefIdeal.nD Cert.UpDxRefIdeal.τ Cert.UpDxRefIdeal.sig) → Buf (Elt Ideal) ℓ) : Prop :=
  ∀ c : Dev Cert.UpDxRefIdeal.nD,
    (Cert.Pre_up_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).1 = (fun _ => 1#1)
    ∧ (Cert.Pre_up_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.1 = (fun _ => 1#1)
    ∧ (Cert.Pre_up_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.2.1 = (fun _ => 1#1)
    ∧ (Cert.Pre_up_finite.fn (F := Ideal) (m ((c.tc : Thread Cert.UpDxRefIdeal.nD Cert.UpDxRefIdeal.τ).loc Cert.UpDxRefIdeal.main_arg0)) (m ((c.tc : Thread Cert.UpDxRefIdeal.nD Cert.UpDxRefIdeal.τ).loc Cert.UpDxRefIdeal.main_arg1)) (m ((c.tc : Thread Cert.UpDxRefIdeal.nD Cert.UpDxRefIdeal.τ).loc Cert.UpDxRefIdeal.main_arg2)) (m ((c.tc : Thread Cert.UpDxRefIdeal.nD Cert.UpDxRefIdeal.τ).loc Cert.UpDxRefIdeal.main_arg3)) (m ((c.tc : Thread Cert.UpDxRefIdeal.nD Cert.UpDxRefIdeal.τ).loc Cert.UpDxRefIdeal.main_arg4))).2.2.2 = (fun _ => 1#1)

def Pre_DownDx0 (m : (ℓ : Loc Cert.DownDx0.nD Cert.DownDx0.τ Cert.DownDx0.sig) → Buf (Elt Bits) ℓ) : Prop :=
  True

def Pre_DownDx0Ideal (m : (ℓ : Loc Cert.DownDx0Ideal.nD Cert.DownDx0Ideal.τ Cert.DownDx0Ideal.sig) → Buf (Elt Ideal) ℓ) : Prop :=
  True

def Pre_DownDx0RefIdeal (m : (ℓ : Loc Cert.DownDx0RefIdeal.nD Cert.DownDx0RefIdeal.τ Cert.DownDx0RefIdeal.sig) → Buf (Elt Ideal) ℓ) : Prop :=
  True

def Pre_UpDx0 (m : (ℓ : Loc Cert.UpDx0.nD Cert.UpDx0.τ Cert.UpDx0.sig) → Buf (Elt Bits) ℓ) : Prop :=
  True

def Pre_UpDx0Ideal (m : (ℓ : Loc Cert.UpDx0Ideal.nD Cert.UpDx0Ideal.τ Cert.UpDx0Ideal.sig) → Buf (Elt Ideal) ℓ) : Prop :=
  True

def Pre_UpDx0Ideal_up_finite [hPre_up_finite : Cert.Pre_up_finite.Facts] (m : (ℓ : Loc Cert.UpDx0Ideal.nD Cert.UpDx0Ideal.τ Cert.UpDx0Ideal.sig) → Buf (Elt Ideal) ℓ) : Prop :=
  ∀ c : Dev Cert.UpDx0Ideal.nD,
    (Cert.Pre_up_finite.fn (F := Ideal) (m ((c.tc : Thread Cert.UpDx0Ideal.nD Cert.UpDx0Ideal.τ).loc Cert.UpDx0Ideal.main_arg0)) (m ((c.tc : Thread Cert.UpDx0Ideal.nD Cert.UpDx0Ideal.τ).loc Cert.UpDx0Ideal.main_arg1)) (m ((c.tc : Thread Cert.UpDx0Ideal.nD Cert.UpDx0Ideal.τ).loc Cert.UpDx0Ideal.main_arg2)) (m ((c.tc : Thread Cert.UpDx0Ideal.nD Cert.UpDx0Ideal.τ).loc Cert.UpDx0Ideal.main_arg3)) (m ((c.tc : Thread Cert.UpDx0Ideal.nD Cert.UpDx0Ideal.τ).loc Cert.UpDx0Ideal.main_arg4))).1 = (fun _ => 1#1)
    ∧ (Cert.Pre_up_finite.fn (F := Ideal) (m ((c.tc : Thread Cert.UpDx0Ideal.nD Cert.UpDx0Ideal.τ).loc Cert.UpDx0Ideal.main_arg0)) (m ((c.tc : Thread Cert.UpDx0Ideal.nD Cert.UpDx0Ideal.τ).loc Cert.UpDx0Ideal.main_arg1)) (m ((c.tc : Thread Cert.UpDx0Ideal.nD Cert.UpDx0Ideal.τ).loc Cert.UpDx0Ideal.main_arg2)) (m ((c.tc : Thread Cert.UpDx0Ideal.nD Cert.UpDx0Ideal.τ).loc Cert.UpDx0Ideal.main_arg3)) (m ((c.tc : Thread Cert.UpDx0Ideal.nD Cert.UpDx0Ideal.τ).loc Cert.UpDx0Ideal.main_arg4))).2.1 = (fun _ => 1#1)
    ∧ (Cert.Pre_up_finite.fn (F := Ideal) (m ((c.tc : Thread Cert.UpDx0Ideal.nD Cert.UpDx0Ideal.τ).loc Cert.UpDx0Ideal.main_arg0)) (m ((c.tc : Thread Cert.UpDx0Ideal.nD Cert.UpDx0Ideal.τ).loc Cert.UpDx0Ideal.main_arg1)) (m ((c.tc : Thread Cert.UpDx0Ideal.nD Cert.UpDx0Ideal.τ).loc Cert.UpDx0Ideal.main_arg2)) (m ((c.tc : Thread Cert.UpDx0Ideal.nD Cert.UpDx0Ideal.τ).loc Cert.UpDx0Ideal.main_arg3)) (m ((c.tc : Thread Cert.UpDx0Ideal.nD Cert.UpDx0Ideal.τ).loc Cert.UpDx0Ideal.main_arg4))).2.2.1 = (fun _ => 1#1)
    ∧ (Cert.Pre_up_finite.fn (F := Ideal) (m ((c.tc : Thread Cert.UpDx0Ideal.nD Cert.UpDx0Ideal.τ).loc Cert.UpDx0Ideal.main_arg0)) (m ((c.tc : Thread Cert.UpDx0Ideal.nD Cert.UpDx0Ideal.τ).loc Cert.UpDx0Ideal.main_arg1)) (m ((c.tc : Thread Cert.UpDx0Ideal.nD Cert.UpDx0Ideal.τ).loc Cert.UpDx0Ideal.main_arg2)) (m ((c.tc : Thread Cert.UpDx0Ideal.nD Cert.UpDx0Ideal.τ).loc Cert.UpDx0Ideal.main_arg3)) (m ((c.tc : Thread Cert.UpDx0Ideal.nD Cert.UpDx0Ideal.τ).loc Cert.UpDx0Ideal.main_arg4))).2.2.2 = (fun _ => 1#1)

def Pre_UpDx0RefIdeal (m : (ℓ : Loc Cert.UpDx0RefIdeal.nD Cert.UpDx0RefIdeal.τ Cert.UpDx0RefIdeal.sig) → Buf (Elt Ideal) ℓ) : Prop :=
  True

def Pre_UpDx0RefIdeal_up_finite [hPre_up_finite : Cert.Pre_up_finite.Facts] (m : (ℓ : Loc Cert.UpDx0RefIdeal.nD Cert.UpDx0RefIdeal.τ Cert.UpDx0RefIdeal.sig) → Buf (Elt Ideal) ℓ) : Prop :=
  ∀ c : Dev Cert.UpDx0RefIdeal.nD,
    (Cert.Pre_up_finite.fn (F := Ideal) (m ((c.tc : Thread Cert.UpDx0RefIdeal.nD Cert.UpDx0RefIdeal.τ).loc Cert.UpDx0RefIdeal.main_arg0)) (m ((c.tc : Thread Cert.UpDx0RefIdeal.nD Cert.UpDx0RefIdeal.τ).loc Cert.UpDx0RefIdeal.main_arg1)) (m ((c.tc : Thread Cert.UpDx0RefIdeal.nD Cert.UpDx0RefIdeal.τ).loc Cert.UpDx0RefIdeal.main_arg2)) (m ((c.tc : Thread Cert.UpDx0RefIdeal.nD Cert.UpDx0RefIdeal.τ).loc Cert.UpDx0RefIdeal.main_arg3)) (m ((c.tc : Thread Cert.UpDx0RefIdeal.nD Cert.UpDx0RefIdeal.τ).loc Cert.UpDx0RefIdeal.main_arg4))).1 = (fun _ => 1#1)
    ∧ (Cert.Pre_up_finite.fn (F := Ideal) (m ((c.tc : Thread Cert.UpDx0RefIdeal.nD Cert.UpDx0RefIdeal.τ).loc Cert.UpDx0RefIdeal.main_arg0)) (m ((c.tc : Thread Cert.UpDx0RefIdeal.nD Cert.UpDx0RefIdeal.τ).loc Cert.UpDx0RefIdeal.main_arg1)) (m ((c.tc : Thread Cert.UpDx0RefIdeal.nD Cert.UpDx0RefIdeal.τ).loc Cert.UpDx0RefIdeal.main_arg2)) (m ((c.tc : Thread Cert.UpDx0RefIdeal.nD Cert.UpDx0RefIdeal.τ).loc Cert.UpDx0RefIdeal.main_arg3)) (m ((c.tc : Thread Cert.UpDx0RefIdeal.nD Cert.UpDx0RefIdeal.τ).loc Cert.UpDx0RefIdeal.main_arg4))).2.1 = (fun _ => 1#1)
    ∧ (Cert.Pre_up_finite.fn (F := Ideal) (m ((c.tc : Thread Cert.UpDx0RefIdeal.nD Cert.UpDx0RefIdeal.τ).loc Cert.UpDx0RefIdeal.main_arg0)) (m ((c.tc : Thread Cert.UpDx0RefIdeal.nD Cert.UpDx0RefIdeal.τ).loc Cert.UpDx0RefIdeal.main_arg1)) (m ((c.tc : Thread Cert.UpDx0RefIdeal.nD Cert.UpDx0RefIdeal.τ).loc Cert.UpDx0RefIdeal.main_arg2)) (m ((c.tc : Thread Cert.UpDx0RefIdeal.nD Cert.UpDx0RefIdeal.τ).loc Cert.UpDx0RefIdeal.main_arg3)) (m ((c.tc : Thread Cert.UpDx0RefIdeal.nD Cert.UpDx0RefIdeal.τ).loc Cert.UpDx0RefIdeal.main_arg4))).2.2.1 = (fun _ => 1#1)
    ∧ (Cert.Pre_up_finite.fn (F := Ideal) (m ((c.tc : Thread Cert.UpDx0RefIdeal.nD Cert.UpDx0RefIdeal.τ).loc Cert.UpDx0RefIdeal.main_arg0)) (m ((c.tc : Thread Cert.UpDx0RefIdeal.nD Cert.UpDx0RefIdeal.τ).loc Cert.UpDx0RefIdeal.main_arg1)) (m ((c.tc : Thread Cert.UpDx0RefIdeal.nD Cert.UpDx0RefIdeal.τ).loc Cert.UpDx0RefIdeal.main_arg2)) (m ((c.tc : Thread Cert.UpDx0RefIdeal.nD Cert.UpDx0RefIdeal.τ).loc Cert.UpDx0RefIdeal.main_arg3)) (m ((c.tc : Thread Cert.UpDx0RefIdeal.nD Cert.UpDx0RefIdeal.τ).loc Cert.UpDx0RefIdeal.main_arg4))).2.2.2 = (fun _ => 1#1)

def Pre_Up1 (m : (ℓ : Loc Cert.Up1.nD Cert.Up1.τ Cert.Up1.sig) → Buf (Elt Bits) ℓ) : Prop :=
  True

def Pre_Up1Ideal (m : (ℓ : Loc Cert.Up1Ideal.nD Cert.Up1Ideal.τ Cert.Up1Ideal.sig) → Buf (Elt Ideal) ℓ) : Prop :=
  True

def Pre_Up1RefIdeal (m : (ℓ : Loc Cert.Up1RefIdeal.nD Cert.Up1RefIdeal.τ Cert.Up1RefIdeal.sig) → Buf (Elt Ideal) ℓ) : Prop :=
  True

def Pre_Up0 (m : (ℓ : Loc Cert.Up0.nD Cert.Up0.τ Cert.Up0.sig) → Buf (Elt Bits) ℓ) : Prop :=
  True

def Pre_Up0Ideal (m : (ℓ : Loc Cert.Up0Ideal.nD Cert.Up0Ideal.τ Cert.Up0Ideal.sig) → Buf (Elt Ideal) ℓ) : Prop :=
  True

def Pre_Up0RefIdeal (m : (ℓ : Loc Cert.Up0RefIdeal.nD Cert.Up0RefIdeal.τ Cert.Up0RefIdeal.sig) → Buf (Elt Ideal) ℓ) : Prop :=
  True

def Pre_Down0 (m : (ℓ : Loc Cert.Down0.nD Cert.Down0.τ Cert.Down0.sig) → Buf (Elt Bits) ℓ) : Prop :=
  True

def Pre_Down0Ideal (m : (ℓ : Loc Cert.Down0Ideal.nD Cert.Down0Ideal.τ Cert.Down0Ideal.sig) → Buf (Elt Ideal) ℓ) : Prop :=
  True

def Pre_Down0RefIdeal (m : (ℓ : Loc Cert.Down0RefIdeal.nD Cert.Down0RefIdeal.τ Cert.Down0RefIdeal.sig) → Buf (Elt Ideal) ℓ) : Prop :=
  True

def Pre_Down1 (m : (ℓ : Loc Cert.Down1.nD Cert.Down1.τ Cert.Down1.sig) → Buf (Elt Bits) ℓ) : Prop :=
  True

def Pre_Down1Ideal (m : (ℓ : Loc Cert.Down1Ideal.nD Cert.Down1Ideal.τ Cert.Down1Ideal.sig) → Buf (Elt Ideal) ℓ) : Prop :=
  True

def Pre_Down1RefIdeal (m : (ℓ : Loc Cert.Down1RefIdeal.nD Cert.Down1RefIdeal.τ Cert.Down1RefIdeal.sig) → Buf (Elt Ideal) ℓ) : Prop :=
  True

def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxIdeal_in_finite [hPre_in_finite : Cert.Pre_in_finite.Facts] (m : (ℓ : Loc Cert.InDxIdeal.nD Cert.InDxIdeal.τ Cert.InDxIdeal.sig) → Buf (Elt Ideal) ℓ) : Prop :=
  ∀ c : Dev Cert.InDxIdeal.nD,
    (Cert.Pre_in_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).1 = (fun _ => 1#1)
    ∧ (Cert.Pre_in_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.1 = (fun _ => 1#1)
    ∧ (Cert.Pre_in_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.1 = (fun _ => 1#1)
    ∧ (Cert.Pre_in_finite.fn (F := Ideal) (m ((c.tc : Thread Cert.InDxIdeal.nD Cert.InDxIdeal.τ).loc Cert.InDxIdeal.main_arg0)) (m ((c.tc : Thread Cert.InDxIdeal.nD Cert.InDxIdeal.τ).loc Cert.InDxIdeal.main_arg1)) (m ((c.tc : Thread Cert.InDxIdeal.nD Cert.InDxIdeal.τ).loc Cert.InDxIdeal.main_arg2)) (m ((c.tc : Thread Cert.InDxIdeal.nD Cert.InDxIdeal.τ).loc Cert.InDxIdeal.main_arg3)) (m ((c.tc : Thread Cert.InDxIdeal.nD Cert.InDxIdeal.τ).loc Cert.InDxIdeal.main_arg4))).2.2.2 = (fun _ => 1#1)

def Pre_InDxRefIdeal (m : (ℓ : Loc Cert.InDxRefIdeal.nD Cert.InDxRefIdeal.τ Cert.InDxRefIdeal.sig) → Buf (Elt Ideal) ℓ) : Prop :=
  True

def Pre_InDxRefIdeal_in_finite [hPre_in_finite : Cert.Pre_in_finite.Facts] (m : (ℓ : Loc Cert.InDxRefIdeal.nD Cert.InDxRefIdeal.τ Cert.InDxRefIdeal.sig) → Buf (Elt Ideal) ℓ) : Prop :=
  ∀ c : Dev Cert.InDxRefIdeal.nD,
    (Cert.Pre_in_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).1 = (fun _ => 1#1)
    ∧ (Cert.Pre_in_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.1 = (fun _ => 1#1)
    ∧ (Cert.Pre_in_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.1 = (fun _ => 1#1)
    ∧ (Cert.Pre_in_finite.fn (F := Ideal) (m ((c.tc : Thread Cert.InDxRefIdeal.nD Cert.InDxRefIdeal.τ).loc Cert.InDxRefIdeal.main_arg0)) (m ((c.tc : Thread Cert.InDxRefIdeal.nD Cert.InDxRefIdeal.τ).loc Cert.InDxRefIdeal.main_arg1)) (m ((c.tc : Thread Cert.InDxRefIdeal.nD Cert.InDxRefIdeal.τ).loc Cert.InDxRefIdeal.main_arg2)) (m ((c.tc : Thread Cert.InDxRefIdeal.nD Cert.InDxRefIdeal.τ).loc Cert.InDxRefIdeal.main_arg3)) (m ((c.tc : Thread Cert.InDxRefIdeal.nD Cert.InDxRefIdeal.τ).loc Cert.InDxRefIdeal.main_arg4))).2.2.2 = (fun _ => 1#1)

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_OddDw (m : (ℓ : Loc Cert.OddDw.nD Cert.OddDw.τ Cert.OddDw.sig) → Buf (Elt Bits) ℓ) : Prop :=
  True

def Pre_OddDwIdeal (m : (ℓ : Loc Cert.OddDwIdeal.nD Cert.OddDwIdeal.τ Cert.OddDwIdeal.sig) → Buf (Elt Ideal) ℓ) : Prop :=
  True

def Pre_OddDwRefIdeal (m : (ℓ : Loc Cert.OddDwRefIdeal.nD Cert.OddDwRefIdeal.τ Cert.OddDwRefIdeal.sig) → Buf (Elt Ideal) ℓ) : Prop :=
  True

def Pre_OddDx (m : (ℓ : Loc Cert.OddDx.nD Cert.OddDx.τ Cert.OddDx.sig) → Buf (Elt Bits) ℓ) : Prop :=
  True

def Pre_OddDxIdeal (m : (ℓ : Loc Cert.OddDxIdeal.nD Cert.OddDxIdeal.τ Cert.OddDxIdeal.sig) → Buf (Elt Ideal) ℓ) : Prop :=
  True

def Pre_OddDxIdeal_odd_finite [hPre_odd_finite : Cert.Pre_odd_finite.Facts] (m : (ℓ : Loc Cert.OddDxIdeal.nD Cert.OddDxIdeal.τ Cert.OddDxIdeal.sig) → Buf (Elt Ideal) ℓ) : Prop :=
  ∀ c : Dev Cert.OddDxIdeal.nD,
    (Cert.Pre_odd_finite.fn (F := Ideal) (m ((c.tc : Thread Cert.OddDxIdeal.nD Cert.OddDxIdeal.τ).loc Cert.OddDxIdeal.main_arg0)) (m ((c.tc : Thread Cert.OddDxIdeal.nD Cert.OddDxIdeal.τ).loc Cert.OddDxIdeal.main_arg1)) (m ((c.tc : Thread Cert.OddDxIdeal.nD Cert.OddDxIdeal.τ).loc Cert.OddDxIdeal.main_arg2)) (m ((c.tc : Thread Cert.OddDxIdeal.nD Cert.OddDxIdeal.τ).loc Cert.OddDxIdeal.main_arg3)) (m ((c.tc : Thread Cert.OddDxIdeal.nD Cert.OddDxIdeal.τ).loc Cert.OddDxIdeal.main_arg4))).1 = (fun _ => 1#1)
    ∧ (Cert.Pre_odd_finite.fn (F := Ideal) (m ((c.tc : Thread Cert.OddDxIdeal.nD Cert.OddDxIdeal.τ).loc Cert.OddDxIdeal.main_arg0)) (m ((c.tc : Thread Cert.OddDxIdeal.nD Cert.OddDxIdeal.τ).loc Cert.OddDxIdeal.main_arg1)) (m ((c.tc : Thread Cert.OddDxIdeal.nD Cert.OddDxIdeal.τ).loc Cert.OddDxIdeal.main_arg2)) (m ((c.tc : Thread Cert.OddDxIdeal.nD Cert.OddDxIdeal.τ).loc Cert.OddDxIdeal.main_arg3)) (m ((c.tc : Thread Cert.OddDxIdeal.nD Cert.OddDxIdeal.τ).loc Cert.OddDxIdeal.main_arg4))).2.1 = (fun _ => 1#1)
    ∧ (Cert.Pre_odd_finite.fn (F := Ideal) (m ((c.tc : Thread Cert.OddDxIdeal.nD Cert.OddDxIdeal.τ).loc Cert.OddDxIdeal.main_arg0)) (m ((c.tc : Thread Cert.OddDxIdeal.nD Cert.OddDxIdeal.τ).loc Cert.OddDxIdeal.main_arg1)) (m ((c.tc : Thread Cert.OddDxIdeal.nD Cert.OddDxIdeal.τ).loc Cert.OddDxIdeal.main_arg2)) (m ((c.tc : Thread Cert.OddDxIdeal.nD Cert.OddDxIdeal.τ).loc Cert.OddDxIdeal.main_arg3)) (m ((c.tc : Thread Cert.OddDxIdeal.nD Cert.OddDxIdeal.τ).loc Cert.OddDxIdeal.main_arg4))).2.2.1 = (fun _ => 1#1)
    ∧ (Cert.Pre_odd_finite.fn (F := Ideal) (m ((c.tc : Thread Cert.OddDxIdeal.nD Cert.OddDxIdeal.τ).loc Cert.OddDxIdeal.main_arg0)) (m ((c.tc : Thread Cert.OddDxIdeal.nD Cert.OddDxIdeal.τ).loc Cert.OddDxIdeal.main_arg1)) (m ((c.tc : Thread Cert.OddDxIdeal.nD Cert.OddDxIdeal.τ).loc Cert.OddDxIdeal.main_arg2)) (m ((c.tc : Thread Cert.OddDxIdeal.nD Cert.OddDxIdeal.τ).loc Cert.OddDxIdeal.main_arg3)) (m ((c.tc : Thread Cert.OddDxIdeal.nD Cert.OddDxIdeal.τ).loc Cert.OddDxIdeal.main_arg4))).2.2.2 = (fun _ => 1#1)

def Pre_OddDxRefIdeal (m : (ℓ : Loc Cert.OddDxRefIdeal.nD Cert.OddDxRefIdeal.τ Cert.OddDxRefIdeal.sig) → Buf (Elt Ideal) ℓ) : Prop :=
  True

def Pre_OddDxRefIdeal_odd_finite [hPre_odd_finite : Cert.Pre_odd_finite.Facts] (m : (ℓ : Loc Cert.OddDxRefIdeal.nD Cert.OddDxRefIdeal.τ Cert.OddDxRefIdeal.sig) → Buf (Elt Ideal) ℓ) : Prop :=
  ∀ c : Dev Cert.OddDxRefIdeal.nD,
    (Cert.Pre_odd_finite.fn (F := Ideal) (m ((c.tc : Thread Cert.OddDxRefIdeal.nD Cert.OddDxRefIdeal.τ).loc Cert.OddDxRefIdeal.main_arg0)) (m ((c.tc : Thread Cert.OddDxRefIdeal.nD Cert.OddDxRefIdeal.τ).loc Cert.OddDxRefIdeal.main_arg1)) (m ((c.tc : Thread Cert.OddDxRefIdeal.nD Cert.OddDxRefIdeal.τ).loc Cert.OddDxRefIdeal.main_arg2)) (m ((c.tc : Thread Cert.OddDxRefIdeal.nD Cert.OddDxRefIdeal.τ).loc Cert.OddDxRefIdeal.main_arg3)) (m ((c.tc : Thread Cert.OddDxRefIdeal.nD Cert.OddDxRefIdeal.τ).loc Cert.OddDxRefIdeal.main_arg4))).1 = (fun _ => 1#1)
    ∧ (Cert.Pre_odd_finite.fn (F := Ideal) (m ((c.tc : Thread Cert.OddDxRefIdeal.nD Cert.OddDxRefIdeal.τ).loc Cert.OddDxRefIdeal.main_arg0)) (m ((c.tc : Thread Cert.OddDxRefIdeal.nD Cert.OddDxRefIdeal.τ).loc Cert.OddDxRefIdeal.main_arg1)) (m ((c.tc : Thread Cert.OddDxRefIdeal.nD Cert.OddDxRefIdeal.τ).loc Cert.OddDxRefIdeal.main_arg2)) (m ((c.tc : Thread Cert.OddDxRefIdeal.nD Cert.OddDxRefIdeal.τ).loc Cert.OddDxRefIdeal.main_arg3)) (m ((c.tc : Thread Cert.OddDxRefIdeal.nD Cert.OddDxRefIdeal.τ).loc Cert.OddDxRefIdeal.main_arg4))).2.1 = (fun _ => 1#1)
    ∧ (Cert.Pre_odd_finite.fn (F := Ideal) (m ((c.tc : Thread Cert.OddDxRefIdeal.nD Cert.OddDxRefIdeal.τ).loc Cert.OddDxRefIdeal.main_arg0)) (m ((c.tc : Thread Cert.OddDxRefIdeal.nD Cert.OddDxRefIdeal.τ).loc Cert.OddDxRefIdeal.main_arg1)) (m ((c.tc : Thread Cert.OddDxRefIdeal.nD Cert.OddDxRefIdeal.τ).loc Cert.OddDxRefIdeal.main_arg2)) (m ((c.tc : Thread Cert.OddDxRefIdeal.nD Cert.OddDxRefIdeal.τ).loc Cert.OddDxRefIdeal.main_arg3)) (m ((c.tc : Thread Cert.OddDxRefIdeal.nD Cert.OddDxRefIdeal.τ).loc Cert.OddDxRefIdeal.main_arg4))).2.2.1 = (fun _ => 1#1)
    ∧ (Cert.Pre_odd_finite.fn (F := Ideal) (m ((c.tc : Thread Cert.OddDxRefIdeal.nD Cert.OddDxRefIdeal.τ).loc Cert.OddDxRefIdeal.main_arg0)) (m ((c.tc : Thread Cert.OddDxRefIdeal.nD Cert.OddDxRefIdeal.τ).loc Cert.OddDxRefIdeal.main_arg1)) (m ((c.tc : Thread Cert.OddDxRefIdeal.nD Cert.OddDxRefIdeal.τ).loc Cert.OddDxRefIdeal.main_arg2)) (m ((c.tc : Thread Cert.OddDxRefIdeal.nD Cert.OddDxRefIdeal.τ).loc Cert.OddDxRefIdeal.main_arg3)) (m ((c.tc : Thread Cert.OddDxRefIdeal.nD Cert.OddDxRefIdeal.τ).loc Cert.OddDxRefIdeal.main_arg4))).2.2.2 = (fun _ => 1#1)

def Pre_OddOutDx (m : (ℓ : Loc Cert.OddOutDx.nD Cert.OddOutDx.τ Cert.OddOutDx.sig) → Buf (Elt Bits) ℓ) : Prop :=
  True

def Pre_OddOutDxIdeal (m : (ℓ : Loc Cert.OddOutDxIdeal.nD Cert.OddOutDxIdeal.τ Cert.OddOutDxIdeal.sig) → Buf (Elt Ideal) ℓ) : Prop :=
  True

def Pre_OddOutDxRefIdeal (m : (ℓ : Loc Cert.OddOutDxRefIdeal.nD Cert.OddOutDxRefIdeal.τ Cert.OddOutDxRefIdeal.sig) → Buf (Elt Ideal) ℓ) : Prop :=
  True

def Pre_OddFwd (m : (ℓ : Loc Cert.OddFwd.nD Cert.OddFwd.τ Cert.OddFwd.sig) → Buf (Elt Bits) ℓ) : Prop :=
  True

def Pre_OddFwdIdeal (m : (ℓ : Loc Cert.OddFwdIdeal.nD Cert.OddFwdIdeal.τ Cert.OddFwdIdeal.sig) → Buf (Elt Ideal) ℓ) : Prop :=
  True

def Pre_OddFwdRefIdeal (m : (ℓ : Loc Cert.OddFwdRefIdeal.nD Cert.OddFwdRefIdeal.τ Cert.OddFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxIdeal_pre_up_finite [hUpDxIdeal : Cert.UpDxIdeal.Facts] [hPre_up_finite : Cert.Pre_up_finite.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal_up_finite m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_UpDxRefIdeal_pre_up_finite [hUpDxRefIdeal : Cert.UpDxRefIdeal.Facts] [hPre_up_finite : Cert.Pre_up_finite.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal_up_finite m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_DownDx0 [hDownDx0 : Cert.DownDx0.Facts] : Prop :=
  ∀ (m : (ℓ : Loc Cert.DownDx0.nD Cert.DownDx0.τ Cert.DownDx0.sig) → Buf (Elt Bits) ℓ) (g : Dev Cert.DownDx0.nD → PrngReg), Pre_DownDx0 m →
    θ_run (Cert.DownDx0.defs (F := Bits)) (onTc (τ := Cert.DownDx0.τ) (Cert.DownDx0.main (F := Bits))) ⟨m, fun _ => 0, g⟩ (fun r => (∀ c : Dev Cert.DownDx0.nD,
      r.2.mem ((c.tc : Thread Cert.DownDx0.nD Cert.DownDx0.τ).loc Cert.DownDx0.main_arg0) = m ((c.tc : Thread Cert.DownDx0.nD Cert.DownDx0.τ).loc Cert.DownDx0.main_arg0)
      ∧ r.2.mem ((c.tc : Thread Cert.DownDx0.nD Cert.DownDx0.τ).loc Cert.DownDx0.main_arg1) = m ((c.tc : Thread Cert.DownDx0.nD Cert.DownDx0.τ).loc Cert.DownDx0.main_arg1)
      ∧ r.2.mem ((c.tc : Thread Cert.DownDx0.nD Cert.DownDx0.τ).loc Cert.DownDx0.main_arg2) = m ((c.tc : Thread Cert.DownDx0.nD Cert.DownDx0.τ).loc Cert.DownDx0.main_arg2))
      ∧ r.2.sem = fun _ => 0)

def quiescent_DownDx0Ideal [hDownDx0Ideal : Cert.DownDx0Ideal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg), Pre_DownDx0Ideal m →
    θ_run (Cert.DownDx0Ideal.defs (F := Ideal)) (onTc (τ := Cert.DownDx0Ideal.τ) (Cert.DownDx0Ideal.main (F := Ideal))) ⟨m, fun _ => 0, g⟩ (fun r => (∀ c : Dev Cert.DownDx0Ideal.nD,
      r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
      ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
      ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ r.2.sem = fun _ => 0)

def quiescent_DownDx0RefIdeal [hDownDx0RefIdeal : Cert.DownDx0RefIdeal.Facts] : Prop :=
  ∀ (m : (ℓ : Loc Cert.DownDx0RefIdeal.nD Cert.DownDx0RefIdeal.τ Cert.DownDx0RefIdeal.sig) → Buf (Elt Ideal) ℓ) (g : Dev Cert.DownDx0RefIdeal.nD → PrngReg), Pre_DownDx0RefIdeal m →
    θ_run (Cert.DownDx0RefIdeal.defs (F := Ideal)) (onTc (τ := Cert.DownDx0RefIdeal.τ) (Cert.DownDx0RefIdeal.main (F := Ideal))) ⟨m, fun _ => 0, g⟩ (fun r => (∀ c : Dev Cert.DownDx0RefIdeal.nD,
      r.2.mem ((c.tc : Thread Cert.DownDx0RefIdeal.nD Cert.DownDx0RefIdeal.τ).loc Cert.DownDx0RefIdeal.main_arg0) = m ((c.tc : Thread Cert.DownDx0RefIdeal.nD Cert.DownDx0RefIdeal.τ).loc Cert.DownDx0RefIdeal.main_arg0)
      ∧ r.2.mem ((c.tc : Thread Cert.DownDx0RefIdeal.nD Cert.DownDx0RefIdeal.τ).loc Cert.DownDx0RefIdeal.main_arg1) = m ((c.tc : Thread Cert.DownDx0RefIdeal.nD Cert.DownDx0RefIdeal.τ).loc Cert.DownDx0RefIdeal.main_arg1)
      ∧ r.2.mem ((c.tc : Thread Cert.DownDx0RefIdeal.nD Cert.DownDx0RefIdeal.τ).loc Cert.DownDx0RefIdeal.main_arg2) = m ((c.tc : Thread Cert.DownDx0RefIdeal.nD Cert.DownDx0RefIdeal.τ).loc Cert.DownDx0RefIdeal.main_arg2))
      ∧ r.2.sem = fun _ => 0)

def quiescent_UpDx0 [hUpDx0 : Cert.UpDx0.Facts] : Prop :=
  ∀ (m : (ℓ : Loc Cert.UpDx0.nD Cert.UpDx0.τ Cert.UpDx0.sig) → Buf (Elt Bits) ℓ) (g : Dev Cert.UpDx0.nD → PrngReg), Pre_UpDx0 m →
    θ_run (Cert.UpDx0.defs (F := Bits)) (onTc (τ := Cert.UpDx0.τ) (Cert.UpDx0.main (F := Bits))) ⟨m, fun _ => 0, g⟩ (fun r => (∀ c : Dev Cert.UpDx0.nD,
      r.2.mem ((c.tc : Thread Cert.UpDx0.nD Cert.UpDx0.τ).loc Cert.UpDx0.main_arg0) = m ((c.tc : Thread Cert.UpDx0.nD Cert.UpDx0.τ).loc Cert.UpDx0.main_arg0)
      ∧ r.2.mem ((c.tc : Thread Cert.UpDx0.nD Cert.UpDx0.τ).loc Cert.UpDx0.main_arg1) = m ((c.tc : Thread Cert.UpDx0.nD Cert.UpDx0.τ).loc Cert.UpDx0.main_arg1)
      ∧ r.2.mem ((c.tc : Thread Cert.UpDx0.nD Cert.UpDx0.τ).loc Cert.UpDx0.main_arg2) = m ((c.tc : Thread Cert.UpDx0.nD Cert.UpDx0.τ).loc Cert.UpDx0.main_arg2)
      ∧ r.2.mem ((c.tc : Thread Cert.UpDx0.nD Cert.UpDx0.τ).loc Cert.UpDx0.main_arg3) = m ((c.tc : Thread Cert.UpDx0.nD Cert.UpDx0.τ).loc Cert.UpDx0.main_arg3)
      ∧ r.2.mem ((c.tc : Thread Cert.UpDx0.nD Cert.UpDx0.τ).loc Cert.UpDx0.main_arg4) = m ((c.tc : Thread Cert.UpDx0.nD Cert.UpDx0.τ).loc Cert.UpDx0.main_arg4))
      ∧ r.2.sem = fun _ => 0)

def quiescent_UpDx0Ideal [hUpDx0Ideal : Cert.UpDx0Ideal.Facts] : Prop :=
  ∀ (m : (ℓ : Loc Cert.UpDx0Ideal.nD Cert.UpDx0Ideal.τ Cert.UpDx0Ideal.sig) → Buf (Elt Ideal) ℓ) (g : Dev Cert.UpDx0Ideal.nD → PrngReg), Pre_UpDx0Ideal m →
    θ_run (Cert.UpDx0Ideal.defs (F := Ideal)) (onTc (τ := Cert.UpDx0Ideal.τ) (Cert.UpDx0Ideal.main (F := Ideal))) ⟨m, fun _ => 0, g⟩ (fun r => (∀ c : Dev Cert.UpDx0Ideal.nD,
      r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
      ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
      ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2)
      ∧ r.2.mem ((c.tc : Thread Cert.UpDx0Ideal.nD Cert.UpDx0Ideal.τ).loc Cert.UpDx0Ideal.main_arg3) = m ((c.tc : Thread Cert.UpDx0Ideal.nD Cert.UpDx0Ideal.τ).loc Cert.UpDx0Ideal.main_arg3)
      ∧ r.2.mem ((c.tc : Thread Cert.UpDx0Ideal.nD Cert.UpDx0Ideal.τ).loc Cert.UpDx0Ideal.main_arg4) = m ((c.tc : Thread Cert.UpDx0Ideal.nD Cert.UpDx0Ideal.τ).loc Cert.UpDx0Ideal.main_arg4))
      ∧ r.2.sem = fun _ => 0)

def quiescent_UpDx0Ideal_pre_up_finite [hUpDx0Ideal : Cert.UpDx0Ideal.Facts] [hPre_up_finite : Cert.Pre_up_finite.Facts] : Prop :=
  ∀ (m : (ℓ : Loc Cert.UpDx0Ideal.nD Cert.UpDx0Ideal.τ Cert.UpDx0Ideal.sig) → Buf (Elt Ideal) ℓ) (g : Dev Cert.UpDx0Ideal.nD → PrngReg), Pre_UpDx0Ideal_up_finite m →
    θ_run (Cert.UpDx0Ideal.defs (F := Ideal)) (onTc (τ := Cert.UpDx0Ideal.τ) (Cert.UpDx0Ideal.main (F := Ideal))) ⟨m, fun _ => 0, g⟩ (fun r => (∀ c : Dev Cert.UpDx0Ideal.nD,
      r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
      ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
      ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2)
      ∧ r.2.mem ((c.tc : Thread Cert.UpDx0Ideal.nD Cert.UpDx0Ideal.τ).loc Cert.UpDx0Ideal.main_arg3) = m ((c.tc : Thread Cert.UpDx0Ideal.nD Cert.UpDx0Ideal.τ).loc Cert.UpDx0Ideal.main_arg3)
      ∧ r.2.mem ((c.tc : Thread Cert.UpDx0Ideal.nD Cert.UpDx0Ideal.τ).loc Cert.UpDx0Ideal.main_arg4) = m ((c.tc : Thread Cert.UpDx0Ideal.nD Cert.UpDx0Ideal.τ).loc Cert.UpDx0Ideal.main_arg4))
      ∧ r.2.sem = fun _ => 0)

def quiescent_UpDx0RefIdeal [hUpDx0RefIdeal : Cert.UpDx0RefIdeal.Facts] : Prop :=
  ∀ (m : (ℓ : Loc Cert.UpDx0RefIdeal.nD Cert.UpDx0RefIdeal.τ Cert.UpDx0RefIdeal.sig) → Buf (Elt Ideal) ℓ) (g : Dev Cert.UpDx0RefIdeal.nD → PrngReg), Pre_UpDx0RefIdeal m →
    θ_run (Cert.UpDx0RefIdeal.defs (F := Ideal)) (onTc (τ := Cert.UpDx0RefIdeal.τ) (Cert.UpDx0RefIdeal.main (F := Ideal))) ⟨m, fun _ => 0, g⟩ (fun r => (∀ c : Dev Cert.UpDx0RefIdeal.nD,
      r.2.mem ((c.tc : Thread Cert.UpDx0RefIdeal.nD Cert.UpDx0RefIdeal.τ).loc Cert.UpDx0RefIdeal.main_arg0) = m ((c.tc : Thread Cert.UpDx0RefIdeal.nD Cert.UpDx0RefIdeal.τ).loc Cert.UpDx0RefIdeal.main_arg0)
      ∧ r.2.mem ((c.tc : Thread Cert.UpDx0RefIdeal.nD Cert.UpDx0RefIdeal.τ).loc Cert.UpDx0RefIdeal.main_arg1) = m ((c.tc : Thread Cert.UpDx0RefIdeal.nD Cert.UpDx0RefIdeal.τ).loc Cert.UpDx0RefIdeal.main_arg1)
      ∧ r.2.mem ((c.tc : Thread Cert.UpDx0RefIdeal.nD Cert.UpDx0RefIdeal.τ).loc Cert.UpDx0RefIdeal.main_arg2) = m ((c.tc : Thread Cert.UpDx0RefIdeal.nD Cert.UpDx0RefIdeal.τ).loc Cert.UpDx0RefIdeal.main_arg2)
      ∧ r.2.mem ((c.tc : Thread Cert.UpDx0RefIdeal.nD Cert.UpDx0RefIdeal.τ).loc Cert.UpDx0RefIdeal.main_arg3) = m ((c.tc : Thread Cert.UpDx0RefIdeal.nD Cert.UpDx0RefIdeal.τ).loc Cert.UpDx0RefIdeal.main_arg3)
      ∧ r.2.mem ((c.tc : Thread Cert.UpDx0RefIdeal.nD Cert.UpDx0RefIdeal.τ).loc Cert.UpDx0RefIdeal.main_arg4) = m ((c.tc : Thread Cert.UpDx0RefIdeal.nD Cert.UpDx0RefIdeal.τ).loc Cert.UpDx0RefIdeal.main_arg4))
      ∧ r.2.sem = fun _ => 0)

def quiescent_UpDx0RefIdeal_pre_up_finite [hUpDx0RefIdeal : Cert.UpDx0RefIdeal.Facts] [hPre_up_finite : Cert.Pre_up_finite.Facts] : Prop :=
  ∀ (m : (ℓ : Loc Cert.UpDx0RefIdeal.nD Cert.UpDx0RefIdeal.τ Cert.UpDx0RefIdeal.sig) → Buf (Elt Ideal) ℓ) (g : Dev Cert.UpDx0RefIdeal.nD → PrngReg), Pre_UpDx0RefIdeal_up_finite m →
    θ_run (Cert.UpDx0RefIdeal.defs (F := Ideal)) (onTc (τ := Cert.UpDx0RefIdeal.τ) (Cert.UpDx0RefIdeal.main (F := Ideal))) ⟨m, fun _ => 0, g⟩ (fun r => (∀ c : Dev Cert.UpDx0RefIdeal.nD,
      r.2.mem ((c.tc : Thread Cert.UpDx0RefIdeal.nD Cert.UpDx0RefIdeal.τ).loc Cert.UpDx0RefIdeal.main_arg0) = m ((c.tc : Thread Cert.UpDx0RefIdeal.nD Cert.UpDx0RefIdeal.τ).loc Cert.UpDx0RefIdeal.main_arg0)
      ∧ r.2.mem ((c.tc : Thread Cert.UpDx0RefIdeal.nD Cert.UpDx0RefIdeal.τ).loc Cert.UpDx0RefIdeal.main_arg1) = m ((c.tc : Thread Cert.UpDx0RefIdeal.nD Cert.UpDx0RefIdeal.τ).loc Cert.UpDx0RefIdeal.main_arg1)
      ∧ r.2.mem ((c.tc : Thread Cert.UpDx0RefIdeal.nD Cert.UpDx0RefIdeal.τ).loc Cert.UpDx0RefIdeal.main_arg2) = m ((c.tc : Thread Cert.UpDx0RefIdeal.nD Cert.UpDx0RefIdeal.τ).loc Cert.UpDx0RefIdeal.main_arg2)
      ∧ r.2.mem ((c.tc : Thread Cert.UpDx0RefIdeal.nD Cert.UpDx0RefIdeal.τ).loc Cert.UpDx0RefIdeal.main_arg3) = m ((c.tc : Thread Cert.UpDx0RefIdeal.nD Cert.UpDx0RefIdeal.τ).loc Cert.UpDx0RefIdeal.main_arg3)
      ∧ r.2.mem ((c.tc : Thread Cert.UpDx0RefIdeal.nD Cert.UpDx0RefIdeal.τ).loc Cert.UpDx0RefIdeal.main_arg4) = m ((c.tc : Thread Cert.UpDx0RefIdeal.nD Cert.UpDx0RefIdeal.τ).loc Cert.UpDx0RefIdeal.main_arg4))
      ∧ r.2.sem = fun _ => 0)

def quiescent_Up1 [hUp1 : Cert.Up1.Facts] : Prop :=
  ∀ (m : (ℓ : Loc Cert.Up1.nD Cert.Up1.τ Cert.Up1.sig) → Buf (Elt Bits) ℓ) (g : Dev Cert.Up1.nD → PrngReg), Pre_Up1 m →
    θ_run (Cert.Up1.defs (F := Bits)) (onTc (τ := Cert.Up1.τ) (Cert.Up1.main (F := Bits))) ⟨m, fun _ => 0, g⟩ (fun r => (∀ c : Dev Cert.Up1.nD,
      r.2.mem ((c.tc : Thread Cert.Up1.nD Cert.Up1.τ).loc Cert.Up1.main_arg0) = m ((c.tc : Thread Cert.Up1.nD Cert.Up1.τ).loc Cert.Up1.main_arg0)
      ∧ r.2.mem ((c.tc : Thread Cert.Up1.nD Cert.Up1.τ).loc Cert.Up1.main_arg1) = m ((c.tc : Thread Cert.Up1.nD Cert.Up1.τ).loc Cert.Up1.main_arg1)
      ∧ r.2.mem ((c.tc : Thread Cert.Up1.nD Cert.Up1.τ).loc Cert.Up1.main_arg2) = m ((c.tc : Thread Cert.Up1.nD Cert.Up1.τ).loc Cert.Up1.main_arg2))
      ∧ r.2.sem = fun _ => 0)

def quiescent_Up1Ideal [hUp1Ideal : Cert.Up1Ideal.Facts] : Prop :=
  ∀ (m : (ℓ : Loc Cert.Up1Ideal.nD Cert.Up1Ideal.τ Cert.Up1Ideal.sig) → Buf (Elt Ideal) ℓ) (g : Dev Cert.Up1Ideal.nD → PrngReg), Pre_Up1Ideal m →
    θ_run (Cert.Up1Ideal.defs (F := Ideal)) (onTc (τ := Cert.Up1Ideal.τ) (Cert.Up1Ideal.main (F := Ideal))) ⟨m, fun _ => 0, g⟩ (fun r => (∀ c : Dev Cert.Up1Ideal.nD,
      r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
      ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1)
      ∧ r.2.mem ((c.tc : Thread Cert.Up1Ideal.nD Cert.Up1Ideal.τ).loc Cert.Up1Ideal.main_arg2) = m ((c.tc : Thread Cert.Up1Ideal.nD Cert.Up1Ideal.τ).loc Cert.Up1Ideal.main_arg2))
      ∧ r.2.sem = fun _ => 0)

def quiescent_Up1RefIdeal [hUp1RefIdeal : Cert.Up1RefIdeal.Facts] : Prop :=
  ∀ (m : (ℓ : Loc Cert.Up1RefIdeal.nD Cert.Up1RefIdeal.τ Cert.Up1RefIdeal.sig) → Buf (Elt Ideal) ℓ) (g : Dev Cert.Up1RefIdeal.nD → PrngReg), Pre_Up1RefIdeal m →
    θ_run (Cert.Up1RefIdeal.defs (F := Ideal)) (onTc (τ := Cert.Up1RefIdeal.τ) (Cert.Up1RefIdeal.main (F := Ideal))) ⟨m, fun _ => 0, g⟩ (fun r => (∀ c : Dev Cert.Up1RefIdeal.nD,
      r.2.mem ((c.tc : Thread Cert.Up1RefIdeal.nD Cert.Up1RefIdeal.τ).loc Cert.Up1RefIdeal.main_arg0) = m ((c.tc : Thread Cert.Up1RefIdeal.nD Cert.Up1RefIdeal.τ).loc Cert.Up1RefIdeal.main_arg0)
      ∧ r.2.mem ((c.tc : Thread Cert.Up1RefIdeal.nD Cert.Up1RefIdeal.τ).loc Cert.Up1RefIdeal.main_arg1) = m ((c.tc : Thread Cert.Up1RefIdeal.nD Cert.Up1RefIdeal.τ).loc Cert.Up1RefIdeal.main_arg1)
      ∧ r.2.mem ((c.tc : Thread Cert.Up1RefIdeal.nD Cert.Up1RefIdeal.τ).loc Cert.Up1RefIdeal.main_arg2) = m ((c.tc : Thread Cert.Up1RefIdeal.nD Cert.Up1RefIdeal.τ).loc Cert.Up1RefIdeal.main_arg2))
      ∧ r.2.sem = fun _ => 0)

def quiescent_Up0 [hUp0 : Cert.Up0.Facts] : Prop :=
  ∀ (m : (ℓ : Loc Cert.Up0.nD Cert.Up0.τ Cert.Up0.sig) → Buf (Elt Bits) ℓ) (g : Dev Cert.Up0.nD → PrngReg), Pre_Up0 m →
    θ_run (Cert.Up0.defs (F := Bits)) (onTc (τ := Cert.Up0.τ) (Cert.Up0.main (F := Bits))) ⟨m, fun _ => 0, g⟩ (fun r => (∀ c : Dev Cert.Up0.nD,
      r.2.mem ((c.tc : Thread Cert.Up0.nD Cert.Up0.τ).loc Cert.Up0.main_arg0) = m ((c.tc : Thread Cert.Up0.nD Cert.Up0.τ).loc Cert.Up0.main_arg0)
      ∧ r.2.mem ((c.tc : Thread Cert.Up0.nD Cert.Up0.τ).loc Cert.Up0.main_arg1) = m ((c.tc : Thread Cert.Up0.nD Cert.Up0.τ).loc Cert.Up0.main_arg1)
      ∧ r.2.mem ((c.tc : Thread Cert.Up0.nD Cert.Up0.τ).loc Cert.Up0.main_arg2) = m ((c.tc : Thread Cert.Up0.nD Cert.Up0.τ).loc Cert.Up0.main_arg2))
      ∧ r.2.sem = fun _ => 0)

def quiescent_Up0Ideal [hUp0Ideal : Cert.Up0Ideal.Facts] : Prop :=
  ∀ (m : (ℓ : Loc Cert.Up0Ideal.nD Cert.Up0Ideal.τ Cert.Up0Ideal.sig) → Buf (Elt Ideal) ℓ) (g : Dev Cert.Up0Ideal.nD → PrngReg), Pre_Up0Ideal m →
    θ_run (Cert.Up0Ideal.defs (F := Ideal)) (onTc (τ := Cert.Up0Ideal.τ) (Cert.Up0Ideal.main (F := Ideal))) ⟨m, fun _ => 0, g⟩ (fun r => (∀ c : Dev Cert.Up0Ideal.nD,
      r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
      ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
      ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2))
      ∧ r.2.sem = fun _ => 0)

def quiescent_Up0RefIdeal [hUp0RefIdeal : Cert.Up0RefIdeal.Facts] : Prop :=
  ∀ (m : (ℓ : Loc Cert.Up0RefIdeal.nD Cert.Up0RefIdeal.τ Cert.Up0RefIdeal.sig) → Buf (Elt Ideal) ℓ) (g : Dev Cert.Up0RefIdeal.nD → PrngReg), Pre_Up0RefIdeal m →
    θ_run (Cert.Up0RefIdeal.defs (F := Ideal)) (onTc (τ := Cert.Up0RefIdeal.τ) (Cert.Up0RefIdeal.main (F := Ideal))) ⟨m, fun _ => 0, g⟩ (fun r => (∀ c : Dev Cert.Up0RefIdeal.nD,
      r.2.mem ((c.tc : Thread Cert.Up0RefIdeal.nD Cert.Up0RefIdeal.τ).loc Cert.Up0RefIdeal.main_arg0) = m ((c.tc : Thread Cert.Up0RefIdeal.nD Cert.Up0RefIdeal.τ).loc Cert.Up0RefIdeal.main_arg0)
      ∧ r.2.mem ((c.tc : Thread Cert.Up0RefIdeal.nD Cert.Up0RefIdeal.τ).loc Cert.Up0RefIdeal.main_arg1) = m ((c.tc : Thread Cert.Up0RefIdeal.nD Cert.Up0RefIdeal.τ).loc Cert.Up0RefIdeal.main_arg1)
      ∧ r.2.mem ((c.tc : Thread Cert.Up0RefIdeal.nD Cert.Up0RefIdeal.τ).loc Cert.Up0RefIdeal.main_arg2) = m ((c.tc : Thread Cert.Up0RefIdeal.nD Cert.Up0RefIdeal.τ).loc Cert.Up0RefIdeal.main_arg2))
      ∧ r.2.sem = fun _ => 0)

def quiescent_Down0 [hDown0 : Cert.Down0.Facts] : Prop :=
  ∀ (m : (ℓ : Loc Cert.Down0.nD Cert.Down0.τ Cert.Down0.sig) → Buf (Elt Bits) ℓ) (g : Dev Cert.Down0.nD → PrngReg), Pre_Down0 m →
    θ_run (Cert.Down0.defs (F := Bits)) (onTc (τ := Cert.Down0.τ) (Cert.Down0.main (F := Bits))) ⟨m, fun _ => 0, g⟩ (fun r => (∀ c : Dev Cert.Down0.nD,
      r.2.mem ((c.tc : Thread Cert.Down0.nD Cert.Down0.τ).loc Cert.Down0.main_arg0) = m ((c.tc : Thread Cert.Down0.nD Cert.Down0.τ).loc Cert.Down0.main_arg0)
      ∧ r.2.mem ((c.tc : Thread Cert.Down0.nD Cert.Down0.τ).loc Cert.Down0.main_arg1) = m ((c.tc : Thread Cert.Down0.nD Cert.Down0.τ).loc Cert.Down0.main_arg1)
      ∧ r.2.mem ((c.tc : Thread Cert.Down0.nD Cert.Down0.τ).loc Cert.Down0.main_arg2) = m ((c.tc : Thread Cert.Down0.nD Cert.Down0.τ).loc Cert.Down0.main_arg2))
      ∧ r.2.sem = fun _ => 0)

def quiescent_Down0Ideal [hDown0Ideal : Cert.Down0Ideal.Facts] : Prop :=
  ∀ (m : (ℓ : Loc Cert.Down0Ideal.nD Cert.Down0Ideal.τ Cert.Down0Ideal.sig) → Buf (Elt Ideal) ℓ) (g : Dev Cert.Down0Ideal.nD → PrngReg), Pre_Down0Ideal m →
    θ_run (Cert.Down0Ideal.defs (F := Ideal)) (onTc (τ := Cert.Down0Ideal.τ) (Cert.Down0Ideal.main (F := Ideal))) ⟨m, fun _ => 0, g⟩ (fun r => (∀ c : Dev Cert.Down0Ideal.nD,
      r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
      ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
      ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ r.2.sem = fun _ => 0)

def quiescent_Down0RefIdeal [hDown0RefIdeal : Cert.Down0RefIdeal.Facts] : Prop :=
  ∀ (m : (ℓ : Loc Cert.Down0RefIdeal.nD Cert.Down0RefIdeal.τ Cert.Down0RefIdeal.sig) → Buf (Elt Ideal) ℓ) (g : Dev Cert.Down0RefIdeal.nD → PrngReg), Pre_Down0RefIdeal m →
    θ_run (Cert.Down0RefIdeal.defs (F := Ideal)) (onTc (τ := Cert.Down0RefIdeal.τ) (Cert.Down0RefIdeal.main (F := Ideal))) ⟨m, fun _ => 0, g⟩ (fun r => (∀ c : Dev Cert.Down0RefIdeal.nD,
      r.2.mem ((c.tc : Thread Cert.Down0RefIdeal.nD Cert.Down0RefIdeal.τ).loc Cert.Down0RefIdeal.main_arg0) = m ((c.tc : Thread Cert.Down0RefIdeal.nD Cert.Down0RefIdeal.τ).loc Cert.Down0RefIdeal.main_arg0)
      ∧ r.2.mem ((c.tc : Thread Cert.Down0RefIdeal.nD Cert.Down0RefIdeal.τ).loc Cert.Down0RefIdeal.main_arg1) = m ((c.tc : Thread Cert.Down0RefIdeal.nD Cert.Down0RefIdeal.τ).loc Cert.Down0RefIdeal.main_arg1)
      ∧ r.2.mem ((c.tc : Thread Cert.Down0RefIdeal.nD Cert.Down0RefIdeal.τ).loc Cert.Down0RefIdeal.main_arg2) = m ((c.tc : Thread Cert.Down0RefIdeal.nD Cert.Down0RefIdeal.τ).loc Cert.Down0RefIdeal.main_arg2))
      ∧ r.2.sem = fun _ => 0)

def quiescent_Down1 [hDown1 : Cert.Down1.Facts] : Prop :=
  ∀ (m : (ℓ : Loc Cert.Down1.nD Cert.Down1.τ Cert.Down1.sig) → Buf (Elt Bits) ℓ) (g : Dev Cert.Down1.nD → PrngReg), Pre_Down1 m →
    θ_run (Cert.Down1.defs (F := Bits)) (onTc (τ := Cert.Down1.τ) (Cert.Down1.main (F := Bits))) ⟨m, fun _ => 0, g⟩ (fun r => (∀ c : Dev Cert.Down1.nD,
      r.2.mem ((c.tc : Thread Cert.Down1.nD Cert.Down1.τ).loc Cert.Down1.main_arg0) = m ((c.tc : Thread Cert.Down1.nD Cert.Down1.τ).loc Cert.Down1.main_arg0)
      ∧ r.2.mem ((c.tc : Thread Cert.Down1.nD Cert.Down1.τ).loc Cert.Down1.main_arg1) = m ((c.tc : Thread Cert.Down1.nD Cert.Down1.τ).loc Cert.Down1.main_arg1)
      ∧ r.2.mem ((c.tc : Thread Cert.Down1.nD Cert.Down1.τ).loc Cert.Down1.main_arg2) = m ((c.tc : Thread Cert.Down1.nD Cert.Down1.τ).loc Cert.Down1.main_arg2)
      ∧ r.2.mem ((c.tc : Thread Cert.Down1.nD Cert.Down1.τ).loc Cert.Down1.main_arg3) = m ((c.tc : Thread Cert.Down1.nD Cert.Down1.τ).loc Cert.Down1.main_arg3))
      ∧ r.2.sem = fun _ => 0)

def quiescent_Down1Ideal [hDown1Ideal : Cert.Down1Ideal.Facts] : Prop :=
  ∀ (m : (ℓ : Loc Cert.Down1Ideal.nD Cert.Down1Ideal.τ Cert.Down1Ideal.sig) → Buf (Elt Ideal) ℓ) (g : Dev Cert.Down1Ideal.nD → PrngReg), Pre_Down1Ideal m →
    θ_run (Cert.Down1Ideal.defs (F := Ideal)) (onTc (τ := Cert.Down1Ideal.τ) (Cert.Down1Ideal.main (F := Ideal))) ⟨m, fun _ => 0, g⟩ (fun r => (∀ c : Dev Cert.Down1Ideal.nD,
      r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
      ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
      ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
      ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3))
      ∧ r.2.sem = fun _ => 0)

def quiescent_Down1RefIdeal [hDown1RefIdeal : Cert.Down1RefIdeal.Facts] : Prop :=
  ∀ (m : (ℓ : Loc Cert.Down1RefIdeal.nD Cert.Down1RefIdeal.τ Cert.Down1RefIdeal.sig) → Buf (Elt Ideal) ℓ) (g : Dev Cert.Down1RefIdeal.nD → PrngReg), Pre_Down1RefIdeal m →
    θ_run (Cert.Down1RefIdeal.defs (F := Ideal)) (onTc (τ := Cert.Down1RefIdeal.τ) (Cert.Down1RefIdeal.main (F := Ideal))) ⟨m, fun _ => 0, g⟩ (fun r => (∀ c : Dev Cert.Down1RefIdeal.nD,
      r.2.mem ((c.tc : Thread Cert.Down1RefIdeal.nD Cert.Down1RefIdeal.τ).loc Cert.Down1RefIdeal.main_arg0) = m ((c.tc : Thread Cert.Down1RefIdeal.nD Cert.Down1RefIdeal.τ).loc Cert.Down1RefIdeal.main_arg0)
      ∧ r.2.mem ((c.tc : Thread Cert.Down1RefIdeal.nD Cert.Down1RefIdeal.τ).loc Cert.Down1RefIdeal.main_arg1) = m ((c.tc : Thread Cert.Down1RefIdeal.nD Cert.Down1RefIdeal.τ).loc Cert.Down1RefIdeal.main_arg1)
      ∧ r.2.mem ((c.tc : Thread Cert.Down1RefIdeal.nD Cert.Down1RefIdeal.τ).loc Cert.Down1RefIdeal.main_arg2) = m ((c.tc : Thread Cert.Down1RefIdeal.nD Cert.Down1RefIdeal.τ).loc Cert.Down1RefIdeal.main_arg2)
      ∧ r.2.mem ((c.tc : Thread Cert.Down1RefIdeal.nD Cert.Down1RefIdeal.τ).loc Cert.Down1RefIdeal.main_arg3) = m ((c.tc : Thread Cert.Down1RefIdeal.nD Cert.Down1RefIdeal.τ).loc Cert.Down1RefIdeal.main_arg3))
      ∧ r.2.sem = fun _ => 0)

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxIdeal_pre_in_finite [hInDxIdeal : Cert.InDxIdeal.Facts] [hPre_in_finite : Cert.Pre_in_finite.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal_in_finite m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_InDxRefIdeal_pre_in_finite [hInDxRefIdeal : Cert.InDxRefIdeal.Facts] [hPre_in_finite : Cert.Pre_in_finite.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal_in_finite m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_OddDw [hOddDw : Cert.OddDw.Facts] : Prop :=
  ∀ (m : (ℓ : Loc Cert.OddDw.nD Cert.OddDw.τ Cert.OddDw.sig) → Buf (Elt Bits) ℓ) (g : Dev Cert.OddDw.nD → PrngReg), Pre_OddDw m →
    θ_run (Cert.OddDw.defs (F := Bits)) (onTc (τ := Cert.OddDw.τ) (Cert.OddDw.main (F := Bits))) ⟨m, fun _ => 0, g⟩ (fun r => (∀ c : Dev Cert.OddDw.nD,
      r.2.mem ((c.tc : Thread Cert.OddDw.nD Cert.OddDw.τ).loc Cert.OddDw.main_arg0) = m ((c.tc : Thread Cert.OddDw.nD Cert.OddDw.τ).loc Cert.OddDw.main_arg0)
      ∧ r.2.mem ((c.tc : Thread Cert.OddDw.nD Cert.OddDw.τ).loc Cert.OddDw.main_arg1) = m ((c.tc : Thread Cert.OddDw.nD Cert.OddDw.τ).loc Cert.OddDw.main_arg1))
      ∧ r.2.sem = fun _ => 0)

def quiescent_OddDwIdeal [hOddDwIdeal : Cert.OddDwIdeal.Facts] : Prop :=
  ∀ (m : (ℓ : Loc Cert.OddDwIdeal.nD Cert.OddDwIdeal.τ Cert.OddDwIdeal.sig) → Buf (Elt Ideal) ℓ) (g : Dev Cert.OddDwIdeal.nD → PrngReg), Pre_OddDwIdeal m →
    θ_run (Cert.OddDwIdeal.defs (F := Ideal)) (onTc (τ := Cert.OddDwIdeal.τ) (Cert.OddDwIdeal.main (F := Ideal))) ⟨m, fun _ => 0, g⟩ (fun r => (∀ c : Dev Cert.OddDwIdeal.nD,
      r.2.mem ((c.tc : Thread Cert.OddDwIdeal.nD Cert.OddDwIdeal.τ).loc Cert.OddDwIdeal.main_arg0) = m ((c.tc : Thread Cert.OddDwIdeal.nD Cert.OddDwIdeal.τ).loc Cert.OddDwIdeal.main_arg0)
      ∧ r.2.mem ((c.tc : Thread Cert.OddDwIdeal.nD Cert.OddDwIdeal.τ).loc Cert.OddDwIdeal.main_arg1) = m ((c.tc : Thread Cert.OddDwIdeal.nD Cert.OddDwIdeal.τ).loc Cert.OddDwIdeal.main_arg1))
      ∧ r.2.sem = fun _ => 0)

def quiescent_OddDwRefIdeal [hOddDwRefIdeal : Cert.OddDwRefIdeal.Facts] : Prop :=
  ∀ (m : (ℓ : Loc Cert.OddDwRefIdeal.nD Cert.OddDwRefIdeal.τ Cert.OddDwRefIdeal.sig) → Buf (Elt Ideal) ℓ) (g : Dev Cert.OddDwRefIdeal.nD → PrngReg), Pre_OddDwRefIdeal m →
    θ_run (Cert.OddDwRefIdeal.defs (F := Ideal)) (onTc (τ := Cert.OddDwRefIdeal.τ) (Cert.OddDwRefIdeal.main (F := Ideal))) ⟨m, fun _ => 0, g⟩ (fun r => (∀ c : Dev Cert.OddDwRefIdeal.nD,
      r.2.mem ((c.tc : Thread Cert.OddDwRefIdeal.nD Cert.OddDwRefIdeal.τ).loc Cert.OddDwRefIdeal.main_arg0) = m ((c.tc : Thread Cert.OddDwRefIdeal.nD Cert.OddDwRefIdeal.τ).loc Cert.OddDwRefIdeal.main_arg0)
      ∧ r.2.mem ((c.tc : Thread Cert.OddDwRefIdeal.nD Cert.OddDwRefIdeal.τ).loc Cert.OddDwRefIdeal.main_arg1) = m ((c.tc : Thread Cert.OddDwRefIdeal.nD Cert.OddDwRefIdeal.τ).loc Cert.OddDwRefIdeal.main_arg1))
      ∧ r.2.sem = fun _ => 0)

def quiescent_OddDx [hOddDx : Cert.OddDx.Facts] : Prop :=
  ∀ (m : (ℓ : Loc Cert.OddDx.nD Cert.OddDx.τ Cert.OddDx.sig) → Buf (Elt Bits) ℓ) (g : Dev Cert.OddDx.nD → PrngReg), Pre_OddDx m →
    θ_run (Cert.OddDx.defs (F := Bits)) (onTc (τ := Cert.OddDx.τ) (Cert.OddDx.main (F := Bits))) ⟨m, fun _ => 0, g⟩ (fun r => (∀ c : Dev Cert.OddDx.nD,
      r.2.mem ((c.tc : Thread Cert.OddDx.nD Cert.OddDx.τ).loc Cert.OddDx.main_arg0) = m ((c.tc : Thread Cert.OddDx.nD Cert.OddDx.τ).loc Cert.OddDx.main_arg0)
      ∧ r.2.mem ((c.tc : Thread Cert.OddDx.nD Cert.OddDx.τ).loc Cert.OddDx.main_arg1) = m ((c.tc : Thread Cert.OddDx.nD Cert.OddDx.τ).loc Cert.OddDx.main_arg1)
      ∧ r.2.mem ((c.tc : Thread Cert.OddDx.nD Cert.OddDx.τ).loc Cert.OddDx.main_arg2) = m ((c.tc : Thread Cert.OddDx.nD Cert.OddDx.τ).loc Cert.OddDx.main_arg2)
      ∧ r.2.mem ((c.tc : Thread Cert.OddDx.nD Cert.OddDx.τ).loc Cert.OddDx.main_arg3) = m ((c.tc : Thread Cert.OddDx.nD Cert.OddDx.τ).loc Cert.OddDx.main_arg3)
      ∧ r.2.mem ((c.tc : Thread Cert.OddDx.nD Cert.OddDx.τ).loc Cert.OddDx.main_arg4) = m ((c.tc : Thread Cert.OddDx.nD Cert.OddDx.τ).loc Cert.OddDx.main_arg4))
      ∧ r.2.sem = fun _ => 0)

def quiescent_OddDxIdeal [hOddDxIdeal : Cert.OddDxIdeal.Facts] : Prop :=
  ∀ (m : (ℓ : Loc Cert.OddDxIdeal.nD Cert.OddDxIdeal.τ Cert.OddDxIdeal.sig) → Buf (Elt Ideal) ℓ) (g : Dev Cert.OddDxIdeal.nD → PrngReg), Pre_OddDxIdeal m →
    θ_run (Cert.OddDxIdeal.defs (F := Ideal)) (onTc (τ := Cert.OddDxIdeal.τ) (Cert.OddDxIdeal.main (F := Ideal))) ⟨m, fun _ => 0, g⟩ (fun r => (∀ c : Dev Cert.OddDxIdeal.nD,
      r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
      ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
      ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2)
      ∧ r.2.mem ((c.tc : Thread Cert.OddDxIdeal.nD Cert.OddDxIdeal.τ).loc Cert.OddDxIdeal.main_arg3) = m ((c.tc : Thread Cert.OddDxIdeal.nD Cert.OddDxIdeal.τ).loc Cert.OddDxIdeal.main_arg3)
      ∧ r.2.mem ((c.tc : Thread Cert.OddDxIdeal.nD Cert.OddDxIdeal.τ).loc Cert.OddDxIdeal.main_arg4) = m ((c.tc : Thread Cert.OddDxIdeal.nD Cert.OddDxIdeal.τ).loc Cert.OddDxIdeal.main_arg4))
      ∧ r.2.sem = fun _ => 0)

def quiescent_OddDxIdeal_pre_odd_finite [hOddDxIdeal : Cert.OddDxIdeal.Facts] [hPre_odd_finite : Cert.Pre_odd_finite.Facts] : Prop :=
  ∀ (m : (ℓ : Loc Cert.OddDxIdeal.nD Cert.OddDxIdeal.τ Cert.OddDxIdeal.sig) → Buf (Elt Ideal) ℓ) (g : Dev Cert.OddDxIdeal.nD → PrngReg), Pre_OddDxIdeal_odd_finite m →
    θ_run (Cert.OddDxIdeal.defs (F := Ideal)) (onTc (τ := Cert.OddDxIdeal.τ) (Cert.OddDxIdeal.main (F := Ideal))) ⟨m, fun _ => 0, g⟩ (fun r => (∀ c : Dev Cert.OddDxIdeal.nD,
      r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
      ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
      ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2)
      ∧ r.2.mem ((c.tc : Thread Cert.OddDxIdeal.nD Cert.OddDxIdeal.τ).loc Cert.OddDxIdeal.main_arg3) = m ((c.tc : Thread Cert.OddDxIdeal.nD Cert.OddDxIdeal.τ).loc Cert.OddDxIdeal.main_arg3)
      ∧ r.2.mem ((c.tc : Thread Cert.OddDxIdeal.nD Cert.OddDxIdeal.τ).loc Cert.OddDxIdeal.main_arg4) = m ((c.tc : Thread Cert.OddDxIdeal.nD Cert.OddDxIdeal.τ).loc Cert.OddDxIdeal.main_arg4))
      ∧ r.2.sem = fun _ => 0)

def quiescent_OddDxRefIdeal [hOddDxRefIdeal : Cert.OddDxRefIdeal.Facts] : Prop :=
  ∀ (m : (ℓ : Loc Cert.OddDxRefIdeal.nD Cert.OddDxRefIdeal.τ Cert.OddDxRefIdeal.sig) → Buf (Elt Ideal) ℓ) (g : Dev Cert.OddDxRefIdeal.nD → PrngReg), Pre_OddDxRefIdeal m →
    θ_run (Cert.OddDxRefIdeal.defs (F := Ideal)) (onTc (τ := Cert.OddDxRefIdeal.τ) (Cert.OddDxRefIdeal.main (F := Ideal))) ⟨m, fun _ => 0, g⟩ (fun r => (∀ c : Dev Cert.OddDxRefIdeal.nD,
      r.2.mem ((c.tc : Thread Cert.OddDxRefIdeal.nD Cert.OddDxRefIdeal.τ).loc Cert.OddDxRefIdeal.main_arg0) = m ((c.tc : Thread Cert.OddDxRefIdeal.nD Cert.OddDxRefIdeal.τ).loc Cert.OddDxRefIdeal.main_arg0)
      ∧ r.2.mem ((c.tc : Thread Cert.OddDxRefIdeal.nD Cert.OddDxRefIdeal.τ).loc Cert.OddDxRefIdeal.main_arg1) = m ((c.tc : Thread Cert.OddDxRefIdeal.nD Cert.OddDxRefIdeal.τ).loc Cert.OddDxRefIdeal.main_arg1)
      ∧ r.2.mem ((c.tc : Thread Cert.OddDxRefIdeal.nD Cert.OddDxRefIdeal.τ).loc Cert.OddDxRefIdeal.main_arg2) = m ((c.tc : Thread Cert.OddDxRefIdeal.nD Cert.OddDxRefIdeal.τ).loc Cert.OddDxRefIdeal.main_arg2)
      ∧ r.2.mem ((c.tc : Thread Cert.OddDxRefIdeal.nD Cert.OddDxRefIdeal.τ).loc Cert.OddDxRefIdeal.main_arg3) = m ((c.tc : Thread Cert.OddDxRefIdeal.nD Cert.OddDxRefIdeal.τ).loc Cert.OddDxRefIdeal.main_arg3)
      ∧ r.2.mem ((c.tc : Thread Cert.OddDxRefIdeal.nD Cert.OddDxRefIdeal.τ).loc Cert.OddDxRefIdeal.main_arg4) = m ((c.tc : Thread Cert.OddDxRefIdeal.nD Cert.OddDxRefIdeal.τ).loc Cert.OddDxRefIdeal.main_arg4))
      ∧ r.2.sem = fun _ => 0)

def quiescent_OddDxRefIdeal_pre_odd_finite [hOddDxRefIdeal : Cert.OddDxRefIdeal.Facts] [hPre_odd_finite : Cert.Pre_odd_finite.Facts] : Prop :=
  ∀ (m : (ℓ : Loc Cert.OddDxRefIdeal.nD Cert.OddDxRefIdeal.τ Cert.OddDxRefIdeal.sig) → Buf (Elt Ideal) ℓ) (g : Dev Cert.OddDxRefIdeal.nD → PrngReg), Pre_OddDxRefIdeal_odd_finite m →
    θ_run (Cert.OddDxRefIdeal.defs (F := Ideal)) (onTc (τ := Cert.OddDxRefIdeal.τ) (Cert.OddDxRefIdeal.main (F := Ideal))) ⟨m, fun _ => 0, g⟩ (fun r => (∀ c : Dev Cert.OddDxRefIdeal.nD,
      r.2.mem ((c.tc : Thread Cert.OddDxRefIdeal.nD Cert.OddDxRefIdeal.τ).loc Cert.OddDxRefIdeal.main_arg0) = m ((c.tc : Thread Cert.OddDxRefIdeal.nD Cert.OddDxRefIdeal.τ).loc Cert.OddDxRefIdeal.main_arg0)
      ∧ r.2.mem ((c.tc : Thread Cert.OddDxRefIdeal.nD Cert.OddDxRefIdeal.τ).loc Cert.OddDxRefIdeal.main_arg1) = m ((c.tc : Thread Cert.OddDxRefIdeal.nD Cert.OddDxRefIdeal.τ).loc Cert.OddDxRefIdeal.main_arg1)
      ∧ r.2.mem ((c.tc : Thread Cert.OddDxRefIdeal.nD Cert.OddDxRefIdeal.τ).loc Cert.OddDxRefIdeal.main_arg2) = m ((c.tc : Thread Cert.OddDxRefIdeal.nD Cert.OddDxRefIdeal.τ).loc Cert.OddDxRefIdeal.main_arg2)
      ∧ r.2.mem ((c.tc : Thread Cert.OddDxRefIdeal.nD Cert.OddDxRefIdeal.τ).loc Cert.OddDxRefIdeal.main_arg3) = m ((c.tc : Thread Cert.OddDxRefIdeal.nD Cert.OddDxRefIdeal.τ).loc Cert.OddDxRefIdeal.main_arg3)
      ∧ r.2.mem ((c.tc : Thread Cert.OddDxRefIdeal.nD Cert.OddDxRefIdeal.τ).loc Cert.OddDxRefIdeal.main_arg4) = m ((c.tc : Thread Cert.OddDxRefIdeal.nD Cert.OddDxRefIdeal.τ).loc Cert.OddDxRefIdeal.main_arg4))
      ∧ r.2.sem = fun _ => 0)

def quiescent_OddOutDx [hOddOutDx : Cert.OddOutDx.Facts] : Prop :=
  ∀ (m : (ℓ : Loc Cert.OddOutDx.nD Cert.OddOutDx.τ Cert.OddOutDx.sig) → Buf (Elt Bits) ℓ) (g : Dev Cert.OddOutDx.nD → PrngReg), Pre_OddOutDx m →
    θ_run (Cert.OddOutDx.defs (F := Bits)) (onTc (τ := Cert.OddOutDx.τ) (Cert.OddOutDx.main (F := Bits))) ⟨m, fun _ => 0, g⟩ (fun r => (∀ c : Dev Cert.OddOutDx.nD,
      r.2.mem ((c.tc : Thread Cert.OddOutDx.nD Cert.OddOutDx.τ).loc Cert.OddOutDx.main_arg0) = m ((c.tc : Thread Cert.OddOutDx.nD Cert.OddOutDx.τ).loc Cert.OddOutDx.main_arg0)
      ∧ r.2.mem ((c.tc : Thread Cert.OddOutDx.nD Cert.OddOutDx.τ).loc Cert.OddOutDx.main_arg1) = m ((c.tc : Thread Cert.OddOutDx.nD Cert.OddOutDx.τ).loc Cert.OddOutDx.main_arg1))
      ∧ r.2.sem = fun _ => 0)

def quiescent_OddOutDxIdeal [hOddOutDxIdeal : Cert.OddOutDxIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg), Pre_OddOutDxIdeal m →
    θ_run (Cert.OddOutDxIdeal.defs (F := Ideal)) (onTc (τ := Cert.OddOutDxIdeal.τ) (Cert.OddOutDxIdeal.main (F := Ideal))) ⟨m, fun _ => 0, g⟩ (fun r => (∀ c : Dev Cert.OddOutDxIdeal.nD,
      r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
      ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1))
      ∧ r.2.sem = fun _ => 0)

def quiescent_OddOutDxRefIdeal [hOddOutDxRefIdeal : Cert.OddOutDxRefIdeal.Facts] : Prop :=
  ∀ (m : (ℓ : Loc Cert.OddOutDxRefIdeal.nD Cert.OddOutDxRefIdeal.τ Cert.OddOutDxRefIdeal.sig) → Buf (Elt Ideal) ℓ) (g : Dev Cert.OddOutDxRefIdeal.nD → PrngReg), Pre_OddOutDxRefIdeal m →
    θ_run (Cert.OddOutDxRefIdeal.defs (F := Ideal)) (onTc (τ := Cert.OddOutDxRefIdeal.τ) (Cert.OddOutDxRefIdeal.main (F := Ideal))) ⟨m, fun _ => 0, g⟩ (fun r => (∀ c : Dev Cert.OddOutDxRefIdeal.nD,
      r.2.mem ((c.tc : Thread Cert.OddOutDxRefIdeal.nD Cert.OddOutDxRefIdeal.τ).loc Cert.OddOutDxRefIdeal.main_arg0) = m ((c.tc : Thread Cert.OddOutDxRefIdeal.nD Cert.OddOutDxRefIdeal.τ).loc Cert.OddOutDxRefIdeal.main_arg0)
      ∧ r.2.mem ((c.tc : Thread Cert.OddOutDxRefIdeal.nD Cert.OddOutDxRefIdeal.τ).loc Cert.OddOutDxRefIdeal.main_arg1) = m ((c.tc : Thread Cert.OddOutDxRefIdeal.nD Cert.OddOutDxRefIdeal.τ).loc Cert.OddOutDxRefIdeal.main_arg1))
      ∧ r.2.sem = fun _ => 0)

def quiescent_OddFwd [hOddFwd : Cert.OddFwd.Facts] : Prop :=
  ∀ (m : (ℓ : Loc Cert.OddFwd.nD Cert.OddFwd.τ Cert.OddFwd.sig) → Buf (Elt Bits) ℓ) (g : Dev Cert.OddFwd.nD → PrngReg), Pre_OddFwd m →
    θ_run (Cert.OddFwd.defs (F := Bits)) (onTc (τ := Cert.OddFwd.τ) (Cert.OddFwd.main (F := Bits))) ⟨m, fun _ => 0, g⟩ (fun r => (∀ c : Dev Cert.OddFwd.nD,
      r.2.mem ((c.tc : Thread Cert.OddFwd.nD Cert.OddFwd.τ).loc Cert.OddFwd.main_arg0) = m ((c.tc : Thread Cert.OddFwd.nD Cert.OddFwd.τ).loc Cert.OddFwd.main_arg0)
      ∧ r.2.mem ((c.tc : Thread Cert.OddFwd.nD Cert.OddFwd.τ).loc Cert.OddFwd.main_arg1) = m ((c.tc : Thread Cert.OddFwd.nD Cert.OddFwd.τ).loc Cert.OddFwd.main_arg1)
      ∧ r.2.mem ((c.tc : Thread Cert.OddFwd.nD Cert.OddFwd.τ).loc Cert.OddFwd.main_arg2) = m ((c.tc : Thread Cert.OddFwd.nD Cert.OddFwd.τ).loc Cert.OddFwd.main_arg2))
      ∧ r.2.sem = fun _ => 0)

def quiescent_OddFwdIdeal [hOddFwdIdeal : Cert.OddFwdIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg), Pre_OddFwdIdeal m →
    θ_run (Cert.OddFwdIdeal.defs (F := Ideal)) (onTc (τ := Cert.OddFwdIdeal.τ) (Cert.OddFwdIdeal.main (F := Ideal))) ⟨m, fun _ => 0, g⟩ (fun r => (∀ c : Dev Cert.OddFwdIdeal.nD,
      r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
      ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
      ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2))
      ∧ r.2.sem = fun _ => 0)

def quiescent_OddFwdRefIdeal [hOddFwdRefIdeal : Cert.OddFwdRefIdeal.Facts] : Prop :=
  ∀ (m : (ℓ : Loc Cert.OddFwdRefIdeal.nD Cert.OddFwdRefIdeal.τ Cert.OddFwdRefIdeal.sig) → Buf (Elt Ideal) ℓ) (g : Dev Cert.OddFwdRefIdeal.nD → PrngReg), Pre_OddFwdRefIdeal m →
    θ_run (Cert.OddFwdRefIdeal.defs (F := Ideal)) (onTc (τ := Cert.OddFwdRefIdeal.τ) (Cert.OddFwdRefIdeal.main (F := Ideal))) ⟨m, fun _ => 0, g⟩ (fun r => (∀ c : Dev Cert.OddFwdRefIdeal.nD,
      r.2.mem ((c.tc : Thread Cert.OddFwdRefIdeal.nD Cert.OddFwdRefIdeal.τ).loc Cert.OddFwdRefIdeal.main_arg0) = m ((c.tc : Thread Cert.OddFwdRefIdeal.nD Cert.OddFwdRefIdeal.τ).loc Cert.OddFwdRefIdeal.main_arg0)
      ∧ r.2.mem ((c.tc : Thread Cert.OddFwdRefIdeal.nD Cert.OddFwdRefIdeal.τ).loc Cert.OddFwdRefIdeal.main_arg1) = m ((c.tc : Thread Cert.OddFwdRefIdeal.nD Cert.OddFwdRefIdeal.τ).loc Cert.OddFwdRefIdeal.main_arg1)
      ∧ r.2.mem ((c.tc : Thread Cert.OddFwdRefIdeal.nD Cert.OddFwdRefIdeal.τ).loc Cert.OddFwdRefIdeal.main_arg2) = m ((c.tc : Thread Cert.OddFwdRefIdeal.nD Cert.OddFwdRefIdeal.τ).loc Cert.OddFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v17) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v8) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v6) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_UpDx_UpDxIdeal : Prop :=
  True

def algebraic_UpDxIdeal_UpDxRefIdeal_pre_up_finite [hUpDxIdeal : Cert.UpDxIdeal.Facts] [hUpDxRefIdeal : Cert.UpDxRefIdeal.Facts] [hPre_up_finite : Cert.Pre_up_finite.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal_up_finite m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)) (v2 : (c : Dev Cert.UpDxIdeal.nD) → Buf (Elt Ideal) ((c.tc : Thread Cert.UpDxIdeal.nD Cert.UpDxIdeal.τ).loc Cert.UpDxIdeal.main_v1)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_v1) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v43) = v0 c
          ∧ r.2.mem ((c.tc : Thread Cert.UpDxRefIdeal.nD Cert.UpDxRefIdeal.τ).loc Cert.UpDxRefIdeal.main_v45) = v1 c
          ∧ r.2.mem ((c.tc : Thread Cert.UpDxRefIdeal.nD Cert.UpDxRefIdeal.τ).loc Cert.UpDxRefIdeal.main_v28) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_DownDx0_DownDx0Ideal : Prop :=
  True

def algebraic_DownDx0Ideal_DownDx0RefIdeal [hDownDx0Ideal : Cert.DownDx0Ideal.Facts] [hDownDx0RefIdeal : Cert.DownDx0RefIdeal.Facts] : Prop :=
  ∀ (m : (ℓ : Loc Cert.DownDx0Ideal.nD Cert.DownDx0Ideal.τ Cert.DownDx0Ideal.sig) → Buf (Elt Ideal) ℓ) (g : Dev Cert.DownDx0Ideal.nD → PrngReg)
    (m' : (ℓ : Loc Cert.DownDx0RefIdeal.nD Cert.DownDx0RefIdeal.τ Cert.DownDx0RefIdeal.sig) → Buf (Elt Ideal) ℓ) (g' : Dev Cert.DownDx0RefIdeal.nD → PrngReg), Pre_DownDx0Ideal m →
    (∀ c : Dev Cert.DownDx0Ideal.nD,
      m' ((c.tc : Thread Cert.DownDx0RefIdeal.nD Cert.DownDx0RefIdeal.τ).loc Cert.DownDx0RefIdeal.main_arg0) = m ((c.tc : Thread Cert.DownDx0Ideal.nD Cert.DownDx0Ideal.τ).loc Cert.DownDx0Ideal.main_arg0)
      ∧ m' ((c.tc : Thread Cert.DownDx0RefIdeal.nD Cert.DownDx0RefIdeal.τ).loc Cert.DownDx0RefIdeal.main_arg1) = m ((c.tc : Thread Cert.DownDx0Ideal.nD Cert.DownDx0Ideal.τ).loc Cert.DownDx0Ideal.main_arg1)
      ∧ m' ((c.tc : Thread Cert.DownDx0RefIdeal.nD Cert.DownDx0RefIdeal.τ).loc Cert.DownDx0RefIdeal.main_arg2) = m ((c.tc : Thread Cert.DownDx0Ideal.nD Cert.DownDx0Ideal.τ).loc Cert.DownDx0Ideal.main_arg2)) →
    ∃ (v0 : (c : Dev Cert.DownDx0Ideal.nD) → Buf (Elt Ideal) ((c.tc : Thread Cert.DownDx0Ideal.nD Cert.DownDx0Ideal.τ).loc Cert.DownDx0Ideal.main_v0)),
      θ_run (Cert.DownDx0Ideal.defs (F := Ideal)) (onTc (τ := Cert.DownDx0Ideal.τ) (Cert.DownDx0Ideal.main (F := Ideal))) ⟨m, fun _ => 0, g⟩ (fun r => ∀ c : Dev Cert.DownDx0Ideal.nD,
          r.2.mem ((c.tc : Thread Cert.DownDx0Ideal.nD Cert.DownDx0Ideal.τ).loc Cert.DownDx0Ideal.main_v0) = v0 c
          ∧ r.2.mem ((c.tc : Thread Cert.DownDx0Ideal.nD Cert.DownDx0Ideal.τ).loc Cert.DownDx0Ideal.main_arg0) = m ((c.tc : Thread Cert.DownDx0Ideal.nD Cert.DownDx0Ideal.τ).loc Cert.DownDx0Ideal.main_arg0)
          ∧ r.2.mem ((c.tc : Thread Cert.DownDx0Ideal.nD Cert.DownDx0Ideal.τ).loc Cert.DownDx0Ideal.main_arg1) = m ((c.tc : Thread Cert.DownDx0Ideal.nD Cert.DownDx0Ideal.τ).loc Cert.DownDx0Ideal.main_arg1)
          ∧ r.2.mem ((c.tc : Thread Cert.DownDx0Ideal.nD Cert.DownDx0Ideal.τ).loc Cert.DownDx0Ideal.main_arg2) = m ((c.tc : Thread Cert.DownDx0Ideal.nD Cert.DownDx0Ideal.τ).loc Cert.DownDx0Ideal.main_arg2))
      ∧ θ_run (Cert.DownDx0RefIdeal.defs (F := Ideal)) (onTc (τ := Cert.DownDx0RefIdeal.τ) (Cert.DownDx0RefIdeal.main (F := Ideal))) ⟨m', fun _ => 0, g'⟩ (fun r => ∀ c : Dev Cert.DownDx0RefIdeal.nD,
          r.2.mem ((c.tc : Thread Cert.DownDx0RefIdeal.nD Cert.DownDx0RefIdeal.τ).loc Cert.DownDx0RefIdeal.main_v17) = v0 c
          ∧ r.2.mem ((c.tc : Thread Cert.DownDx0RefIdeal.nD Cert.DownDx0RefIdeal.τ).loc Cert.DownDx0RefIdeal.main_arg0) = m' ((c.tc : Thread Cert.DownDx0RefIdeal.nD Cert.DownDx0RefIdeal.τ).loc Cert.DownDx0RefIdeal.main_arg0)
          ∧ r.2.mem ((c.tc : Thread Cert.DownDx0RefIdeal.nD Cert.DownDx0RefIdeal.τ).loc Cert.DownDx0RefIdeal.main_arg1) = m' ((c.tc : Thread Cert.DownDx0RefIdeal.nD Cert.DownDx0RefIdeal.τ).loc Cert.DownDx0RefIdeal.main_arg1)
          ∧ r.2.mem ((c.tc : Thread Cert.DownDx0RefIdeal.nD Cert.DownDx0RefIdeal.τ).loc Cert.DownDx0RefIdeal.main_arg2) = m' ((c.tc : Thread Cert.DownDx0RefIdeal.nD Cert.DownDx0RefIdeal.τ).loc Cert.DownDx0RefIdeal.main_arg2))

def preserves_UpDx0_UpDx0Ideal : Prop :=
  True

def algebraic_UpDx0Ideal_UpDx0RefIdeal_pre_up_finite [hUpDx0Ideal : Cert.UpDx0Ideal.Facts] [hUpDx0RefIdeal : Cert.UpDx0RefIdeal.Facts] [hPre_up_finite : Cert.Pre_up_finite.Facts] : Prop :=
  ∀ (m : (ℓ : Loc Cert.UpDx0Ideal.nD Cert.UpDx0Ideal.τ Cert.UpDx0Ideal.sig) → Buf (Elt Ideal) ℓ) (g : Dev Cert.UpDx0Ideal.nD → PrngReg)
    (m' : (ℓ : Loc Cert.UpDx0RefIdeal.nD Cert.UpDx0RefIdeal.τ Cert.UpDx0RefIdeal.sig) → Buf (Elt Ideal) ℓ) (g' : Dev Cert.UpDx0RefIdeal.nD → PrngReg), Pre_UpDx0Ideal_up_finite m →
    (∀ c : Dev Cert.UpDx0Ideal.nD,
      m' ((c.tc : Thread Cert.UpDx0RefIdeal.nD Cert.UpDx0RefIdeal.τ).loc Cert.UpDx0RefIdeal.main_arg0) = m ((c.tc : Thread Cert.UpDx0Ideal.nD Cert.UpDx0Ideal.τ).loc Cert.UpDx0Ideal.main_arg0)
      ∧ m' ((c.tc : Thread Cert.UpDx0RefIdeal.nD Cert.UpDx0RefIdeal.τ).loc Cert.UpDx0RefIdeal.main_arg1) = m ((c.tc : Thread Cert.UpDx0Ideal.nD Cert.UpDx0Ideal.τ).loc Cert.UpDx0Ideal.main_arg1)
      ∧ m' ((c.tc : Thread Cert.UpDx0RefIdeal.nD Cert.UpDx0RefIdeal.τ).loc Cert.UpDx0RefIdeal.main_arg2) = m ((c.tc : Thread Cert.UpDx0Ideal.nD Cert.UpDx0Ideal.τ).loc Cert.UpDx0Ideal.main_arg2)
      ∧ m' ((c.tc : Thread Cert.UpDx0RefIdeal.nD Cert.UpDx0RefIdeal.τ).loc Cert.UpDx0RefIdeal.main_arg3) = m ((c.tc : Thread Cert.UpDx0Ideal.nD Cert.UpDx0Ideal.τ).loc Cert.UpDx0Ideal.main_arg3)
      ∧ m' ((c.tc : Thread Cert.UpDx0RefIdeal.nD Cert.UpDx0RefIdeal.τ).loc Cert.UpDx0RefIdeal.main_arg4) = m ((c.tc : Thread Cert.UpDx0Ideal.nD Cert.UpDx0Ideal.τ).loc Cert.UpDx0Ideal.main_arg4)) →
    ∃ (v0 : (c : Dev Cert.UpDx0Ideal.nD) → Buf (Elt Ideal) ((c.tc : Thread Cert.UpDx0Ideal.nD Cert.UpDx0Ideal.τ).loc Cert.UpDx0Ideal.main_v0_0)) (v1 : (c : Dev Cert.UpDx0Ideal.nD) → Buf (Elt Ideal) ((c.tc : Thread Cert.UpDx0Ideal.nD Cert.UpDx0Ideal.τ).loc Cert.UpDx0Ideal.main_v0_1)) (v2 : (c : Dev Cert.UpDx0Ideal.nD) → Buf (Elt Ideal) ((c.tc : Thread Cert.UpDx0Ideal.nD Cert.UpDx0Ideal.τ).loc Cert.UpDx0Ideal.main_v1)),
      θ_run (Cert.UpDx0Ideal.defs (F := Ideal)) (onTc (τ := Cert.UpDx0Ideal.τ) (Cert.UpDx0Ideal.main (F := Ideal))) ⟨m, fun _ => 0, g⟩ (fun r => ∀ c : Dev Cert.UpDx0Ideal.nD,
          r.2.mem ((c.tc : Thread Cert.UpDx0Ideal.nD Cert.UpDx0Ideal.τ).loc Cert.UpDx0Ideal.main_v0_0) = v0 c
          ∧ r.2.mem ((c.tc : Thread Cert.UpDx0Ideal.nD Cert.UpDx0Ideal.τ).loc Cert.UpDx0Ideal.main_v0_1) = v1 c
          ∧ r.2.mem ((c.tc : Thread Cert.UpDx0Ideal.nD Cert.UpDx0Ideal.τ).loc Cert.UpDx0Ideal.main_v1) = v2 c
          ∧ r.2.mem ((c.tc : Thread Cert.UpDx0Ideal.nD Cert.UpDx0Ideal.τ).loc Cert.UpDx0Ideal.main_arg0) = m ((c.tc : Thread Cert.UpDx0Ideal.nD Cert.UpDx0Ideal.τ).loc Cert.UpDx0Ideal.main_arg0)
          ∧ r.2.mem ((c.tc : Thread Cert.UpDx0Ideal.nD Cert.UpDx0Ideal.τ).loc Cert.UpDx0Ideal.main_arg1) = m ((c.tc : Thread Cert.UpDx0Ideal.nD Cert.UpDx0Ideal.τ).loc Cert.UpDx0Ideal.main_arg1)
          ∧ r.2.mem ((c.tc : Thread Cert.UpDx0Ideal.nD Cert.UpDx0Ideal.τ).loc Cert.UpDx0Ideal.main_arg2) = m ((c.tc : Thread Cert.UpDx0Ideal.nD Cert.UpDx0Ideal.τ).loc Cert.UpDx0Ideal.main_arg2)
          ∧ r.2.mem ((c.tc : Thread Cert.UpDx0Ideal.nD Cert.UpDx0Ideal.τ).loc Cert.UpDx0Ideal.main_arg3) = m ((c.tc : Thread Cert.UpDx0Ideal.nD Cert.UpDx0Ideal.τ).loc Cert.UpDx0Ideal.main_arg3)
          ∧ r.2.mem ((c.tc : Thread Cert.UpDx0Ideal.nD Cert.UpDx0Ideal.τ).loc Cert.UpDx0Ideal.main_arg4) = m ((c.tc : Thread Cert.UpDx0Ideal.nD Cert.UpDx0Ideal.τ).loc Cert.UpDx0Ideal.main_arg4))
      ∧ θ_run (Cert.UpDx0RefIdeal.defs (F := Ideal)) (onTc (τ := Cert.UpDx0RefIdeal.τ) (Cert.UpDx0RefIdeal.main (F := Ideal))) ⟨m', fun _ => 0, g'⟩ (fun r => ∀ c : Dev Cert.UpDx0RefIdeal.nD,
          r.2.mem ((c.tc : Thread Cert.UpDx0RefIdeal.nD Cert.UpDx0RefIdeal.τ).loc Cert.UpDx0RefIdeal.main_v43) = v0 c
          ∧ r.2.mem ((c.tc : Thread Cert.UpDx0RefIdeal.nD Cert.UpDx0RefIdeal.τ).loc Cert.UpDx0RefIdeal.main_v45) = v1 c
          ∧ r.2.mem ((c.tc : Thread Cert.UpDx0RefIdeal.nD Cert.UpDx0RefIdeal.τ).loc Cert.UpDx0RefIdeal.main_v28) = v2 c
          ∧ r.2.mem ((c.tc : Thread Cert.UpDx0RefIdeal.nD Cert.UpDx0RefIdeal.τ).loc Cert.UpDx0RefIdeal.main_arg0) = m' ((c.tc : Thread Cert.UpDx0RefIdeal.nD Cert.UpDx0RefIdeal.τ).loc Cert.UpDx0RefIdeal.main_arg0)
          ∧ r.2.mem ((c.tc : Thread Cert.UpDx0RefIdeal.nD Cert.UpDx0RefIdeal.τ).loc Cert.UpDx0RefIdeal.main_arg1) = m' ((c.tc : Thread Cert.UpDx0RefIdeal.nD Cert.UpDx0RefIdeal.τ).loc Cert.UpDx0RefIdeal.main_arg1)
          ∧ r.2.mem ((c.tc : Thread Cert.UpDx0RefIdeal.nD Cert.UpDx0RefIdeal.τ).loc Cert.UpDx0RefIdeal.main_arg2) = m' ((c.tc : Thread Cert.UpDx0RefIdeal.nD Cert.UpDx0RefIdeal.τ).loc Cert.UpDx0RefIdeal.main_arg2)
          ∧ r.2.mem ((c.tc : Thread Cert.UpDx0RefIdeal.nD Cert.UpDx0RefIdeal.τ).loc Cert.UpDx0RefIdeal.main_arg3) = m' ((c.tc : Thread Cert.UpDx0RefIdeal.nD Cert.UpDx0RefIdeal.τ).loc Cert.UpDx0RefIdeal.main_arg3)
          ∧ r.2.mem ((c.tc : Thread Cert.UpDx0RefIdeal.nD Cert.UpDx0RefIdeal.τ).loc Cert.UpDx0RefIdeal.main_arg4) = m' ((c.tc : Thread Cert.UpDx0RefIdeal.nD Cert.UpDx0RefIdeal.τ).loc Cert.UpDx0RefIdeal.main_arg4))

def preserves_Up1_Up1Ideal : Prop :=
  True

def algebraic_Up1Ideal_Up1RefIdeal [hUp1Ideal : Cert.Up1Ideal.Facts] [hUp1RefIdeal : Cert.Up1RefIdeal.Facts] : Prop :=
  ∀ (m : (ℓ : Loc Cert.Up1Ideal.nD Cert.Up1Ideal.τ Cert.Up1Ideal.sig) → Buf (Elt Ideal) ℓ) (g : Dev Cert.Up1Ideal.nD → PrngReg)
    (m' : (ℓ : Loc Cert.Up1RefIdeal.nD Cert.Up1RefIdeal.τ Cert.Up1RefIdeal.sig) → Buf (Elt Ideal) ℓ) (g' : Dev Cert.Up1RefIdeal.nD → PrngReg), Pre_Up1Ideal m →
    (∀ c : Dev Cert.Up1Ideal.nD,
      m' ((c.tc : Thread Cert.Up1RefIdeal.nD Cert.Up1RefIdeal.τ).loc Cert.Up1RefIdeal.main_arg0) = m ((c.tc : Thread Cert.Up1Ideal.nD Cert.Up1Ideal.τ).loc Cert.Up1Ideal.main_arg0)
      ∧ m' ((c.tc : Thread Cert.Up1RefIdeal.nD Cert.Up1RefIdeal.τ).loc Cert.Up1RefIdeal.main_arg1) = m ((c.tc : Thread Cert.Up1Ideal.nD Cert.Up1Ideal.τ).loc Cert.Up1Ideal.main_arg1)
      ∧ m' ((c.tc : Thread Cert.Up1RefIdeal.nD Cert.Up1RefIdeal.τ).loc Cert.Up1RefIdeal.main_arg2) = m ((c.tc : Thread Cert.Up1Ideal.nD Cert.Up1Ideal.τ).loc Cert.Up1Ideal.main_arg2)) →
    ∃ (v0 : (c : Dev Cert.Up1Ideal.nD) → Buf (Elt Ideal) ((c.tc : Thread Cert.Up1Ideal.nD Cert.Up1Ideal.τ).loc Cert.Up1Ideal.main_v0_0)) (v1 : (c : Dev Cert.Up1Ideal.nD) → Buf (Elt Ideal) ((c.tc : Thread Cert.Up1Ideal.nD Cert.Up1Ideal.τ).loc Cert.Up1Ideal.main_v0_1)),
      θ_run (Cert.Up1Ideal.defs (F := Ideal)) (onTc (τ := Cert.Up1Ideal.τ) (Cert.Up1Ideal.main (F := Ideal))) ⟨m, fun _ => 0, g⟩ (fun r => ∀ c : Dev Cert.Up1Ideal.nD,
          r.2.mem ((c.tc : Thread Cert.Up1Ideal.nD Cert.Up1Ideal.τ).loc Cert.Up1Ideal.main_v0_0) = v0 c
          ∧ r.2.mem ((c.tc : Thread Cert.Up1Ideal.nD Cert.Up1Ideal.τ).loc Cert.Up1Ideal.main_v0_1) = v1 c
          ∧ r.2.mem ((c.tc : Thread Cert.Up1Ideal.nD Cert.Up1Ideal.τ).loc Cert.Up1Ideal.main_arg0) = m ((c.tc : Thread Cert.Up1Ideal.nD Cert.Up1Ideal.τ).loc Cert.Up1Ideal.main_arg0)
          ∧ r.2.mem ((c.tc : Thread Cert.Up1Ideal.nD Cert.Up1Ideal.τ).loc Cert.Up1Ideal.main_arg1) = m ((c.tc : Thread Cert.Up1Ideal.nD Cert.Up1Ideal.τ).loc Cert.Up1Ideal.main_arg1)
          ∧ r.2.mem ((c.tc : Thread Cert.Up1Ideal.nD Cert.Up1Ideal.τ).loc Cert.Up1Ideal.main_arg2) = m ((c.tc : Thread Cert.Up1Ideal.nD Cert.Up1Ideal.τ).loc Cert.Up1Ideal.main_arg2))
      ∧ θ_run (Cert.Up1RefIdeal.defs (F := Ideal)) (onTc (τ := Cert.Up1RefIdeal.τ) (Cert.Up1RefIdeal.main (F := Ideal))) ⟨m', fun _ => 0, g'⟩ (fun r => ∀ c : Dev Cert.Up1RefIdeal.nD,
          r.2.mem ((c.tc : Thread Cert.Up1RefIdeal.nD Cert.Up1RefIdeal.τ).loc Cert.Up1RefIdeal.main_v18) = v0 c
          ∧ r.2.mem ((c.tc : Thread Cert.Up1RefIdeal.nD Cert.Up1RefIdeal.τ).loc Cert.Up1RefIdeal.main_v19) = v1 c
          ∧ r.2.mem ((c.tc : Thread Cert.Up1RefIdeal.nD Cert.Up1RefIdeal.τ).loc Cert.Up1RefIdeal.main_arg0) = m' ((c.tc : Thread Cert.Up1RefIdeal.nD Cert.Up1RefIdeal.τ).loc Cert.Up1RefIdeal.main_arg0)
          ∧ r.2.mem ((c.tc : Thread Cert.Up1RefIdeal.nD Cert.Up1RefIdeal.τ).loc Cert.Up1RefIdeal.main_arg1) = m' ((c.tc : Thread Cert.Up1RefIdeal.nD Cert.Up1RefIdeal.τ).loc Cert.Up1RefIdeal.main_arg1)
          ∧ r.2.mem ((c.tc : Thread Cert.Up1RefIdeal.nD Cert.Up1RefIdeal.τ).loc Cert.Up1RefIdeal.main_arg2) = m' ((c.tc : Thread Cert.Up1RefIdeal.nD Cert.Up1RefIdeal.τ).loc Cert.Up1RefIdeal.main_arg2))

def preserves_Up0_Up0Ideal : Prop :=
  True

def algebraic_Up0Ideal_Up0RefIdeal [hUp0Ideal : Cert.Up0Ideal.Facts] [hUp0RefIdeal : Cert.Up0RefIdeal.Facts] : Prop :=
  ∀ (m : (ℓ : Loc Cert.Up0Ideal.nD Cert.Up0Ideal.τ Cert.Up0Ideal.sig) → Buf (Elt Ideal) ℓ) (g : Dev Cert.Up0Ideal.nD → PrngReg)
    (m' : (ℓ : Loc Cert.Up0RefIdeal.nD Cert.Up0RefIdeal.τ Cert.Up0RefIdeal.sig) → Buf (Elt Ideal) ℓ) (g' : Dev Cert.Up0RefIdeal.nD → PrngReg), Pre_Up0Ideal m →
    (∀ c : Dev Cert.Up0Ideal.nD,
      m' ((c.tc : Thread Cert.Up0RefIdeal.nD Cert.Up0RefIdeal.τ).loc Cert.Up0RefIdeal.main_arg0) = m ((c.tc : Thread Cert.Up0Ideal.nD Cert.Up0Ideal.τ).loc Cert.Up0Ideal.main_arg0)
      ∧ m' ((c.tc : Thread Cert.Up0RefIdeal.nD Cert.Up0RefIdeal.τ).loc Cert.Up0RefIdeal.main_arg1) = m ((c.tc : Thread Cert.Up0Ideal.nD Cert.Up0Ideal.τ).loc Cert.Up0Ideal.main_arg1)
      ∧ m' ((c.tc : Thread Cert.Up0RefIdeal.nD Cert.Up0RefIdeal.τ).loc Cert.Up0RefIdeal.main_arg2) = m ((c.tc : Thread Cert.Up0Ideal.nD Cert.Up0Ideal.τ).loc Cert.Up0Ideal.main_arg2)) →
    ∃ (v0 : (c : Dev Cert.Up0Ideal.nD) → Buf (Elt Ideal) ((c.tc : Thread Cert.Up0Ideal.nD Cert.Up0Ideal.τ).loc Cert.Up0Ideal.main_v0_0)) (v1 : (c : Dev Cert.Up0Ideal.nD) → Buf (Elt Ideal) ((c.tc : Thread Cert.Up0Ideal.nD Cert.Up0Ideal.τ).loc Cert.Up0Ideal.main_v0_1)),
      θ_run (Cert.Up0Ideal.defs (F := Ideal)) (onTc (τ := Cert.Up0Ideal.τ) (Cert.Up0Ideal.main (F := Ideal))) ⟨m, fun _ => 0, g⟩ (fun r => ∀ c : Dev Cert.Up0Ideal.nD,
          r.2.mem ((c.tc : Thread Cert.Up0Ideal.nD Cert.Up0Ideal.τ).loc Cert.Up0Ideal.main_v0_0) = v0 c
          ∧ r.2.mem ((c.tc : Thread Cert.Up0Ideal.nD Cert.Up0Ideal.τ).loc Cert.Up0Ideal.main_v0_1) = v1 c
          ∧ r.2.mem ((c.tc : Thread Cert.Up0Ideal.nD Cert.Up0Ideal.τ).loc Cert.Up0Ideal.main_arg0) = m ((c.tc : Thread Cert.Up0Ideal.nD Cert.Up0Ideal.τ).loc Cert.Up0Ideal.main_arg0)
          ∧ r.2.mem ((c.tc : Thread Cert.Up0Ideal.nD Cert.Up0Ideal.τ).loc Cert.Up0Ideal.main_arg1) = m ((c.tc : Thread Cert.Up0Ideal.nD Cert.Up0Ideal.τ).loc Cert.Up0Ideal.main_arg1)
          ∧ r.2.mem ((c.tc : Thread Cert.Up0Ideal.nD Cert.Up0Ideal.τ).loc Cert.Up0Ideal.main_arg2) = m ((c.tc : Thread Cert.Up0Ideal.nD Cert.Up0Ideal.τ).loc Cert.Up0Ideal.main_arg2))
      ∧ θ_run (Cert.Up0RefIdeal.defs (F := Ideal)) (onTc (τ := Cert.Up0RefIdeal.τ) (Cert.Up0RefIdeal.main (F := Ideal))) ⟨m', fun _ => 0, g'⟩ (fun r => ∀ c : Dev Cert.Up0RefIdeal.nD,
          r.2.mem ((c.tc : Thread Cert.Up0RefIdeal.nD Cert.Up0RefIdeal.τ).loc Cert.Up0RefIdeal.main_v18) = v0 c
          ∧ r.2.mem ((c.tc : Thread Cert.Up0RefIdeal.nD Cert.Up0RefIdeal.τ).loc Cert.Up0RefIdeal.main_v19) = v1 c
          ∧ r.2.mem ((c.tc : Thread Cert.Up0RefIdeal.nD Cert.Up0RefIdeal.τ).loc Cert.Up0RefIdeal.main_arg0) = m' ((c.tc : Thread Cert.Up0RefIdeal.nD Cert.Up0RefIdeal.τ).loc Cert.Up0RefIdeal.main_arg0)
          ∧ r.2.mem ((c.tc : Thread Cert.Up0RefIdeal.nD Cert.Up0RefIdeal.τ).loc Cert.Up0RefIdeal.main_arg1) = m' ((c.tc : Thread Cert.Up0RefIdeal.nD Cert.Up0RefIdeal.τ).loc Cert.Up0RefIdeal.main_arg1)
          ∧ r.2.mem ((c.tc : Thread Cert.Up0RefIdeal.nD Cert.Up0RefIdeal.τ).loc Cert.Up0RefIdeal.main_arg2) = m' ((c.tc : Thread Cert.Up0RefIdeal.nD Cert.Up0RefIdeal.τ).loc Cert.Up0RefIdeal.main_arg2))

def preserves_Down0_Down0Ideal : Prop :=
  True

def algebraic_Down0Ideal_Down0RefIdeal [hDown0Ideal : Cert.Down0Ideal.Facts] [hDown0RefIdeal : Cert.Down0RefIdeal.Facts] : Prop :=
  ∀ (m : (ℓ : Loc Cert.Down0Ideal.nD Cert.Down0Ideal.τ Cert.Down0Ideal.sig) → Buf (Elt Ideal) ℓ) (g : Dev Cert.Down0Ideal.nD → PrngReg)
    (m' : (ℓ : Loc Cert.Down0RefIdeal.nD Cert.Down0RefIdeal.τ Cert.Down0RefIdeal.sig) → Buf (Elt Ideal) ℓ) (g' : Dev Cert.Down0RefIdeal.nD → PrngReg), Pre_Down0Ideal m →
    (∀ c : Dev Cert.Down0Ideal.nD,
      m' ((c.tc : Thread Cert.Down0RefIdeal.nD Cert.Down0RefIdeal.τ).loc Cert.Down0RefIdeal.main_arg0) = m ((c.tc : Thread Cert.Down0Ideal.nD Cert.Down0Ideal.τ).loc Cert.Down0Ideal.main_arg0)
      ∧ m' ((c.tc : Thread Cert.Down0RefIdeal.nD Cert.Down0RefIdeal.τ).loc Cert.Down0RefIdeal.main_arg1) = m ((c.tc : Thread Cert.Down0Ideal.nD Cert.Down0Ideal.τ).loc Cert.Down0Ideal.main_arg1)
      ∧ m' ((c.tc : Thread Cert.Down0RefIdeal.nD Cert.Down0RefIdeal.τ).loc Cert.Down0RefIdeal.main_arg2) = m ((c.tc : Thread Cert.Down0Ideal.nD Cert.Down0Ideal.τ).loc Cert.Down0Ideal.main_arg2)) →
    ∃ (v0 : (c : Dev Cert.Down0Ideal.nD) → Buf (Elt Ideal) ((c.tc : Thread Cert.Down0Ideal.nD Cert.Down0Ideal.τ).loc Cert.Down0Ideal.main_v0)),
      θ_run (Cert.Down0Ideal.defs (F := Ideal)) (onTc (τ := Cert.Down0Ideal.τ) (Cert.Down0Ideal.main (F := Ideal))) ⟨m, fun _ => 0, g⟩ (fun r => ∀ c : Dev Cert.Down0Ideal.nD,
          r.2.mem ((c.tc : Thread Cert.Down0Ideal.nD Cert.Down0Ideal.τ).loc Cert.Down0Ideal.main_v0) = v0 c
          ∧ r.2.mem ((c.tc : Thread Cert.Down0Ideal.nD Cert.Down0Ideal.τ).loc Cert.Down0Ideal.main_arg0) = m ((c.tc : Thread Cert.Down0Ideal.nD Cert.Down0Ideal.τ).loc Cert.Down0Ideal.main_arg0)
          ∧ r.2.mem ((c.tc : Thread Cert.Down0Ideal.nD Cert.Down0Ideal.τ).loc Cert.Down0Ideal.main_arg1) = m ((c.tc : Thread Cert.Down0Ideal.nD Cert.Down0Ideal.τ).loc Cert.Down0Ideal.main_arg1)
          ∧ r.2.mem ((c.tc : Thread Cert.Down0Ideal.nD Cert.Down0Ideal.τ).loc Cert.Down0Ideal.main_arg2) = m ((c.tc : Thread Cert.Down0Ideal.nD Cert.Down0Ideal.τ).loc Cert.Down0Ideal.main_arg2))
      ∧ θ_run (Cert.Down0RefIdeal.defs (F := Ideal)) (onTc (τ := Cert.Down0RefIdeal.τ) (Cert.Down0RefIdeal.main (F := Ideal))) ⟨m', fun _ => 0, g'⟩ (fun r => ∀ c : Dev Cert.Down0RefIdeal.nD,
          r.2.mem ((c.tc : Thread Cert.Down0RefIdeal.nD Cert.Down0RefIdeal.τ).loc Cert.Down0RefIdeal.main_v7) = v0 c
          ∧ r.2.mem ((c.tc : Thread Cert.Down0RefIdeal.nD Cert.Down0RefIdeal.τ).loc Cert.Down0RefIdeal.main_arg0) = m' ((c.tc : Thread Cert.Down0RefIdeal.nD Cert.Down0RefIdeal.τ).loc Cert.Down0RefIdeal.main_arg0)
          ∧ r.2.mem ((c.tc : Thread Cert.Down0RefIdeal.nD Cert.Down0RefIdeal.τ).loc Cert.Down0RefIdeal.main_arg1) = m' ((c.tc : Thread Cert.Down0RefIdeal.nD Cert.Down0RefIdeal.τ).loc Cert.Down0RefIdeal.main_arg1)
          ∧ r.2.mem ((c.tc : Thread Cert.Down0RefIdeal.nD Cert.Down0RefIdeal.τ).loc Cert.Down0RefIdeal.main_arg2) = m' ((c.tc : Thread Cert.Down0RefIdeal.nD Cert.Down0RefIdeal.τ).loc Cert.Down0RefIdeal.main_arg2))

def preserves_Down1_Down1Ideal : Prop :=
  True

def algebraic_Down1Ideal_Down1RefIdeal [hDown1Ideal : Cert.Down1Ideal.Facts] [hDown1RefIdeal : Cert.Down1RefIdeal.Facts] : Prop :=
  ∀ (m : (ℓ : Loc Cert.Down1Ideal.nD Cert.Down1Ideal.τ Cert.Down1Ideal.sig) → Buf (Elt Ideal) ℓ) (g : Dev Cert.Down1Ideal.nD → PrngReg)
    (m' : (ℓ : Loc Cert.Down1RefIdeal.nD Cert.Down1RefIdeal.τ Cert.Down1RefIdeal.sig) → Buf (Elt Ideal) ℓ) (g' : Dev Cert.Down1RefIdeal.nD → PrngReg), Pre_Down1Ideal m →
    (∀ c : Dev Cert.Down1Ideal.nD,
      m' ((c.tc : Thread Cert.Down1RefIdeal.nD Cert.Down1RefIdeal.τ).loc Cert.Down1RefIdeal.main_arg0) = m ((c.tc : Thread Cert.Down1Ideal.nD Cert.Down1Ideal.τ).loc Cert.Down1Ideal.main_arg0)
      ∧ m' ((c.tc : Thread Cert.Down1RefIdeal.nD Cert.Down1RefIdeal.τ).loc Cert.Down1RefIdeal.main_arg1) = m ((c.tc : Thread Cert.Down1Ideal.nD Cert.Down1Ideal.τ).loc Cert.Down1Ideal.main_arg1)
      ∧ m' ((c.tc : Thread Cert.Down1RefIdeal.nD Cert.Down1RefIdeal.τ).loc Cert.Down1RefIdeal.main_arg2) = m ((c.tc : Thread Cert.Down1Ideal.nD Cert.Down1Ideal.τ).loc Cert.Down1Ideal.main_arg2)
      ∧ m' ((c.tc : Thread Cert.Down1RefIdeal.nD Cert.Down1RefIdeal.τ).loc Cert.Down1RefIdeal.main_arg3) = m ((c.tc : Thread Cert.Down1Ideal.nD Cert.Down1Ideal.τ).loc Cert.Down1Ideal.main_arg3)) →
    ∃ (v0 : (c : Dev Cert.Down1Ideal.nD) → Buf (Elt Ideal) ((c.tc : Thread Cert.Down1Ideal.nD Cert.Down1Ideal.τ).loc Cert.Down1Ideal.main_v0_0)) (v1 : (c : Dev Cert.Down1Ideal.nD) → Buf (Elt Ideal) ((c.tc : Thread Cert.Down1Ideal.nD Cert.Down1Ideal.τ).loc Cert.Down1Ideal.main_v0_1)) (v2 : (c : Dev Cert.Down1Ideal.nD) → Buf (Elt Ideal) ((c.tc : Thread Cert.Down1Ideal.nD Cert.Down1Ideal.τ).loc Cert.Down1Ideal.main_v2)),
      θ_run (Cert.Down1Ideal.defs (F := Ideal)) (onTc (τ := Cert.Down1Ideal.τ) (Cert.Down1Ideal.main (F := Ideal))) ⟨m, fun _ => 0, g⟩ (fun r => ∀ c : Dev Cert.Down1Ideal.nD,
          r.2.mem ((c.tc : Thread Cert.Down1Ideal.nD Cert.Down1Ideal.τ).loc Cert.Down1Ideal.main_v0_0) = v0 c
          ∧ r.2.mem ((c.tc : Thread Cert.Down1Ideal.nD Cert.Down1Ideal.τ).loc Cert.Down1Ideal.main_v0_1) = v1 c
          ∧ r.2.mem ((c.tc : Thread Cert.Down1Ideal.nD Cert.Down1Ideal.τ).loc Cert.Down1Ideal.main_v2) = v2 c
          ∧ r.2.mem ((c.tc : Thread Cert.Down1Ideal.nD Cert.Down1Ideal.τ).loc Cert.Down1Ideal.main_arg0) = m ((c.tc : Thread Cert.Down1Ideal.nD Cert.Down1Ideal.τ).loc Cert.Down1Ideal.main_arg0)
          ∧ r.2.mem ((c.tc : Thread Cert.Down1Ideal.nD Cert.Down1Ideal.τ).loc Cert.Down1Ideal.main_arg1) = m ((c.tc : Thread Cert.Down1Ideal.nD Cert.Down1Ideal.τ).loc Cert.Down1Ideal.main_arg1)
          ∧ r.2.mem ((c.tc : Thread Cert.Down1Ideal.nD Cert.Down1Ideal.τ).loc Cert.Down1Ideal.main_arg2) = m ((c.tc : Thread Cert.Down1Ideal.nD Cert.Down1Ideal.τ).loc Cert.Down1Ideal.main_arg2)
          ∧ r.2.mem ((c.tc : Thread Cert.Down1Ideal.nD Cert.Down1Ideal.τ).loc Cert.Down1Ideal.main_arg3) = m ((c.tc : Thread Cert.Down1Ideal.nD Cert.Down1Ideal.τ).loc Cert.Down1Ideal.main_arg3))
      ∧ θ_run (Cert.Down1RefIdeal.defs (F := Ideal)) (onTc (τ := Cert.Down1RefIdeal.τ) (Cert.Down1RefIdeal.main (F := Ideal))) ⟨m', fun _ => 0, g'⟩ (fun r => ∀ c : Dev Cert.Down1RefIdeal.nD,
          r.2.mem ((c.tc : Thread Cert.Down1RefIdeal.nD Cert.Down1RefIdeal.τ).loc Cert.Down1RefIdeal.main_v22) = v0 c
          ∧ r.2.mem ((c.tc : Thread Cert.Down1RefIdeal.nD Cert.Down1RefIdeal.τ).loc Cert.Down1RefIdeal.main_v23) = v1 c
          ∧ r.2.mem ((c.tc : Thread Cert.Down1RefIdeal.nD Cert.Down1RefIdeal.τ).loc Cert.Down1RefIdeal.main_v16) = v2 c
          ∧ r.2.mem ((c.tc : Thread Cert.Down1RefIdeal.nD Cert.Down1RefIdeal.τ).loc Cert.Down1RefIdeal.main_arg0) = m' ((c.tc : Thread Cert.Down1RefIdeal.nD Cert.Down1RefIdeal.τ).loc Cert.Down1RefIdeal.main_arg0)
          ∧ r.2.mem ((c.tc : Thread Cert.Down1RefIdeal.nD Cert.Down1RefIdeal.τ).loc Cert.Down1RefIdeal.main_arg1) = m' ((c.tc : Thread Cert.Down1RefIdeal.nD Cert.Down1RefIdeal.τ).loc Cert.Down1RefIdeal.main_arg1)
          ∧ r.2.mem ((c.tc : Thread Cert.Down1RefIdeal.nD Cert.Down1RefIdeal.τ).loc Cert.Down1RefIdeal.main_arg2) = m' ((c.tc : Thread Cert.Down1RefIdeal.nD Cert.Down1RefIdeal.τ).loc Cert.Down1RefIdeal.main_arg2)
          ∧ r.2.mem ((c.tc : Thread Cert.Down1RefIdeal.nD Cert.Down1RefIdeal.τ).loc Cert.Down1RefIdeal.main_arg3) = m' ((c.tc : Thread Cert.Down1RefIdeal.nD Cert.Down1RefIdeal.τ).loc Cert.Down1RefIdeal.main_arg3))

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v6) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v0_0)) (v1 : (c : Dev Cert.InFwdIdeal.nD) → Buf (Elt Ideal) ((c.tc : Thread Cert.InFwdIdeal.nD Cert.InFwdIdeal.τ).loc Cert.InFwdIdeal.main_v0_1)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0_0) = v0 c
          ∧ r.2.mem ((c.tc : Thread Cert.InFwdIdeal.nD Cert.InFwdIdeal.τ).loc Cert.InFwdIdeal.main_v0_1) = v1 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v15) = v0 c
          ∧ r.2.mem ((c.tc : Thread Cert.InFwdRefIdeal.nD Cert.InFwdRefIdeal.τ).loc Cert.InFwdRefIdeal.main_v16) = v1 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_InDx_InDxIdeal : Prop :=
  True

def algebraic_InDxIdeal_InDxRefIdeal_pre_in_finite [hInDxIdeal : Cert.InDxIdeal.Facts] [hInDxRefIdeal : Cert.InDxRefIdeal.Facts] [hPre_in_finite : Cert.Pre_in_finite.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal_in_finite m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)) (v2 : (c : Dev Cert.InDxIdeal.nD) → Buf (Elt Ideal) ((c.tc : Thread Cert.InDxIdeal.nD Cert.InDxIdeal.τ).loc Cert.InDxIdeal.main_v1)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_v1) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v41) = v0 c
          ∧ r.2.mem ((c.tc : Thread Cert.InDxRefIdeal.nD Cert.InDxRefIdeal.τ).loc Cert.InDxRefIdeal.main_v43) = v1 c
          ∧ r.2.mem ((c.tc : Thread Cert.InDxRefIdeal.nD Cert.InDxRefIdeal.τ).loc Cert.InDxRefIdeal.main_v26) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_OddDw_OddDwIdeal : Prop :=
  True

def algebraic_OddDwIdeal_OddDwRefIdeal [hOddDwIdeal : Cert.OddDwIdeal.Facts] [hOddDwRefIdeal : Cert.OddDwRefIdeal.Facts] : Prop :=
  ∀ (m : (ℓ : Loc Cert.OddDwIdeal.nD Cert.OddDwIdeal.τ Cert.OddDwIdeal.sig) → Buf (Elt Ideal) ℓ) (g : Dev Cert.OddDwIdeal.nD → PrngReg)
    (m' : (ℓ : Loc Cert.OddDwRefIdeal.nD Cert.OddDwRefIdeal.τ Cert.OddDwRefIdeal.sig) → Buf (Elt Ideal) ℓ) (g' : Dev Cert.OddDwRefIdeal.nD → PrngReg), Pre_OddDwIdeal m →
    (∀ c : Dev Cert.OddDwIdeal.nD,
      m' ((c.tc : Thread Cert.OddDwRefIdeal.nD Cert.OddDwRefIdeal.τ).loc Cert.OddDwRefIdeal.main_arg0) = m ((c.tc : Thread Cert.OddDwIdeal.nD Cert.OddDwIdeal.τ).loc Cert.OddDwIdeal.main_arg0)
      ∧ m' ((c.tc : Thread Cert.OddDwRefIdeal.nD Cert.OddDwRefIdeal.τ).loc Cert.OddDwRefIdeal.main_arg1) = m ((c.tc : Thread Cert.OddDwIdeal.nD Cert.OddDwIdeal.τ).loc Cert.OddDwIdeal.main_arg1)) →
    ∃ (v0 : (c : Dev Cert.OddDwIdeal.nD) → Buf (Elt Ideal) ((c.tc : Thread Cert.OddDwIdeal.nD Cert.OddDwIdeal.τ).loc Cert.OddDwIdeal.main_v0)),
      θ_run (Cert.OddDwIdeal.defs (F := Ideal)) (onTc (τ := Cert.OddDwIdeal.τ) (Cert.OddDwIdeal.main (F := Ideal))) ⟨m, fun _ => 0, g⟩ (fun r => ∀ c : Dev Cert.OddDwIdeal.nD,
          r.2.mem ((c.tc : Thread Cert.OddDwIdeal.nD Cert.OddDwIdeal.τ).loc Cert.OddDwIdeal.main_v0) = v0 c
          ∧ r.2.mem ((c.tc : Thread Cert.OddDwIdeal.nD Cert.OddDwIdeal.τ).loc Cert.OddDwIdeal.main_arg0) = m ((c.tc : Thread Cert.OddDwIdeal.nD Cert.OddDwIdeal.τ).loc Cert.OddDwIdeal.main_arg0)
          ∧ r.2.mem ((c.tc : Thread Cert.OddDwIdeal.nD Cert.OddDwIdeal.τ).loc Cert.OddDwIdeal.main_arg1) = m ((c.tc : Thread Cert.OddDwIdeal.nD Cert.OddDwIdeal.τ).loc Cert.OddDwIdeal.main_arg1))
      ∧ θ_run (Cert.OddDwRefIdeal.defs (F := Ideal)) (onTc (τ := Cert.OddDwRefIdeal.τ) (Cert.OddDwRefIdeal.main (F := Ideal))) ⟨m', fun _ => 0, g'⟩ (fun r => ∀ c : Dev Cert.OddDwRefIdeal.nD,
          r.2.mem ((c.tc : Thread Cert.OddDwRefIdeal.nD Cert.OddDwRefIdeal.τ).loc Cert.OddDwRefIdeal.main_v6) = v0 c
          ∧ r.2.mem ((c.tc : Thread Cert.OddDwRefIdeal.nD Cert.OddDwRefIdeal.τ).loc Cert.OddDwRefIdeal.main_arg0) = m' ((c.tc : Thread Cert.OddDwRefIdeal.nD Cert.OddDwRefIdeal.τ).loc Cert.OddDwRefIdeal.main_arg0)
          ∧ r.2.mem ((c.tc : Thread Cert.OddDwRefIdeal.nD Cert.OddDwRefIdeal.τ).loc Cert.OddDwRefIdeal.main_arg1) = m' ((c.tc : Thread Cert.OddDwRefIdeal.nD Cert.OddDwRefIdeal.τ).loc Cert.OddDwRefIdeal.main_arg1))

def preserves_OddDx_OddDxIdeal : Prop :=
  True

def algebraic_OddDxIdeal_OddDxRefIdeal_pre_odd_finite [hOddDxIdeal : Cert.OddDxIdeal.Facts] [hOddDxRefIdeal : Cert.OddDxRefIdeal.Facts] [hPre_odd_finite : Cert.Pre_odd_finite.Facts] : Prop :=
  ∀ (m : (ℓ : Loc Cert.OddDxIdeal.nD Cert.OddDxIdeal.τ Cert.OddDxIdeal.sig) → Buf (Elt Ideal) ℓ) (g : Dev Cert.OddDxIdeal.nD → PrngReg)
    (m' : (ℓ : Loc Cert.OddDxRefIdeal.nD Cert.OddDxRefIdeal.τ Cert.OddDxRefIdeal.sig) → Buf (Elt Ideal) ℓ) (g' : Dev Cert.OddDxRefIdeal.nD → PrngReg), Pre_OddDxIdeal_odd_finite m →
    (∀ c : Dev Cert.OddDxIdeal.nD,
      m' ((c.tc : Thread Cert.OddDxRefIdeal.nD Cert.OddDxRefIdeal.τ).loc Cert.OddDxRefIdeal.main_arg0) = m ((c.tc : Thread Cert.OddDxIdeal.nD Cert.OddDxIdeal.τ).loc Cert.OddDxIdeal.main_arg0)
      ∧ m' ((c.tc : Thread Cert.OddDxRefIdeal.nD Cert.OddDxRefIdeal.τ).loc Cert.OddDxRefIdeal.main_arg1) = m ((c.tc : Thread Cert.OddDxIdeal.nD Cert.OddDxIdeal.τ).loc Cert.OddDxIdeal.main_arg1)
      ∧ m' ((c.tc : Thread Cert.OddDxRefIdeal.nD Cert.OddDxRefIdeal.τ).loc Cert.OddDxRefIdeal.main_arg2) = m ((c.tc : Thread Cert.OddDxIdeal.nD Cert.OddDxIdeal.τ).loc Cert.OddDxIdeal.main_arg2)
      ∧ m' ((c.tc : Thread Cert.OddDxRefIdeal.nD Cert.OddDxRefIdeal.τ).loc Cert.OddDxRefIdeal.main_arg3) = m ((c.tc : Thread Cert.OddDxIdeal.nD Cert.OddDxIdeal.τ).loc Cert.OddDxIdeal.main_arg3)
      ∧ m' ((c.tc : Thread Cert.OddDxRefIdeal.nD Cert.OddDxRefIdeal.τ).loc Cert.OddDxRefIdeal.main_arg4) = m ((c.tc : Thread Cert.OddDxIdeal.nD Cert.OddDxIdeal.τ).loc Cert.OddDxIdeal.main_arg4)) →
    ∃ (v0 : (c : Dev Cert.OddDxIdeal.nD) → Buf (Elt Ideal) ((c.tc : Thread Cert.OddDxIdeal.nD Cert.OddDxIdeal.τ).loc Cert.OddDxIdeal.main_v0_0)) (v1 : (c : Dev Cert.OddDxIdeal.nD) → Buf (Elt Ideal) ((c.tc : Thread Cert.OddDxIdeal.nD Cert.OddDxIdeal.τ).loc Cert.OddDxIdeal.main_v0_1)) (v2 : (c : Dev Cert.OddDxIdeal.nD) → Buf (Elt Ideal) ((c.tc : Thread Cert.OddDxIdeal.nD Cert.OddDxIdeal.τ).loc Cert.OddDxIdeal.main_v1)),
      θ_run (Cert.OddDxIdeal.defs (F := Ideal)) (onTc (τ := Cert.OddDxIdeal.τ) (Cert.OddDxIdeal.main (F := Ideal))) ⟨m, fun _ => 0, g⟩ (fun r => ∀ c : Dev Cert.OddDxIdeal.nD,
          r.2.mem ((c.tc : Thread Cert.OddDxIdeal.nD Cert.OddDxIdeal.τ).loc Cert.OddDxIdeal.main_v0_0) = v0 c
          ∧ r.2.mem ((c.tc : Thread Cert.OddDxIdeal.nD Cert.OddDxIdeal.τ).loc Cert.OddDxIdeal.main_v0_1) = v1 c
          ∧ r.2.mem ((c.tc : Thread Cert.OddDxIdeal.nD Cert.OddDxIdeal.τ).loc Cert.OddDxIdeal.main_v1) = v2 c
          ∧ r.2.mem ((c.tc : Thread Cert.OddDxIdeal.nD Cert.OddDxIdeal.τ).loc Cert.OddDxIdeal.main_arg0) = m ((c.tc : Thread Cert.OddDxIdeal.nD Cert.OddDxIdeal.τ).loc Cert.OddDxIdeal.main_arg0)
          ∧ r.2.mem ((c.tc : Thread Cert.OddDxIdeal.nD Cert.OddDxIdeal.τ).loc Cert.OddDxIdeal.main_arg1) = m ((c.tc : Thread Cert.OddDxIdeal.nD Cert.OddDxIdeal.τ).loc Cert.OddDxIdeal.main_arg1)
          ∧ r.2.mem ((c.tc : Thread Cert.OddDxIdeal.nD Cert.OddDxIdeal.τ).loc Cert.OddDxIdeal.main_arg2) = m ((c.tc : Thread Cert.OddDxIdeal.nD Cert.OddDxIdeal.τ).loc Cert.OddDxIdeal.main_arg2)
          ∧ r.2.mem ((c.tc : Thread Cert.OddDxIdeal.nD Cert.OddDxIdeal.τ).loc Cert.OddDxIdeal.main_arg3) = m ((c.tc : Thread Cert.OddDxIdeal.nD Cert.OddDxIdeal.τ).loc Cert.OddDxIdeal.main_arg3)
          ∧ r.2.mem ((c.tc : Thread Cert.OddDxIdeal.nD Cert.OddDxIdeal.τ).loc Cert.OddDxIdeal.main_arg4) = m ((c.tc : Thread Cert.OddDxIdeal.nD Cert.OddDxIdeal.τ).loc Cert.OddDxIdeal.main_arg4))
      ∧ θ_run (Cert.OddDxRefIdeal.defs (F := Ideal)) (onTc (τ := Cert.OddDxRefIdeal.τ) (Cert.OddDxRefIdeal.main (F := Ideal))) ⟨m', fun _ => 0, g'⟩ (fun r => ∀ c : Dev Cert.OddDxRefIdeal.nD,
          r.2.mem ((c.tc : Thread Cert.OddDxRefIdeal.nD Cert.OddDxRefIdeal.τ).loc Cert.OddDxRefIdeal.main_v41) = v0 c
          ∧ r.2.mem ((c.tc : Thread Cert.OddDxRefIdeal.nD Cert.OddDxRefIdeal.τ).loc Cert.OddDxRefIdeal.main_v43) = v1 c
          ∧ r.2.mem ((c.tc : Thread Cert.OddDxRefIdeal.nD Cert.OddDxRefIdeal.τ).loc Cert.OddDxRefIdeal.main_v26) = v2 c
          ∧ r.2.mem ((c.tc : Thread Cert.OddDxRefIdeal.nD Cert.OddDxRefIdeal.τ).loc Cert.OddDxRefIdeal.main_arg0) = m' ((c.tc : Thread Cert.OddDxRefIdeal.nD Cert.OddDxRefIdeal.τ).loc Cert.OddDxRefIdeal.main_arg0)
          ∧ r.2.mem ((c.tc : Thread Cert.OddDxRefIdeal.nD Cert.OddDxRefIdeal.τ).loc Cert.OddDxRefIdeal.main_arg1) = m' ((c.tc : Thread Cert.OddDxRefIdeal.nD Cert.OddDxRefIdeal.τ).loc Cert.OddDxRefIdeal.main_arg1)
          ∧ r.2.mem ((c.tc : Thread Cert.OddDxRefIdeal.nD Cert.OddDxRefIdeal.τ).loc Cert.OddDxRefIdeal.main_arg2) = m' ((c.tc : Thread Cert.OddDxRefIdeal.nD Cert.OddDxRefIdeal.τ).loc Cert.OddDxRefIdeal.main_arg2)
          ∧ r.2.mem ((c.tc : Thread Cert.OddDxRefIdeal.nD Cert.OddDxRefIdeal.τ).loc Cert.OddDxRefIdeal.main_arg3) = m' ((c.tc : Thread Cert.OddDxRefIdeal.nD Cert.OddDxRefIdeal.τ).loc Cert.OddDxRefIdeal.main_arg3)
          ∧ r.2.mem ((c.tc : Thread Cert.OddDxRefIdeal.nD Cert.OddDxRefIdeal.τ).loc Cert.OddDxRefIdeal.main_arg4) = m' ((c.tc : Thread Cert.OddDxRefIdeal.nD Cert.OddDxRefIdeal.τ).loc Cert.OddDxRefIdeal.main_arg4))

def preserves_OddOutDx_OddOutDxIdeal : Prop :=
  True

def algebraic_OddOutDxIdeal_OddOutDxRefIdeal [hOddOutDxIdeal : Cert.OddOutDxIdeal.Facts] [hOddOutDxRefIdeal : Cert.OddOutDxRefIdeal.Facts] : Prop :=
  ∀ (m : (ℓ : Loc Cert.OddOutDxIdeal.nD Cert.OddOutDxIdeal.τ Cert.OddOutDxIdeal.sig) → Buf (Elt Ideal) ℓ) (g : Dev Cert.OddOutDxIdeal.nD → PrngReg)
    (m' : (ℓ : Loc Cert.OddOutDxRefIdeal.nD Cert.OddOutDxRefIdeal.τ Cert.OddOutDxRefIdeal.sig) → Buf (Elt Ideal) ℓ) (g' : Dev Cert.OddOutDxRefIdeal.nD → PrngReg), Pre_OddOutDxIdeal m →
    (∀ c : Dev Cert.OddOutDxIdeal.nD,
      m' ((c.tc : Thread Cert.OddOutDxRefIdeal.nD Cert.OddOutDxRefIdeal.τ).loc Cert.OddOutDxRefIdeal.main_arg0) = m ((c.tc : Thread Cert.OddOutDxIdeal.nD Cert.OddOutDxIdeal.τ).loc Cert.OddOutDxIdeal.main_arg0)
      ∧ m' ((c.tc : Thread Cert.OddOutDxRefIdeal.nD Cert.OddOutDxRefIdeal.τ).loc Cert.OddOutDxRefIdeal.main_arg1) = m ((c.tc : Thread Cert.OddOutDxIdeal.nD Cert.OddOutDxIdeal.τ).loc Cert.OddOutDxIdeal.main_arg1)) →
    ∃ (v0 : (c : Dev Cert.OddOutDxIdeal.nD) → Buf (Elt Ideal) ((c.tc : Thread Cert.OddOutDxIdeal.nD Cert.OddOutDxIdeal.τ).loc Cert.OddOutDxIdeal.main_v0)),
      θ_run (Cert.OddOutDxIdeal.defs (F := Ideal)) (onTc (τ := Cert.OddOutDxIdeal.τ) (Cert.OddOutDxIdeal.main (F := Ideal))) ⟨m, fun _ => 0, g⟩ (fun r => ∀ c : Dev Cert.OddOutDxIdeal.nD,
          r.2.mem ((c.tc : Thread Cert.OddOutDxIdeal.nD Cert.OddOutDxIdeal.τ).loc Cert.OddOutDxIdeal.main_v0) = v0 c
          ∧ r.2.mem ((c.tc : Thread Cert.OddOutDxIdeal.nD Cert.OddOutDxIdeal.τ).loc Cert.OddOutDxIdeal.main_arg0) = m ((c.tc : Thread Cert.OddOutDxIdeal.nD Cert.OddOutDxIdeal.τ).loc Cert.OddOutDxIdeal.main_arg0)
          ∧ r.2.mem ((c.tc : Thread Cert.OddOutDxIdeal.nD Cert.OddOutDxIdeal.τ).loc Cert.OddOutDxIdeal.main_arg1) = m ((c.tc : Thread Cert.OddOutDxIdeal.nD Cert.OddOutDxIdeal.τ).loc Cert.OddOutDxIdeal.main_arg1))
      ∧ θ_run (Cert.OddOutDxRefIdeal.defs (F := Ideal)) (onTc (τ := Cert.OddOutDxRefIdeal.τ) (Cert.OddOutDxRefIdeal.main (F := Ideal))) ⟨m', fun _ => 0, g'⟩ (fun r => ∀ c : Dev Cert.OddOutDxRefIdeal.nD,
          r.2.mem ((c.tc : Thread Cert.OddOutDxRefIdeal.nD Cert.OddOutDxRefIdeal.τ).loc Cert.OddOutDxRefIdeal.main_v5) = v0 c
          ∧ r.2.mem ((c.tc : Thread Cert.OddOutDxRefIdeal.nD Cert.OddOutDxRefIdeal.τ).loc Cert.OddOutDxRefIdeal.main_arg0) = m' ((c.tc : Thread Cert.OddOutDxRefIdeal.nD Cert.OddOutDxRefIdeal.τ).loc Cert.OddOutDxRefIdeal.main_arg0)
          ∧ r.2.mem ((c.tc : Thread Cert.OddOutDxRefIdeal.nD Cert.OddOutDxRefIdeal.τ).loc Cert.OddOutDxRefIdeal.main_arg1) = m' ((c.tc : Thread Cert.OddOutDxRefIdeal.nD Cert.OddOutDxRefIdeal.τ).loc Cert.OddOutDxRefIdeal.main_arg1))

def preserves_OddFwd_OddFwdIdeal : Prop :=
  True

def algebraic_OddFwdIdeal_OddFwdRefIdeal [hOddFwdIdeal : Cert.OddFwdIdeal.Facts] [hOddFwdRefIdeal : Cert.OddFwdRefIdeal.Facts] : Prop :=
  ∀ (m : (ℓ : Loc Cert.OddFwdIdeal.nD Cert.OddFwdIdeal.τ Cert.OddFwdIdeal.sig) → Buf (Elt Ideal) ℓ) (g : Dev Cert.OddFwdIdeal.nD → PrngReg)
    (m' : (ℓ : Loc Cert.OddFwdRefIdeal.nD Cert.OddFwdRefIdeal.τ Cert.OddFwdRefIdeal.sig) → Buf (Elt Ideal) ℓ) (g' : Dev Cert.OddFwdRefIdeal.nD → PrngReg), Pre_OddFwdIdeal m →
    (∀ c : Dev Cert.OddFwdIdeal.nD,
      m' ((c.tc : Thread Cert.OddFwdRefIdeal.nD Cert.OddFwdRefIdeal.τ).loc Cert.OddFwdRefIdeal.main_arg0) = m ((c.tc : Thread Cert.OddFwdIdeal.nD Cert.OddFwdIdeal.τ).loc Cert.OddFwdIdeal.main_arg0)
      ∧ m' ((c.tc : Thread Cert.OddFwdRefIdeal.nD Cert.OddFwdRefIdeal.τ).loc Cert.OddFwdRefIdeal.main_arg1) = m ((c.tc : Thread Cert.OddFwdIdeal.nD Cert.OddFwdIdeal.τ).loc Cert.OddFwdIdeal.main_arg1)
      ∧ m' ((c.tc : Thread Cert.OddFwdRefIdeal.nD Cert.OddFwdRefIdeal.τ).loc Cert.OddFwdRefIdeal.main_arg2) = m ((c.tc : Thread Cert.OddFwdIdeal.nD Cert.OddFwdIdeal.τ).loc Cert.OddFwdIdeal.main_arg2)) →
    ∃ (v0 : (c : Dev Cert.OddFwdIdeal.nD) → Buf (Elt Ideal) ((c.tc : Thread Cert.OddFwdIdeal.nD Cert.OddFwdIdeal.τ).loc Cert.OddFwdIdeal.main_v0_0)) (v1 : (c : Dev Cert.OddFwdIdeal.nD) → Buf (Elt Ideal) ((c.tc : Thread Cert.OddFwdIdeal.nD Cert.OddFwdIdeal.τ).loc Cert.OddFwdIdeal.main_v0_1)),
      θ_run (Cert.OddFwdIdeal.defs (F := Ideal)) (onTc (τ := Cert.OddFwdIdeal.τ) (Cert.OddFwdIdeal.main (F := Ideal))) ⟨m, fun _ => 0, g⟩ (fun r => ∀ c : Dev Cert.OddFwdIdeal.nD,
          r.2.mem ((c.tc : Thread Cert.OddFwdIdeal.nD Cert.OddFwdIdeal.τ).loc Cert.OddFwdIdeal.main_v0_0) = v0 c
          ∧ r.2.mem ((c.tc : Thread Cert.OddFwdIdeal.nD Cert.OddFwdIdeal.τ).loc Cert.OddFwdIdeal.main_v0_1) = v1 c
          ∧ r.2.mem ((c.tc : Thread Cert.OddFwdIdeal.nD Cert.OddFwdIdeal.τ).loc Cert.OddFwdIdeal.main_arg0) = m ((c.tc : Thread Cert.OddFwdIdeal.nD Cert.OddFwdIdeal.τ).loc Cert.OddFwdIdeal.main_arg0)
          ∧ r.2.mem ((c.tc : Thread Cert.OddFwdIdeal.nD Cert.OddFwdIdeal.τ).loc Cert.OddFwdIdeal.main_arg1) = m ((c.tc : Thread Cert.OddFwdIdeal.nD Cert.OddFwdIdeal.τ).loc Cert.OddFwdIdeal.main_arg1)
          ∧ r.2.mem ((c.tc : Thread Cert.OddFwdIdeal.nD Cert.OddFwdIdeal.τ).loc Cert.OddFwdIdeal.main_arg2) = m ((c.tc : Thread Cert.OddFwdIdeal.nD Cert.OddFwdIdeal.τ).loc Cert.OddFwdIdeal.main_arg2))
      ∧ θ_run (Cert.OddFwdRefIdeal.defs (F := Ideal)) (onTc (τ := Cert.OddFwdRefIdeal.τ) (Cert.OddFwdRefIdeal.main (F := Ideal))) ⟨m', fun _ => 0, g'⟩ (fun r => ∀ c : Dev Cert.OddFwdRefIdeal.nD,
          r.2.mem ((c.tc : Thread Cert.OddFwdRefIdeal.nD Cert.OddFwdRefIdeal.τ).loc Cert.OddFwdRefIdeal.main_v15) = v0 c
          ∧ r.2.mem ((c.tc : Thread Cert.OddFwdRefIdeal.nD Cert.OddFwdRefIdeal.τ).loc Cert.OddFwdRefIdeal.main_v16) = v1 c
          ∧ r.2.mem ((c.tc : Thread Cert.OddFwdRefIdeal.nD Cert.OddFwdRefIdeal.τ).loc Cert.OddFwdRefIdeal.main_arg0) = m' ((c.tc : Thread Cert.OddFwdRefIdeal.nD Cert.OddFwdRefIdeal.τ).loc Cert.OddFwdRefIdeal.main_arg0)
          ∧ r.2.mem ((c.tc : Thread Cert.OddFwdRefIdeal.nD Cert.OddFwdRefIdeal.τ).loc Cert.OddFwdRefIdeal.main_arg1) = m' ((c.tc : Thread Cert.OddFwdRefIdeal.nD Cert.OddFwdRefIdeal.τ).loc Cert.OddFwdRefIdeal.main_arg1)
          ∧ r.2.mem ((c.tc : Thread Cert.OddFwdRefIdeal.nD Cert.OddFwdRefIdeal.τ).loc Cert.OddFwdRefIdeal.main_arg2) = m' ((c.tc : Thread Cert.OddFwdRefIdeal.nD Cert.OddFwdRefIdeal.τ).loc Cert.OddFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v0)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0) = v0 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v5) = v0 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)) →
    ∃ (v0 : (c : Dev Cert.OddOutIdeal.nD) → Buf (Elt Ideal) ((c.tc : Thread Cert.OddOutIdeal.nD Cert.OddOutIdeal.τ).loc Cert.OddOutIdeal.main_v0)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v0) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v3) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2))

def Claim : Prop :=
  ∃ (hKernel : Cert.Kernel.Facts) (hKernelIdeal : Cert.KernelIdeal.Facts) (hReferenceIdeal : Cert.ReferenceIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hDownDx0 : Cert.DownDx0.Facts) (hDownDx0Ideal : Cert.DownDx0Ideal.Facts) (hDownDx0RefIdeal : Cert.DownDx0RefIdeal.Facts) (hUpDx0 : Cert.UpDx0.Facts) (hUpDx0Ideal : Cert.UpDx0Ideal.Facts) (hUpDx0RefIdeal : Cert.UpDx0RefIdeal.Facts) (hUp1 : Cert.Up1.Facts) (hUp1Ideal : Cert.Up1Ideal.Facts) (hUp1RefIdeal : Cert.Up1RefIdeal.Facts) (hUp0 : Cert.Up0.Facts) (hUp0Ideal : Cert.Up0Ideal.Facts) (hUp0RefIdeal : Cert.Up0RefIdeal.Facts) (hDown0 : Cert.Down0.Facts) (hDown0Ideal : Cert.Down0Ideal.Facts) (hDown0RefIdeal : Cert.Down0RefIdeal.Facts) (hDown1 : Cert.Down1.Facts) (hDown1Ideal : Cert.Down1Ideal.Facts) (hDown1RefIdeal : Cert.Down1RefIdeal.Facts) (hInDw : Cert.InDw.Facts) (hInDwIdeal : Cert.InDwIdeal.Facts) (hInDwRefIdeal : Cert.InDwRefIdeal.Facts) (hOutDw : Cert.OutDw.Facts) (hOutDwIdeal : Cert.OutDwIdeal.Facts) (hOutDwRefIdeal : Cert.OutDwRefIdeal.Facts) (hInFwd : Cert.InFwd.Facts) (hInFwdIdeal : Cert.InFwdIdeal.Facts) (hInFwdRefIdeal : Cert.InFwdRefIdeal.Facts) (hInDx : Cert.InDx.Facts) (hInDxIdeal : Cert.InDxIdeal.Facts) (hInDxRefIdeal : Cert.InDxRefIdeal.Facts) (hOutDx : Cert.OutDx.Facts) (hOutDxIdeal : Cert.OutDxIdeal.Facts) (hOutDxRefIdeal : Cert.OutDxRefIdeal.Facts) (hOddDw : Cert.OddDw.Facts) (hOddDwIdeal : Cert.OddDwIdeal.Facts) (hOddDwRefIdeal : Cert.OddDwRefIdeal.Facts) (hOddDx : Cert.OddDx.Facts) (hOddDxIdeal : Cert.OddDxIdeal.Facts) (hOddDxRefIdeal : Cert.OddDxRefIdeal.Facts) (hOddOutDx : Cert.OddOutDx.Facts) (hOddOutDxIdeal : Cert.OddOutDxIdeal.Facts) (hOddOutDxRefIdeal : Cert.OddOutDxRefIdeal.Facts) (hOddFwd : Cert.OddFwd.Facts) (hOddFwdIdeal : Cert.OddFwdIdeal.Facts) (hOddFwdRefIdeal : Cert.OddFwdRefIdeal.Facts) (hOutFwd : Cert.OutFwd.Facts) (hOutFwdIdeal : Cert.OutFwdIdeal.Facts) (hOutFwdRefIdeal : Cert.OutFwdRefIdeal.Facts) (hOddOut : Cert.OddOut.Facts) (hOddOutIdeal : Cert.OddOutIdeal.Facts) (hOddOutRefIdeal : Cert.OddOutRefIdeal.Facts) (hPre_finite : Cert.Pre_finite.Facts) (hPre_up_finite : Cert.Pre_up_finite.Facts) (hPre_in_finite : Cert.Pre_in_finite.Facts) (hPre_odd_finite : Cert.Pre_odd_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxIdeal_pre_up_finite (hUpDxIdeal := hUpDxIdeal) (hPre_up_finite := hPre_up_finite)
    ∧ quiescent_UpDxRefIdeal (hUpDxRefIdeal := hUpDxRefIdeal)
    ∧ quiescent_UpDxRefIdeal_pre_up_finite (hUpDxRefIdeal := hUpDxRefIdeal) (hPre_up_finite := hPre_up_finite)
    ∧ quiescent_DownDx0 (hDownDx0 := hDownDx0)
    ∧ quiescent_DownDx0Ideal (hDownDx0Ideal := hDownDx0Ideal)
    ∧ quiescent_DownDx0RefIdeal (hDownDx0RefIdeal := hDownDx0RefIdeal)
    ∧ quiescent_UpDx0 (hUpDx0 := hUpDx0)
    ∧ quiescent_UpDx0Ideal (hUpDx0Ideal := hUpDx0Ideal)
    ∧ quiescent_UpDx0Ideal_pre_up_finite (hUpDx0Ideal := hUpDx0Ideal) (hPre_up_finite := hPre_up_finite)
    ∧ quiescent_UpDx0RefIdeal (hUpDx0RefIdeal := hUpDx0RefIdeal)
    ∧ quiescent_UpDx0RefIdeal_pre_up_finite (hUpDx0RefIdeal := hUpDx0RefIdeal) (hPre_up_finite := hPre_up_finite)
    ∧ quiescent_Up1 (hUp1 := hUp1)
    ∧ quiescent_Up1Ideal (hUp1Ideal := hUp1Ideal)
    ∧ quiescent_Up1RefIdeal (hUp1RefIdeal := hUp1RefIdeal)
    ∧ quiescent_Up0 (hUp0 := hUp0)
    ∧ quiescent_Up0Ideal (hUp0Ideal := hUp0Ideal)
    ∧ quiescent_Up0RefIdeal (hUp0RefIdeal := hUp0RefIdeal)
    ∧ quiescent_Down0 (hDown0 := hDown0)
    ∧ quiescent_Down0Ideal (hDown0Ideal := hDown0Ideal)
    ∧ quiescent_Down0RefIdeal (hDown0RefIdeal := hDown0RefIdeal)
    ∧ quiescent_Down1 (hDown1 := hDown1)
    ∧ quiescent_Down1Ideal (hDown1Ideal := hDown1Ideal)
    ∧ quiescent_Down1RefIdeal (hDown1RefIdeal := hDown1RefIdeal)
    ∧ quiescent_InDw (hInDw := hInDw)
    ∧ quiescent_InDwIdeal (hInDwIdeal := hInDwIdeal)
    ∧ quiescent_InDwRefIdeal (hInDwRefIdeal := hInDwRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_InDx (hInDx := hInDx)
    ∧ quiescent_InDxIdeal (hInDxIdeal := hInDxIdeal)
    ∧ quiescent_InDxIdeal_pre_in_finite (hInDxIdeal := hInDxIdeal) (hPre_in_finite := hPre_in_finite)
    ∧ quiescent_InDxRefIdeal (hInDxRefIdeal := hInDxRefIdeal)
    ∧ quiescent_InDxRefIdeal_pre_in_finite (hInDxRefIdeal := hInDxRefIdeal) (hPre_in_finite := hPre_in_finite)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_OddDw (hOddDw := hOddDw)
    ∧ quiescent_OddDwIdeal (hOddDwIdeal := hOddDwIdeal)
    ∧ quiescent_OddDwRefIdeal (hOddDwRefIdeal := hOddDwRefIdeal)
    ∧ quiescent_OddDx (hOddDx := hOddDx)
    ∧ quiescent_OddDxIdeal (hOddDxIdeal := hOddDxIdeal)
    ∧ quiescent_OddDxIdeal_pre_odd_finite (hOddDxIdeal := hOddDxIdeal) (hPre_odd_finite := hPre_odd_finite)
    ∧ quiescent_OddDxRefIdeal (hOddDxRefIdeal := hOddDxRefIdeal)
    ∧ quiescent_OddDxRefIdeal_pre_odd_finite (hOddDxRefIdeal := hOddDxRefIdeal) (hPre_odd_finite := hPre_odd_finite)
    ∧ quiescent_OddOutDx (hOddOutDx := hOddOutDx)
    ∧ quiescent_OddOutDxIdeal (hOddOutDxIdeal := hOddOutDxIdeal)
    ∧ quiescent_OddOutDxRefIdeal (hOddOutDxRefIdeal := hOddOutDxRefIdeal)
    ∧ quiescent_OddFwd (hOddFwd := hOddFwd)
    ∧ quiescent_OddFwdIdeal (hOddFwdIdeal := hOddFwdIdeal)
    ∧ quiescent_OddFwdRefIdeal (hOddFwdRefIdeal := hOddFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal_pre_up_finite (hUpDxIdeal := hUpDxIdeal) (hUpDxRefIdeal := hUpDxRefIdeal) (hPre_up_finite := hPre_up_finite)
    ∧ preserves_DownDx0_DownDx0Ideal
    ∧ algebraic_DownDx0Ideal_DownDx0RefIdeal (hDownDx0Ideal := hDownDx0Ideal) (hDownDx0RefIdeal := hDownDx0RefIdeal)
    ∧ preserves_UpDx0_UpDx0Ideal
    ∧ algebraic_UpDx0Ideal_UpDx0RefIdeal_pre_up_finite (hUpDx0Ideal := hUpDx0Ideal) (hUpDx0RefIdeal := hUpDx0RefIdeal) (hPre_up_finite := hPre_up_finite)
    ∧ preserves_Up1_Up1Ideal
    ∧ algebraic_Up1Ideal_Up1RefIdeal (hUp1Ideal := hUp1Ideal) (hUp1RefIdeal := hUp1RefIdeal)
    ∧ preserves_Up0_Up0Ideal
    ∧ algebraic_Up0Ideal_Up0RefIdeal (hUp0Ideal := hUp0Ideal) (hUp0RefIdeal := hUp0RefIdeal)
    ∧ preserves_Down0_Down0Ideal
    ∧ algebraic_Down0Ideal_Down0RefIdeal (hDown0Ideal := hDown0Ideal) (hDown0RefIdeal := hDown0RefIdeal)
    ∧ preserves_Down1_Down1Ideal
    ∧ algebraic_Down1Ideal_Down1RefIdeal (hDown1Ideal := hDown1Ideal) (hDown1RefIdeal := hDown1RefIdeal)
    ∧ preserves_InDw_InDwIdeal
    ∧ algebraic_InDwIdeal_InDwRefIdeal (hInDwIdeal := hInDwIdeal) (hInDwRefIdeal := hInDwRefIdeal)
    ∧ preserves_OutDw_OutDwIdeal
    ∧ algebraic_OutDwIdeal_OutDwRefIdeal (hOutDwIdeal := hOutDwIdeal) (hOutDwRefIdeal := hOutDwRefIdeal)
    ∧ preserves_InFwd_InFwdIdeal
    ∧ algebraic_InFwdIdeal_InFwdRefIdeal (hInFwdIdeal := hInFwdIdeal) (hInFwdRefIdeal := hInFwdRefIdeal)
    ∧ preserves_InDx_InDxIdeal
    ∧ algebraic_InDxIdeal_InDxRefIdeal_pre_in_finite (hInDxIdeal := hInDxIdeal) (hInDxRefIdeal := hInDxRefIdeal) (hPre_in_finite := hPre_in_finite)
    ∧ preserves_OutDx_OutDxIdeal
    ∧ algebraic_OutDxIdeal_OutDxRefIdeal (hOutDxIdeal := hOutDxIdeal) (hOutDxRefIdeal := hOutDxRefIdeal)
    ∧ preserves_OddDw_OddDwIdeal
    ∧ algebraic_OddDwIdeal_OddDwRefIdeal (hOddDwIdeal := hOddDwIdeal) (hOddDwRefIdeal := hOddDwRefIdeal)
    ∧ preserves_OddDx_OddDxIdeal
    ∧ algebraic_OddDxIdeal_OddDxRefIdeal_pre_odd_finite (hOddDxIdeal := hOddDxIdeal) (hOddDxRefIdeal := hOddDxRefIdeal) (hPre_odd_finite := hPre_odd_finite)
    ∧ preserves_OddOutDx_OddOutDxIdeal
    ∧ algebraic_OddOutDxIdeal_OddOutDxRefIdeal (hOddOutDxIdeal := hOddOutDxIdeal) (hOddOutDxRefIdeal := hOddOutDxRefIdeal)
    ∧ preserves_OddFwd_OddFwdIdeal
    ∧ algebraic_OddFwdIdeal_OddFwdRefIdeal (hOddFwdIdeal := hOddFwdIdeal) (hOddFwdRefIdeal := hOddFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_OddOut_OddOutIdeal
    ∧ algebraic_OddOutIdeal_OddOutRefIdeal (hOddOutIdeal := hOddOutIdeal) (hOddOutRefIdeal := hOddOutRefIdeal)
-- ==== Pre_finite.lean ====
abbrev S8192x1024 : Shape := ⟨2, ![8192, 1024]⟩
abbrev S8192x256 : Shape := ⟨2, ![8192, 256]⟩
abbrev S_ : Shape := ⟨0, ![]⟩

class Facts : Prop where
  bcast_S_S8192x1024 : S_.BroadcastsInDim S8192x1024 (![] : Fin 0 → Fin S8192x1024.rank)
  bcast_S_S8192x256 : S_.BroadcastsInDim S8192x256 (![] : Fin 0 → Fin S8192x256.rank)

variable [Facts]

def fn {F : FTy → Type} [FloatOps F] (main_arg0 : FVec F S8192x1024 .f32) (main_arg1 : FVec F S8192x256 .f32) (main_arg2 : FVec F S8192x256 .f32) (main_arg3 : FVec F S8192x1024 .f32) : IVec S8192x1024 1 × IVec S8192x256 1 × IVec S8192x256 1 × IVec S8192x1024 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S8192x256 .f32 := Host.absf main_arg1
  let main_cst_0 : FVec F S_ .f32 := constant S_ .f32 0x7F800000#32
  let main_v4 : FVec F S8192x256 .f32 := broadcastInDim S8192x256 ![] bcast_S_S8192x256 main_cst_0
  let main_v5 : IVec S8192x256 1 := cmpf .olt main_v3 main_v4
  let main_v6 : FVec F S8192x256 .f32 := Host.absf main_arg2
  let main_cst_1 : FVec F S_ .f32 := constant S_ .f32 0x7F800000#32
  let main_v7 : FVec F S8192x256 .f32 := broadcastInDim S8192x256 ![] bcast_S_S8192x256 main_cst_1
  let main_v8 : IVec S8192x256 1 := cmpf .olt main_v6 main_v7
  let main_v9 : FVec F S8192x1024 .f32 := Host.absf main_arg3
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  (main_v2, main_v5, main_v8, main_v11)
-- ==== Pre_in_finite.lean ====
abbrev S8192x4608 : Shape := ⟨2, ![8192, 4608]⟩
abbrev S1024x4608 : Shape := ⟨2, ![1024, 4608]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4608 : S_.BroadcastsInDim S8192x4608 (![] : Fin 0 → Fin S8192x4608.rank)
  bcast_S_S1024x4608 : S_.BroadcastsInDim S1024x4608 (![] : Fin 0 → Fin S1024x4608.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x4608 .bf16) (main_arg1 : FVec F S1024x4608 .bf16) (main_arg2 : FVec F S8192x1024 .f32) (main_arg3 : FVec F S1x1024 .f32) (main_arg4 : FVec F S8192x1024 .f32) : IVec S8192x4608 1 × IVec S1024x4608 1 × IVec S8192x1024 1 × IVec S1x1024 1 :=
  let main_v0 : FVec F S8192x4608 .f32 := (extf .f32 · bitsLt_bf16_f32) main_arg0
  let main_v1 : FVec F S8192x4608 .f32 := Host.absf main_v0
  let main_cst : FVec F S_ .f32 := constant S_ .f32 0x7F800000#32
  let main_v2 : FVec F S8192x4608 .f32 := broadcastInDim S8192x4608 ![] bcast_S_S8192x4608 main_cst
  let main_v3 : IVec S8192x4608 1 := cmpf .olt main_v1 main_v2
  let main_v4 : FVec F S1024x4608 .f32 := (extf .f32 · bitsLt_bf16_f32) main_arg1
  let main_v5 : FVec F S1024x4608 .f32 := Host.absf main_v4
  let main_cst_0 : FVec F S_ .f32 := constant S_ .f32 0x7F800000#32
  let main_v6 : FVec F S1024x4608 .f32 := broadcastInDim S1024x4608 ![] bcast_S_S1024x4608 main_cst_0
  let main_v7 : IVec S1024x4608 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_odd_finite.lean ====
abbrev S8192x1536 : Shape := ⟨2, ![8192, 1536]⟩
abbrev S1024x1536 : Shape := ⟨2, ![1024, 1536]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S1024x1536 : S_.BroadcastsInDim S1024x1536 (![] : Fin 0 → Fin S1024x1536.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x1536 .bf16) (main_arg1 : FVec F S1024x1536 .bf16) (main_arg2 : FVec F S8192x1024 .f32) (main_arg3 : FVec F S1x1024 .f32) (main_arg4 : FVec F S8192x1024 .f32) : IVec S8192x1536 1 × IVec S1024x1536 1 × IVec S8192x1024 1 × IVec S1x1024 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S1024x1536 .f32 := (extf .f32 · bitsLt_bf16_f32) main_arg1
  let main_v5 : FVec F S1024x1536 .f32 := Host.absf main_v4
  let main_cst_0 : FVec F S_ .f32 := constant S_ .f32 0x7F800000#32
  let main_v6 : FVec F S1024x1536 .f32 := broadcastInDim S1024x1536 ![] bcast_S_S1024x1536 main_cst_0
  let main_v7 : IVec S1024x1536 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Pre_up_finite.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x4096 : S_.BroadcastsInDim S8192x4096 (![] : Fin 0 → Fin S8192x4096.rank)
  bcast_S_S2x1024x4096 : S_.BroadcastsInDim S2x1024x4096 (![] : Fin 0 → Fin S2x1024x4096.rank)
  bcast_S_S8192x1024 : S_.BroadcastsInDim S8192x1024 (![] : Fin 0 → Fin S8192x1024.rank)
  bcast_S_S1x1024 : S_.BroadcastsInDim S1x1024 (![] : Fin 0 → Fin S1x1024.rank)

variable [Facts]

def fn {F : FTy → Type} [FloatOps F] (main_arg0 : FVec F S8192x4096 .bf16) (main_arg1 : FVec F S2x1024x4096 .bf16) (main_arg2 : FVec F S8192x1024 .f32) (main_arg3 : FVec F S1x1024 .f32) (main_arg4 : FVec F S8192x1024 .f32) : IVec S8192x4096 1 × IVec S2x1024x4096 1 × IVec S8192x1024 1 × IVec S1x1024 1 :=
  let main_v0 : FVec F S8192x4096 .f32 := (extf .f32 · bitsLt_bf16_f32) main_arg0
  let main_v1 : FVec F S8192x4096 .f32 := Host.absf main_v0
  let main_cst : FVec F S_ .f32 := constant S_ .f32 0x7F800000#32
  let main_v2 : FVec F S8192x4096 .f32 := broadcastInDim S8192x4096 ![] bcast_S_S8192x4096 main_cst
  let main_v3 : IVec S8192x4096 1 := cmpf .olt main_v1 main_v2
  let main_v4 : FVec F S2x1024x4096 .f32 := (extf .f32 · bitsLt_bf16_f32) main_arg1
  let main_v5 : FVec F S2x1024x4096 .f32 := Host.absf main_v4
  let main_cst_0 : FVec F S_ .f32 := constant S_ .f32 0x7F800000#32
  let main_v6 : FVec F S2x1024x4096 .f32 := broadcastInDim S2x1024x4096 ![] bcast_S_S2x1024x4096 main_cst_0
  let main_v7 : IVec S2x1024x4096 1 := cmpf .olt main_v5 main_v6
  let main_v8 : FVec F S8192x1024 .f32 := Host.absf main_arg2
  let main_cst_1 : FVec F S_ .f32 := constant S_ .f32 0x7F800000#32
  let main_v9 : FVec F S8192x1024 .f32 := broadcastInDim S8192x1024 ![] bcast_S_S8192x1024 main_cst_1
  let main_v10 : IVec S8192x1024 1 := cmpf .olt main_v8 main_v9
  let main_v11 : FVec F S1x1024 .f32 := Host.absf main_arg3
  let main_cst_2 : FVec F S_ .f32 := constant S_ .f32 0x7F800000#32
  let main_v12 : FVec F S1x1024 .f32 := broadcastInDim S1x1024 ![] bcast_S_S1x1024 main_cst_2
  let main_v13 : IVec S1x1024 1 := cmpf .olt main_v11 main_v12
  (main_v3, main_v7, main_v10, main_v13)
-- ==== Kernel.lean ====
abbrev S8192x1024 : Shape := ⟨2, ![8192, 1024]⟩
abbrev S8192x256 : Shape := ⟨2, ![8192, 256]⟩
abbrev S_ : Shape := ⟨0, ![]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S8x1x8192 : Shape := ⟨3, ![8, 1, 8192]⟩
abbrev S8x4x1x2048 : Shape := ⟨4, ![8, 4, 1, 2048]⟩
abbrev S256x8192 : Shape := ⟨2, ![256, 8192]⟩
abbrev S2x128x8192 : Shape := ⟨3, ![2, 128, 8192]⟩
abbrev S1024x8192 : Shape := ⟨2, ![1024, 8192]⟩
abbrev S512x128 : Shape := ⟨2, ![512, 128]⟩
abbrev S1x128x512 : Shape := ⟨3, ![1, 128, 512]⟩
abbrev S8192x128 : Shape := ⟨2, ![8192, 128]⟩
abbrev S1x4x1x2048 : Shape := ⟨4, ![1, 4, 1, 2048]⟩
abbrev S128x8192 : Shape := ⟨2, ![128, 8192]⟩
abbrev S4x1x2048 : Shape := ⟨3, ![4, 1, 2048]⟩
abbrev S2048x128 : Shape := ⟨2, ![2048, 128]⟩
abbrev S128x2048 : Shape := ⟨2, ![128, 2048]⟩
abbrev S2048 : Shape := ⟨1, ![2048]⟩
abbrev S1x2048 : Shape := ⟨2, ![1, 2048]⟩
abbrev S1x1x2048 : Shape := ⟨3, ![1, 1, 2048]⟩
abbrev S512x2048 : Shape := ⟨2, ![512, 2048]⟩
abbrev S1x1x1x2048 : Shape := ⟨4, ![1, 1, 1, 2048]⟩
abbrev S128x512 : Shape := ⟨2, ![128, 512]⟩

abbrev nBuf : Space → Nat
  | .hbm => 50
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S8192x2x4x128, .f32⟩
  | .hbm, ⟨9, _⟩ => ⟨S8192x2x128, .f32⟩
  | .hbm, ⟨10, _⟩ => ⟨S8192x2x128, .f32⟩
  | .hbm, ⟨11, _⟩ => ⟨S2x8192x8192x4, .f32⟩
  | .hbm, ⟨12, _⟩ => ⟨S2x4x8192x8192, .f32⟩
  | .hbm, ⟨13, _⟩ => ⟨S_, .f32⟩
  | .hbm, ⟨14, _⟩ => ⟨S2x4x8192x8192, .f32⟩
  | .hbm, ⟨15, _⟩ => ⟨S2x4x8192x8192, .f32⟩
  | .hbm, ⟨16, _⟩ => ⟨S_, .f32⟩
  | .hbm, ⟨17, _⟩ => ⟨S2x4x8192, .f32⟩
  | .hbm, ⟨18, _⟩ => ⟨S2x4x8192x1, .f32⟩
  | .hbm, ⟨19, _⟩ => ⟨S2x4x8192x8192, .f32⟩
  | .hbm, ⟨20, _⟩ => ⟨S2x4x8192x8192, .f32⟩
  | .hbm, ⟨21, _⟩ => ⟨S2x4x8192x8192, .f32⟩
  | .hbm, ⟨22, _⟩ => ⟨S_, .f32⟩
  | .hbm, ⟨23, _⟩ => ⟨S2x4x8192, .f32⟩
  | .hbm, ⟨24, _⟩ => ⟨S2x4x8192x1, .f32⟩
  | .hbm, ⟨25, _⟩ => ⟨S2x4x8192x8192, .f32⟩
  | .hbm, ⟨26, _⟩ => ⟨S2x4x8192x8192, .f32⟩
  | .hbm, ⟨27, _⟩ => ⟨S2x128x4x8192, .f32⟩
  | .hbm, ⟨28, _⟩ => ⟨S8192x2x4x128, .f32⟩
  | .hbm, ⟨29, _⟩ => ⟨S8192x1024, .f32⟩
  | .hbm, ⟨30, _⟩ => ⟨S2x4x8192x1, .f32⟩
  | .hbm, ⟨31, _⟩ => ⟨S2x4x8192x1, .f32⟩
  | .hbm, ⟨32, _⟩ => ⟨S2x4x8192x1, .f32⟩
  | .hbm, ⟨33, _⟩ => ⟨S2x4x8192x1, .f32⟩
  | .hbm, ⟨34, _⟩ => ⟨S8x1x8192, .f32⟩
  | .hbm, ⟨35, _⟩ => ⟨S_, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .bf16⟩
  | .hbm, ⟨40, _⟩ => ⟨S8192x256, .bf16⟩
  | .hbm, ⟨41, _⟩ => ⟨S8192x256, .bf16⟩
  | .hbm, ⟨42, _⟩ => ⟨S8192x1024, .bf16⟩
  | .hbm, ⟨43, _⟩ => ⟨S8192x1024, .bf16⟩
  | .hbm, ⟨44, _⟩ => ⟨S8x4x1x2048, .f32⟩
  | .hbm, ⟨45, _⟩ => ⟨S256x8192, .bf16⟩
  | .hbm, ⟨46, _⟩ => ⟨S2x128x8192, .bf16⟩
  | .hbm, ⟨47, _⟩ => ⟨S1024x8192, .f32⟩
  | .hbm, ⟨48, _⟩ => ⟨S8192x256, .f32⟩
  | .hbm, ⟨49, _⟩ => ⟨S8192x256, .f32⟩
  | .local _ .vmem, ⟨0, _⟩ => ⟨S512x128, .bf16⟩
  | .local _ .vmem, ⟨1, _⟩ => ⟨S512x128, .bf16⟩
  | .local _ .vmem, ⟨2, _⟩ => ⟨S1x128x512, .bf16⟩
  | .local _ .vmem, ⟨3, _⟩ => ⟨S1x128x512, .bf16⟩
  | .local _ .vmem, ⟨4, _⟩ => ⟨S512x128, .bf16⟩
  | .local _ .vmem, ⟨5, _⟩ => ⟨S512x128, .bf16⟩
  | .local _ .vmem, ⟨6, _⟩ => ⟨S8192x128, .bf16⟩
  | .local _ .vmem, ⟨7, _⟩ => ⟨S8192x128, .bf16⟩
  | .local _ .vmem, ⟨8, _⟩ => ⟨S8192x128, .bf16⟩
  | .local _ .vmem, ⟨9, _⟩ => ⟨S8192x128, .bf16⟩
  | .local _ .vmem, ⟨10, _⟩ => ⟨S8192x128, .bf16⟩
  | .local _ .vmem, ⟨11, _⟩ => ⟨S8192x128, .bf16⟩
  | .local _ .vmem, ⟨12, _⟩ => ⟨S1x4x1x2048, .f32⟩
  | .local _ .vmem, ⟨13, _⟩ => ⟨S1x4x1x2048, .f32⟩
  | .local _ .vmem, ⟨14, _⟩ => ⟨S128x8192, .f32⟩
  | .local _ .vmem, ⟨15, _⟩ => ⟨S128x8192, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S8192x128, .f32⟩
  | .local _ .vmem, ⟨20, _⟩ => ⟨S4x1x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37_0 : Ref sig .tc := ⟨.hbm, 47, rfl⟩
abbrev main_v37_1 : Ref sig .tc := ⟨.hbm, 48, rfl⟩
abbrev main_v37_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c0_i32_2 : BitVec 32 := 0#32
  let v5 : BitVec 1 := Scalar.cmpi .eq arg2 c0_i32_2
  let v6 : BitVec 32 := Scalar.extui v5
  let c0_i32_3 : BitVec 32 := 0#32
  let v7 : BitVec 1 := Scalar.cmpi .ne v6 c0_i32_3
  v7

@[reducible] def k0_t1_loop : Scf.Loop 32 :=
  let c0_i32_17 : BitVec 32 := 0#32
  let c4_i32_18 : BitVec 32 := 4#32
  let v33 : BitVec 32 := Scalar.addi c0_i32_17 c4_i32_18
  let c1_i32_19 : BitVec 32 := 1#32
  ⟨c0_i32_17, v33, c1_i32_19⟩
def k0_mult1 (k0_t1 : Fin k0_t1_loop.trips) : BitVec 32 :=
  let c0_i32_17 : BitVec 32 := 0#32
  let c1_i32_19 : BitVec 32 := 1#32
  let arg14 : BitVec 32 := Scf.iv c0_i32_17 c1_i32_19 k0_t1
  let c2048_i32 : BitVec 32 := 2048#32
  let v34 : BitVec 32 := Scalar.muli arg14 c2048_i32
  v34
def k0_off1 (k0_t1 : Fin k0_t1_loop.trips) : Fin 2 → Nat :=
  let c0_i32_17 : BitVec 32 := 0#32
  let c1_i32_19 : BitVec 32 := 1#32
  let arg14 : BitVec 32 := Scf.iv c0_i32_17 c1_i32_19 k0_t1
  let c2048_i32 : BitVec 32 := 2048#32
  let v34 : BitVec 32 := Scalar.muli arg14 c2048_i32
  let v35 : BitVec 32 := v34
  let v36 : Index := Scalar.indexCast v35
  let c0_21 : Index := 0#32
  ![v36.toNat, 0]
def k0_off2 (k0_t1 : Fin k0_t1_loop.trips) : Fin 3 → Nat :=
  let c0_i32_17 : BitVec 32 := 0#32
  let c1_i32_19 : BitVec 32 := 1#32
  let arg14 : BitVec 32 := Scf.iv c0_i32_17 c1_i32_19 k0_t1
  let v48 : Index := Scalar.indexCast arg14
  let c0_24 : Index := 0#32
  let c0_25 : Index := 0#32
  ![v48.toNat, 0, 0]
@[reducible] def k0_t2_loop : Scf.Loop 32 :=
  let c0_i32_7 : BitVec 32 := 0#32
  let c4_i32 : BitVec 32 := 4#32
  let v13 : BitVec 32 := Scalar.addi c0_i32_7 c4_i32
  let c1_i32 : BitVec 32 := 1#32
  ⟨c0_i32_7, v13, c1_i32⟩
def k0_mult2 (k0_t2 : Fin k0_t2_loop.trips) : BitVec 32 :=
  let c0_i32_7 : BitVec 32 := 0#32
  let c1_i32 : BitVec 32 := 1#32
  let arg14 : BitVec 32 := Scf.iv c0_i32_7 c1_i32 k0_t2
  let c2048_i32 : BitVec 32 := 2048#32
  let v31 : BitVec 32 := Scalar.muli arg14 c2048_i32
  v31
def k0_off3 (k0_t2 : Fin k0_t2_loop.trips) : Fin 2 → Nat :=
  let c0_i32_7 : BitVec 32 := 0#32
  let c1_i32 : BitVec 32 := 1#32
  let arg14 : BitVec 32 := Scf.iv c0_i32_7 c1_i32 k0_t2
  let c2048_i32 : BitVec 32 := 2048#32
  let v31 : BitVec 32 := Scalar.muli arg14 c2048_i32
  let v32 : BitVec 32 := v31
  let v33 : Index := Scalar.indexCast v32
  let c0_14 : Index := 0#32
  ![v33.toNat, 0]
def k0_off4 (k0_t2 : Fin k0_t2_loop.trips) : Fin 4 → Nat :=
  let c0_17 : Index := 0#32
  let c0_i32_7 : BitVec 32 := 0#32
  let c1_i32 : BitVec 32 := 1#32
  let arg14 : BitVec 32 := Scf.iv c0_i32_7 c1_i32 k0_t2
  let v40 : Index := Scalar.indexCast arg14
  let c0_18 : Index := 0#32
  let c0_19 : Index := 0#32
  ![0, v40.toNat, 0, 0]
def k0_off5 (k0_t2 : Fin k0_t2_loop.trips) : Fin 3 → Nat :=
  let c0_i32_7 : BitVec 32 := 0#32
  let c1_i32 : BitVec 32 := 1#32
  let arg14 : BitVec 32 := Scf.iv c0_i32_7 c1_i32 k0_t2
  let v47 : Index := Scalar.indexCast arg14
  let c0_21 : Index := 0#32
  let c0_22 : Index := 0#32
  ![v47.toNat, 0, 0]
def k0_off6 (k0_t2 : Fin k0_t2_loop.trips) : Fin 2 → Nat :=
  let c0_23 : Index := 0#32
  let c0_i32_7 : BitVec 32 := 0#32
  let c1_i32 : BitVec 32 := 1#32
  let arg14 : BitVec 32 := Scf.iv c0_i32_7 c1_i32 k0_t2
  let c2048_i32 : BitVec 32 := 2048#32
  let v31 : BitVec 32 := Scalar.muli arg14 c2048_i32
  let v32 : BitVec 32 := v31
  let v53 : Index := Scalar.indexCast v32
  ![0, v53.toNat]
def k0_mult3 (i : grid0.Coords) : BitVec 32 :=
  let arg2 : BitVec 32 := BitVec.ofNat 32 (i 2).val
  let c512_i32 : BitVec 32 := 512#32
  let v15 : BitVec 32 := Scalar.muli arg2 c512_i32
  v15
def k0_off7 (i : grid0.Coords) : Fin 2 → Nat :=
  let arg2 : BitVec 32 := BitVec.ofNat 32 (i 2).val
  let c512_i32 : BitVec 32 := 512#32
  let v15 : BitVec 32 := Scalar.muli arg2 c512_i32
  let v16 : BitVec 32 := v15
  let v17 : Index := Scalar.indexCast v16
  let c0_9 : Index := 0#32
  ![v17.toNat, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![c0_i32.toNat, v1.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S8192x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S8192x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S8192x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x4x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S128x8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S8192x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false, false]
-- ==== KernelIdeal.lean ====
variable {F : FTy → Type} [FloatOps F] [Named F]
def κ : String → Option EReal := fun
  | "ln2" => some ((Real.log 2 : ℝ) : EReal)
  | _ => none
-- ==== ReferenceIdeal.lean ====
abbrev S8192x1024 : Shape := ⟨2, ![8192, 1024]⟩
abbrev S8192x256 : Shape := ⟨2, ![8192, 256]⟩
abbrev S8192x2x4x128 : Shape := ⟨4, ![8192, 2, 4, 128]⟩
abbrev S8192x2x128 : Shape := ⟨3, ![8192, 2, 128]⟩
abbrev S2x8192x8192x4 : Shape := ⟨4, ![2, 8192, 8192, 4]⟩
abbrev S2x4x8192x8192 : Shape := ⟨4, ![2, 4, 8192, 8192]⟩
abbrev S_ : Shape := ⟨0, ![]⟩
abbrev S2x4x8192 : Shape := ⟨3, ![2, 4, 8192]⟩
abbrev S2x4x8192x1 : Shape := ⟨4, ![2, 4, 8192, 1]⟩
abbrev S2x128x4x8192 : Shape := ⟨4, ![2, 128, 4, 8192]⟩
abbrev S2x128x8192 : Shape := ⟨3, ![2, 128, 8192]⟩
abbrev S2x8192x4x128 : Shape := ⟨4, ![2, 8192, 4, 128]⟩
abbrev S2x8192x128 : Shape := ⟨3, ![2, 8192, 128]⟩
abbrev S1024x8192 : Shape := ⟨2, ![1024, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S8192x256, .f32⟩
  | .hbm, ⟨3, _⟩ => ⟨S8192x1024, .f32⟩
  | .hbm, ⟨4, _⟩ => ⟨S8192x2x4x128, .f32⟩
  | .hbm, ⟨5, _⟩ => ⟨S8192x2x128, .f32⟩
  | .hbm, ⟨6, _⟩ => ⟨S8192x2x128, .f32⟩
  | .hbm, ⟨7, _⟩ => ⟨S2x8192x8192x4, .f32⟩
  | .hbm, ⟨8, _⟩ => ⟨S2x4x8192x8192, .f32⟩
  | .hbm, ⟨9, _⟩ => ⟨S_, .f32⟩
  | .hbm, ⟨10, _⟩ => ⟨S2x4x8192x8192, .f32⟩
  | .hbm, ⟨11, _⟩ => ⟨S2x4x8192x8192, .f32⟩
  | .hbm, ⟨12, _⟩ => ⟨S_, .f32⟩
  | .hbm, ⟨13, _⟩ => ⟨S2x4x8192, .f32⟩
  | .hbm, ⟨14, _⟩ => ⟨S2x4x8192x1, .f32⟩
  | .hbm, ⟨15, _⟩ => ⟨S2x4x8192x8192, .f32⟩
  | .hbm, ⟨16, _⟩ => ⟨S2x4x8192x8192, .i1⟩
  | .hbm, ⟨17, _⟩ => ⟨S2x4x8192x8192, .f32⟩
  | .hbm, ⟨18, _⟩ => ⟨S_, .f32⟩
  | .hbm, ⟨19, _⟩ => ⟨S2x4x8192, .f32⟩
  | .hbm, ⟨20, _⟩ => ⟨S_, .f32⟩
  | .hbm, ⟨21, _⟩ => ⟨S2x4x8192, .f32⟩
  | .hbm, ⟨22, _⟩ => ⟨S2x4x8192, .f32⟩
  | .hbm, ⟨23, _⟩ => ⟨S_, .f32⟩
  | .hbm, ⟨24, _⟩ => ⟨S2x4x8192, .f32⟩
  | .hbm, ⟨25, _⟩ => ⟨S2x4x8192, .i1⟩
  | .hbm, ⟨26, _⟩ => ⟨S_, .f32⟩
  | .hbm, ⟨27, _⟩ => ⟨S2x4x8192, .f32⟩
  | .hbm, ⟨28, _⟩ => ⟨S2x4x8192, .i1⟩
  | .hbm, ⟨29, _⟩ => ⟨S_, .f32⟩
  | .hbm, ⟨30, _⟩ => ⟨S2x4x8192, .f32⟩
  | .hbm, ⟨31, _⟩ => ⟨S_, .f32⟩
  | .hbm, ⟨32, _⟩ => ⟨S2x4x8192, .f32⟩
  | .hbm, ⟨33, _⟩ => ⟨S_, .f32⟩
  | .hbm, ⟨34, _⟩ => ⟨S2x4x8192, .f32⟩
  | .hbm, ⟨35, _⟩ => ⟨S2x4x8192, .f32⟩
  | .hbm, ⟨36, _⟩ => ⟨S2x4x8192, .f32⟩
  | .hbm, ⟨37, _⟩ => ⟨S2x4x8192x1, .f32⟩
  | .hbm, ⟨38, _⟩ => ⟨S2x4x8192x8192, .f32⟩
  | .hbm, ⟨39, _⟩ => ⟨S2x4x8192x8192, .f32⟩
  | .hbm, ⟨40, _⟩ => ⟨S2x4x8192x8192, .f32⟩
  | .hbm, ⟨41, _⟩ => ⟨S_, .f32⟩
  | .hbm, ⟨42, _⟩ => ⟨S2x4x8192, .f32⟩
  | .hbm, ⟨43, _⟩ => ⟨S2x4x8192x1, .f32⟩
  | .hbm, ⟨44, _⟩ => ⟨S2x4x8192x8192, .f32⟩
  | .hbm, ⟨45, _⟩ => ⟨S2x4x8192x8192, .f32⟩
  | .hbm, ⟨46, _⟩ => ⟨S2x4x8192x1, .f32⟩
  | .hbm, ⟨47, _⟩ => ⟨S_, .f32⟩
  | .hbm, ⟨48, _⟩ => ⟨S2x4x8192x1, .f32⟩
  | .hbm, ⟨49, _⟩ => ⟨S2x4x8192x1, .f32⟩
  | .hbm, ⟨50, _⟩ => ⟨S2x128x4x8192, .f32⟩
  | .hbm, ⟨51, _⟩ => ⟨S8192x2x4x128, .f32⟩
  | .hbm, ⟨52, _⟩ => ⟨S8192x1024, .f32⟩
  | .hbm, ⟨53, _⟩ => ⟨S8192x2x4x128, .f32⟩
  | .hbm, ⟨54, _⟩ => ⟨S2x128x4x8192, .f32⟩
  | .hbm, ⟨55, _⟩ => ⟨S2x4x8192x8192, .f32⟩
  | .hbm, ⟨56, _⟩ => ⟨S2x128x8192, .f32⟩
  | .hbm, ⟨57, _⟩ => ⟨S8192x2x128, .f32⟩
  | .hbm, ⟨58, _⟩ => ⟨S2x4x8192x8192, .f32⟩
  | .hbm, ⟨59, _⟩ => ⟨S2x4x8192x8192, .f32⟩
  | .hbm, ⟨60, _⟩ => ⟨S2x4x8192x8192, .f32⟩
  | .hbm, ⟨61, _⟩ => ⟨S_, .f32⟩
  | .hbm, ⟨62, _⟩ => ⟨S2x4x8192, .f32⟩
  | .hbm, ⟨63, _⟩ => ⟨S2x4x8192x1, .f32⟩
  | .hbm, ⟨64, _⟩ => ⟨S2x4x8192x1, .f32⟩
  | .hbm, ⟨65, _⟩ => ⟨S2x4x8192x8192, .f32⟩
  | .hbm, ⟨66, _⟩ => ⟨S2x4x8192x8192, .f32⟩
  | .hbm, ⟨67, _⟩ => ⟨S_, .f32⟩
  | .hbm, ⟨68, _⟩ => ⟨S2x4x8192, .f32⟩
  | .hbm, ⟨69, _⟩ => ⟨S2x4x8192x8192, .f32⟩
  | .hbm, ⟨70, _⟩ => ⟨S2x4x8192x8192, .f32⟩
  | .hbm, ⟨71, _⟩ => ⟨S2x4x8192x8192, .f32⟩
  | .hbm, ⟨72, _⟩ => ⟨S_, .f32⟩
  | .hbm, ⟨73, _⟩ => ⟨S2x4x8192x8192, .f32⟩
  | .hbm, ⟨74, _⟩ => ⟨S2x4x8192x8192, .f32⟩
  | .hbm, ⟨75, _⟩ => ⟨S2x8192x8192x4, .f32⟩
  | .hbm, ⟨76, _⟩ => ⟨S2x8192x4x128, .f32⟩
  | .hbm, ⟨77, _⟩ => ⟨S8192x2x4x128, .f32⟩
  | .hbm, ⟨78, _⟩ => ⟨S2x8192x128, .f32⟩
  | .hbm, ⟨79, _⟩ => ⟨S8192x2x128, .f32⟩
  | .hbm, ⟨80, _⟩ => ⟨S8192x256, .f32⟩
  | .hbm, ⟨81, _⟩ => ⟨S8192x256, .f32⟩
  | .hbm, ⟨82, _⟩ => ⟨S8192x1024, .f32⟩
  | .hbm, ⟨83, _⟩ => ⟨S1024x8192, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_10 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_cst_11 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_12 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩

abbrev nD : Nat := 1
abbrev τ : Topo := Topo.v7x

variable {F : FTy → Type} [FloatOps F]
-- ==== DownDx.lean ====
abbrev S8192x1024 : Shape := ⟨2, ![8192, 1024]⟩
abbrev S2x4096x1024 : Shape := ⟨3, ![2, 4096, 1024]⟩
abbrev S8192x4096 : Shape := ⟨2, ![8192, 4096]⟩
abbrev S512x1024 : Shape := ⟨2, ![512, 1024]⟩
abbrev S1x4096x1024 : Shape := ⟨3, ![1, 4096, 1024]⟩
abbrev S512x4096 : Shape := ⟨2, ![512, 4096]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownDxRefIdeal.lean ====
abbrev S8192x1024 : Shape := ⟨2, ![8192, 1024]⟩
abbrev S2x4096x1024 : Shape := ⟨3, ![2, 4096, 1024]⟩
abbrev S8192x4096 : Shape := ⟨2, ![8192, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S8192x4096, .f32⟩
  | .hbm, ⟨4, _⟩ => ⟨S2x4096x1024, .f32⟩
  | .hbm, ⟨5, _⟩ => ⟨S1x4096x1024, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== DownDw.lean ====
abbrev S8192x4096 : Shape := ⟨2, ![8192, 4096]⟩
abbrev S8192x1024 : Shape := ⟨2, ![8192, 1024]⟩
abbrev S4096x1024 : Shape := ⟨2, ![4096, 1024]⟩
abbrev S1024x2048 : Shape := ⟨2, ![1024, 2048]⟩
abbrev S1024x1024 : Shape := ⟨2, ![1024, 1024]⟩
abbrev S2048x1024 : Shape := ⟨2, ![2048, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S4096x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond2 (i : grid0.Coords) : BitVec 1 :=
  let arg2 : BitVec 32 := BitVec.ofNat 32 (i 2).val
  let c7_i32 : BitVec 32 := 7#32
  let v16 : BitVec 1 := Scalar.cmpi .eq arg2 c7_i32
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S8192x4096 : Shape := ⟨2, ![8192, 4096]⟩
abbrev S8192x1024 : Shape := ⟨2, ![8192, 1024]⟩
abbrev S_ : Shape := ⟨0, ![]⟩
abbrev S4096x1024 : Shape := ⟨2, ![4096, 1024]⟩
abbrev S1024x4096 : Shape := ⟨2, ![1024, 4096]⟩

abbrev nBuf : Space → Nat
  | .hbm => 14
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .bf16⟩
  | .hbm, ⟨2, _⟩ => ⟨S_, .f32⟩
  | .hbm, ⟨3, _⟩ => ⟨S4096x1024, .f32⟩
  | .hbm, ⟨4, _⟩ => ⟨S8192x4096, .f32⟩
  | .hbm, ⟨5, _⟩ => ⟨S_, .f32⟩
  | .hbm, ⟨6, _⟩ => ⟨S8192x4096, .f32⟩
  | .hbm, ⟨7, _⟩ => ⟨S8192x4096, .f32⟩
  | .hbm, ⟨8, _⟩ => ⟨S8192x4096, .f32⟩
  | .hbm, ⟨9, _⟩ => ⟨S8192x1024, .f32⟩
  | .hbm, ⟨10, _⟩ => ⟨S8192x1024, .f32⟩
  | .hbm, ⟨11, _⟩ => ⟨S1024x4096, .f32⟩
  | .hbm, ⟨12, _⟩ => ⟨S4096x1024, .f32⟩
  | .hbm, ⟨13, _⟩ => ⟨S4096x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_call0_cst : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== UpDw.lean ====
abbrev S8192x1024 : Shape := ⟨2, ![8192, 1024]⟩
abbrev S8192x4096 : Shape := ⟨2, ![8192, 4096]⟩
abbrev S1024x4096 : Shape := ⟨2, ![1024, 4096]⟩
abbrev S1024x1024 : Shape := ⟨2, ![1024, 1024]⟩
abbrev S1024x2048 : Shape := ⟨2, ![1024, 2048]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S1024x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4096, .bf16⟩
  | .hbm, ⟨2, _⟩ => ⟨S_, .f32⟩
  | .hbm, ⟨3, _⟩ => ⟨S1024x4096, .f32⟩
  | .hbm, ⟨4, _⟩ => ⟨S8192x1024, .f32⟩
  | .hbm, ⟨5, _⟩ => ⟨S8192x4096, .f32⟩
  | .hbm, ⟨6, _⟩ => ⟨S8192x4096, .f32⟩
  | .hbm, ⟨7, _⟩ => ⟨S4096x1024, .f32⟩
  | .hbm, ⟨8, _⟩ => ⟨S1024x4096, .f32⟩
  | .hbm, ⟨9, _⟩ => ⟨S1024x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== UpDx.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S8x1024 : Shape := ⟨2, ![8, 1024]⟩
abbrev S512x4096 : Shape := ⟨2, ![512, 4096]⟩
abbrev S1x1024x4096 : Shape := ⟨3, ![1, 1024, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpDxRefIdeal.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S2x1024x4096, .f32⟩
  | .hbm, ⟨27, _⟩ => ⟨S1x1024x4096, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== DownDx0.lean ====
abbrev S8192x1024 : Shape := ⟨2, ![8192, 1024]⟩
abbrev S2x4096x1024 : Shape := ⟨3, ![2, 4096, 1024]⟩
abbrev S8192x4096 : Shape := ⟨2, ![8192, 4096]⟩
abbrev S512x1024 : Shape := ⟨2, ![512, 1024]⟩
abbrev S1x4096x1024 : Shape := ⟨3, ![1, 4096, 1024]⟩
abbrev S512x4096 : Shape := ⟨2, ![512, 4096]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S8192x4096, .bf16⟩
  | .local _ .vmem, ⟨0, _⟩ => ⟨S512x1024, .bf16⟩
  | .local _ .vmem, ⟨1, _⟩ => ⟨S512x1024, .bf16⟩
  | .local _ .vmem, ⟨2, _⟩ => ⟨S1x4096x1024, .bf16⟩
  | .local _ .vmem, ⟨3, _⟩ => ⟨S512x4096, .bf16⟩
  | .local _ .vmem, ⟨4, _⟩ => ⟨S512x4096, .bf16⟩
  | .local _ .vmem, ⟨5, _⟩ => ⟨S512x4096, .bf16⟩
  | .local _ .vmem, ⟨6, _⟩ => ⟨S512x4096, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownDx0RefIdeal.lean ====
abbrev S8192x1024 : Shape := ⟨2, ![8192, 1024]⟩
abbrev S2x4096x1024 : Shape := ⟨3, ![2, 4096, 1024]⟩
abbrev S8192x4096 : Shape := ⟨2, ![8192, 4096]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x4096x1024, .bf16⟩
  | .hbm, ⟨2, _⟩ => ⟨S8192x4096, .bf16⟩
  | .hbm, ⟨3, _⟩ => ⟨S8192x4096, .f32⟩
  | .hbm, ⟨4, _⟩ => ⟨S2x4096x1024, .f32⟩
  | .hbm, ⟨5, _⟩ => ⟨S1x4096x1024, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .i1⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x4096, .f32⟩
  | .hbm, ⟨22, _⟩ => ⟨S8192x4096, .f32⟩
  | .hbm, ⟨23, _⟩ => ⟨S_, .f32⟩
  | .hbm, ⟨24, _⟩ => ⟨S8192x4096, .f32⟩
  | .hbm, ⟨25, _⟩ => ⟨S8192x4096, .f32⟩
  | .hbm, ⟨26, _⟩ => ⟨S8192x4096, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== UpDx0.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S8x1024 : Shape := ⟨2, ![8, 1024]⟩
abbrev S512x4096 : Shape := ⟨2, ![512, 4096]⟩
abbrev S1x1024x4096 : Shape := ⟨3, ![1, 1024, 4096]⟩
abbrev S512x1024 : Shape := ⟨2, ![512, 1024]⟩
abbrev S1024x4096 : Shape := ⟨2, ![1024, 4096]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S512x4096, .bf16⟩
  | .local _ .vmem, ⟨1, _⟩ => ⟨S512x4096, .bf16⟩
  | .local _ .vmem, ⟨2, _⟩ => ⟨S1x1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpDx0RefIdeal.lean ====
abbrev S8192x4096 : Shape := ⟨2, ![8192, 4096]⟩
abbrev S2x1024x4096 : Shape := ⟨3, ![2, 1024, 4096]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩

abbrev nBuf : Space → Nat
  | .hbm => 60
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x1024x4096, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S2x1024x4096, .f32⟩
  | .hbm, ⟨27, _⟩ => ⟨S1x1024x4096, .f32⟩
  | .hbm, ⟨28, _⟩ => ⟨S1024x4096, .f32⟩
  | .hbm, ⟨29, _⟩ => ⟨S8192x4096, .f32⟩
  | .hbm, ⟨30, _⟩ => ⟨S8192x4096, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S1x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S8192x1024, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_cst_5 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Up1.lean ====
abbrev S8192x1024 : Shape := ⟨2, ![8192, 1024]⟩
abbrev S1x1024 : Shape := ⟨2, ![1, 1024]⟩
abbrev S2x1024x4096 : Shape := ⟨3, ![2, 1024, 4096]⟩
abbrev S8192x4096 : Shape := ⟨2, ![8192, 4096]⟩
abbrev S512x1024 : Shape := ⟨2, ![512, 1024]⟩
abbrev S1x1024x4096 : Shape := ⟨3, ![1, 1024, 4096]⟩
abbrev S512x4096 : Shape := ⟨2, ![512, 4096]⟩
abbrev S512 : Shape := ⟨1, ![512]⟩
abbrev S512x1 : Shape := ⟨2, ![512, 1]⟩
abbrev S1024x4096 : Shape := ⟨2, ![1024, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S8192x4096, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Up1RefIdeal.lean ====
abbrev S8192x1024 : Shape := ⟨2, ![8192, 1024]⟩
abbrev S1x1024 : Shape := ⟨2, ![1, 1024]⟩
abbrev S2x1024x4096 : Shape := ⟨3, ![2, 1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S2x1024x4096, .f32⟩
  | .hbm, ⟨21, _⟩ => ⟨S1x1024x4096, .f32⟩
  | .hbm, ⟨22, _⟩ => ⟨S1024x4096, .f32⟩
  | .hbm, ⟨23, _⟩ => ⟨S8192x4096, .f32⟩
  | .hbm, ⟨24, _⟩ => ⟨S8192x4096, .bf16⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Up0.lean ====
abbrev S8192x1024 : Shape := ⟨2, ![8192, 1024]⟩
abbrev S1x1024 : Shape := ⟨2, ![1, 1024]⟩
abbrev S2x1024x4096 : Shape := ⟨3, ![2, 1024, 4096]⟩
abbrev S8192x4096 : Shape := ⟨2, ![8192, 4096]⟩
abbrev S512x1024 : Shape := ⟨2, ![512, 1024]⟩
abbrev S1x1024x4096 : Shape := ⟨3, ![1, 1024, 4096]⟩
abbrev S512x4096 : Shape := ⟨2, ![512, 4096]⟩
abbrev S512 : Shape := ⟨1, ![512]⟩
abbrev S512x1 : Shape := ⟨2, ![512, 1]⟩
abbrev S1024x4096 : Shape := ⟨2, ![1024, 4096]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S8192x4096, .bf16⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024x4096, .bf16⟩
  | .local _ .vmem, ⟨4, _⟩ => ⟨S512x4096, .bf16⟩
  | .local _ .vmem, ⟨5, _⟩ => ⟨S512x4096, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Up0RefIdeal.lean ====
abbrev S8192x1024 : Shape := ⟨2, ![8192, 1024]⟩
abbrev S1x1024 : Shape := ⟨2, ![1, 1024]⟩
abbrev S2x1024x4096 : Shape := ⟨3, ![2, 1024, 4096]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S2x1024x4096, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S2x1024x4096, .f32⟩
  | .hbm, ⟨21, _⟩ => ⟨S1x1024x4096, .f32⟩
  | .hbm, ⟨22, _⟩ => ⟨S1024x4096, .f32⟩
  | .hbm, ⟨23, _⟩ => ⟨S8192x4096, .f32⟩
  | .hbm, ⟨24, _⟩ => ⟨S8192x4096, .bf16⟩
  | .hbm, ⟨25, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== Down0.lean ====
abbrev S8192x4096 : Shape := ⟨2, ![8192, 4096]⟩
abbrev S2x4096x1024 : Shape := ⟨3, ![2, 4096, 1024]⟩
abbrev S8192x1024 : Shape := ⟨2, ![8192, 1024]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S8192x1024, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Down0RefIdeal.lean ====
abbrev S8192x4096 : Shape := ⟨2, ![8192, 4096]⟩
abbrev S2x4096x1024 : Shape := ⟨3, ![2, 4096, 1024]⟩
abbrev S8192x1024 : Shape := ⟨2, ![8192, 1024]⟩
abbrev S1x4096x1024 : Shape := ⟨3, ![1, 4096, 1024]⟩
abbrev S4096x1024 : Shape := ⟨2, ![4096, 1024]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S8192x4096, .f32⟩
  | .hbm, ⟨4, _⟩ => ⟨S2x4096x1024, .f32⟩
  | .hbm, ⟨5, _⟩ => ⟨S1x4096x1024, .f32⟩
  | .hbm, ⟨6, _⟩ => ⟨S4096x1024, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x1024, .f32⟩
  | .hbm, ⟨12, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Down1.lean ====
abbrev S8192x4096 : Shape := ⟨2, ![8192, 4096]⟩
abbrev S2x4096x1024 : Shape := ⟨3, ![2, 4096, 1024]⟩
abbrev S8192x1024 : Shape := ⟨2, ![8192, 1024]⟩
abbrev S8x1024 : Shape := ⟨2, ![8, 1024]⟩
abbrev S512x4096 : Shape := ⟨2, ![512, 4096]⟩
abbrev S1x4096x1024 : Shape := ⟨3, ![1, 4096, 1024]⟩
abbrev S512x1024 : Shape := ⟨2, ![512, 1024]⟩
abbrev S4096x1024 : Shape := ⟨2, ![4096, 1024]⟩
abbrev S64x8x1024 : Shape := ⟨3, ![64, 8, 1024]⟩
abbrev S_ : Shape := ⟨0, ![]⟩

abbrev nBuf : Space → Nat
  | .hbm => 11
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S8192x1024, .bf16⟩
  | .hbm, ⟨6, _⟩ => ⟨S8x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S1x4096x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S8x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Down1RefIdeal.lean ====
abbrev S8192x4096 : Shape := ⟨2, ![8192, 4096]⟩
abbrev S2x4096x1024 : Shape := ⟨3, ![2, 4096, 1024]⟩
abbrev S8192x1024 : Shape := ⟨2, ![8192, 1024]⟩
abbrev S1x4096x1024 : Shape := ⟨3, ![1, 4096, 1024]⟩
abbrev S4096x1024 : Shape := ⟨2, ![4096, 1024]⟩
abbrev S_ : Shape := ⟨0, ![]⟩
abbrev S8192 : Shape := ⟨1, ![8192]⟩

abbrev nBuf : Space → Nat
  | .hbm => 38
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x1024, .bf16⟩
  | .hbm, ⟨2, _⟩ => ⟨S8192x1024, .f32⟩
  | .hbm, ⟨3, _⟩ => ⟨S8192x1024, .f32⟩
  | .hbm, ⟨4, _⟩ => ⟨S8192x4096, .f32⟩
  | .hbm, ⟨5, _⟩ => ⟨S2x4096x1024, .f32⟩
  | .hbm, ⟨6, _⟩ => ⟨S1x4096x1024, .f32⟩
  | .hbm, ⟨7, _⟩ => ⟨S4096x1024, .f32⟩
  | .hbm, ⟨8, _⟩ => ⟨S_, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S_, .f32⟩
  | .hbm, ⟨22, _⟩ => ⟨S8192, .f32⟩
  | .hbm, ⟨23, _⟩ => ⟨S8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x1024, .f32⟩
  | .hbm, ⟨36, _⟩ => ⟨S8192x1024, .f32⟩
  | .hbm, ⟨37, _⟩ => ⟨S8192x1024, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_cst_4 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== InDw.lean ====
abbrev S8192x1024 : Shape := ⟨2, ![8192, 1024]⟩
abbrev S8192x4608 : Shape := ⟨2, ![8192, 4608]⟩
abbrev S1024x4608 : Shape := ⟨2, ![1024, 4608]⟩
abbrev S1024x1024 : Shape := ⟨2, ![1024, 1024]⟩
abbrev S1024x2304 : Shape := ⟨2, ![1024, 2304]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S1024x4608, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2304, .bf16⟩
  | .local _ .vmem, ⟨3, _⟩ => ⟨S1024x2304, .bf16⟩
  | .local _ .vmem, ⟨4, _⟩ => ⟨S1024x2304, .bf16⟩
  | .local _ .vmem, ⟨5, _⟩ => ⟨S1024x2304, .bf16⟩
  | .local _ .vmem, ⟨6, _⟩ => ⟨S1024x2304, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2304 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2304 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InDwRefIdeal.lean ====
abbrev S8192x1024 : Shape := ⟨2, ![8192, 1024]⟩
abbrev S8192x4608 : Shape := ⟨2, ![8192, 4608]⟩
abbrev S_ : Shape := ⟨0, ![]⟩
abbrev S1024x4608 : Shape := ⟨2, ![1024, 4608]⟩
abbrev S4608x1024 : Shape := ⟨2, ![4608, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x4608, .bf16⟩
  | .hbm, ⟨2, _⟩ => ⟨S_, .f32⟩
  | .hbm, ⟨3, _⟩ => ⟨S1024x4608, .f32⟩
  | .hbm, ⟨4, _⟩ => ⟨S8192x1024, .f32⟩
  | .hbm, ⟨5, _⟩ => ⟨S8192x4608, .f32⟩
  | .hbm, ⟨6, _⟩ => ⟨S8192x4608, .f32⟩
  | .hbm, ⟨7, _⟩ => ⟨S4608x1024, .f32⟩
  | .hbm, ⟨8, _⟩ => ⟨S1024x4608, .f32⟩
  | .hbm, ⟨9, _⟩ => ⟨S1024x4608, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S8192x1024 : Shape := ⟨2, ![8192, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OutDwRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== InFwd.lean ====
abbrev S8192x1024 : Shape := ⟨2, ![8192, 1024]⟩
abbrev S1x1024 : Shape := ⟨2, ![1, 1024]⟩
abbrev S1024x4608 : Shape := ⟨2, ![1024, 4608]⟩
abbrev S8192x4608 : Shape := ⟨2, ![8192, 4608]⟩
abbrev S512x1024 : Shape := ⟨2, ![512, 1024]⟩
abbrev S512x4608 : Shape := ⟨2, ![512, 4608]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .bf16⟩
  | .hbm, ⟨3, _⟩ => ⟨S8192x4608, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4608, .bf16⟩
  | .local _ .vmem, ⟨4, _⟩ => ⟨S512x4608, .f32⟩
  | .local _ .vmem, ⟨5, _⟩ => ⟨S512x4608, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x4608 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S512x4608 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== InFwdRefIdeal.lean ====
abbrev S8192x1024 : Shape := ⟨2, ![8192, 1024]⟩
abbrev S1x1024 : Shape := ⟨2, ![1, 1024]⟩
abbrev S1024x4608 : Shape := ⟨2, ![1024, 4608]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x4608 : Shape := ⟨2, ![8192, 4608]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x4608, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x4608, .f32⟩
  | .hbm, ⟨21, _⟩ => ⟨S8192x4608, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== InDx.lean ====
abbrev S8192x4608 : Shape := ⟨2, ![8192, 4608]⟩
abbrev S1024x4608 : Shape := ⟨2, ![1024, 4608]⟩
abbrev S8192x1024 : Shape := ⟨2, ![8192, 1024]⟩
abbrev S1x1024 : Shape := ⟨2, ![1, 1024]⟩
abbrev S8x1024 : Shape := ⟨2, ![8, 1024]⟩
abbrev S512x4608 : Shape := ⟨2, ![512, 4608]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S512x4608, .bf16⟩
  | .local _ .vmem, ⟨1, _⟩ => ⟨S512x4608, .bf16⟩
  | .local _ .vmem, ⟨2, _⟩ => ⟨S1024x4608, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4608 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S8192x4608 : Shape := ⟨2, ![8192, 4608]⟩
abbrev S1024x4608 : Shape := ⟨2, ![1024, 4608]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x4608, .bf16⟩
  | .hbm, ⟨1, _⟩ => ⟨S1024x4608, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x4608, .f32⟩
  | .hbm, ⟨27, _⟩ => ⟨S8192x4608, .f32⟩
  | .hbm, ⟨28, _⟩ => ⟨S8192x4608, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x4608, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== OutDx.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S2048x1024, .bf16⟩
  | .local _ .vmem, ⟨3, _⟩ => ⟨S1024x2048, .f32⟩
  | .local _ .vmem, ⟨4, _⟩ => ⟨S1024x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OutDxRefIdeal.lean ====
abbrev S8192x1024 : Shape := ⟨2, ![8192, 1024]⟩
abbrev S2048x1024 : Shape := ⟨2, ![2048, 1024]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x1024, .f32⟩
  | .hbm, ⟨7, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OddDw.lean ====
abbrev S8192x1024 : Shape := ⟨2, ![8192, 1024]⟩
abbrev S8192x1536 : Shape := ⟨2, ![8192, 1536]⟩
abbrev S1024x1536 : Shape := ⟨2, ![1024, 1536]⟩
abbrev S1024x1024 : Shape := ⟨2, ![1024, 1024]⟩
abbrev S1024x768 : Shape := ⟨2, ![1024, 768]⟩

abbrev nBuf : Space → Nat
  | .hbm => 3
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S1024x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x768, .bf16⟩
  | .local _ .vmem, ⟨3, _⟩ => ⟨S1024x768, .bf16⟩
  | .local _ .vmem, ⟨4, _⟩ => ⟨S1024x768, .bf16⟩
  | .local _ .vmem, ⟨5, _⟩ => ⟨S1024x768, .bf16⟩
  | .local _ .vmem, ⟨6, _⟩ => ⟨S1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OddDwRefIdeal.lean ====
abbrev S8192x1024 : Shape := ⟨2, ![8192, 1024]⟩
abbrev S8192x1536 : Shape := ⟨2, ![8192, 1536]⟩
abbrev S_ : Shape := ⟨0, ![]⟩
abbrev S1024x1536 : Shape := ⟨2, ![1024, 1536]⟩
abbrev S1536x1024 : Shape := ⟨2, ![1536, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1536, .bf16⟩
  | .hbm, ⟨2, _⟩ => ⟨S_, .f32⟩
  | .hbm, ⟨3, _⟩ => ⟨S1024x1536, .f32⟩
  | .hbm, ⟨4, _⟩ => ⟨S8192x1024, .f32⟩
  | .hbm, ⟨5, _⟩ => ⟨S8192x1536, .f32⟩
  | .hbm, ⟨6, _⟩ => ⟨S8192x1536, .f32⟩
  | .hbm, ⟨7, _⟩ => ⟨S1536x1024, .f32⟩
  | .hbm, ⟨8, _⟩ => ⟨S1024x1536, .f32⟩
  | .hbm, ⟨9, _⟩ => ⟨S1024x1536, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OddDx.lean ====
abbrev S8192x1536 : Shape := ⟨2, ![8192, 1536]⟩
abbrev S1024x1536 : Shape := ⟨2, ![1024, 1536]⟩
abbrev S8192x1024 : Shape := ⟨2, ![8192, 1024]⟩
abbrev S1x1024 : Shape := ⟨2, ![1, 1024]⟩
abbrev S8x1024 : Shape := ⟨2, ![8, 1024]⟩
abbrev S512x1536 : Shape := ⟨2, ![512, 1536]⟩
abbrev S512x1024 : Shape := ⟨2, ![512, 1024]⟩
abbrev S512 : Shape := ⟨1, ![512]⟩
abbrev S512x1 : Shape := ⟨2, ![512, 1]⟩
abbrev S64x8x1024 : Shape := ⟨3, ![64, 8, 1024]⟩
abbrev S_ : Shape := ⟨0, ![]⟩
abbrev S1024 : Shape := ⟨1, ![1024]⟩

abbrev nBuf : Space → Nat
  | .hbm => 10
  | .vmem => 13
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | .hbm, ⟨7, _⟩ => ⟨S8x1024, .f32⟩
  | .hbm, ⟨8, _⟩ => ⟨S_, .f32⟩
  | .hbm, ⟨9, _⟩ => ⟨S1024, .f32⟩
  | .local _ .vmem, ⟨0, _⟩ => ⟨S512x1536, .bf16⟩
  | .local _ .vmem, ⟨1, _⟩ => ⟨S512x1536, .bf16⟩
  | .local _ .vmem, ⟨2, _⟩ => ⟨S1024x1536, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S8x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_cst : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== OddDxRefIdeal.lean ====
abbrev S8192x1536 : Shape := ⟨2, ![8192, 1536]⟩
abbrev S1024x1536 : Shape := ⟨2, ![1024, 1536]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 58
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S1024x1536, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S1024x1536, .f32⟩
  | .hbm, ⟨27, _⟩ => ⟨S8192x1536, .f32⟩
  | .hbm, ⟨28, _⟩ => ⟨S8192x1536, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1, .f32⟩
  | .hbm, ⟨45, _⟩ => ⟨S_, .f32⟩
  | .hbm, ⟨46, _⟩ => ⟨S8192x1, .f32⟩
  | .hbm, ⟨47, _⟩ => ⟨S8192x1, .f32⟩
  | .hbm, ⟨48, _⟩ => ⟨S_, .f32⟩
  | .hbm, ⟨49, _⟩ => ⟨S8192, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .bf16⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== OddOutDx.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OddOutDxRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OddFwd.lean ====
abbrev S8192x1024 : Shape := ⟨2, ![8192, 1024]⟩
abbrev S1x1024 : Shape := ⟨2, ![1, 1024]⟩
abbrev S1024x1536 : Shape := ⟨2, ![1024, 1536]⟩
abbrev S8192x1536 : Shape := ⟨2, ![8192, 1536]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S8192x1536, .f32⟩
  | .hbm, ⟨4, _⟩ => ⟨S8192x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S1024x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== OddFwdRefIdeal.lean ====
abbrev S8192x1024 : Shape := ⟨2, ![8192, 1024]⟩
abbrev S1x1024 : Shape := ⟨2, ![1, 1024]⟩
abbrev S1024x1536 : Shape := ⟨2, ![1024, 1536]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x1536 : Shape := ⟨2, ![8192, 1536]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x1536, .bf16⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S1024x1536, .f32⟩
  | .hbm, ⟨21, _⟩ => ⟨S8192x1536, .f32⟩
  | .hbm, ⟨22, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== OutFwd.lean ====
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x1024, .bf16⟩
  | .hbm, ⟨3, _⟩ => ⟨S8192x1024, .f32⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutFwdRefIdeal.lean ====
abbrev S8192x1024 : Shape := ⟨2, ![8192, 1024]⟩
abbrev S2048x1024 : Shape := ⟨2, ![2048, 1024]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2048x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== OddOut.lean ====
abbrev S8192x1024 : Shape := ⟨2, ![8192, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== OddOutRefIdeal.lean ====
abbrev S8192x1024 : Shape := ⟨2, ![8192, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Proof.Bwd.Over.lean ====
/-
  Case analysis of the backward kernel's body, first piece: once the first loop has run, the scratch of row sums is
  written over whole, so that what it held before is not read. Stated so that a run of the body can forget it.
-/
module
public import proofs.«01_k».proof.Proof.Gen.KernelIdeal.Frame.Runs
@[expose] public section
set_option maxRecDepth 16384
noncomputable section
namespace Cert.KernelIdeal.Bwd
open Cert.KernelIdeal Cert.KernelIdeal.Gen Idealize.ShloMosaic Idealize.ShloMosaic.TcCoe Idealize.ShloMosaic.Tactic
open Idealize.SL.Sem

variable {F : FTy → Type} [FloatOps F] [Named F]

/-- Where the pieces cover a whole buffer, what it held before them is not read. -/
theorem writes_over_junk {κ : Kind} {sp : Space} {s : Shape} {e : EltTy} {a : Memref sig κ sp s e} (hw : a.IsWhole)
    (f : a.view.ty.Contents (Elt F)) (L : List (View.Piece (Elt F) s e)) (hc : ∀ y, ∃ pc ∈ L, y ∈ pc.1.set) :
    a.view.writes (Elt F) f L = a.view.writes (Elt F) a.view.junk L := by
  obtain ⟨b, rfl, rfl, rfl, h⟩ := hw; cases h
  funext y
  exact View.read_writes_apply_eq (View.whole b) f (View.whole b) (View.whole b).junk y L (hc y)

/-- The four trips of the first loop cover the scratch. -/
theorem rows_cover (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc1 : cond0_1 i)
    (X7 : BufTy.Contents (Elt F) arg7.view.ty) (X8 : BufTy.Contents (Elt F) arg8.view.ty) (y : S4x1x2048.Idx) :
    ∃ pc ∈ pb_k0_t1 (F := F) Variants.none c none i arg3 harg3 arg4 harg4 arg5 harg5 arg6 harg6 arg7 harg7 arg8 harg8 arg9 harg9 arg10 harg10 arg11 harg11 arg12 harg12 arg13 harg13 hc1 X7 X8 (Scf.trips k0_t1_loop.lb k0_t1_loop.ub k0_t1_loop.st), y ∈ pc.1.set :=
  View.cover_of_tiledL (pb_k0_t1 (F := F) Variants.none c none i arg3 harg3 arg4 harg4 arg5 harg5 arg6 harg6 arg7 harg7 arg8 harg8 arg9 harg9 arg10 harg10 arg11 harg11 arg12 harg12 arg13 harg13 hc1 X7 X8 (Scf.trips k0_t1_loop.lb k0_t1_loop.ub k0_t1_loop.st)) S1x1x2048.size (by sl_kernel_rfl) y

/-- So the row sums sit over any contents alike. -/
theorem rows_over_junk (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc1 : cond0_1 i)
    (X7 : BufTy.Contents (Elt F) arg7.view.ty) (X8 : BufTy.Contents (Elt F) arg8.view.ty) (f : BufTy.Contents (Elt F) arg13.view.ty) :
    arg13.view.writes (Elt F) f (pb_k0_t1 (F := F) Variants.none c none i arg3 harg3 arg4 harg4 arg5 harg5 arg6 harg6 arg7 harg7 arg8 harg8 arg9 harg9 arg10 harg10 arg11 harg11 arg12 harg12 arg13 harg13 hc1 X7 X8 (Scf.trips k0_t1_loop.lb k0_t1_loop.ub k0_t1_loop.st))
      = arg13.view.writes (Elt F) arg13.view.junk (pb_k0_t1 (F := F) Variants.none c none i arg3 harg3 arg4 harg4 arg5 harg5 arg6 harg6 arg7 harg7 arg8 harg8 arg9 harg9 arg10 harg10 arg11 harg11 arg12 harg12 arg13 harg13 hc1 X7 X8 (Scf.trips k0_t1_loop.lb k0_t1_loop.ub k0_t1_loop.st)) :=
  writes_over_junk harg13 f _ (rows_cover c i arg3 harg3 arg4 harg4 arg5 harg5 arg6 harg6 arg7 harg7 arg8 harg8 arg9 harg9 arg10 harg10 arg11 harg11 arg12 harg12 arg13 harg13 hc1 X7 X8)
end Cert.KernelIdeal.Bwd
end
-- ==== Proof.Bwd.RunA.lean ====
/-
  The backward kernel's body, run at the points where a group of heads begins (all three results start at zero, the row sums are formed).
  What each buffer ends with is found by the run, as a list of pieces.
-/
module

public import proofs.«01_k».proof.Proof.Bwd.Over

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE A (`scf.if` 0 taken, `scf.if` 1 taken: points 0, 64), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_A (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : cond0_0 i) (hc1 : cond0_1 i)
    (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32) :
    Σ' (L7 : List (View.Piece (Elt F) S128x8192 .f32)), Σ' (L8 : List (View.Piece (Elt F) S8192x128 .f32)), Σ' (L9 : List (View.Piece (Elt F) S8192x128 .f32)), { LS0 : List (View.Piece (Elt F) S4x1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f LS0)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_flash_bwd_eq_skeleton]; unfold cc0_flash_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    -- up to the second loop; there the scratch, written over whole, is restated over nothing
    set_option sl_exec.maxSteps 12 in sl_exec (disch := first | sl_exact hc0 | sl_exact hc1)
    rw [rows_over_junk c i arg3 harg3 arg4 harg4 arg5 harg5 arg6 harg6 arg7 harg7 arg8 harg8 arg9 harg9 arg10 harg10 arg11 harg11 arg12 harg12 arg13 harg13 hc1 (harg7.unread x4) (harg8.unread x5) fs0]
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    iexists _; iexact HS0

end Cert.KernelIdeal.Bwd

end
-- ==== Proof.Bwd.RunB.lean ====
/-
  The backward kernel's body, run at the points inside a head (the three results and the row sums carry on from the point before).
  What each buffer ends with is found by the run, as a list of pieces.
-/
module

public import proofs.«01_k».proof.Proof.Bwd.RunA

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 127: 120 of 128), WITH the
    proof that on whole staging memrefs — the inputs' at their contents, the outputs it reads before covering (7, 8, 9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_B (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : ¬cond0_0 i) (hc1 : ¬cond0_1 i)
    (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32) (xo7 : Vec F S128x8192 .f32) (xo8 : Vec F S8192x128 .f32) (xo9 : Vec F S8192x128 .f32) (xs0 : Vec F S4x1x2048 .f32) :
    Σ' (L7 : List (View.Piece (Elt F) S128x8192 .f32)), Σ' (L8 : List (View.Piece (Elt F) S8192x128 .f32)), Σ' (L9 : List (View.Piece (Elt F) S8192x128 .f32)), { LS0 : List (View.Piece (Elt F) S4x1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare xo7 ∗ owns (c : Thread nD τ) arg11 fullShare xo8 ∗ owns (c : Thread nD τ) arg12 fullShare xo9 ∗ owns (c : Thread nD τ) arg13 fullShare xs0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ owns (c : Thread nD τ) arg13 fullShare xs0) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13) K } := by
  refine ⟨?_, ?_, ?_, [], fun E K => ?run⟩
  case run =>
    simp only [cc0_flash_bwd_eq_skeleton]; unfold cc0_flash_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hfs0
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexact H8
    isplitl [H9]; · iexact H9
    iexists _; isplitr; · ipureintro; exact harg13.read_unread _
    iexact HS0

end Cert.KernelIdeal.Bwd

end
-- ==== Proof.Bwd.RunC.lean ====
/-
  The backward kernel's body, run at the points where a further head of the group begins (the queries' gradient starts at zero, the row sums are formed, the keys' and values' gradients carry on).
  What each buffer ends with is found by the run, as a list of pieces.
-/
module

public import proofs.«01_k».proof.Proof.Bwd.RunB

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first) IN CASE C (`scf.if` 0 not taken, `scf.if` 1 taken: points 16, 32, 48, 80, 96, 112), WITH the
    proof that on whole staging memrefs — the inputs' at their contents, the outputs it reads before covering (8, 9) at their running contents `xo·`, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs — each `scf.if` decided by the case's hypotheses `hc·`; the pieces are
    the witness that run finds (assigned when `iexact` hands the buffer to the continuation). -/
noncomputable def kernelRun0_C (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : ¬cond0_0 i) (hc1 : cond0_1 i)
    (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32) (xo8 : Vec F S8192x128 .f32) (xo9 : Vec F S8192x128 .f32) :
    Σ' (L7 : List (View.Piece (Elt F) S128x8192 .f32)), Σ' (L8 : List (View.Piece (Elt F) S8192x128 .f32)), Σ' (L9 : List (View.Piece (Elt F) S8192x128 .f32)), { LS0 : List (View.Piece (Elt F) S4x1x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ owns (c : Thread nD τ) arg11 fullShare xo8 ∗ owns (c : Thread nD τ) arg12 fullShare xo9 ∗ (∃ d, owns (c : Thread nD τ) arg13 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (arg11.view.loc (c : Thread nD τ) ↦[arg11.view.set]{fullShare} arg11.view.writes (Elt F) (harg11.unread xo8) L8) ∗ (arg12.view.loc (c : Thread nD τ) ↦[arg12.view.set]{fullShare} arg12.view.writes (Elt F) (harg12.unread xo9) L9) ∗ (∃ f, arg13.view.loc (c : Thread nD τ) ↦[arg13.view.set]{fullShare} arg13.view.writes (Elt F) f LS0)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11 arg12 harg12 arg13 harg13) K } := by
  refine ⟨?_, ?_, ?_, ?_, fun E K => ?run⟩
  case run =>
    simp only [cc0_flash_bwd_eq_skeleton]; unfold cc0_flash_bwd_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, ⟨%ds0, %fs0, -, HS0⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg11.eq_unread hf8; obtain rfl := harg12.eq_unread hf9
    -- up to the second loop; there the scratch, written over whole, is restated over nothing
    set_option sl_exec.maxSteps 7 in sl_exec (disch := first | sl_exact hc0 | sl_exact hc1)
    rw [rows_over_junk c i arg3 harg3 arg4 harg4 arg5 harg5 arg6 harg6 arg7 harg7 arg8 harg8 arg9 harg9 arg10 harg10 arg11 harg11 arg12 harg12 arg13 harg13 hc1 (harg7.unread x4) (harg8.unread x5) fs0]
    sl_exec (disch := first | sl_exact hc0 | sl_exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexact H8
    isplitl [H9]; · iexact H9
    iexists _; iexact HS0

end Cert.KernelIdeal.Bwd

end
-- ==== Proof.Bwd.Frame.lean ====
/-
  The backward kernel over its grid: what the three results' blocks and the carried row sums hold after each point
  (`outsAt0`, by the three cases of a point), the pipeline's proof data, the body's obligation, and the run of the whole
  program (`run_main`) with its frame.
-/
module

public import proofs.«01_k».proof.Proof.Bwd.RunC
public import Idealize.ShloMosaic.Lib.Claim

@[expose] public section

-- membership in a rectangle of production extents (`View.cover_of_tiled`): the elaborator's structural look
-- recurses once per coordinate of the long axes
set_option maxRecDepth 16384

noncomputable section

namespace Cert.KernelIdeal.Bwd

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
section CaseA
variable (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : cond0_0 i) (hc1 : cond0_1 i)
  (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32)

/-- Case A's pieces for output 7 are of SEVERAL sizes (5 stores of `S128x2048`, `S128x8192`): cut into blocks of `![128, 2048]` they tile its block (checked by the kernel's evaluation: `Piece.tiledBy`), so they cover it. -/
theorem cover0_A_7 (y : S128x8192.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).1, y ∈ pc.1.set :=
  View.cover_of_tiledBy (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).1 ![128, 2048] (by sl_kernel_rfl) y

/-- What case A leaves in output 7's staging buffer: its pieces read back over junk. -/
def out0_A_7 : Vec F S128x8192 .f32 :=
  VO0_7.read (Elt F) (VO0_7.writes (Elt F) VO0_7.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).1)

/-- Case A's pieces for output 8 include stores at SYMBOLIC offsets (a loaded word, the grid coordinates), which no evaluation decides; one explicit piece is a literal store of the WHOLE block (found by walking the list as the run left it, that piece checked by the kernel's evaluation of it alone: `sl_whole_mem`), so they cover it whatever the others are. -/
theorem cover0_A_8 (y : S8192x128.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.1 (by sl_whole_mem) y

/-- What case A leaves in output 8's staging buffer: its pieces read back over junk. -/
def out0_A_8 : Vec F S8192x128 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.1)

/-- Case A's pieces for output 9 include stores at SYMBOLIC offsets (a loaded word, the grid coordinates), which no evaluation decides; one explicit piece is a literal store of the WHOLE block (found by walking the list as the run left it, that piece checked by the kernel's evaluation of it alone: `sl_whole_mem`), so they cover it whatever the others are. -/
theorem cover0_A_9 (y : S8192x128.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1, y ∈ pc.1.set :=
  View.cover_of_wholeMem (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1 (by sl_whole_mem) y

/-- What case A leaves in output 9's staging buffer: its pieces read back over junk. -/
def out0_A_9 : Vec F S8192x128 .f32 :=
  VO0_9.read (Elt F) (VO0_9.writes (Elt F) VO0_9.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.1)

/-- Case A's pieces for scratch `arg13`, which the kernel carries between points, cover it: 4 pieces of `S1x1x2048` tiling it (`Piece.tiledL`). -/
theorem scover0_A_0 (y : S4x1x2048.Idx) :
    ∃ pc ∈ (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1, y ∈ pc.1.set :=
  View.cover_of_tiledL (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1 S1x1x2048.size (by sl_kernel_rfl) y

/-- What case A leaves in scratch `arg13`: its pieces read back over junk. -/
def sout0_A_0 : Vec F S4x1x2048 .f32 :=
  VS0_0.read (Elt F) (VS0_0.writes (Elt F) VS0_0.junk (kernelRun0_A c i arg3 harg3 arg4 harg4 arg5 harg5 arg6 harg6 arg7 harg7 arg8 harg8 arg9 harg9 arg10 harg10 arg11 harg11 arg12 harg12 arg13 harg13 hc0 hc1 x0 x1 x2 x3 x4 x5 x6).2.2.2.1)

end CaseA

section CaseB
variable (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : ¬cond0_0 i) (hc1 : ¬cond0_1 i)
  (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32) (xo7 : Vec F S128x8192 .f32) (xo8 : Vec F S8192x128 .f32) (xo9 : Vec F S8192x128 .f32) (xs0 : Vec F S4x1x2048 .f32)

/-- Case B's pieces for output 7 tile its block (4 stores of `S128x2048`, checked by the kernel's evaluation: `Piece.tiledL`, linear in the pieces, through a loop's `@[irreducible]` trip theorem too), so they cover it. -/
theorem cover0_B_7 (y : S128x8192.Idx) :
    ∃ pc ∈ (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0).1, y ∈ pc.1.set :=
  View.cover_of_tiledL (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0).1 S128x2048.size (by sl_kernel_rfl) y

/-- What case B leaves in output 7's staging buffer: its pieces read back over junk. -/
def out0_B_7 : Vec F S128x8192 .f32 :=
  VO0_7.read (Elt F) (VO0_7.writes (Elt F) VO0_7.junk (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0).1)

/-- What case B leaves in output 8's staging buffer: its stores read back over what the point before left there (they do not cover the block). -/
def out0_B_8 : Vec F S8192x128 .f32 :=
  arg11.view.read (Elt F) (arg11.view.writes (Elt F) (harg11.unread xo8) (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0).2.1)

/-- What case B leaves in output 9's staging buffer: its stores read back over what the point before left there (they do not cover the block). -/
def out0_B_9 : Vec F S8192x128 .f32 :=
  arg12.view.read (Elt F) (arg12.view.writes (Elt F) (harg12.unread xo9) (kernelRun0_B c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0).2.2.1)

/-- Case B stores nothing into scratch `arg13`: it holds what the point before left. -/
def sout0_B_0 (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : ¬cond0_0 i) (hc1 : ¬cond0_1 i)
    (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32) (xo7 : Vec F S128x8192 .f32) (xo8 : Vec F S8192x128 .f32) (xo9 : Vec F S8192x128 .f32) (xs0 : Vec F S4x1x2048 .f32) : Vec F S4x1x2048 .f32 := xs0

end CaseB

section CaseC
variable (c : Dev nD) (i : grid0.Coords) (arg3 : Memref sig .tc .vmem S512x128 .bf16) (harg3 : arg3.IsWhole) (arg4 : Memref sig .tc .vmem S1x128x512 .bf16) (harg4 : arg4.IsWhole) (arg5 : Memref sig .tc .vmem S512x128 .bf16) (harg5 : arg5.IsWhole) (arg6 : Memref sig .tc .vmem S8192x128 .bf16) (harg6 : arg6.IsWhole) (arg7 : Memref sig .tc .vmem S8192x128 .bf16) (harg7 : arg7.IsWhole) (arg8 : Memref sig .tc .vmem S8192x128 .bf16) (harg8 : arg8.IsWhole) (arg9 : Memref sig .tc .vmem S1x4x1x2048 .f32) (harg9 : arg9.IsWhole) (arg10 : Memref sig .tc .vmem S128x8192 .f32) (harg10 : arg10.IsWhole) (arg11 : Memref sig .tc .vmem S8192x128 .f32) (harg11 : arg11.IsWhole) (arg12 : Memref sig .tc .vmem S8192x128 .f32) (harg12 : arg12.IsWhole) (arg13 : Memref sig .tc .vmem S4x1x2048 .f32) (harg13 : arg13.IsWhole) (hc0 : ¬cond0_0 i) (hc1 : cond0_1 i)
  (x0 : Vec F S512x128 .bf16) (x1 : Vec F S1x128x512 .bf16) (x2 : Vec F S512x128 .bf16) (x3 : Vec F S8192x128 .bf16) (x4 : Vec F S8192x128 .bf16) (x5 : Vec F S8192x128 .bf16) (x6 : Vec F S1x4x1x2048 .f32) (xo8 : Vec F S8192x128 .f32) (xo9 : Vec F S8192x128 .f32)

/-- Case C's pieces for output 7 are of SEVERAL sizes (5 stores of `S128x2048`, `S128x8192`): cut into blocks of `![128, 2048]` they tile its block (checked by the kernel's evaluation: `Piece.tiledBy`), so they cover it. -/
theorem cover0_C_7 (y : S128x8192.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).1, y ∈ pc.1.set :=
  View.cover_of_tiledBy (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).1 ![128, 2048] (by sl_kernel_rfl) y

/-- What case C leaves in output 7's staging buffer: its pieces read back over junk. -/
def out0_C_7 : Vec F S128x8192 .f32 :=
  VO0_7.read (Elt F) (VO0_7.writes (Elt F) VO0_7.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).1)

/-- What case C leaves in output 8's staging buffer: its stores read back over what the point before left there (they do not cover the block). -/
def out0_C_8 : Vec F S8192x128 .f32 :=
  arg11.view.read (Elt F) (arg11.view.writes (Elt F) (harg11.unread xo8) (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).2.1)

/-- What case C leaves in output 9's staging buffer: its stores read back over what the point before left there (they do not cover the block). -/
def out0_C_9 : Vec F S8192x128 .f32 :=
  arg12.view.read (Elt F) (arg12.view.writes (Elt F) (harg12.unread xo9) (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).2.2.1)

/-- Case C's pieces for scratch `arg13`, which the kernel carries between points, cover it: 4 pieces of `S1x1x2048` tiling it (`Piece.tiledL`). -/
theorem scover0_C_0 (y : S4x1x2048.Idx) :
    ∃ pc ∈ (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).2.2.2.1, y ∈ pc.1.set :=
  View.cover_of_tiledL (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).2.2.2.1 S1x1x2048.size (by sl_kernel_rfl) y

/-- What case C leaves in scratch `arg13`: its pieces read back over junk. -/
def sout0_C_0 : Vec F S4x1x2048 .f32 :=
  VS0_0.read (Elt F) (VS0_0.writes (Elt F) VS0_0.junk (kernelRun0_C c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9).2.2.2.1)

end CaseC

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S128x8192 .f32 × Vec F S8192x128 .f32 × Vec F S8192x128 .f32 × Vec F S4x1x2048 .f32
  | 0, hn => (out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) scM0_0 (Memref.isWhole_whole _) ((hcond0_0 ⟨0, hn⟩).mpr (Nat.zero_mod _)) ((hcond0_1 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩))
  | n + 1, hn =>
    if h0 : (n + 1) % 64 = 0 then
      if h1 : (n + 1) % 16 = 0 then
        (out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) ((hcond0_0 ⟨n + 1, hn⟩).mpr h0) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩))
      else
        False.elim (by have hN : n + 1 < 128 := lt_of_lt_of_eq hn (show cfg0.N = 128 from N_0); omega)
    else
      if h1 : (n + 1) % 16 = 0 then
        (out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1, out0_C_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1, out0_C_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).2.1 (outsAt0 c n (Nat.lt_of_succ_lt hn)).2.2.1)
      else
        (out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (outsAt0 c n (Nat.lt_of_succ_lt hn)).1 (outsAt0 c n (Nat.lt_of_succ_lt hn)).2.1 (outsAt0 c n (Nat.lt_of_succ_lt hn)).2.2.1 (outsAt0 c n (Nat.lt_of_succ_lt hn)).2.2.2)

/-- `outsAt0` at a point of case A: that case's contents. -/
theorem outsAt0_A (c : Dev nD) (t : Fin cfg0.N) (h0 : t.val % 64 = 0) (h1 : t.val % 16 = 0) :
    outsAt0 m c t.val t.isLt = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t)) := by
  obtain ⟨n, hn⟩ := t
  cases n with
  | zero => exact rfl
  | succ n => exact (dif_pos h0).trans ((dif_pos h1).trans rfl)

/-- `outsAt0` at a point of case B: that case's contents, over what the point before left. -/
theorem outsAt0_B (c : Dev nD) (t : Fin cfg0.N) (h0 : ¬t.val % 64 = 0) (h1 : ¬t.val % 16 = 0) :
    outsAt0 m c t.val t.isLt = (out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 64 = 0) (h1 : t.val % 16 = 0) :
    outsAt0 m c t.val t.isLt = (out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1, out0_C_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1, out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1, sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (outsAt0 m c (t.val - 1) (Nat.lt_of_le_of_lt (Nat.sub_le _ _) t.isLt)).2.1 (outsAt0 m c (t.val - 1) (Nat.lt_of_le_of_lt (Nat.sub_le _ _) t.isLt)).2.2.1) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (`ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (outsAt0 m c t.val t.isLt).1
    | ⟨8, _⟩ => (outsAt0 m c t.val t.isLt).2.1
    | ⟨9, _⟩ => (outsAt0 m c t.val t.isLt).2.2.1
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = (outsAt0 m c t.val t.isLt).1 := by dsimp only [dats]
theorem after0_8 (c : Dev nD) (t : Fin cfg0.N) : (dats m 0 c).after 8 t = (outsAt0 m c t.val t.isLt).2.1 := by dsimp only [dats]
theorem after0_9 (c : Dev nD) (t : Fin cfg0.N) : (dats m 0 c).after 9 t = (outsAt0 m c t.val t.isLt).2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
/-- At a point of case B output 7's current staging buffer holds what the body left at the point before: the point is
    not the first, the buffer was not written back between (`flush0_7`), the window is live and uncut (
    `Dat.before_out_kept`). -/
theorem before0_7_B (c : Dev nD) (t : Fin cfg0.N) (h0 : ¬t.val % 64 = 0) (h1 : ¬t.val % 16 = 0) (d) :
    (dats m 0 c).before 7 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 7 rfl t (by omega) (Bool.eq_false_iff.mpr fun h => by have := (flush0_7 _).mp h; dsimp only at this; omega)
    (fun _ => rfl) (fun _ _ => rfl)]
  dsimp only [dats]
/-- At a point of case B output 8's current staging buffer holds what the body left at the point before: the point is
    not the first, the buffer was not written back between (`flush0_8`), the window is live and uncut (
    `Dat.before_out_kept`). -/
theorem before0_8_B (c : Dev nD) (t : Fin cfg0.N) (h0 : ¬t.val % 64 = 0) (h1 : ¬t.val % 16 = 0) (d) :
    (dats m 0 c).before 8 t d = (outsAt0 m c (t.val - 1) (Nat.lt_of_le_of_lt (Nat.sub_le _ _) t.isLt)).2.1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case B output 9's current staging buffer holds what the body left at the point before: the point is
    not the first, the buffer was not written back between (`flush0_9`), the window is live and uncut (
    `Dat.before_out_kept`). -/
theorem before0_9_B (c : Dev nD) (t : Fin cfg0.N) (h0 : ¬t.val % 64 = 0) (h1 : ¬t.val % 16 = 0) (d) :
    (dats m 0 c).before 9 t d = (outsAt0 m c (t.val - 1) (Nat.lt_of_le_of_lt (Nat.sub_le _ _) t.isLt)).2.2.1 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]
/-- At a point of case C output 8's current staging buffer holds what the body left at the point before: the point is
    not the first, the buffer was not written back between (`flush0_8`), the window is live and uncut (
    `Dat.before_out_kept`). -/
theorem before0_8_C (c : Dev nD) (t : Fin cfg0.N) (h0 : ¬t.val % 64 = 0) (h1 : t.val % 16 = 0) (d) :
    (dats m 0 c).before 8 t d = (outsAt0 m c (t.val - 1) (Nat.lt_of_le_of_lt (Nat.sub_le _ _) t.isLt)).2.1 := by
  have hN : t.val < 128 := lt_of_lt_of_eq t.isLt (show cfg0.N = 128 from N_0)
  rw [Dat.before_out_kept _ 8 rfl t (by omega) (Bool.eq_false_iff.mpr fun h => by have := (flush0_8 _).mp h; dsimp only at this; omega)
    (fun _ => rfl) (fun _ _ => rfl)]
  dsimp only [dats]
/-- At a point of case C output 9's current staging buffer holds what the body left at the point before: the point is
    not the first, the buffer was not written back between (`flush0_9`), the window is live and uncut (
    `Dat.before_out_kept`). -/
theorem before0_9_C (c : Dev nD) (t : Fin cfg0.N) (h0 : ¬t.val % 64 = 0) (h1 : t.val % 16 = 0) (d) :
    (dats m 0 c).before 9 t d = (outsAt0 m c (t.val - 1) (Nat.lt_of_le_of_lt (Nat.sub_le _ _) t.isLt)).2.2.1 := by
  have hN : t.val < 128 := lt_of_lt_of_eq t.isLt (show cfg0.N = 128 from N_0)
  rw [Dat.before_out_kept _ 9 rfl t (by omega) (Bool.eq_false_iff.mpr fun h => by have := (flush0_9 _).mp h; dsimp only at this; omega)
    (fun _ => rfl) (fun _ _ => rfl)]
  dsimp only [dats]

/-! ## The body obligation, at a generic point -/

/-- What the body is called with at point `t` (`BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 9600000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl,
    after0_0, after0_1, after0_2, after0_3, after0_4, after0_5, after0_6, after0_7, after0_8, after0_9]
  rw [show (dats m 0 c).Φ t.succ = PhiS m c (t.val + 1) t.isLt from rfl, PhiS_succ]
  have hN : t.val < 128 := lt_of_lt_of_eq t.isLt (show cfg0.N = 128 from N_0)
  by_cases h0 : t.val % 64 = 0
  · by_cases h1 : t.val % 16 = 0
    · by_cases hz : t.val = 0
      · rw [PhiS_castSucc m c t, PhiS_zero m c _ _ hz, PhiA0_eq]
        rw [outsAt0_A m c t h0 h1]
        unfold out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexact HS0
        iintro ⟨H0, H1, H2, H3, H4, H5, H6, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
      · rw [PhiS_castSucc m c t, PhiS_pos m c _ _ hz]
        rw [outsAt0_A m c t h0 h1]
        unfold out0_A_7 out0_A_8 out0_A_9 sout0_A_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_A c (grid0.coords t) _ _ _ _ _ _ _ _ _ _ _ _ _ _ _ _ _ _ _ _ _ _ ((hcond0_0 t).mpr h0) ((hcond0_1 t).mpr h1) (iblk m c 0 t) (iblk m c 1 t) (iblk m c 2 t) (iblk m c 3 t) (iblk m c 4 t) (iblk m c 5 t) (iblk m c 6 t)).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexists _; iexact H8
        isplitl [H9]; · iexists _; iexact H9
        isplitl [HS0]; · iexists _; iexact HS0
        iintro ⟨H0, H1, H2, H3, H4, H5, H6, ⟨%e7, H7⟩, ⟨%e8, H8⟩, ⟨%e9, H9⟩, ⟨%es0, HS0⟩⟩
        isplitl [HS0 Hg]
        · isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_A_7 c _ _ _ _ _ _ _ _ _ _ _ _ _ _ _ _ _ _ _ _ _ _ _ _ _ _ _ _ _ _ _ _)
        isplitl [H8]
        · unfold owns; iexists _; isplitr
          swap; · iexact H8
          ipureintro; exact View.read_writes_of_cover _ _ _ _ _ (cover0_A_8 c _ _ _ _ _ _ _ _ _ _ _ _ _ _ _ _ _ _ _ _ _ _ _ _ _ _ _ _ _ _ _ _)
        unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _)
    · exfalso; omega
  · by_cases h1 : t.val % 16 = 0
    · by_cases hz : t.val = 0
      · exfalso; have hN : t.val < 128 := lt_of_lt_of_eq t.isLt (show cfg0.N = 128 from N_0); omega
      · rw [PhiS_castSucc m c t, PhiS_pos m c _ _ hz]
        rw [outsAt0_C m c t h0 h1]
        simp only [before0_8_C m c t h0 h1, before0_9_C m c t h0 h1]
        unfold out0_C_7 out0_C_8 out0_C_9 sout0_C_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_C c (grid0.coords t) _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexists _; iexact H7
        isplitl [H8]; · iexact H8
        isplitl [H9]; · iexact H9
        isplitl [HS0]; · iexists _; iexact HS0
        iintro ⟨H0, H1, H2, H3, H4, H5, H6, ⟨%e7, H7⟩, H8, H9, ⟨%es0, HS0⟩⟩
        isplitl [HS0 Hg]
        · isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_C_7 c _ _ _ _ _ _ _ _ _ _ _ _ _ _ _ _ _ _ _ _ _ _ _ _ _ _ _ _ _ _ _ _ _ _)
        isplitl [H8]
        · unfold owns; iexists _; isplitr
          swap; · iexact H8
          ipureintro; rfl
        unfold owns; iexists _; isplitr
        swap; · iexact H9
        ipureintro; rfl
    · by_cases hz : t.val = 0
      · exfalso; have hN : t.val < 128 := lt_of_lt_of_eq t.isLt (show cfg0.N = 128 from N_0); omega
      · rw [PhiS_castSucc m c t, PhiS_pos m c _ _ hz]
        rw [outsAt0_B m c t h0 h1]
        simp only [before0_7_B m c t h0 h1, before0_8_B m c t h0 h1, before0_9_B m c t h0 h1]
        unfold out0_B_7 out0_B_8 out0_B_9 sout0_B_0; (try dsimp only)
        iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
        iapply ((kernelRun0_B c (grid0.coords t) _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) _ _ _ _).2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [HS0]; · iexact HS0
        iintro ⟨H0, H1, H2, H3, H4, H5, H6, ⟨%e7, H7⟩, H8, H9, HS0⟩
        isplitl [HS0 Hg]
        · isplitl [HS0]
          · iexact HS0
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]
        · unfold owns; iexists _; isplitr
          swap; · iexact H7
          ipureintro; exact View.read_writes_of_cover _ _ _ _ _ (cover0_B_7 c _ _ _ _ _ _ _ _ _ _ _ _ _ _ _ _ _ _ _ _ _ _ _ _ _ _ _ _ _ _ _ _ _ _ _ _)
        isplitl [H8]
        · unfold owns; iexists _; isplitr
          swap; · iexact H8
          ipureintro; rfl
        unfold owns; iexists _; isplitr
        swap; · iexact H9
        ipureintro; rfl

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (`triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

/-- The same after the last point. -/
theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) (run_main m ρ)

/-- The kernel runs, its argument arrays end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

end Cert.KernelIdeal.Bwd

end
-- ==== Proof.Bwd.Value.lean ====
/-
  The three results as arrays: each element is read off what the point that flushes its block left (`G7`, `G8`, `G9`),
  and those contents are one fold over the grid (`outsAt0_sweep`). `run` is the program's run with these equations.
-/
module

public import proofs.«01_k».proof.Proof.Bwd.Frame
public import Idealize.ShloMosaic.Lib.Pipeline.Value

@[expose] public section

noncomputable section

namespace Cert.KernelIdeal.Bwd

open Cert.KernelIdeal Cert.KernelIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v37_0) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v37_1) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v37_2) = (dats m 0 c).arrAt 9 cfg0.N :=
  (h c).1 9

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v37_0) = (dats m 0 c).arrAt 7 cfg0.N
      ∧ r.2.mem ((c : Thread nD τ).loc main_v37_1) = (dats m 0 c).arrAt 8 cfg0.N
      ∧ r.2.mem ((c : Thread nD τ).loc main_v37_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post7 m r h c,
      post8 m r h c,
      post9 m r h c,
      kept_main_arg0 m r h c,
      kept_main_arg1 m r h c,
      kept_main_arg2 m r h c,
      kept_main_arg3 m r h c⟩)
    (run_main m ρ)

/-! ## Carried scratch 0: what each point leaves in it, and its fold -/

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S128x8192 .f32 × Vec F S8192x128 .f32 × Vec F S8192x128 .f32 × Vec F S4x1x2048 .f32 :=
  ((VO0_7.read (Elt F) VO0_7.junk, VO0_8.read (Elt F) VO0_8.junk, VO0_9.read (Elt F) VO0_9.junk, VS0_0.read (Elt F) VS0_0.junk) : Vec F S128x8192 .f32 × Vec F S8192x128 .f32 × Vec F S8192x128 .f32 × Vec F S4x1x2048 .f32)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S128x8192 .f32 × Vec F S8192x128 .f32 × Vec F S8192x128 .f32 × Vec F S4x1x2048 .f32) : Vec F S128x8192 .f32 × Vec F S8192x128 .f32 × Vec F S8192x128 .f32 × Vec F S4x1x2048 .f32 :=
  if h0 : n % 64 = 0 then
    if h1 : n % 16 = 0 then
      (out0_A_7 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) ((hcond0_0 ⟨n, hb⟩).mpr h0) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩), out0_A_8 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) ((hcond0_0 ⟨n, hb⟩).mpr h0) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩), out0_A_9 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) ((hcond0_0 ⟨n, hb⟩).mpr h0) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩), sout0_A_0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) ((hcond0_0 ⟨n, hb⟩).mpr h0) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩))
    else
      False.elim (by have hN : n < 128 := lt_of_lt_of_eq hb (show cfg0.N = 128 from N_0); omega)
  else
    if h1 : n % 16 = 0 then
      (out0_C_7 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.2.1 acc.2.2.1, out0_C_8 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.2.1 acc.2.2.1, out0_C_9 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.2.1 acc.2.2.1, sout0_C_0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.2.1 acc.2.2.1)
    else
      (out0_B_7 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.1 acc.2.1 acc.2.2.1 acc.2.2.2, out0_B_8 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.1 acc.2.1 acc.2.2.1 acc.2.2.2, out0_B_9 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.1 acc.2.1 acc.2.2.1 acc.2.2.2, sout0_B_0 c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) (ms0_4 ⟨n, hb⟩) (hs0_4 ⟨n, hb⟩) (ms0_5 ⟨n, hb⟩) (hs0_5 ⟨n, hb⟩) (ms0_6 ⟨n, hb⟩) (hs0_6 ⟨n, hb⟩) (ms0_7 ⟨n, hb⟩) (hs0_7 ⟨n, hb⟩) (ms0_8 ⟨n, hb⟩) (hs0_8 ⟨n, hb⟩) (ms0_9 ⟨n, hb⟩) (hs0_9 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) (iblk m c 3 ⟨n, hb⟩) (iblk m c 4 ⟨n, hb⟩) (iblk m c 5 ⟨n, hb⟩) (iblk m c 6 ⟨n, hb⟩) acc.1 acc.2.1 acc.2.2.1 acc.2.2.2)

/-- `stAt0` at a point of case A: that case's contents. -/
theorem stAt0_A (c : Dev nD) (t : Fin cfg0.N) (acc : Vec F S128x8192 .f32 × Vec F S8192x128 .f32 × Vec F S8192x128 .f32 × Vec F S4x1x2048 .f32) (h0 : t.val % 64 = 0) (h1 : t.val % 16 = 0) :
    stAt0 m c t.val t.isLt acc = (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t)) :=
  (dif_pos h0).trans ((dif_pos h1).trans rfl)

/-- The recursion's successor step is `stAt0`, by definition. -/
theorem outsAt0_succ (c : Dev nD) (n : ℕ) (hn : n + 1 < cfg0.N) :
    outsAt0 m c (n + 1) hn = stAt0 m c (n + 1) hn (outsAt0 m c n (Nat.lt_of_succ_lt hn)) := rfl

/-- At the first point the recursion is `stAt0` from `junk0`: its case (case A) reads nothing back. -/
theorem outsAt0_zero (c : Dev nD) (hn : 0 < cfg0.N) : outsAt0 m c 0 hn = stAt0 m c 0 hn junk0 := by
  rw [stAt0_A m c ⟨0, hn⟩ _ (Nat.zero_mod _) (Nat.zero_mod _)]
  rfl

/-- WHAT THE NAMED OUTPUTS AND THE CARRIED SCRATCH HOLD after point `n`: the fold of `stAt0` from the first point,
    started at `junk0` (`Pipeline.accAt`; by `eq_accAt_of_mod` at one run spanning the grid,
    without enumerating the points). -/
theorem outsAt0_sweep (c : Dev nD) (n : ℕ) (hn : n < cfg0.N) :
    outsAt0 m c n hn = Pipeline.accAt (fun n h => stAt0 m c n h junk0) (stAt0 m c) 0 n (by omega) := by
  have hN := lt_of_lt_of_eq hn (show cfg0.N = 128 from N_0)
  have e := Pipeline.eq_accAt_of_mod (fun n h => outsAt0 m c n h) 128 (fun n h => stAt0 m c n h junk0) (stAt0 m c)
    (fun n h _ => by
      have hN := lt_of_lt_of_eq h (show cfg0.N = 128 from N_0)
      obtain rfl : n = 0 := by omega
      exact outsAt0_zero m c h)
    (fun n h _ => outsAt0_succ m c n h)
    (by decide) n hn (by have := Nat.div_add_mod n 128; omega)
  have hd : n / 128 = 0 := Nat.div_eq_of_lt hN
  have hm : n % 128 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 m c n h junk0) (stAt0 m c) 0 j h = Pipeline.accAt (fun n h => stAt0 m c n h junk0) (stAt0 m c) 0 j' h' := by
  intro j h j' h' hj; subst hj; rfl

/-! ## Output window 7 -/

/-- The block of the array that holds index `i`, numbered in the order the points write the blocks back (one every 16 points),
    `i`'s place in it, and the point that writes it back (the last of its 16). -/
abbrev run7Of (i : S1024x8192.Idx) : ℕ := 1 * ((i 0).val / 128 - 0) + 1 * ((i 1).val / 8192 - 0)
set_option backward.proofsInPublic true in
abbrev loc7Of (i : S1024x8192.Idx) : S128x8192.Idx := fun a => match a with
  | ⟨0, _⟩ => ⟨(i 0).val % 128, Nat.mod_lt _ (by decide)⟩
  | ⟨1, _⟩ => ⟨(i 1).val % 8192, Nat.mod_lt _ (by decide)⟩
abbrev pt7Of (i : S1024x8192.Idx) : ℕ := 16 * run7Of i + 15

/-- WHAT THE ARRAY ENDS HOLDING at index `i` inside the box the flushing blocks fill: output 7's component of the carried
    state's fold at the point that writes `i`'s block back, at `i`'s place in the block. `G7` states the array's contents
    only inside the box. -/
def G7 (c : Dev nD) : Buf (Elt F) ((c : Thread nD τ).loc main_v37_0) := fun i =>
  if h : pt7Of i < cfg0.N then
    (Pipeline.accAt (fun n h => stAt0 m c n h junk0) (stAt0 m c) 0 (pt7Of i) (by omega)).1 (loc7Of i)
  else V m c (Pipeline.arrRef spec0 7) i

/-- The printed index map, decided over the grid: output window 7's block indices stay in the box, and the block number
    read off them is the point's (`t / 16`). -/
theorem idx_facts7 : ∀ t : Fin cfg0.N, 0 ≤ win0_7.index t (0 : Fin 2) ∧ win0_7.index t (0 : Fin 2) ≤ 7
    ∧ 0 ≤ win0_7.index t (1 : Fin 2) ∧ win0_7.index t (1 : Fin 2) ≤ 0
    ∧ 1 * (win0_7.index t (0 : Fin 2) - 0) + 1 * (win0_7.index t (1 : Fin 2) - 0) = t.val / 16 :=
  (by decide +kernel : ∀ t : Fin grid0.N, _)

/-- Every block of the box is SOME flushing point's: `onto7Pt`, the point that writes back the block at place `q` of the box (the last point of its run). -/
abbrev onto7Pt (q0 : Fin 8) (q1 : Fin 1) : Fin grid0.N :=
  ⟨16 * (1 * q0.val + 1 * q1.val) + 15, lt_of_lt_of_eq (by omega) N_0.symm⟩
theorem idx_onto7 : ∀ (q0 : Fin 8) (q1 : Fin 1), ∃ t : Fin cfg0.N, (cfg0.win 7).flush t = true ∧ win0_7.index t = ![q0.val + 0, q1.val + 0] :=
  fun q0 q1 => ⟨onto7Pt q0 q1, (by decide +kernel : ∀ (q0 : Fin 8) (q1 : Fin 1), win0_7.flush (onto7Pt q0 q1) = true ∧ win0_7.index (onto7Pt q0 q1) = ![q0.val + 0, q1.val + 0]) q0 q1⟩

/-- WHAT A FLUSHING POINT `t` WRITES BACK is block `t` of `G7`: output 7's component of the fold up to `t`. -/
theorem flushed7_eq (c : Dev nD) (t : Fin cfg0.N) (hf : (cfg0.win 7).flush t = true) :
    (dats m 0 c).flushed 7 t = ((cfg0.win 7).blk t).view.read (Elt F) (G7 m c) := by
  show (cfg0.win 7).cut (grid0.coords t) ((dats m 0 c).after 7 t) = _
  rw [after0_7, outsAt0_sweep]
  have hm : t.val % 16 = 15 := (flush0_7 t).mp hf
  obtain ⟨e0, e1, e2⟩ := idx_facts7 t
  funext y
  have hy0 : (y 0).val < 128 := (y 0).isLt
  have hy1 : (y 1).val < 8192 := (y 1).isLt
  have hb0 : (((cfg0.win 7).blk t).view.emb y 0).val = win0_7.index t (0 : Fin 2) * 128 + 1 * (y 0).val := rfl
  have hb1 : (((cfg0.win 7).blk t).view.emb y 1).val = win0_7.index t (1 : Fin 2) * 8192 + 1 * (y 1).val := rfl
  have hr : run7Of (((cfg0.win 7).blk t).view.emb y) = t.val / 16 := by
    show 1 * ((((cfg0.win 7).blk t).view.emb y 0).val / 128 - 0) + 1 * ((((cfg0.win 7).blk t).view.emb y 1).val / 8192 - 0) = _
    rw [hb0, hb1]
    rw [show (win0_7.index t (0 : Fin 2) * 128 + 1 * (y 0).val) / 128 = win0_7.index t (0 : Fin 2) from by omega]; rw [show (win0_7.index t (1 : Fin 2) * 8192 + 1 * (y 1).val) / 8192 = win0_7.index t (1 : Fin 2) from by omega]
    omega
  have hl : loc7Of (((cfg0.win 7).blk t).view.emb y) = (cfg0.win 7).xinj (grid0.coords t) y := by
    funext a; apply Fin.ext
    match a with
    | ⟨0, _⟩ => show (((cfg0.win 7).blk t).view.emb y 0).val % 128 = (y 0).val; rw [hb0]; omega
    | ⟨1, _⟩ => show (((cfg0.win 7).blk t).view.emb y 1).val % 8192 = (y 1).val; rw [hb1]; omega
  have hp : pt7Of (((cfg0.win 7).blk t).view.emb y) = t.val := by
    show 16 * run7Of (((cfg0.win 7).blk t).view.emb y) + 15 = _
    rw [hr]; have := Nat.div_add_mod t.val 16; omega
  show (Pipeline.accAt (fun n h => stAt0 m c n h junk0) (stAt0 m c) 0 t.val _).1 ((cfg0.win 7).xinj (grid0.coords t) y) = G7 m c (((cfg0.win 7).blk t).view.emb y)
  unfold G7
  rw [dif_pos (by rw [hp]; exact t.isLt), hl, fold0_congr m c _ _ _ _ hp.symm]

/-- An index of the array is in point `t`'s block iff each coordinate is in the block's range on its axis. -/
theorem mem_blk7 (t : Fin cfg0.N) (i : S1024x8192.Idx) :
    i ∈ ((cfg0.win 7).blk t).view.set ↔ ∀ a : Fin 2, win0_7.index t a * S128x8192.size a ≤ (i a).val ∧ (i a).val < win0_7.index t a * S128x8192.size a + S128x8192.size a := by
  show i ∈ ((View.whole main_v37_0).slice (win0_7.rect t)).set ↔ _
  rw [View.set_slice_whole, Rect.mem_set_unit]
  exact Iff.rfl

/-- THE COVERED INDICES: in some flushing point's block iff inside the box those blocks fill. -/
theorem covered_iff7 (i : S1024x8192.Idx) :
    (∃ t : Fin cfg0.N, (cfg0.win 7).flush t = true ∧ i ∈ ((cfg0.win 7).blk t).view.set) ↔ 0 ≤ (i 0).val ∧ (i 0).val < 1024 ∧ 0 ≤ (i 1).val ∧ (i 1).val < 8192 := by
  constructor
  · rintro ⟨t, -, hi⟩
    rw [mem_blk7] at hi
    have b0 : win0_7.index t (0 : Fin 2) * 128 ≤ (i 0).val ∧ (i 0).val < win0_7.index t (0 : Fin 2) * 128 + 128 := hi 0
    have b1 : win0_7.index t (1 : Fin 2) * 8192 ≤ (i 1).val ∧ (i 1).val < win0_7.index t (1 : Fin 2) * 8192 + 8192 := hi 1
    obtain ⟨e0, e1, e2⟩ := idx_facts7 t
    omega
  · intro h
    have hi0 : (i 0).val < 1024 := (i 0).isLt
    have hi1 : (i 1).val < 8192 := (i 1).isLt
    obtain ⟨t, hft, ht⟩ := idx_onto7 ⟨(i 0).val / 128 - 0, by omega⟩ ⟨(i 1).val / 8192 - 0, by omega⟩
    have q0 : win0_7.index t (0 : Fin 2) = (i 0).val / 128 - 0 + 0 := congrFun ht 0
    have q1 : win0_7.index t (1 : Fin 2) = (i 1).val / 8192 - 0 + 0 := congrFun ht 1
    refine ⟨t, hft, ?_⟩
    rw [mem_blk7]
    intro a
    match a with
    | ⟨0, _⟩ => show win0_7.index t (0 : Fin 2) * 128 ≤ (i 0).val ∧ (i 0).val < win0_7.index t (0 : Fin 2) * 128 + 128; omega
    | ⟨1, _⟩ => show win0_7.index t (1 : Fin 2) * 8192 ≤ (i 1).val ∧ (i 1).val < win0_7.index t (1 : Fin 2) * 8192 + 8192; omega

/-- THE ARRAY after the run: `G7` (the flushing blocks tile it). -/
theorem final7 (c : Dev nD) : (dats m 0 c).arrAt 7 cfg0.N = G7 m c :=
  (dats m 0 c).arrAt_eq_of_cover 7 _ (fun t hf => flushed7_eq m c t hf) (fun i => (covered_iff7 i).2 (by
    have h0 : (i 0).val < 1024 := (i 0).isLt; have h1 : (i 1).val < 8192 := (i 1).isLt; omega))

/-! ## Output window 8 -/

/-- The block of the array that holds index `i`, numbered in the order the points write the blocks back (one every 64 points),
    `i`'s place in it, and the point that writes it back (the last of its 64). -/
abbrev run8Of (i : S8192x256.Idx) : ℕ := 2 * ((i 0).val / 8192 - 0) + 1 * ((i 1).val / 128 - 0)
set_option backward.proofsInPublic true in
abbrev loc8Of (i : S8192x256.Idx) : S8192x128.Idx := fun a => match a with
  | ⟨0, _⟩ => ⟨(i 0).val % 8192, Nat.mod_lt _ (by decide)⟩
  | ⟨1, _⟩ => ⟨(i 1).val % 128, Nat.mod_lt _ (by decide)⟩
abbrev pt8Of (i : S8192x256.Idx) : ℕ := 64 * run8Of i + 63

/-- WHAT THE ARRAY ENDS HOLDING at index `i` inside the box the flushing blocks fill: output 8's component of the carried
    state's fold at the point that writes `i`'s block back, at `i`'s place in the block. `G8` states the array's contents
    only inside the box. -/
def G8 (c : Dev nD) : Buf (Elt F) ((c : Thread nD τ).loc main_v37_1) := fun i =>
  if h : pt8Of i < cfg0.N then
    (Pipeline.accAt (fun n h => stAt0 m c n h junk0) (stAt0 m c) 0 (pt8Of i) (by omega)).2.1 (loc8Of i)
  else V m c (Pipeline.arrRef spec0 8) i

/-- The printed index map, decided over the grid: output window 8's block indices stay in the box, and the block number
    read off them is the point's (`t / 64`). -/
theorem idx_facts8 : ∀ t : Fin cfg0.N, 0 ≤ win0_8.index t (0 : Fin 2) ∧ win0_8.index t (0 : Fin 2) ≤ 0
    ∧ 0 ≤ win0_8.index t (1 : Fin 2) ∧ win0_8.index t (1 : Fin 2) ≤ 1
    ∧ 2 * (win0_8.index t (0 : Fin 2) - 0) + 1 * (win0_8.index t (1 : Fin 2) - 0) = t.val / 64 :=
  (by decide +kernel : ∀ t : Fin grid0.N, _)

/-- Every block of the box is SOME flushing point's: `onto8Pt`, the point that writes back the block at place `q` of the box (the last point of its run). -/
abbrev onto8Pt (q0 : Fin 1) (q1 : Fin 2) : Fin grid0.N :=
  ⟨64 * (2 * q0.val + 1 * q1.val) + 63, lt_of_lt_of_eq (by omega) N_0.symm⟩
theorem idx_onto8 : ∀ (q0 : Fin 1) (q1 : Fin 2), ∃ t : Fin cfg0.N, (cfg0.win 8).flush t = true ∧ win0_8.index t = ![q0.val + 0, q1.val + 0] :=
  fun q0 q1 => ⟨onto8Pt q0 q1, (by decide +kernel : ∀ (q0 : Fin 1) (q1 : Fin 2), win0_8.flush (onto8Pt q0 q1) = true ∧ win0_8.index (onto8Pt q0 q1) = ![q0.val + 0, q1.val + 0]) q0 q1⟩

/-- WHAT A FLUSHING POINT `t` WRITES BACK is block `t` of `G8`: output 8's component of the fold up to `t`. -/
theorem flushed8_eq (c : Dev nD) (t : Fin cfg0.N) (hf : (cfg0.win 8).flush t = true) :
    (dats m 0 c).flushed 8 t = ((cfg0.win 8).blk t).view.read (Elt F) (G8 m c) := by
  show (cfg0.win 8).cut (grid0.coords t) ((dats m 0 c).after 8 t) = _
  rw [after0_8, outsAt0_sweep]
  have hm : t.val % 64 = 63 := (flush0_8 t).mp hf
  obtain ⟨e0, e1, e2⟩ := idx_facts8 t
  funext y
  have hy0 : (y 0).val < 8192 := (y 0).isLt
  have hy1 : (y 1).val < 128 := (y 1).isLt
  have hb0 : (((cfg0.win 8).blk t).view.emb y 0).val = win0_8.index t (0 : Fin 2) * 8192 + 1 * (y 0).val := rfl
  have hb1 : (((cfg0.win 8).blk t).view.emb y 1).val = win0_8.index t (1 : Fin 2) * 128 + 1 * (y 1).val := rfl
  have hr : run8Of (((cfg0.win 8).blk t).view.emb y) = t.val / 64 := by
    show 2 * ((((cfg0.win 8).blk t).view.emb y 0).val / 8192 - 0) + 1 * ((((cfg0.win 8).blk t).view.emb y 1).val / 128 - 0) = _
    rw [hb0, hb1]
    rw [show (win0_8.index t (0 : Fin 2) * 8192 + 1 * (y 0).val) / 8192 = win0_8.index t (0 : Fin 2) from by omega]; rw [show (win0_8.index t (1 : Fin 2) * 128 + 1 * (y 1).val) / 128 = win0_8.index t (1 : Fin 2) from by omega]
    omega
  have hl : loc8Of (((cfg0.win 8).blk t).view.emb y) = (cfg0.win 8).xinj (grid0.coords t) y := by
    funext a; apply Fin.ext
    match a with
    | ⟨0, _⟩ => show (((cfg0.win 8).blk t).view.emb y 0).val % 8192 = (y 0).val; rw [hb0]; omega
    | ⟨1, _⟩ => show (((cfg0.win 8).blk t).view.emb y 1).val % 128 = (y 1).val; rw [hb1]; omega
  have hp : pt8Of (((cfg0.win 8).blk t).view.emb y) = t.val := by
    show 64 * run8Of (((cfg0.win 8).blk t).view.emb y) + 63 = _
    rw [hr]; have := Nat.div_add_mod t.val 64; omega
  show (Pipeline.accAt (fun n h => stAt0 m c n h junk0) (stAt0 m c) 0 t.val _).2.1 ((cfg0.win 8).xinj (grid0.coords t) y) = G8 m c (((cfg0.win 8).blk t).view.emb y)
  unfold G8
  rw [dif_pos (by rw [hp]; exact t.isLt), hl, fold0_congr m c _ _ _ _ hp.symm]

/-- An index of the array is in point `t`'s block iff each coordinate is in the block's range on its axis. -/
theorem mem_blk8 (t : Fin cfg0.N) (i : S8192x256.Idx) :
    i ∈ ((cfg0.win 8).blk t).view.set ↔ ∀ a : Fin 2, win0_8.index t a * S8192x128.size a ≤ (i a).val ∧ (i a).val < win0_8.index t a * S8192x128.size a + S8192x128.size a := by
  show i ∈ ((View.whole main_v37_1).slice (win0_8.rect t)).set ↔ _
  rw [View.set_slice_whole, Rect.mem_set_unit]
  exact Iff.rfl

/-- THE COVERED INDICES: in some flushing point's block iff inside the box those blocks fill. -/
theorem covered_iff8 (i : S8192x256.Idx) :
    (∃ t : Fin cfg0.N, (cfg0.win 8).flush t = true ∧ i ∈ ((cfg0.win 8).blk t).view.set) ↔ 0 ≤ (i 0).val ∧ (i 0).val < 8192 ∧ 0 ≤ (i 1).val ∧ (i 1).val < 256 := by
  constructor
  · rintro ⟨t, -, hi⟩
    rw [mem_blk8] at hi
    have b0 : win0_8.index t (0 : Fin 2) * 8192 ≤ (i 0).val ∧ (i 0).val < win0_8.index t (0 : Fin 2) * 8192 + 8192 := hi 0
    have b1 : win0_8.index t (1 : Fin 2) * 128 ≤ (i 1).val ∧ (i 1).val < win0_8.index t (1 : Fin 2) * 128 + 128 := hi 1
    obtain ⟨e0, e1, e2⟩ := idx_facts8 t
    omega
  · intro h
    have hi0 : (i 0).val < 8192 := (i 0).isLt
    have hi1 : (i 1).val < 256 := (i 1).isLt
    obtain ⟨t, hft, ht⟩ := idx_onto8 ⟨(i 0).val / 8192 - 0, by omega⟩ ⟨(i 1).val / 128 - 0, by omega⟩
    have q0 : win0_8.index t (0 : Fin 2) = (i 0).val / 8192 - 0 + 0 := congrFun ht 0
    have q1 : win0_8.index t (1 : Fin 2) = (i 1).val / 128 - 0 + 0 := congrFun ht 1
    refine ⟨t, hft, ?_⟩
    rw [mem_blk8]
    intro a
    match a with
    | ⟨0, _⟩ => show win0_8.index t (0 : Fin 2) * 8192 ≤ (i 0).val ∧ (i 0).val < win0_8.index t (0 : Fin 2) * 8192 + 8192; omega
    | ⟨1, _⟩ => show win0_8.index t (1 : Fin 2) * 128 ≤ (i 1).val ∧ (i 1).val < win0_8.index t (1 : Fin 2) * 128 + 128; omega

/-- THE ARRAY after the run: `G8` (the flushing blocks tile it). -/
theorem final8 (c : Dev nD) : (dats m 0 c).arrAt 8 cfg0.N = G8 m c :=
  (dats m 0 c).arrAt_eq_of_cover 8 _ (fun t hf => flushed8_eq m c t hf) (fun i => (covered_iff8 i).2 (by
    have h0 : (i 0).val < 8192 := (i 0).isLt; have h1 : (i 1).val < 256 := (i 1).isLt; omega))

/-! ## Output window 9 -/

/-- The block of the array that holds index `i`, numbered in the order the points write the blocks back (one every 64 points),
    `i`'s place in it, and the point that writes it back (the last of its 64). -/
abbrev run9Of (i : S8192x256.Idx) : ℕ := 2 * ((i 0).val / 8192 - 0) + 1 * ((i 1).val / 128 - 0)
set_option backward.proofsInPublic true in
abbrev loc9Of (i : S8192x256.Idx) : S8192x128.Idx := fun a => match a with
  | ⟨0, _⟩ => ⟨(i 0).val % 8192, Nat.mod_lt _ (by decide)⟩
  | ⟨1, _⟩ => ⟨(i 1).val % 128, Nat.mod_lt _ (by decide)⟩
abbrev pt9Of (i : S8192x256.Idx) : ℕ := 64 * run9Of i + 63

/-- WHAT THE ARRAY ENDS HOLDING at index `i` inside the box the flushing blocks fill: output 9's component of the carried
    state's fold at the point that writes `i`'s block back, at `i`'s place in the block. `G9` states the array's contents
    only inside the box. -/
def G9 (c : Dev nD) : Buf (Elt F) ((c : Thread nD τ).loc main_v37_2) := fun i =>
  if h : pt9Of i < cfg0.N then
    (Pipeline.accAt (fun n h => stAt0 m c n h junk0) (stAt0 m c) 0 (pt9Of i) (by omega)).2.2.1 (loc9Of i)
  else V m c (Pipeline.arrRef spec0 9) i

/-- The printed index map, decided over the grid: output window 9's block indices stay in the box, and the block number
    read off them is the point's (`t / 64`). -/
theorem idx_facts9 : ∀ t : Fin cfg0.N, 0 ≤ win0_9.index t (0 : Fin 2) ∧ win0_9.index t (0 : Fin 2) ≤ 0
    ∧ 0 ≤ win0_9.index t (1 : Fin 2) ∧ win0_9.index t (1 : Fin 2) ≤ 1
    ∧ 2 * (win0_9.index t (0 : Fin 2) - 0) + 1 * (win0_9.index t (1 : Fin 2) - 0) = t.val / 64 :=
  (by decide +kernel : ∀ t : Fin grid0.N, _)

/-- Every block of the box is SOME flushing point's: `onto9Pt`, the point that writes back the block at place `q` of the box (the last point of its run). -/
abbrev onto9Pt (q0 : Fin 1) (q1 : Fin 2) : Fin grid0.N :=
  ⟨64 * (2 * q0.val + 1 * q1.val) + 63, lt_of_lt_of_eq (by omega) N_0.symm⟩
theorem idx_onto9 : ∀ (q0 : Fin 1) (q1 : Fin 2), ∃ t : Fin cfg0.N, (cfg0.win 9).flush t = true ∧ win0_9.index t = ![q0.val + 0, q1.val + 0] :=
  fun q0 q1 => ⟨onto9Pt q0 q1, (by decide +kernel : ∀ (q0 : Fin 1) (q1 : Fin 2), win0_9.flush (onto9Pt q0 q1) = true ∧ win0_9.index (onto9Pt q0 q1) = ![q0.val + 0, q1.val + 0]) q0 q1⟩

/-- WHAT A FLUSHING POINT `t` WRITES BACK is block `t` of `G9`: output 9's component of the fold up to `t`. -/
theorem flushed9_eq (c : Dev nD) (t : Fin cfg0.N) (hf : (cfg0.win 9).flush t = true) :
    (dats m 0 c).flushed 9 t = ((cfg0.win 9).blk t).view.read (Elt F) (G9 m c) := by
  show (cfg0.win 9).cut (grid0.coords t) ((dats m 0 c).after 9 t) = _
  rw [after0_9, outsAt0_sweep]
  have hm : t.val % 64 = 63 := (flush0_9 t).mp hf
  obtain ⟨e0, e1, e2⟩ := idx_facts9 t
  funext y
  have hy0 : (y 0).val < 8192 := (y 0).isLt
  have hy1 : (y 1).val < 128 := (y 1).isLt
  have hb0 : (((cfg0.win 9).blk t).view.emb y 0).val = win0_9.index t (0 : Fin 2) * 8192 + 1 * (y 0).val := rfl
  have hb1 : (((cfg0.win 9).blk t).view.emb y 1).val = win0_9.index t (1 : Fin 2) * 128 + 1 * (y 1).val := rfl
  have hr : run9Of (((cfg0.win 9).blk t).view.emb y) = t.val / 64 := by
    show 2 * ((((cfg0.win 9).blk t).view.emb y 0).val / 8192 - 0) + 1 * ((((cfg0.win 9).blk t).view.emb y 1).val / 128 - 0) = _
    rw [hb0, hb1]
    rw [show (win0_9.index t (0 : Fin 2) * 8192 + 1 * (y 0).val) / 8192 = win0_9.index t (0 : Fin 2) from by omega]; rw [show (win0_9.index t (1 : Fin 2) * 128 + 1 * (y 1).val) / 128 = win0_9.index t (1 : Fin 2) from by omega]
    omega
  have hl : loc9Of (((cfg0.win 9).blk t).view.emb y) = (cfg0.win 9).xinj (grid0.coords t) y := by
    funext a; apply Fin.ext
    match a with
    | ⟨0, _⟩ => show (((cfg0.win 9).blk t).view.emb y 0).val % 8192 = (y 0).val; rw [hb0]; omega
    | ⟨1, _⟩ => show (((cfg0.win 9).blk t).view.emb y 1).val % 128 = (y 1).val; rw [hb1]; omega
  have hp : pt9Of (((cfg0.win 9).blk t).view.emb y) = t.val := by
    show 64 * run9Of (((cfg0.win 9).blk t).view.emb y) + 63 = _
    rw [hr]; have := Nat.div_add_mod t.val 64; omega
  show (Pipeline.accAt (fun n h => stAt0 m c n h junk0) (stAt0 m c) 0 t.val _).2.2.1 ((cfg0.win 9).xinj (grid0.coords t) y) = G9 m c (((cfg0.win 9).blk t).view.emb y)
  unfold G9
  rw [dif_pos (by rw [hp]; exact t.isLt), hl, fold0_congr m c _ _ _ _ hp.symm]

/-- An index of the array is in point `t`'s block iff each coordinate is in the block's range on its axis. -/
theorem mem_blk9 (t : Fin cfg0.N) (i : S8192x256.Idx) :
    i ∈ ((cfg0.win 9).blk t).view.set ↔ ∀ a : Fin 2, win0_9.index t a * S8192x128.size a ≤ (i a).val ∧ (i a).val < win0_9.index t a * S8192x128.size a + S8192x128.size a := by
  show i ∈ ((View.whole main_v37_2).slice (win0_9.rect t)).set ↔ _
  rw [View.set_slice_whole, Rect.mem_set_unit]
  exact Iff.rfl

/-- THE COVERED INDICES: in some flushing point's block iff inside the box those blocks fill. -/
theorem covered_iff9 (i : S8192x256.Idx) :
    (∃ t : Fin cfg0.N, (cfg0.win 9).flush t = true ∧ i ∈ ((cfg0.win 9).blk t).view.set) ↔ 0 ≤ (i 0).val ∧ (i 0).val < 8192 ∧ 0 ≤ (i 1).val ∧ (i 1).val < 256 := by
  constructor
  · rintro ⟨t, -, hi⟩
    rw [mem_blk9] at hi
    have b0 : win0_9.index t (0 : Fin 2) * 8192 ≤ (i 0).val ∧ (i 0).val < win0_9.index t (0 : Fin 2) * 8192 + 8192 := hi 0
    have b1 : win0_9.index t (1 : Fin 2) * 128 ≤ (i 1).val ∧ (i 1).val < win0_9.index t (1 : Fin 2) * 128 + 128 := hi 1
    obtain ⟨e0, e1, e2⟩ := idx_facts9 t
    omega
  · intro h
    have hi0 : (i 0).val < 8192 := (i 0).isLt
    have hi1 : (i 1).val < 256 := (i 1).isLt
    obtain ⟨t, hft, ht⟩ := idx_onto9 ⟨(i 0).val / 8192 - 0, by omega⟩ ⟨(i 1).val / 128 - 0, by omega⟩
    have q0 : win0_9.index t (0 : Fin 2) = (i 0).val / 8192 - 0 + 0 := congrFun ht 0
    have q1 : win0_9.index t (1 : Fin 2) = (i 1).val / 128 - 0 + 0 := congrFun ht 1
    refine ⟨t, hft, ?_⟩
    rw [mem_blk9]
    intro a
    match a with
    | ⟨0, _⟩ => show win0_9.index t (0 : Fin 2) * 8192 ≤ (i 0).val ∧ (i 0).val < win0_9.index t (0 : Fin 2) * 8192 + 8192; omega
    | ⟨1, _⟩ => show win0_9.index t (1 : Fin 2) * 128 ≤ (i 1).val ∧ (i 1).val < win0_9.index t (1 : Fin 2) * 128 + 128; omega

/-- THE ARRAY after the run: `G9` (the flushing blocks tile it). -/
theorem final9 (c : Dev nD) : (dats m 0 c).arrAt 9 cfg0.N = G9 m c :=
  (dats m 0 c).arrAt_eq_of_cover 9 _ (fun t hf => flushed9_eq m c t hf) (fun i => (covered_iff9 i).2 (by
    have h0 : (i 0).val < 8192 := (i 0).isLt; have h1 : (i 1).val < 256 := (i 1).isLt; omega))

/-! ## The run, read -/

/-- The frame run re-posted: each output array at the fold the runs leave in it, the arguments unchanged. -/
theorem run : θ_run defs (onTc (τ := τ) (main (F := F))) ⟨m, fun _ => 0, ρ⟩ fun r => ∀ c : Dev nD,
      r.2.mem ((c : Thread nD τ).loc main_v37_0) = G7 m c
      ∧ r.2.mem ((c : Thread nD τ).loc main_v37_1) = G8 m c
      ∧ r.2.mem ((c : Thread nD τ).loc main_v37_2) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(post7 m r h c).trans (final7 m c),
      (post8 m r h c).trans (final8 m c),
      (post9 m r h c).trans (final9 m c),
      kept_main_arg0 m r h c,
      kept_main_arg1 m r h c,
      kept_main_arg2 m r h c,
      kept_main_arg3 m r h c⟩)
    (run_main m ρ)

end Cert.KernelIdeal.Bwd

end
-- ==== Proof.Payload.lean ====
/-
  What one stored or carried block of the attention's backward kernel computes, read at an index over the extended
  reals: the score block raised to a power of two, its product with the gradient of the scores, and the three
  products that add to the gradients of the queries, keys and values.
-/
module
public import proofs.«01_k».proof.Proof.Gen.KernelIdeal.Skeleton
public import Idealize.ShloMosaic.Lib.Pointwise
@[expose] public section
set_option maxRecDepth 16384
noncomputable section
namespace Cert.KernelIdeal.Bwd
open Cert.KernelIdeal Cert.KernelIdeal.Gen Idealize.ShloMosaic

variable (k v : FVec Ideal S512x128 .bf16) (q o : Vec Ideal S2048x128 .bf16) (l : Vec Ideal S1x1x1x2048 .f32)
  (dl : Vec Ideal S1x1x2048 .f32)

/-- The row sums of `do · o`, laid out along the lanes. -/
theorem pay4_apply (u : Fin 2048) :
    k0_pay4 (F := Ideal) q o (ix3 0 0 u) = ∑ d : Fin 128, q (ix2 u d) * o (ix2 u d) := by
  unfold_payloads
  pointwise

/-- The weights of one block: two to the scores less the rows' log-sums. -/
theorem pay13_apply (r : Fin 512) (u : Fin 2048) :
    k0_pay13 (F := Ideal) k q l (ix2 r u) = Ideal.exp2 ((∑ d : Fin 128, k (ix2 r d) * q (ix2 u d)) - l (ix4 0 0 0 u)) := by
  unfold_payloads
  pointwise
  rfl

/-- The gradient of the scores of one block, short of the scale. -/
theorem pay14_apply (r : Fin 512) (u : Fin 2048) :
    k0_pay14 (F := Ideal) k v q o l dl (ix2 r u)
      = Ideal.exp2 ((∑ d : Fin 128, k (ix2 r d) * q (ix2 u d)) - l (ix4 0 0 0 u))
        * ((∑ d : Fin 128, v (ix2 r d) * o (ix2 u d)) - dl (ix3 0 0 u)) := by
  rw [← pay13_apply]
  unfold k0_pay14 k0_pay12
  pointwise

/-- What one block adds to the gradient of the queries, transposed. -/
theorem pay15_apply (dq : Vec Ideal S128x2048 .f32) (kt : Vec Ideal S1x128x512 .bf16) (d : Fin 128) (u : Fin 2048) :
    k0_pay15 (F := Ideal) k v q o l dl dq kt (ix2 d u)
      = dq (ix2 d u) + (∑ r : Fin 512, kt (ix3 0 d r) * k0_pay14 (F := Ideal) k v q o l dl (ix2 r u))
          * Ideal.ofBits .f32 0x3DB504F3#32 := by
  unfold k0_pay15
  pointwise

/-- What one block adds to the gradient of the keys, short of the factor applied at the end. -/
theorem pay16_apply (a : FVec Ideal S512x128 .f32) (r : Fin 512) (d : Fin 128) :
    k0_pay16 (F := Ideal) k v a q o l dl (ix2 r d)
      = a (ix2 r d) + ∑ u : Fin 2048, k0_pay14 (F := Ideal) k v q o l dl (ix2 r u) * q (ix2 u d) := by
  unfold k0_pay16 k0_pay11
  pointwise

/-- What one block adds to the gradient of the values. -/
theorem pay17_apply (r : Fin 512) (d : Fin 128) :
    k0_pay17 (F := Ideal) k q o l (ix2 r d) = ∑ u : Fin 2048, k0_pay13 (F := Ideal) k q l (ix2 r u) * o (ix2 u d) := by
  unfold k0_pay17 k0_pay12
  pointwise

theorem pay8_apply (a b : FVec Ideal S512x128 .f32) (r : Fin 512) (d : Fin 128) :
    k0_pay8 (F := Ideal) a b (ix2 r d) = a (ix2 r d) + b (ix2 r d) := by
  unfold_payloads
  pointwise

/-- The keys' accumulator takes the block's sum times `ln 2`. -/
theorem pay9_apply (a : FVec Ideal S512x128 .f32) (b : Vec Ideal S512x128 .f32) (r : Fin 512) (d : Fin 128) :
    k0_pay9 (F := Ideal) a b (ix2 r d) = b (ix2 r d) + a (ix2 r d) * ((Real.log 2 : ℝ) : EReal) := by
  unfold_payloads
  pointwise
  rw [IdealRules.named_const.ideal_named_scalar κ "ln2" _ _ rfl]

theorem pay10_apply (a : FVec Ideal S512x128 .f32) (b : Vec Ideal S512x128 .f32) (r : Fin 512) (d : Fin 128) :
    k0_pay10 (F := Ideal) a b (ix2 r d) = b (ix2 r d) + a (ix2 r d) := by
  unfold_payloads
  pointwise

theorem pay1_apply (y : Fin 8192) (d : Fin 128) : k0_pay1 (F := Ideal) (ix2 y d) = 0 := by
  unfold_payloads
  pointwise
theorem pay2_apply (y : Fin 8192) (d : Fin 128) : k0_pay2 (F := Ideal) (ix2 y d) = 0 := by
  unfold_payloads
  pointwise
theorem pay3_apply (d : Fin 128) (x : Fin 8192) : k0_pay3 (F := Ideal) (ix2 d x) = 0 := by
  unfold_payloads
  pointwise
theorem pay7_apply (r : Fin 512) (d : Fin 128) : k0_pay7 (F := Ideal) (ix2 r d) = 0 := by
  unfold_payloads
  pointwise
theorem pay5_eq {F : FTy → Type} [FloatOps F] (a : Vec F S512x128 .bf16) : k0_pay5 a = a := shapeCast_self ..
theorem pay6_eq {F : FTy → Type} [FloatOps F] (a : Vec F S512x128 .bf16) : k0_pay6 a = a := shapeCast_self ..
end Cert.KernelIdeal.Bwd
end
-- ==== Proof.Trip.lean ====
/-
  One trip of the kernel's two loops over the four blocks of 2048 queries, read at an index over the extended reals.
  The first loop writes the row sums of `do · o`; the second adds, for one block of 512 keys, what a block of queries
  contributes to the three gradients.
-/
module
public import proofs.«01_k».proof.Proof.Payload
public import proofs.«01_k».proof.Proof.Gen.KernelIdeal.Loops
public import Idealize.ShloMosaic.Lib.WritesUnit
public import Idealize.ShloMosaic.Lib.Pipeline.ValueKit.Tiles
@[expose] public section
set_option maxRecDepth 16384
noncomputable section
namespace Cert.KernelIdeal.Bwd
open Cert.KernelIdeal Cert.KernelIdeal.Gen Idealize.ShloMosaic Idealize.ShloMosaic.TcCoe Idealize.SL.Sem

/-- Which of the four blocks of 2048 a query lies in. -/
abbrev hi (x : Fin 8192) : Fin 4 := ⟨x.val / 2048, by omega⟩
/-- Its place in that block. -/
abbrev lo (x : Fin 8192) : Fin 2048 := ⟨x.val % 2048, by omega⟩
/-- The query at place `u` of block `n`. -/
abbrev row (n : ℕ) (hn : n < 4) (u : Fin 2048) : Fin 8192 := ⟨2048 * n + u.val, by omega⟩

theorem hi_row (n : ℕ) (hn : n < 4) (u : Fin 2048) : hi (row n hn u) = ⟨n, hn⟩ := Fin.ext (by simp only; omega)
theorem lo_row (n : ℕ) (hn : n < 4) (u : Fin 2048) : lo (row n hn u) = u := Fin.ext (by simp only; omega)

/-- The weight of key `r` of the block for query `x`. -/
def wt (k : Vec Ideal S512x128 .bf16) (q : Vec Ideal S8192x128 .bf16) (l : Vec Ideal S1x4x1x2048 .f32) (r : Fin 512) (x : Fin 8192) : EReal :=
  Ideal.exp2 ((∑ d : Fin 128, k (ix2 r d) * q (ix2 x d)) - l (ix4 0 (hi x) 0 (lo x)))

/-- The gradient of that score, short of the scale. -/
def gs (k v : Vec Ideal S512x128 .bf16) (q o : Vec Ideal S8192x128 .bf16) (l : Vec Ideal S1x4x1x2048 .f32) (dl : Vec Ideal S4x1x2048 .f32)
    (r : Fin 512) (x : Fin 8192) : EReal :=
  wt k q l r x * ((∑ d : Fin 128, v (ix2 r d) * o (ix2 x d)) - dl (ix3 (hi x) 0 (lo x)))

/-- The printed factor `1/√128` of the scores. -/
abbrev cs : EReal := Ideal.ofBits .f32 0x3DB504F3#32

section
variable (𝒱 : Variants) (c : Dev nD) (bd : Option 𝒱.V) (i : grid0.Coords)
  (arg3 : Memref sig .tc .vmem S512x128 .bf16) (harg3 : arg3.IsWhole)
  (arg4 : Memref sig .tc .vmem S1x128x512 .bf16) (harg4 : arg4.IsWhole)
  (arg5 : Memref sig .tc .vmem S512x128 .bf16) (harg5 : arg5.IsWhole)
  (arg6 : Memref sig .tc .vmem S8192x128 .bf16) (harg6 : arg6.IsWhole)
  (arg7 : Memref sig .tc .vmem S8192x128 .bf16) (harg7 : arg7.IsWhole)
  (arg8 : Memref sig .tc .vmem S8192x128 .bf16) (harg8 : arg8.IsWhole)
  (arg9 : Memref sig .tc .vmem S1x4x1x2048 .f32) (harg9 : arg9.IsWhole)
  (arg10 : Memref sig .tc .vmem S128x8192 .f32) (harg10 : arg10.IsWhole)
  (arg11 : Memref sig .tc .vmem S8192x128 .f32) (harg11 : arg11.IsWhole)
  (arg12 : Memref sig .tc .vmem S8192x128 .f32) (harg12 : arg12.IsWhole)
  (arg13 : Memref sig .tc .vmem S4x1x2048 .f32) (harg13 : arg13.IsWhole)

/-! ## A window of 2048 queries, read at an index -/

theorem rows1_apply (a : Memref sig .tc .vmem S8192x128 .bf16) (X : BufTy.Contents (Elt Ideal) a.view.ty) (h2 : k0_cond2 i = 1#1) (k : Fin k0_t1_loop.trips)
    (hk : k.val < 4) (u : Fin 2048) (d : Fin 128) :
    a.view.readAt (Elt Ideal) (Rect.unit (s := S8192x128) (k0_off1 k) S2048x128.size (k0_off1_inb i k h2)).toLoadRect X (ix2 u d)
      = a.view.read (Elt Ideal) X (ix2 (row k.val hk u) d) := by
  rw [View.readAt_eq_ld]
  refine View.ld_unit_apply_of _ _ _ _ _ _ fun b => ?_
  refine Eq.trans ?_ (congrArg (· + _) (congrFun (k0_off1_eq k) b).symm)
  match b with
  | ⟨0, _⟩ => rfl
  | ⟨1, _⟩ => exact (Nat.zero_add _).symm

theorem rows3_apply (a : Memref sig .tc .vmem S8192x128 .bf16) (X : BufTy.Contents (Elt Ideal) a.view.ty) (k : Fin k0_t2_loop.trips)
    (hk : k.val < 4) (u : Fin 2048) (d : Fin 128) :
    a.view.readAt (Elt Ideal) (Rect.unit (s := S8192x128) (k0_off3 k) S2048x128.size (k0_off3_inb k)).toLoadRect X (ix2 u d)
      = a.view.read (Elt Ideal) X (ix2 (row k.val hk u) d) := by
  rw [View.readAt_eq_ld]
  refine View.ld_unit_apply_of _ _ _ _ _ _ fun b => ?_
  refine Eq.trans ?_ (congrArg (· + _) (congrFun (k0_off3_eq k) b).symm)
  match b with
  | ⟨0, _⟩ => rfl
  | ⟨1, _⟩ => exact (Nat.zero_add _).symm

theorem rows4_apply (X : BufTy.Contents (Elt Ideal) arg9.view.ty) (k : Fin k0_t2_loop.trips) (hk : k.val < 4) (u : Fin 2048) :
    arg9.view.readAt (Elt Ideal) (Rect.unit (s := S1x4x1x2048) (k0_off4 k) S1x1x1x2048.size (k0_off4_inb k)).toLoadRect X (ix4 0 0 0 u)
      = arg9.view.read (Elt Ideal) X (ix4 0 ⟨k.val, hk⟩ 0 u) := by
  rw [View.readAt_eq_ld]
  refine View.ld_unit_apply_of _ _ _ _ _ _ fun b => ?_
  refine Eq.trans ?_ (congrArg (· + _) (congrFun (k0_off4_eq k) b).symm)
  match b with
  | ⟨0, _⟩ => rfl
  | ⟨1, _⟩ => rfl
  | ⟨2, _⟩ => rfl
  | ⟨3, _⟩ => exact (Nat.zero_add _).symm

theorem rows5_apply (X : BufTy.Contents (Elt Ideal) arg13.view.ty) (k : Fin k0_t2_loop.trips) (hk : k.val < 4) (u : Fin 2048) :
    arg13.view.readAt (Elt Ideal) (Rect.unit (s := S4x1x2048) (k0_off5 k) S1x1x2048.size (k0_off5_inb k)).toLoadRect X (ix3 0 0 u)
      = arg13.view.read (Elt Ideal) X (ix3 ⟨k.val, hk⟩ 0 u) := by
  rw [View.readAt_eq_ld]
  refine View.ld_unit_apply_of _ _ _ _ _ _ fun b => ?_
  refine Eq.trans ?_ (congrArg (· + _) (congrFun (k0_off5_eq k) b).symm)
  match b with
  | ⟨0, _⟩ => rfl
  | ⟨1, _⟩ => rfl
  | ⟨2, _⟩ => exact (Nat.zero_add _).symm

theorem rows6_apply (X : BufTy.Contents (Elt Ideal) arg10.view.ty) (k : Fin k0_t2_loop.trips) (hk : k.val < 4) (d : Fin 128) (u : Fin 2048) :
    arg10.view.readAt (Elt Ideal) (Rect.unit (s := S128x8192) (k0_off6 k) S128x2048.size (k0_off6_inb k)).toLoadRect X (ix2 d u)
      = arg10.view.read (Elt Ideal) X (ix2 d (row k.val hk u)) := by
  rw [View.readAt_eq_ld]
  refine View.ld_unit_apply_of _ _ _ _ _ _ fun b => ?_
  refine Eq.trans ?_ (congrArg (· + _) (congrFun (k0_off6_eq k) b).symm)
  match b with
  | ⟨0, _⟩ => exact (Nat.zero_add _).symm
  | ⟨1, _⟩ => rfl

theorem keys_apply (X : BufTy.Contents (Elt Ideal) arg4.view.ty) (d : Fin 128) (r : Fin 512) :
    arg4.view.readAt (Elt Ideal) (Rect.unit (s := S1x128x512) ![0, 0, 0] S1x128x512.size inb_S1x128x512_S1x128x512_0_0_0).toLoadRect X (ix3 0 d r)
      = arg4.view.read (Elt Ideal) X (ix3 0 d r) := by
  rw [View.readAt_eq_ld]
  refine View.ld_unit_apply_of _ _ _ _ _ _ fun b => ?_
  match b with
  | ⟨0, _⟩ => rfl
  | ⟨1, _⟩ => exact (Nat.zero_add _).symm
  | ⟨2, _⟩ => exact (Nat.zero_add _).symm

/-! ## The first loop: the row sums -/

/-- Contents with the trip's piece written over them: the row sums in block `k`, elsewhere what was there. -/
theorem tripL1_apply (h2 : k0_cond2 i = 1#1) (X7 : BufTy.Contents (Elt Ideal) arg7.view.ty) (X8 : BufTy.Contents (Elt Ideal) arg8.view.ty) (k : Fin k0_t1_loop.trips)
    (f : BufTy.Contents (Elt Ideal) arg13.view.ty) (L : List (View.Piece (Elt Ideal) S4x1x2048 .f32)) (n : Fin 4) (u : Fin 2048) :
    arg13.view.read (Elt Ideal) (arg13.view.writes (Elt Ideal) f (tripL_k0_t1 (F := Ideal) 𝒱 c bd i arg3 harg3 arg4 harg4 arg5 harg5 arg6 harg6 arg7 harg7 arg8 harg8 arg9 harg9 arg10 harg10 arg11 harg11 arg12 harg12 arg13 harg13 h2 X7 X8 k ++ L)) (ix3 n 0 u)
      = if n.val = k.val then ∑ d : Fin 128, arg8.view.read (Elt Ideal) X8 (ix2 (row n.val n.isLt u) d) * arg7.view.read (Elt Ideal) X7 (ix2 (row n.val n.isLt u) d)
        else arg13.view.read (Elt Ideal) (arg13.view.writes (Elt Ideal) f L) (ix3 n 0 u) := by
  have hk : k.val < 4 := Nat.lt_of_lt_of_le k.isLt k0_t1_abs.2.1
  unfold tripL_k0_t1 trip_k0_t1
  dsimp only
  sl_unfold_words
  show arg13.view.read (Elt Ideal) (arg13.view.writes (Elt Ideal) f ((⟨Rect.unit (s := S4x1x2048) (k0_off2 k) S1x1x2048.size (k0_off2_inb i k h2), _⟩ : View.Piece (Elt Ideal) S4x1x2048 .f32) :: L)) _ = _
  by_cases hn : n.val = k.val
  · rw [if_pos hn]
    obtain rfl : n = ⟨k.val, hk⟩ := Fin.ext hn
    refine (View.read_writes_cons_unit_of_mem _ _ _ _ _ _ (ix3 0 0 u) (k0_off2_eq k) fun a => ?_).trans ?_
    · match a with
      | ⟨0, _⟩ => rfl
      | ⟨1, _⟩ => rfl
      | ⟨2, _⟩ => exact (Nat.zero_add _).symm
    · refine (pay4_apply ..).trans (Finset.sum_congr rfl fun d _ => ?_)
      exact congrArg₂ (· * ·) (rows1_apply i arg8 X8 h2 k hk u d) (rows1_apply i arg7 X7 h2 k hk u d)
  · rw [if_neg hn]
    refine View.read_writes_cons_unit_of_not_mem _ _ _ _ _ _ (k0_off2_eq k) 0 ?_
    show n.val < k.val ∨ k.val + 1 ≤ n.val
    omega

/-! ## The second loop -/

variable (v8 v10 : Vec Ideal S512x128 .bf16) (X4 : BufTy.Contents (Elt Ideal) arg4.view.ty) (X6 : BufTy.Contents (Elt Ideal) arg6.view.ty)
  (X8 : BufTy.Contents (Elt Ideal) arg8.view.ty) (X9 : BufTy.Contents (Elt Ideal) arg9.view.ty) (X13 : BufTy.Contents (Elt Ideal) arg13.view.ty)
  (k : Fin k0_t2_loop.trips) (acc : FVec Ideal S512x128 .f32 × FVec Ideal S512x128 .f32) (f : BufTy.Contents (Elt Ideal) arg10.view.ty)

/-- The window of the gradient of the scores is the whole one's at the block's queries. -/
theorem gs_window (hk : k.val < 4) (r : Fin 512) (u : Fin 2048) :
    k0_pay14 (F := Ideal) (k0_pay5 v8) (k0_pay6 v10)
        (arg6.view.readAt (Elt Ideal) (Rect.unit (s := S8192x128) (k0_off3 k) S2048x128.size (k0_off3_inb k)).toLoadRect X6)
        (arg8.view.readAt (Elt Ideal) (Rect.unit (s := S8192x128) (k0_off3 k) S2048x128.size (k0_off3_inb k)).toLoadRect X8)
        (arg9.view.readAt (Elt Ideal) (Rect.unit (s := S1x4x1x2048) (k0_off4 k) S1x1x1x2048.size (k0_off4_inb k)).toLoadRect X9)
        (arg13.view.readAt (Elt Ideal) (Rect.unit (s := S4x1x2048) (k0_off5 k) S1x1x2048.size (k0_off5_inb k)).toLoadRect X13) (ix2 r u)
      = gs v8 v10 (arg6.view.read (Elt Ideal) X6) (arg8.view.read (Elt Ideal) X8) (arg9.view.read (Elt Ideal) X9) (arg13.view.read (Elt Ideal) X13) r (row k.val hk u) := by
  rw [pay14_apply, pay5_eq, pay6_eq, gs, wt, rows4_apply arg9 X9 k hk u, rows5_apply arg13 X13 k hk u, hi_row, lo_row]
  simp only [rows3_apply _ _ k hk]

theorem wt_window (hk : k.val < 4) (r : Fin 512) (u : Fin 2048) :
    k0_pay13 (F := Ideal) (k0_pay5 v8)
        (arg6.view.readAt (Elt Ideal) (Rect.unit (s := S8192x128) (k0_off3 k) S2048x128.size (k0_off3_inb k)).toLoadRect X6)
        (arg9.view.readAt (Elt Ideal) (Rect.unit (s := S1x4x1x2048) (k0_off4 k) S1x1x1x2048.size (k0_off4_inb k)).toLoadRect X9) (ix2 r u)
      = wt v8 (arg6.view.read (Elt Ideal) X6) (arg9.view.read (Elt Ideal) X9) r (row k.val hk u) := by
  rw [pay13_apply, pay5_eq, wt, rows4_apply arg9 X9 k hk u, hi_row, lo_row]
  simp only [rows3_apply _ _ k hk]

/-- What the trip yields, in the printed payloads. -/
theorem tripR2_eq :
    tripR_k0_t2 (F := Ideal) 𝒱 c bd i arg3 harg3 arg4 harg4 arg5 harg5 arg6 harg6 arg7 harg7 arg8 harg8 arg9 harg9 arg10 harg10 arg11 harg11 arg12 harg12 arg13 harg13 v8 v10 X4 X6 X8 X9 X13 k acc f
      = (k0_pay16 (F := Ideal) (k0_pay5 v8) (k0_pay6 v10) acc.1 (arg6.view.readAt (Elt Ideal) (Rect.unit (s := S8192x128) (k0_off3 k) S2048x128.size (k0_off3_inb k)).toLoadRect X6) (arg8.view.readAt (Elt Ideal) (Rect.unit (s := S8192x128) (k0_off3 k) S2048x128.size (k0_off3_inb k)).toLoadRect X8)
            (arg9.view.readAt (Elt Ideal) (Rect.unit (s := S1x4x1x2048) (k0_off4 k) S1x1x1x2048.size (k0_off4_inb k)).toLoadRect X9)
            (arg13.view.readAt (Elt Ideal) (Rect.unit (s := S4x1x2048) (k0_off5 k) S1x1x2048.size (k0_off5_inb k)).toLoadRect X13),
          k0_pay8 (F := Ideal) acc.2 (k0_pay17 (k0_pay5 v8) (arg6.view.readAt (Elt Ideal) (Rect.unit (s := S8192x128) (k0_off3 k) S2048x128.size (k0_off3_inb k)).toLoadRect X6) (arg8.view.readAt (Elt Ideal) (Rect.unit (s := S8192x128) (k0_off3 k) S2048x128.size (k0_off3_inb k)).toLoadRect X8)
            (arg9.view.readAt (Elt Ideal) (Rect.unit (s := S1x4x1x2048) (k0_off4 k) S1x1x1x2048.size (k0_off4_inb k)).toLoadRect X9))) := by
  unfold tripR_k0_t2 trip_k0_t2
  rfl

/-- The one piece the trip stores. -/
theorem tripL2_eq :
    tripL_k0_t2 (F := Ideal) 𝒱 c bd i arg3 harg3 arg4 harg4 arg5 harg5 arg6 harg6 arg7 harg7 arg8 harg8 arg9 harg9 arg10 harg10 arg11 harg11 arg12 harg12 arg13 harg13 v8 v10 X4 X6 X8 X9 X13 k acc f
      = [⟨Rect.unit (s := S128x8192) (k0_off6 k) S128x2048.size (k0_off6_inb k),
          k0_pay15 (F := Ideal) (k0_pay5 v8) (k0_pay6 v10) (arg6.view.readAt (Elt Ideal) (Rect.unit (s := S8192x128) (k0_off3 k) S2048x128.size (k0_off3_inb k)).toLoadRect X6) (arg8.view.readAt (Elt Ideal) (Rect.unit (s := S8192x128) (k0_off3 k) S2048x128.size (k0_off3_inb k)).toLoadRect X8)
            (arg9.view.readAt (Elt Ideal) (Rect.unit (s := S1x4x1x2048) (k0_off4 k) S1x1x1x2048.size (k0_off4_inb k)).toLoadRect X9)
            (arg13.view.readAt (Elt Ideal) (Rect.unit (s := S4x1x2048) (k0_off5 k) S1x1x2048.size (k0_off5_inb k)).toLoadRect X13)
            (arg10.view.readAt (Elt Ideal) (Rect.unit (s := S128x8192) (k0_off6 k) S128x2048.size (k0_off6_inb k)).toLoadRect f) (arg4.view.readAt (Elt Ideal) (Rect.unit (s := S1x128x512) ![0, 0, 0] S1x128x512.size inb_S1x128x512_S1x128x512_0_0_0).toLoadRect X4)⟩] := by
  unfold tripL_k0_t2 trip_k0_t2
  rfl

/-- The keys' carried sum after the trip. -/
theorem tripR2_fst (hk : k.val < 4) (r : Fin 512) (d : Fin 128) :
    (tripR_k0_t2 (F := Ideal) 𝒱 c bd i arg3 harg3 arg4 harg4 arg5 harg5 arg6 harg6 arg7 harg7 arg8 harg8 arg9 harg9 arg10 harg10 arg11 harg11 arg12 harg12 arg13 harg13 v8 v10 X4 X6 X8 X9 X13 k acc f).1 (ix2 r d)
      = acc.1 (ix2 r d) + ∑ u : Fin 2048, gs v8 v10 (arg6.view.read (Elt Ideal) X6) (arg8.view.read (Elt Ideal) X8) (arg9.view.read (Elt Ideal) X9) (arg13.view.read (Elt Ideal) X13) r (row k.val hk u)
          * arg6.view.read (Elt Ideal) X6 (ix2 (row k.val hk u) d) := by
  rw [tripR2_eq]
  refine (pay16_apply ..).trans (congrArg _ (Finset.sum_congr rfl fun u _ => ?_))
  exact congrArg₂ (· * ·) (gs_window arg6 arg8 arg9 arg13 v8 v10 X6 X8 X9 X13 k hk r u) (rows3_apply arg6 X6 k hk u d)

/-- The values' carried sum after the trip. -/
theorem tripR2_snd (hk : k.val < 4) (r : Fin 512) (d : Fin 128) :
    (tripR_k0_t2 (F := Ideal) 𝒱 c bd i arg3 harg3 arg4 harg4 arg5 harg5 arg6 harg6 arg7 harg7 arg8 harg8 arg9 harg9 arg10 harg10 arg11 harg11 arg12 harg12 arg13 harg13 v8 v10 X4 X6 X8 X9 X13 k acc f).2 (ix2 r d)
      = acc.2 (ix2 r d) + ∑ u : Fin 2048, wt v8 (arg6.view.read (Elt Ideal) X6) (arg9.view.read (Elt Ideal) X9) r (row k.val hk u)
          * arg8.view.read (Elt Ideal) X8 (ix2 (row k.val hk u) d) := by
  rw [tripR2_eq]
  refine (pay8_apply ..).trans (congrArg _ ((pay17_apply ..).trans (Finset.sum_congr rfl fun u _ => ?_)))
  exact congrArg₂ (· * ·) (wt_window arg6 arg9 v8 X6 X9 k hk r u) (rows3_apply arg8 X8 k hk u d)

/-- The queries' gradient with the trip's piece written over it. -/
theorem tripL2_apply (hk : k.val < 4) (L : List (View.Piece (Elt Ideal) S128x8192 .f32)) (d : Fin 128) (x : Fin 8192) :
    arg10.view.read (Elt Ideal) (arg10.view.writes (Elt Ideal) f (tripL_k0_t2 (F := Ideal) 𝒱 c bd i arg3 harg3 arg4 harg4 arg5 harg5 arg6 harg6 arg7 harg7 arg8 harg8 arg9 harg9 arg10 harg10 arg11 harg11 arg12 harg12 arg13 harg13 v8 v10 X4 X6 X8 X9 X13 k acc (arg10.view.writes (Elt Ideal) f L) ++ L)) (ix2 d x)
      = if x.val / 2048 = k.val then
          arg10.view.read (Elt Ideal) (arg10.view.writes (Elt Ideal) f L) (ix2 d x)
            + (∑ r : Fin 512, arg4.view.read (Elt Ideal) X4 (ix3 0 d r)
                * gs v8 v10 (arg6.view.read (Elt Ideal) X6) (arg8.view.read (Elt Ideal) X8) (arg9.view.read (Elt Ideal) X9) (arg13.view.read (Elt Ideal) X13) r x) * cs
        else arg10.view.read (Elt Ideal) (arg10.view.writes (Elt Ideal) f L) (ix2 d x) := by
  rw [tripL2_eq, List.singleton_append]
  by_cases hn : x.val / 2048 = k.val
  · rw [if_pos hn]
    have hx : row k.val hk (lo x) = x := Fin.ext (by simp only; omega)
    refine (View.read_writes_cons_unit_of_mem _ _ _ _ _ _ (ix2 d (lo x)) (k0_off6_eq k) fun a => ?_).trans ?_
    · match a with
      | ⟨0, _⟩ => exact (Nat.zero_add _).symm
      | ⟨1, _⟩ => exact (congrArg Fin.val hx).symm
    · refine (pay15_apply ..).trans (congrArg₂ (· + ·) ((rows6_apply arg10 _ k hk d (lo x)).trans (by rw [hx])) (congrArg (· * cs) (Finset.sum_congr rfl fun r _ => ?_)))
      exact congrArg₂ (· * ·) (keys_apply arg4 X4 d r) ((gs_window arg6 arg8 arg9 arg13 v8 v10 X6 X8 X9 X13 k hk r (lo x)).trans (by rw [hx]))
  · rw [if_neg hn]
    refine View.read_writes_cons_unit_of_not_mem _ _ _ _ _ _ (k0_off6_eq k) 1 ?_
    show x.val < 2048 * k.val ∨ 2048 * k.val + 2048 ≤ x.val
    omega
end
end Cert.KernelIdeal.Bwd
end
-- ==== Proof.Loop.lean ====
/-
  The kernel's two loops over the whole sequence: the first leaves in the scratch the row sums of `do · o` of the
  head; the second, for one block of 512 keys, leaves the sums over all 8192 queries that make the gradients of those
  keys and values, and adds to each query's gradient what these keys contribute.
-/
module
public import proofs.«01_k».proof.Proof.Trip
@[expose] public section
set_option maxRecDepth 16384
noncomputable section
namespace Cert.KernelIdeal.Bwd
open Cert.KernelIdeal Cert.KernelIdeal.Gen Idealize.ShloMosaic Idealize.ShloMosaic.TcCoe Idealize.SL.Sem

/-- A sum over the four blocks of queries is the sum over the queries. -/
theorem sum_rows (f : Fin 8192 → EReal) : (∑ j : Fin 4, ∑ u : Fin 2048, f (row j.val j.isLt u)) = ∑ x : Fin 8192, f x := by
  rw [← Fintype.sum_prod_type' (f := fun (j : Fin 4) (u : Fin 2048) => f (row j.val j.isLt u))]
  exact Fintype.sum_equiv (finProdFinEquiv (m := 4) (n := 2048)) _ f fun p => congrArg f (Fin.ext (Nat.add_comm _ _))

/-- The row sums of `do · o`. -/
def delta (o g : Vec Ideal S8192x128 .bf16) : Vec Ideal S4x1x2048 .f32 := fun y =>
  ∑ d : Fin 128, g (ix2 (row (y 0).val (y 0).isLt (y 2)) d) * o (ix2 (row (y 0).val (y 0).isLt (y 2)) d)

/-- What one block of keys adds to the gradient of query `x`. -/
def dqPart (k : Vec Ideal S512x128 .bf16) (kt : Vec Ideal S1x128x512 .bf16) (v : Vec Ideal S512x128 .bf16) (q o : Vec Ideal S8192x128 .bf16)
    (l : Vec Ideal S1x4x1x2048 .f32) (dl : Vec Ideal S4x1x2048 .f32) (d : Fin 128) (x : Fin 8192) : EReal :=
  (∑ r : Fin 512, kt (ix3 0 d r) * gs k v q o l dl r x) * cs

/-- The gradient of key `r` of the block, over one head's queries, short of its factor. -/
def dkPart (k v : Vec Ideal S512x128 .bf16) (q o : Vec Ideal S8192x128 .bf16) (l : Vec Ideal S1x4x1x2048 .f32) (dl : Vec Ideal S4x1x2048 .f32)
    (r : Fin 512) (d : Fin 128) : EReal :=
  ∑ x : Fin 8192, gs k v q o l dl r x * q (ix2 x d)

/-- The gradient of value `r` of the block, over one head's queries. -/
def dvPart (k : Vec Ideal S512x128 .bf16) (q o : Vec Ideal S8192x128 .bf16) (l : Vec Ideal S1x4x1x2048 .f32) (r : Fin 512) (d : Fin 128) : EReal :=
  ∑ x : Fin 8192, wt k q l r x * o (ix2 x d)

section
variable (𝒱 : Variants) (c : Dev nD) (bd : Option 𝒱.V) (i : grid0.Coords)
  (arg3 : Memref sig .tc .vmem S512x128 .bf16) (harg3 : arg3.IsWhole)
  (arg4 : Memref sig .tc .vmem S1x128x512 .bf16) (harg4 : arg4.IsWhole)
  (arg5 : Memref sig .tc .vmem S512x128 .bf16) (harg5 : arg5.IsWhole)
  (arg6 : Memref sig .tc .vmem S8192x128 .bf16) (harg6 : arg6.IsWhole)
  (arg7 : Memref sig .tc .vmem S8192x128 .bf16) (harg7 : arg7.IsWhole)
  (arg8 : Memref sig .tc .vmem S8192x128 .bf16) (harg8 : arg8.IsWhole)
  (arg9 : Memref sig .tc .vmem S1x4x1x2048 .f32) (harg9 : arg9.IsWhole)
  (arg10 : Memref sig .tc .vmem S128x8192 .f32) (harg10 : arg10.IsWhole)
  (arg11 : Memref sig .tc .vmem S8192x128 .f32) (harg11 : arg11.IsWhole)
  (arg12 : Memref sig .tc .vmem S8192x128 .f32) (harg12 : arg12.IsWhole)
  (arg13 : Memref sig .tc .vmem S4x1x2048 .f32) (harg13 : arg13.IsWhole)

theorem trips1 : k0_t1_loop.trips = 4 := by decide
theorem trips2 : k0_t2_loop.trips = 4 := by decide

/-- The scratch after the first `n` trips of the first loop. -/
theorem pb_apply (h2 : k0_cond2 i = 1#1) (X7 : BufTy.Contents (Elt Ideal) arg7.view.ty) (X8 : BufTy.Contents (Elt Ideal) arg8.view.ty)
    (f : BufTy.Contents (Elt Ideal) arg13.view.ty) (n : ℕ) (hn : n ≤ 4) (y : S4x1x2048.Idx) :
    arg13.view.read (Elt Ideal) (arg13.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 h2 X7 X8 n)) y
      = if (y 0).val < n then delta (arg7.view.read (Elt Ideal) X7) (arg8.view.read (Elt Ideal) X8) y
        else arg13.view.read (Elt Ideal) f y := by
  obtain ⟨a, rfl⟩ : ∃ a : Fin 4 × Fin 2048, y = ix3 a.1 0 a.2 := ⟨(y 0, y 2), by
    funext b; match b with
    | ⟨0, _⟩ => rfl
    | ⟨1, _⟩ => exact Fin.ext (by have := (y 1).isLt; change (y 1).val < 1 at this; change (y 1).val = 0; omega)
    | ⟨2, _⟩ => rfl⟩
  obtain ⟨j, u⟩ := a
  induction n with
  | zero => rw [if_neg (Nat.not_lt_zero _)]; rfl
  | succ n ih =>
    have hk : n < k0_t1_loop.trips := trips1 ▸ hn
    rw [pb_k0_t1_succ 𝒱 c bd i arg3 harg3 arg4 harg4 arg5 harg5 arg6 harg6 arg7 harg7 arg8 harg8 arg9 harg9 arg10 harg10 arg11 harg11 arg12 harg12 arg13 harg13 h2 X7 X8 ⟨n, hk⟩, tripL1_apply, ih (Nat.le_of_succ_le hn)]
    show (if j.val = n then _ else if j.val < n then _ else _) = if j.val < n + 1 then _ else _
    by_cases h : j.val = n
    · rw [if_pos h, if_pos (by omega)]; rfl
    · rw [if_neg h]
      by_cases h' : j.val < n
      · rw [if_pos h', if_pos (by omega)]
      · rw [if_neg h', if_neg (by omega)]

variable (v8 v10 : Vec Ideal S512x128 .bf16) (X4 : BufTy.Contents (Elt Ideal) arg4.view.ty) (X6 : BufTy.Contents (Elt Ideal) arg6.view.ty)
  (X8 : BufTy.Contents (Elt Ideal) arg8.view.ty) (X9 : BufTy.Contents (Elt Ideal) arg9.view.ty) (X13 : BufTy.Contents (Elt Ideal) arg13.view.ty)
  (G : BufTy.Contents (Elt Ideal) arg10.view.ty) (init : FVec Ideal S512x128 .f32 × FVec Ideal S512x128 .f32)

/-- The state of the second loop before trip `n`. -/
abbrev St (n : ℕ) := st_k0_t2 (F := Ideal) 𝒱 c bd i arg3 harg3 arg4 harg4 arg5 harg5 arg6 harg6 arg7 harg7 arg8 harg8 arg9 harg9 arg10 harg10 arg11 harg11 arg12 harg12 arg13 harg13 v8 v10 X4 X6 X8 X9 X13 G init n

theorem st_pieces_zero :
    (St 𝒱 c bd i arg3 harg3 arg4 harg4 arg5 harg5 arg6 harg6 arg7 harg7 arg8 harg8 arg9 harg9 arg10 harg10 arg11 harg11 arg12 harg12 arg13 harg13 v8 v10 X4 X6 X8 X9 X13 G init 0).2 = [] := rfl

/-- The keys' carried sum. -/
theorem st_fst (n : ℕ) (hn : n ≤ 4) (r : Fin 512) (d : Fin 128) :
    (St 𝒱 c bd i arg3 harg3 arg4 harg4 arg5 harg5 arg6 harg6 arg7 harg7 arg8 harg8 arg9 harg9 arg10 harg10 arg11 harg11 arg12 harg12 arg13 harg13 v8 v10 X4 X6 X8 X9 X13 G init n).1.1 (ix2 r d)
      = init.1 (ix2 r d) + ∑ j : Fin n, ∑ u : Fin 2048, gs v8 v10 (arg6.view.read (Elt Ideal) X6) (arg8.view.read (Elt Ideal) X8) (arg9.view.read (Elt Ideal) X9) (arg13.view.read (Elt Ideal) X13) r (row j.val (j.isLt.trans_le hn) u)
          * arg6.view.read (Elt Ideal) X6 (ix2 (row j.val (j.isLt.trans_le hn) u) d) := by
  induction n with
  | zero => rw [Finset.univ_eq_empty, Finset.sum_empty, add_zero]; rfl
  | succ n ih =>
    have hk : n < k0_t2_loop.trips := trips2 ▸ hn
    unfold St
    rw [st_k0_t2_succ 𝒱 c bd i arg3 harg3 arg4 harg4 arg5 harg5 arg6 harg6 arg7 harg7 arg8 harg8 arg9 harg9 arg10 harg10 arg11 harg11 arg12 harg12 arg13 harg13 v8 v10 X4 X6 X8 X9 X13 G init ⟨n, hk⟩]
    refine (tripR2_fst 𝒱 c bd i arg3 harg3 arg4 harg4 arg5 harg5 arg6 harg6 arg7 harg7 arg8 harg8 arg9 harg9 arg10 harg10 arg11 harg11 arg12 harg12 arg13 harg13 v8 v10 X4 X6 X8 X9 X13 ⟨n, hk⟩ _ _ hn r d).trans ?_
    rw [ih (Nat.le_of_succ_le hn), Fin.sum_univ_castSucc (n := n), add_assoc]
    rfl

/-- The values' carried sum. -/
theorem st_snd (n : ℕ) (hn : n ≤ 4) (r : Fin 512) (d : Fin 128) :
    (St 𝒱 c bd i arg3 harg3 arg4 harg4 arg5 harg5 arg6 harg6 arg7 harg7 arg8 harg8 arg9 harg9 arg10 harg10 arg11 harg11 arg12 harg12 arg13 harg13 v8 v10 X4 X6 X8 X9 X13 G init n).1.2 (ix2 r d)
      = init.2 (ix2 r d) + ∑ j : Fin n, ∑ u : Fin 2048, wt v8 (arg6.view.read (Elt Ideal) X6) (arg9.view.read (Elt Ideal) X9) r (row j.val (j.isLt.trans_le hn) u)
          * arg8.view.read (Elt Ideal) X8 (ix2 (row j.val (j.isLt.trans_le hn) u) d) := by
  induction n with
  | zero => rw [Finset.univ_eq_empty, Finset.sum_empty, add_zero]; rfl
  | succ n ih =>
    have hk : n < k0_t2_loop.trips := trips2 ▸ hn
    unfold St
    rw [st_k0_t2_succ 𝒱 c bd i arg3 harg3 arg4 harg4 arg5 harg5 arg6 harg6 arg7 harg7 arg8 harg8 arg9 harg9 arg10 harg10 arg11 harg11 arg12 harg12 arg13 harg13 v8 v10 X4 X6 X8 X9 X13 G init ⟨n, hk⟩]
    refine (tripR2_snd 𝒱 c bd i arg3 harg3 arg4 harg4 arg5 harg5 arg6 harg6 arg7 harg7 arg8 harg8 arg9 harg9 arg10 harg10 arg11 harg11 arg12 harg12 arg13 harg13 v8 v10 X4 X6 X8 X9 X13 ⟨n, hk⟩ _ _ hn r d).trans ?_
    rw [ih (Nat.le_of_succ_le hn), Fin.sum_univ_castSucc (n := n), add_assoc]
    rfl

/-- The queries' gradient after `n` trips. -/
theorem st_dq (n : ℕ) (hn : n ≤ 4) (d : Fin 128) (x : Fin 8192) :
    arg10.view.read (Elt Ideal) (arg10.view.writes (Elt Ideal) G (St 𝒱 c bd i arg3 harg3 arg4 harg4 arg5 harg5 arg6 harg6 arg7 harg7 arg8 harg8 arg9 harg9 arg10 harg10 arg11 harg11 arg12 harg12 arg13 harg13 v8 v10 X4 X6 X8 X9 X13 G init n).2) (ix2 d x)
      = if x.val / 2048 < n then
          arg10.view.read (Elt Ideal) G (ix2 d x)
            + dqPart v8 (arg4.view.read (Elt Ideal) X4) v10 (arg6.view.read (Elt Ideal) X6) (arg8.view.read (Elt Ideal) X8) (arg9.view.read (Elt Ideal) X9) (arg13.view.read (Elt Ideal) X13) d x
        else arg10.view.read (Elt Ideal) G (ix2 d x) := by
  induction n with
  | zero => rw [if_neg (Nat.not_lt_zero _)]; rfl
  | succ n ih =>
    have hk : n < k0_t2_loop.trips := trips2 ▸ hn
    unfold St
    rw [st_k0_t2_succ 𝒱 c bd i arg3 harg3 arg4 harg4 arg5 harg5 arg6 harg6 arg7 harg7 arg8 harg8 arg9 harg9 arg10 harg10 arg11 harg11 arg12 harg12 arg13 harg13 v8 v10 X4 X6 X8 X9 X13 G init ⟨n, hk⟩]
    refine (tripL2_apply 𝒱 c bd i arg3 harg3 arg4 harg4 arg5 harg5 arg6 harg6 arg7 harg7 arg8 harg8 arg9 harg9 arg10 harg10 arg11 harg11 arg12 harg12 arg13 harg13 v8 v10 X4 X6 X8 X9 X13 ⟨n, hk⟩ _ G hn _ d x).trans ?_
    rw [ih (Nat.le_of_succ_le hn)]
    show (if x.val / 2048 = n then _ else _) = if x.val / 2048 < n + 1 then _ else _
    by_cases h : x.val / 2048 = n
    · rw [if_pos h, if_neg (show ¬ x.val / 2048 < n by omega), if_pos (show x.val / 2048 < n + 1 by omega)]; rfl
    · rw [if_neg h]
      by_cases h' : x.val / 2048 < n
      · rw [if_pos h', if_pos (by omega)]
      · rw [if_neg h', if_neg (by omega)]

/-! ## After the last trip -/

theorem pb_all (h2 : k0_cond2 i = 1#1) (X7 : BufTy.Contents (Elt Ideal) arg7.view.ty) (X8 : BufTy.Contents (Elt Ideal) arg8.view.ty)
    (f : BufTy.Contents (Elt Ideal) arg13.view.ty) :
    arg13.view.read (Elt Ideal) (arg13.view.writes (Elt Ideal) f (pb_k0_t1 (F := Ideal) 𝒱 c bd i arg3 harg3 arg4 harg4 arg5 harg5 arg6 harg6 arg7 harg7 arg8 harg8 arg9 harg9 arg10 harg10 arg11 harg11 arg12 harg12 arg13 harg13 h2 X7 X8 k0_t1_loop.trips))
      = delta (arg7.view.read (Elt Ideal) X7) (arg8.view.read (Elt Ideal) X8) := by
  funext y
  rw [trips1, pb_apply 𝒱 c bd i arg3 harg3 arg4 harg4 arg5 harg5 arg6 harg6 arg7 harg7 arg8 harg8 arg9 harg9 arg10 harg10 arg11 harg11 arg12 harg12 arg13 harg13 h2 X7 X8 f 4 le_rfl y, if_pos (show (y 0).val < 4 from (y 0).isLt)]

theorem st_dk (h0 : ∀ y, init.1 y = 0) (r : Fin 512) (d : Fin 128) :
    (St 𝒱 c bd i arg3 harg3 arg4 harg4 arg5 harg5 arg6 harg6 arg7 harg7 arg8 harg8 arg9 harg9 arg10 harg10 arg11 harg11 arg12 harg12 arg13 harg13 v8 v10 X4 X6 X8 X9 X13 G init k0_t2_loop.trips).1.1 (ix2 r d)
      = dkPart v8 v10 (arg6.view.read (Elt Ideal) X6) (arg8.view.read (Elt Ideal) X8) (arg9.view.read (Elt Ideal) X9) (arg13.view.read (Elt Ideal) X13) r d := by
  rw [trips2, st_fst 𝒱 c bd i arg3 harg3 arg4 harg4 arg5 harg5 arg6 harg6 arg7 harg7 arg8 harg8 arg9 harg9 arg10 harg10 arg11 harg11 arg12 harg12 arg13 harg13 v8 v10 X4 X6 X8 X9 X13 G init 4 le_rfl r d, h0, zero_add]
  exact sum_rows fun x => gs v8 v10 (arg6.view.read (Elt Ideal) X6) (arg8.view.read (Elt Ideal) X8) (arg9.view.read (Elt Ideal) X9) (arg13.view.read (Elt Ideal) X13) r x * arg6.view.read (Elt Ideal) X6 (ix2 x d)

theorem st_dv (h0 : ∀ y, init.2 y = 0) (r : Fin 512) (d : Fin 128) :
    (St 𝒱 c bd i arg3 harg3 arg4 harg4 arg5 harg5 arg6 harg6 arg7 harg7 arg8 harg8 arg9 harg9 arg10 harg10 arg11 harg11 arg12 harg12 arg13 harg13 v8 v10 X4 X6 X8 X9 X13 G init k0_t2_loop.trips).1.2 (ix2 r d)
      = dvPart v8 (arg6.view.read (Elt Ideal) X6) (arg8.view.read (Elt Ideal) X8) (arg9.view.read (Elt Ideal) X9) r d := by
  rw [trips2, st_snd 𝒱 c bd i arg3 harg3 arg4 harg4 arg5 harg5 arg6 harg6 arg7 harg7 arg8 harg8 arg9 harg9 arg10 harg10 arg11 harg11 arg12 harg12 arg13 harg13 v8 v10 X4 X6 X8 X9 X13 G init 4 le_rfl r d, h0, zero_add]
  exact sum_rows fun x => wt v8 (arg6.view.read (Elt Ideal) X6) (arg9.view.read (Elt Ideal) X9) r x * arg8.view.read (Elt Ideal) X8 (ix2 x d)

theorem st_dq_all (d : Fin 128) (x : Fin 8192) :
    arg10.view.read (Elt Ideal) (arg10.view.writes (Elt Ideal) G (St 𝒱 c bd i arg3 harg3 arg4 harg4 arg5 harg5 arg6 harg6 arg7 harg7 arg8 harg8 arg9 harg9 arg10 harg10 arg11 harg11 arg12 harg12 arg13 harg13 v8 v10 X4 X6 X8 X9 X13 G init k0_t2_loop.trips).2) (ix2 d x)
      = arg10.view.read (Elt Ideal) G (ix2 d x)
          + dqPart v8 (arg4.view.read (Elt Ideal) X4) v10 (arg6.view.read (Elt Ideal) X6) (arg8.view.read (Elt Ideal) X8) (arg9.view.read (Elt Ideal) X9) (arg13.view.read (Elt Ideal) X13) d x := by
  rw [trips2, st_dq 𝒱 c bd i arg3 harg3 arg4 harg4 arg5 harg5 arg6 harg6 arg7 harg7 arg8 harg8 arg9 harg9 arg10 harg10 arg11 harg11 arg12 harg12 arg13 harg13 v8 v10 X4 X6 X8 X9 X13 G init 4 le_rfl d x, if_pos (by omega)]
end
end Cert.KernelIdeal.Bwd
end
-- ==== Proof.Bwd.Point.lean ====
/-
  What one point of the grid leaves in the three results' blocks and in the scratch, in each of the three cases of a
  point: to the queries' gradient it adds what its block of keys contributes, to the rows of its block of keys in the
  keys' and values' gradients it adds the sums over the head's queries.
-/
module
public import proofs.«01_k».proof.Proof.Bwd.Value
public import proofs.«01_k».proof.Proof.Loop
public import Idealize.ShloMosaic.Lib.VecWindow
@[expose] public section
set_option maxRecDepth 16384
noncomputable section
namespace Cert.KernelIdeal.Bwd
open Cert.KernelIdeal Cert.KernelIdeal.Gen Idealize.ShloMosaic Idealize.ShloMosaic.TcCoe Idealize.SL.Sem

/-- A block with `f` added to the rows of key block `b`. -/
def addAt (b : ℕ) (f : Fin 512 → Fin 128 → EReal) (x : Vec Ideal S8192x128 .f32) : Vec Ideal S8192x128 .f32 := fun y =>
  if (y 0).val / 512 = b then x y + f ⟨(y 0).val % 512, Nat.mod_lt _ (by decide)⟩ (y 1) else x y

section
variable (c : Dev nD) (i : grid0.Coords)
  (arg3 : Memref sig .tc .vmem S512x128 .bf16) (harg3 : arg3.IsWhole)
  (arg4 : Memref sig .tc .vmem S1x128x512 .bf16) (harg4 : arg4.IsWhole)
  (arg5 : Memref sig .tc .vmem S512x128 .bf16) (harg5 : arg5.IsWhole)
  (arg6 : Memref sig .tc .vmem S8192x128 .bf16) (harg6 : arg6.IsWhole)
  (arg7 : Memref sig .tc .vmem S8192x128 .bf16) (harg7 : arg7.IsWhole)
  (arg8 : Memref sig .tc .vmem S8192x128 .bf16) (harg8 : arg8.IsWhole)
  (arg9 : Memref sig .tc .vmem S1x4x1x2048 .f32) (harg9 : arg9.IsWhole)
  (arg10 : Memref sig .tc .vmem S128x8192 .f32) (harg10 : arg10.IsWhole)
  (arg11 : Memref sig .tc .vmem S8192x128 .f32) (harg11 : arg11.IsWhole)
  (arg12 : Memref sig .tc .vmem S8192x128 .f32) (harg12 : arg12.IsWhole)
  (arg13 : Memref sig .tc .vmem S4x1x2048 .f32) (harg13 : arg13.IsWhole)
  (x0 : Vec Ideal S512x128 .bf16) (x1 : Vec Ideal S1x128x512 .bf16) (x2 : Vec Ideal S512x128 .bf16) (x3 x4 x5 : Vec Ideal S8192x128 .bf16) (x6 : Vec Ideal S1x4x1x2048 .f32)
  (xo7 : Vec Ideal S128x8192 .f32) (xo8 xo9 : Vec Ideal S8192x128 .f32) (xs0 : Vec Ideal S4x1x2048 .f32)

/-- Rows of one key block stored over contents: the block's rows changed as the payload says, the others kept. -/
theorem store_rows (a : Memref sig .tc .vmem S8192x128 .f32) (X : BufTy.Contents (Elt Ideal) a.view.ty) (L : List (View.Piece (Elt Ideal) S8192x128 .f32))
    (f : Fin 512 → Fin 128 → EReal) {inb} {w : Vec Ideal S512x128 .f32}
    (hw : ∀ r d, w (ix2 r d) = a.view.readAt (Elt Ideal) (Rect.unit (s := S8192x128) (k0_off7 i) S512x128.size inb).toLoadRect (a.view.writes (Elt Ideal) X L) (ix2 r d) + f r d)
    (y : S8192x128.Idx) :
    a.view.read (Elt Ideal) (a.view.writes (Elt Ideal) X ((⟨Rect.unit (s := S8192x128) (k0_off7 i) S512x128.size inb, w⟩ : View.Piece (Elt Ideal) S8192x128 .f32) :: L)) y
      = addAt (i 2).val f (a.view.read (Elt Ideal) (a.view.writes (Elt Ideal) X L)) y := by
  have hy : (y 0).val < 8192 := (y 0).isLt
  unfold addAt
  by_cases h : (y 0).val / 512 = (i 2).val
  · rw [if_pos h]
    have hd := Nat.div_add_mod (y 0).val 512
    refine (View.read_writes_cons_unit_of_mem _ _ inb w L y (ix2 ⟨(y 0).val % 512, Nat.mod_lt _ (by decide)⟩ (y 1)) (k0_off7_eq i) fun b => ?_).trans ?_
    · match b with
      | ⟨0, _⟩ => show (y 0).val = 512 * (i 2).val + (y 0).val % 512; omega
      | ⟨1, _⟩ => exact (Nat.zero_add _).symm
    · refine (hw _ _).trans (congrArg (· + _) ?_)
      rw [View.readAt_eq_ld]
      refine View.ld_unit_apply_of _ _ _ _ _ _ fun b => ?_
      refine Eq.trans ?_ (congrArg (· + _) (congrFun (k0_off7_eq i) b).symm)
      match b with
      | ⟨0, _⟩ => show (y 0).val = 512 * (i 2).val + (y 0).val % 512; omega
      | ⟨1, _⟩ => exact (Nat.zero_add _).symm
  · rw [if_neg h]
    exact View.read_writes_cons_unit_of_not_mem _ _ inb w L y (k0_off7_eq i) 0 (by
      show (y 0).val < 512 * (i 2).val ∨ 512 * (i 2).val + 512 ≤ (y 0).val; omega)

theorem pay7_zero (z : S512x128.Idx) : k0_pay7 (F := Ideal) z = 0 := by rw [eq_ix2 z]; exact pay7_apply _ _

theorem keys_read : arg3.view.readAt (Elt Ideal) (Rect.unit (s := S512x128) ![0, 0] ![512, 128] inb_S512x128_S512x128_0_0).toLoadRect (harg3.unread x0) = x0 :=
  (View.readAt_full _ _ _).trans (harg3.read_unread x0)
theorem vals_read : arg5.view.readAt (Elt Ideal) (Rect.unit (s := S512x128) ![0, 0] ![512, 128] inb_S512x128_S512x128_0_0).toLoadRect (harg5.unread x2) = x2 :=
  (View.readAt_full _ _ _).trans (harg5.read_unread x2)

/-- The scratch after the first loop: the row sums. -/
theorem rows_read (hc1 : cond0_1 i) :
    arg13.view.read (Elt Ideal) (arg13.view.writes (Elt Ideal) arg13.view.junk (pb_k0_t1 (F := Ideal) Variants.none c none i arg3 harg3 arg4 harg4 arg5 harg5 arg6 harg6 arg7 harg7 arg8 harg8 arg9 harg9 arg10 harg10 arg11 harg11 arg12 harg12 arg13 harg13 hc1 (harg7.unread x4) (harg8.unread x5) k0_t1_loop.trips))
      = delta x4 x5 := by
  rw [pb_all Variants.none c none i arg3 harg3 arg4 harg4 arg5 harg5 arg6 harg6 arg7 harg7 arg8 harg8 arg9 harg9 arg10 harg10 arg11 harg11 arg12 harg12 arg13 harg13 hc1, harg7.read_unread, harg8.read_unread]

theorem zero_read7 (d : Fin 128) (x : Fin 8192) :
    arg10.view.read (Elt Ideal) (arg10.view.writes (Elt Ideal) arg10.view.junk [(⟨Rect.unit (s := S128x8192) ![0, 0] S128x8192.size inb_S128x8192_S128x8192_0_0, k0_pay3 (F := Ideal)⟩ : View.Piece (Elt Ideal) S128x8192 .f32)]) (ix2 d x) = 0 :=
  (View.read_writes_cons_unit_of_mem _ _ _ _ _ _ (ix2 d x) rfl fun b => by
    match b with
    | ⟨0, _⟩ => exact (Nat.zero_add _).symm
    | ⟨1, _⟩ => exact (Nat.zero_add _).symm).trans (pay3_apply d x)
theorem zero_read8 (y : S8192x128.Idx) :
    arg11.view.read (Elt Ideal) (arg11.view.writes (Elt Ideal) arg11.view.junk [(⟨Rect.unit (s := S8192x128) ![0, 0] S8192x128.size inb_S8192x128_S8192x128_0_0, k0_pay1 (F := Ideal)⟩ : View.Piece (Elt Ideal) S8192x128 .f32)]) y = 0 :=
  (View.read_writes_cons_unit_of_mem _ _ _ _ _ _ y rfl fun b => by
    match b with
    | ⟨0, _⟩ => exact (Nat.zero_add _).symm
    | ⟨1, _⟩ => exact (Nat.zero_add _).symm).trans (by rw [eq_ix2 y]; exact pay1_apply _ _)
theorem zero_read9 (y : S8192x128.Idx) :
    arg12.view.read (Elt Ideal) (arg12.view.writes (Elt Ideal) arg12.view.junk [(⟨Rect.unit (s := S8192x128) ![0, 0] S8192x128.size inb_S8192x128_S8192x128_0_0, k0_pay2 (F := Ideal)⟩ : View.Piece (Elt Ideal) S8192x128 .f32)]) y = 0 :=
  (View.read_writes_cons_unit_of_mem _ _ _ _ _ _ y rfl fun b => by
    match b with
    | ⟨0, _⟩ => exact (Nat.zero_add _).symm
    | ⟨1, _⟩ => exact (Nat.zero_add _).symm).trans (by rw [eq_ix2 y]; exact pay2_apply _ _)

/-- At a point where a group of heads begins: the queries' gradient. -/
theorem outA7 (hc0 : cond0_0 i) (hc1 : cond0_1 i) :
    out0_A_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 = fun y => 0 + dqPart x0 x1 x2 x3 x5 x6 (delta x4 x5) (y 0) (y 1) := by
  funext y
  obtain ⟨⟨d, x⟩, rfl⟩ : ∃ a : Fin 128 × Fin 8192, y = ix2 a.1 a.2 := ⟨(y 0, y 1), eq_ix2 y⟩
  unfold out0_A_7
  rw [View.read_writes_apply_eq VO0_7 _ arg10.view arg10.view.junk _ _ (cover0_A_7 c i arg3 harg3 arg4 harg4 arg5 harg5 arg6 harg6 arg7 harg7 arg8 harg8 arg9 harg9 arg10 harg10 arg11 harg11 arg12 harg12 arg13 harg13 hc0 hc1 x0 x1 x2 x3 x4 x5 x6 (ix2 d x))]
  unfold kernelRun0_A
  dsimp only
  rw [View.writes_append]
  refine (st_dq_all Variants.none c none i arg3 harg3 arg4 harg4 arg5 harg5 arg6 harg6 arg7 harg7 arg8 harg8 arg9 harg9 arg10 harg10 arg11 harg11 arg12 harg12 arg13 harg13 _ _ _ _ _ _ _ _ _ d x).trans ?_
  simp only [keys_read arg3 harg3 x0, vals_read arg5 harg5 x2, harg4.read_unread, harg6.read_unread, harg8.read_unread, harg9.read_unread]
  refine congrArg₂ (· + ·) (zero_read7 arg10 d x) ?_
  exact congrArg (fun z => dqPart x0 x1 x2 x3 x5 x6 z d x) (rows_read c i arg3 harg3 arg4 harg4 arg5 harg5 arg6 harg6 arg7 harg7 arg8 harg8 arg9 harg9 arg10 harg10 arg11 harg11 arg12 harg12 arg13 harg13 x4 x5 hc1)

/-- At a point where a group of heads begins: the keys' gradient. -/
theorem outA8 (hc0 : cond0_0 i) (hc1 : cond0_1 i) :
    out0_A_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 = addAt (i 2).val (fun r d => dkPart x0 x2 x3 x5 x6 (delta x4 x5) r d * ((Real.log 2 : ℝ) : EReal)) (fun _ => 0) := by
  funext y
  unfold out0_A_8
  rw [View.read_writes_apply_eq VO0_8 _ arg11.view arg11.view.junk _ _ (cover0_A_8 c i arg3 harg3 arg4 harg4 arg5 harg5 arg6 harg6 arg7 harg7 arg8 harg8 arg9 harg9 arg10 harg10 arg11 harg11 arg12 harg12 arg13 harg13 hc0 hc1 x0 x1 x2 x3 x4 x5 x6 y)]
  unfold kernelRun0_A
  dsimp only
  refine (store_rows i arg11 _ _ (fun r d => dkPart x0 x2 x3 x5 x6 (delta x4 x5) r d * ((Real.log 2 : ℝ) : EReal)) ?_ y).trans ?_
  · intro r d
    refine (pay9_apply _ _ r d).trans (congrArg (_ + ·) ?_)
    refine (congrArg (· * _) (st_dk Variants.none c none i arg3 harg3 arg4 harg4 arg5 harg5 arg6 harg6 arg7 harg7 arg8 harg8 arg9 harg9 arg10 harg10 arg11 harg11 arg12 harg12 arg13 harg13 _ _ _ _ _ _ _ _ _ pay7_zero r d)).trans ?_
    simp only [keys_read arg3 harg3 x0, vals_read arg5 harg5 x2, harg6.read_unread, harg8.read_unread, harg9.read_unread]
    exact congrArg (fun z => dkPart x0 x2 x3 x5 x6 z r d * ((Real.log 2 : ℝ) : EReal)) (rows_read c i arg3 harg3 arg4 harg4 arg5 harg5 arg6 harg6 arg7 harg7 arg8 harg8 arg9 harg9 arg10 harg10 arg11 harg11 arg12 harg12 arg13 harg13 x4 x5 hc1)
  · exact congrArg (fun z => addAt (i 2).val _ z y) (funext fun z => zero_read8 arg11 z)

/-- At a point where a group of heads begins: the values' gradient. -/
theorem outA9 (hc0 : cond0_0 i) (hc1 : cond0_1 i) :
    out0_A_9 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 = addAt (i 2).val (fun r d => dvPart x0 x3 x5 x6 r d) (fun _ => 0) := by
  funext y
  unfold out0_A_9
  rw [View.read_writes_apply_eq VO0_9 _ arg12.view arg12.view.junk _ _ (cover0_A_9 c i arg3 harg3 arg4 harg4 arg5 harg5 arg6 harg6 arg7 harg7 arg8 harg8 arg9 harg9 arg10 harg10 arg11 harg11 arg12 harg12 arg13 harg13 hc0 hc1 x0 x1 x2 x3 x4 x5 x6 y)]
  unfold kernelRun0_A
  dsimp only
  refine (store_rows i arg12 _ _ (fun r d => dvPart x0 x3 x5 x6 r d) ?_ y).trans ?_
  · intro r d
    refine (pay10_apply _ _ r d).trans (congrArg (_ + ·) ?_)
    refine ((st_dv Variants.none c none i arg3 harg3 arg4 harg4 arg5 harg5 arg6 harg6 arg7 harg7 arg8 harg8 arg9 harg9 arg10 harg10 arg11 harg11 arg12 harg12 arg13 harg13 _ _ _ _ _ _ _ _ _ pay7_zero r d)).trans ?_
    simp only [keys_read arg3 harg3 x0, vals_read arg5 harg5 x2, harg6.read_unread, harg8.read_unread, harg9.read_unread, harg13.read_unread]
  · exact congrArg (fun z => addAt (i 2).val _ z y) (funext fun z => zero_read9 arg12 z)

/-- At a point where a group of heads begins: the scratch. -/
theorem outA0 (hc0 : cond0_0 i) (hc1 : cond0_1 i) : sout0_A_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 = delta x4 x5 := by
  funext y
  unfold sout0_A_0
  rw [View.read_writes_apply_eq VS0_0 _ arg13.view arg13.view.junk _ _ (scover0_A_0 c i arg3 harg3 arg4 harg4 arg5 harg5 arg6 harg6 arg7 harg7 arg8 harg8 arg9 harg9 arg10 harg10 arg11 harg11 arg12 harg12 arg13 harg13 hc0 hc1 x0 x1 x2 x3 x4 x5 x6 y)]
  unfold kernelRun0_A
  dsimp only
  exact congrFun (rows_read c i arg3 harg3 arg4 harg4 arg5 harg5 arg6 harg6 arg7 harg7 arg8 harg8 arg9 harg9 arg10 harg10 arg11 harg11 arg12 harg12 arg13 harg13 x4 x5 hc1) y

/-- At a point inside a head: the queries' gradient. -/
theorem outB7 (hc0 : ¬cond0_0 i) (hc1 : ¬cond0_1 i) :
    out0_B_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0 = fun y => xo7 y + dqPart x0 x1 x2 x3 x5 x6 xs0 (y 0) (y 1) := by
  funext y
  obtain ⟨⟨d, x⟩, rfl⟩ : ∃ a : Fin 128 × Fin 8192, y = ix2 a.1 a.2 := ⟨(y 0, y 1), eq_ix2 y⟩
  unfold out0_B_7
  rw [View.read_writes_apply_eq VO0_7 _ arg10.view (harg10.unread xo7) _ _ (cover0_B_7 c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0 (ix2 d x))]
  unfold kernelRun0_B
  dsimp only
  refine (st_dq_all Variants.none c none i arg3 harg3 arg4 harg4 arg5 harg5 arg6 harg6 arg7 harg7 arg8 harg8 arg9 harg9 arg10 harg10 arg11 harg11 arg12 harg12 arg13 harg13 _ _ _ _ _ _ _ _ _ d x).trans ?_
  simp only [keys_read arg3 harg3 x0, vals_read arg5 harg5 x2, harg4.read_unread, harg6.read_unread, harg8.read_unread, harg9.read_unread, harg10.read_unread, harg13.read_unread]
  rfl

/-- At a point inside a head: the keys' gradient. -/
theorem outB8 (hc0 : ¬cond0_0 i) (hc1 : ¬cond0_1 i) :
    out0_B_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0 = addAt (i 2).val (fun r d => dkPart x0 x2 x3 x5 x6 xs0 r d * ((Real.log 2 : ℝ) : EReal)) xo8 := by
  funext y
  unfold out0_B_8
  unfold kernelRun0_B
  dsimp only
  refine (store_rows i arg11 _ _ (fun r d => dkPart x0 x2 x3 x5 x6 xs0 r d * ((Real.log 2 : ℝ) : EReal)) ?_ y).trans ?_
  · intro r d
    refine (pay9_apply _ _ r d).trans (congrArg (_ + ·) ?_)
    refine (congrArg (· * _) (st_dk Variants.none c none i arg3 harg3 arg4 harg4 arg5 harg5 arg6 harg6 arg7 harg7 arg8 harg8 arg9 harg9 arg10 harg10 arg11 harg11 arg12 harg12 arg13 harg13 _ _ _ _ _ _ _ _ _ pay7_zero r d)).trans ?_
    simp only [keys_read arg3 harg3 x0, vals_read arg5 harg5 x2, harg6.read_unread, harg8.read_unread, harg9.read_unread, harg13.read_unread]
  · exact congrArg (fun z => addAt (i 2).val _ z y) (harg11.read_unread xo8)

/-- At a point inside a head: the values' gradient. -/
theorem outB9 (hc0 : ¬cond0_0 i) (hc1 : ¬cond0_1 i) :
    out0_B_9 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo7 xo8 xo9 xs0 = addAt (i 2).val (fun r d => dvPart x0 x3 x5 x6 r d) xo9 := by
  funext y
  unfold out0_B_9
  unfold kernelRun0_B
  dsimp only
  refine (store_rows i arg12 _ _ (fun r d => dvPart x0 x3 x5 x6 r d) ?_ y).trans ?_
  · intro r d
    refine (pay10_apply _ _ r d).trans (congrArg (_ + ·) ?_)
    refine ((st_dv Variants.none c none i arg3 harg3 arg4 harg4 arg5 harg5 arg6 harg6 arg7 harg7 arg8 harg8 arg9 harg9 arg10 harg10 arg11 harg11 arg12 harg12 arg13 harg13 _ _ _ _ _ _ _ _ _ pay7_zero r d)).trans ?_
    simp only [keys_read arg3 harg3 x0, vals_read arg5 harg5 x2, harg6.read_unread, harg8.read_unread, harg9.read_unread, harg13.read_unread]
  · exact congrArg (fun z => addAt (i 2).val _ z y) (harg12.read_unread xo9)

/-- At a point where a further head of the group begins: the queries' gradient. -/
theorem outC7 (hc0 : ¬cond0_0 i) (hc1 : cond0_1 i) :
    out0_C_7 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 = fun y => 0 + dqPart x0 x1 x2 x3 x5 x6 (delta x4 x5) (y 0) (y 1) := by
  funext y
  obtain ⟨⟨d, x⟩, rfl⟩ : ∃ a : Fin 128 × Fin 8192, y = ix2 a.1 a.2 := ⟨(y 0, y 1), eq_ix2 y⟩
  unfold out0_C_7
  rw [View.read_writes_apply_eq VO0_7 _ arg10.view arg10.view.junk _ _ (cover0_C_7 c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 (ix2 d x))]
  unfold kernelRun0_C
  dsimp only
  rw [View.writes_append]
  refine (st_dq_all Variants.none c none i arg3 harg3 arg4 harg4 arg5 harg5 arg6 harg6 arg7 harg7 arg8 harg8 arg9 harg9 arg10 harg10 arg11 harg11 arg12 harg12 arg13 harg13 _ _ _ _ _ _ _ _ _ d x).trans ?_
  simp only [keys_read arg3 harg3 x0, vals_read arg5 harg5 x2, harg4.read_unread, harg6.read_unread, harg8.read_unread, harg9.read_unread]
  refine congrArg₂ (· + ·) (zero_read7 arg10 d x) ?_
  exact congrArg (fun z => dqPart x0 x1 x2 x3 x5 x6 z d x) (rows_read c i arg3 harg3 arg4 harg4 arg5 harg5 arg6 harg6 arg7 harg7 arg8 harg8 arg9 harg9 arg10 harg10 arg11 harg11 arg12 harg12 arg13 harg13 x4 x5 hc1)

/-- At a point where a further head of the group begins: the keys' gradient. -/
theorem outC8 (hc0 : ¬cond0_0 i) (hc1 : cond0_1 i) :
    out0_C_8 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 = addAt (i 2).val (fun r d => dkPart x0 x2 x3 x5 x6 (delta x4 x5) r d * ((Real.log 2 : ℝ) : EReal)) xo8 := by
  funext y
  unfold out0_C_8
  unfold kernelRun0_C
  dsimp only
  refine (store_rows i arg11 _ _ (fun r d => dkPart x0 x2 x3 x5 x6 (delta x4 x5) r d * ((Real.log 2 : ℝ) : EReal)) ?_ y).trans ?_
  · intro r d
    refine (pay9_apply _ _ r d).trans (congrArg (_ + ·) ?_)
    refine (congrArg (· * _) (st_dk Variants.none c none i arg3 harg3 arg4 harg4 arg5 harg5 arg6 harg6 arg7 harg7 arg8 harg8 arg9 harg9 arg10 harg10 arg11 harg11 arg12 harg12 arg13 harg13 _ _ _ _ _ _ _ _ _ pay7_zero r d)).trans ?_
    simp only [keys_read arg3 harg3 x0, vals_read arg5 harg5 x2, harg6.read_unread, harg8.read_unread, harg9.read_unread]
    exact congrArg (fun z => dkPart x0 x2 x3 x5 x6 z r d * ((Real.log 2 : ℝ) : EReal)) (rows_read c i arg3 harg3 arg4 harg4 arg5 harg5 arg6 harg6 arg7 harg7 arg8 harg8 arg9 harg9 arg10 harg10 arg11 harg11 arg12 harg12 arg13 harg13 x4 x5 hc1)
  · exact congrArg (fun z => addAt (i 2).val _ z y) (harg11.read_unread xo8)

/-- At a point where a further head of the group begins: the values' gradient. -/
theorem outC9 (hc0 : ¬cond0_0 i) (hc1 : cond0_1 i) :
    out0_C_9 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 = addAt (i 2).val (fun r d => dvPart x0 x3 x5 x6 r d) xo9 := by
  funext y
  unfold out0_C_9
  unfold kernelRun0_C
  dsimp only
  refine (store_rows i arg12 _ _ (fun r d => dvPart x0 x3 x5 x6 r d) ?_ y).trans ?_
  · intro r d
    refine (pay10_apply _ _ r d).trans (congrArg (_ + ·) ?_)
    refine ((st_dv Variants.none c none i arg3 harg3 arg4 harg4 arg5 harg5 arg6 harg6 arg7 harg7 arg8 harg8 arg9 harg9 arg10 harg10 arg11 harg11 arg12 harg12 arg13 harg13 _ _ _ _ _ _ _ _ _ pay7_zero r d)).trans ?_
    simp only [keys_read arg3 harg3 x0, vals_read arg5 harg5 x2, harg6.read_unread, harg8.read_unread, harg9.read_unread, harg13.read_unread]
  · exact congrArg (fun z => addAt (i 2).val _ z y) (harg12.read_unread xo9)

/-- At a point where a further head of the group begins: the scratch. -/
theorem outC0 (hc0 : ¬cond0_0 i) (hc1 : cond0_1 i) : sout0_C_0 (F := Ideal) c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 = delta x4 x5 := by
  funext y
  unfold sout0_C_0
  rw [View.read_writes_apply_eq VS0_0 _ arg13.view arg13.view.junk _ _ (scover0_C_0 c i arg3 harg3 arg4 harg4 arg5 harg5 arg6 harg6 arg7 harg7 arg8 harg8 arg9 harg9 arg10 harg10 arg11 harg11 arg12 harg12 arg13 harg13 hc0 hc1 x0 x1 x2 x3 x4 x5 x6 xo8 xo9 y)]
  unfold kernelRun0_C
  dsimp only
  exact congrFun (rows_read c i arg3 harg3 arg4 harg4 arg5 harg5 arg6 harg6 arg7 harg7 arg8 harg8 arg9 harg9 arg10 harg10 arg11 harg11 arg12 harg12 arg13 harg13 x4 x5 hc1) y

end
end Cert.KernelIdeal.Bwd
end
-- ==== Proof.Bwd.Blocks.lean ====
/-
  The seven input windows at a point of the grid, read at an index of the arrays they stage, and from them what the
  point contributes, stated over the whole arrays: point `t` treats head `t / 16` with the block of keys `t % 16`.
-/
module
public import proofs.«01_k».proof.Proof.Bwd.Point
@[expose] public section
set_option maxRecDepth 16384
noncomputable section
namespace Cert.KernelIdeal.Bwd
open Cert.KernelIdeal Cert.KernelIdeal.Gen Idealize.ShloMosaic Idealize.ShloMosaic.TcCoe Idealize.SL.Sem

/-- Head number `n`. -/
abbrev hN (n : ℕ) : Fin 8 := ⟨n % 8, Nat.mod_lt _ (by decide)⟩
/-- Key `r` of block `b`. -/
abbrev key (b : ℕ) (r : Fin 512) : Fin 8192 := ⟨(512 * b + r.val) % 8192, Nat.mod_lt _ (by decide)⟩
/-- Channel `d` of head `h` in the queries' arrays. -/
abbrev col (h : Fin 8) (d : Fin 128) : Fin 1024 := ⟨128 * h.val + d.val, by omega⟩
/-- The group of four heads that `h` lies in. -/
abbrev grp (h : Fin 8) : Fin 2 := ⟨h.val / 4, by omega⟩
/-- Channel `d` of group `g` in the keys' and values' arrays. -/
abbrev gcol (g : Fin 2) (d : Fin 128) : Fin 256 := ⟨128 * g.val + d.val, by omega⟩

section
variable (K V : Vec Ideal S8192x256 .bf16) (KT : Vec Ideal S2x128x8192 .bf16) (Q O G : Vec Ideal S8192x1024 .bf16) (L : Vec Ideal S8x4x1x2048 .f32)

/-- The weight of key `y` for query `x` in head `h`. -/
def wtG (h : Fin 8) (y x : Fin 8192) : EReal :=
  Ideal.exp2 ((∑ d : Fin 128, K (ix2 y (gcol (grp h) d)) * Q (ix2 x (col h d))) - L (ix4 h (hi x) 0 (lo x)))
/-- The row sum of `do · o`. -/
def dlG (h : Fin 8) (x : Fin 8192) : EReal := ∑ d : Fin 128, G (ix2 x (col h d)) * O (ix2 x (col h d))
/-- The gradient of the score, short of the scale. -/
def gsG (h : Fin 8) (y x : Fin 8192) : EReal :=
  wtG K Q L h y x * ((∑ d : Fin 128, V (ix2 y (gcol (grp h) d)) * G (ix2 x (col h d))) - dlG O G h x)
/-- What the block of keys `b` adds to the gradient of query `x`. -/
def dqG (h : Fin 8) (b : ℕ) (d : Fin 128) (x : Fin 8192) : EReal :=
  (∑ r : Fin 512, KT (ix3 (grp h) d (key b r)) * gsG K V Q O G L h (key b r) x) * cs
/-- What head `h` adds to the gradient of key `y`. -/
def dkG (h : Fin 8) (y : Fin 8192) (d : Fin 128) : EReal :=
  (∑ x : Fin 8192, gsG K V Q O G L h y x * Q (ix2 x (col h d))) * ((Real.log 2 : ℝ) : EReal)
/-- What head `h` adds to the gradient of value `y`. -/
def dvG (h : Fin 8) (y : Fin 8192) (d : Fin 128) : EReal :=
  ∑ x : Fin 8192, wtG K Q L h y x * G (ix2 x (col h d))

variable {K V KT Q O G L} {h : Fin 8} {b : ℕ}
  {x0 x2 : Vec Ideal S512x128 .bf16} {x1 : Vec Ideal S1x128x512 .bf16} {x3 x4 x5 : Vec Ideal S8192x128 .bf16} {x6 : Vec Ideal S1x4x1x2048 .f32} {dl : Vec Ideal S4x1x2048 .f32}
  (h0 : ∀ r d, x0 (ix2 r d) = K (ix2 (key b r) (gcol (grp h) d))) (h1 : ∀ d r, x1 (ix3 0 d r) = KT (ix3 (grp h) d (key b r)))
  (h2 : ∀ r d, x2 (ix2 r d) = V (ix2 (key b r) (gcol (grp h) d))) (h3 : ∀ x d, x3 (ix2 x d) = Q (ix2 x (col h d)))
  (h4 : ∀ x d, x4 (ix2 x d) = O (ix2 x (col h d))) (h5 : ∀ x d, x5 (ix2 x d) = G (ix2 x (col h d)))
  (h6 : ∀ a u, x6 (ix4 0 a 0 u) = L (ix4 h a 0 u)) (hd : ∀ x, dl (ix3 (hi x) 0 (lo x)) = dlG O G h x)

include h4 h5 in
theorem delta_block (x : Fin 8192) : delta x4 x5 (ix3 (hi x) 0 (lo x)) = dlG O G h x := by
  have e : row (hi x).val (hi x).isLt (lo x) = x := Fin.ext (Nat.div_add_mod x.val 2048)
  show (∑ d : Fin 128, x5 (ix2 (row (hi x).val (hi x).isLt (lo x)) d) * x4 (ix2 (row (hi x).val (hi x).isLt (lo x)) d)) = _
  rw [e]
  simp only [h4, h5]
  rfl

include h0 h3 h6 in
theorem wt_block (r : Fin 512) (x : Fin 8192) : wt x0 x3 x6 r x = wtG K Q L h (key b r) x := by
  unfold wt wtG
  simp only [h0, h3, h6]

include h0 h2 h3 h5 h6 hd in
theorem gs_block (r : Fin 512) (x : Fin 8192) : gs x0 x2 x3 x5 x6 dl r x = gsG K V Q O G L h (key b r) x := by
  unfold gs gsG
  rw [wt_block h0 h3 h6, hd]
  simp only [h2, h5]

include h0 h1 h2 h3 h5 h6 hd in
theorem dq_block (d : Fin 128) (x : Fin 8192) : dqPart x0 x1 x2 x3 x5 x6 dl d x = dqG K V KT Q O G L h b d x := by
  unfold dqPart dqG
  simp only [h1, gs_block h0 h2 h3 h5 h6 hd]

include h0 h2 h3 h5 h6 hd in
theorem dk_block (r : Fin 512) (d : Fin 128) :
    dkPart x0 x2 x3 x5 x6 dl r d * ((Real.log 2 : ℝ) : EReal) = dkG K V Q O G L h (key b r) d := by
  unfold dkPart dkG
  simp only [h3, gs_block h0 h2 h3 h5 h6 hd]

include h0 h3 h5 h6 in
theorem dv_block (r : Fin 512) (d : Fin 128) : dvPart x0 x3 x5 x6 r d = dvG K Q G L h (key b r) d := by
  unfold dvPart dvG
  simp only [h5, wt_block h0 h3 h6]
end

/-! ## The windows -/

section
variable (m : (ℓ : Loc nD τ sig) → Buf (Elt Ideal) ℓ) (c : Dev nD) (t : Fin cfg0.N)

theorem idx_in : ∀ t : Fin cfg0.N, (win0_0.index t (0 : Fin 2) = t.val % 16 ∧ win0_0.index t (1 : Fin 2) = t.val / 64)
    ∧ (win0_1.index t (0 : Fin 3) = t.val / 64 ∧ win0_1.index t (1 : Fin 3) = 0 ∧ win0_1.index t (2 : Fin 3) = t.val % 16)
    ∧ (win0_2.index t (0 : Fin 2) = t.val % 16 ∧ win0_2.index t (1 : Fin 2) = t.val / 64)
    ∧ (win0_3.index t (0 : Fin 2) = 0 ∧ win0_3.index t (1 : Fin 2) = t.val / 16)
    ∧ (win0_4.index t (0 : Fin 2) = 0 ∧ win0_4.index t (1 : Fin 2) = t.val / 16)
    ∧ (win0_5.index t (0 : Fin 2) = 0 ∧ win0_5.index t (1 : Fin 2) = t.val / 16)
    ∧ (win0_6.index t (0 : Fin 4) = t.val / 16 ∧ win0_6.index t (1 : Fin 4) = 0 ∧ win0_6.index t (2 : Fin 4) = 0 ∧ win0_6.index t (3 : Fin 4) = 0) :=
  (by decide +kernel : ∀ t : Fin grid0.N, _)

theorem in0 (r : Fin 512) (d : Fin 128) :
    (iblk m c 0 t : Vec Ideal S512x128 .bf16) (ix2 r d) = (V m c main_v30 : Vec Ideal S8192x256 .bf16) (ix2 (key (t.val % 16) r) (gcol (grp (hN (t.val / 16))) d)) := by
  have hN := lt_of_lt_of_eq t.isLt N_0
  obtain ⟨e0, e1⟩ := (idx_in t).1
  refine congrArg (V m c main_v30 : Vec Ideal S8192x256 .bf16) (funext fun a => Fin.ext ?_)
  match a with
  | ⟨0, _⟩ => show win0_0.index t (0 : Fin 2) * 512 + 1 * r.val = (512 * (t.val % 16) + r.val) % 8192; rw [e0]; omega
  | ⟨1, _⟩ => show win0_0.index t (1 : Fin 2) * 128 + 1 * d.val = 128 * (t.val / 16 % 8 / 4) + d.val; rw [e1]; omega

theorem in1 (d : Fin 128) (r : Fin 512) :
    (iblk m c 1 t : Vec Ideal S1x128x512 .bf16) (ix3 0 d r) = (V m c main_v36 : Vec Ideal S2x128x8192 .bf16) (ix3 (grp (hN (t.val / 16))) d (key (t.val % 16) r)) := by
  have hN := lt_of_lt_of_eq t.isLt N_0
  obtain ⟨e0, e1, e2⟩ := (idx_in t).2.1
  refine congrArg (V m c main_v36 : Vec Ideal S2x128x8192 .bf16) (funext fun a => Fin.ext ?_)
  match a with
  | ⟨0, _⟩ => show win0_1.index t (0 : Fin 3) * 1 + 1 * 0 = t.val / 16 % 8 / 4; rw [e0]; omega
  | ⟨1, _⟩ => show win0_1.index t (1 : Fin 3) * 128 + 1 * d.val = d.val; rw [e1]; omega
  | ⟨2, _⟩ => show win0_1.index t (2 : Fin 3) * 512 + 1 * r.val = (512 * (t.val % 16) + r.val) % 8192; rw [e2]; omega

theorem in2 (r : Fin 512) (d : Fin 128) :
    (iblk m c 2 t : Vec Ideal S512x128 .bf16) (ix2 r d) = (V m c main_v31 : Vec Ideal S8192x256 .bf16) (ix2 (key (t.val % 16) r) (gcol (grp (hN (t.val / 16))) d)) := by
  have hN := lt_of_lt_of_eq t.isLt N_0
  obtain ⟨e0, e1⟩ := (idx_in t).2.2.1
  refine congrArg (V m c main_v31 : Vec Ideal S8192x256 .bf16) (funext fun a => Fin.ext ?_)
  match a with
  | ⟨0, _⟩ => show win0_2.index t (0 : Fin 2) * 512 + 1 * r.val = (512 * (t.val % 16) + r.val) % 8192; rw [e0]; omega
  | ⟨1, _⟩ => show win0_2.index t (1 : Fin 2) * 128 + 1 * d.val = 128 * (t.val / 16 % 8 / 4) + d.val; rw [e1]; omega

theorem in3 (x : Fin 8192) (d : Fin 128) :
    (iblk m c 3 t : Vec Ideal S8192x128 .bf16) (ix2 x d) = (V m c main_v29 : Vec Ideal S8192x1024 .bf16) (ix2 x (col (hN (t.val / 16)) d)) := by
  have hN := lt_of_lt_of_eq t.isLt N_0
  obtain ⟨e0, e1⟩ := (idx_in t).2.2.2.1
  refine congrArg (V m c main_v29 : Vec Ideal S8192x1024 .bf16) (funext fun a => Fin.ext ?_)
  match a with
  | ⟨0, _⟩ => show win0_3.index t (0 : Fin 2) * 8192 + 1 * x.val = x.val; rw [e0]; omega
  | ⟨1, _⟩ => show win0_3.index t (1 : Fin 2) * 128 + 1 * d.val = 128 * (t.val / 16 % 8) + d.val; rw [e1]; omega

theorem in4 (x : Fin 8192) (d : Fin 128) :
    (iblk m c 4 t : Vec Ideal S8192x128 .bf16) (ix2 x d) = (V m c main_v32 : Vec Ideal S8192x1024 .bf16) (ix2 x (col (hN (t.val / 16)) d)) := by
  have hN := lt_of_lt_of_eq t.isLt N_0
  obtain ⟨e0, e1⟩ := (idx_in t).2.2.2.2.1
  refine congrArg (V m c main_v32 : Vec Ideal S8192x1024 .bf16) (funext fun a => Fin.ext ?_)
  match a with
  | ⟨0, _⟩ => show win0_4.index t (0 : Fin 2) * 8192 + 1 * x.val = x.val; rw [e0]; omega
  | ⟨1, _⟩ => show win0_4.index t (1 : Fin 2) * 128 + 1 * d.val = 128 * (t.val / 16 % 8) + d.val; rw [e1]; omega

theorem in5 (x : Fin 8192) (d : Fin 128) :
    (iblk m c 5 t : Vec Ideal S8192x128 .bf16) (ix2 x d) = (V m c main_v33 : Vec Ideal S8192x1024 .bf16) (ix2 x (col (hN (t.val / 16)) d)) := by
  have hN := lt_of_lt_of_eq t.isLt N_0
  obtain ⟨e0, e1⟩ := (idx_in t).2.2.2.2.2.1
  refine congrArg (V m c main_v33 : Vec Ideal S8192x1024 .bf16) (funext fun a => Fin.ext ?_)
  match a with
  | ⟨0, _⟩ => show win0_5.index t (0 : Fin 2) * 8192 + 1 * x.val = x.val; rw [e0]; omega
  | ⟨1, _⟩ => show win0_5.index t (1 : Fin 2) * 128 + 1 * d.val = 128 * (t.val / 16 % 8) + d.val; rw [e1]; omega

theorem emb6 (a : Fin 4) (u : Fin 2048) :
    ((cfg0.win 6).blk t).view.emb (ix4 0 a 0 u : S1x4x1x2048.Idx) = (ix4 (hN (t.val / 16)) a 0 u : S8x4x1x2048.Idx) := by
  have hN := lt_of_lt_of_eq t.isLt N_0
  obtain ⟨e0, e1, e2, e3⟩ := (idx_in t).2.2.2.2.2.2
  funext j
  apply Fin.ext
  match j with
  | ⟨0, _⟩ => show win0_6.index t (0 : Fin 4) * 1 + 1 * 0 = t.val / 16 % 8; rw [e0]; omega
  | ⟨1, _⟩ => show win0_6.index t (1 : Fin 4) * 4 + 1 * a.val = a.val; rw [e1]; omega
  | ⟨2, _⟩ => show win0_6.index t (2 : Fin 4) * 1 + 1 * 0 = 0; rw [e2]
  | ⟨3, _⟩ => show win0_6.index t (3 : Fin 4) * 2048 + 1 * u.val = u.val; rw [e3]; omega

theorem read6 (A : Vec Ideal S8x4x1x2048 .f32) (y : S1x4x1x2048.Idx) :
    ((cfg0.win 6).blk t).view.read (Elt Ideal) A y = A (((cfg0.win 6).blk t).view.emb y) := rfl

theorem iblk6 (y : S1x4x1x2048.Idx) :
    (iblk m c 6 t : Vec Ideal S1x4x1x2048 .f32) y = ((cfg0.win 6).blk t).view.read (Elt Ideal) (V m c main_v34 : Vec Ideal S8x4x1x2048 .f32) y := by
  unfold iblk
  rfl

theorem in6 (a : Fin 4) (u : Fin 2048) :
    (iblk m c 6 t : Vec Ideal S1x4x1x2048 .f32) (ix4 0 a 0 u) = (V m c main_v34 : Vec Ideal S8x4x1x2048 .f32) (ix4 (hN (t.val / 16)) a 0 u) :=
  (iblk6 m c t _).trans ((read6 t _ _).trans (congrArg (V m c main_v34 : Vec Ideal S8x4x1x2048 .f32) (emb6 t a u)))
end
end Cert.KernelIdeal.Bwd
end
-- ==== Proof.Bwd.Fold.lean ====
/-
  The results' blocks after each point of the grid: within a head the queries' gradient is the sum over the blocks of
  keys met so far; the keys' and values' gradients of a row are the sums over the heads of the group whose pass over
  the keys has met that row.
-/
module
public import proofs.«01_k».proof.Proof.Bwd.Blocks
@[expose] public section
set_option maxRecDepth 16384
noncomputable section
namespace Cert.KernelIdeal.Bwd
open Cert.KernelIdeal Cert.KernelIdeal.Gen Idealize.ShloMosaic Idealize.ShloMosaic.TcCoe Idealize.SL.Sem

/-- The heads of the group whose pass over the keys has met row `y` by point `n`. -/
abbrev met (n : ℕ) (y : Fin 8192) : ℕ := n % 64 / 16 + if y.val / 512 ≤ n % 16 then 1 else 0

/-- Adding head `n / 16`'s part to the rows of key block `n % 16` carries the sum over the heads met on, within a head. -/
theorem sum_within (f : ℕ → Fin 8192 → EReal) (n : ℕ) (h : ¬(n + 1) % 16 = 0) (y : Fin 8192) :
    (if y.val / 512 = (n + 1) % 16 then (∑ j ∈ Finset.range (met n y), f (4 * (n / 64) + j) y) + f ((n + 1) / 16) y
      else ∑ j ∈ Finset.range (met n y), f (4 * (n / 64) + j) y)
      = ∑ j ∈ Finset.range (met (n + 1) y), f (4 * ((n + 1) / 64) + j) y := by
  have hg : (n + 1) / 64 = n / 64 := by omega
  rw [hg]
  by_cases hy : y.val / 512 = (n + 1) % 16
  · rw [if_pos hy]
    have e : met (n + 1) y = met n y + 1 := by
      unfold met; rw [if_pos (by omega), if_neg (by omega)]; omega
    have e' : 4 * (n / 64) + met n y = (n + 1) / 16 := by
      unfold met; rw [if_neg (by omega)]; omega
    rw [e, Finset.sum_range_succ, e']
  · rw [if_neg hy]
    have e : met (n + 1) y = met n y := by
      unfold met
      by_cases h' : y.val / 512 ≤ n % 16
      · rw [if_pos h', if_pos (by omega)]; omega
      · rw [if_neg h', if_neg (by omega)]; omega
    rw [e]

/-- The same where a further head begins. -/
theorem sum_next (f : ℕ → Fin 8192 → EReal) (n : ℕ) (h : (n + 1) % 16 = 0) (h' : ¬(n + 1) % 64 = 0) (y : Fin 8192) :
    (if y.val / 512 = (n + 1) % 16 then (∑ j ∈ Finset.range (met n y), f (4 * (n / 64) + j) y) + f ((n + 1) / 16) y
      else ∑ j ∈ Finset.range (met n y), f (4 * (n / 64) + j) y)
      = ∑ j ∈ Finset.range (met (n + 1) y), f (4 * ((n + 1) / 64) + j) y := by
  have hg : (n + 1) / 64 = n / 64 := by omega
  have hy := y.isLt
  have em : met n y = (n + 1) % 64 / 16 := by
    unfold met; rw [if_pos (by omega)]; omega
  rw [hg]
  by_cases hy : y.val / 512 = (n + 1) % 16
  · rw [if_pos hy]
    have e : met (n + 1) y = met n y + 1 := by
      rw [em]; unfold met; rw [if_pos (by omega)]
    have e' : 4 * (n / 64) + met n y = (n + 1) / 16 := by
      rw [em]; omega
    rw [e, Finset.sum_range_succ, e']
  · rw [if_neg hy]
    have e : met (n + 1) y = met n y := by
      rw [em]; unfold met; rw [if_neg (by omega)]; rfl
    rw [e]

/-- Where a group begins. -/
theorem sum_first (f : ℕ → Fin 8192 → EReal) (n : ℕ) (h : n % 64 = 0) (y : Fin 8192) :
    (if y.val / 512 = n % 16 then 0 + f (n / 16) y else 0) = ∑ j ∈ Finset.range (met n y), f (4 * (n / 64) + j) y := by
  by_cases hy : y.val / 512 = n % 16
  · rw [if_pos hy]
    have e : met n y = 0 + 1 := by
      unfold met; rw [if_pos (by omega)]; omega
    have e' : 4 * (n / 64) + 0 = n / 16 := by omega
    rw [e, Finset.sum_range_succ, Finset.sum_range_zero, e']
  · rw [if_neg hy]
    have e : met n y = 0 := by
      unfold met; rw [if_neg (by omega)]; omega
    rw [e, Finset.sum_range_zero]

section
variable (m : (ℓ : Loc nD τ sig) → Buf (Elt Ideal) ℓ) (c : Dev nD)

/-- The arrays the windows stage: keys, their transpose, values, scaled queries, outputs, outputs' gradients, row sums' logarithms. -/
abbrev aK : Vec Ideal S8192x256 .bf16 := V m c main_v30
abbrev aT : Vec Ideal S2x128x8192 .bf16 := V m c main_v36
abbrev aV : Vec Ideal S8192x256 .bf16 := V m c main_v31
abbrev aQ : Vec Ideal S8192x1024 .bf16 := V m c main_v29
abbrev aO : Vec Ideal S8192x1024 .bf16 := V m c main_v32
abbrev aG : Vec Ideal S8192x1024 .bf16 := V m c main_v33
abbrev aL : Vec Ideal S8x4x1x2048 .f32 := V m c main_v34

def SQ (n : ℕ) : Vec Ideal S128x8192 .f32 := fun y =>
  ∑ b ∈ Finset.range (n % 16 + 1), dqG (aK m c) (aV m c) (aT m c) (aQ m c) (aO m c) (aG m c) (aL m c) (hN (n / 16)) b (y 0) (y 1)
def SK (n : ℕ) : Vec Ideal S8192x128 .f32 := fun y =>
  ∑ j ∈ Finset.range (met n (y 0)), dkG (aK m c) (aV m c) (aQ m c) (aO m c) (aG m c) (aL m c) (hN (4 * (n / 64) + j)) (y 0) (y 1)
def SV (n : ℕ) : Vec Ideal S8192x128 .f32 := fun y =>
  ∑ j ∈ Finset.range (met n (y 0)), dvG (aK m c) (aQ m c) (aG m c) (aL m c) (hN (4 * (n / 64) + j)) (y 0) (y 1)

theorem key_self (y : Fin 8192) (b : ℕ) (h : y.val / 512 = b) : key b ⟨y.val % 512, Nat.mod_lt _ (by decide)⟩ = y :=
  Fin.ext (by subst h; show (512 * (y.val / 512) + y.val % 512) % 8192 = y.val; omega)

theorem coord2 (t : Fin cfg0.N) : (grid0.coords t 2).val = t.val % 16 :=
  (by decide +kernel : ∀ t : Fin grid0.N, (grid0.coords t 2).val = t.val % 16) t

theorem addAt_eq (t : Fin cfg0.N) (f : Fin 512 → Fin 128 → EReal) (g : ℕ → Fin 8192 → Fin 128 → EReal) (x : Vec Ideal S8192x128 .f32)
    (hf : ∀ r d, f r d = g (t.val / 16) (key (t.val % 16) r) d) (y : S8192x128.Idx) :
    addAt (grid0.coords t 2).val f x y = if (y 0).val / 512 = t.val % 16 then x y + g (t.val / 16) (y 0) (y 1) else x y := by
  unfold addAt
  rw [coord2]
  by_cases h : (y 0).val / 512 = t.val % 16
  · rw [if_pos h, if_pos h]
    exact congrArg (x y + ·) ((hf _ _).trans (congrArg (fun z => g (t.val / 16) z (y 1)) (key_self (y 0) _ h)))
  · rw [if_neg h, if_neg h]

/-- What a point adds, from its blocks, with the head's row sums at hand. -/
theorem dq_at (t : Fin cfg0.N) (dl : Vec Ideal S4x1x2048 .f32) (hd : ∀ x, dl (ix3 (hi x) 0 (lo x)) = dlG (aO m c) (aG m c) (hN (t.val / 16)) x) (d : Fin 128) (x : Fin 8192) :
    dqPart (iblk m c 0 t) (iblk m c 1 t) (iblk m c 2 t) (iblk m c 3 t) (iblk m c 5 t) (iblk m c 6 t) dl d x
      = dqG (aK m c) (aV m c) (aT m c) (aQ m c) (aO m c) (aG m c) (aL m c) (hN (t.val / 16)) (t.val % 16) d x :=
  dq_block (in0 m c t) (in1 m c t) (in2 m c t) (in3 m c t) (in5 m c t) (in6 m c t) hd d x
theorem dk_at (t : Fin cfg0.N) (dl : Vec Ideal S4x1x2048 .f32) (hd : ∀ x, dl (ix3 (hi x) 0 (lo x)) = dlG (aO m c) (aG m c) (hN (t.val / 16)) x) (r : Fin 512) (d : Fin 128) :
    dkPart (iblk m c 0 t) (iblk m c 2 t) (iblk m c 3 t) (iblk m c 5 t) (iblk m c 6 t) dl r d * ((Real.log 2 : ℝ) : EReal)
      = dkG (aK m c) (aV m c) (aQ m c) (aO m c) (aG m c) (aL m c) (hN (t.val / 16)) (key (t.val % 16) r) d :=
  dk_block (in0 m c t) (in2 m c t) (in3 m c t) (in5 m c t) (in6 m c t) hd r d
theorem dv_at (t : Fin cfg0.N) (r : Fin 512) (d : Fin 128) :
    dvPart (iblk m c 0 t) (iblk m c 3 t) (iblk m c 5 t) (iblk m c 6 t) r d
      = dvG (aK m c) (aQ m c) (aG m c) (aL m c) (hN (t.val / 16)) (key (t.val % 16) r) d :=
  dv_block (in0 m c t) (in3 m c t) (in5 m c t) (in6 m c t) r d
theorem dl_at (t : Fin cfg0.N) (x : Fin 8192) :
    delta (iblk m c 4 t) (iblk m c 5 t) (ix3 (hi x) 0 (lo x)) = dlG (aO m c) (aG m c) (hN (t.val / 16)) x :=
  delta_block (in4 m c t) (in5 m c t) x

/-- What the blocks and the scratch hold after point `n`. -/
structure Holds (n : ℕ) (hn : n < cfg0.N) : Prop where
  q : (outsAt0 m c n hn).1 = SQ m c n
  k : (outsAt0 m c n hn).2.1 = SK m c n
  v : (outsAt0 m c n hn).2.2.1 = SV m c n
  s : ∀ x, (outsAt0 m c n hn).2.2.2 (ix3 (hi x) 0 (lo x)) = dlG (aO m c) (aG m c) (hN (n / 16)) x

theorem holds_first (t : Fin cfg0.N) (h0 : t.val % 64 = 0) : Holds m c t.val t.isLt := by
  have h1 : t.val % 16 = 0 := by omega
  refine ⟨?_, ?_, ?_, ?_⟩ <;> rw [outsAt0_A m c t h0 h1] <;> dsimp only
  · rw [outA7]
    funext y
    show 0 + dqPart _ _ _ _ _ _ _ _ _ = SQ m c t.val y
    refine (congrArg (0 + ·) (dq_at m c t _ (dl_at m c t) (y 0) (y 1))).trans ?_
    unfold SQ
    rw [h1, Finset.sum_range_succ, Finset.sum_range_zero]
  · rw [outA8]
    funext y
    rw [addAt_eq t _ (fun n y d => dkG (aK m c) (aV m c) (aQ m c) (aO m c) (aG m c) (aL m c) (hN n) y d) _ (dk_at m c t _ (dl_at m c t)) y]
    exact sum_first (fun n z => dkG (aK m c) (aV m c) (aQ m c) (aO m c) (aG m c) (aL m c) (hN n) z (y 1)) t.val h0 (y 0)
  · rw [outA9]
    funext y
    rw [addAt_eq t _ (fun n y d => dvG (aK m c) (aQ m c) (aG m c) (aL m c) (hN n) y d) _ (dv_at m c t) y]
    exact sum_first (fun n z => dvG (aK m c) (aQ m c) (aG m c) (aL m c) (hN n) z (y 1)) t.val h0 (y 0)
  · rw [outA0]
    exact dl_at m c t

theorem holds_next (n : ℕ) (hn : n + 1 < cfg0.N) (h0 : ¬(n + 1) % 64 = 0) (h1 : (n + 1) % 16 = 0) (ih : Holds m c n (Nat.lt_of_succ_lt hn)) :
    Holds m c (n + 1) hn := by
  have e := outsAt0_C m c ⟨n + 1, hn⟩ h0 h1
  dsimp only at e
  simp only [Nat.add_sub_cancel] at e
  refine ⟨?_, ?_, ?_, ?_⟩ <;> rw [e] <;> dsimp only
  · rw [outC7]
    funext y
    show 0 + dqPart _ _ _ _ _ _ _ _ _ = SQ m c (n + 1) y
    refine (congrArg (0 + ·) (dq_at m c ⟨n + 1, hn⟩ _ (dl_at m c ⟨n + 1, hn⟩) (y 0) (y 1))).trans ?_
    unfold SQ
    dsimp only
    rw [h1, Finset.sum_range_succ, Finset.sum_range_zero]
  · rw [outC8, ih.k]
    funext y
    rw [addAt_eq ⟨n + 1, hn⟩ _ (fun n y d => dkG (aK m c) (aV m c) (aQ m c) (aO m c) (aG m c) (aL m c) (hN n) y d) _ (dk_at m c _ _ (dl_at m c _)) y]
    exact sum_next (fun n z => dkG (aK m c) (aV m c) (aQ m c) (aO m c) (aG m c) (aL m c) (hN n) z (y 1)) n h1 h0 (y 0)
  · rw [outC9, ih.v]
    funext y
    rw [addAt_eq ⟨n + 1, hn⟩ _ (fun n y d => dvG (aK m c) (aQ m c) (aG m c) (aL m c) (hN n) y d) _ (dv_at m c _) y]
    exact sum_next (fun n z => dvG (aK m c) (aQ m c) (aG m c) (aL m c) (hN n) z (y 1)) n h1 h0 (y 0)
  · rw [outC0]
    exact dl_at m c ⟨n + 1, hn⟩

theorem holds_within (n : ℕ) (hn : n + 1 < cfg0.N) (h1 : ¬(n + 1) % 16 = 0) (ih : Holds m c n (Nat.lt_of_succ_lt hn)) :
    Holds m c (n + 1) hn := by
  have h0 : ¬(n + 1) % 64 = 0 := by omega
  have e := outsAt0_B m c ⟨n + 1, hn⟩ h0 h1
  dsimp only at e
  simp only [Nat.add_sub_cancel] at e
  have hh : n / 16 = (n + 1) / 16 := by omega
  have hs := ih.s
  rw [hh] at hs
  refine ⟨?_, ?_, ?_, ?_⟩ <;> rw [e] <;> dsimp only
  · rw [outB7]
    funext y
    show (outsAt0 m c n _).1 y + dqPart _ _ _ _ _ _ _ _ _ = SQ m c (n + 1) y
    refine (congrArg₂ (· + ·) (congrFun ih.q y) (dq_at m c ⟨n + 1, hn⟩ _ hs (y 0) (y 1))).trans ?_
    unfold SQ
    dsimp only
    rw [show (n + 1) % 16 = n % 16 + 1 by omega, hh, Finset.sum_range_succ _ (n % 16 + 1)]
  · rw [outB8, ih.k]
    funext y
    rw [addAt_eq ⟨n + 1, hn⟩ _ (fun n y d => dkG (aK m c) (aV m c) (aQ m c) (aO m c) (aG m c) (aL m c) (hN n) y d) _ (dk_at m c _ _ hs) y]
    exact sum_within (fun n z => dkG (aK m c) (aV m c) (aQ m c) (aO m c) (aG m c) (aL m c) (hN n) z (y 1)) n h1 (y 0)
  · rw [outB9, ih.v]
    funext y
    rw [addAt_eq ⟨n + 1, hn⟩ _ (fun n y d => dvG (aK m c) (aQ m c) (aG m c) (aL m c) (hN n) y d) _ (dv_at m c _) y]
    exact sum_within (fun n z => dvG (aK m c) (aQ m c) (aG m c) (aL m c) (hN n) z (y 1)) n h1 (y 0)
  · exact hs

theorem holds : ∀ (n : ℕ) (hn : n < cfg0.N), Holds m c n hn
  | 0, hn => holds_first m c ⟨0, hn⟩ rfl
  | n + 1, hn => by
    by_cases h1 : (n + 1) % 16 = 0
    · by_cases h0 : (n + 1) % 64 = 0
      · exact holds_first m c ⟨n + 1, hn⟩ h0
      · exact holds_next m c n hn h0 h1 (holds n (Nat.lt_of_succ_lt hn))
    · exact holds_within m c n hn h1 (holds n (Nat.lt_of_succ_lt hn))

/-! ## The results -/

theorem SQ_last (h : Fin 8) (d : Fin 128) (x : Fin 8192) :
    SQ m c (16 * h.val + 15) (ix2 d x) = ∑ b : Fin 16, dqG (aK m c) (aV m c) (aT m c) (aQ m c) (aO m c) (aG m c) (aL m c) h b.val d x := by
  show ∑ b ∈ Finset.range ((16 * h.val + 15) % 16 + 1), dqG (aK m c) (aV m c) (aT m c) (aQ m c) (aO m c) (aG m c) (aL m c) (hN ((16 * h.val + 15) / 16)) b d x = _
  rw [show (16 * h.val + 15) % 16 + 1 = 16 by omega, show hN ((16 * h.val + 15) / 16) = h from Fin.ext (by show (16 * h.val + 15) / 16 % 8 = h.val; omega), Finset.sum_range]

/-- The queries' gradient: over all blocks of keys. -/
theorem G7_apply (h : Fin 8) (d : Fin 128) (x : Fin 8192) :
    G7 m c (ix2 (col h d) x) = ∑ b : Fin 16, dqG (aK m c) (aV m c) (aT m c) (aQ m c) (aO m c) (aG m c) (aL m c) h b.val d x := by
  have hp : pt7Of (ix2 (col h d) x) = 16 * h.val + 15 := by
    show 16 * (1 * ((128 * h.val + d.val) / 128 - 0) + 1 * (x.val / 8192 - 0)) + 15 = _; omega
  have hlt : pt7Of (ix2 (col h d) x) < cfg0.N := by rw [hp]; exact lt_of_lt_of_eq (by omega) N_0.symm
  have hl : loc7Of (ix2 (col h d) x) = ix2 d x := by
    funext a; apply Fin.ext
    match a with
    | ⟨0, _⟩ => show (128 * h.val + d.val) % 128 = d.val; omega
    | ⟨1, _⟩ => show x.val % 8192 = x.val; omega
  unfold G7
  rw [dif_pos hlt, ← outsAt0_sweep m c _ hlt, (holds m c _ hlt).q, hl, hp]
  exact SQ_last m c h d x

theorem met_last (g : Fin 2) (y : Fin 8192) : met (64 * g.val + 63) y = 4 := by
  have hy := y.isLt
  unfold met; rw [if_pos (by omega)]; omega

/-- Head `j` of group `g`. -/
abbrev hd (g : Fin 2) (j : Fin 4) : Fin 8 := ⟨4 * g.val + j.val, by omega⟩

theorem sum_last (f : Fin 8 → EReal) (g : Fin 2) (y : Fin 8192) :
    ∑ j ∈ Finset.range (met (64 * g.val + 63) y), f (hN (4 * ((64 * g.val + 63) / 64) + j)) = ∑ j : Fin 4, f (hd g j) := by
  rw [met_last, Finset.sum_range]
  refine Finset.sum_congr rfl fun j _ => congrArg f (Fin.ext ?_)
  show (4 * ((64 * g.val + 63) / 64) + j.val) % 8 = 4 * g.val + j.val
  omega

/-- The keys' gradient: over the four heads of the group. -/
theorem G8_apply (g : Fin 2) (y : Fin 8192) (d : Fin 128) :
    G8 m c (ix2 y (gcol g d)) = ∑ j : Fin 4, dkG (aK m c) (aV m c) (aQ m c) (aO m c) (aG m c) (aL m c) (hd g j) y d := by
  have hp : pt8Of (ix2 y (gcol g d)) = 64 * g.val + 63 := by
    show 64 * (2 * (y.val / 8192 - 0) + 1 * ((128 * g.val + d.val) / 128 - 0)) + 63 = _; omega
  have hlt : pt8Of (ix2 y (gcol g d)) < cfg0.N := by rw [hp]; exact lt_of_lt_of_eq (by omega) N_0.symm
  have hl : loc8Of (ix2 y (gcol g d)) = ix2 y d := by
    funext a; apply Fin.ext
    match a with
    | ⟨0, _⟩ => show y.val % 8192 = y.val; omega
    | ⟨1, _⟩ => show (128 * g.val + d.val) % 128 = d.val; omega
  unfold G8
  rw [dif_pos hlt, ← outsAt0_sweep m c _ hlt, (holds m c _ hlt).k, hl, hp]
  exact sum_last (fun h => dkG (aK m c) (aV m c) (aQ m c) (aO m c) (aG m c) (aL m c) h y d) g y

/-- The values' gradient: over the four heads of the group. -/
theorem G9_apply (g : Fin 2) (y : Fin 8192) (d : Fin 128) :
    G9 m c (ix2 y (gcol g d)) = ∑ j : Fin 4, dvG (aK m c) (aQ m c) (aG m c) (aL m c) (hd g j) y d := by
  have hp : pt9Of (ix2 y (gcol g d)) = 64 * g.val + 63 := by
    show 64 * (2 * (y.val / 8192 - 0) + 1 * ((128 * g.val + d.val) / 128 - 0)) + 63 = _; omega
  have hlt : pt9Of (ix2 y (gcol g d)) < cfg0.N := by rw [hp]; exact lt_of_lt_of_eq (by omega) N_0.symm
  have hl : loc9Of (ix2 y (gcol g d)) = ix2 y d := by
    funext a; apply Fin.ext
    match a with
    | ⟨0, _⟩ => show y.val % 8192 = y.val; omega
    | ⟨1, _⟩ => show (128 * g.val + d.val) % 128 = d.val; omega
  unfold G9
  rw [dif_pos hlt, ← outsAt0_sweep m c _ hlt, (holds m c _ hlt).v, hl, hp]
  exact sum_last (fun h => dvG (aK m c) (aQ m c) (aG m c) (aL m c) h y d) g y
end
end Cert.KernelIdeal.Bwd
end
-- ==== Proof.Attn.lean ====
/-
  One head of softmax attention and its gradients over the extended reals, and what they are where every input is real:
  the gradient of a score from the softmax's two-term derivative is the weight times (do·v − do·o), and the weight is
  the power of two of the base-2 score less the base-2 log-sum-exp.
-/
module
public import proofs.«01_k».proof.Proof.Bwd.Fold
public import Idealize.ShloMosaic.Lib.IdealHost
@[expose] public section
set_option maxRecDepth 16384
noncomputable section
namespace Cert.Attn
open Idealize.ShloMosaic

/-- The score's scale. -/
abbrev sc : EReal := Ideal.ofBits .f32 0x3DB504F3#32
/-- The reciprocal of the logarithm of two, as the host computes it. -/
abbrev il : EReal := Ideal.div (Ideal.ofBits .f32 0x3F800000#32) (Ideal.log (Ideal.ofBits .f32 0x40000000#32))

section
variable (k q v g : Fin 8192 → Fin 128 → EReal)
/-- The score of key `y` for query `x`. -/
def S (x y : Fin 8192) : EReal := (∑ d, k y d * q x d) * sc
/-- A query's largest score. -/
def M (x : Fin 8192) : EReal := Finset.fold max (Ideal.ofBits .f32 0xFF800000#32) (fun y => S k q x y) Finset.univ
/-- The exponential of a score less the largest. -/
def E (x y : Fin 8192) : EReal := Ideal.exp (S k q x y - M k q x)
/-- The sum of a query's exponentials. -/
def Z (x : Fin 8192) : EReal := ∑ y, E k q x y
/-- The softmax weight. -/
def W (x y : Fin 8192) : EReal := Ideal.div (E k q x y) (Z k q x)
/-- The head's output. -/
def O (x : Fin 8192) (d : Fin 128) : EReal := ∑ y, v y d * W k q x y
/-- The log-sum-exp to base two. -/
def LSE (x : Fin 8192) : EReal := (M k q x + Ideal.log (Z k q x)) * il
/-- The gradient of a weight. -/
def DP (x y : Fin 8192) : EReal := ∑ d, g x d * v y d
/-- The derivative through the softmax's denominator. -/
def T (x : Fin 8192) : EReal :=
  -(∑ y, DP v g x y * Ideal.div (Ideal.ofBits .f32 0x3F800000#32) (Z k q x * Z k q x) * E k q x y)
/-- The gradient of a score, times the scale. -/
def DS (x y : Fin 8192) : EReal := (Ideal.div (DP v g x y) (Z k q x) + T k q v g x) * E k q x y * sc
end

theorem coe_sum {ι : Type} [Fintype ι] (f : ι → ℝ) : (∑ i, (f i : EReal)) = ((∑ i, f i : ℝ) : EReal) :=
  (map_sum (⟨⟨fun r : ℝ => (r : EReal), rfl⟩, EReal.coe_add⟩ : ℝ →+ EReal) f Finset.univ).symm

theorem sc_real : ∃ c : ℝ, sc = (c : EReal) := by
  refine ⟨11863283 / 134217728, ?_⟩
  simp [sc, Ideal.ofBits, Ideal.ieee, -EReal.coe_mul]; norm_num

theorem ninf : Ideal.ofBits .f32 0xFF800000#32 = (⊥ : EReal) := by
  simp [Ideal.ofBits, Ideal.ieee]

theorem two : Ideal.ofBits .f32 0x40000000#32 = ((2 : ℝ) : EReal) := by
  simp [Ideal.ofBits, Ideal.ieee, -EReal.coe_mul]; norm_num

theorem log2_ne : Real.log 2 ≠ 0 := (Real.log_pos (by norm_num)).ne'

theorem il_real : il = ((1 / Real.log 2 : ℝ) : EReal) := by
  unfold il
  rw [two, Ideal.log_coe, if_neg (by norm_num), Ideal.ofBits_one_f32, Ideal.div_coe log2_ne, one_mul]

/-- The maximum of a row of real numbers is real. -/
theorem max_real (f : Fin 8192 → ℝ) : ∃ r : ℝ, Finset.fold max (⊥ : EReal) (fun y => (f y : EReal)) Finset.univ = r := by
  have e : Finset.fold max (⊥ : EReal) (fun y => (f y : EReal)) Finset.univ = Finset.univ.sup fun y => (f y : EReal) := rfl
  obtain ⟨y, -, h⟩ := Finset.exists_mem_eq_sup Finset.univ ⟨0, Finset.mem_univ _⟩ fun y => (f y : EReal)
  exact ⟨f y, e.trans h⟩

section
variable (k q v g : Fin 8192 → Fin 128 → ℝ)
local notation "↟" f => fun y d => ((f y d : ℝ) : EReal)

/-- Where the inputs are real, the softmax's exponentials and their sum are real and the sum is positive. -/
theorem real_parts : ∃ (c : ℝ) (μ ζ : Fin 8192 → ℝ) (e : Fin 8192 → Fin 8192 → ℝ), sc = (c : EReal) ∧
    (∀ x, M (↟k) (↟q) x = (μ x : EReal)) ∧ (∀ x y, e x y = Real.exp ((∑ d, k y d * q x d) * c - μ x)) ∧
    (∀ x y, E (↟k) (↟q) x y = (e x y : EReal)) ∧ (∀ x, ζ x = ∑ y, e x y) ∧ (∀ x, Z (↟k) (↟q) x = (ζ x : EReal)) ∧ ∀ x, 0 < ζ x := by
  obtain ⟨c, hc⟩ := sc_real
  have hS : ∀ x y, S (↟k) (↟q) x y = (((∑ d, k y d * q x d) * c : ℝ) : EReal) := fun x y => by
    unfold S; simp only [← EReal.coe_mul, coe_sum, hc]
  have hM : ∀ x, ∃ r : ℝ, M (↟k) (↟q) x = r := fun x => by
    unfold M; simp only [hS, ninf]; exact max_real _
  choose μ hμ using hM
  have hE : ∀ x y, E (↟k) (↟q) x y = (Real.exp ((∑ d, k y d * q x d) * c - μ x) : EReal) := fun x y => by
    unfold E; rw [hS, hμ, ← EReal.coe_sub, Ideal.exp_coe]
  refine ⟨c, μ, fun x => ∑ y, Real.exp ((∑ d, k y d * q x d) * c - μ x), fun x y => Real.exp ((∑ d, k y d * q x d) * c - μ x),
    hc, hμ, fun _ _ => rfl, hE, fun _ => rfl, fun x => ?_, fun x => ?_⟩
  · unfold Z; simp only [hE, coe_sum]
  · exact Finset.sum_pos (fun y _ => Real.exp_pos _) ⟨0, Finset.mem_univ _⟩

/-- The kernel's weight, as a power of two, is the softmax weight. -/
theorem weight (x y : Fin 8192) :
    Ideal.exp2 ((∑ d, (k y d : EReal) * ((q x d : EReal) * (sc * il))) - LSE (↟k) (↟q) x) = W (↟k) (↟q) x y := by
  obtain ⟨c, μ, ζ, e, hc, hμ, he, hE, hζ, hZ, hpos⟩ := real_parts k q
  unfold LSE W
  rw [hμ, hZ, hE, Ideal.log_coe, if_neg (not_le.2 (hpos x)), il_real, hc, Ideal.div_coe (hpos x).ne']
  simp only [← EReal.coe_mul, ← EReal.coe_add, coe_sum, ← EReal.coe_sub]
  rw [Ideal.exp2_coe]
  refine congrArg _ ?_
  have e1 : (∑ d, k y d * (q x d * (c * (1 / Real.log 2)))) = (∑ d, k y d * q x d) * c / Real.log 2 := by
    rw [Finset.sum_mul, Finset.sum_div]; exact Finset.sum_congr rfl fun d _ => by ring
  rw [e1, Real.rpow_eq_pow, Real.rpow_def_of_pos (by norm_num)]
  have e2 : Real.log 2 * ((∑ d, k y d * q x d) * c / Real.log 2 - (μ x + Real.log (ζ x)) * (1 / Real.log 2))
      = ((∑ d, k y d * q x d) * c - μ x) - Real.log (ζ x) := by
    field_simp [log2_ne]; ring
  rw [e2, Real.exp_sub, Real.exp_log (hpos x), he]; ring

/-- The weights are real. -/
theorem weight_real : ∃ p : Fin 8192 → Fin 8192 → ℝ, ∀ x y, W (↟k) (↟q) x y = (p x y : EReal) := by
  obtain ⟨c, μ, ζ, e, hc, hμ, he, hE, hζ, hZ, hpos⟩ := real_parts k q
  refine ⟨fun x y => e x y * (1 / ζ x), fun x y => ?_⟩
  unfold W; rw [hZ, hE, Ideal.div_coe (hpos x).ne', EReal.coe_mul]

/-- The kernel's gradient of a score, times the scale, is the reference's, and both are real. -/
theorem score_grad : ∃ D : Fin 8192 → Fin 8192 → ℝ, ∃ c : ℝ, sc = (c : EReal) ∧ (∀ x y, DS (↟k) (↟q) (↟v) (↟g) x y = ((D x y * c : ℝ) : EReal)) ∧
    ∀ x y, W (↟k) (↟q) x y * ((∑ d, (v y d : EReal) * (g x d : EReal)) - ∑ d, (g x d : EReal) * O (↟k) (↟q) (↟v) x d) = (D x y : EReal) := by
  obtain ⟨c, μ, ζ, e, hc, hμ, he, hE, hζ, hZ, hpos⟩ := real_parts k q
  have hW : ∀ x y, W (↟k) (↟q) x y = ((e x y * (1 / ζ x) : ℝ) : EReal) := fun x y => by
    unfold W; rw [hZ, hE, Ideal.div_coe (hpos x).ne', EReal.coe_mul]
  have hO : ∀ x d, O (↟k) (↟q) (↟v) x d = ((∑ y, v y d * (e x y * (1 / ζ x)) : ℝ) : EReal) := fun x d => by
    unfold O; simp only [hW, ← EReal.coe_mul, coe_sum]
  have hDP : ∀ x y, DP (↟v) (↟g) x y = ((∑ d, g x d * v y d : ℝ) : EReal) := fun x y => by
    unfold DP; simp only [← EReal.coe_mul, coe_sum]
  have hT : ∀ x, T (↟k) (↟q) (↟v) (↟g) x = ((-∑ y, (∑ d, g x d * v y d) * (1 / (ζ x * ζ x)) * e x y : ℝ) : EReal) := fun x => by
    unfold T
    simp only [hDP, hZ, hE, ← EReal.coe_mul, Ideal.ofBits_one_f32, Ideal.div_coe (mul_pos (hpos x) (hpos x)).ne', one_mul, coe_sum, ← EReal.coe_neg]
  refine ⟨fun x y => (e x y * (1 / ζ x)) * ((∑ d, v y d * g x d) - ∑ d, g x d * ∑ y, v y d * (e x y * (1 / ζ x))), c, hc, fun x y => ?_, fun x y => ?_⟩
  · unfold DS
    rw [hDP, hT, hZ, hE, hc, Ideal.div_coe (hpos x).ne']
    simp only [← EReal.coe_mul, ← EReal.coe_add]
    refine congrArg _ ?_
    refine congrArg (· * c) ?_
    have e1 : (∑ d, g x d * ∑ y, v y d * (e x y * (1 / ζ x))) = ∑ y, (∑ d, g x d * v y d) * (1 / ζ x) * e x y := by
      simp only [Finset.mul_sum, Finset.sum_mul]
      rw [Finset.sum_comm]
      exact Finset.sum_congr rfl fun _ _ => Finset.sum_congr rfl fun _ _ => by ring
    have e2 : (∑ y, (∑ d, g x d * v y d) * (1 / (ζ x * ζ x)) * e x y) = (1 / ζ x) * ∑ y, (∑ d, g x d * v y d) * (1 / ζ x) * e x y := by
      rw [Finset.mul_sum]
      exact Finset.sum_congr rfl fun _ _ => by rw [← one_div_mul_one_div]; ring
    have e3 : (∑ d, v y d * g x d) = ∑ d, g x d * v y d := Finset.sum_congr rfl fun _ _ => mul_comm _ _
    rw [e1, e2, e3]; ring
  · rw [hW]
    simp only [hO, ← EReal.coe_mul, coe_sum, ← EReal.coe_sub]
end
end Cert.Attn
-- ==== Proof.RefRead.lean ====
/-
  The reference's three results read at an index: each is the sum the head's gradients are made of.
-/
module
public import proofs.«01_k».proof.Proof.Attn
public import proofs.«01_k».proof.Proof.Gen.ReferenceIdeal.Read
@[expose] public section
set_option maxRecDepth 16384
noncomputable section
namespace Cert.ReferenceIdeal.Bwd
open Cert.ReferenceIdeal Cert.ReferenceIdeal.Read Idealize.ShloMosaic Idealize.ShloMosaic.TcCoe Idealize.SL.Sem

/-- Channel `d` of head `h` of group `a` in the queries' arrays. -/
abbrev qcol (a : Fin 2) (h : Fin 4) (d : Fin 128) : Fin 1024 := ⟨a.val * 512 + h.val * 128 + d.val, by omega⟩
/-- Channel `d` of group `a` in the keys' and values' arrays. -/
abbrev kcol (a : Fin 2) (d : Fin 128) : Fin 256 := ⟨a.val * 128 + d.val, by omega⟩
/-- The slice of a keys' or values' array that group `a` reads. -/
abbrev kvOf (a : Fin 2) (A : Vec Ideal S8192x256 .f32) (y : Fin 8192) (d : Fin 128) : EReal := A (ix2 y (kcol a d))
/-- The slice of a queries' array that head `h` of group `a` reads. -/
abbrev qOf (a : Fin 2) (h : Fin 4) (A : Vec Ideal S8192x1024 .f32) (x : Fin 8192) (d : Fin 128) : EReal := A (ix2 x (qcol a h d))

section
variable (q g : Vec Ideal S8192x1024 .f32) (k v : Vec Ideal S8192x256 .f32) (a : Fin 2) (h : Fin 4) (x y : Fin 8192)

theorem score_apply : val_main_v6 (F := Ideal) q k (ix4 a h x y) = Attn.S (kvOf a k) (qOf a h q) x y := by
  unfold val_main_v6 val_main_v5 val_main_v4 val_main_v3 val_main_v0 val_main_v1 val_main_cst
  pointwise
  rfl

theorem top_apply : val_main_v7 (F := Ideal) q k (ix3 a h x) = Attn.M (kvOf a k) (qOf a h q) x := by
  unfold val_main_v7 Attn.M
  simp only [← score_apply]
  generalize val_main_v6 (F := Ideal) q k = s
  pointwise
  rfl

theorem top14_apply : val_main_v14 (F := Ideal) q k (ix3 a h x) = Attn.M (kvOf a k) (qOf a h q) x := by
  rw [val_main_v14_apply, top_apply]
  refine (congrArg (fun r => max r _) ?_).trans (max_eq_right bot_le)
  rw [val_main_v13_apply, val_main_cst_2_apply]
  exact Attn.ninf

theorem exp_apply : val_main_v27 (F := Ideal) q k (ix4 a h x y) = Attn.E (kvOf a k) (qOf a h q) x y := by
  unfold val_main_v27 val_main_v26 val_main_v25 val_main_v24 Attn.E
  simp only [← score_apply, ← top14_apply]
  generalize val_main_v6 (F := Ideal) q k = s
  generalize val_main_v14 (F := Ideal) q k = s'
  pointwise

theorem sum_apply : val_main_v29 (F := Ideal) q k (ix4 a h x 0) = Attn.Z (kvOf a k) (qOf a h q) x := by
  unfold val_main_v29 val_main_v28 val_main_cst_8 Attn.Z
  simp only [← exp_apply]
  generalize val_main_v27 (F := Ideal) q k = s
  pointwise

theorem weight_apply : val_main_v31 (F := Ideal) q k (ix4 a h x y) = Attn.W (kvOf a k) (qOf a h q) x y := by
  unfold val_main_v31 val_main_v30 Attn.W
  simp only [← exp_apply, ← sum_apply]
  generalize val_main_v27 (F := Ideal) q k = s
  generalize val_main_v29 (F := Ideal) q k = s'
  pointwise

theorem dp_apply : val_main_v40 (F := Ideal) v g (ix4 a h x y) = Attn.DP (kvOf a v) (qOf a h g) x y := by
  unfold val_main_v40 val_main_v39 val_main_v38 val_main_v2
  pointwise
  rfl

theorem denom_apply : val_main_v51 (F := Ideal) q k v g (ix3 a h x) = Attn.T (kvOf a k) (qOf a h q) (kvOf a v) (qOf a h g) x := by
  unfold val_main_v51 val_main_v48 val_main_v47 val_main_v46 val_main_v45 val_main_v44 val_main_v43 val_main_v34 val_main_v33 val_main_v32 val_main_cst_9 val_main_cst_10 val_main_cst_11 Attn.T
  simp only [← exp_apply, ← sum_apply, ← dp_apply]
  generalize val_main_v27 (F := Ideal) q k = s
  generalize val_main_v29 (F := Ideal) q k = s'
  generalize val_main_v40 (F := Ideal) v g = s''
  pointwise
  exact Fin.sum_univ_one _

theorem score_grad_apply : val_main_v56 (F := Ideal) q k v g (ix4 a h x y) = Attn.DS (kvOf a k) (qOf a h q) (kvOf a v) (qOf a h g) x y := by
  unfold val_main_v56 val_main_v55 val_main_v54 val_main_v53 val_main_v52 val_main_v50 val_main_v49 val_main_cst_12 Attn.DS
  simp only [← exp_apply, ← sum_apply, ← dp_apply, ← denom_apply]
  generalize val_main_v27 (F := Ideal) q k = s
  generalize val_main_v29 (F := Ideal) q k = s'
  generalize val_main_v40 (F := Ideal) v g = s''
  generalize val_main_v51 (F := Ideal) q k v g = s'''
  pointwise

theorem dq_apply (d : Fin 128) : val_main_v65 (F := Ideal) q k v g (ix2 (qcol a h d) x)
    = ∑ y, Attn.DS (kvOf a k) (qOf a h q) (kvOf a v) (qOf a h g) x y * kvOf a k y d := by
  unfold val_main_v65 val_main_v64 val_main_v59 val_main_v58 val_main_v57 val_main_v1
  simp only [← score_grad_apply]
  generalize val_main_v56 (F := Ideal) q k v g = s
  pointwise

theorem dk_apply (d : Fin 128) : val_main_v63 (F := Ideal) q k v g (ix2 y (kcol a d))
    = ∑ x, ∑ h, Attn.DS (kvOf a k) (qOf a h q) (kvOf a v) (qOf a h g) x y * qOf a h q x d := by
  unfold val_main_v63 val_main_v61 val_main_v60 val_main_v57 val_main_v0
  simp only [← score_grad_apply]
  generalize val_main_v56 (F := Ideal) q k v g = s
  pointwise
  have e1 : (a.val * 128 + d.val) / 128 = a.val := by omega
  have e2 : (a.val * 128 + d.val) % 128 = d.val := by omega
  simp only [e1, e2, Fin.eta]

theorem dv_apply (d : Fin 128) : val_main_v62 (F := Ideal) q k g (ix2 y (kcol a d))
    = ∑ h, ∑ x, qOf a h g x d * Attn.W (kvOf a k) (qOf a h q) x y := by
  unfold val_main_v62 val_main_v42 val_main_v41 val_main_v39 val_main_v38
  simp only [← weight_apply]
  generalize val_main_v31 (F := Ideal) q k = s
  pointwise
  have e1 : (a.val * 128 + d.val) / 128 = a.val := by omega
  have e2 : (a.val * 128 + d.val) % 128 = d.val := by omega
  simp only [e1, e2, Fin.eta]
end
end Cert.ReferenceIdeal.Bwd
-- ==== Proof.Bwd.Host.lean ====
/-
  What the host has computed when the call is entered, read at an index: the keys, values and the outputs' cotangent as
  given, the scaled queries, the attention's outputs and the log-sum-exps to base two.
-/
module
public import proofs.«01_k».proof.Proof.RefRead
public import Idealize.ShloMosaic.Lib.StableHlo.ReadAt
@[expose] public section
set_option maxRecDepth 16384
noncomputable section
namespace Cert.KernelIdeal.Bwd
open Cert.KernelIdeal Cert.KernelIdeal.Gen Idealize.ShloMosaic Idealize.ShloMosaic.TcCoe Idealize.SL.Sem
open Cert.ReferenceIdeal.Bwd (qcol kcol kvOf qOf)

section
variable (q : FVec Ideal S8192x1024 .f32) (k v : FVec Ideal S8192x256 .f32)
/-- The scaled scores. -/
def hS : FVec Ideal S2x4x8192x8192 .f32 :=
  mulf (transpose S2x4x8192x8192 [0, 3, 2, 1]
      (Host.dotGeneral dot_S8192x2x128_S8192x2x4x128_S2x8192x8192x4_2_3_0_02_1_1 none (shapeCast S8192x2x128 k shapeCasts_S8192x256_S8192x2x128) (shapeCast S8192x2x4x128 q shapeCasts_S8192x1024_S8192x2x4x128))
      transposes_S2x8192x8192x4_S2x4x8192x8192_0_3_2_1)
    (broadcastInDim S2x4x8192x8192 ![] bcast_S_S2x4x8192x8192 (constant S_ .f32 0x3DB504F3#32))
/-- Each row's largest score. -/
def hM : FVec Ideal S2x4x8192x1 .f32 :=
  broadcastInDim S2x4x8192x1 ![0, 1, 2] bcast_S2x4x8192_S2x4x8192x1_0_1_2
    (Host.reduce FloatOps.maximumf (hS q k) (constant S_ .f32 0xFF800000#32) reducesTo_S2x4x8192x8192_S2x4x8192_d3 h_S_)
/-- The exponentials. -/
def hE : FVec Ideal S2x4x8192x8192 .f32 :=
  Host.exp (subf (hS q k) (broadcastInDim S2x4x8192x8192 ![0, 1, 2, 3] bcast_S2x4x8192x1_S2x4x8192x8192_0_1_2_3 (hM q k)))
/-- Each row's sum of exponentials. -/
def hZ : FVec Ideal S2x4x8192x1 .f32 :=
  broadcastInDim S2x4x8192x1 ![0, 1, 2] bcast_S2x4x8192_S2x4x8192x1_0_1_2
    (Host.reduceAdd (hE q k) (constant S_ .f32 0x00000000#32) reducesTo_S2x4x8192x8192_S2x4x8192_d3 h_S_)
/-- The softmax weights. -/
def hW : FVec Ideal S2x4x8192x8192 .f32 :=
  Host.divf (hE q k) (broadcastInDim S2x4x8192x8192 ![0, 1, 2, 3] bcast_S2x4x8192x1_S2x4x8192x8192_0_1_2_3 (hZ q k))
/-- The attention's outputs. -/
def hO : FVec Ideal S8192x1024 .f32 :=
  shapeCast S8192x1024 (transpose S8192x2x4x128 [3, 0, 2, 1]
    (Host.dotGeneral dot_S8192x2x128_S2x4x8192x8192_S2x128x4x8192_0_3_2_12_1_0 none (shapeCast S8192x2x128 v shapeCasts_S8192x256_S8192x2x128) (hW q k))
    transposes_S2x128x4x8192_S8192x2x4x128_3_0_2_1) shapeCasts_S8192x2x4x128_S8192x1024
/-- The reciprocal of the logarithm of two. -/
def hIL : FVec Ideal S_ .f32 := Host.divf (constant S_ .f32 0x3F800000#32) (Host.log (constant S_ .f32 0x40000000#32))
/-- The queries, scaled for scores to base two. -/
def hQ : FVec Ideal S8192x1024 .f32 :=
  mulf q (broadcastInDim S8192x1024 ![] bcast_S_S8192x1024 (mulf (constant S_ .f32 0x3DB504F3#32) hIL))
/-- The log-sum-exps to base two. -/
def hL : FVec Ideal S8x4x1x2048 .f32 :=
  shapeCast S8x4x1x2048 (shapeCast S8x1x8192
    (mulf (addf (hM q k) (Host.log (hZ q k))) (broadcastInDim S2x4x8192x1 ![] bcast_S_S2x4x8192x1 hIL)) shapeCasts_S2x4x8192x1_S8x1x8192) shapeCasts_S8x1x8192_S8x4x1x2048

variable (a : Fin 2) (h : Fin 4) (x y : Fin 8192)

theorem hS_apply : hS q k (ix4 a h x y) = Attn.S (kvOf a k) (qOf a h q) x y := by
  unfold hS
  pointwise
  rfl

theorem hM_apply : hM q k (ix4 a h x 0) = Attn.M (kvOf a k) (qOf a h q) x := by
  unfold hM Attn.M
  simp only [← hS_apply]
  generalize hS q k = s
  pointwise

theorem hE_apply : hE q k (ix4 a h x y) = Attn.E (kvOf a k) (qOf a h q) x y := by
  unfold hE Attn.E
  simp only [← hS_apply, ← hM_apply]
  generalize hS q k = s
  generalize hM q k = s'
  pointwise

theorem hZ_apply : hZ q k (ix4 a h x 0) = Attn.Z (kvOf a k) (qOf a h q) x := by
  unfold hZ Attn.Z
  simp only [← hE_apply]
  generalize hE q k = s
  pointwise

theorem hW_apply : hW q k (ix4 a h x y) = Attn.W (kvOf a k) (qOf a h q) x y := by
  unfold hW Attn.W
  simp only [← hE_apply, ← hZ_apply]
  generalize hE q k = s
  generalize hZ q k = s'
  pointwise

theorem hO_apply (d : Fin 128) : hO q k v (ix2 x (qcol a h d)) = Attn.O (kvOf a k) (qOf a h q) (kvOf a v) x d := by
  unfold hO Attn.O
  simp only [← hW_apply]
  generalize hW q k = s
  pointwise
  have e1 : (a.val * 512 + h.val * 128 + d.val) / 512 = a.val := by omega
  have e2 : (a.val * 512 + h.val * 128 + d.val) % 128 = d.val := by omega
  have e3 : (a.val * 512 + h.val * 128 + d.val) / 128 % 4 = h.val := by omega
  simp only [e1, e2, e3, Fin.eta]

theorem hIL_apply : hIL ix0 = Attn.il := by
  unfold hIL
  pointwise
  rw [← Ideal.ofBits_one_f32]

theorem lse_rows (Y : FVec Ideal S8x1x8192 .f32) (e : Fin 8) (i : Fin 4) (u : Fin 2048) :
    shapeCast S8x4x1x2048 Y shapeCasts_S8x1x8192_S8x4x1x2048 (ix4 e i 0 u) = Y (ix3 e 0 ⟨i.val * 2048 + u.val, by omega⟩) := by
  pointwise

theorem lse_heads (X : FVec Ideal S2x4x8192x1 .f32) :
    shapeCast S8x1x8192 X shapeCasts_S2x4x8192x1_S8x1x8192 (ix3 ⟨a.val * 4 + h.val, by omega⟩ 0 x) = X (ix4 a h x 0) := by
  pointwise

theorem lse_apply (s s' : FVec Ideal S2x4x8192x1 .f32) (s'' : FVec Ideal S_ .f32) :
    mulf (addf s (Host.log s')) (broadcastInDim S2x4x8192x1 ![] bcast_S_S2x4x8192x1 s'') (ix4 a h x 0) = (s (ix4 a h x 0) + Ideal.log (s' (ix4 a h x 0))) * s'' ix0 := by
  pointwise

theorem hL_apply : hL q k (ix4 ⟨a.val * 4 + h.val, by omega⟩ (hi x) 0 (lo x)) = Attn.LSE (kvOf a k) (qOf a h q) x := by
  unfold hL Attn.LSE
  rw [← hM_apply, ← hZ_apply, ← hIL_apply]
  refine (lse_rows _ _ _ _).trans ?_
  have e : (⟨(hi x).val * 2048 + (lo x).val, by have := (hi x).isLt; have := (lo x).isLt; omega⟩ : Fin 8192) = x := Fin.ext (Nat.div_add_mod' x.val 2048)
  refine (congrArg (fun z => shapeCast S8x1x8192 _ shapeCasts_S2x4x8192x1_S8x1x8192 (ix3 ⟨a.val * 4 + h.val, by omega⟩ 0 z)) e).trans ?_
  exact (lse_heads a h x _).trans (lse_apply a h x _ _ _)

theorem hQ_apply (j : Fin 1024) : hQ q (ix2 x j) = q (ix2 x j) * (Attn.sc * Attn.il) := by
  unfold hQ
  simp only [← hIL_apply]
  generalize hIL = s
  pointwise
end

variable (m : (ℓ : Loc nD τ sig) → Buf (Elt Ideal) ℓ) (c : Dev nD)

theorem V_keys : V m c main_v30 = m ((c : Thread nD τ).loc main_arg1) := by
  unfold V
  after_reads_simp
  rfl
theorem V_values : V m c main_v31 = m ((c : Thread nD τ).loc main_arg2) := by
  unfold V
  after_reads_simp
  rfl
theorem V_cot : V m c main_v33 = m ((c : Thread nD τ).loc main_arg3) := by
  unfold V
  after_reads_simp
  rfl
theorem V_outs : V m c main_v32 = hO (m ((c : Thread nD τ).loc main_arg0)) (m ((c : Thread nD τ).loc main_arg1)) (m ((c : Thread nD τ).loc main_arg2)) := by
  unfold V
  after_reads_simp
  rfl
theorem V_lse : V m c main_v34 = hL (m ((c : Thread nD τ).loc main_arg0)) (m ((c : Thread nD τ).loc main_arg1)) := by
  unfold V
  after_reads_simp
  rfl
theorem V_queries : V m c main_v29 = hQ (m ((c : Thread nD τ).loc main_arg0)) := by
  unfold V
  after_reads_simp
  rfl
theorem V_keysT : V m c main_v36 = shapeCast S2x128x8192 (transpose S256x8192 [1, 0] (m ((c : Thread nD τ).loc main_arg1)) transposes_S8192x256_S256x8192_1_0) shapeCasts_S256x8192_S2x128x8192 := by
  unfold V
  after_reads_simp
  rfl
end Cert.KernelIdeal.Bwd
-- ==== Proof.Equation.lean ====
/-
  The three arrays the kernel leaves are the reference's three results, where every argument is a real number.
-/
module
public import proofs.«01_k».proof.Proof.Bwd.Host
@[expose] public section
set_option maxRecDepth 16384
noncomputable section
namespace Cert.KernelIdeal.Bwd
open Cert.KernelIdeal Cert.KernelIdeal.Gen Idealize.ShloMosaic Idealize.ShloMosaic.TcCoe Idealize.SL.Sem
open Cert.ReferenceIdeal.Bwd (qcol kcol kvOf qOf)
open Cert.ReferenceIdeal.Read (val_main_v65 val_main_v63 val_main_v62)

/-- A sum over blocks of keys and the keys of a block is the sum over the keys. -/
theorem sum_blocks (f : Fin 8192 → ℝ) : (∑ b : Fin 16, ∑ r : Fin 512, f (key b.val r)) = ∑ y : Fin 8192, f y := by
  rw [← Fintype.sum_prod_type' (f := fun (b : Fin 16) (r : Fin 512) => f (key b.val r))]
  refine Fintype.sum_equiv (finProdFinEquiv (m := 16) (n := 512)) _ _ fun p => congrArg f (Fin.ext ?_)
  show (512 * p.1.val + p.2.val) % 8192 = p.2.val + 512 * p.1.val
  omega

/-- The queries' gradient from the scores' gradients, block by block and at once. -/
theorem dq_sums (s : ℝ) (k D : Fin 8192 → ℝ) : (∑ b : Fin 16, (∑ r : Fin 512, (k (key b.val r) : EReal) * (D (key b.val r) : EReal)) * (s : EReal))
    = ∑ y, ((D y * s : ℝ) : EReal) * (k y : EReal) := by
  simp only [← EReal.coe_mul, Attn.coe_sum]
  refine congrArg _ ?_
  rw [← Finset.sum_mul, sum_blocks (fun y => k y * D y), Finset.sum_mul]
  exact Finset.sum_congr rfl fun y _ => by ring

/-- The keys' gradient from the scaled queries, with the base change undone after the sum, and from the queries. -/
theorem dk_sums (s : ℝ) (q D : Fin 8192 → ℝ) : (∑ x, (D x : EReal) * ((q x : EReal) * ((s : EReal) * ((1 / Real.log 2 : ℝ) : EReal)))) * ((Real.log 2 : ℝ) : EReal)
    = ∑ x, ((D x * s : ℝ) : EReal) * (q x : EReal) := by
  simp only [← EReal.coe_mul, Attn.coe_sum]
  refine congrArg _ ?_
  rw [Finset.sum_mul]
  exact Finset.sum_congr rfl fun x _ => by field_simp [Attn.log2_ne]

section
variable {K V : Vec Ideal S8192x256 .bf16} {KT : Vec Ideal S2x128x8192 .bf16} {Q O G : Vec Ideal S8192x1024 .bf16} {L : Vec Ideal S8x4x1x2048 .f32} {e : Fin 8}
  {k q v g : Fin 8192 → Fin 128 → ℝ}
  (hK : ∀ y d, K (ix2 y (gcol (grp e) d)) = (k y d : EReal)) (hV : ∀ y d, V (ix2 y (gcol (grp e) d)) = (v y d : EReal))
  (hT : ∀ d y, KT (ix3 (grp e) d y) = (k y d : EReal)) (hQ : ∀ x d, Q (ix2 x (col e d)) = (q x d : EReal) * (Attn.sc * Attn.il))
  (hO : ∀ x d, O (ix2 x (col e d)) = Attn.O (fun y d => (k y d : EReal)) (fun y d => (q y d : EReal)) (fun y d => (v y d : EReal)) x d)
  (hG : ∀ x d, G (ix2 x (col e d)) = (g x d : EReal))
  (hL : ∀ x, L (ix4 e (hi x) 0 (lo x)) = Attn.LSE (fun y d => (k y d : EReal)) (fun y d => (q y d : EReal)) x)

include hK hQ hL in
/-- The kernel's weight is the softmax weight. -/
theorem wtG_eq (y x : Fin 8192) : wtG K Q L e y x = Attn.W (fun y d => (k y d : EReal)) (fun y d => (q y d : EReal)) x y := by
  unfold wtG
  simp only [hK, hQ, hL]
  exact Attn.weight k q x y

include hK hV hQ hO hG hL in
/-- The kernel's gradient of a score. -/
theorem gsG_eq (y x : Fin 8192) : gsG K V Q O G L e y x
    = Attn.W (fun y d => (k y d : EReal)) (fun y d => (q y d : EReal)) x y
      * ((∑ d, (v y d : EReal) * (g x d : EReal)) - ∑ d, (g x d : EReal) * Attn.O (fun y d => (k y d : EReal)) (fun y d => (q y d : EReal)) (fun y d => (v y d : EReal)) x d) := by
  unfold gsG dlG
  rw [wtG_eq hK hQ hL]
  simp only [hV, hG, hO]

include hK hV hT hQ hO hG hL in
/-- The gradient of a head's queries. -/
theorem dq_head (d : Fin 128) (x : Fin 8192) : (∑ b : Fin 16, dqG K V KT Q O G L e b.val d x)
      = ∑ y, Attn.DS (fun y d => (k y d : EReal)) (fun y d => (q y d : EReal)) (fun y d => (v y d : EReal)) (fun y d => (g y d : EReal)) x y * (k y d : EReal) := by
  obtain ⟨D, s, hs, hD, hD'⟩ := Attn.score_grad k q v g
  unfold dqG
  simp only [gsG_eq hK hV hQ hO hG hL, hD', hT, hD]
  refine (Finset.sum_congr rfl fun b _ => ?_).trans (dq_sums s (fun y => k y d) (fun y => D x y))
  exact congrArg (fun z => (∑ r : Fin 512, (k (key b.val r) d : EReal) * (D x (key b.val r) : EReal)) * z) hs

include hK hV hQ hO hG hL in
/-- What a head adds to the gradient of its group's keys. -/
theorem dk_head (y : Fin 8192) (d : Fin 128) : dkG K V Q O G L e y d
      = ∑ x, Attn.DS (fun y d => (k y d : EReal)) (fun y d => (q y d : EReal)) (fun y d => (v y d : EReal)) (fun y d => (g y d : EReal)) x y * (q x d : EReal) := by
  obtain ⟨D, s, hs, hD, hD'⟩ := Attn.score_grad k q v g
  unfold dkG
  simp only [gsG_eq hK hV hQ hO hG hL, hD', hQ, hD]
  refine Eq.trans ?_ (dk_sums s (fun x => q x d) (fun x => D x y))
  exact congrArg (fun z => (∑ x, (D x y : EReal) * ((q x d : EReal) * z)) * ((Real.log 2 : ℝ) : EReal)) (congrArg₂ (· * ·) hs Attn.il_real)

include hK hQ hG hL in
/-- What a head adds to the gradient of its group's values. -/
theorem dv_head (y : Fin 8192) (d : Fin 128) : dvG K Q G L e y d
      = ∑ x, (g x d : EReal) * Attn.W (fun y d => (k y d : EReal)) (fun y d => (q y d : EReal)) x y := by
  unfold dvG
  simp only [wtG_eq hK hQ hL, hG]
  exact Finset.sum_congr rfl fun x _ => mul_comm _ _
end

variable (m : (ℓ : Loc nD τ sig) → Buf (Elt Ideal) ℓ) (c : Dev nD) (a : Fin 2) (h : Fin 4)

/-- The argument arrays. -/
abbrev inQ : Vec Ideal S8192x1024 .f32 := m ((c : Thread nD τ).loc main_arg0)
abbrev inK : Vec Ideal S8192x256 .f32 := m ((c : Thread nD τ).loc main_arg1)
abbrev inV : Vec Ideal S8192x256 .f32 := m ((c : Thread nD τ).loc main_arg2)
abbrev inG : Vec Ideal S8192x1024 .f32 := m ((c : Thread nD τ).loc main_arg3)

theorem col_hd (d : Fin 128) : col (hd a h) d = qcol a h d := Fin.ext (by show 128 * (4 * a.val + h.val) + d.val = a.val * 512 + h.val * 128 + d.val; omega)
theorem grp_hd : grp (hd a h) = a := Fin.ext (by show (4 * a.val + h.val) / 4 = a.val; omega)
theorem gcol_eq (d : Fin 128) : gcol a d = kcol a d := Fin.ext (by show 128 * a.val + d.val = a.val * 128 + d.val; omega)

theorem k_at (y : Fin 8192) (d : Fin 128) : aK m c (ix2 y (gcol (grp (hd a h)) d)) = kvOf a (inK m c) y d := by
  rw [grp_hd, gcol_eq]; exact congrFun (V_keys m c) _
theorem v_at (y : Fin 8192) (d : Fin 128) : aV m c (ix2 y (gcol (grp (hd a h)) d)) = kvOf a (inV m c) y d := by
  rw [grp_hd, gcol_eq]; exact congrFun (V_values m c) _
theorem g_at (x : Fin 8192) (d : Fin 128) : aG m c (ix2 x (col (hd a h) d)) = qOf a h (inG m c) x d := by
  rw [col_hd]; exact congrFun (V_cot m c) _
theorem o_at (x : Fin 8192) (d : Fin 128) : aO m c (ix2 x (col (hd a h) d)) = Attn.O (kvOf a (inK m c)) (qOf a h (inQ m c)) (kvOf a (inV m c)) x d := by
  rw [col_hd]; exact (congrFun (V_outs m c) _).trans (hO_apply _ _ _ a h x d)
theorem q_at (x : Fin 8192) (d : Fin 128) : aQ m c (ix2 x (col (hd a h) d)) = qOf a h (inQ m c) x d * (Attn.sc * Attn.il) := by
  rw [col_hd]; exact (congrFun (V_queries m c) _).trans (hQ_apply _ x _)
theorem l_at (x : Fin 8192) : aL m c (ix4 (hd a h) (hi x) 0 (lo x)) = Attn.LSE (kvOf a (inK m c)) (qOf a h (inQ m c)) x := by
  have e : hd a h = ⟨a.val * 4 + h.val, by omega⟩ := Fin.ext (by show 4 * a.val + h.val = a.val * 4 + h.val; omega)
  rw [e]; exact (congrFun (V_lse m c) _).trans (hL_apply _ _ a h x)
theorem keysT_apply (k : Vec Ideal S8192x256 .bf16) (d : Fin 128) (y : Fin 8192) :
    shapeCast S2x128x8192 (transpose S256x8192 [1, 0] k transposes_S8192x256_S256x8192_1_0) shapeCasts_S256x8192_S2x128x8192 (ix3 a d y) = k (ix2 y (kcol a d)) := by
  pointwise
theorem t_at (d : Fin 128) (y : Fin 8192) : aT m c (ix3 (grp (hd a h)) d y) = kvOf a (inK m c) y d := by
  rw [grp_hd]; exact (congrFun (V_keysT m c) _).trans (keysT_apply a _ d y)

section
variable {m c} {k q v g : Fin 8192 → Fin 128 → ℝ}
  (hk : kvOf a (inK m c) = fun y d => (k y d : EReal)) (hv : kvOf a (inV m c) = fun y d => (v y d : EReal))
  (hq : qOf a h (inQ m c) = fun y d => (q y d : EReal)) (hg : qOf a h (inG m c) = fun y d => (g y d : EReal))
include hk in
theorem k_real (y : Fin 8192) (d : Fin 128) : aK m c (ix2 y (gcol (grp (hd a h)) d)) = (k y d : EReal) := (k_at m c a h y d).trans (congrFun (congrFun hk y) d)
include hk in
theorem t_real (d : Fin 128) (y : Fin 8192) : aT m c (ix3 (grp (hd a h)) d y) = (k y d : EReal) := (t_at m c a h d y).trans (congrFun (congrFun hk y) d)
include hv in
theorem v_real (y : Fin 8192) (d : Fin 128) : aV m c (ix2 y (gcol (grp (hd a h)) d)) = (v y d : EReal) := (v_at m c a h y d).trans (congrFun (congrFun hv y) d)
include hg in
theorem g_real (y : Fin 8192) (d : Fin 128) : aG m c (ix2 y (col (hd a h) d)) = (g y d : EReal) := (g_at m c a h y d).trans (congrFun (congrFun hg y) d)
include hq in
theorem q_real (y : Fin 8192) (d : Fin 128) : aQ m c (ix2 y (col (hd a h) d)) = (q y d : EReal) * (Attn.sc * Attn.il) :=
  (q_at m c a h y d).trans (congrArg (· * (Attn.sc * Attn.il)) (congrFun (congrFun hq y) d))
include hk hv hq in
theorem o_real (x : Fin 8192) (d : Fin 128) : aO m c (ix2 x (col (hd a h) d))
    = Attn.O (fun y d => (k y d : EReal)) (fun y d => (q y d : EReal)) (fun y d => (v y d : EReal)) x d := by
  rw [← hk, ← hv, ← hq]; exact o_at m c a h x d
include hk hq in
theorem l_real (x : Fin 8192) : aL m c (ix4 (hd a h) (hi x) 0 (lo x)) = Attn.LSE (fun y d => (k y d : EReal)) (fun y d => (q y d : EReal)) x := by
  rw [← hk, ← hq]; exact l_at m c a h x

include hk hv hq hg
theorem dq_eq (d : Fin 128) (x : Fin 8192) :
    (∑ b : Fin 16, dqG (aK m c) (aV m c) (aT m c) (aQ m c) (aO m c) (aG m c) (aL m c) (hd a h) b.val d x)
      = ∑ y, Attn.DS (kvOf a (inK m c)) (qOf a h (inQ m c)) (kvOf a (inV m c)) (qOf a h (inG m c)) x y * kvOf a (inK m c) y d := by
  rw [hk, hv, hq, hg]
  exact dq_head (k_real a h hk) (v_real a h hv) (t_real a h hk) (q_real a h hq) (o_real a h hk hv hq) (g_real a h hg) (l_real a h hk hq) d x
theorem dk_eq (y : Fin 8192) (d : Fin 128) :
    dkG (aK m c) (aV m c) (aQ m c) (aO m c) (aG m c) (aL m c) (hd a h) y d
      = ∑ x, Attn.DS (kvOf a (inK m c)) (qOf a h (inQ m c)) (kvOf a (inV m c)) (qOf a h (inG m c)) x y * qOf a h (inQ m c) x d := by
  rw [hk, hv, hq, hg]
  exact dk_head (k_real a h hk) (v_real a h hv) (q_real a h hq) (o_real a h hk hv hq) (g_real a h hg) (l_real a h hk hq) y d
omit hv in
theorem dv_eq (y : Fin 8192) (d : Fin 128) :
    dvG (aK m c) (aQ m c) (aG m c) (aL m c) (hd a h) y d
      = ∑ x, qOf a h (inG m c) x d * Attn.W (kvOf a (inK m c)) (qOf a h (inQ m c)) x y := by
  rw [hk, hq, hg]
  exact dv_head (k_real a h hk) (q_real a h hq) (g_real a h hg) (l_real a h hk hq) y d
end

/-- A sum over the heads of a group, head by head. -/
theorem heads_sum (f g : Fin 4 → EReal) (e : ∀ h, f h = g h) : (∑ h, f h) = ∑ h, g h := Finset.sum_congr rfl fun h _ => e h

/-- The heads' sum taken inside the queries' sum. -/
theorem heads_swap (f : Fin 4 → Fin 8192 → EReal) : (∑ h, ∑ x, f h x) = ∑ x, ∑ h, f h x := Finset.sum_comm

/-- Every entry of an array is a real number. -/
abbrev Real' {S : Shape} (A : S.Idx → EReal) : Prop := ∀ i, ∃ r : ℝ, A i = r

variable (hq : Real' (S := S8192x1024) (inQ m c)) (hk : Real' (S := S8192x256) (inK m c)) (hv : Real' (S := S8192x256) (inV m c)) (hg : Real' (S := S8192x1024) (inG m c))

include hq hk hv hg
theorem results_q : G7 m c = val_main_v65 (F := Ideal) (inQ m c) (inK m c) (inV m c) (inG m c) := by
  choose q eq using hq; choose k ek using hk; choose v ev using hv; choose g eg using hg
  funext i
  obtain ⟨j, x, rfl⟩ : ∃ (j : Fin 1024) (x : Fin 8192), i = ix2 j x := ⟨i 0, i 1, eq_ix2 i⟩
  obtain ⟨a, h, d, rfl⟩ : ∃ (a : Fin 2) (h : Fin 4) (d : Fin 128), j = qcol a h d :=
    ⟨⟨j.val / 512, by omega⟩, ⟨j.val / 128 % 4, by omega⟩, ⟨j.val % 128, by omega⟩, Fin.ext (by show j.val = j.val / 512 * 512 + j.val / 128 % 4 * 128 + j.val % 128; omega)⟩
  refine .trans ?_ (Cert.ReferenceIdeal.Bwd.dq_apply _ _ _ _ a h x d).symm
  refine (congrArg (fun z => G7 m c (ix2 z x)) (col_hd a h d).symm).trans ((G7_apply m c (hd a h) d x).trans ?_)
  exact dq_eq a h (k := fun y d => k _) (q := fun y d => q _) (v := fun y d => v _) (g := fun y d => g _)
    (funext fun y => funext fun d => ek _) (funext fun y => funext fun d => ev _) (funext fun y => funext fun d => eq _) (funext fun y => funext fun d => eg _) d x

theorem results_k : G8 m c = val_main_v63 (F := Ideal) (inQ m c) (inK m c) (inV m c) (inG m c) := by
  choose q eq using hq; choose k ek using hk; choose v ev using hv; choose g eg using hg
  funext i
  obtain ⟨y, j, rfl⟩ : ∃ (y : Fin 8192) (j : Fin 256), i = ix2 y j := ⟨i 0, i 1, eq_ix2 i⟩
  obtain ⟨a, d, rfl⟩ : ∃ (a : Fin 2) (d : Fin 128), j = kcol a d :=
    ⟨⟨j.val / 128, by omega⟩, ⟨j.val % 128, by omega⟩, Fin.ext (by show j.val = j.val / 128 * 128 + j.val % 128; omega)⟩
  refine .trans ?_ (Cert.ReferenceIdeal.Bwd.dk_apply _ _ _ _ a y d).symm
  refine (congrArg (fun z => G8 m c (ix2 y z)) (gcol_eq a d).symm).trans ((G8_apply m c a y d).trans ?_)
  refine .trans (heads_sum _ _ fun h => ?_) (heads_swap _)
  exact dk_eq a h (k := fun y d => k _) (q := fun y d => q _) (v := fun y d => v _) (g := fun y d => g _)
    (funext fun y => funext fun d => ek _) (funext fun y => funext fun d => ev _) (funext fun y => funext fun d => eq _) (funext fun y => funext fun d => eg _) y d

omit hv in
theorem results_v : G9 m c = val_main_v62 (F := Ideal) (inQ m c) (inK m c) (inG m c) := by
  choose q eq using hq; choose k ek using hk; choose g eg using hg
  funext i
  obtain ⟨y, j, rfl⟩ : ∃ (y : Fin 8192) (j : Fin 256), i = ix2 y j := ⟨i 0, i 1, eq_ix2 i⟩
  obtain ⟨a, d, rfl⟩ : ∃ (a : Fin 2) (d : Fin 128), j = kcol a d :=
    ⟨⟨j.val / 128, by omega⟩, ⟨j.val % 128, by omega⟩, Fin.ext (by show j.val = j.val / 128 * 128 + j.val % 128; omega)⟩
  refine .trans ?_ (Cert.ReferenceIdeal.Bwd.dv_apply _ _ _ a y d).symm
  refine (congrArg (fun z => G9 m c (ix2 y z)) (gcol_eq a d).symm).trans ((G9_apply m c a y d).trans ?_)
  refine heads_sum _ _ fun h => ?_
  exact dv_eq a h (k := fun y d => k _) (q := fun y d => q _) (g := fun y d => g _)
    (funext fun y => funext fun d => ek _) (funext fun y => funext fun d => eq _) (funext fun y => funext fun d => eg _) y d
end Cert.KernelIdeal.Bwd
-- ==== Proof.Finite.lean ====
/-
  What the precondition says: every entry of the four arguments is a real number.
-/
module
public import proofs.«01_k».proof.Proof.Equation
public import proofs.«01_k».proof.Defs
@[expose] public section
noncomputable section
namespace Cert.KernelIdeal.Bwd
open Cert.KernelIdeal Idealize.ShloMosaic Idealize.ShloMosaic.TcCoe Idealize.SL.Sem

/-- The two broadcasts the precondition is written with are broadcasts. -/
theorem finite_facts : Cert.Pre_finite.Facts := ⟨by decide, by decide⟩

theorem inf32 : Ideal.ofBits .f32 0x7F800000#32 = (⊤ : EReal) := by
  simp [Ideal.ofBits, Ideal.ieee]

/-- An extended real whose absolute value is below infinity is a real number. -/
theorem real_of_abs (x : EReal) (h : BitVec.ofBool (decide (FloatOps.absf (F := Ideal) (φ := .f32) x < Ideal.ofBits .f32 0x7F800000#32)) = 1#1) : ∃ r : ℝ, x = r := by
  have h' : max x (-x) < (⊤ : EReal) := by
    change BitVec.ofBool (decide (max x (-x) < Ideal.ofBits .f32 0x7F800000#32)) = 1#1 at h
    rw [inf32] at h
    by_contra hn
    rw [decide_eq_false hn] at h
    exact absurd h (by decide)
  induction x using EReal.rec with
  | coe r => exact ⟨r, rfl⟩
  | top => exact absurd h' (by simp)
  | bot => exact absurd h' (by simp)

section
local instance : Cert.Pre_finite.Facts := finite_facts
theorem fin1024 (A : FVec Ideal S8192x1024 .f32) (h : cmpf .olt (Host.absf A) (broadcastInDim S8192x1024 ![] Cert.Pre_finite.Facts.bcast_S_S8192x1024 (constant S_ .f32 0x7F800000#32)) = fun _ => 1#1) :
    Real' (S := S8192x1024) A := fun i => by
  have e := congrFun h i
  obtain ⟨x, j, rfl⟩ : ∃ (x : Fin 8192) (j : Fin 1024), i = ix2 x j := ⟨i 0, i 1, eq_ix2 i⟩
  pointwise at e
  exact real_of_abs _ e
theorem fin256 (A : FVec Ideal S8192x256 .f32) (h : cmpf .olt (Host.absf A) (broadcastInDim S8192x256 ![] Cert.Pre_finite.Facts.bcast_S_S8192x256 (constant S_ .f32 0x7F800000#32)) = fun _ => 1#1) :
    Real' (S := S8192x256) A := fun i => by
  have e := congrFun h i
  obtain ⟨x, j, rfl⟩ : ∃ (x : Fin 8192) (j : Fin 256), i = ix2 x j := ⟨i 0, i 1, eq_ix2 i⟩
  pointwise at e
  exact real_of_abs _ e

/-- Under the precondition the four arguments are real. -/
theorem args_real (m : (ℓ : Loc nD τ sig) → Buf (Elt Ideal) ℓ) (h : Cert.Pre_KernelIdeal_finite m) (c : Dev nD) :
    Real' (S := S8192x1024) (inQ m c) ∧ Real' (S := S8192x256) (inK m c) ∧ Real' (S := S8192x256) (inV m c) ∧ Real' (S := S8192x1024) (inG m c) :=
  ⟨fin1024 _ (h c).1, fin256 _ (h c).2.1, fin256 _ (h c).2.2.1, fin1024 _ (h c).2.2.2⟩
end
end Cert.KernelIdeal.Bwd
-- ==== Proof.Bwd.Same.lean ====
/-
  The kernel before idealization is the idealized kernel with the constant read as the machine's rounded number, so its
  run, in machine arithmetic, is the one of `Frame`.
-/
module
public import proofs.«01_k».proof.Proof.Bwd.Frame
public import proofs.«01_k».proof.Proof.Gen.Kernel
public import proofs.«01_k».proof.Defs
@[expose] public section
set_option maxRecDepth 16384
set_option maxHeartbeats 2000000
noncomputable section
namespace Cert.KernelIdeal.Bwd
open Idealize.ShloMosaic Idealize.ShloMosaic.TcCoe Idealize.SL.Sem

/-- The named constant read as the number its bits are. -/
local instance rounded : Named Bits := ⟨fun _ _ _ b => Scalar.ofBits _ b⟩

/-- The two programs' bodies are the same, under that reading. -/
theorem defs_eq : Cert.Kernel.defs (F := Bits) = Cert.KernelIdeal.defs (F := Bits) := by
  refine congrArg (Pipeline.defs _) ?_
  unfold Cert.Kernel.defs₀ Cert.KernelIdeal.defs₀
  refine congrArg Defs.onTc (funext fun l => funext fun x => ?_)
  match l, x with
  | 0, (t, s) => rfl

/-- So are their lines before the call. -/
theorem main_eq : Cert.Kernel.main (F := Bits) = Cert.KernelIdeal.main (F := Bits) := by
  funext c
  unfold Cert.Kernel.main Cert.KernelIdeal.main
  rfl

/-- The kernel's run, in machine arithmetic, is this one. -/
theorem frame_kernel : Cert.quiescent_Kernel := by
  intro m ρ _
  have h := frame (F := Bits) m ρ
  rw [← defs_eq, ← main_eq] at h
  exact h
end Cert.KernelIdeal.Bwd
-- ==== Proof.Mlp.DownDx.lean ====
/-
  The gradient of the MLP's hidden values: the kernel's product of the output's gradient with the transposed weights,
  times twice the positive part, block of rows by block of rows, is the derivative of "square the positive part, then
  multiply by the weights".
-/
module
public import proofs.«01_k».proof.Defs
public import proofs.«01_k».proof.Proof.Gen.DownDx
public import proofs.«01_k».proof.Proof.Gen.DownDxIdeal.Value
public import proofs.«01_k».proof.Proof.Gen.DownDxRefIdeal.Run
public import Idealize.ShloMosaic.Lib.Pointwise
public import Idealize.ShloMosaic.Lib.Quiescent
@[expose] public section
set_option maxRecDepth 16384
noncomputable section
namespace Cert.DownDxIdeal.Mlp
open Cert.DownDxIdeal Cert.DownDxIdeal.Gen Idealize.ShloMosaic Idealize.ShloMosaic.TcCoe Idealize.SL.Sem

/-- The gradient of hidden value `f` at position `x`. -/
def du (dy : Vec Ideal S8192x1024 .bf16) (w : Vec Ideal S2x4096x1024 .bf16) (u : Vec Ideal S8192x4096 .bf16) (x : Fin 8192) (f : Fin 4096) : EReal :=
  (∑ d : Fin 1024, dy (ix2 x d) * w (ix3 1 f d)) * (2 * max (u (ix2 x f)) 0)

/-- The printed two. -/
theorem two : Ideal.ofBits .f32 0x40000000#32 = (2 : EReal) := by
  simp [Ideal.ofBits, Ideal.ieee, -EReal.coe_mul]; norm_num; rfl

/-- What the body stores, at an index. -/
theorem pay_apply (a : Vec Ideal S512x1024 .bf16) (w : Vec Ideal S1x4096x1024 .bf16) (u : Vec Ideal S512x4096 .bf16) (r : Fin 512) (f : Fin 4096) :
    k0_pay1 (F := Ideal) a w u (ix2 r f) = (∑ d : Fin 1024, a (ix2 r d) * w (ix3 0 f d)) * (2 * max (u (ix2 r f)) 0) := by
  unfold_payloads
  pointwise
  rw [two]

section
variable (m : (ℓ : Loc nD τ sig) → Buf (Elt Ideal) ℓ) (c : Dev nD) (t : Fin cfg0.N)

/-- The row of the whole array that row `r` of point `n`'s block is. -/
abbrev at_ (n : ℕ) (r : Fin 512) : Fin 8192 := ⟨(512 * n + r.val) % 8192, Nat.mod_lt _ (by decide)⟩

theorem idx_in : ∀ t : Fin cfg0.N, (win0_0.index t (0 : Fin 2) = t.val ∧ win0_0.index t (1 : Fin 2) = 0)
    ∧ (win0_1.index t (0 : Fin 3) = 1 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0) ∧ win0_3.flush t = true :=
  (by decide +kernel : ∀ t : Fin grid0.N, _)

theorem in0 (r : Fin 512) (d : Fin 1024) :
    (iblk m c 0 t : Vec Ideal S512x1024 .bf16) (ix2 r d) = (m ((c : Thread nD τ).loc main_arg0) : Vec Ideal S8192x1024 .bf16) (ix2 (at_ t.val r) d) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1024 + 1 * d.val = d.val; rw [e1]; omega

theorem in1 (f : Fin 4096) (d : Fin 1024) :
    (iblk m c 1 t : Vec Ideal S1x4096x1024 .bf16) (ix3 0 f d) = (m ((c : Thread nD τ).loc main_arg1) : Vec Ideal S2x4096x1024 .bf16) (ix3 1 f d) := by
  obtain ⟨e0, e1, e2⟩ := (idx_in t).2.1
  refine congrArg (m ((c : Thread nD τ).loc main_arg1) : Vec Ideal S2x4096x1024 .bf16) (funext fun a => Fin.ext ?_)
  match a with
  | ⟨0, _⟩ => show win0_1.index t (0 : Fin 3) * 1 + 1 * 0 = 1; rw [e0]
  | ⟨1, _⟩ => show win0_1.index t (1 : Fin 3) * 4096 + 1 * f.val = f.val; rw [e1]; omega
  | ⟨2, _⟩ => show win0_1.index t (2 : Fin 3) * 1024 + 1 * d.val = d.val; rw [e2]; omega

theorem in2 (r : Fin 512) (f : Fin 4096) :
    (iblk m c 2 t : Vec Ideal S512x4096 .bf16) (ix2 r f) = (m ((c : Thread nD τ).loc main_arg2) : Vec Ideal S8192x4096 .bf16) (ix2 (at_ t.val r) f) := by
  have hN := lt_of_lt_of_eq t.isLt N_0
  obtain ⟨e0, e1⟩ := (idx_in t).2.2.1
  refine congrArg (m ((c : Thread nD τ).loc main_arg2) : Vec Ideal S8192x4096 .bf16) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 4096 + 1 * f.val = f.val; rw [e1]; omega

/-- The whole result. -/
def G : Buf (Elt Ideal) ((c : Thread nD τ).loc main_v0) := fun i : S8192x4096.Idx =>
  du (m ((c : Thread nD τ).loc main_arg0)) (m ((c : Thread nD τ).loc main_arg1)) (m ((c : Thread nD τ).loc main_arg2)) (i 0) (i 1)

/-- What point `t` leaves in its block. -/
theorem out_apply (r : Fin 512) (f : Fin 4096) :
    out0_3 (F := Ideal) (iblk m c 0 t) (iblk m c 1 t) (iblk m c 2 t) (ix2 r f) = G m c (ix2 (at_ t.val r) f) := by
  unfold out0_3
  rw [View.canon_unit_zero (funext fun a => by fin_cases a <;> rfl), View.ld_unit_zero (S := S512x1024) (funext fun a => by fin_cases a <;> rfl),
    View.ld_unit_zero (S := S1x4096x1024) (funext fun a => by fin_cases a <;> rfl), View.ld_unit_zero (S := S512x4096) (funext fun a => by fin_cases a <;> rfl)]
  refine (pay_apply _ _ _ r f).trans ?_
  simp only [in0, in1, in2]
  rfl

theorem flushed_eq :
    (dats m 0 c).flushed 3 t = ((cfg0.win 3).blk t).view.read (Elt Ideal) (G m c) := by
  rw [Value.flushed3]
  funext y
  obtain ⟨⟨r, f⟩, rfl⟩ : ∃ a : Fin 512 × Fin 4096, y = ix2 a.1 a.2 := ⟨(y 0, y 1), eq_ix2 y⟩
  refine (out_apply m c t r f).trans ?_
  have hN := lt_of_lt_of_eq t.isLt N_0
  obtain ⟨e0, e1⟩ := (idx_in t).2.2.2.1
  refine congrArg (G m c) (funext fun a => Fin.ext ?_)
  match a with
  | ⟨0, _⟩ => show (512 * t.val + r.val) % 8192 = win0_3.index t (0 : Fin 2) * 512 + 1 * r.val; rw [e0]; omega
  | ⟨1, _⟩ => show f.val = win0_3.index t (1 : Fin 2) * 4096 + 1 * f.val; rw [e1]; omega

theorem final : (dats m 0 c).arrAt 3 cfg0.N = G m c :=
  (dats m 0 c).arrAt_eq_of_cover 3 (G m c) (fun t _ => flushed_eq m c t) fun i => by
    have h0 : (i 0).val < 8192 := (i 0).isLt
    have h1 : (i 1).val < 4096 := (i 1).isLt
    have hN : cfg0.N = 16 := N_0
    let t : Fin cfg0.N := ⟨(i 0).val / 512, by rw [hN]; omega⟩
    obtain ⟨e0, e1⟩ := (idx_in t).2.2.2.1
    refine ⟨t, (idx_in t).2.2.2.2, ?_⟩
    show i ∈ ((View.whole main_v0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; rw [e0]; show (i 0).val / 512 * 512 ≤ _ ∧ _ < (i 0).val / 512 * 512 + 512; omega
    | ⟨1, _⟩ => show win0_3.index t (1 : Fin 2) * 4096 ≤ (i 1).val ∧ (i 1).val < win0_3.index t (1 : Fin 2) * 4096 + 4096; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)
end
end Cert.DownDxIdeal.Mlp

namespace Cert.DownDxRefIdeal.Mlp
open Cert.DownDxRefIdeal Cert.DownDxRefIdeal.Gen Idealize.ShloMosaic Idealize.ShloMosaic.TcCoe Idealize.SL.Sem
variable (m : (ℓ : Loc nD τ sig) → Buf (Elt Ideal) ℓ) (c : Dev nD)

/-- The reference's result as its operations compose it. -/
def res (dy : FVec Ideal S8192x1024 .bf16) (w : FVec Ideal S2x4096x1024 .bf16) (u : FVec Ideal S8192x4096 .bf16) : FVec Ideal S8192x4096 .bf16 :=
  truncf .bf16 (select (cmpf .ogt (extf .f32 u bitsLt_bf16_f32) (broadcastInDim S8192x4096 ![] bcast_S_S8192x4096 (constant S_ .f32 0x00000000#32))) (mulf (Host.dotGeneral dot_S8192x1024_S4096x1024_S8192x4096_1_1_0_0_n_n none (extf .f32 dy bitsLt_bf16_f32) (shapeCast _ (extractStridedSlice S1x4096x1024 ![1, 0, 0] (extf .f32 w bitsLt_bf16_f32) slices_S2x4096x1024_S1x4096x1024_1_0_0) shapeCasts_S1x4096x1024_S4096x1024)) (mulf (broadcastInDim S8192x4096 ![] bcast_S_S8192x4096 (constant S_ .f32 0x40000000#32)) (maximumf (extf .f32 u bitsLt_bf16_f32) (broadcastInDim S8192x4096 ![] bcast_S_S8192x4096 (constant S_ .f32 0x00000000#32))))) (broadcastInDim S8192x4096 ![] bcast_S_S8192x4096 (constant S_ .f32 0x00000000#32))) bitsLt_bf16_f32

/-- Where a hidden value is not positive both derivatives vanish. -/
theorem at_relu (z v : EReal) : (if v > 0 then z * (2 * max v 0) else 0) = z * (2 * max v 0) := by
  by_cases h : v > 0
  · rw [if_pos h]
  · rw [if_neg h, max_eq_right (not_lt.mp h), mul_zero, mul_zero]

theorem result_apply (dy : Vec Ideal S8192x1024 .bf16) (w : Vec Ideal S2x4096x1024 .bf16) (u : Vec Ideal S8192x4096 .bf16) (x : Fin 8192) (f : Fin 4096) :
    res dy w u (ix2 x f) = Cert.DownDxIdeal.Mlp.du dy w u x f := by
  unfold res
  pointwise
  rw [Cert.DownDxIdeal.Mlp.two]
  exact at_relu _ _
end Cert.DownDxRefIdeal.Mlp

namespace Cert.DownDxIdeal.Mlp
open Idealize.ShloMosaic Idealize.ShloMosaic.TcCoe Idealize.SL.Sem

/-- The kernel's gradient is the reference's. -/
theorem equal : Cert.algebraic_DownDxIdeal_DownDxRefIdeal := by
  intro m g m' g' _ hargs
  refine ⟨fun c => G m c, run m g, ?_⟩
  refine (θ_run _ _ _).mono (fun r h c => ⟨(h c).1.trans ?_, (h c).2⟩) (Cert.DownDxRefIdeal.Value.run (F := Ideal) m' g')
  obtain ⟨a0, a1, a2⟩ := hargs c
  rw [a0, a1, a2]
  funext i
  obtain ⟨⟨x, f⟩, rfl⟩ : ∃ a : Fin 8192 × Fin 4096, i = ix2 a.1 a.2 := ⟨(i 0, i 1), eq_ix2 i⟩
  exact Cert.DownDxRefIdeal.Mlp.result_apply _ _ _ x f

/-- The kernel before idealization is the same text: the same bodies, the same program. -/
theorem defs_eq : Cert.DownDx.defs (F := Bits) = Cert.DownDxIdeal.defs (F := Bits) := by
  refine congrArg (Pipeline.defs _) ?_
  unfold Cert.DownDx.defs₀ Cert.DownDxIdeal.defs₀
  refine congrArg Defs.onTc (funext fun l => funext fun x => ?_)
  match l, x with
  | 0, (t, s) => rfl

/-- Its run, in machine arithmetic, is this one. -/
theorem frame_kernel : Cert.quiescent_DownDx := by
  intro m ρ _
  have h := Cert.DownDxIdeal.Gen.frame (F := Bits) m ρ
  rw [← defs_eq] at h
  exact h

/-- The reference runs, leaves its arguments unchanged and has no counter. -/
theorem frame_reference : Cert.quiescent_DownDxRefIdeal := fun m ρ _ =>
  (θ_run _ _ _).mono (fun r h => ⟨fun c => (h c).2, Idealize.ShloMosaic.sem_eq_zero_of_no_sems (by decide) r.2⟩)
    (Cert.DownDxRefIdeal.Value.run (F := Ideal) m ρ)
end Cert.DownDxIdeal.Mlp
-- ==== Proof.Mlp.Sum.lean ====
/-
  A sum over the 8192 positions taken 1024 at a time, in order.
-/
module
public import proofs.«01_k».proof.Defs
@[expose] public section
noncomputable section
namespace Cert.Mlp

/-- Position `r` of block `j`. -/
abbrev row (j : ℕ) (r : Fin 1024) : Fin 8192 := ⟨(1024 * j + r.val) % 8192, Nat.mod_lt _ (by decide)⟩

/-- The sum over the first `n` positions. -/
def sumTo (g : Fin 8192 → EReal) (n : ℕ) : EReal := ∑ i ∈ Finset.range n, if h : i < 8192 then g ⟨i, h⟩ else 0

theorem sumTo_zero (g : Fin 8192 → EReal) : sumTo g 0 = 0 := Finset.sum_range_zero _

/-- One more block. -/
theorem sumTo_block (g : Fin 8192 → EReal) (j : ℕ) (hj : j < 8) :
    sumTo g (1024 * j) + ∑ r : Fin 1024, g (row j r) = sumTo g (1024 * (j + 1)) := by
  unfold sumTo
  rw [Nat.mul_add, Nat.mul_one, Finset.sum_range_add, Finset.sum_range (n := 1024)]
  refine congrArg _ (Finset.sum_congr rfl fun r _ => ?_)
  have hr := r.isLt
  rw [dif_pos (by omega)]
  exact congrArg g (Fin.ext (Nat.mod_eq_of_lt (by omega)))

/-- All the blocks. -/
theorem sumTo_all (g : Fin 8192 → EReal) : sumTo g 8192 = ∑ i, g i := by
  unfold sumTo
  rw [Finset.sum_range]
  exact Finset.sum_congr rfl fun i _ => dif_pos i.isLt

end Cert.Mlp
-- ==== Proof.Mlp.DownDw.lean ====
/-
  The gradient of the MLP's second weights: the kernel adds, block of positions by block of positions, the products of
  the squared positive parts with the output's gradient; that is the derivative of the product by the weights.
-/
module
public import proofs.«01_k».proof.Proof.Mlp.Sum
public import proofs.«01_k».proof.Proof.Gen.DownDw
public import proofs.«01_k».proof.Proof.Gen.DownDwIdeal.Value
public import proofs.«01_k».proof.Proof.Gen.DownDwRefIdeal.Run
public import Idealize.ShloMosaic.Lib.Pointwise
public import Idealize.ShloMosaic.Lib.Quiescent
@[expose] public section
set_option maxRecDepth 16384
noncomputable section
namespace Cert.DownDwIdeal.Mlp
open Cert.DownDwIdeal Cert.DownDwIdeal.Gen Cert.Mlp Idealize.ShloMosaic Idealize.ShloMosaic.TcCoe Idealize.SL.Sem

/-- What position `t` contributes to the gradient of weight `(k, n)`. -/
def term (u : Vec Ideal S8192x4096 .bf16) (dy : Vec Ideal S8192x1024 .bf16) (k : Fin 4096) (n : Fin 1024) (t : Fin 8192) : EReal :=
  max (u (ix2 t k)) 0 * max (u (ix2 t k)) 0 * dy (ix2 t n)

theorem hz : (![0, 0] : Fin 2 → Nat) = fun _ => 0 := funext fun a => by fin_cases a <;> rfl

theorem zero_apply (k : Fin 2048) (n : Fin 1024) : k0_pay1 (F := Ideal) (ix2 k n) = 0 := by
  unfold_payloads
  pointwise

theorem step_apply (a : Vec Ideal S1024x2048 .bf16) (s : Vec Ideal S2048x1024 .f32) (b : Vec Ideal S1024x1024 .bf16) (k : Fin 2048) (n : Fin 1024) :
    k0_pay2 (F := Ideal) a s b (ix2 k n) = s (ix2 k n) + ∑ r : Fin 1024, max (a (ix2 r k)) 0 * max (a (ix2 r k)) 0 * b (ix2 r n) := by
  unfold_payloads
  pointwise

section
variable (c : Dev nD) (i : grid0.Coords) (a3 : Memref sig .tc .vmem S1024x2048 .bf16) (h3 : a3.IsWhole) (a4 : Memref sig .tc .vmem S1024x1024 .bf16) (h4 : a4.IsWhole)
  (a5 : Memref sig .tc .vmem S2048x1024 .bf16) (h5 : a5.IsWhole) (a6 : Memref sig .tc .vmem S2048x1024 .f32) (h6 : a6.IsWhole)
  (x0 : Vec Ideal S1024x2048 .bf16) (x1 : Vec Ideal S1024x1024 .bf16) (xs : Vec Ideal S2048x1024 .f32)

/-- The first step of a sum starts it at zero. -/
theorem scr_A (c0 : cond0_0 i) (c1 : ¬cond0_1 i) :
    sout0_A_0 (F := Ideal) c i a3 h3 a4 h4 a5 h5 a6 h6 c0 c1 x0 x1 = k0_pay2 x0 (k0_pay1 (F := Ideal)) x1 := by
  unfold sout0_A_0
  rw [View.read_writes_eq_canon _ _ _ (scover0_A_0 c i a3 h3 a4 h4 a5 h5 a6 h6 c0 c1 x0 x1)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S1024x2048) hz, View.ld_unit_zero (S := S1024x1024) hz]

/-- A later step adds to it. -/
theorem scr_B (c0 : ¬cond0_0 i) (c1 : ¬cond0_1 i) :
    sout0_B_0 (F := Ideal) c i a3 h3 a4 h4 a5 h5 a6 h6 c0 c1 x0 x1 xs = k0_pay2 x0 xs x1 := by
  unfold sout0_B_0
  rw [View.read_writes_eq_canon _ _ _ (scover0_B_0 c i a3 h3 a4 h4 a5 h5 a6 h6 c0 c1 x0 x1 xs)]
  unfold kernelRun0_B
  dsimp only
  rw [View.canon_unit_zero hz]
  simp only [View.readAt_eq_ld, h3.read_unread, h4.read_unread, h6.read_unread, View.ld_unit_zero (S := S1024x2048) hz, View.ld_unit_zero (S := S1024x1024) hz, View.ld_unit_zero (S := S2048x1024) hz]

theorem scr_C (c0 : ¬cond0_0 i) (c1 : cond0_1 i) :
    sout0_C_0 (F := Ideal) c i a3 h3 a4 h4 a5 h5 a6 h6 c0 c1 x0 x1 xs = k0_pay2 x0 xs x1 := by
  unfold sout0_C_0
  rw [View.read_writes_eq_canon _ _ _ (scover0_C_0 c i a3 h3 a4 h4 a5 h5 a6 h6 c0 c1 x0 x1 xs)]
  unfold kernelRun0_C
  dsimp only
  sl_unfold_words
  rw [View.canon_unit_zero hz]
  simp only [View.readAt_eq_ld, h3.read_unread, h4.read_unread, h6.read_unread, View.ld_unit_zero (S := S1024x2048) hz, View.ld_unit_zero (S := S1024x1024) hz, View.ld_unit_zero (S := S2048x1024) hz]

/-- The last step of a sum also writes it out. -/
theorem out_C (c0 : ¬cond0_0 i) (c1 : cond0_1 i) :
    out0_C_2 (F := Ideal) c i a3 h3 a4 h4 a5 h5 a6 h6 c0 c1 x0 x1 xs = k0_pay2 x0 xs x1 := by
  unfold out0_C_2
  rw [View.read_writes_eq_canon _ _ _ (cover0_C_2 c i a3 h3 a4 h4 a5 h5 a6 h6 c0 c1 x0 x1 xs)]
  unfold kernelRun0_C
  dsimp only
  sl_unfold_words
  rw [View.canon_unit_zero hz, View.readCov_unit_zero (S := S2048x1024) _ hz]
  simp only [View.readAt_eq_ld, h3.read_unread, h4.read_unread, h6.read_unread, View.ld_unit_zero (S := S1024x2048) hz, View.ld_unit_zero (S := S1024x1024) hz, View.ld_unit_zero (S := S2048x1024) hz]
  rfl
end

section
variable (m : (ℓ : Loc nD τ sig) → Buf (Elt Ideal) ℓ) (c : Dev nD)

/-- The column of the whole array that column `k` of the `q`-th block of columns is. -/
abbrev col (q : ℕ) (k : Fin 2048) : Fin 4096 := ⟨(2048 * q + k.val) % 4096, Nat.mod_lt _ (by decide)⟩

theorem idx_in : ∀ t : Fin cfg0.N, (win0_0.index t (0 : Fin 2) = t.val % 8 ∧ win0_0.index t (1 : Fin 2) = t.val / 8)
    ∧ (win0_1.index t (0 : Fin 2) = t.val % 8 ∧ win0_1.index t (1 : Fin 2) = 0) :=
  (by decide +kernel : ∀ t : Fin grid0.N, _)

theorem in0 (t : Fin cfg0.N) (r : Fin 1024) (k : Fin 2048) :
    (iblk m c 0 t : Vec Ideal S1024x2048 .bf16) (ix2 r k) = (m ((c : Thread nD τ).loc main_arg0) : Vec Ideal S8192x4096 .bf16) (ix2 (row (t.val % 8) r) (col (t.val / 8) k)) := by
  have hN := lt_of_lt_of_eq t.isLt N_0
  obtain ⟨e0, e1⟩ := (idx_in t).1
  refine congrArg (m ((c : Thread nD τ).loc main_arg0) : Vec Ideal S8192x4096 .bf16) (funext fun a => Fin.ext ?_)
  match a with
  | ⟨0, _⟩ => show win0_0.index t (0 : Fin 2) * 1024 + 1 * r.val = (1024 * (t.val % 8) + r.val) % 8192; rw [e0]; omega
  | ⟨1, _⟩ => show win0_0.index t (1 : Fin 2) * 2048 + 1 * k.val = (2048 * (t.val / 8) + k.val) % 4096; rw [e1]; omega

theorem in1 (t : Fin cfg0.N) (r : Fin 1024) (n : Fin 1024) :
    (iblk m c 1 t : Vec Ideal S1024x1024 .bf16) (ix2 r n) = (m ((c : Thread nD τ).loc main_arg1) : Vec Ideal S8192x1024 .bf16) (ix2 (row (t.val % 8) r) n) := by
  have hN := lt_of_lt_of_eq t.isLt N_0
  obtain ⟨e0, e1⟩ := (idx_in t).2
  refine congrArg (m ((c : Thread nD τ).loc main_arg1) : Vec Ideal S8192x1024 .bf16) (funext fun a => Fin.ext ?_)
  match a with
  | ⟨0, _⟩ => show win0_1.index t (0 : Fin 2) * 1024 + 1 * r.val = (1024 * (t.val % 8) + r.val) % 8192; rw [e0]; omega
  | ⟨1, _⟩ => show win0_1.index t (1 : Fin 2) * 1024 + 1 * n.val = n.val; rw [e1]; omega

/-- What the positions contribute. -/
abbrev tm (k : Fin 4096) (n : Fin 1024) : Fin 8192 → EReal :=
  term (m ((c : Thread nD τ).loc main_arg0)) (m ((c : Thread nD τ).loc main_arg1)) k n

/-- A step over what the steps before left. -/
theorem step (t : Fin cfg0.N) (xs : Vec Ideal S2048x1024 .f32) (k : Fin 2048) (n : Fin 1024)
    (h : xs (ix2 k n) = sumTo (tm m c (col (t.val / 8) k) n) (1024 * (t.val % 8))) :
    k0_pay2 (F := Ideal) (iblk m c 0 t) xs (iblk m c 1 t) (ix2 k n) = sumTo (tm m c (col (t.val / 8) k) n) (1024 * (t.val % 8 + 1)) := by
  refine (step_apply _ _ _ k n).trans ?_
  simp only [in0, in1]
  rw [h]
  exact sumTo_block _ _ (Nat.mod_lt _ (by decide))

/-- What the scratch holds after a point: the sum over the positions met since it was started. -/
theorem scr_apply (k : Fin 2048) (n : Fin 1024) : ∀ (p : ℕ) (h : p < cfg0.N),
    (outsAt0 m c p h).2 (ix2 k n) = sumTo (tm m c (col (p / 8) k) n) (1024 * (p % 8 + 1))
  | 0, h => by
    rw [outsAt0_A m c ⟨0, h⟩ rfl (by dsimp only; omega)]
    dsimp only
    rw [scr_A]
    exact step m c ⟨0, h⟩ _ k n ((zero_apply k n).trans (sumTo_zero _).symm)
  | p + 1, h => by
    by_cases h0 : (p + 1) % 8 = 0
    · rw [outsAt0_A m c ⟨p + 1, h⟩ h0 (by dsimp only; omega)]
      dsimp only
      rw [scr_A]
      refine step m c ⟨p + 1, h⟩ _ k n ((zero_apply k n).trans ?_)
      dsimp only
      rw [h0]
      exact (sumTo_zero _).symm
    · have hp := scr_apply k n p (Nat.lt_of_succ_lt h)
      rw [show p / 8 = (p + 1) / 8 by omega, show p % 8 + 1 = (p + 1) % 8 by omega] at hp
      by_cases h1 : (p + 1) % 8 = 7
      · rw [outsAt0_C m c ⟨p + 1, h⟩ h0 h1]
        dsimp only
        rw [scr_C]
        exact step m c ⟨p + 1, h⟩ _ k n hp
      · rw [outsAt0_B m c ⟨p + 1, h⟩ h0 h1]
        dsimp only
        rw [scr_B]
        exact step m c ⟨p + 1, h⟩ _ k n hp

/-- What the last point of a sum writes out. -/
theorem out_apply (k : Fin 2048) (n : Fin 1024) (p : ℕ) (h : p < cfg0.N) (h1 : p % 8 = 7) :
    (outsAt0 m c p h).1 (ix2 k n) = ∑ t, tm m c (col (p / 8) k) n t := by
  have h0 : ¬p % 8 = 0 := by omega
  have hp := scr_apply m c k n (p - 1) (by omega)
  rw [show (p - 1) / 8 = p / 8 by omega, show (p - 1) % 8 + 1 = p % 8 by omega] at hp
  rw [outsAt0_C m c ⟨p, h⟩ h0 h1]
  dsimp only
  rw [out_C]
  refine (step m c ⟨p, h⟩ _ k n hp).trans ?_
  dsimp only
  rw [h1]
  exact sumTo_all _

/-- The whole result. -/
def G : Buf (Elt Ideal) ((c : Thread nD τ).loc main_v0) := fun i : S4096x1024.Idx => (∑ t, tm m c (i 0) (i 1) t : EReal)

theorem result_eq : Value.G2 (F := Ideal) m c = G m c := by
  funext i
  obtain ⟨⟨k, n⟩, rfl⟩ : ∃ a : Fin 4096 × Fin 1024, i = ix2 a.1 a.2 := ⟨(i 0, i 1), eq_ix2 i⟩
  have hk := k.isLt
  have hn := n.isLt
  have hp : Value.pt2Of (ix2 k n) = 8 * (k.val / 2048) + 7 := by
    show 8 * (1 * (k.val / 2048 - 0) + 1 * (n.val / 1024 - 0)) + 7 = _
    omega
  have hN : cfg0.N = 16 := N_0
  unfold Value.G2
  rw [dif_pos (by rw [hp]; omega)]
  rw [← Value.outsAt0_sweep m c (Value.pt2Of (ix2 k n)) (by rw [hp]; omega)]
  have hl : Value.loc2Of (ix2 k n) = ix2 ⟨k.val % 2048, Nat.mod_lt _ (by decide)⟩ n := by
    funext a; apply Fin.ext
    match a with
    | ⟨0, _⟩ => rfl
    | ⟨1, _⟩ => show n.val % 1024 = n.val; omega
  rw [hl]
  refine (out_apply m c _ n _ _ (by rw [hp]; omega)).trans ?_
  refine congrArg (fun k' => (∑ t, tm m c k' n t : EReal)) (Fin.ext ?_)
  show (2048 * (Value.pt2Of (ix2 k n) / 8) + k.val % 2048) % 4096 = k.val
  rw [hp]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (result_eq m c), (h c).2⟩) (Value.run m ρ)
end
end Cert.DownDwIdeal.Mlp

namespace Cert.DownDwRefIdeal.Mlp
open Cert.DownDwRefIdeal Cert.DownDwRefIdeal.Gen Idealize.ShloMosaic

/-- The reference's result as its operations compose it. -/
def res (u : FVec Ideal S8192x4096 .bf16) (dy : FVec Ideal S8192x1024 .bf16) : FVec Ideal S4096x1024 .bf16 :=
  truncf .bf16 (transpose S4096x1024 [1, 0] (Host.dotGeneral dot_S8192x1024_S8192x4096_S1024x4096_0_0_1_1_n_n none (extf .f32 dy bitsLt_bf16_f32) (mulf (maximumf (extf .f32 u bitsLt_bf16_f32) (broadcastInDim S8192x4096 ![] bcast_S_S8192x4096 (constant S_ .f32 0x00000000#32))) (maximumf (extf .f32 u bitsLt_bf16_f32) (broadcastInDim S8192x4096 ![] bcast_S_S8192x4096 (constant S_ .f32 0x00000000#32))))) transposes_S1024x4096_S4096x1024_1_0) bitsLt_bf16_f32

theorem result_apply (u : FVec Ideal S8192x4096 .bf16) (dy : FVec Ideal S8192x1024 .bf16) (k : Fin 4096) (n : Fin 1024) :
    res u dy (ix2 k n) = ∑ t, Cert.DownDwIdeal.Mlp.term u dy k n t := by
  unfold res
  pointwise
  exact Finset.sum_congr rfl fun t _ => mul_comm _ _
end Cert.DownDwRefIdeal.Mlp

namespace Cert.DownDwIdeal.Mlp
open Idealize.ShloMosaic Idealize.ShloMosaic.TcCoe Idealize.SL.Sem

/-- The kernel's gradient is the reference's. -/
theorem equal : Cert.algebraic_DownDwIdeal_DownDwRefIdeal := by
  intro m g m' g' _ hargs
  refine ⟨fun c => G m c, run m g, ?_⟩
  refine (θ_run _ _ _).mono (fun r h c => ⟨(h c).1.trans ?_, (h c).2⟩) (Cert.DownDwRefIdeal.Value.run (F := Ideal) m' g')
  obtain ⟨a0, a1⟩ := hargs c
  rw [a0, a1]
  funext i
  obtain ⟨⟨k, n⟩, rfl⟩ : ∃ a : Fin 4096 × Fin 1024, i = ix2 a.1 a.2 := ⟨(i 0, i 1), eq_ix2 i⟩
  exact Cert.DownDwRefIdeal.Mlp.result_apply _ _ k n

/-- The kernel before idealization is the same text: the same bodies, the same program. -/
theorem defs_eq : Cert.DownDw.defs (F := Bits) = Cert.DownDwIdeal.defs (F := Bits) := by
  refine congrArg (Pipeline.defs _) ?_
  unfold Cert.DownDw.defs₀ Cert.DownDwIdeal.defs₀
  refine congrArg Defs.onTc (funext fun l => funext fun x => ?_)
  match l, x with
  | 0, (t, s) => rfl

/-- Its run, in machine arithmetic, is this one. -/
theorem frame_kernel : Cert.quiescent_DownDw := by
  intro m ρ _
  have h := Cert.DownDwIdeal.Gen.frame (F := Bits) m ρ
  rw [← defs_eq] at h
  exact h

/-- The reference runs, leaves its arguments unchanged and has no counter. -/
theorem frame_reference : Cert.quiescent_DownDwRefIdeal := fun m ρ _ =>
  (θ_run _ _ _).mono (fun r h => ⟨fun c => (h c).2, Idealize.ShloMosaic.sem_eq_zero_of_no_sems (by decide) r.2⟩)
    (Cert.DownDwRefIdeal.Value.run (F := Ideal) m ρ)
end Cert.DownDwIdeal.Mlp
-- ==== Proof.Mlp.UpDw.lean ====
/-
  The gradient of the MLP's first weights: the kernel adds, block of positions by block of positions, the products of
  the normalised inputs with the hidden values' gradient; that is the derivative of the product by the weights.
-/
module
public import proofs.«01_k».proof.Proof.Mlp.Sum
public import proofs.«01_k».proof.Proof.Gen.UpDw
public import proofs.«01_k».proof.Proof.Gen.UpDwIdeal.Value
public import proofs.«01_k».proof.Proof.Gen.UpDwRefIdeal.Run
public import Idealize.ShloMosaic.Lib.Pointwise
public import Idealize.ShloMosaic.Lib.Quiescent
@[expose] public section
set_option maxRecDepth 16384
noncomputable section
namespace Cert.UpDwIdeal.Mlp
open Cert.UpDwIdeal Cert.UpDwIdeal.Gen Cert.Mlp Idealize.ShloMosaic Idealize.ShloMosaic.TcCoe Idealize.SL.Sem

/-- What position `t` contributes to the gradient of weight `(k, n)`. -/
def term (h : Vec Ideal S8192x1024 .bf16) (du : Vec Ideal S8192x4096 .bf16) (k : Fin 1024) (n : Fin 4096) (t : Fin 8192) : EReal :=
  h (ix2 t k) * du (ix2 t n)

theorem hz : (![0, 0] : Fin 2 → Nat) = fun _ => 0 := funext fun a => by fin_cases a <;> rfl

theorem zero_apply (k : Fin 1024) (n : Fin 2048) : k0_pay1 (F := Ideal) (ix2 k n) = 0 := by
  unfold_payloads
  pointwise

theorem step_apply (a : Vec Ideal S1024x1024 .bf16) (s : Vec Ideal S1024x2048 .f32) (b : Vec Ideal S1024x2048 .bf16) (k : Fin 1024) (n : Fin 2048) :
    k0_pay2 (F := Ideal) a s b (ix2 k n) = s (ix2 k n) + ∑ r : Fin 1024, a (ix2 r k) * b (ix2 r n) := by
  unfold_payloads
  pointwise

section
variable (c : Dev nD) (i : grid0.Coords) (a3 : Memref sig .tc .vmem S1024x1024 .bf16) (h3 : a3.IsWhole) (a4 : Memref sig .tc .vmem S1024x2048 .bf16) (h4 : a4.IsWhole)
  (a5 : Memref sig .tc .vmem S1024x2048 .bf16) (h5 : a5.IsWhole) (a6 : Memref sig .tc .vmem S1024x2048 .f32) (h6 : a6.IsWhole)
  (x0 : Vec Ideal S1024x1024 .bf16) (x1 : Vec Ideal S1024x2048 .bf16) (xs : Vec Ideal S1024x2048 .f32)

/-- The first step of a sum starts it at zero. -/
theorem scr_A (c0 : cond0_0 i) (c1 : ¬cond0_1 i) :
    sout0_A_0 (F := Ideal) c i a3 h3 a4 h4 a5 h5 a6 h6 c0 c1 x0 x1 = k0_pay2 x0 (k0_pay1 (F := Ideal)) x1 := by
  unfold sout0_A_0
  rw [View.read_writes_eq_canon _ _ _ (scover0_A_0 c i a3 h3 a4 h4 a5 h5 a6 h6 c0 c1 x0 x1)]
  unfold kernelRun0_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x1024) hz, View.ld_unit_zero (S := S1024x2048) hz]

/-- A later step adds to it. -/
theorem scr_B (c0 : ¬cond0_0 i) (c1 : ¬cond0_1 i) :
    sout0_B_0 (F := Ideal) c i a3 h3 a4 h4 a5 h5 a6 h6 c0 c1 x0 x1 xs = k0_pay2 x0 xs x1 := by
  unfold sout0_B_0
  rw [View.read_writes_eq_canon _ _ _ (scover0_B_0 c i a3 h3 a4 h4 a5 h5 a6 h6 c0 c1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x2048) hz]

theorem scr_C (c0 : ¬cond0_0 i) (c1 : cond0_1 i) :
    sout0_C_0 (F := Ideal) c i a3 h3 a4 h4 a5 h5 a6 h6 c0 c1 x0 x1 xs = k0_pay2 x0 xs x1 := by
  unfold sout0_C_0
  rw [View.read_writes_eq_canon _ _ _ (scover0_C_0 c i a3 h3 a4 h4 a5 h5 a6 h6 c0 c1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x2048) hz]

/-- The last step of a sum also writes it out. -/
theorem out_C (c0 : ¬cond0_0 i) (c1 : cond0_1 i) :
    out0_C_2 (F := Ideal) c i a3 h3 a4 h4 a5 h5 a6 h6 c0 c1 x0 x1 xs = k0_pay2 x0 xs x1 := by
  unfold out0_C_2
  rw [View.read_writes_eq_canon _ _ _ (cover0_C_2 c i a3 h3 a4 h4 a5 h5 a6 h6 c0 c1 x0 x1 xs)]
  unfold kernelRun0_C
  dsimp only
  sl_unfold_words
  rw [View.canon_unit_zero hz, View.readCov_unit_zero (S := S1024x2048) _ hz]
  simp only [View.readAt_eq_ld, h3.read_unread, h4.read_unread, h6.read_unread, View.ld_unit_zero (S := S1024x1024) hz, View.ld_unit_zero (S := S1024x2048) hz]
  rfl
end

section
variable (m : (ℓ : Loc nD τ sig) → Buf (Elt Ideal) ℓ) (c : Dev nD)

/-- The column of the whole array that column `n` of the `q`-th block of columns is. -/
abbrev col (q : ℕ) (n : Fin 2048) : Fin 4096 := ⟨(2048 * q + n.val) % 4096, Nat.mod_lt _ (by decide)⟩

theorem idx_in : ∀ t : Fin cfg0.N, (win0_0.index t (0 : Fin 2) = t.val % 8 ∧ win0_0.index t (1 : Fin 2) = 0)
    ∧ (win0_1.index t (0 : Fin 2) = t.val % 8 ∧ win0_1.index t (1 : Fin 2) = t.val / 8) :=
  (by decide +kernel : ∀ t : Fin grid0.N, _)

theorem in0 (t : Fin cfg0.N) (r : Fin 1024) (k : Fin 1024) :
    (iblk m c 0 t : Vec Ideal S1024x1024 .bf16) (ix2 r k) = (m ((c : Thread nD τ).loc main_arg0) : Vec Ideal S8192x1024 .bf16) (ix2 (row (t.val % 8) r) k) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 1024 + 1 * r.val = (1024 * (t.val % 8) + r.val) % 8192; rw [e0]; omega
  | ⟨1, _⟩ => show win0_0.index t (1 : Fin 2) * 1024 + 1 * k.val = k.val; rw [e1]; omega

theorem in1 (t : Fin cfg0.N) (r : Fin 1024) (n : Fin 2048) :
    (iblk m c 1 t : Vec Ideal S1024x2048 .bf16) (ix2 r n) = (m ((c : Thread nD τ).loc main_arg1) : Vec Ideal S8192x4096 .bf16) (ix2 (row (t.val % 8) r) (col (t.val / 8) n)) := by
  have hN := lt_of_lt_of_eq t.isLt N_0
  obtain ⟨e0, e1⟩ := (idx_in t).2
  refine congrArg (m ((c : Thread nD τ).loc main_arg1) : Vec Ideal S8192x4096 .bf16) (funext fun a => Fin.ext ?_)
  match a with
  | ⟨0, _⟩ => show win0_1.index t (0 : Fin 2) * 1024 + 1 * r.val = (1024 * (t.val % 8) + r.val) % 8192; rw [e0]; omega
  | ⟨1, _⟩ => show win0_1.index t (1 : Fin 2) * 2048 + 1 * n.val = (2048 * (t.val / 8) + n.val) % 4096; rw [e1]; omega

/-- What the positions contribute. -/
abbrev tm (k : Fin 1024) (n : Fin 4096) : Fin 8192 → EReal :=
  term (m ((c : Thread nD τ).loc main_arg0)) (m ((c : Thread nD τ).loc main_arg1)) k n

/-- A step over what the steps before left. -/
theorem step (t : Fin cfg0.N) (xs : Vec Ideal S1024x2048 .f32) (k : Fin 1024) (n : Fin 2048)
    (h : xs (ix2 k n) = sumTo (tm m c k (col (t.val / 8) n)) (1024 * (t.val % 8))) :
    k0_pay2 (F := Ideal) (iblk m c 0 t) xs (iblk m c 1 t) (ix2 k n) = sumTo (tm m c k (col (t.val / 8) n)) (1024 * (t.val % 8 + 1)) := by
  refine (step_apply _ _ _ k n).trans ?_
  simp only [in0, in1]
  rw [h]
  exact sumTo_block _ _ (Nat.mod_lt _ (by decide))

/-- What the scratch holds after a point: the sum over the positions met since it was started. -/
theorem scr_apply (k : Fin 1024) (n : Fin 2048) : ∀ (p : ℕ) (h : p < cfg0.N),
    (outsAt0 m c p h).2 (ix2 k n) = sumTo (tm m c k (col (p / 8) n)) (1024 * (p % 8 + 1))
  | 0, h => by
    rw [outsAt0_A m c ⟨0, h⟩ rfl (by dsimp only; omega)]
    dsimp only
    rw [scr_A]
    exact step m c ⟨0, h⟩ _ k n ((zero_apply k n).trans (sumTo_zero _).symm)
  | p + 1, h => by
    by_cases h0 : (p + 1) % 8 = 0
    · rw [outsAt0_A m c ⟨p + 1, h⟩ h0 (by dsimp only; omega)]
      dsimp only
      rw [scr_A]
      refine step m c ⟨p + 1, h⟩ _ k n ((zero_apply k n).trans ?_)
      dsimp only
      rw [h0]
      exact (sumTo_zero _).symm
    · have hp := scr_apply k n p (Nat.lt_of_succ_lt h)
      rw [show p / 8 = (p + 1) / 8 by omega, show p % 8 + 1 = (p + 1) % 8 by omega] at hp
      by_cases h1 : (p + 1) % 8 = 7
      · rw [outsAt0_C m c ⟨p + 1, h⟩ h0 h1]
        dsimp only
        rw [scr_C]
        exact step m c ⟨p + 1, h⟩ _ k n hp
      · rw [outsAt0_B m c ⟨p + 1, h⟩ h0 h1]
        dsimp only
        rw [scr_B]
        exact step m c ⟨p + 1, h⟩ _ k n hp

/-- What the last point of a sum writes out. -/
theorem out_apply (k : Fin 1024) (n : Fin 2048) (p : ℕ) (h : p < cfg0.N) (h1 : p % 8 = 7) :
    (outsAt0 m c p h).1 (ix2 k n) = ∑ t, tm m c k (col (p / 8) n) t := by
  have h0 : ¬p % 8 = 0 := by omega
  have hp := scr_apply m c k n (p - 1) (by omega)
  rw [show (p - 1) / 8 = p / 8 by omega, show (p - 1) % 8 + 1 = p % 8 by omega] at hp
  rw [outsAt0_C m c ⟨p, h⟩ h0 h1]
  dsimp only
  rw [out_C]
  refine (step m c ⟨p, h⟩ _ k n hp).trans ?_
  dsimp only
  rw [h1]
  exact sumTo_all _

/-- The whole result. -/
def G : Buf (Elt Ideal) ((c : Thread nD τ).loc main_v0) := fun i : S1024x4096.Idx => (∑ t, tm m c (i 0) (i 1) t : EReal)

theorem result_eq : Value.G2 (F := Ideal) m c = G m c := by
  funext i
  obtain ⟨⟨k, n⟩, rfl⟩ : ∃ a : Fin 1024 × Fin 4096, i = ix2 a.1 a.2 := ⟨(i 0, i 1), eq_ix2 i⟩
  have hk := k.isLt
  have hn := n.isLt
  have hp : Value.pt2Of (ix2 k n) = 8 * (n.val / 2048) + 7 := by
    show 8 * (2 * (k.val / 1024 - 0) + 1 * (n.val / 2048 - 0)) + 7 = _
    omega
  have hN : cfg0.N = 16 := N_0
  unfold Value.G2
  rw [dif_pos (by rw [hp]; omega)]
  rw [← Value.outsAt0_sweep m c (Value.pt2Of (ix2 k n)) (by rw [hp]; omega)]
  have hl : Value.loc2Of (ix2 k n) = ix2 k ⟨n.val % 2048, Nat.mod_lt _ (by decide)⟩ := by
    funext a; apply Fin.ext
    match a with
    | ⟨0, _⟩ => show k.val % 1024 = k.val; omega
    | ⟨1, _⟩ => rfl
  rw [hl]
  refine (out_apply m c k _ _ _ (by rw [hp]; omega)).trans ?_
  refine congrArg (fun n' => (∑ t, tm m c k n' t : EReal)) (Fin.ext ?_)
  show (2048 * (Value.pt2Of (ix2 k n) / 8) + n.val % 2048) % 4096 = n.val
  rw [hp]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (result_eq m c), (h c).2⟩) (Value.run m ρ)
end
end Cert.UpDwIdeal.Mlp

namespace Cert.UpDwRefIdeal.Mlp
open Cert.UpDwRefIdeal Cert.UpDwRefIdeal.Gen Idealize.ShloMosaic

/-- The reference's result as its operations compose it. -/
def res (h : FVec Ideal S8192x1024 .bf16) (du : FVec Ideal S8192x4096 .bf16) : FVec Ideal S1024x4096 .bf16 :=
  truncf .bf16 (transpose S1024x4096 [1, 0] (Host.dotGeneral dot_S8192x4096_S8192x1024_S4096x1024_0_0_1_1_n_n none (extf .f32 du bitsLt_bf16_f32) (extf .f32 h bitsLt_bf16_f32)) transposes_S4096x1024_S1024x4096_1_0) bitsLt_bf16_f32

theorem result_apply (h : FVec Ideal S8192x1024 .bf16) (du : FVec Ideal S8192x4096 .bf16) (k : Fin 1024) (n : Fin 4096) :
    res h du (ix2 k n) = ∑ t, Cert.UpDwIdeal.Mlp.term h du k n t := by
  unfold res
  pointwise
  exact Finset.sum_congr rfl fun t _ => mul_comm _ _
end Cert.UpDwRefIdeal.Mlp

namespace Cert.UpDwIdeal.Mlp
open Idealize.ShloMosaic Idealize.ShloMosaic.TcCoe Idealize.SL.Sem

/-- The kernel's gradient is the reference's. -/
theorem equal : Cert.algebraic_UpDwIdeal_UpDwRefIdeal := by
  intro m g m' g' _ hargs
  refine ⟨fun c => G m c, run m g, ?_⟩
  refine (θ_run _ _ _).mono (fun r h c => ⟨(h c).1.trans ?_, (h c).2⟩) (Cert.UpDwRefIdeal.Value.run (F := Ideal) m' g')
  obtain ⟨a0, a1⟩ := hargs c
  rw [a0, a1]
  funext i
  obtain ⟨⟨k, n⟩, rfl⟩ : ∃ a : Fin 1024 × Fin 4096, i = ix2 a.1 a.2 := ⟨(i 0, i 1), eq_ix2 i⟩
  exact Cert.UpDwRefIdeal.Mlp.result_apply _ _ k n

/-- The kernel before idealization is the same text: the same bodies, the same program. -/
theorem defs_eq : Cert.UpDw.defs (F := Bits) = Cert.UpDwIdeal.defs (F := Bits) := by
  refine congrArg (Pipeline.defs _) ?_
  unfold Cert.UpDw.defs₀ Cert.UpDwIdeal.defs₀
  refine congrArg Defs.onTc (funext fun l => funext fun x => ?_)
  match l, x with
  | 0, (t, s) => rfl

/-- Its run, in machine arithmetic, is this one. -/
theorem frame_kernel : Cert.quiescent_UpDw := by
  intro m ρ _
  have h := Cert.UpDwIdeal.Gen.frame (F := Bits) m ρ
  rw [← defs_eq] at h
  exact h

/-- The reference runs, leaves its arguments unchanged and has no counter. -/
theorem frame_reference : Cert.quiescent_UpDwRefIdeal := fun m ρ _ =>
  (θ_run _ _ _).mono (fun r h => ⟨fun c => (h c).2, Idealize.ShloMosaic.sem_eq_zero_of_no_sems (by decide) r.2⟩)
    (Cert.UpDwRefIdeal.Value.run (F := Ideal) m ρ)
end Cert.UpDwIdeal.Mlp
-- ==== Proof.Mlp.Norm.lean ====
/-
  The derivative of the root-mean-square norm, over the extended reals, where every entry is a real number: what comes
  back to an entry through the reciprocal root of the mean of squares is the entry's normalized value times the mean of
  the products of the normalized values with their gradients.
-/
module
public import proofs.«01_k».proof.Defs
public import Idealize.ShloMosaic.Lib.IdealHost
@[expose] public section
noncomputable section
namespace Cert.Mlp
open Idealize.ShloMosaic

/-- The printed number of columns. -/
theorem cols : Ideal.ofBits .f32 0x44800000#32 = ((1024 : ℝ) : EReal) := by
  simp [Ideal.ofBits, Ideal.ieee, -EReal.coe_mul]; norm_num

/-- The printed minus one half. -/
theorem minus_half : Ideal.ofBits .f32 0xBF000000#32 = ((-(1 / 2) : ℝ) : EReal) := by
  simp [Ideal.ofBits, Ideal.ieee, -EReal.coe_mul]; norm_num

/-- What is added to the mean of squares is a positive number. -/
theorem eps_pos : ∃ e : ℝ, 0 < e ∧ Ideal.ofBits .f32 0x358637BD#32 = (e : EReal) := by
  refine ⟨8796093 / 8796093022208, by norm_num, ?_⟩
  simp [Ideal.ofBits, Ideal.ieee, -EReal.coe_mul]; norm_num

theorem sum_real {ι : Type} [Fintype ι] (f : ι → ℝ) : (∑ i, (f i : EReal)) = ((∑ i, f i : ℝ) : EReal) :=
  (map_sum (⟨⟨fun r : ℝ => (r : EReal), rfl⟩, EReal.coe_add⟩ : ℝ →+ EReal) f Finset.univ).symm

/-- A sum of products of real numbers is one. -/
theorem product_real {ι : Type} [Fintype ι] (a b : ι → EReal) (ha : ∀ k, ∃ r : ℝ, a k = r) (hb : ∀ k, ∃ r : ℝ, b k = r) : ∃ r : ℝ, ∑ k, a k * b k = r := by
  choose a' ha using ha
  choose b' hb using hb
  simp only [ha, hb, ← EReal.coe_mul]
  exact ⟨_, sum_real _⟩

theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A row's mean of squares and what is added to it. -/
def meanSq (x : Fin 1024 → EReal) : EReal :=
  Ideal.div (∑ k, x k * x k) (Ideal.ofBits .f32 0x44800000#32) + Ideal.ofBits .f32 0x358637BD#32

/-- Its reciprocal root. -/
def invRms (x : Fin 1024 → EReal) : EReal := Ideal.rsqrt (meanSq x)

/-- A row's gradient at an entry, of the gradients `h` of the normalized and scaled row: by the normalized row's mean
    of products with its gradients. -/
def normGrad (x h g : Fin 1024 → EReal) (d : Fin 1024) : EReal :=
  invRms x * (h d * g d - x d * invRms x * Ideal.div (∑ k, h k * g k * (x k * invRms x)) (Ideal.ofBits .f32 0x44800000#32))

/-- What comes back to each square of the row. -/
def sqGrad (x h g : Fin 1024 → EReal) : EReal :=
  Ideal.div ((∑ k, x k * (h k * g k)) * (Ideal.ofBits .f32 0xBF000000#32 * Ideal.div (invRms x) (meanSq x))) (Ideal.ofBits .f32 0x44800000#32)

/-- The mean of squares is a positive real number, and so is its reciprocal root, whose square is the reciprocal. -/
theorem root_real (x : Fin 1024 → ℝ) : ∃ v ρ : ℝ, 0 < v ∧ ρ * ρ * v = 1 ∧ meanSq (fun k => (x k : EReal)) = v ∧ invRms (fun k => (x k : EReal)) = ρ := by
  obtain ⟨e, he, h⟩ := eps_pos
  have hs : 0 ≤ (∑ k, x k * x k) / 1024 := div_nonneg (Finset.sum_nonneg fun k _ => mul_self_nonneg _) (by norm_num)
  have hv : 0 < (∑ k, x k * x k) / 1024 + e := by linarith
  have hm : meanSq (fun k => (x k : EReal)) = (((∑ k, x k * x k) / 1024 + e : ℝ) : EReal) := by
    unfold meanSq
    rw [cols, h]
    simp only [← EReal.coe_mul]
    rw [sum_real, div_real _ _ (by norm_num), ← EReal.coe_add]
  refine ⟨_, (Real.sqrt ((∑ k, x k * x k) / 1024 + e))⁻¹, hv, ?_, hm, ?_⟩
  · rw [← mul_inv, Real.mul_self_sqrt hv.le, inv_mul_cancel₀ hv.ne']
  · unfold invRms
    rw [hm]
    exact (if_neg hv.le.not_gt).trans (if_neg hv.ne')

/-- The derivative's two ways of writing are one number. -/
theorem norm_derivative (x h g : Fin 1024 → EReal) (hx : ∀ k, ∃ r : ℝ, x k = r) (hh : ∀ k, ∃ r : ℝ, h k = r) (hg : ∀ k, ∃ r : ℝ, g k = r) (d : Fin 1024) :
    h d * g d * invRms x + x d * sqGrad x h g + sqGrad x h g * x d = normGrad x h g d := by
  choose x' hx using hx
  choose h' hh using hh
  choose g' hg using hg
  obtain rfl : x = fun k => (x' k : EReal) := funext hx
  obtain rfl : h = fun k => (h' k : EReal) := funext hh
  obtain rfl : g = fun k => (g' k : EReal) := funext hg
  obtain ⟨v, ρ, hv, hρ, e1, e2⟩ := root_real x'
  unfold normGrad sqGrad
  rw [cols, minus_half, e1, e2]
  simp only [← EReal.coe_mul]
  rw [sum_real, sum_real, div_real _ _ hv.ne', div_real _ _ (by norm_num), ← EReal.coe_mul, ← EReal.coe_mul, div_real _ _ (by norm_num)]
  simp only [← EReal.coe_mul, ← EReal.coe_add, ← EReal.coe_sub]
  refine congrArg _ ?_
  have hs : (∑ k, h' k * g' k * (x' k * ρ)) = (∑ k, x' k * (h' k * g' k)) * ρ := by
    rw [Finset.sum_mul]
    exact Finset.sum_congr rfl fun k _ => by ring
  have hd : ρ / v = ρ * (ρ * ρ) := by
    rw [div_eq_iff hv.ne']; linear_combination -ρ * hρ
  rw [hs, hd]
  ring

/-- The 8192 positions, 8 at a time: the sums over those that leave each remainder, added up. -/
theorem sum_by_eight (f : Fin 8192 → EReal) :
    (∑ r : Fin 8, ∑ j : Fin 1024, f ⟨8 * j.val + r.val, by have := j.isLt; have := r.isLt; omega⟩) = ∑ i, f i := by
  rw [Finset.sum_comm, ← Fintype.sum_prod_type']
  refine (Equiv.sum_comp (finProdFinEquiv (m := 1024) (n := 8)) (fun i : Fin 8192 => f i)).symm.trans ?_ |>.symm
  refine Finset.sum_congr rfl fun p _ => congrArg f (Fin.ext ?_)
  show p.2.val + 8 * p.1.val = 8 * p.1.val + p.2.val
  omega

end Cert.Mlp
-- ==== Proof.Mlp.UpDx.lean ====
/-
  The gradient that leaves the MLP: the kernel takes the gradient of the hidden values back through the first weights and
  through the norm, adds the gradient of the residual, and sums, eight rows at a time, the gradient of the gain; that is
  the derivative of "norm, then multiply by the weights".
-/
module
public import proofs.«01_k».proof.Proof.Finite
public import proofs.«01_k».proof.Proof.Mlp.Norm
public import proofs.«01_k».proof.Proof.Gen.UpDx
public import proofs.«01_k».proof.Proof.Gen.UpDxIdeal.Frame
public import proofs.«01_k».proof.Proof.Gen.UpDxRefIdeal.Run
public import Idealize.ShloMosaic.Lib.Pointwise
public import Idealize.ShloMosaic.Lib.Quiescent
@[expose] public section
set_option maxRecDepth 16384
noncomputable section
namespace Cert.UpDxIdeal.Mlp
open Cert.UpDxIdeal Cert.UpDxIdeal.Gen Cert.Mlp Idealize.ShloMosaic Idealize.ShloMosaic.TcCoe Idealize.SL.Sem

/-- The gradient of the normalized row at entry `d` of position `i`. -/
def back (u : Vec Ideal S8192x4096 .bf16) (w : Vec Ideal S2x1024x4096 .bf16) (i : Fin 8192) (d : Fin 1024) : EReal :=
  ∑ f : Fin 4096, u (ix2 i f) * w (ix3 1 d f)

/-- The gradient that leaves the block. -/
def dx (u : Vec Ideal S8192x4096 .bf16) (w : Vec Ideal S2x1024x4096 .bf16) (x : Vec Ideal S8192x1024 .f32) (g : Vec Ideal S1x1024 .f32) (y : Vec Ideal S8192x1024 .f32)
    (i : Fin 8192) (d : Fin 1024) : EReal :=
  y (ix2 i d) + normGrad (fun k => x (ix2 i k)) (back u w i) (fun k => g (ix2 0 k)) d

/-- What position `i` contributes to the gradient of the gain at entry `d`. -/
def dgTerm (u : Vec Ideal S8192x4096 .bf16) (w : Vec Ideal S2x1024x4096 .bf16) (x : Vec Ideal S8192x1024 .f32) (d : Fin 1024) (i : Fin 8192) : EReal :=
  back u w i d * (x (ix2 i d) * invRms fun k => x (ix2 i k))

theorem hz : (![0, 0] : Fin 2 → Nat) = fun _ => 0 := funext fun a => by fin_cases a <;> rfl
theorem hz3 : (![0, 0, 0] : Fin 3 → Nat) = fun _ => 0 := funext fun a => by fin_cases a <;> rfl

/-! What the body computes, at an index. -/

theorem zero_apply (r : Fin 8) (d : Fin 1024) : k0_pay1 (F := Ideal) (ix2 r d) = 0 := by
  unfold_payloads
  pointwise

theorem gain_apply (v x : FVec Ideal S512x1024 .f32) (s : Vec Ideal S8x1024 .f32) (r : Fin 8) (d : Fin 1024) :
    k0_pay2 (F := Ideal) v x s (ix2 r d) = s (ix2 r d) + ∑ j : Fin 64, v (ix2 ⟨j.val * 8 + r.val, by have := j.isLt; have := r.isLt; omega⟩ d) * x (ix2 ⟨j.val * 8 + r.val, by have := j.isLt; have := r.isLt; omega⟩ d) := by
  unfold_payloads
  pointwise

theorem back_apply (a : Vec Ideal S512x4096 .bf16) (w : Vec Ideal S1x1024x4096 .bf16) (r : Fin 512) (d : Fin 1024) :
    k0_pay3 (F := Ideal) a w (ix2 r d) = ∑ f : Fin 4096, a (ix2 r f) * w (ix3 0 d f) := by
  unfold_payloads
  pointwise

theorem root_apply (x : Vec Ideal S512x1024 .f32) (r : Fin 512) : k0_pay4 (F := Ideal) x (ix2 r 0) = invRms fun k => x (ix2 r k) := by
  unfold_payloads
  pointwise
  rfl

theorem unit_apply (x : Vec Ideal S512x1024 .f32) (r : Fin 512) (d : Fin 1024) :
    k0_pay5 (F := Ideal) x (ix2 r d) = x (ix2 r d) * invRms fun k => x (ix2 r k) := by
  unfold k0_pay5
  pointwise
  rw [root_apply]

theorem dx_apply (a : Vec Ideal S512x4096 .bf16) (w : Vec Ideal S1x1024x4096 .bf16) (x : Vec Ideal S512x1024 .f32) (g : Vec Ideal S1x1024 .f32) (y : Vec Ideal S512x1024 .f32) (r : Fin 512) (d : Fin 1024) :
    k0_pay6 (F := Ideal) a w x g y (ix2 r d) = y (ix2 r d) + normGrad (fun k => x (ix2 r k)) (fun k => ∑ f : Fin 4096, a (ix2 r f) * w (ix3 0 k f)) (fun k => g (ix2 0 k)) d := by
  unfold k0_pay6
  pointwise
  simp only [root_apply, unit_apply, back_apply]
  rfl

section
variable (c : Dev nD) (i : grid0.Coords) (a1 : Memref sig .tc .vmem S512x4096 .bf16) (h1 : a1.IsWhole) (a2 : Memref sig .tc .vmem S1x1024x4096 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole) (a8 : Memref sig .tc .vmem S8x1024 .f32) (h8 : a8.IsWhole)
  (x0 : Vec Ideal S512x4096 .bf16) (x1 : Vec Ideal S1x1024x4096 .bf16) (x2 : Vec Ideal S512x1024 .f32) (x3 : Vec Ideal S1x1024 .f32) (x4 : Vec Ideal S512x1024 .f32) (xo : Vec Ideal S8x1024 .f32)

theorem dx_A (c0 : cond0_0 i) : out0_A_5 (F := Ideal) c i a1 h1 a2 h2 a3 h3 a4 h4 a5 h5 a6 h6 a7 h7 a8 h8 c0 x0 x1 x2 x3 x4 = k0_pay6 x0 x1 x2 x3 x4 := by
  unfold out0_A_5
  rw [View.read_writes_eq_canon _ _ _ (cover0_A_5 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

theorem dx16_A (c0 : cond0_0 i) : out0_A_6 (F := Ideal) c i a1 h1 a2 h2 a3 h3 a4 h4 a5 h5 a6 h6 a7 h7 a8 h8 c0 x0 x1 x2 x3 x4 = k0_pay7 x0 x1 x2 x3 x4 := by
  unfold out0_A_6
  rw [View.read_writes_eq_canon _ _ _ (cover0_A_6 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

/-- The first point starts the sum at zero. -/
theorem dg_A (c0 : cond0_0 i) : out0_A_7 (F := Ideal) c i a1 h1 a2 h2 a3 h3 a4 h4 a5 h5 a6 h6 a7 h7 a8 h8 c0 x0 x1 x2 x3 x4 = k0_pay2 (k0_pay3 x0 x1) (k0_pay5 x2) (k0_pay1 (F := Ideal)) := by
  unfold out0_A_7
  rw [View.read_writes_eq_canon _ _ _ (cover0_A_7 c i a1 h1 a2 h2 a3 h3 a4 h4 a5 h5 a6 h6 a7 h7 a8 h8 c0 x0 x1 x2 x3 x4)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, View.ld_unit_zero (S := S512x4096) hz, View.ld_unit_zero (S := S1x1024x4096) hz3, View.ld_unit_zero (S := S512x1024) hz]

theorem dx_B (c0 : ¬cond0_0 i) : out0_B_5 (F := Ideal) c i a1 h1 a2 h2 a3 h3 a4 h4 a5 h5 a6 h6 a7 h7 a8 h8 c0 x0 x1 x2 x3 x4 xo = k0_pay6 x0 x1 x2 x3 x4 := by
  unfold out0_B_5
  rw [View.read_writes_eq_canon _ _ _ (cover0_B_5 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

theorem dx16_B (c0 : ¬cond0_0 i) : out0_B_6 (F := Ideal) c i a1 h1 a2 h2 a3 h3 a4 h4 a5 h5 a6 h6 a7 h7 a8 h8 c0 x0 x1 x2 x3 x4 xo = k0_pay7 x0 x1 x2 x3 x4 := by
  unfold out0_B_6
  rw [View.read_writes_eq_canon _ _ _ (cover0_B_6 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

/-- A later point adds to what the point before left. -/
theorem dg_B (c0 : ¬cond0_0 i) : out0_B_7 (F := Ideal) c i a1 h1 a2 h2 a3 h3 a4 h4 a5 h5 a6 h6 a7 h7 a8 h8 c0 x0 x1 x2 x3 x4 xo = k0_pay2 (k0_pay3 x0 x1) (k0_pay5 x2) xo := by
  unfold out0_B_7
  rw [View.read_writes_eq_canon _ _ _ (cover0_B_7 c i a1 h1 a2 h2 a3 h3 a4 h4 a5 h5 a6 h6 a7 h7 a8 h8 c0 x0 x1 x2 x3 x4 xo)]
  unfold kernelRun0_B
  dsimp only
  sl_unfold_words
  rw [View.canon_unit_zero hz]
  simp only [View.readAt_eq_ld, h1.read_unread, h2.read_unread, h3.read_unread, h8.read_unread, View.ld_unit_zero (S := S512x4096) hz, View.ld_unit_zero (S := S1x1024x4096) hz3, View.ld_unit_zero (S := S512x1024) hz, View.ld_unit_zero (S := S8x1024) hz]
end

section
variable (m : (ℓ : Loc nD τ sig) → Buf (Elt Ideal) ℓ) (c : Dev nD)

/-- The row of the whole array that row `r` of point `n`'s block is. -/
abbrev at_ (n : ℕ) (r : Fin 512) : Fin 8192 := ⟨(512 * n + r.val) % 8192, Nat.mod_lt _ (by decide)⟩

abbrev U : Vec Ideal S8192x4096 .bf16 := m ((c : Thread nD τ).loc main_arg0)
abbrev W : Vec Ideal S2x1024x4096 .bf16 := m ((c : Thread nD τ).loc main_arg1)
abbrev X : Vec Ideal S8192x1024 .f32 := m ((c : Thread nD τ).loc main_arg2)
abbrev G : Vec Ideal S1x1024 .f32 := m ((c : Thread nD τ).loc main_arg3)
abbrev Y : Vec Ideal S8192x1024 .f32 := m ((c : Thread nD τ).loc main_arg4)

theorem idx_in : ∀ t : Fin cfg0.N, (win0_0.index t (0 : Fin 2) = t.val ∧ win0_0.index t (1 : Fin 2) = 0)
    ∧ (win0_1.index t (0 : Fin 3) = 1 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

theorem in0 (t : Fin cfg0.N) (r : Fin 512) (f : Fin 4096) : (iblk m c 0 t : Vec Ideal S512x4096 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 4096 + 1 * f.val = f.val; rw [e1]; omega

theorem in1 (t : Fin cfg0.N) (d : Fin 1024) (f : Fin 4096) : (iblk m c 1 t : Vec Ideal S1x1024x4096 .bf16) (ix3 0 d f) = W m c (ix3 1 d f) := by
  obtain ⟨e0, e1, e2⟩ := (idx_in t).2.1
  refine congrArg (W m c) (funext fun a => Fin.ext ?_)
  match a with
  | ⟨0, _⟩ => show win0_1.index t (0 : Fin 3) * 1 + 1 * 0 = 1; rw [e0]
  | ⟨1, _⟩ => show win0_1.index t (1 : Fin 3) * 1024 + 1 * d.val = d.val; rw [e1]; omega
  | ⟨2, _⟩ => show win0_1.index t (2 : Fin 3) * 4096 + 1 * f.val = f.val; rw [e2]; omega

theorem in2 (t : Fin cfg0.N) (r : Fin 512) (d : Fin 1024) : (iblk m c 2 t : Vec Ideal S512x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 1024 + 1 * d.val = d.val; rw [e1]; omega

theorem in3 (t : Fin cfg0.N) (d : Fin 1024) : (iblk m c 3 t : Vec Ideal S1x1024 .f32) (ix2 0 d) = G m c (ix2 0 d) := by
  obtain ⟨e0, e1⟩ := (idx_in t).2.2.2.1
  refine congrArg (G m c) (funext fun a => Fin.ext ?_)
  match a with
  | ⟨0, _⟩ => show win0_3.index t (0 : Fin 2) * 1 + 1 * 0 = 0; rw [e0]
  | ⟨1, _⟩ => show win0_3.index t (1 : Fin 2) * 1024 + 1 * d.val = d.val; rw [e1]; omega

theorem in4 (t : Fin cfg0.N) (r : Fin 512) (d : Fin 1024) : (iblk m c 4 t : Vec Ideal S512x1024 .f32) (ix2 r d) = Y m c (ix2 (at_ t.val r) d) := by
  have hN := lt_of_lt_of_eq t.isLt N_0
  obtain ⟨e0, e1⟩ := (idx_in t).2.2.2.2.1
  refine congrArg (Y m c) (funext fun a => Fin.ext ?_)
  match a with
  | ⟨0, _⟩ => show win0_4.index t (0 : Fin 2) * 512 + 1 * r.val = (512 * t.val + r.val) % 8192; rw [e0]; omega
  | ⟨1, _⟩ => show win0_4.index t (1 : Fin 2) * 1024 + 1 * d.val = d.val; rw [e1]; omega

/-- The whole first result. -/
def D : Buf (Elt Ideal) ((c : Thread nD τ).loc main_v0_0) := fun i : S8192x1024.Idx => dx (U m c) (W m c) (X m c) (G m c) (Y m c) (i 0) (i 1)
/-- The second, which differs in its format only. -/
def D16 : Buf (Elt Ideal) ((c : Thread nD τ).loc main_v0_1) := fun i : S8192x1024.Idx => dx (U m c) (W m c) (X m c) (G m c) (Y m c) (i 0) (i 1)

/-- What a point stores. -/
theorem point_apply (t : Fin cfg0.N) (r : Fin 512) (d : Fin 1024) :
    k0_pay6 (F := Ideal) (iblk m c 0 t) (iblk m c 1 t) (iblk m c 2 t) (iblk m c 3 t) (iblk m c 4 t) (ix2 r d) = dx (U m c) (W m c) (X m c) (G m c) (Y m c) (at_ t.val r) d := by
  refine (dx_apply _ _ _ _ _ r d).trans ?_
  simp only [in0, in1, in2, in3, in4]
  rfl

theorem left_dx (t : Fin cfg0.N) : (outsAt0 m c t.val t.isLt).1 = k0_pay6 (F := Ideal) (iblk m c 0 t) (iblk m c 1 t) (iblk m c 2 t) (iblk m c 3 t) (iblk m c 4 t) := by
  by_cases h : t.val % 16 = 0
  · rw [outsAt0_A m c t h]; dsimp only; rw [dx_A]
  · rw [outsAt0_B m c t h]; dsimp only; rw [dx_B]

theorem left_dx16 (t : Fin cfg0.N) : (outsAt0 m c t.val t.isLt).2.1 = k0_pay7 (F := Ideal) (iblk m c 0 t) (iblk m c 1 t) (iblk m c 2 t) (iblk m c 3 t) (iblk m c 4 t) := by
  by_cases h : t.val % 16 = 0
  · rw [outsAt0_A m c t h]; dsimp only; rw [dx16_A]
  · rw [outsAt0_B m c t h]; dsimp only; rw [dx16_B]

theorem flushed_dx (t : Fin cfg0.N) : (dats m 0 c).flushed 5 t = ((cfg0.win 5).blk t).view.read (Elt Ideal) (D m c) := by
  show (cfg0.win 5).cut (grid0.coords t) ((dats m 0 c).after 5 t) = _
  rw [after0_5, left_dx]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.1
  refine congrArg (D m c) (a₁ := ix2 (at_ t.val r) d) (funext fun a => Fin.ext ?_)
  match a with
  | ⟨0, _⟩ => show (512 * t.val + r.val) % 8192 = win0_5.index t (0 : Fin 2) * 512 + 1 * r.val; rw [e0]; omega
  | ⟨1, _⟩ => show d.val = win0_5.index t (1 : Fin 2) * 1024 + 1 * d.val; rw [e1]; omega

theorem flushed_dx16 (t : Fin cfg0.N) : (dats m 0 c).flushed 6 t = ((cfg0.win 6).blk t).view.read (Elt Ideal) (D16 m c) := by
  show (cfg0.win 6).cut (grid0.coords t) ((dats m 0 c).after 6 t) = _
  rw [after0_6, left_dx16]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.2.1
  refine congrArg (D16 m c) (a₁ := ix2 (at_ t.val r) d) (funext fun a => Fin.ext ?_)
  match a with
  | ⟨0, _⟩ => show (512 * t.val + r.val) % 8192 = win0_6.index t (0 : Fin 2) * 512 + 1 * r.val; rw [e0]; omega
  | ⟨1, _⟩ => show d.val = win0_6.index t (1 : Fin 2) * 1024 + 1 * d.val; rw [e1]; omega

theorem final_dx : (dats m 0 c).arrAt 5 cfg0.N = D m c :=
  (dats m 0 c).arrAt_eq_of_cover 5 (D m c) (fun t _ => flushed_dx m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; rw [e0]; show (i 0).val / 512 * 512 ≤ _ ∧ _ < (i 0).val / 512 * 512 + 512; omega
    | ⟨1, _⟩ => show win0_5.index t (1 : Fin 2) * 1024 ≤ (i 1).val ∧ (i 1).val < win0_5.index t (1 : Fin 2) * 1024 + 1024; rw [e1]; omega

theorem final_dx16 : (dats m 0 c).arrAt 6 cfg0.N = D16 m c :=
  (dats m 0 c).arrAt_eq_of_cover 6 (D16 m c) (fun t _ => flushed_dx16 m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.2.1
    refine ⟨t, flush0_6 t, ?_⟩
    show i ∈ ((View.whole main_v0_1).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0]; show (i 0).val / 512 * 512 ≤ _ ∧ _ < (i 0).val / 512 * 512 + 512; omega
    | ⟨1, _⟩ => show win0_6.index t (1 : Fin 2) * 1024 ≤ (i 1).val ∧ (i 1).val < win0_6.index t (1 : Fin 2) * 1024 + 1024; rw [e1]; omega

/-! The gradient of the gain. -/

/-- What the `j`-th of the positions that leave remainder `r` contributes. -/
abbrev tm (r : Fin 8) (d : Fin 1024) (j : ℕ) : EReal := dgTerm (U m c) (W m c) (X m c) d ⟨(8 * j + r.val) % 8192, Nat.mod_lt _ (by decide)⟩

/-- A point over what the points before left. -/
theorem step (t : Fin cfg0.N) (s : Vec Ideal S8x1024 .f32) (r : Fin 8) (d : Fin 1024) (h : s (ix2 r d) = ∑ j ∈ Finset.range (64 * t.val), tm m c r d j) :
    k0_pay2 (F := Ideal) (k0_pay3 (iblk m c 0 t) (iblk m c 1 t)) (k0_pay5 (iblk m c 2 t)) s (ix2 r d) = ∑ j ∈ Finset.range (64 * (t.val + 1)), tm m c r d j := by
  refine (gain_apply _ _ _ r d).trans ?_
  rw [h, Nat.mul_add, Nat.mul_one, Finset.sum_range_add, Finset.sum_range (n := 64)]
  refine congrArg _ (Finset.sum_congr rfl fun j _ => ?_)
  rw [back_apply, unit_apply]
  simp only [in0, in1, in2]
  have e : at_ t.val ⟨j.val * 8 + r.val, by have := j.isLt; have := r.isLt; omega⟩ = ⟨(8 * (64 * t.val + j.val) + r.val) % 8192, Nat.mod_lt _ (by decide)⟩ := Fin.ext (by show (512 * t.val + (j.val * 8 + r.val)) % 8192 = _; dsimp only; congr 1; omega)
  rw [e]
  rfl

/-- What the sum's block holds after a point. -/
theorem left_dg (r : Fin 8) (d : Fin 1024) : ∀ (p : ℕ) (h : p < cfg0.N), (outsAt0 m c p h).2.2 (ix2 r d) = ∑ j ∈ Finset.range (64 * (p + 1)), tm m c r d j
  | 0, h => by
    rw [outsAt0_A m c ⟨0, h⟩ rfl]
    dsimp only
    rw [dg_A]
    exact step m c ⟨0, h⟩ _ r d ((zero_apply r d).trans (Finset.sum_range_zero _).symm)
  | p + 1, h => by
    have hN := lt_of_lt_of_eq h N_0
    rw [outsAt0_B m c ⟨p + 1, h⟩ (by dsimp only; omega)]
    dsimp only
    rw [dg_B]
    exact step m c ⟨p + 1, h⟩ _ r d (left_dg r d p (Nat.lt_of_succ_lt h))

/-- The sums, one for each remainder. -/
def Dg8 : Buf (Elt Ideal) ((c : Thread nD τ).loc main_v0_2) := fun i : S8x1024.Idx => (∑ j ∈ Finset.range 1024, tm m c (i 0) (i 1) j : EReal)
/-- The whole third result. -/
def Dg : Buf (Elt Ideal) ((c : Thread nD τ).loc main_v1) := fun i : S1024.Idx => (∑ i', dgTerm (U m c) (W m c) (X m c) (i 0) i' : EReal)

theorem final_dg : (dats m 0 c).arrAt 7 cfg0.N = Dg8 m c :=
  (dats m 0 c).arrAt_eq_of_cover 7 (Dg8 m c) (fun t hf => by
    have hN := lt_of_lt_of_eq t.isLt N_0
    have ht : t.val = 15 := by have := (flush0_7 t).mp hf; omega
    show (cfg0.win 7).cut (grid0.coords t) ((dats m 0 c).after 7 t) = _
    rw [after0_7]
    funext y
    obtain ⟨⟨r, d⟩, rfl⟩ : ∃ a : Fin 8 × Fin 1024, y = ix2 a.1 a.2 := ⟨(y 0, y 1), eq_ix2 y⟩
    refine (left_dg m c r d t.val t.isLt).trans ?_
    rw [ht]
    obtain ⟨e0, e1⟩ := (idx_in t).2.2.2.2.2.2.2
    refine congrArg (Dg8 m c) (a₁ := ix2 r d) (funext fun a => Fin.ext ?_)
    match a with
    | ⟨0, _⟩ => show r.val = win0_7.index t (0 : Fin 2) * 8 + 1 * r.val; rw [e0]; omega
    | ⟨1, _⟩ => show d.val = win0_7.index t (1 : Fin 2) * 1024 + 1 * d.val; rw [e1]; omega) fun i => by
    have h0 : (i 0).val < 8 := (i 0).isLt
    have h1 : (i 1).val < 1024 := (i 1).isLt
    have hN : cfg0.N = 16 := N_0
    let t : Fin cfg0.N := ⟨15, by rw [hN]; omega⟩
    obtain ⟨e0, e1⟩ := (idx_in t).2.2.2.2.2.2.2
    refine ⟨t, (flush0_7 t).mpr rfl, ?_⟩
    show i ∈ ((View.whole main_v0_2).slice (win0_7.rect t)).set
    rw [View.set_slice_whole, Rect.mem_set_unit]
    intro a
    match a with
    | ⟨0, _⟩ => show win0_7.index t (0 : Fin 2) * 8 ≤ (i 0).val ∧ (i 0).val < win0_7.index t (0 : Fin 2) * 8 + 8; rw [e0]; omega
    | ⟨1, _⟩ => show win0_7.index t (1 : Fin 2) * 1024 ≤ (i 1).val ∧ (i 1).val < win0_7.index t (1 : Fin 2) * 1024 + 1024; rw [e1]; omega

/-- The sum that follows the kernel. -/
def fold (s : FVec Ideal S8x1024 .f32) : FVec Ideal S1024 .f32 := Host.reduceAdd s (constant S_ .f32 0x00000000#32) reducesTo_S8x1024_S1024_d0 h_S_

theorem fold_apply (s : FVec Ideal S8x1024 .f32) (d : Fin 1024) : fold s (ix1 d) = ∑ r : Fin 8, s (ix2 r d) := by
  unfold fold
  pointwise

theorem fold_eq : fold (Dg8 m c) = Dg m c := by
  funext i
  obtain ⟨d, rfl⟩ : ∃ d : Fin 1024, i = ix1 d := ⟨i 0, eq_ix1 i⟩
  rw [fold_apply]
  refine Eq.trans (Finset.sum_congr rfl fun r _ => ?_) (sum_by_eight (dgTerm (U m c) (W m c) (X m c) d))
  refine (Finset.sum_range (fun j => tm m c r d j)).trans (Finset.sum_congr rfl fun j _ => ?_)
  have hj := j.isLt
  have hr := r.isLt
  exact congrArg (dgTerm (U m c) (W m c) (X m c) d) (Fin.ext (Nat.mod_eq_of_lt (by omega)))

/-- What the third result holds: the sum of what the kernel left. -/
theorem tail_eq : Pipeline.afterTail₀ cfgs (dats m) 0 (V0 m) [hostOps1] c main_v1 = Dg m c := by
  have e : Pipeline.afterTail₀ cfgs (dats m) 0 (V0 m) [hostOps1] c main_v1 = fold ((dats m 0 c).arrAt 7 cfg0.N) := by
    unfold Pipeline.afterTail₀
    simp only [List.flatten_cons, List.flatten_nil, List.append_nil]
    after_results_simp
    exact congrArg fold (Pipeline.withArrays_arr (cfgs 0).spec (by decide) c (V0 m c) (fun w => (dats m 0 c).arrAt w (cfgs 0).N) 7)
  rw [e, final_dg, fold_eq]

/-- The run: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = D m c
      ∧ r.2.mem ((c : Thread nD τ).loc main_v0_1) = D16 m c
      ∧ r.2.mem ((c : Thread nD τ).loc main_v1) = Dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_dx m c), ((h c).1 6).trans (final_dx16 m c),
      ((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)
end
end Cert.UpDxIdeal.Mlp

namespace Cert.UpDxRefIdeal.Mlp
open Cert.UpDxRefIdeal Cert.UpDxRefIdeal.Gen Cert.Mlp Idealize.ShloMosaic Idealize.ShloMosaic.TcCoe Idealize.SL.Sem
variable (u : FVec Ideal S8192x4096 .bf16) (w : FVec Ideal S2x1024x4096 .bf16) (x : FVec Ideal S8192x1024 .f32) (g : FVec Ideal S1x1024 .f32) (y : FVec Ideal S8192x1024 .f32)

/-! The reference's results as its operations compose them, in parts. -/

/-- The means of squares. -/
def msq : FVec Ideal S8192x1 .f32 :=
  addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32))
/-- Their reciprocal roots. -/
def root : FVec Ideal S8192x1 .f32 := Host.rsqrt (msq x)
/-- The gradient of the norm's result. -/
def dh : FVec Ideal S8192x1024 .f32 :=
  Host.dotGeneral dot_S8192x4096_S1024x4096_S8192x1024_1_1_0_0_n_n none (extf .f32 u bitsLt_bf16_f32) (shapeCast _ (extractStridedSlice S1x1024x4096 ![1, 0, 0] (extf .f32 w bitsLt_bf16_f32) slices_S2x1024x4096_S1x1024x4096_1_0_0) shapeCasts_S1x1024x4096_S1024x4096)
/-- The gain at every row. -/
def gains : FVec Ideal S8192x1024 .f32 :=
  broadcastInDim S8192x1024 ![0, 1] bcast_S1x1024_S8192x1024_0_1 (broadcastInDim S1x1024 ![1] bcast_S1024_S1x1024_1 (shapeCast _ g shapeCasts_S1x1024_S1024))
section
variable (h : FVec Ideal S8192x1024 .f32)
/-- The gradient of each square. -/
def dsq : FVec Ideal S8192 .f32 :=
  Host.reduceAdd (Host.divf (mulf (shapeCast S8192x1 (Host.reduceAdd (mulf x (mulf h (gains g))) (constant S_ .f32 0x00000000#32) reducesTo_S8192x1024_S8192_d1 h_S_) shapeCasts_S8192_S8192x1) (mulf (broadcastInDim S8192x1 ![] bcast_S_S8192x1 (constant S_ .f32 0xBF000000#32)) (Host.divf (root x) (msq x)))) (broadcastInDim S8192x1 ![] bcast_S_S8192x1 (constant S_ .f32 0x44800000#32))) (constant S_ .f32 0x00000000#32) reducesTo_S8192x1_S8192_d1 h_S_
/-- The gradient that leaves the block, of the gradient `h` of the norm's result. -/
def res : FVec Ideal S8192x1024 .f32 :=
  addf y (addf (addf (mulf (mulf h (gains g)) (broadcastInDim S8192x1024 ![0, 1] bcast_S8192x1_S8192x1024_0_1 (root x))) (mulf x (broadcastInDim S8192x1024 ![0] bcast_S8192_S8192x1024_0 (dsq x g h)))) (mulf (broadcastInDim S8192x1024 ![0] bcast_S8192_S8192x1024_0 (dsq x g h)) x))
/-- The gradient of the gain. -/
def gain : FVec Ideal S1024 .f32 :=
  Host.reduceAdd (shapeCast S1x1024 (Host.reduceAdd (mulf (mulf x (broadcastInDim S8192x1024 ![0, 1] bcast_S8192x1_S8192x1024_0_1 (root x))) h) (constant S_ .f32 0x00000000#32) reducesTo_S8192x1024_S1024_d0 h_S_) shapeCasts_S1024_S1x1024) (constant S_ .f32 0x00000000#32) reducesTo_S1x1024_S1024_d0 h_S_
end

theorem msq_apply (i : Fin 8192) : msq x (ix2 i 0) = meanSq fun k => x (ix2 i k) := by
  unfold msq
  pointwise
  rfl

theorem root_apply (i : Fin 8192) : root x (ix2 i 0) = invRms fun k => x (ix2 i k) := by
  unfold root
  pointwise
  rw [msq_apply]
  rfl

theorem dh_apply (i : Fin 8192) (d : Fin 1024) : dh u w (ix2 i d) = Cert.UpDxIdeal.Mlp.back u w i d := by
  unfold dh
  pointwise
  rfl

theorem gains_apply (i : Fin 8192) (d : Fin 1024) : gains g (ix2 i d) = g (ix2 0 d) := by
  unfold gains
  pointwise

section
variable (h : FVec Ideal S8192x1024 .f32)

theorem dsq_apply (i : Fin 8192) : dsq x g h (ix1 i) = sqGrad (fun k => x (ix2 i k)) (fun k => h (ix2 i k)) (fun k => g (ix2 0 k)) := by
  unfold dsq
  pointwise
  rw [Fin.sum_univ_one]
  simp only [msq_apply, root_apply, gains_apply]
  rfl

theorem res_apply (hh : ∀ i d, ∃ r : ℝ, h (ix2 i d) = r) (hx : ∀ i, ∃ r : ℝ, x i = r) (hg : ∀ i, ∃ r : ℝ, g i = r) (i : Fin 8192) (d : Fin 1024) :
    res x g y h (ix2 i d) = y (ix2 i d) + normGrad (fun k => x (ix2 i k)) (fun k => h (ix2 i k)) (fun k => g (ix2 0 k)) d := by
  unfold res
  pointwise
  simp only [root_apply, dsq_apply, gains_apply]
  exact congrArg _ (norm_derivative (fun k => x (ix2 i k)) (fun k => h (ix2 i k)) (fun k => g (ix2 0 k)) (fun k => hx _) (fun k => hh _ _) (fun k => hg _) d)

theorem gain_apply (d : Fin 1024) : gain x h (ix1 d) = ∑ i : Fin 8192, h (ix2 i d) * (x (ix2 i d) * invRms fun k => x (ix2 i k)) := by
  unfold gain
  pointwise
  rw [Fin.sum_univ_one]
  refine Finset.sum_congr rfl fun i _ => ?_
  rw [root_apply]
  exact mul_comm _ _
end

theorem res_eq (hu : ∀ i, ∃ r : ℝ, u i = r) (hw : ∀ i, ∃ r : ℝ, w i = r) (hx : ∀ i, ∃ r : ℝ, x i = r) (hg : ∀ i, ∃ r : ℝ, g i = r) (i : Fin 8192) (d : Fin 1024) :
    res x g y (dh u w) (ix2 i d) = Cert.UpDxIdeal.Mlp.dx u w x g y i d := by
  refine (res_apply x g y (dh u w) (fun i d => ?_) hx hg i d).trans ?_
  · rw [dh_apply]
    exact product_real _ _ (fun k => hu _) (fun k => hw _)
  · simp only [dh_apply]
    rfl

theorem gain_eq (d : Fin 1024) : gain x (dh u w) (ix1 d) = ∑ i, Cert.UpDxIdeal.Mlp.dgTerm u w x d i := by
  rw [gain_apply]
  simp only [dh_apply]
  rfl
end Cert.UpDxRefIdeal.Mlp

namespace Cert.UpDxIdeal.Mlp
open Idealize.ShloMosaic Idealize.ShloMosaic.TcCoe Idealize.SL.Sem Cert.UpDxIdeal

/-- The broadcasts the precondition is written with are broadcasts. -/
theorem finite_facts : Cert.Pre_up_finite.Facts := ⟨by decide, by decide, by decide, by decide, by decide⟩

section
local instance : Cert.Pre_up_finite.Facts := finite_facts
theorem fin_u (A : FVec Ideal S8192x4096 .bf16) (h : cmpf .olt (Host.absf (extf .f32 A Cert.Pre_up_finite.Facts.bitsLt_bf16_f32)) (broadcastInDim S8192x4096 ![] Cert.Pre_up_finite.Facts.bcast_S_S8192x4096 (constant S_ .f32 0x7F800000#32)) = fun _ => 1#1) : ∀ i, ∃ r : ℝ, A i = r := fun i => by
  have e := congrFun h i
  obtain ⟨x, j, rfl⟩ : ∃ (x : Fin 8192) (j : Fin 4096), i = ix2 x j := ⟨i 0, i 1, eq_ix2 i⟩
  pointwise at e
  exact Cert.KernelIdeal.Bwd.real_of_abs _ e
theorem fin_w (A : FVec Ideal S2x1024x4096 .bf16) (h : cmpf .olt (Host.absf (extf .f32 A Cert.Pre_up_finite.Facts.bitsLt_bf16_f32)) (broadcastInDim S2x1024x4096 ![] Cert.Pre_up_finite.Facts.bcast_S_S2x1024x4096 (constant S_ .f32 0x7F800000#32)) = fun _ => 1#1) : ∀ i, ∃ r : ℝ, A i = r := fun i => by
  have e := congrFun h i
  obtain ⟨l, x, j, rfl⟩ : ∃ (l : Fin 2) (x : Fin 1024) (j : Fin 4096), i = ix3 l x j := ⟨i 0, i 1, i 2, eq_ix3 i⟩
  pointwise at e
  exact Cert.KernelIdeal.Bwd.real_of_abs _ e
theorem fin_x (A : FVec Ideal S8192x1024 .f32) (h : cmpf .olt (Host.absf A) (broadcastInDim S8192x1024 ![] Cert.Pre_up_finite.Facts.bcast_S_S8192x1024 (constant S_ .f32 0x7F800000#32)) = fun _ => 1#1) : ∀ i, ∃ r : ℝ, A i = r := fun i => by
  have e := congrFun h i
  obtain ⟨x, j, rfl⟩ : ∃ (x : Fin 8192) (j : Fin 1024), i = ix2 x j := ⟨i 0, i 1, eq_ix2 i⟩
  pointwise at e
  exact Cert.KernelIdeal.Bwd.real_of_abs _ e
theorem fin_g (A : FVec Ideal S1x1024 .f32) (h : cmpf .olt (Host.absf A) (broadcastInDim S1x1024 ![] Cert.Pre_up_finite.Facts.bcast_S_S1x1024 (constant S_ .f32 0x7F800000#32)) = fun _ => 1#1) : ∀ i, ∃ r : ℝ, A i = r := fun i => by
  have e := congrFun h i
  obtain ⟨x, j, rfl⟩ : ∃ (x : Fin 1) (j : Fin 1024), i = ix2 x j := ⟨i 0, i 1, eq_ix2 i⟩
  pointwise at e
  exact Cert.KernelIdeal.Bwd.real_of_abs _ e

/-- Under the precondition the arguments the norm's derivative is taken with are real. -/
theorem args_real (m : (ℓ : Loc nD τ sig) → Buf (Elt Ideal) ℓ) (h : Cert.Pre_UpDxIdeal_up_finite m) (c : Dev nD) :
    (∀ i, ∃ r : ℝ, U m c i = r) ∧ (∀ i, ∃ r : ℝ, W m c i = r) ∧ (∀ i, ∃ r : ℝ, X m c i = r) ∧ (∀ i, ∃ r : ℝ, G m c i = r) :=
  ⟨fin_u _ (h c).1, fin_w _ (h c).2.1, fin_x _ (h c).2.2.1, fin_g _ (h c).2.2.2⟩
end

/-- The kernel's gradients are the reference's. -/
theorem equal : Cert.algebraic_UpDxIdeal_UpDxRefIdeal_pre_up_finite (hPre_up_finite := finite_facts) := by
  intro m g m' g' hpre hargs
  refine ⟨fun c => D m c, fun c => D16 m c, fun c => Dg m c, run m g, ?_⟩
  refine (θ_run _ _ _).mono (fun r h c => ?_) (Cert.UpDxRefIdeal.Value.run (F := Ideal) m' g')
  obtain ⟨a0, a1, a2, a3, a4⟩ := hargs c
  obtain ⟨hu, hw, hx, hg⟩ := args_real m hpre c
  refine ⟨(h c).1.trans ?_, (h c).2.1.trans ?_, (h c).2.2.1.trans ?_, (h c).2.2.2⟩
  · unfold Cert.UpDxRefIdeal.Value.res_main_v43
    rw [a0, a1, a2, a3, a4]
    funext i
    obtain ⟨⟨x, d⟩, rfl⟩ : ∃ a : Fin 8192 × Fin 1024, i = ix2 a.1 a.2 := ⟨(i 0, i 1), eq_ix2 i⟩
    exact Cert.UpDxRefIdeal.Mlp.res_eq (U m c) (W m c) (X m c) (G m c) (Y m c) hu hw hx hg x d
  · unfold Cert.UpDxRefIdeal.Value.res_main_v45
    rw [a0, a1, a2, a3, a4]
    funext i
    obtain ⟨⟨x, d⟩, rfl⟩ : ∃ a : Fin 8192 × Fin 1024, i = ix2 a.1 a.2 := ⟨(i 0, i 1), eq_ix2 i⟩
    exact Cert.UpDxRefIdeal.Mlp.res_eq (U m c) (W m c) (X m c) (G m c) (Y m c) hu hw hx hg x d
  · rw [a0, a1, a2]
    funext i
    obtain ⟨d, rfl⟩ : ∃ d : Fin 1024, i = ix1 d := ⟨i 0, eq_ix1 i⟩
    exact Cert.UpDxRefIdeal.Mlp.gain_eq (U m c) (W m c) (X m c) d

/-- The kernel before idealization is the same text: the same bodies, the same program. -/
theorem defs_eq : Cert.UpDx.defs (F := Bits) = Cert.UpDxIdeal.defs (F := Bits) := by
  refine congrArg (Pipeline.defs _) ?_
  unfold Cert.UpDx.defs₀ Cert.UpDxIdeal.defs₀
  refine congrArg Defs.onTc (funext fun l => funext fun x => ?_)
  match l, x with
  | 0, (t, s) => rfl

/-- Its run, in machine arithmetic, is this one. -/
theorem frame_kernel : Cert.quiescent_UpDx := by
  intro m ρ _
  have h := Cert.UpDxIdeal.Gen.frame (F := Bits) m ρ
  rw [← defs_eq] at h
  exact h

/-- The reference runs, leaves its arguments unchanged and has no counter. -/
theorem frame_reference : Cert.quiescent_UpDxRefIdeal := fun m ρ _ =>
  (θ_run _ _ _).mono (fun r h => ⟨fun c => (h c).2.2.2, Idealize.ShloMosaic.sem_eq_zero_of_no_sems (by decide) r.2⟩)
    (Cert.UpDxRefIdeal.Value.run (F := Ideal) m ρ)
end Cert.UpDxIdeal.Mlp
-- ==== Proof.Mlp.DownDx0.lean ====
/-
  The gradient of the MLP's hidden values in layer 0: what `DownDx` says of layer 1. The body is the same, so that what
  it stores is read there; the weights' window takes the other layer.
-/
module
public import proofs.«01_k».proof.Proof.Mlp.DownDx
public import proofs.«01_k».proof.Proof.Gen.DownDx0
public import proofs.«01_k».proof.Proof.Gen.DownDx0Ideal.Value
public import proofs.«01_k».proof.Proof.Gen.DownDx0RefIdeal.Run
public import Idealize.ShloMosaic.Lib.Pointwise
public import Idealize.ShloMosaic.Lib.Quiescent
@[expose] public section
set_option maxRecDepth 16384
noncomputable section
namespace Cert.DownDx0Ideal.Mlp
open Cert.DownDx0Ideal Cert.DownDx0Ideal.Gen Idealize.ShloMosaic Idealize.ShloMosaic.TcCoe Idealize.SL.Sem

/-- The gradient of hidden value `f` at position `x`. -/
def du (dy : Vec Ideal S8192x1024 .bf16) (w : Vec Ideal S2x4096x1024 .bf16) (u : Vec Ideal S8192x4096 .bf16) (x : Fin 8192) (f : Fin 4096) : EReal :=
  (∑ d : Fin 1024, dy (ix2 x d) * w (ix3 0 f d)) * (2 * max (u (ix2 x f)) 0)

section
variable (m : (ℓ : Loc nD τ sig) → Buf (Elt Ideal) ℓ) (c : Dev nD) (t : Fin cfg0.N)

/-- The row of the whole array that row `r` of point `n`'s block is. -/
abbrev at_ (n : ℕ) (r : Fin 512) : Fin 8192 := ⟨(512 * n + r.val) % 8192, Nat.mod_lt _ (by decide)⟩

theorem idx_in : ∀ t : Fin cfg0.N, (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0) ∧ win0_3.flush t = true :=
  (by decide +kernel : ∀ t : Fin grid0.N, _)

theorem in0 (r : Fin 512) (d : Fin 1024) :
    (iblk m c 0 t : Vec Ideal S512x1024 .bf16) (ix2 r d) = (m ((c : Thread nD τ).loc main_arg0) : Vec Ideal S8192x1024 .bf16) (ix2 (at_ t.val r) d) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1024 + 1 * d.val = d.val; rw [e1]; omega

theorem in1 (f : Fin 4096) (d : Fin 1024) :
    (iblk m c 1 t : Vec Ideal S1x4096x1024 .bf16) (ix3 0 f d) = (m ((c : Thread nD τ).loc main_arg1) : Vec Ideal S2x4096x1024 .bf16) (ix3 0 f d) := by
  obtain ⟨e0, e1, e2⟩ := (idx_in t).2.1
  refine congrArg (m ((c : Thread nD τ).loc main_arg1) : Vec Ideal S2x4096x1024 .bf16) (funext fun a => Fin.ext ?_)
  match a with
  | ⟨0, _⟩ => show win0_1.index t (0 : Fin 3) * 1 + 1 * 0 = 0; rw [e0]
  | ⟨1, _⟩ => show win0_1.index t (1 : Fin 3) * 4096 + 1 * f.val = f.val; rw [e1]; omega
  | ⟨2, _⟩ => show win0_1.index t (2 : Fin 3) * 1024 + 1 * d.val = d.val; rw [e2]; omega

theorem in2 (r : Fin 512) (f : Fin 4096) :
    (iblk m c 2 t : Vec Ideal S512x4096 .bf16) (ix2 r f) = (m ((c : Thread nD τ).loc main_arg2) : Vec Ideal S8192x4096 .bf16) (ix2 (at_ t.val r) f) := by
  have hN := lt_of_lt_of_eq t.isLt N_0
  obtain ⟨e0, e1⟩ := (idx_in t).2.2.1
  refine congrArg (m ((c : Thread nD τ).loc main_arg2) : Vec Ideal S8192x4096 .bf16) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 4096 + 1 * f.val = f.val; rw [e1]; omega

/-- The whole result. -/
def G : Buf (Elt Ideal) ((c : Thread nD τ).loc main_v0) := fun i : S8192x4096.Idx =>
  du (m ((c : Thread nD τ).loc main_arg0)) (m ((c : Thread nD τ).loc main_arg1)) (m ((c : Thread nD τ).loc main_arg2)) (i 0) (i 1)

/-- What point `t` leaves in its block. -/
theorem out_apply (r : Fin 512) (f : Fin 4096) :
    out0_3 (F := Ideal) (iblk m c 0 t) (iblk m c 1 t) (iblk m c 2 t) (ix2 r f) = G m c (ix2 (at_ t.val r) f) := by
  unfold out0_3
  rw [View.canon_unit_zero (funext fun a => by fin_cases a <;> rfl), View.ld_unit_zero (S := S512x1024) (funext fun a => by fin_cases a <;> rfl),
    View.ld_unit_zero (S := S1x4096x1024) (funext fun a => by fin_cases a <;> rfl), View.ld_unit_zero (S := S512x4096) (funext fun a => by fin_cases a <;> rfl)]
  refine (Cert.DownDxIdeal.Mlp.pay_apply _ _ _ r f).trans ?_
  simp only [in0, in1, in2]
  rfl

theorem flushed_eq :
    (dats m 0 c).flushed 3 t = ((cfg0.win 3).blk t).view.read (Elt Ideal) (G m c) := by
  rw [Value.flushed3]
  funext y
  obtain ⟨⟨r, f⟩, rfl⟩ : ∃ a : Fin 512 × Fin 4096, y = ix2 a.1 a.2 := ⟨(y 0, y 1), eq_ix2 y⟩
  refine (out_apply m c t r f).trans ?_
  have hN := lt_of_lt_of_eq t.isLt N_0
  obtain ⟨e0, e1⟩ := (idx_in t).2.2.2.1
  refine congrArg (G m c) (funext fun a => Fin.ext ?_)
  match a with
  | ⟨0, _⟩ => show (512 * t.val + r.val) % 8192 = win0_3.index t (0 : Fin 2) * 512 + 1 * r.val; rw [e0]; omega
  | ⟨1, _⟩ => show f.val = win0_3.index t (1 : Fin 2) * 4096 + 1 * f.val; rw [e1]; omega

theorem final : (dats m 0 c).arrAt 3 cfg0.N = G m c :=
  (dats m 0 c).arrAt_eq_of_cover 3 (G m c) (fun t _ => flushed_eq m c t) fun i => by
    have h0 : (i 0).val < 8192 := (i 0).isLt
    have h1 : (i 1).val < 4096 := (i 1).isLt
    have hN : cfg0.N = 16 := N_0
    let t : Fin cfg0.N := ⟨(i 0).val / 512, by rw [hN]; omega⟩
    obtain ⟨e0, e1⟩ := (idx_in t).2.2.2.1
    refine ⟨t, (idx_in t).2.2.2.2, ?_⟩
    show i ∈ ((View.whole main_v0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; rw [e0]; show (i 0).val / 512 * 512 ≤ _ ∧ _ < (i 0).val / 512 * 512 + 512; omega
    | ⟨1, _⟩ => show win0_3.index t (1 : Fin 2) * 4096 ≤ (i 1).val ∧ (i 1).val < win0_3.index t (1 : Fin 2) * 4096 + 4096; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)
end
end Cert.DownDx0Ideal.Mlp

namespace Cert.DownDx0RefIdeal.Mlp
open Cert.DownDx0RefIdeal Cert.DownDx0RefIdeal.Gen Idealize.ShloMosaic Idealize.ShloMosaic.TcCoe Idealize.SL.Sem
variable (m : (ℓ : Loc nD τ sig) → Buf (Elt Ideal) ℓ) (c : Dev nD)

/-- The reference's result as its operations compose it. -/
def res (dy : FVec Ideal S8192x1024 .bf16) (w : FVec Ideal S2x4096x1024 .bf16) (u : FVec Ideal S8192x4096 .bf16) : FVec Ideal S8192x4096 .bf16 :=
  truncf .bf16 (select (cmpf .ogt (extf .f32 u bitsLt_bf16_f32) (broadcastInDim S8192x4096 ![] bcast_S_S8192x4096 (constant S_ .f32 0x00000000#32))) (mulf (Host.dotGeneral dot_S8192x1024_S4096x1024_S8192x4096_1_1_0_0_n_n none (extf .f32 dy bitsLt_bf16_f32) (shapeCast _ (extractStridedSlice S1x4096x1024 ![0, 0, 0] (extf .f32 w bitsLt_bf16_f32) slices_S2x4096x1024_S1x4096x1024_0_0_0) shapeCasts_S1x4096x1024_S4096x1024)) (mulf (broadcastInDim S8192x4096 ![] bcast_S_S8192x4096 (constant S_ .f32 0x40000000#32)) (maximumf (extf .f32 u bitsLt_bf16_f32) (broadcastInDim S8192x4096 ![] bcast_S_S8192x4096 (constant S_ .f32 0x00000000#32))))) (broadcastInDim S8192x4096 ![] bcast_S_S8192x4096 (constant S_ .f32 0x00000000#32))) bitsLt_bf16_f32

theorem result_apply (dy : Vec Ideal S8192x1024 .bf16) (w : Vec Ideal S2x4096x1024 .bf16) (u : Vec Ideal S8192x4096 .bf16) (x : Fin 8192) (f : Fin 4096) :
    res dy w u (ix2 x f) = Cert.DownDx0Ideal.Mlp.du dy w u x f := by
  unfold res
  pointwise
  rw [Cert.DownDxIdeal.Mlp.two]
  exact Cert.DownDxRefIdeal.Mlp.at_relu _ _
end Cert.DownDx0RefIdeal.Mlp

namespace Cert.DownDx0Ideal.Mlp
open Idealize.ShloMosaic Idealize.ShloMosaic.TcCoe Idealize.SL.Sem

/-- The kernel's gradient is the reference's. -/
theorem equal : Cert.algebraic_DownDx0Ideal_DownDx0RefIdeal := by
  intro m g m' g' _ hargs
  refine ⟨fun c => G m c, run m g, ?_⟩
  refine (θ_run _ _ _).mono (fun r h c => ⟨(h c).1.trans ?_, (h c).2⟩) (Cert.DownDx0RefIdeal.Value.run (F := Ideal) m' g')
  obtain ⟨a0, a1, a2⟩ := hargs c
  rw [a0, a1, a2]
  funext i
  obtain ⟨⟨x, f⟩, rfl⟩ : ∃ a : Fin 8192 × Fin 4096, i = ix2 a.1 a.2 := ⟨(i 0, i 1), eq_ix2 i⟩
  exact Cert.DownDx0RefIdeal.Mlp.result_apply _ _ _ x f

/-- The kernel before idealization is the same text: the same bodies, the same program. -/
theorem defs_eq : Cert.DownDx0.defs (F := Bits) = Cert.DownDx0Ideal.defs (F := Bits) := by
  refine congrArg (Pipeline.defs _) ?_
  unfold Cert.DownDx0.defs₀ Cert.DownDx0Ideal.defs₀
  refine congrArg Defs.onTc (funext fun l => funext fun x => ?_)
  match l, x with
  | 0, (t, s) => rfl

/-- Its run, in machine arithmetic, is this one. -/
theorem frame_kernel : Cert.quiescent_DownDx0 := by
  intro m ρ _
  have h := Cert.DownDx0Ideal.Gen.frame (F := Bits) m ρ
  rw [← defs_eq] at h
  exact h

/-- The reference runs, leaves its arguments unchanged and has no counter. -/
theorem frame_reference : Cert.quiescent_DownDx0RefIdeal := fun m ρ _ =>
  (θ_run _ _ _).mono (fun r h => ⟨fun c => (h c).2, Idealize.ShloMosaic.sem_eq_zero_of_no_sems (by decide) r.2⟩)
    (Cert.DownDx0RefIdeal.Value.run (F := Ideal) m ρ)
end Cert.DownDx0Ideal.Mlp
-- ==== Proof.Mlp.UpDx0.lean ====
/-
  The gradient that leaves the MLP in layer 0: what `UpDx` says of layer 1. The body is the same, so that what a point
  computes is read there, and the reference's mathematics is the one proved there; the weights' window takes the other
  layer.
-/
module
public import proofs.«01_k».proof.Proof.Mlp.UpDx
public import proofs.«01_k».proof.Proof.Gen.UpDx0
public import proofs.«01_k».proof.Proof.Gen.UpDx0Ideal.Frame
public import proofs.«01_k».proof.Proof.Gen.UpDx0RefIdeal.Run
public import Idealize.ShloMosaic.Lib.Pointwise
public import Idealize.ShloMosaic.Lib.Quiescent
@[expose] public section
set_option maxRecDepth 16384
noncomputable section
namespace Cert.UpDx0Ideal.Mlp
open Cert.UpDx0Ideal Cert.UpDx0Ideal.Gen Cert.Mlp Idealize.ShloMosaic Idealize.ShloMosaic.TcCoe Idealize.SL.Sem

/-- The gradient of the normalized row at entry `d` of position `i`. -/
def back (u : Vec Ideal S8192x4096 .bf16) (w : Vec Ideal S2x1024x4096 .bf16) (i : Fin 8192) (d : Fin 1024) : EReal :=
  ∑ f : Fin 4096, u (ix2 i f) * w (ix3 0 d f)

/-- The gradient that leaves the block. -/
def dx (u : Vec Ideal S8192x4096 .bf16) (w : Vec Ideal S2x1024x4096 .bf16) (x : Vec Ideal S8192x1024 .f32) (g : Vec Ideal S1x1024 .f32) (y : Vec Ideal S8192x1024 .f32)
    (i : Fin 8192) (d : Fin 1024) : EReal :=
  y (ix2 i d) + normGrad (fun k => x (ix2 i k)) (back u w i) (fun k => g (ix2 0 k)) d

/-- What position `i` contributes to the gradient of the gain at entry `d`. -/
def dgTerm (u : Vec Ideal S8192x4096 .bf16) (w : Vec Ideal S2x1024x4096 .bf16) (x : Vec Ideal S8192x1024 .f32) (d : Fin 1024) (i : Fin 8192) : EReal :=
  back u w i d * (x (ix2 i d) * invRms fun k => x (ix2 i k))

open Cert.UpDxIdeal.Mlp (hz hz3)

/-! What the body computes is what it computes there. -/

theorem back_apply (a : Vec Ideal S512x4096 .bf16) (w : Vec Ideal S1x1024x4096 .bf16) (r : Fin 512) (d : Fin 1024) :
    k0_pay3 (F := Ideal) a w (ix2 r d) = ∑ f : Fin 4096, a (ix2 r f) * w (ix3 0 d f) :=
  Cert.UpDxIdeal.Mlp.back_apply a w r d

theorem unit_apply (x : Vec Ideal S512x1024 .f32) (r : Fin 512) (d : Fin 1024) :
    k0_pay5 (F := Ideal) x (ix2 r d) = x (ix2 r d) * invRms fun k => x (ix2 r k) :=
  Cert.UpDxIdeal.Mlp.unit_apply x r d

section
variable (c : Dev nD) (i : grid0.Coords) (a1 : Memref sig .tc .vmem S512x4096 .bf16) (h1 : a1.IsWhole) (a2 : Memref sig .tc .vmem S1x1024x4096 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole) (a8 : Memref sig .tc .vmem S8x1024 .f32) (h8 : a8.IsWhole)
  (x0 : Vec Ideal S512x4096 .bf16) (x1 : Vec Ideal S1x1024x4096 .bf16) (x2 : Vec Ideal S512x1024 .f32) (x3 : Vec Ideal S1x1024 .f32) (x4 : Vec Ideal S512x1024 .f32) (xo : Vec Ideal S8x1024 .f32)

theorem dx_A (c0 : cond0_0 i) : out0_A_5 (F := Ideal) c i a1 h1 a2 h2 a3 h3 a4 h4 a5 h5 a6 h6 a7 h7 a8 h8 c0 x0 x1 x2 x3 x4 = k0_pay6 x0 x1 x2 x3 x4 := by
  unfold out0_A_5
  rw [View.read_writes_eq_canon _ _ _ (cover0_A_5 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

theorem dx16_A (c0 : cond0_0 i) : out0_A_6 (F := Ideal) c i a1 h1 a2 h2 a3 h3 a4 h4 a5 h5 a6 h6 a7 h7 a8 h8 c0 x0 x1 x2 x3 x4 = k0_pay7 x0 x1 x2 x3 x4 := by
  unfold out0_A_6
  rw [View.read_writes_eq_canon _ _ _ (cover0_A_6 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

/-- The first point starts the sum at zero. -/
theorem dg_A (c0 : cond0_0 i) : out0_A_7 (F := Ideal) c i a1 h1 a2 h2 a3 h3 a4 h4 a5 h5 a6 h6 a7 h7 a8 h8 c0 x0 x1 x2 x3 x4 = k0_pay2 (k0_pay3 x0 x1) (k0_pay5 x2) (k0_pay1 (F := Ideal)) := by
  unfold out0_A_7
  rw [View.read_writes_eq_canon _ _ _ (cover0_A_7 c i a1 h1 a2 h2 a3 h3 a4 h4 a5 h5 a6 h6 a7 h7 a8 h8 c0 x0 x1 x2 x3 x4)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, View.ld_unit_zero (S := S512x4096) hz, View.ld_unit_zero (S := S1x1024x4096) hz3, View.ld_unit_zero (S := S512x1024) hz]

theorem dx_B (c0 : ¬cond0_0 i) : out0_B_5 (F := Ideal) c i a1 h1 a2 h2 a3 h3 a4 h4 a5 h5 a6 h6 a7 h7 a8 h8 c0 x0 x1 x2 x3 x4 xo = k0_pay6 x0 x1 x2 x3 x4 := by
  unfold out0_B_5
  rw [View.read_writes_eq_canon _ _ _ (cover0_B_5 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

theorem dx16_B (c0 : ¬cond0_0 i) : out0_B_6 (F := Ideal) c i a1 h1 a2 h2 a3 h3 a4 h4 a5 h5 a6 h6 a7 h7 a8 h8 c0 x0 x1 x2 x3 x4 xo = k0_pay7 x0 x1 x2 x3 x4 := by
  unfold out0_B_6
  rw [View.read_writes_eq_canon _ _ _ (cover0_B_6 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x4096) hz, View.ld_unit_zero (S := S1x1024x4096) hz3, View.ld_unit_zero (S := S512x1024) hz, View.ld_unit_zero (S := S1x1024) hz]

/-- A later point adds to what the point before left. -/
theorem dg_B (c0 : ¬cond0_0 i) : out0_B_7 (F := Ideal) c i a1 h1 a2 h2 a3 h3 a4 h4 a5 h5 a6 h6 a7 h7 a8 h8 c0 x0 x1 x2 x3 x4 xo = k0_pay2 (k0_pay3 x0 x1) (k0_pay5 x2) xo := by
  unfold out0_B_7
  rw [View.read_writes_eq_canon _ _ _ (cover0_B_7 c i a1 h1 a2 h2 a3 h3 a4 h4 a5 h5 a6 h6 a7 h7 a8 h8 c0 x0 x1 x2 x3 x4 xo)]
  unfold kernelRun0_B
  dsimp only
  sl_unfold_words
  rw [View.canon_unit_zero hz]
  simp only [View.readAt_eq_ld, h1.read_unread, h2.read_unread, h3.read_unread, h8.read_unread, View.ld_unit_zero (S := S512x4096) hz, View.ld_unit_zero (S := S1x1024x4096) hz3, View.ld_unit_zero (S := S512x1024) hz, View.ld_unit_zero (S := S8x1024) hz]
end

section
variable (m : (ℓ : Loc nD τ sig) → Buf (Elt Ideal) ℓ) (c : Dev nD)

/-- The row of the whole array that row `r` of point `n`'s block is. -/
abbrev at_ (n : ℕ) (r : Fin 512) : Fin 8192 := ⟨(512 * n + r.val) % 8192, Nat.mod_lt _ (by decide)⟩

abbrev U : Vec Ideal S8192x4096 .bf16 := m ((c : Thread nD τ).loc main_arg0)
abbrev W : Vec Ideal S2x1024x4096 .bf16 := m ((c : Thread nD τ).loc main_arg1)
abbrev X : Vec Ideal S8192x1024 .f32 := m ((c : Thread nD τ).loc main_arg2)
abbrev G : Vec Ideal S1x1024 .f32 := m ((c : Thread nD τ).loc main_arg3)
abbrev Y : Vec Ideal S8192x1024 .f32 := m ((c : Thread nD τ).loc main_arg4)

theorem idx_in : ∀ t : Fin cfg0.N, (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

theorem in0 (t : Fin cfg0.N) (r : Fin 512) (f : Fin 4096) : (iblk m c 0 t : Vec Ideal S512x4096 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 4096 + 1 * f.val = f.val; rw [e1]; omega

theorem in1 (t : Fin cfg0.N) (d : Fin 1024) (f : Fin 4096) : (iblk m c 1 t : Vec Ideal S1x1024x4096 .bf16) (ix3 0 d f) = W m c (ix3 0 d f) := by
  obtain ⟨e0, e1, e2⟩ := (idx_in t).2.1
  refine congrArg (W m c) (funext fun a => Fin.ext ?_)
  match a with
  | ⟨0, _⟩ => show win0_1.index t (0 : Fin 3) * 1 + 1 * 0 = 0; rw [e0]
  | ⟨1, _⟩ => show win0_1.index t (1 : Fin 3) * 1024 + 1 * d.val = d.val; rw [e1]; omega
  | ⟨2, _⟩ => show win0_1.index t (2 : Fin 3) * 4096 + 1 * f.val = f.val; rw [e2]; omega

theorem in2 (t : Fin cfg0.N) (r : Fin 512) (d : Fin 1024) : (iblk m c 2 t : Vec Ideal S512x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 1024 + 1 * d.val = d.val; rw [e1]; omega

theorem in3 (t : Fin cfg0.N) (d : Fin 1024) : (iblk m c 3 t : Vec Ideal S1x1024 .f32) (ix2 0 d) = G m c (ix2 0 d) := by
  obtain ⟨e0, e1⟩ := (idx_in t).2.2.2.1
  refine congrArg (G m c) (funext fun a => Fin.ext ?_)
  match a with
  | ⟨0, _⟩ => show win0_3.index t (0 : Fin 2) * 1 + 1 * 0 = 0; rw [e0]
  | ⟨1, _⟩ => show win0_3.index t (1 : Fin 2) * 1024 + 1 * d.val = d.val; rw [e1]; omega

theorem in4 (t : Fin cfg0.N) (r : Fin 512) (d : Fin 1024) : (iblk m c 4 t : Vec Ideal S512x1024 .f32) (ix2 r d) = Y m c (ix2 (at_ t.val r) d) := by
  have hN := lt_of_lt_of_eq t.isLt N_0
  obtain ⟨e0, e1⟩ := (idx_in t).2.2.2.2.1
  refine congrArg (Y m c) (funext fun a => Fin.ext ?_)
  match a with
  | ⟨0, _⟩ => show win0_4.index t (0 : Fin 2) * 512 + 1 * r.val = (512 * t.val + r.val) % 8192; rw [e0]; omega
  | ⟨1, _⟩ => show win0_4.index t (1 : Fin 2) * 1024 + 1 * d.val = d.val; rw [e1]; omega

/-- The whole first result. -/
def D : Buf (Elt Ideal) ((c : Thread nD τ).loc main_v0_0) := fun i : S8192x1024.Idx => dx (U m c) (W m c) (X m c) (G m c) (Y m c) (i 0) (i 1)
/-- The second, which differs in its format only. -/
def D16 : Buf (Elt Ideal) ((c : Thread nD τ).loc main_v0_1) := fun i : S8192x1024.Idx => dx (U m c) (W m c) (X m c) (G m c) (Y m c) (i 0) (i 1)

/-- What a point stores. -/
theorem point_apply (t : Fin cfg0.N) (r : Fin 512) (d : Fin 1024) :
    k0_pay6 (F := Ideal) (iblk m c 0 t) (iblk m c 1 t) (iblk m c 2 t) (iblk m c 3 t) (iblk m c 4 t) (ix2 r d) = dx (U m c) (W m c) (X m c) (G m c) (Y m c) (at_ t.val r) d := by
  refine (Cert.UpDxIdeal.Mlp.dx_apply _ _ _ _ _ r d).trans ?_
  simp only [in0, in1, in2, in3, in4]
  rfl

theorem left_dx (t : Fin cfg0.N) : (outsAt0 m c t.val t.isLt).1 = k0_pay6 (F := Ideal) (iblk m c 0 t) (iblk m c 1 t) (iblk m c 2 t) (iblk m c 3 t) (iblk m c 4 t) := by
  by_cases h : t.val % 16 = 0
  · rw [outsAt0_A m c t h]; dsimp only; rw [dx_A]
  · rw [outsAt0_B m c t h]; dsimp only; rw [dx_B]

theorem left_dx16 (t : Fin cfg0.N) : (outsAt0 m c t.val t.isLt).2.1 = k0_pay7 (F := Ideal) (iblk m c 0 t) (iblk m c 1 t) (iblk m c 2 t) (iblk m c 3 t) (iblk m c 4 t) := by
  by_cases h : t.val % 16 = 0
  · rw [outsAt0_A m c t h]; dsimp only; rw [dx16_A]
  · rw [outsAt0_B m c t h]; dsimp only; rw [dx16_B]

theorem flushed_dx (t : Fin cfg0.N) : (dats m 0 c).flushed 5 t = ((cfg0.win 5).blk t).view.read (Elt Ideal) (D m c) := by
  show (cfg0.win 5).cut (grid0.coords t) ((dats m 0 c).after 5 t) = _
  rw [after0_5, left_dx]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.1
  refine congrArg (D m c) (a₁ := ix2 (at_ t.val r) d) (funext fun a => Fin.ext ?_)
  match a with
  | ⟨0, _⟩ => show (512 * t.val + r.val) % 8192 = win0_5.index t (0 : Fin 2) * 512 + 1 * r.val; rw [e0]; omega
  | ⟨1, _⟩ => show d.val = win0_5.index t (1 : Fin 2) * 1024 + 1 * d.val; rw [e1]; omega

theorem flushed_dx16 (t : Fin cfg0.N) : (dats m 0 c).flushed 6 t = ((cfg0.win 6).blk t).view.read (Elt Ideal) (D16 m c) := by
  show (cfg0.win 6).cut (grid0.coords t) ((dats m 0 c).after 6 t) = _
  rw [after0_6, left_dx16]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.2.1
  refine congrArg (D16 m c) (a₁ := ix2 (at_ t.val r) d) (funext fun a => Fin.ext ?_)
  match a with
  | ⟨0, _⟩ => show (512 * t.val + r.val) % 8192 = win0_6.index t (0 : Fin 2) * 512 + 1 * r.val; rw [e0]; omega
  | ⟨1, _⟩ => show d.val = win0_6.index t (1 : Fin 2) * 1024 + 1 * d.val; rw [e1]; omega

theorem final_dx : (dats m 0 c).arrAt 5 cfg0.N = D m c :=
  (dats m 0 c).arrAt_eq_of_cover 5 (D m c) (fun t _ => flushed_dx m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; rw [e0]; show (i 0).val / 512 * 512 ≤ _ ∧ _ < (i 0).val / 512 * 512 + 512; omega
    | ⟨1, _⟩ => show win0_5.index t (1 : Fin 2) * 1024 ≤ (i 1).val ∧ (i 1).val < win0_5.index t (1 : Fin 2) * 1024 + 1024; rw [e1]; omega

theorem final_dx16 : (dats m 0 c).arrAt 6 cfg0.N = D16 m c :=
  (dats m 0 c).arrAt_eq_of_cover 6 (D16 m c) (fun t _ => flushed_dx16 m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.2.1
    refine ⟨t, flush0_6 t, ?_⟩
    show i ∈ ((View.whole main_v0_1).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0]; show (i 0).val / 512 * 512 ≤ _ ∧ _ < (i 0).val / 512 * 512 + 512; omega
    | ⟨1, _⟩ => show win0_6.index t (1 : Fin 2) * 1024 ≤ (i 1).val ∧ (i 1).val < win0_6.index t (1 : Fin 2) * 1024 + 1024; rw [e1]; omega

/-! The gradient of the gain. -/

/-- What the `j`-th of the positions that leave remainder `r` contributes. -/
abbrev tm (r : Fin 8) (d : Fin 1024) (j : ℕ) : EReal := dgTerm (U m c) (W m c) (X m c) d ⟨(8 * j + r.val) % 8192, Nat.mod_lt _ (by decide)⟩

/-- A point over what the points before left. -/
theorem step (t : Fin cfg0.N) (s : Vec Ideal S8x1024 .f32) (r : Fin 8) (d : Fin 1024) (h : s (ix2 r d) = ∑ j ∈ Finset.range (64 * t.val), tm m c r d j) :
    k0_pay2 (F := Ideal) (k0_pay3 (iblk m c 0 t) (iblk m c 1 t)) (k0_pay5 (iblk m c 2 t)) s (ix2 r d) = ∑ j ∈ Finset.range (64 * (t.val + 1)), tm m c r d j := by
  refine (Cert.UpDxIdeal.Mlp.gain_apply _ _ _ r d).trans ?_
  rw [h, Nat.mul_add, Nat.mul_one, Finset.sum_range_add, Finset.sum_range (n := 64)]
  refine congrArg _ (Finset.sum_congr rfl fun j _ => ?_)
  rw [back_apply, unit_apply]
  simp only [in0, in1, in2]
  have e : at_ t.val ⟨j.val * 8 + r.val, by have := j.isLt; have := r.isLt; omega⟩ = ⟨(8 * (64 * t.val + j.val) + r.val) % 8192, Nat.mod_lt _ (by decide)⟩ := Fin.ext (by show (512 * t.val + (j.val * 8 + r.val)) % 8192 = _; dsimp only; congr 1; omega)
  rw [e]
  rfl

/-- What the sum's block holds after a point. -/
theorem left_dg (r : Fin 8) (d : Fin 1024) : ∀ (p : ℕ) (h : p < cfg0.N), (outsAt0 m c p h).2.2 (ix2 r d) = ∑ j ∈ Finset.range (64 * (p + 1)), tm m c r d j
  | 0, h => by
    rw [outsAt0_A m c ⟨0, h⟩ rfl]
    dsimp only
    rw [dg_A]
    exact step m c ⟨0, h⟩ _ r d ((Cert.UpDxIdeal.Mlp.zero_apply r d).trans (Finset.sum_range_zero _).symm)
  | p + 1, h => by
    have hN := lt_of_lt_of_eq h N_0
    rw [outsAt0_B m c ⟨p + 1, h⟩ (by dsimp only; omega)]
    dsimp only
    rw [dg_B]
    exact step m c ⟨p + 1, h⟩ _ r d (left_dg r d p (Nat.lt_of_succ_lt h))

/-- The sums, one for each remainder. -/
def Dg8 : Buf (Elt Ideal) ((c : Thread nD τ).loc main_v0_2) := fun i : S8x1024.Idx => (∑ j ∈ Finset.range 1024, tm m c (i 0) (i 1) j : EReal)
/-- The whole third result. -/
def Dg : Buf (Elt Ideal) ((c : Thread nD τ).loc main_v1) := fun i : S1024.Idx => (∑ i', dgTerm (U m c) (W m c) (X m c) (i 0) i' : EReal)

theorem final_dg : (dats m 0 c).arrAt 7 cfg0.N = Dg8 m c :=
  (dats m 0 c).arrAt_eq_of_cover 7 (Dg8 m c) (fun t hf => by
    have hN := lt_of_lt_of_eq t.isLt N_0
    have ht : t.val = 15 := by have := (flush0_7 t).mp hf; omega
    show (cfg0.win 7).cut (grid0.coords t) ((dats m 0 c).after 7 t) = _
    rw [after0_7]
    funext y
    obtain ⟨⟨r, d⟩, rfl⟩ : ∃ a : Fin 8 × Fin 1024, y = ix2 a.1 a.2 := ⟨(y 0, y 1), eq_ix2 y⟩
    refine (left_dg m c r d t.val t.isLt).trans ?_
    rw [ht]
    obtain ⟨e0, e1⟩ := (idx_in t).2.2.2.2.2.2.2
    refine congrArg (Dg8 m c) (a₁ := ix2 r d) (funext fun a => Fin.ext ?_)
    match a with
    | ⟨0, _⟩ => show r.val = win0_7.index t (0 : Fin 2) * 8 + 1 * r.val; rw [e0]; omega
    | ⟨1, _⟩ => show d.val = win0_7.index t (1 : Fin 2) * 1024 + 1 * d.val; rw [e1]; omega) fun i => by
    have h0 : (i 0).val < 8 := (i 0).isLt
    have h1 : (i 1).val < 1024 := (i 1).isLt
    have hN : cfg0.N = 16 := N_0
    let t : Fin cfg0.N := ⟨15, by rw [hN]; omega⟩
    obtain ⟨e0, e1⟩ := (idx_in t).2.2.2.2.2.2.2
    refine ⟨t, (flush0_7 t).mpr rfl, ?_⟩
    show i ∈ ((View.whole main_v0_2).slice (win0_7.rect t)).set
    rw [View.set_slice_whole, Rect.mem_set_unit]
    intro a
    match a with
    | ⟨0, _⟩ => show win0_7.index t (0 : Fin 2) * 8 ≤ (i 0).val ∧ (i 0).val < win0_7.index t (0 : Fin 2) * 8 + 8; rw [e0]; omega
    | ⟨1, _⟩ => show win0_7.index t (1 : Fin 2) * 1024 ≤ (i 1).val ∧ (i 1).val < win0_7.index t (1 : Fin 2) * 1024 + 1024; rw [e1]; omega

theorem fold_eq : Cert.UpDxIdeal.Mlp.fold (Dg8 m c) = Dg m c := by
  funext i
  obtain ⟨d, rfl⟩ : ∃ d : Fin 1024, i = ix1 d := ⟨i 0, eq_ix1 i⟩
  rw [Cert.UpDxIdeal.Mlp.fold_apply]
  refine Eq.trans (Finset.sum_congr rfl fun r _ => ?_) (sum_by_eight (dgTerm (U m c) (W m c) (X m c) d))
  refine (Finset.sum_range (fun j => tm m c r d j)).trans (Finset.sum_congr rfl fun j _ => ?_)
  have hj := j.isLt
  have hr := r.isLt
  exact congrArg (dgTerm (U m c) (W m c) (X m c) d) (Fin.ext (Nat.mod_eq_of_lt (by omega)))

/-- What the third result holds: the sum of what the kernel left. -/
theorem tail_eq : Pipeline.afterTail₀ cfgs (dats m) 0 (V0 m) [hostOps1] c main_v1 = Dg m c := by
  have e : Pipeline.afterTail₀ cfgs (dats m) 0 (V0 m) [hostOps1] c main_v1 = Cert.UpDxIdeal.Mlp.fold ((dats m 0 c).arrAt 7 cfg0.N) := by
    unfold Pipeline.afterTail₀
    simp only [List.flatten_cons, List.flatten_nil, List.append_nil]
    after_results_simp
    exact congrArg Cert.UpDxIdeal.Mlp.fold (Pipeline.withArrays_arr (cfgs 0).spec (by decide) c (V0 m c) (fun w => (dats m 0 c).arrAt w (cfgs 0).N) 7)
  rw [e, final_dg, fold_eq]

/-- The run: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = D m c
      ∧ r.2.mem ((c : Thread nD τ).loc main_v0_1) = D16 m c
      ∧ r.2.mem ((c : Thread nD τ).loc main_v1) = Dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_dx m c), ((h c).1 6).trans (final_dx16 m c),
      ((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)
end
end Cert.UpDx0Ideal.Mlp

namespace Cert.UpDx0RefIdeal.Mlp
open Cert.UpDx0RefIdeal Cert.UpDx0RefIdeal.Gen Cert.Mlp Idealize.ShloMosaic Idealize.ShloMosaic.TcCoe Idealize.SL.Sem
variable (u : FVec Ideal S8192x4096 .bf16) (w : FVec Ideal S2x1024x4096 .bf16) (x : FVec Ideal S8192x1024 .f32) (g : FVec Ideal S1x1024 .f32) (y : FVec Ideal S8192x1024 .f32)

/-- The gradient of the norm's result. -/
def dh : FVec Ideal S8192x1024 .f32 :=
  Host.dotGeneral dot_S8192x4096_S1024x4096_S8192x1024_1_1_0_0_n_n none (extf .f32 u bitsLt_bf16_f32) (shapeCast _ (extractStridedSlice S1x1024x4096 ![0, 0, 0] (extf .f32 w bitsLt_bf16_f32) slices_S2x1024x4096_S1x1024x4096_0_0_0) shapeCasts_S1x1024x4096_S1024x4096)

theorem dh_apply (i : Fin 8192) (d : Fin 1024) : dh u w (ix2 i d) = Cert.UpDx0Ideal.Mlp.back u w i d := by
  unfold dh
  pointwise
  rfl

theorem res_eq (hu : ∀ i, ∃ r : ℝ, u i = r) (hw : ∀ i, ∃ r : ℝ, w i = r) (hx : ∀ i, ∃ r : ℝ, x i = r) (hg : ∀ i, ∃ r : ℝ, g i = r) (i : Fin 8192) (d : Fin 1024) :
    Cert.UpDxRefIdeal.Mlp.res x g y (dh u w) (ix2 i d) = Cert.UpDx0Ideal.Mlp.dx u w x g y i d := by
  refine (Cert.UpDxRefIdeal.Mlp.res_apply x g y (dh u w) (fun i d => ?_) hx hg i d).trans ?_
  · rw [dh_apply]
    exact product_real _ _ (fun k => hu _) (fun k => hw _)
  · simp only [dh_apply]
    rfl

theorem gain_eq (d : Fin 1024) : Cert.UpDxRefIdeal.Mlp.gain x (dh u w) (ix1 d) = ∑ i, Cert.UpDx0Ideal.Mlp.dgTerm u w x d i := by
  rw [Cert.UpDxRefIdeal.Mlp.gain_apply]
  simp only [dh_apply]
  rfl
end Cert.UpDx0RefIdeal.Mlp

namespace Cert.UpDx0Ideal.Mlp
open Idealize.ShloMosaic Idealize.ShloMosaic.TcCoe Idealize.SL.Sem Cert.UpDx0Ideal

section
local instance : Cert.Pre_up_finite.Facts := Cert.UpDxIdeal.Mlp.finite_facts

/-- Under the precondition the arguments the norm's derivative is taken with are real. -/
theorem args_real (m : (ℓ : Loc nD τ sig) → Buf (Elt Ideal) ℓ) (h : Cert.Pre_UpDx0Ideal_up_finite m) (c : Dev nD) :
    (∀ i, ∃ r : ℝ, U m c i = r) ∧ (∀ i, ∃ r : ℝ, W m c i = r) ∧ (∀ i, ∃ r : ℝ, X m c i = r) ∧ (∀ i, ∃ r : ℝ, G m c i = r) :=
  ⟨Cert.UpDxIdeal.Mlp.fin_u _ (h c).1, Cert.UpDxIdeal.Mlp.fin_w _ (h c).2.1, Cert.UpDxIdeal.Mlp.fin_x _ (h c).2.2.1, Cert.UpDxIdeal.Mlp.fin_g _ (h c).2.2.2⟩
end

/-- The kernel's gradients are the reference's. -/
theorem equal : Cert.algebraic_UpDx0Ideal_UpDx0RefIdeal_pre_up_finite (hPre_up_finite := Cert.UpDxIdeal.Mlp.finite_facts) := by
  intro m g m' g' hpre hargs
  refine ⟨fun c => D m c, fun c => D16 m c, fun c => Dg m c, run m g, ?_⟩
  refine (θ_run _ _ _).mono (fun r h c => ?_) (Cert.UpDx0RefIdeal.Value.run (F := Ideal) m' g')
  obtain ⟨a0, a1, a2, a3, a4⟩ := hargs c
  obtain ⟨hu, hw, hx, hg⟩ := args_real m hpre c
  refine ⟨(h c).1.trans ?_, (h c).2.1.trans ?_, (h c).2.2.1.trans ?_, (h c).2.2.2⟩
  · unfold Cert.UpDx0RefIdeal.Value.res_main_v43
    rw [a0, a1, a2, a3, a4]
    funext i
    obtain ⟨⟨x, d⟩, rfl⟩ : ∃ a : Fin 8192 × Fin 1024, i = ix2 a.1 a.2 := ⟨(i 0, i 1), eq_ix2 i⟩
    exact Cert.UpDx0RefIdeal.Mlp.res_eq (U m c) (W m c) (X m c) (G m c) (Y m c) hu hw hx hg x d
  · unfold Cert.UpDx0RefIdeal.Value.res_main_v45
    rw [a0, a1, a2, a3, a4]
    funext i
    obtain ⟨⟨x, d⟩, rfl⟩ : ∃ a : Fin 8192 × Fin 1024, i = ix2 a.1 a.2 := ⟨(i 0, i 1), eq_ix2 i⟩
    exact Cert.UpDx0RefIdeal.Mlp.res_eq (U m c) (W m c) (X m c) (G m c) (Y m c) hu hw hx hg x d
  · rw [a0, a1, a2]
    funext i
    obtain ⟨d, rfl⟩ : ∃ d : Fin 1024, i = ix1 d := ⟨i 0, eq_ix1 i⟩
    exact Cert.UpDx0RefIdeal.Mlp.gain_eq (U m c) (W m c) (X m c) d

/-- The kernel before idealization is the same text: the same bodies, the same program. -/
theorem defs_eq : Cert.UpDx0.defs (F := Bits) = Cert.UpDx0Ideal.defs (F := Bits) := by
  refine congrArg (Pipeline.defs _) ?_
  unfold Cert.UpDx0.defs₀ Cert.UpDx0Ideal.defs₀
  refine congrArg Defs.onTc (funext fun l => funext fun x => ?_)
  match l, x with
  | 0, (t, s) => rfl

/-- Its run, in machine arithmetic, is this one. -/
theorem frame_kernel : Cert.quiescent_UpDx0 := by
  intro m ρ _
  have h := Cert.UpDx0Ideal.Gen.frame (F := Bits) m ρ
  rw [← defs_eq] at h
  exact h

/-- The reference runs, leaves its arguments unchanged and has no counter. -/
theorem frame_reference : Cert.quiescent_UpDx0RefIdeal := fun m ρ _ =>
  (θ_run _ _ _).mono (fun r h => ⟨fun c => (h c).2.2.2, Idealize.ShloMosaic.sem_eq_zero_of_no_sems (by decide) r.2⟩)
    (Cert.UpDx0RefIdeal.Value.run (F := Ideal) m ρ)
end Cert.UpDx0Ideal.Mlp
-- ==== Proof.Mlp.Up1.lean ====
/-
  The MLP's hidden values in layer 1: the kernel normalizes a block of rows, keeps it, scales it by the gain and
  multiplies it by the first weights; that is "norm, then multiply by the weights".
-/
module
public import proofs.«01_k».proof.Proof.Mlp.Norm
public import proofs.«01_k».proof.Proof.Gen.Up1
public import proofs.«01_k».proof.Proof.Gen.Up1Ideal.Value
public import proofs.«01_k».proof.Proof.Gen.Up1RefIdeal.Run
public import Idealize.ShloMosaic.Lib.Pointwise
public import Idealize.ShloMosaic.Lib.Quiescent
@[expose] public section
set_option maxRecDepth 16384
noncomputable section
namespace Cert.Up1Ideal.Mlp
open Cert.Up1Ideal Cert.Up1Ideal.Gen Cert.Mlp Idealize.ShloMosaic Idealize.ShloMosaic.TcCoe Idealize.SL.Sem

/-- The norm's result at entry `d` of position `i`. -/
def h (x : Vec Ideal S8192x1024 .f32) (g : Vec Ideal S1x1024 .f32) (i : Fin 8192) (d : Fin 1024) : EReal :=
  x (ix2 i d) * (invRms fun k => x (ix2 i k)) * g (ix2 0 d)

/-- Hidden value `f` of position `i`. -/
def u (x : Vec Ideal S8192x1024 .f32) (g : Vec Ideal S1x1024 .f32) (w : Vec Ideal S2x1024x4096 .bf16) (i : Fin 8192) (f : Fin 4096) : EReal :=
  ∑ d : Fin 1024, h x g i d * w (ix3 1 d f)

theorem hz : (![0, 0] : Fin 2 → Nat) = fun _ => 0 := funext fun a => by fin_cases a <;> rfl
theorem hz3 : (![0, 0, 0] : Fin 3 → Nat) = fun _ => 0 := funext fun a => by fin_cases a <;> rfl

/-! What the body computes, at an index. -/

theorem norm_apply (x : Vec Ideal S512x1024 .f32) (g : Vec Ideal S1x1024 .f32) (r : Fin 512) (d : Fin 1024) :
    k0_pay1 (F := Ideal) x g (ix2 r d) = x (ix2 r d) * (invRms fun k => x (ix2 r k)) * g (ix2 0 d) := by
  unfold_payloads
  pointwise
  rfl

theorem kept_apply (x : Vec Ideal S512x1024 .f32) (g : Vec Ideal S1x1024 .f32) (r : Fin 512) (d : Fin 1024) :
    k0_pay2 (F := Ideal) x g (ix2 r d) = x (ix2 r d) * (invRms fun k => x (ix2 r k)) * g (ix2 0 d) := by
  unfold k0_pay2
  pointwise
  exact norm_apply x g r d

theorem product_apply (a : Vec Ideal S512x1024 .bf16) (w : Vec Ideal S1x1024x4096 .bf16) (r : Fin 512) (f : Fin 4096) :
    k0_pay3 (F := Ideal) a w (ix2 r f) = ∑ d : Fin 1024, a (ix2 r d) * w (ix3 0 d f) := by
  unfold_payloads
  pointwise

section
variable (c : Dev nD) (i : grid0.Coords) (a2 : Memref sig .tc .vmem S512x1024 .f32) (h2 : a2.IsWhole) (a3 : Memref sig .tc .vmem S1x1024 .f32) (h3 : a3.IsWhole)
  (a4 : Memref sig .tc .vmem S1x1024x4096 .bf16) (h4 : a4.IsWhole) (a5 : Memref sig .tc .vmem S512x4096 .bf16) (h5 : a5.IsWhole)
  (a6 : Memref sig .tc .vmem S512x1024 .bf16) (h6 : a6.IsWhole) (a7 : Memref sig .tc .vmem S512x1024 .bf16) (h7 : a7.IsWhole) (c0 : cond0_0 i)
  (x0 : Vec Ideal S512x1024 .f32) (x1 : Vec Ideal S1x1024 .f32) (x2 : Vec Ideal S1x1024x4096 .bf16)

/-- A point multiplies the block it has just kept. -/
theorem u_A : out0_A_3 (F := Ideal) c i a2 h2 a3 h3 a4 h4 a5 h5 a6 h6 a7 h7 c0 x0 x1 x2 = k0_pay3 (k0_pay2 x0 x1) x2 := by
  unfold out0_A_3
  rw [View.read_writes_eq_canon _ _ _ (cover0_A_3 c i a2 h2 a3 h3 a4 h4 a5 h5 a6 h6 a7 h7 c0 x0 x1 x2)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz, View.ld_unit_zero (S := S1x1024) hz, View.ld_unit_zero (S := S1x1024x4096) hz3]

theorem h_A : out0_A_4 (F := Ideal) c i a2 h2 a3 h3 a4 h4 a5 h5 a6 h6 a7 h7 c0 x0 x1 x2 = k0_pay1 x0 x1 := by
  unfold out0_A_4
  rw [View.read_writes_eq_canon _ _ _ (cover0_A_4 c i a2 h2 a3 h3 a4 h4 a5 h5 a6 h6 a7 h7 c0 x0 x1 x2)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz]
end

section
variable (m : (ℓ : Loc nD τ sig) → Buf (Elt Ideal) ℓ) (c : Dev nD) (t : Fin cfg0.N)

/-- The row of the whole array that row `r` of point `n`'s block is. -/
abbrev at_ (n : ℕ) (r : Fin 512) : Fin 8192 := ⟨(512 * n + r.val) % 8192, Nat.mod_lt _ (by decide)⟩

abbrev X : Vec Ideal S8192x1024 .f32 := m ((c : Thread nD τ).loc main_arg0)
abbrev G : Vec Ideal S1x1024 .f32 := m ((c : Thread nD τ).loc main_arg1)
abbrev W : Vec Ideal S2x1024x4096 .bf16 := m ((c : Thread nD τ).loc main_arg2)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 1 ∧ win0_2.index t (1 : Fin 3) = 0 ∧ win0_2.index t (2 : Fin 3) = 0)
    ∧ (win0_3.index t (0 : Fin 2) = t.val ∧ win0_3.index t (1 : Fin 2) = 0 ∧ win0_3.flush t = true)
    ∧ (win0_4.index t (0 : Fin 2) = t.val ∧ win0_4.index t (1 : Fin 2) = 0 ∧ win0_4.flush t = true) :=
  (by decide +kernel : ∀ t : Fin grid0.N, _)

theorem in0 (r : Fin 512) (d : Fin 1024) : (iblk m c 0 t : Vec Ideal S512x1024 .f32) (ix2 r d) = X m c (ix2 (at_ t.val r) d) := by
  have hN := lt_of_lt_of_eq t.isLt N_0
  obtain ⟨e0, e1⟩ := (idx_in t).1
  refine congrArg (X m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1024 + 1 * d.val = d.val; rw [e1]; omega

theorem in1 (d : Fin 1024) : (iblk m c 1 t : Vec Ideal S1x1024 .f32) (ix2 0 d) = G m c (ix2 0 d) := by
  obtain ⟨e0, e1⟩ := (idx_in t).2.1
  refine congrArg (G m c) (funext fun a => Fin.ext ?_)
  match a with
  | ⟨0, _⟩ => show win0_1.index t (0 : Fin 2) * 1 + 1 * 0 = 0; rw [e0]
  | ⟨1, _⟩ => show win0_1.index t (1 : Fin 2) * 1024 + 1 * d.val = d.val; rw [e1]; omega

theorem in2 (d : Fin 1024) (f : Fin 4096) : (iblk m c 2 t : Vec Ideal S1x1024x4096 .bf16) (ix3 0 d f) = W m c (ix3 1 d f) := by
  obtain ⟨e0, e1, e2⟩ := (idx_in t).2.2.1
  refine congrArg (W m c) (funext fun a => Fin.ext ?_)
  match a with
  | ⟨0, _⟩ => show win0_2.index t (0 : Fin 3) * 1 + 1 * 0 = 1; rw [e0]
  | ⟨1, _⟩ => show win0_2.index t (1 : Fin 3) * 1024 + 1 * d.val = d.val; rw [e1]; omega
  | ⟨2, _⟩ => show win0_2.index t (2 : Fin 3) * 4096 + 1 * f.val = f.val; rw [e2]; omega

/-- The whole first result. -/
def Hid : Buf (Elt Ideal) ((c : Thread nD τ).loc main_v0_0) := fun i : S8192x4096.Idx => u (X m c) (G m c) (W m c) (i 0) (i 1)
/-- The whole second result. -/
def Nrm : Buf (Elt Ideal) ((c : Thread nD τ).loc main_v0_1) := fun i : S8192x1024.Idx => h (X m c) (G m c) (i 0) (i 1)

theorem flushed_u : (dats m 0 c).flushed 3 t = ((cfg0.win 3).blk t).view.read (Elt Ideal) (Hid m c) := by
  rw [Value.flushed3_A, u_A]
  funext y
  obtain ⟨⟨r, f⟩, rfl⟩ : ∃ a : Fin 512 × Fin 4096, y = ix2 a.1 a.2 := ⟨(y 0, y 1), eq_ix2 y⟩
  have e : k0_pay3 (F := Ideal) (k0_pay2 (iblk m c 0 t) (iblk m c 1 t)) (iblk m c 2 t) (ix2 r f) = Hid m c (ix2 (at_ t.val r) f) := by
    rw [product_apply]
    simp only [kept_apply, in0, in1, in2]
    rfl
  refine e.trans ?_
  have hN := lt_of_lt_of_eq t.isLt N_0
  obtain ⟨e0, e1, -⟩ := (idx_in t).2.2.2.1
  refine congrArg (Hid m c) (a₁ := ix2 (at_ t.val r) f) (funext fun a => Fin.ext ?_)
  match a with
  | ⟨0, _⟩ => show (512 * t.val + r.val) % 8192 = win0_3.index t (0 : Fin 2) * 512 + 1 * r.val; rw [e0]; omega
  | ⟨1, _⟩ => show f.val = win0_3.index t (1 : Fin 2) * 4096 + 1 * f.val; rw [e1]; omega

theorem flushed_h : (dats m 0 c).flushed 4 t = ((cfg0.win 4).blk t).view.read (Elt Ideal) (Nrm m c) := by
  rw [Value.flushed4_A, h_A]
  funext y
  obtain ⟨⟨r, d⟩, rfl⟩ : ∃ a : Fin 512 × Fin 1024, y = ix2 a.1 a.2 := ⟨(y 0, y 1), eq_ix2 y⟩
  have e : k0_pay1 (F := Ideal) (iblk m c 0 t) (iblk m c 1 t) (ix2 r d) = Nrm m c (ix2 (at_ t.val r) d) := by
    rw [norm_apply]
    simp only [in0, in1]
    rfl
  refine e.trans ?_
  have hN := lt_of_lt_of_eq t.isLt N_0
  obtain ⟨e0, e1, -⟩ := (idx_in t).2.2.2.2
  refine congrArg (Nrm m c) (a₁ := ix2 (at_ t.val r) d) (funext fun a => Fin.ext ?_)
  match a with
  | ⟨0, _⟩ => show (512 * t.val + r.val) % 8192 = win0_4.index t (0 : Fin 2) * 512 + 1 * r.val; rw [e0]; omega
  | ⟨1, _⟩ => show d.val = win0_4.index t (1 : Fin 2) * 1024 + 1 * d.val; rw [e1]; omega

theorem final_u : (dats m 0 c).arrAt 3 cfg0.N = Hid m c :=
  (dats m 0 c).arrAt_eq_of_cover 3 (Hid m c) (fun t _ => flushed_u m c t) fun i => by
    have h0 : (i 0).val < 8192 := (i 0).isLt
    have h1 : (i 1).val < 4096 := (i 1).isLt
    have hN : cfg0.N = 16 := N_0
    let t : Fin cfg0.N := ⟨(i 0).val / 512, by rw [hN]; omega⟩
    obtain ⟨e0, e1, ef⟩ := (idx_in t).2.2.2.1
    refine ⟨t, ef, ?_⟩
    show i ∈ ((View.whole main_v0_0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; rw [e0]; show (i 0).val / 512 * 512 ≤ _ ∧ _ < (i 0).val / 512 * 512 + 512; omega
    | ⟨1, _⟩ => show win0_3.index t (1 : Fin 2) * 4096 ≤ (i 1).val ∧ (i 1).val < win0_3.index t (1 : Fin 2) * 4096 + 4096; rw [e1]; omega

theorem final_h : (dats m 0 c).arrAt 4 cfg0.N = Nrm m c :=
  (dats m 0 c).arrAt_eq_of_cover 4 (Nrm m c) (fun t _ => flushed_h m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1, ef⟩ := (idx_in t).2.2.2.2
    refine ⟨t, ef, ?_⟩
    show i ∈ ((View.whole main_v0_1).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; rw [e0]; show (i 0).val / 512 * 512 ≤ _ ∧ _ < (i 0).val / 512 * 512 + 512; omega
    | ⟨1, _⟩ => show win0_4.index t (1 : Fin 2) * 1024 ≤ (i 1).val ∧ (i 1).val < win0_4.index t (1 : Fin 2) * 1024 + 1024; rw [e1]; omega

/-- The run: the two results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = Hid m c
      ∧ r.2.mem ((c : Thread nD τ).loc main_v0_1) = Nrm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final_u m c), ((h c).2.1).trans (final_h m c), (h c).2.2⟩) (Value.run_blocks m ρ)
end
end Cert.Up1Ideal.Mlp

namespace Cert.Up1RefIdeal.Mlp
open Cert.Up1RefIdeal Cert.Up1RefIdeal.Gen Cert.Mlp Idealize.ShloMosaic Idealize.ShloMosaic.TcCoe Idealize.SL.Sem
variable (x : FVec Ideal S8192x1024 .f32) (g : FVec Ideal S1x1024 .f32) (w : FVec Ideal S2x1024x4096 .bf16)

/-! The reference's results as its operations compose them. -/

/-- The norm. -/
def norm : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 (broadcastInDim S1x1024 ![1] bcast_S1024_S1x1024_1 (shapeCast _ g shapeCasts_S1x1024_S1024)))
/-- The hidden values. -/
def res : FVec Ideal S8192x4096 .bf16 :=
  truncf .bf16 (Host.dotGeneral dot_S8192x1024_S1024x4096_S8192x4096_1_0_0_1_n_n none (norm x g) (shapeCast _ (extractStridedSlice S1x1024x4096 ![1, 0, 0] (extf .f32 w bitsLt_bf16_f32) slices_S2x1024x4096_S1x1024x4096_1_0_0) shapeCasts_S1x1024x4096_S1024x4096)) bitsLt_bf16_f32

theorem norm_apply (i : Fin 8192) (d : Fin 1024) : norm x g (ix2 i d) = Cert.Up1Ideal.Mlp.h x g i d := by
  unfold norm
  pointwise
  rfl

theorem res_apply (i : Fin 8192) (f : Fin 4096) : res x g w (ix2 i f) = Cert.Up1Ideal.Mlp.u x g w i f := by
  unfold res
  pointwise
  simp only [norm_apply]
  rfl
end Cert.Up1RefIdeal.Mlp

namespace Cert.Up1Ideal.Mlp
open Idealize.ShloMosaic Idealize.ShloMosaic.TcCoe Idealize.SL.Sem

/-- The kernel's hidden values and normalized rows are the reference's. -/
theorem equal : Cert.algebraic_Up1Ideal_Up1RefIdeal := by
  intro m g m' g' _ hargs
  refine ⟨fun c => Hid m c, fun c => Nrm m c, run m g, ?_⟩
  refine (θ_run _ _ _).mono (fun r h c => ⟨(h c).1.trans ?_, (h c).2.1.trans ?_, (h c).2.2⟩) (Cert.Up1RefIdeal.Value.run (F := Ideal) m' g')
  · obtain ⟨a0, a1, a2⟩ := hargs c
    rw [a0, a1, a2]
    funext i
    obtain ⟨⟨x, f⟩, rfl⟩ : ∃ a : Fin 8192 × Fin 4096, i = ix2 a.1 a.2 := ⟨(i 0, i 1), eq_ix2 i⟩
    exact Cert.Up1RefIdeal.Mlp.res_apply (X m c) (G m c) (W m c) x f
  · obtain ⟨a0, a1, -⟩ := hargs c
    rw [a0, a1]
    funext i
    obtain ⟨⟨x, d⟩, rfl⟩ : ∃ a : Fin 8192 × Fin 1024, i = ix2 a.1 a.2 := ⟨(i 0, i 1), eq_ix2 i⟩
    exact Cert.Up1RefIdeal.Mlp.norm_apply (X m c) (G m c) x d

/-- The kernel before idealization is the same text: the same bodies, the same program. -/
theorem defs_eq : Cert.Up1.defs (F := Bits) = Cert.Up1Ideal.defs (F := Bits) := by
  refine congrArg (Pipeline.defs _) ?_
  unfold Cert.Up1.defs₀ Cert.Up1Ideal.defs₀
  refine congrArg Defs.onTc (funext fun l => funext fun x => ?_)
  match l, x with
  | 0, (t, s) => rfl

/-- Its run, in machine arithmetic, is this one. -/
theorem frame_kernel : Cert.quiescent_Up1 := by
  intro m ρ _
  have h := Cert.Up1Ideal.Gen.frame (F := Bits) m ρ
  rw [← defs_eq] at h
  exact h

/-- The reference runs, leaves its arguments unchanged and has no counter. -/
theorem frame_reference : Cert.quiescent_Up1RefIdeal := fun m ρ _ =>
  (θ_run _ _ _).mono (fun r h => ⟨fun c => (h c).2.2, Idealize.ShloMosaic.sem_eq_zero_of_no_sems (by decide) r.2⟩)
    (Cert.Up1RefIdeal.Value.run (F := Ideal) m ρ)
end Cert.Up1Ideal.Mlp
-- ==== Proof.Mlp.Up0.lean ====
/-
  The MLP's hidden values in layer 0: the same body as layer 1's, over the other half of the stacked weights.
-/
module
public import proofs.«01_k».proof.Proof.Mlp.Up1
public import proofs.«01_k».proof.Proof.Gen.Up0
public import proofs.«01_k».proof.Proof.Gen.Up0Ideal.Value
public import proofs.«01_k».proof.Proof.Gen.Up0RefIdeal.Run
public import Idealize.ShloMosaic.Lib.Pointwise
public import Idealize.ShloMosaic.Lib.Quiescent
@[expose] public section
set_option maxRecDepth 16384
noncomputable section
namespace Cert.Up0Ideal.Mlp
open Cert.Up1Ideal.Mlp (h hz hz3)
open Cert.Up0Ideal Cert.Up0Ideal.Gen Cert.Mlp Idealize.ShloMosaic Idealize.ShloMosaic.TcCoe Idealize.SL.Sem

/-- Hidden value `f` of position `i`. -/
def u (x : Vec Ideal S8192x1024 .f32) (g : Vec Ideal S1x1024 .f32) (w : Vec Ideal S2x1024x4096 .bf16) (i : Fin 8192) (f : Fin 4096) : EReal :=
  ∑ d : Fin 1024, h x g i d * w (ix3 0 d f)

/-! What the body computes, at an index: what it computes in layer 1. -/

theorem norm_apply (x : Vec Ideal S512x1024 .f32) (g : Vec Ideal S1x1024 .f32) (r : Fin 512) (d : Fin 1024) :
    k0_pay1 (F := Ideal) x g (ix2 r d) = x (ix2 r d) * (invRms fun k => x (ix2 r k)) * g (ix2 0 d) :=
  Cert.Up1Ideal.Mlp.norm_apply x g r d

theorem kept_apply (x : Vec Ideal S512x1024 .f32) (g : Vec Ideal S1x1024 .f32) (r : Fin 512) (d : Fin 1024) :
    k0_pay2 (F := Ideal) x g (ix2 r d) = x (ix2 r d) * (invRms fun k => x (ix2 r k)) * g (ix2 0 d) :=
  Cert.Up1Ideal.Mlp.kept_apply x g r d

theorem product_apply (a : Vec Ideal S512x1024 .bf16) (w : Vec Ideal S1x1024x4096 .bf16) (r : Fin 512) (f : Fin 4096) :
    k0_pay3 (F := Ideal) a w (ix2 r f) = ∑ d : Fin 1024, a (ix2 r d) * w (ix3 0 d f) :=
  Cert.Up1Ideal.Mlp.product_apply a w r f

section
variable (c : Dev nD) (i : grid0.Coords) (a2 : Memref sig .tc .vmem S512x1024 .f32) (h2 : a2.IsWhole) (a3 : Memref sig .tc .vmem S1x1024 .f32) (h3 : a3.IsWhole)
  (a4 : Memref sig .tc .vmem S1x1024x4096 .bf16) (h4 : a4.IsWhole) (a5 : Memref sig .tc .vmem S512x4096 .bf16) (h5 : a5.IsWhole)
  (a6 : Memref sig .tc .vmem S512x1024 .bf16) (h6 : a6.IsWhole) (a7 : Memref sig .tc .vmem S512x1024 .bf16) (h7 : a7.IsWhole) (c0 : cond0_0 i)
  (x0 : Vec Ideal S512x1024 .f32) (x1 : Vec Ideal S1x1024 .f32) (x2 : Vec Ideal S1x1024x4096 .bf16)

/-- A point multiplies the block it has just kept. -/
theorem u_A : out0_A_3 (F := Ideal) c i a2 h2 a3 h3 a4 h4 a5 h5 a6 h6 a7 h7 c0 x0 x1 x2 = k0_pay3 (k0_pay2 x0 x1) x2 := by
  unfold out0_A_3
  rw [View.read_writes_eq_canon _ _ _ (cover0_A_3 c i a2 h2 a3 h3 a4 h4 a5 h5 a6 h6 a7 h7 c0 x0 x1 x2)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz, View.ld_unit_zero (S := S1x1024) hz, View.ld_unit_zero (S := S1x1024x4096) hz3]

theorem h_A : out0_A_4 (F := Ideal) c i a2 h2 a3 h3 a4 h4 a5 h5 a6 h6 a7 h7 c0 x0 x1 x2 = k0_pay1 x0 x1 := by
  unfold out0_A_4
  rw [View.read_writes_eq_canon _ _ _ (cover0_A_4 c i a2 h2 a3 h3 a4 h4 a5 h5 a6 h6 a7 h7 c0 x0 x1 x2)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz]
end

section
variable (m : (ℓ : Loc nD τ sig) → Buf (Elt Ideal) ℓ) (c : Dev nD) (t : Fin cfg0.N)

/-- The row of the whole array that row `r` of point `n`'s block is. -/
abbrev at_ (n : ℕ) (r : Fin 512) : Fin 8192 := ⟨(512 * n + r.val) % 8192, Nat.mod_lt _ (by decide)⟩

abbrev X : Vec Ideal S8192x1024 .f32 := m ((c : Thread nD τ).loc main_arg0)
abbrev G : Vec Ideal S1x1024 .f32 := m ((c : Thread nD τ).loc main_arg1)
abbrev W : Vec Ideal S2x1024x4096 .bf16 := m ((c : Thread nD τ).loc main_arg2)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0 ∧ win0_3.flush t = true)
    ∧ (win0_4.index t (0 : Fin 2) = t.val ∧ win0_4.index t (1 : Fin 2) = 0 ∧ win0_4.flush t = true) :=
  (by decide +kernel : ∀ t : Fin grid0.N, _)

theorem in0 (r : Fin 512) (d : Fin 1024) : (iblk m c 0 t : Vec Ideal S512x1024 .f32) (ix2 r d) = X m c (ix2 (at_ t.val r) d) := by
  have hN := lt_of_lt_of_eq t.isLt N_0
  obtain ⟨e0, e1⟩ := (idx_in t).1
  refine congrArg (X m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1024 + 1 * d.val = d.val; rw [e1]; omega

theorem in1 (d : Fin 1024) : (iblk m c 1 t : Vec Ideal S1x1024 .f32) (ix2 0 d) = G m c (ix2 0 d) := by
  obtain ⟨e0, e1⟩ := (idx_in t).2.1
  refine congrArg (G m c) (funext fun a => Fin.ext ?_)
  match a with
  | ⟨0, _⟩ => show win0_1.index t (0 : Fin 2) * 1 + 1 * 0 = 0; rw [e0]
  | ⟨1, _⟩ => show win0_1.index t (1 : Fin 2) * 1024 + 1 * d.val = d.val; rw [e1]; omega

theorem in2 (d : Fin 1024) (f : Fin 4096) : (iblk m c 2 t : Vec Ideal S1x1024x4096 .bf16) (ix3 0 d f) = W m c (ix3 0 d f) := by
  obtain ⟨e0, e1, e2⟩ := (idx_in t).2.2.1
  refine congrArg (W m c) (funext fun a => Fin.ext ?_)
  match a with
  | ⟨0, _⟩ => show win0_2.index t (0 : Fin 3) * 1 + 1 * 0 = 0; rw [e0]
  | ⟨1, _⟩ => show win0_2.index t (1 : Fin 3) * 1024 + 1 * d.val = d.val; rw [e1]; omega
  | ⟨2, _⟩ => show win0_2.index t (2 : Fin 3) * 4096 + 1 * f.val = f.val; rw [e2]; omega

/-- The whole first result. -/
def Hid : Buf (Elt Ideal) ((c : Thread nD τ).loc main_v0_0) := fun i : S8192x4096.Idx => u (X m c) (G m c) (W m c) (i 0) (i 1)
/-- The whole second result. -/
def Nrm : Buf (Elt Ideal) ((c : Thread nD τ).loc main_v0_1) := fun i : S8192x1024.Idx => h (X m c) (G m c) (i 0) (i 1)

theorem flushed_u : (dats m 0 c).flushed 3 t = ((cfg0.win 3).blk t).view.read (Elt Ideal) (Hid m c) := by
  rw [Value.flushed3_A, u_A]
  funext y
  obtain ⟨⟨r, f⟩, rfl⟩ : ∃ a : Fin 512 × Fin 4096, y = ix2 a.1 a.2 := ⟨(y 0, y 1), eq_ix2 y⟩
  have e : k0_pay3 (F := Ideal) (k0_pay2 (iblk m c 0 t) (iblk m c 1 t)) (iblk m c 2 t) (ix2 r f) = Hid m c (ix2 (at_ t.val r) f) := by
    rw [product_apply]
    simp only [kept_apply, in0, in1, in2]
    rfl
  refine e.trans ?_
  have hN := lt_of_lt_of_eq t.isLt N_0
  obtain ⟨e0, e1, -⟩ := (idx_in t).2.2.2.1
  refine congrArg (Hid m c) (a₁ := ix2 (at_ t.val r) f) (funext fun a => Fin.ext ?_)
  match a with
  | ⟨0, _⟩ => show (512 * t.val + r.val) % 8192 = win0_3.index t (0 : Fin 2) * 512 + 1 * r.val; rw [e0]; omega
  | ⟨1, _⟩ => show f.val = win0_3.index t (1 : Fin 2) * 4096 + 1 * f.val; rw [e1]; omega

theorem flushed_h : (dats m 0 c).flushed 4 t = ((cfg0.win 4).blk t).view.read (Elt Ideal) (Nrm m c) := by
  rw [Value.flushed4_A, h_A]
  funext y
  obtain ⟨⟨r, d⟩, rfl⟩ : ∃ a : Fin 512 × Fin 1024, y = ix2 a.1 a.2 := ⟨(y 0, y 1), eq_ix2 y⟩
  have e : k0_pay1 (F := Ideal) (iblk m c 0 t) (iblk m c 1 t) (ix2 r d) = Nrm m c (ix2 (at_ t.val r) d) := by
    rw [norm_apply]
    simp only [in0, in1]
    rfl
  refine e.trans ?_
  have hN := lt_of_lt_of_eq t.isLt N_0
  obtain ⟨e0, e1, -⟩ := (idx_in t).2.2.2.2
  refine congrArg (Nrm m c) (a₁ := ix2 (at_ t.val r) d) (funext fun a => Fin.ext ?_)
  match a with
  | ⟨0, _⟩ => show (512 * t.val + r.val) % 8192 = win0_4.index t (0 : Fin 2) * 512 + 1 * r.val; rw [e0]; omega
  | ⟨1, _⟩ => show d.val = win0_4.index t (1 : Fin 2) * 1024 + 1 * d.val; rw [e1]; omega

theorem final_u : (dats m 0 c).arrAt 3 cfg0.N = Hid m c :=
  (dats m 0 c).arrAt_eq_of_cover 3 (Hid m c) (fun t _ => flushed_u m c t) fun i => by
    have h0 : (i 0).val < 8192 := (i 0).isLt
    have h1 : (i 1).val < 4096 := (i 1).isLt
    have hN : cfg0.N = 16 := N_0
    let t : Fin cfg0.N := ⟨(i 0).val / 512, by rw [hN]; omega⟩
    obtain ⟨e0, e1, ef⟩ := (idx_in t).2.2.2.1
    refine ⟨t, ef, ?_⟩
    show i ∈ ((View.whole main_v0_0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; rw [e0]; show (i 0).val / 512 * 512 ≤ _ ∧ _ < (i 0).val / 512 * 512 + 512; omega
    | ⟨1, _⟩ => show win0_3.index t (1 : Fin 2) * 4096 ≤ (i 1).val ∧ (i 1).val < win0_3.index t (1 : Fin 2) * 4096 + 4096; rw [e1]; omega

theorem final_h : (dats m 0 c).arrAt 4 cfg0.N = Nrm m c :=
  (dats m 0 c).arrAt_eq_of_cover 4 (Nrm m c) (fun t _ => flushed_h m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1, ef⟩ := (idx_in t).2.2.2.2
    refine ⟨t, ef, ?_⟩
    show i ∈ ((View.whole main_v0_1).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; rw [e0]; show (i 0).val / 512 * 512 ≤ _ ∧ _ < (i 0).val / 512 * 512 + 512; omega
    | ⟨1, _⟩ => show win0_4.index t (1 : Fin 2) * 1024 ≤ (i 1).val ∧ (i 1).val < win0_4.index t (1 : Fin 2) * 1024 + 1024; rw [e1]; omega

/-- The run: the two results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = Hid m c
      ∧ r.2.mem ((c : Thread nD τ).loc main_v0_1) = Nrm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final_u m c), ((h c).2.1).trans (final_h m c), (h c).2.2⟩) (Value.run_blocks m ρ)
end
end Cert.Up0Ideal.Mlp

namespace Cert.Up0RefIdeal.Mlp
open Cert.Up0RefIdeal Cert.Up0RefIdeal.Gen Cert.Mlp Idealize.ShloMosaic Idealize.ShloMosaic.TcCoe Idealize.SL.Sem
variable (x : FVec Ideal S8192x1024 .f32) (g : FVec Ideal S1x1024 .f32) (w : FVec Ideal S2x1024x4096 .bf16)

/-! The reference's first result as its operations compose it; its second is layer 1's. -/

/-- The hidden values. -/
def res : FVec Ideal S8192x4096 .bf16 :=
  truncf .bf16 (Host.dotGeneral dot_S8192x1024_S1024x4096_S8192x4096_1_0_0_1_n_n none (Cert.Up1RefIdeal.Mlp.norm x g) (shapeCast _ (extractStridedSlice S1x1024x4096 ![0, 0, 0] (extf .f32 w bitsLt_bf16_f32) slices_S2x1024x4096_S1x1024x4096_0_0_0) shapeCasts_S1x1024x4096_S1024x4096)) bitsLt_bf16_f32

theorem res_apply (i : Fin 8192) (f : Fin 4096) : res x g w (ix2 i f) = Cert.Up0Ideal.Mlp.u x g w i f := by
  unfold res
  pointwise
  simp only [Cert.Up1RefIdeal.Mlp.norm_apply]
  rfl
end Cert.Up0RefIdeal.Mlp

namespace Cert.Up0Ideal.Mlp
open Idealize.ShloMosaic Idealize.ShloMosaic.TcCoe Idealize.SL.Sem

/-- The kernel's hidden values and normalized rows are the reference's. -/
theorem equal : Cert.algebraic_Up0Ideal_Up0RefIdeal := by
  intro m g m' g' _ hargs
  refine ⟨fun c => Hid m c, fun c => Nrm m c, run m g, ?_⟩
  refine (θ_run _ _ _).mono (fun r h c => ⟨(h c).1.trans ?_, (h c).2.1.trans ?_, (h c).2.2⟩) (Cert.Up0RefIdeal.Value.run (F := Ideal) m' g')
  · obtain ⟨a0, a1, a2⟩ := hargs c
    rw [a0, a1, a2]
    funext i
    obtain ⟨⟨x, f⟩, rfl⟩ : ∃ a : Fin 8192 × Fin 4096, i = ix2 a.1 a.2 := ⟨(i 0, i 1), eq_ix2 i⟩
    exact Cert.Up0RefIdeal.Mlp.res_apply (X m c) (G m c) (W m c) x f
  · obtain ⟨a0, a1, -⟩ := hargs c
    rw [a0, a1]
    funext i
    obtain ⟨⟨x, d⟩, rfl⟩ : ∃ a : Fin 8192 × Fin 1024, i = ix2 a.1 a.2 := ⟨(i 0, i 1), eq_ix2 i⟩
    exact Cert.Up1RefIdeal.Mlp.norm_apply (X m c) (G m c) x d

/-- The kernel before idealization is the same text: the same bodies, the same program. -/
theorem defs_eq : Cert.Up0.defs (F := Bits) = Cert.Up0Ideal.defs (F := Bits) := by
  refine congrArg (Pipeline.defs _) ?_
  unfold Cert.Up0.defs₀ Cert.Up0Ideal.defs₀
  refine congrArg Defs.onTc (funext fun l => funext fun x => ?_)
  match l, x with
  | 0, (t, s) => rfl

/-- Its run, in machine arithmetic, is this one. -/
theorem frame_kernel : Cert.quiescent_Up0 := by
  intro m ρ _
  have h := Cert.Up0Ideal.Gen.frame (F := Bits) m ρ
  rw [← defs_eq] at h
  exact h

/-- The reference runs, leaves its arguments unchanged and has no counter. -/
theorem frame_reference : Cert.quiescent_Up0RefIdeal := fun m ρ _ =>
  (θ_run _ _ _).mono (fun r h => ⟨fun c => (h c).2.2, Idealize.ShloMosaic.sem_eq_zero_of_no_sems (by decide) r.2⟩)
    (Cert.Up0RefIdeal.Value.run (F := Ideal) m ρ)
end Cert.Up0Ideal.Mlp
-- ==== Proof.Mlp.Down0.lean ====
/-
  The output of the MLP in layer 0: the kernel adds to the residual, block of rows by block of rows, the squares of the
  positive parts of the hidden values multiplied by the second weights, as the reference does.
-/
module
public import proofs.«01_k».proof.Defs
public import proofs.«01_k».proof.Proof.Gen.Down0
public import proofs.«01_k».proof.Proof.Gen.Down0Ideal.Value
public import proofs.«01_k».proof.Proof.Gen.Down0RefIdeal.Run
public import Idealize.ShloMosaic.Lib.Pointwise
public import Idealize.ShloMosaic.Lib.Quiescent
@[expose] public section
set_option maxRecDepth 16384
noncomputable section
namespace Cert.Down0Ideal.Mlp
open Cert.Down0Ideal Cert.Down0Ideal.Gen Idealize.ShloMosaic Idealize.ShloMosaic.TcCoe Idealize.SL.Sem

/-- Entry `d` of the output at position `i`. -/
def out (u : Vec Ideal S8192x4096 .bf16) (w : Vec Ideal S2x4096x1024 .bf16) (x : Vec Ideal S8192x1024 .f32) (i : Fin 8192) (d : Fin 1024) : EReal :=
  x (ix2 i d) + ∑ f : Fin 4096, max (u (ix2 i f)) 0 * max (u (ix2 i f)) 0 * w (ix3 0 f d)

/-- What the body stores, at an index. -/
theorem pay_apply (x : Vec Ideal S1024x1024 .f32) (u : Vec Ideal S1024x4096 .bf16) (w : Vec Ideal S1x4096x1024 .bf16) (r : Fin 1024) (d : Fin 1024) :
    k0_pay1 (F := Ideal) x u w (ix2 r d) = x (ix2 r d) + ∑ f : Fin 4096, max (u (ix2 r f)) 0 * max (u (ix2 r f)) 0 * w (ix3 0 f d) := by
  unfold_payloads
  pointwise

section
variable (m : (ℓ : Loc nD τ sig) → Buf (Elt Ideal) ℓ) (c : Dev nD) (t : Fin cfg0.N)

/-- The row of the whole array that row `r` of point `n`'s block is. -/
abbrev at_ (n : ℕ) (r : Fin 1024) : Fin 8192 := ⟨(1024 * n + r.val) % 8192, Nat.mod_lt _ (by decide)⟩

abbrev U : Vec Ideal S8192x4096 .bf16 := m ((c : Thread nD τ).loc main_arg0)
abbrev W : Vec Ideal S2x4096x1024 .bf16 := m ((c : Thread nD τ).loc main_arg1)
abbrev X : Vec Ideal S8192x1024 .f32 := m ((c : Thread nD τ).loc main_arg2)

theorem idx_in : ∀ t : Fin cfg0.N, (win0_0.index t (0 : Fin 2) = t.val ∧ win0_0.index t (1 : Fin 2) = 0)
    ∧ (win0_1.index t (0 : Fin 3) = 0 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0) ∧ win0_3.flush t = true :=
  (by decide +kernel : ∀ t : Fin grid0.N, _)

theorem in0 (r : Fin 1024) (f : Fin 4096) : (iblk m c 0 t : Vec Ideal S1024x4096 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 1024 + 1 * r.val = (1024 * t.val + r.val) % 8192; rw [e0]; omega
  | ⟨1, _⟩ => show win0_0.index t (1 : Fin 2) * 4096 + 1 * f.val = f.val; rw [e1]; omega

theorem in1 (f : Fin 4096) (d : Fin 1024) : (iblk m c 1 t : Vec Ideal S1x4096x1024 .bf16) (ix3 0 f d) = W m c (ix3 0 f d) := by
  obtain ⟨e0, e1, e2⟩ := (idx_in t).2.1
  refine congrArg (W m c) (funext fun a => Fin.ext ?_)
  match a with
  | ⟨0, _⟩ => show win0_1.index t (0 : Fin 3) * 1 + 1 * 0 = 0; rw [e0]
  | ⟨1, _⟩ => show win0_1.index t (1 : Fin 3) * 4096 + 1 * f.val = f.val; rw [e1]; omega
  | ⟨2, _⟩ => show win0_1.index t (2 : Fin 3) * 1024 + 1 * d.val = d.val; rw [e2]; omega

theorem in2 (r : Fin 1024) (d : Fin 1024) : (iblk m c 2 t : Vec Ideal S1024x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 1024 + 1 * r.val = (1024 * t.val + r.val) % 8192; rw [e0]; omega
  | ⟨1, _⟩ => show win0_2.index t (1 : Fin 2) * 1024 + 1 * d.val = d.val; rw [e1]; omega

/-- The whole result. -/
def G : Buf (Elt Ideal) ((c : Thread nD τ).loc main_v0) := fun i : S8192x1024.Idx => out (U m c) (W m c) (X m c) (i 0) (i 1)

/-- What point `t` leaves in its block. -/
theorem out_apply (r : Fin 1024) (d : Fin 1024) :
    out0_3 (F := Ideal) (iblk m c 0 t) (iblk m c 1 t) (iblk m c 2 t) (ix2 r d) = G m c (ix2 (at_ t.val r) d) := by
  unfold out0_3
  rw [View.canon_unit_zero (funext fun a => by fin_cases a <;> rfl), View.ld_unit_zero (S := S1024x4096) (funext fun a => by fin_cases a <;> rfl),
    View.ld_unit_zero (S := S1x4096x1024) (funext fun a => by fin_cases a <;> rfl), View.ld_unit_zero (S := S1024x1024) (funext fun a => by fin_cases a <;> rfl)]
  refine (pay_apply _ _ _ r d).trans ?_
  simp only [in0, in1, in2]
  rfl

theorem flushed_eq : (dats m 0 c).flushed 3 t = ((cfg0.win 3).blk t).view.read (Elt Ideal) (G m c) := by
  rw [Value.flushed3]
  funext y
  obtain ⟨⟨r, d⟩, rfl⟩ : ∃ a : Fin 1024 × Fin 1024, y = ix2 a.1 a.2 := ⟨(y 0, y 1), eq_ix2 y⟩
  refine (out_apply m c t r d).trans ?_
  have hN := lt_of_lt_of_eq t.isLt N_0
  obtain ⟨e0, e1⟩ := (idx_in t).2.2.2.1
  refine congrArg (G m c) (funext fun a => Fin.ext ?_)
  match a with
  | ⟨0, _⟩ => show (1024 * t.val + r.val) % 8192 = win0_3.index t (0 : Fin 2) * 1024 + 1 * r.val; rw [e0]; omega
  | ⟨1, _⟩ => show d.val = win0_3.index t (1 : Fin 2) * 1024 + 1 * d.val; rw [e1]; omega

theorem final : (dats m 0 c).arrAt 3 cfg0.N = G m c :=
  (dats m 0 c).arrAt_eq_of_cover 3 (G m c) (fun t _ => flushed_eq m c t) fun i => by
    have h0 : (i 0).val < 8192 := (i 0).isLt
    have h1 : (i 1).val < 1024 := (i 1).isLt
    have hN : cfg0.N = 8 := N_0
    let t : Fin cfg0.N := ⟨(i 0).val / 1024, by rw [hN]; omega⟩
    obtain ⟨e0, e1⟩ := (idx_in t).2.2.2.1
    refine ⟨t, (idx_in t).2.2.2.2, ?_⟩
    show i ∈ ((View.whole main_v0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; rw [e0]; show (i 0).val / 1024 * 1024 ≤ _ ∧ _ < (i 0).val / 1024 * 1024 + 1024; omega
    | ⟨1, _⟩ => show win0_3.index t (1 : Fin 2) * 1024 ≤ (i 1).val ∧ (i 1).val < win0_3.index t (1 : Fin 2) * 1024 + 1024; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)
end
end Cert.Down0Ideal.Mlp

namespace Cert.Down0RefIdeal.Mlp
open Cert.Down0RefIdeal Cert.Down0RefIdeal.Gen Idealize.ShloMosaic Idealize.ShloMosaic.TcCoe Idealize.SL.Sem
variable (m : (ℓ : Loc nD τ sig) → Buf (Elt Ideal) ℓ) (c : Dev nD)

/-- The reference's result as its operations compose it. -/
def res (u : FVec Ideal S8192x4096 .bf16) (w : FVec Ideal S2x4096x1024 .bf16) (x : FVec Ideal S8192x1024 .f32) : FVec Ideal S8192x1024 .f32 :=
  addf x (Host.dotGeneral dot_S8192x4096_S4096x1024_S8192x1024_1_0_0_1_n_n none (mulf (maximumf (extf .f32 u bitsLt_bf16_f32) (broadcastInDim S8192x4096 ![] bcast_S_S8192x4096 (constant S_ .f32 0x00000000#32))) (maximumf (extf .f32 u bitsLt_bf16_f32) (broadcastInDim S8192x4096 ![] bcast_S_S8192x4096 (constant S_ .f32 0x00000000#32)))) (shapeCast _ (extractStridedSlice S1x4096x1024 ![0, 0, 0] (extf .f32 w bitsLt_bf16_f32) slices_S2x4096x1024_S1x4096x1024_0_0_0) shapeCasts_S1x4096x1024_S4096x1024))

theorem result_apply (u : Vec Ideal S8192x4096 .bf16) (w : Vec Ideal S2x4096x1024 .bf16) (x : Vec Ideal S8192x1024 .f32) (i : Fin 8192) (d : Fin 1024) :
    res u w x (ix2 i d) = Cert.Down0Ideal.Mlp.out u w x i d := by
  unfold res
  pointwise
  rfl
end Cert.Down0RefIdeal.Mlp

namespace Cert.Down0Ideal.Mlp
open Idealize.ShloMosaic Idealize.ShloMosaic.TcCoe Idealize.SL.Sem

/-- The kernel's output is the reference's. -/
theorem equal : Cert.algebraic_Down0Ideal_Down0RefIdeal := by
  intro m g m' g' _ hargs
  refine ⟨fun c => G m c, run m g, ?_⟩
  refine (θ_run _ _ _).mono (fun r h c => ⟨(h c).1.trans ?_, (h c).2⟩) (Cert.Down0RefIdeal.Value.run (F := Ideal) m' g')
  obtain ⟨a0, a1, a2⟩ := hargs c
  rw [a0, a1, a2]
  funext i
  obtain ⟨⟨x, d⟩, rfl⟩ : ∃ a : Fin 8192 × Fin 1024, i = ix2 a.1 a.2 := ⟨(i 0, i 1), eq_ix2 i⟩
  exact Cert.Down0RefIdeal.Mlp.result_apply (U m c) (W m c) (X m c) x d

/-- The kernel before idealization is the same text: the same bodies, the same program. -/
theorem defs_eq : Cert.Down0.defs (F := Bits) = Cert.Down0Ideal.defs (F := Bits) := by
  refine congrArg (Pipeline.defs _) ?_
  unfold Cert.Down0.defs₀ Cert.Down0Ideal.defs₀
  refine congrArg Defs.onTc (funext fun l => funext fun x => ?_)
  match l, x with
  | 0, (t, s) => rfl

/-- Its run, in machine arithmetic, is this one. -/
theorem frame_kernel : Cert.quiescent_Down0 := by
  intro m ρ _
  have h := Cert.Down0Ideal.Gen.frame (F := Bits) m ρ
  rw [← defs_eq] at h
  exact h

/-- The reference runs, leaves its arguments unchanged and has no counter. -/
theorem frame_reference : Cert.quiescent_Down0RefIdeal := fun m ρ _ =>
  (θ_run _ _ _).mono (fun r h => ⟨fun c => (h c).2, Idealize.ShloMosaic.sem_eq_zero_of_no_sems (by decide) r.2⟩)
    (Cert.Down0RefIdeal.Value.run (F := Ideal) m ρ)
end Cert.Down0Ideal.Mlp
-- ==== Proof.Mlp.Down1.lean ====
/-
  The output of the MLP in layer 1 with the loss: the kernel adds the MLP's output to the residual, takes the target off,
  scales the difference into the loss's gradient, and sums, eight rows at a time, the squares of the difference; that is
  the loss, a half of the sum over positions of the mean of squares, and its derivative.
-/
module
public import proofs.«01_k».proof.Proof.Mlp.Norm
public import proofs.«01_k».proof.Proof.Gen.Down1
public import proofs.«01_k».proof.Proof.Gen.Down1Ideal.Frame
public import proofs.«01_k».proof.Proof.Gen.Down1RefIdeal.Run
public import Idealize.ShloMosaic.Lib.Pointwise
public import Idealize.ShloMosaic.Lib.Quiescent
@[expose] public section
set_option maxRecDepth 16384
noncomputable section
namespace Cert.Down1Ideal.Mlp
open Cert.Down1Ideal Cert.Down1Ideal.Gen Cert.Mlp Idealize.ShloMosaic Idealize.ShloMosaic.TcCoe Idealize.SL.Sem

/-- What the output is off the target by, at entry `d` of position `i`. -/
def off (u : Vec Ideal S8192x4096 .bf16) (w : Vec Ideal S2x4096x1024 .bf16) (x y : Vec Ideal S8192x1024 .f32) (i : Fin 8192) (d : Fin 1024) : EReal :=
  x (ix2 i d) + (∑ f : Fin 4096, max (u (ix2 i f)) 0 * max (u (ix2 i f)) 0 * w (ix3 1 f d)) - y (ix2 i d)

/-- The gradient of the loss. -/
def dl (u : Vec Ideal S8192x4096 .bf16) (w : Vec Ideal S2x4096x1024 .bf16) (x y : Vec Ideal S8192x1024 .f32) (i : Fin 8192) (d : Fin 1024) : EReal :=
  off u w x y i d * ((1 / 1024 : ℝ) : EReal)

/-- The loss. -/
def ls (u : Vec Ideal S8192x4096 .bf16) (w : Vec Ideal S2x4096x1024 .bf16) (x y : Vec Ideal S8192x1024 .f32) : EReal :=
  (∑ i : Fin 8192, ∑ d : Fin 1024, off u w x y i d * off u w x y i d) * ((1 / 2048 : ℝ) : EReal)

/-! The printed constants. -/

theorem per_col : Ideal.ofBits .f32 0x3A800000#32 = ((1 / 1024 : ℝ) : EReal) := by
  simp [Ideal.ofBits, Ideal.ieee, -EReal.coe_mul]; norm_num
theorem half_per_col : Ideal.ofBits .f32 0x3A000000#32 = ((1 / 2048 : ℝ) : EReal) := by
  simp [Ideal.ofBits, Ideal.ieee, -EReal.coe_mul]; norm_num
theorem half : Ideal.ofBits .f32 0x3F000000#32 = ((1 / 2 : ℝ) : EReal) := by
  simp [Ideal.ofBits, Ideal.ieee, -EReal.coe_mul]; norm_num
theorem two : Ideal.ofBits .f32 0x40000000#32 = ((2 : ℝ) : EReal) := by
  simp [Ideal.ofBits, Ideal.ieee, -EReal.coe_mul]; norm_num

theorem hz : (![0, 0] : Fin 2 → Nat) = fun _ => 0 := funext fun a => by fin_cases a <;> rfl
theorem hz3 : (![0, 0, 0] : Fin 3 → Nat) = fun _ => 0 := funext fun a => by fin_cases a <;> rfl

/-! What the body computes, at an index. -/

theorem zero_apply (r : Fin 8) (d : Fin 1024) : k0_pay4 (F := Ideal) (ix2 r d) = 0 := by
  unfold_payloads
  pointwise

section
variable (x : Vec Ideal S512x1024 .f32) (u : Vec Ideal S512x4096 .bf16) (w : Vec Ideal S1x4096x1024 .bf16) (y : Vec Ideal S512x1024 .f32)

theorem off_apply (r : Fin 512) (d : Fin 1024) :
    k0_pay1 (F := Ideal) x u w y (ix2 r d) = x (ix2 r d) + (∑ f : Fin 4096, max (u (ix2 r f)) 0 * max (u (ix2 r f)) 0 * w (ix3 0 f d)) - y (ix2 r d) := by
  unfold_payloads
  pointwise

theorem dl_apply (r : Fin 512) (d : Fin 1024) : k0_pay2 (F := Ideal) x u w y (ix2 r d) = k0_pay1 (F := Ideal) x u w y (ix2 r d) * ((1 / 1024 : ℝ) : EReal) := by
  unfold k0_pay2
  pointwise
  rw [per_col]

theorem loss_apply (s : Vec Ideal S8x1024 .f32) (r : Fin 8) (d : Fin 1024) :
    k0_pay5 (F := Ideal) x u w y s (ix2 r d) = s (ix2 r d) + ∑ j : Fin 64, k0_pay1 (F := Ideal) x u w y (ix2 ⟨j.val * 8 + r.val, by have := j.isLt; have := r.isLt; omega⟩ d) * k0_pay1 (F := Ideal) x u w y (ix2 ⟨j.val * 8 + r.val, by have := j.isLt; have := r.isLt; omega⟩ d) := by
  unfold k0_pay5
  pointwise
end

section
variable (c : Dev nD) (i : grid0.Coords) (a1 : Memref sig .tc .vmem S512x4096 .bf16) (h1 : a1.IsWhole) (a2 : Memref sig .tc .vmem S1x4096x1024 .bf16) (h2 : a2.IsWhole)
  (a3 : Memref sig .tc .vmem S512x1024 .f32) (h3 : a3.IsWhole) (a4 : Memref sig .tc .vmem S512x1024 .f32) (h4 : a4.IsWhole) (a5 : Memref sig .tc .vmem S512x1024 .f32) (h5 : a5.IsWhole)
  (a6 : Memref sig .tc .vmem S512x1024 .bf16) (h6 : a6.IsWhole) (a7 : Memref sig .tc .vmem S8x1024 .f32) (h7 : a7.IsWhole)
  (x0 : Vec Ideal S512x4096 .bf16) (x1 : Vec Ideal S1x4096x1024 .bf16) (x2 : Vec Ideal S512x1024 .f32) (x3 : Vec Ideal S512x1024 .f32) (xo : Vec Ideal S8x1024 .f32)

theorem dl_A (c0 : cond0_0 i) : out0_A_4 (F := Ideal) c i a1 h1 a2 h2 a3 h3 a4 h4 a5 h5 a6 h6 a7 h7 c0 x0 x1 x2 x3 = k0_pay2 x2 x0 x1 x3 := by
  unfold out0_A_4
  rw [View.read_writes_eq_canon _ _ _ (cover0_A_4 c i a1 h1 a2 h2 a3 h3 a4 h4 a5 h5 a6 h6 a7 h7 c0 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x4096) hz, View.ld_unit_zero (S := S1x4096x1024) hz3, View.ld_unit_zero (S := S512x1024) hz]

theorem dl16_A (c0 : cond0_0 i) : out0_A_5 (F := Ideal) c i a1 h1 a2 h2 a3 h3 a4 h4 a5 h5 a6 h6 a7 h7 c0 x0 x1 x2 x3 = k0_pay3 x2 x0 x1 x3 := by
  unfold out0_A_5
  rw [View.read_writes_eq_canon _ _ _ (cover0_A_5 c i a1 h1 a2 h2 a3 h3 a4 h4 a5 h5 a6 h6 a7 h7 c0 x0 x1 x2 x3)]
  unfold kernelRun0_A
  dsimp only
  sl_unfold_words
  rw [View.canon_unit_zero hz]
  simp only [View.readAt_eq_ld, h1.read_unread, h2.read_unread, h3.read_unread, h4.read_unread, View.ld_unit_zero (S := S512x4096) hz, View.ld_unit_zero (S := S1x4096x1024) hz3, View.ld_unit_zero (S := S512x1024) hz]

/-- The first point starts the sum at zero. -/
theorem sq_A (c0 : cond0_0 i) : out0_A_6 (F := Ideal) c i a1 h1 a2 h2 a3 h3 a4 h4 a5 h5 a6 h6 a7 h7 c0 x0 x1 x2 x3 = k0_pay5 x2 x0 x1 x3 (k0_pay4 (F := Ideal)) := by
  unfold out0_A_6
  rw [View.read_writes_eq_canon _ _ _ (cover0_A_6 c i a1 h1 a2 h2 a3 h3 a4 h4 a5 h5 a6 h6 a7 h7 c0 x0 x1 x2 x3)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, h4.read_unread, View.ld_unit_zero (S := S512x4096) hz, View.ld_unit_zero (S := S1x4096x1024) hz3, View.ld_unit_zero (S := S512x1024) hz]

theorem dl_B (c0 : ¬cond0_0 i) : out0_B_4 (F := Ideal) c i a1 h1 a2 h2 a3 h3 a4 h4 a5 h5 a6 h6 a7 h7 c0 x0 x1 x2 x3 xo = k0_pay2 x2 x0 x1 x3 := by
  unfold out0_B_4
  rw [View.read_writes_eq_canon _ _ _ (cover0_B_4 c i a1 h1 a2 h2 a3 h3 a4 h4 a5 h5 a6 h6 a7 h7 c0 x0 x1 x2 x3 xo)]
  unfold kernelRun0_B
  dsimp only
  rw [View.canon_unit_zero hz]
  simp only [View.readAt_eq_ld, h1.read_unread, h2.read_unread, h3.read_unread, h4.read_unread, View.ld_unit_zero (S := S512x4096) hz, View.ld_unit_zero (S := S1x4096x1024) hz3, View.ld_unit_zero (S := S512x1024) hz]

theorem dl16_B (c0 : ¬cond0_0 i) : out0_B_5 (F := Ideal) c i a1 h1 a2 h2 a3 h3 a4 h4 a5 h5 a6 h6 a7 h7 c0 x0 x1 x2 x3 xo = k0_pay3 x2 x0 x1 x3 := by
  unfold out0_B_5
  rw [View.read_writes_eq_canon _ _ _ (cover0_B_5 c i a1 h1 a2 h2 a3 h3 a4 h4 a5 h5 a6 h6 a7 h7 c0 x0 x1 x2 x3 xo)]
  unfold kernelRun0_B
  dsimp only
  rw [View.canon_unit_zero hz]
  simp only [View.readAt_eq_ld, h1.read_unread, h2.read_unread, h3.read_unread, h4.read_unread, View.ld_unit_zero (S := S512x4096) hz, View.ld_unit_zero (S := S1x4096x1024) hz3, View.ld_unit_zero (S := S512x1024) hz]

/-- A later point adds to what the point before left. -/
theorem sq_B (c0 : ¬cond0_0 i) : out0_B_6 (F := Ideal) c i a1 h1 a2 h2 a3 h3 a4 h4 a5 h5 a6 h6 a7 h7 c0 x0 x1 x2 x3 xo = k0_pay5 x2 x0 x1 x3 xo := by
  unfold out0_B_6
  rw [View.read_writes_eq_canon _ _ _ (cover0_B_6 c i a1 h1 a2 h2 a3 h3 a4 h4 a5 h5 a6 h6 a7 h7 c0 x0 x1 x2 x3 xo)]
  unfold kernelRun0_B
  dsimp only
  sl_unfold_words
  rw [View.canon_unit_zero hz]
  simp only [View.readAt_eq_ld, h1.read_unread, h2.read_unread, h3.read_unread, h4.read_unread, h7.read_unread, View.ld_unit_zero (S := S512x4096) hz, View.ld_unit_zero (S := S1x4096x1024) hz3, View.ld_unit_zero (S := S512x1024) hz, View.ld_unit_zero (S := S8x1024) hz]
end

section
variable (m : (ℓ : Loc nD τ sig) → Buf (Elt Ideal) ℓ) (c : Dev nD)

/-- The row of the whole array that row `r` of point `n`'s block is. -/
abbrev at_ (n : ℕ) (r : Fin 512) : Fin 8192 := ⟨(512 * n + r.val) % 8192, Nat.mod_lt _ (by decide)⟩

abbrev U : Vec Ideal S8192x4096 .bf16 := m ((c : Thread nD τ).loc main_arg0)
abbrev W : Vec Ideal S2x4096x1024 .bf16 := m ((c : Thread nD τ).loc main_arg1)
abbrev X : Vec Ideal S8192x1024 .f32 := m ((c : Thread nD τ).loc main_arg2)
abbrev Y : Vec Ideal S8192x1024 .f32 := m ((c : Thread nD τ).loc main_arg3)

theorem idx_in : ∀ t : Fin cfg0.N, (win0_0.index t (0 : Fin 2) = t.val ∧ win0_0.index t (1 : Fin 2) = 0)
    ∧ (win0_1.index t (0 : Fin 3) = 1 ∧ win0_1.index t (1 : Fin 3) = 0 ∧ win0_1.index t (2 : Fin 3) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0) :=
  (by decide +kernel : ∀ t : Fin grid0.N, _)

theorem in0 (t : Fin cfg0.N) (r : Fin 512) (f : Fin 4096) : (iblk m c 0 t : Vec Ideal S512x4096 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 4096 + 1 * f.val = f.val; rw [e1]; omega

theorem in1 (t : Fin cfg0.N) (f : Fin 4096) (d : Fin 1024) : (iblk m c 1 t : Vec Ideal S1x4096x1024 .bf16) (ix3 0 f d) = W m c (ix3 1 f d) := by
  obtain ⟨e0, e1, e2⟩ := (idx_in t).2.1
  refine congrArg (W m c) (funext fun a => Fin.ext ?_)
  match a with
  | ⟨0, _⟩ => show win0_1.index t (0 : Fin 3) * 1 + 1 * 0 = 1; rw [e0]
  | ⟨1, _⟩ => show win0_1.index t (1 : Fin 3) * 4096 + 1 * f.val = f.val; rw [e1]; omega
  | ⟨2, _⟩ => show win0_1.index t (2 : Fin 3) * 1024 + 1 * d.val = d.val; rw [e2]; omega

theorem in2 (t : Fin cfg0.N) (r : Fin 512) (d : Fin 1024) : (iblk m c 2 t : Vec Ideal S512x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 1024 + 1 * d.val = d.val; rw [e1]; omega

theorem in3 (t : Fin cfg0.N) (r : Fin 512) (d : Fin 1024) : (iblk m c 3 t : Vec Ideal S512x1024 .f32) (ix2 r d) = Y m c (ix2 (at_ t.val r) d) := by
  have hN := lt_of_lt_of_eq t.isLt N_0
  obtain ⟨e0, e1⟩ := (idx_in t).2.2.2.1
  refine congrArg (Y m c) (funext fun a => Fin.ext ?_)
  match a with
  | ⟨0, _⟩ => show win0_3.index t (0 : Fin 2) * 512 + 1 * r.val = (512 * t.val + r.val) % 8192; rw [e0]; omega
  | ⟨1, _⟩ => show win0_3.index t (1 : Fin 2) * 1024 + 1 * d.val = d.val; rw [e1]; omega

/-- The whole first result. -/
def D : Buf (Elt Ideal) ((c : Thread nD τ).loc main_v0_0) := fun i : S8192x1024.Idx => dl (U m c) (W m c) (X m c) (Y m c) (i 0) (i 1)
/-- The second, which differs in its format only. -/
def D16 : Buf (Elt Ideal) ((c : Thread nD τ).loc main_v0_1) := fun i : S8192x1024.Idx => dl (U m c) (W m c) (X m c) (Y m c) (i 0) (i 1)

/-- What a point's rows are off by. -/
theorem point_off (t : Fin cfg0.N) (r : Fin 512) (d : Fin 1024) :
    k0_pay1 (F := Ideal) (iblk m c 2 t) (iblk m c 0 t) (iblk m c 1 t) (iblk m c 3 t) (ix2 r d) = off (U m c) (W m c) (X m c) (Y m c) (at_ t.val r) d := by
  refine (off_apply _ _ _ _ r d).trans ?_
  simp only [in0, in1, in2, in3]
  rfl

/-- What a point stores. -/
theorem point_apply (t : Fin cfg0.N) (r : Fin 512) (d : Fin 1024) :
    k0_pay2 (F := Ideal) (iblk m c 2 t) (iblk m c 0 t) (iblk m c 1 t) (iblk m c 3 t) (ix2 r d) = dl (U m c) (W m c) (X m c) (Y m c) (at_ t.val r) d :=
  (dl_apply _ _ _ _ r d).trans (congrArg (· * ((1 / 1024 : ℝ) : EReal)) (point_off m c t r d))

theorem left_dl (t : Fin cfg0.N) : (outsAt0 m c t.val t.isLt).1 = k0_pay2 (F := Ideal) (iblk m c 2 t) (iblk m c 0 t) (iblk m c 1 t) (iblk m c 3 t) := by
  by_cases h : t.val % 16 = 0
  · rw [outsAt0_A m c t h]; dsimp only; rw [dl_A]
  · rw [outsAt0_B m c t h]; dsimp only; rw [dl_B]

theorem left_dl16 (t : Fin cfg0.N) : (outsAt0 m c t.val t.isLt).2.1 = k0_pay3 (F := Ideal) (iblk m c 2 t) (iblk m c 0 t) (iblk m c 1 t) (iblk m c 3 t) := by
  by_cases h : t.val % 16 = 0
  · rw [outsAt0_A m c t h]; dsimp only; rw [dl16_A]
  · rw [outsAt0_B m c t h]; dsimp only; rw [dl16_B]

theorem flushed_dl (t : Fin cfg0.N) : (dats m 0 c).flushed 4 t = ((cfg0.win 4).blk t).view.read (Elt Ideal) (D m c) := by
  show (cfg0.win 4).cut (grid0.coords t) ((dats m 0 c).after 4 t) = _
  rw [after0_4, left_dl]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.1
  refine congrArg (D m c) (a₁ := ix2 (at_ t.val r) d) (funext fun a => Fin.ext ?_)
  match a with
  | ⟨0, _⟩ => show (512 * t.val + r.val) % 8192 = win0_4.index t (0 : Fin 2) * 512 + 1 * r.val; rw [e0]; omega
  | ⟨1, _⟩ => show d.val = win0_4.index t (1 : Fin 2) * 1024 + 1 * d.val; rw [e1]; omega

theorem flushed_dl16 (t : Fin cfg0.N) : (dats m 0 c).flushed 5 t = ((cfg0.win 5).blk t).view.read (Elt Ideal) (D16 m c) := by
  show (cfg0.win 5).cut (grid0.coords t) ((dats m 0 c).after 5 t) = _
  rw [after0_5, left_dl16]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.1
  refine congrArg (D16 m c) (a₁ := ix2 (at_ t.val r) d) (funext fun a => Fin.ext ?_)
  match a with
  | ⟨0, _⟩ => show (512 * t.val + r.val) % 8192 = win0_5.index t (0 : Fin 2) * 512 + 1 * r.val; rw [e0]; omega
  | ⟨1, _⟩ => show d.val = win0_5.index t (1 : Fin 2) * 1024 + 1 * d.val; rw [e1]; omega

theorem final_dl : (dats m 0 c).arrAt 4 cfg0.N = D m c :=
  (dats m 0 c).arrAt_eq_of_cover 4 (D m c) (fun t _ => flushed_dl m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.1
    refine ⟨t, flush0_4 t, ?_⟩
    show i ∈ ((View.whole main_v0_0).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; rw [e0]; show (i 0).val / 512 * 512 ≤ _ ∧ _ < (i 0).val / 512 * 512 + 512; omega
    | ⟨1, _⟩ => show win0_4.index t (1 : Fin 2) * 1024 ≤ (i 1).val ∧ (i 1).val < win0_4.index t (1 : Fin 2) * 1024 + 1024; rw [e1]; omega

theorem final_dl16 : (dats m 0 c).arrAt 5 cfg0.N = D16 m c :=
  (dats m 0 c).arrAt_eq_of_cover 5 (D16 m c) (fun t _ => flushed_dl16 m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.1
    refine ⟨t, flush0_5 t, ?_⟩
    show i ∈ ((View.whole main_v0_1).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; rw [e0]; show (i 0).val / 512 * 512 ≤ _ ∧ _ < (i 0).val / 512 * 512 + 512; omega
    | ⟨1, _⟩ => show win0_5.index t (1 : Fin 2) * 1024 ≤ (i 1).val ∧ (i 1).val < win0_5.index t (1 : Fin 2) * 1024 + 1024; rw [e1]; omega

/-! The loss. -/

/-- The square at entry `d` of position `i`. -/
abbrev sq (d : Fin 1024) (i : Fin 8192) : EReal := off (U m c) (W m c) (X m c) (Y m c) i d * off (U m c) (W m c) (X m c) (Y m c) i d

/-- The square at the `j`-th of the positions that leave remainder `r`. -/
abbrev tm (r : Fin 8) (d : Fin 1024) (j : ℕ) : EReal := sq m c d ⟨(8 * j + r.val) % 8192, Nat.mod_lt _ (by decide)⟩

/-- A point over what the points before left. -/
theorem step (t : Fin cfg0.N) (s : Vec Ideal S8x1024 .f32) (r : Fin 8) (d : Fin 1024) (h : s (ix2 r d) = ∑ j ∈ Finset.range (64 * t.val), tm m c r d j) :
    k0_pay5 (F := Ideal) (iblk m c 2 t) (iblk m c 0 t) (iblk m c 1 t) (iblk m c 3 t) s (ix2 r d) = ∑ j ∈ Finset.range (64 * (t.val + 1)), tm m c r d j := by
  refine (loss_apply _ _ _ _ _ r d).trans ?_
  rw [h, Nat.mul_add, Nat.mul_one, Finset.sum_range_add, Finset.sum_range (n := 64)]
  refine congrArg _ (Finset.sum_congr rfl fun j _ => ?_)
  simp only [point_off]
  have e : at_ t.val ⟨j.val * 8 + r.val, by have := j.isLt; have := r.isLt; omega⟩ = ⟨(8 * (64 * t.val + j.val) + r.val) % 8192, Nat.mod_lt _ (by decide)⟩ := Fin.ext (by show (512 * t.val + (j.val * 8 + r.val)) % 8192 = _; dsimp only; congr 1; omega)
  rw [e]

/-- What the sum's block holds after a point. -/
theorem left_sq (r : Fin 8) (d : Fin 1024) : ∀ (p : ℕ) (h : p < cfg0.N), (outsAt0 m c p h).2.2 (ix2 r d) = ∑ j ∈ Finset.range (64 * (p + 1)), tm m c r d j
  | 0, h => by
    rw [outsAt0_A m c ⟨0, h⟩ rfl]
    dsimp only
    rw [sq_A]
    exact step m c ⟨0, h⟩ _ r d ((zero_apply r d).trans (Finset.sum_range_zero _).symm)
  | p + 1, h => by
    have hN := lt_of_lt_of_eq h N_0
    rw [outsAt0_B m c ⟨p + 1, h⟩ (by dsimp only; omega)]
    dsimp only
    rw [sq_B]
    exact step m c ⟨p + 1, h⟩ _ r d (left_sq r d p (Nat.lt_of_succ_lt h))

/-- The sums, one for each remainder. -/
def Sq8 : Buf (Elt Ideal) ((c : Thread nD τ).loc main_v0_2) := fun i : S8x1024.Idx => (∑ j ∈ Finset.range 1024, tm m c (i 0) (i 1) j : EReal)
/-- The whole third result. -/
def Ls : Buf (Elt Ideal) ((c : Thread nD τ).loc main_v2) := fun _ : S_.Idx => ls (U m c) (W m c) (X m c) (Y m c)

theorem final_sq : (dats m 0 c).arrAt 6 cfg0.N = Sq8 m c :=
  (dats m 0 c).arrAt_eq_of_cover 6 (Sq8 m c) (fun t hf => by
    have hN := lt_of_lt_of_eq t.isLt N_0
    have ht : t.val = 15 := by have := (flush0_6 t).mp hf; omega
    show (cfg0.win 6).cut (grid0.coords t) ((dats m 0 c).after 6 t) = _
    rw [after0_6]
    funext y
    obtain ⟨⟨r, d⟩, rfl⟩ : ∃ a : Fin 8 × Fin 1024, y = ix2 a.1 a.2 := ⟨(y 0, y 1), eq_ix2 y⟩
    refine (left_sq m c r d t.val t.isLt).trans ?_
    rw [ht]
    obtain ⟨e0, e1⟩ := (idx_in t).2.2.2.2.2.2
    refine congrArg (Sq8 m c) (a₁ := ix2 r d) (funext fun a => Fin.ext ?_)
    match a with
    | ⟨0, _⟩ => show r.val = win0_6.index t (0 : Fin 2) * 8 + 1 * r.val; rw [e0]; omega
    | ⟨1, _⟩ => show d.val = win0_6.index t (1 : Fin 2) * 1024 + 1 * d.val; rw [e1]; omega) fun i => by
    have h0 : (i 0).val < 8 := (i 0).isLt
    have h1 : (i 1).val < 1024 := (i 1).isLt
    have hN : cfg0.N = 16 := N_0
    let t : Fin cfg0.N := ⟨15, by rw [hN]; omega⟩
    obtain ⟨e0, e1⟩ := (idx_in t).2.2.2.2.2.2
    refine ⟨t, (flush0_6 t).mpr rfl, ?_⟩
    show i ∈ ((View.whole main_v0_2).slice (win0_6.rect t)).set
    rw [View.set_slice_whole, Rect.mem_set_unit]
    intro a
    match a with
    | ⟨0, _⟩ => show win0_6.index t (0 : Fin 2) * 8 ≤ (i 0).val ∧ (i 0).val < win0_6.index t (0 : Fin 2) * 8 + 8; rw [e0]; omega
    | ⟨1, _⟩ => show win0_6.index t (1 : Fin 2) * 1024 ≤ (i 1).val ∧ (i 1).val < win0_6.index t (1 : Fin 2) * 1024 + 1024; rw [e1]; omega

/-- What follows the kernel: the sum, scaled. -/
def fold (s : FVec Ideal S8x1024 .f32) : FVec Ideal S_ .f32 := mulf (Host.reduceAdd s (constant S_ .f32 0x00000000#32) reducesTo_S8x1024_S_d0_1 h_S_) (constant S_ .f32 0x3A000000#32)

theorem fold_apply (s : FVec Ideal S8x1024 .f32) (i : S_.Idx) : fold s i = (∑ r : Fin 8, ∑ d : Fin 1024, s (ix2 r d)) * ((1 / 2048 : ℝ) : EReal) := by
  unfold fold
  pointwise
  rw [half_per_col]

theorem fold_eq : fold (Sq8 m c) = Ls m c := by
  funext i
  rw [fold_apply]
  refine congrArg (· * ((1 / 2048 : ℝ) : EReal)) (Eq.trans (Finset.sum_congr rfl fun r _ => ?_) (sum_by_eight fun i => ∑ d : Fin 1024, sq m c d i))
  rw [Finset.sum_comm]
  refine Finset.sum_congr rfl fun d _ => (Finset.sum_range (fun j => tm m c r d j)).trans (Finset.sum_congr rfl fun j _ => ?_)
  have hj := j.isLt
  have hr := r.isLt
  exact congrArg (sq m c d) (Fin.ext (Nat.mod_eq_of_lt (by omega)))

/-- What the third result holds: the scaled sum of what the kernel left. -/
theorem tail_eq : Pipeline.afterTail₀ cfgs (dats m) 0 (V0 m) [hostOps1] c main_v2 = Ls m c := by
  have e : Pipeline.afterTail₀ cfgs (dats m) 0 (V0 m) [hostOps1] c main_v2 = fold ((dats m 0 c).arrAt 6 cfg0.N) := by
    unfold Pipeline.afterTail₀
    simp only [List.flatten_cons, List.flatten_nil, List.append_nil]
    after_results_simp
    exact congrArg fold (Pipeline.withArrays_arr (cfgs 0).spec (by decide) c (V0 m c) (fun w => (dats m 0 c).arrAt w (cfgs 0).N) 6)
  rw [e, final_sq, fold_eq]

/-- The run: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = D m c
      ∧ r.2.mem ((c : Thread nD τ).loc main_v0_1) = D16 m c
      ∧ r.2.mem ((c : Thread nD τ).loc main_v2) = Ls m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1 4).trans (final_dl m c), ((h c).1 5).trans (final_dl16 m c),
      ((h c).2 main_v2 (Pipeline.mem_restRefs_of main_v2 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩) (run_main m ρ)
end
end Cert.Down1Ideal.Mlp

namespace Cert.Down1RefIdeal.Mlp
open Cert.Down1RefIdeal Cert.Down1RefIdeal.Gen Cert.Mlp Idealize.ShloMosaic Idealize.ShloMosaic.TcCoe Idealize.SL.Sem
variable (u : FVec Ideal S8192x4096 .bf16) (w : FVec Ideal S2x4096x1024 .bf16) (x y : FVec Ideal S8192x1024 .f32)

/-! The mathematics. -/

/-- Nonnegative terms may be scaled before they are summed. -/
theorem sum_scaled {ι : Type} (s : Finset ι) (f : ι → EReal) (hf : ∀ i, 0 ≤ f i) (a : EReal) : ∑ i ∈ s, f i * a = (∑ i ∈ s, f i) * a := by
  classical
  induction s using Finset.induction_on with
  | empty => rw [Finset.sum_empty, Finset.sum_empty, zero_mul]
  | insert i s hi ih => rw [Finset.sum_insert hi, Finset.sum_insert hi, ih, EReal.right_distrib_of_nonneg (hf i) (Finset.sum_nonneg fun k _ => hf k)]

/-- A square is nonnegative. -/
theorem square_nonneg (a : EReal) : 0 ≤ a * a := by
  rcases le_total 0 a with h | h
  · exact mul_nonneg h h
  · exact EReal.mul_nonneg_iff.mpr (Or.inr ⟨h, h⟩)

/-- To divide by the number of columns is to multiply by its inverse. -/
theorem div_cols (a : EReal) : Ideal.div a (Ideal.ofBits .f32 0x44800000#32) = a * ((1 / 1024 : ℝ) : EReal) := by
  rw [cols]
  unfold Ideal.div
  rw [if_neg (by norm_num), ← EReal.coe_inv, one_div]

/-! The reference's results as its operations compose them, in parts. -/

/-- What the output is off the target by. -/
def off : FVec Ideal S8192x1024 .f32 :=
  subf (addf x (Host.dotGeneral dot_S8192x4096_S4096x1024_S8192x1024_1_0_0_1_n_n none (mulf (maximumf (extf .f32 u bitsLt_bf16_f32) (broadcastInDim S8192x4096 ![] bcast_S_S8192x4096 (constant S_ .f32 0x00000000#32))) (maximumf (extf .f32 u bitsLt_bf16_f32) (broadcastInDim S8192x4096 ![] bcast_S_S8192x4096 (constant S_ .f32 0x00000000#32)))) (shapeCast _ (extractStridedSlice S1x4096x1024 ![1, 0, 0] (extf .f32 w bitsLt_bf16_f32) slices_S2x4096x1024_S1x4096x1024_1_0_0) shapeCasts_S1x4096x1024_S4096x1024))) y
section
variable (e : FVec Ideal S8192x1024 .f32)
/-- The loss's gradient. -/
def grad : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)
/-- The loss. -/
def loss : FVec Ideal S_ .f32 :=
  mulf (constant S_ .f32 0x3F000000#32) (Host.reduceAdd (Host.divf (Host.reduceAdd (mulf e e) (constant S_ .f32 0x00000000#32) reducesTo_S8192x1024_S8192_d1 h_S_) (broadcastInDim S8192 ![] bcast_S_S8192 (constant S_ .f32 0x44800000#32))) (constant S_ .f32 0x00000000#32) reducesTo_S8192_S_d0 h_S_)

theorem grad_apply (i : Fin 8192) (d : Fin 1024) : grad e (ix2 i d) = e (ix2 i d) * ((1 / 1024 : ℝ) : EReal) := by
  unfold grad
  pointwise
  rw [Cert.Down1Ideal.Mlp.half, Cert.Down1Ideal.Mlp.two, div_cols, ← EReal.coe_mul, ← mul_assoc, ← EReal.coe_mul, mul_comm]
  congr 2
  norm_num

theorem loss_apply (i : S_.Idx) : loss e i = (∑ i : Fin 8192, ∑ d : Fin 1024, e (ix2 i d) * e (ix2 i d)) * ((1 / 2048 : ℝ) : EReal) := by
  unfold loss
  pointwise
  simp only [div_cols]
  rw [Cert.Down1Ideal.Mlp.half, sum_scaled _ _ (fun i => Finset.sum_nonneg fun d _ => square_nonneg _), mul_comm, mul_assoc, ← EReal.coe_mul]
  congr 2
  norm_num
end

theorem off_apply (i : Fin 8192) (d : Fin 1024) : off u w x y (ix2 i d) = Cert.Down1Ideal.Mlp.off u w x y i d := by
  unfold off
  pointwise
  rfl

theorem grad_eq (i : Fin 8192) (d : Fin 1024) : grad (off u w x y) (ix2 i d) = Cert.Down1Ideal.Mlp.dl u w x y i d := by
  rw [grad_apply, off_apply]
  rfl

theorem loss_eq (i : S_.Idx) : loss (off u w x y) i = Cert.Down1Ideal.Mlp.ls u w x y := by
  rw [loss_apply]
  simp only [off_apply]
  rfl
end Cert.Down1RefIdeal.Mlp

namespace Cert.Down1Ideal.Mlp
open Idealize.ShloMosaic Idealize.ShloMosaic.TcCoe Idealize.SL.Sem Cert.Down1Ideal

/-- The kernel's loss and its gradient are the reference's. -/
theorem equal : Cert.algebraic_Down1Ideal_Down1RefIdeal := by
  intro m g m' g' _ hargs
  refine ⟨fun c => D m c, fun c => D16 m c, fun c => Ls m c, run m g, ?_⟩
  refine (θ_run _ _ _).mono (fun r h c => ?_) (Cert.Down1RefIdeal.Value.run (F := Ideal) m' g')
  obtain ⟨a0, a1, a2, a3⟩ := hargs c
  refine ⟨(h c).1.trans ?_, (h c).2.1.trans ?_, (h c).2.2.1.trans ?_, (h c).2.2.2⟩
  · rw [a0, a1, a2, a3]
    funext i
    obtain ⟨⟨x, d⟩, rfl⟩ : ∃ a : Fin 8192 × Fin 1024, i = ix2 a.1 a.2 := ⟨(i 0, i 1), eq_ix2 i⟩
    exact Cert.Down1RefIdeal.Mlp.grad_eq (U m c) (W m c) (X m c) (Y m c) x d
  · rw [a0, a1, a2, a3]
    funext i
    obtain ⟨⟨x, d⟩, rfl⟩ : ∃ a : Fin 8192 × Fin 1024, i = ix2 a.1 a.2 := ⟨(i 0, i 1), eq_ix2 i⟩
    exact Cert.Down1RefIdeal.Mlp.grad_eq (U m c) (W m c) (X m c) (Y m c) x d
  · rw [a0, a1, a2, a3]
    funext i
    exact Cert.Down1RefIdeal.Mlp.loss_eq (U m c) (W m c) (X m c) (Y m c) i

/-- The kernel before idealization is the same text: the same bodies, the same program. -/
theorem defs_eq : Cert.Down1.defs (F := Bits) = Cert.Down1Ideal.defs (F := Bits) := by
  refine congrArg (Pipeline.defs _) ?_
  unfold Cert.Down1.defs₀ Cert.Down1Ideal.defs₀
  refine congrArg Defs.onTc (funext fun l => funext fun x => ?_)
  match l, x with
  | 0, (t, s) => rfl

/-- Its run, in machine arithmetic, is this one. -/
theorem frame_kernel : Cert.quiescent_Down1 := by
  intro m ρ _
  have h := Cert.Down1Ideal.Gen.frame (F := Bits) m ρ
  rw [← defs_eq] at h
  exact h

/-- The reference runs, leaves its arguments unchanged and has no counter. -/
theorem frame_reference : Cert.quiescent_Down1RefIdeal := fun m ρ _ =>
  (θ_run _ _ _).mono (fun r h => ⟨fun c => (h c).2.2.2, Idealize.ShloMosaic.sem_eq_zero_of_no_sems (by decide) r.2⟩)
    (Cert.Down1RefIdeal.Value.run (F := Ideal) m ρ)
end Cert.Down1Ideal.Mlp
-- ==== Proof.Mlp.InDw.lean ====
/-
  The gradient of the weights of layer 0's projections: the kernel adds, block of positions by block of positions, the
  products of the normalised inputs with the projections' gradient; that is the derivative of the product by the weights.
-/
module
public import proofs.«01_k».proof.Proof.Mlp.Sum
public import proofs.«01_k».proof.Proof.Gen.InDw
public import proofs.«01_k».proof.Proof.Gen.InDwIdeal.Value
public import proofs.«01_k».proof.Proof.Gen.InDwRefIdeal.Run
public import Idealize.ShloMosaic.Lib.Pointwise
public import Idealize.ShloMosaic.Lib.Quiescent
@[expose] public section
set_option maxRecDepth 16384
noncomputable section
namespace Cert.InDwIdeal.Mlp
open Cert.InDwIdeal Cert.InDwIdeal.Gen Cert.Mlp Idealize.ShloMosaic Idealize.ShloMosaic.TcCoe Idealize.SL.Sem

/-- What position `t` contributes to the gradient of weight `(k, n)`. -/
def term (h : Vec Ideal S8192x1024 .bf16) (du : Vec Ideal S8192x4608 .bf16) (k : Fin 1024) (n : Fin 4608) (t : Fin 8192) : EReal :=
  h (ix2 t k) * du (ix2 t n)

theorem hz : (![0, 0] : Fin 2 → Nat) = fun _ => 0 := funext fun a => by fin_cases a <;> rfl

theorem zero_apply (k : Fin 1024) (n : Fin 2304) : k0_pay1 (F := Ideal) (ix2 k n) = 0 := by
  unfold_payloads
  pointwise

theorem step_apply (a : Vec Ideal S1024x1024 .bf16) (s : Vec Ideal S1024x2304 .f32) (b : Vec Ideal S1024x2304 .bf16) (k : Fin 1024) (n : Fin 2304) :
    k0_pay2 (F := Ideal) a s b (ix2 k n) = s (ix2 k n) + ∑ r : Fin 1024, a (ix2 r k) * b (ix2 r n) := by
  unfold_payloads
  pointwise

section
variable (c : Dev nD) (i : grid0.Coords) (a3 : Memref sig .tc .vmem S1024x1024 .bf16) (h3 : a3.IsWhole) (a4 : Memref sig .tc .vmem S1024x2304 .bf16) (h4 : a4.IsWhole)
  (a5 : Memref sig .tc .vmem S1024x2304 .bf16) (h5 : a5.IsWhole) (a6 : Memref sig .tc .vmem S1024x2304 .f32) (h6 : a6.IsWhole)
  (x0 : Vec Ideal S1024x1024 .bf16) (x1 : Vec Ideal S1024x2304 .bf16) (xs : Vec Ideal S1024x2304 .f32)

/-- The first step of a sum starts it at zero. -/
theorem scr_A (c0 : cond0_0 i) (c1 : ¬cond0_1 i) :
    sout0_A_0 (F := Ideal) c i a3 h3 a4 h4 a5 h5 a6 h6 c0 c1 x0 x1 = k0_pay2 x0 (k0_pay1 (F := Ideal)) x1 := by
  unfold sout0_A_0
  rw [View.read_writes_eq_canon _ _ _ (scover0_A_0 c i a3 h3 a4 h4 a5 h5 a6 h6 c0 c1 x0 x1)]
  unfold kernelRun0_A
  dsimp only
  sl_unfold_words
  rw [View.canon_cons_unit_zero (S := S1024x2304) hz, View.readCov_unit_zero (S := S1024x2304) _ hz]
  simp only [View.readAt_eq_ld, h3.read_unread, h4.read_unread, View.ld_unit_zero (S := S1024x1024) hz, View.ld_unit_zero (S := S1024x2304) hz]

/-- A later step adds to it. -/
theorem scr_B (c0 : ¬cond0_0 i) (c1 : ¬cond0_1 i) :
    sout0_B_0 (F := Ideal) c i a3 h3 a4 h4 a5 h5 a6 h6 c0 c1 x0 x1 xs = k0_pay2 x0 xs x1 := by
  unfold sout0_B_0
  rw [View.read_writes_eq_canon _ _ _ (scover0_B_0 c i a3 h3 a4 h4 a5 h5 a6 h6 c0 c1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x2304) hz]

theorem scr_C (c0 : ¬cond0_0 i) (c1 : cond0_1 i) :
    sout0_C_0 (F := Ideal) c i a3 h3 a4 h4 a5 h5 a6 h6 c0 c1 x0 x1 xs = k0_pay2 x0 xs x1 := by
  unfold sout0_C_0
  rw [View.read_writes_eq_canon _ _ _ (scover0_C_0 c i a3 h3 a4 h4 a5 h5 a6 h6 c0 c1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x2304) hz]

/-- The last step of a sum also writes it out. -/
theorem out_C (c0 : ¬cond0_0 i) (c1 : cond0_1 i) :
    out0_C_2 (F := Ideal) c i a3 h3 a4 h4 a5 h5 a6 h6 c0 c1 x0 x1 xs = k0_pay2 x0 xs x1 := by
  unfold out0_C_2
  rw [View.read_writes_eq_canon _ _ _ (cover0_C_2 c i a3 h3 a4 h4 a5 h5 a6 h6 c0 c1 x0 x1 xs)]
  unfold kernelRun0_C
  dsimp only
  sl_unfold_words
  rw [View.canon_unit_zero hz, View.readCov_unit_zero (S := S1024x2304) _ hz]
  simp only [View.readAt_eq_ld, h3.read_unread, h4.read_unread, h6.read_unread, View.ld_unit_zero (S := S1024x1024) hz, View.ld_unit_zero (S := S1024x2304) hz]
  rfl
end

section
variable (m : (ℓ : Loc nD τ sig) → Buf (Elt Ideal) ℓ) (c : Dev nD)

/-- The column of the whole array that column `n` of the `q`-th block of columns is. -/
abbrev col (q : ℕ) (n : Fin 2304) : Fin 4608 := ⟨(2304 * q + n.val) % 4608, Nat.mod_lt _ (by decide)⟩

theorem idx_in : ∀ t : Fin cfg0.N, (win0_0.index t (0 : Fin 2) = t.val % 8 ∧ win0_0.index t (1 : Fin 2) = 0)
    ∧ (win0_1.index t (0 : Fin 2) = t.val % 8 ∧ win0_1.index t (1 : Fin 2) = t.val / 8) :=
  (by decide +kernel : ∀ t : Fin grid0.N, _)

theorem in0 (t : Fin cfg0.N) (r : Fin 1024) (k : Fin 1024) :
    (iblk m c 0 t : Vec Ideal S1024x1024 .bf16) (ix2 r k) = (m ((c : Thread nD τ).loc main_arg0) : Vec Ideal S8192x1024 .bf16) (ix2 (row (t.val % 8) r) k) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 1024 + 1 * r.val = (1024 * (t.val % 8) + r.val) % 8192; rw [e0]; omega
  | ⟨1, _⟩ => show win0_0.index t (1 : Fin 2) * 1024 + 1 * k.val = k.val; rw [e1]; omega

theorem in1 (t : Fin cfg0.N) (r : Fin 1024) (n : Fin 2304) :
    (iblk m c 1 t : Vec Ideal S1024x2304 .bf16) (ix2 r n) = (m ((c : Thread nD τ).loc main_arg1) : Vec Ideal S8192x4608 .bf16) (ix2 (row (t.val % 8) r) (col (t.val / 8) n)) := by
  have hN := lt_of_lt_of_eq t.isLt N_0
  obtain ⟨e0, e1⟩ := (idx_in t).2
  refine congrArg (m ((c : Thread nD τ).loc main_arg1) : Vec Ideal S8192x4608 .bf16) (funext fun a => Fin.ext ?_)
  match a with
  | ⟨0, _⟩ => show win0_1.index t (0 : Fin 2) * 1024 + 1 * r.val = (1024 * (t.val % 8) + r.val) % 8192; rw [e0]; omega
  | ⟨1, _⟩ => show win0_1.index t (1 : Fin 2) * 2304 + 1 * n.val = (2304 * (t.val / 8) + n.val) % 4608; rw [e1]; omega

/-- What the positions contribute. -/
abbrev tm (k : Fin 1024) (n : Fin 4608) : Fin 8192 → EReal :=
  term (m ((c : Thread nD τ).loc main_arg0)) (m ((c : Thread nD τ).loc main_arg1)) k n

/-- A step over what the steps before left. -/
theorem step (t : Fin cfg0.N) (xs : Vec Ideal S1024x2304 .f32) (k : Fin 1024) (n : Fin 2304)
    (h : xs (ix2 k n) = sumTo (tm m c k (col (t.val / 8) n)) (1024 * (t.val % 8))) :
    k0_pay2 (F := Ideal) (iblk m c 0 t) xs (iblk m c 1 t) (ix2 k n) = sumTo (tm m c k (col (t.val / 8) n)) (1024 * (t.val % 8 + 1)) := by
  refine (step_apply _ _ _ k n).trans ?_
  simp only [in0, in1]
  rw [h]
  exact sumTo_block _ _ (Nat.mod_lt _ (by decide))

/-- What the scratch holds after a point: the sum over the positions met since it was started. -/
theorem scr_apply (k : Fin 1024) (n : Fin 2304) : ∀ (p : ℕ) (h : p < cfg0.N),
    (outsAt0 m c p h).2 (ix2 k n) = sumTo (tm m c k (col (p / 8) n)) (1024 * (p % 8 + 1))
  | 0, h => by
    rw [outsAt0_A m c ⟨0, h⟩ rfl (by dsimp only; omega)]
    dsimp only
    rw [scr_A]
    exact step m c ⟨0, h⟩ _ k n ((zero_apply k n).trans (sumTo_zero _).symm)
  | p + 1, h => by
    by_cases h0 : (p + 1) % 8 = 0
    · rw [outsAt0_A m c ⟨p + 1, h⟩ h0 (by dsimp only; omega)]
      dsimp only
      rw [scr_A]
      refine step m c ⟨p + 1, h⟩ _ k n ((zero_apply k n).trans ?_)
      dsimp only
      rw [h0]
      exact (sumTo_zero _).symm
    · have hp := scr_apply k n p (Nat.lt_of_succ_lt h)
      rw [show p / 8 = (p + 1) / 8 by omega, show p % 8 + 1 = (p + 1) % 8 by omega] at hp
      by_cases h1 : (p + 1) % 8 = 7
      · rw [outsAt0_C m c ⟨p + 1, h⟩ h0 h1]
        dsimp only
        rw [scr_C]
        exact step m c ⟨p + 1, h⟩ _ k n hp
      · rw [outsAt0_B m c ⟨p + 1, h⟩ h0 h1]
        dsimp only
        rw [scr_B]
        exact step m c ⟨p + 1, h⟩ _ k n hp

/-- What the last point of a sum writes out. -/
theorem out_apply (k : Fin 1024) (n : Fin 2304) (p : ℕ) (h : p < cfg0.N) (h1 : p % 8 = 7) :
    (outsAt0 m c p h).1 (ix2 k n) = ∑ t, tm m c k (col (p / 8) n) t := by
  have h0 : ¬p % 8 = 0 := by omega
  have hp := scr_apply m c k n (p - 1) (by omega)
  rw [show (p - 1) / 8 = p / 8 by omega, show (p - 1) % 8 + 1 = p % 8 by omega] at hp
  rw [outsAt0_C m c ⟨p, h⟩ h0 h1]
  dsimp only
  rw [out_C]
  refine (step m c ⟨p, h⟩ _ k n hp).trans ?_
  dsimp only
  rw [h1]
  exact sumTo_all _

/-- The whole result. -/
def G : Buf (Elt Ideal) ((c : Thread nD τ).loc main_v0) := fun i : S1024x4608.Idx => (∑ t, tm m c (i 0) (i 1) t : EReal)

theorem result_eq : Value.G2 (F := Ideal) m c = G m c := by
  funext i
  obtain ⟨⟨k, n⟩, rfl⟩ : ∃ a : Fin 1024 × Fin 4608, i = ix2 a.1 a.2 := ⟨(i 0, i 1), eq_ix2 i⟩
  have hk := k.isLt
  have hn := n.isLt
  have hp : Value.pt2Of (ix2 k n) = 8 * (n.val / 2304) + 7 := by
    show 8 * (2 * (k.val / 1024 - 0) + 1 * (n.val / 2304 - 0)) + 7 = _
    omega
  have hN : cfg0.N = 16 := N_0
  unfold Value.G2
  rw [dif_pos (by rw [hp]; omega)]
  rw [← Value.outsAt0_sweep m c (Value.pt2Of (ix2 k n)) (by rw [hp]; omega)]
  have hl : Value.loc2Of (ix2 k n) = ix2 k ⟨n.val % 2304, Nat.mod_lt _ (by decide)⟩ := by
    funext a; apply Fin.ext
    match a with
    | ⟨0, _⟩ => show k.val % 1024 = k.val; omega
    | ⟨1, _⟩ => rfl
  rw [hl]
  refine (out_apply m c k _ _ _ (by rw [hp]; omega)).trans ?_
  refine congrArg (fun n' => (∑ t, tm m c k n' t : EReal)) (Fin.ext ?_)
  show (2304 * (Value.pt2Of (ix2 k n) / 8) + n.val % 2304) % 4608 = n.val
  rw [hp]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (result_eq m c), (h c).2⟩) (Value.run m ρ)
end
end Cert.InDwIdeal.Mlp

namespace Cert.InDwRefIdeal.Mlp
open Cert.InDwRefIdeal Cert.InDwRefIdeal.Gen Idealize.ShloMosaic

/-- The reference's result as its operations compose it. -/
def res (h : FVec Ideal S8192x1024 .bf16) (du : FVec Ideal S8192x4608 .bf16) : FVec Ideal S1024x4608 .bf16 :=
  truncf .bf16 (transpose S1024x4608 [1, 0] (Host.dotGeneral dot_S8192x4608_S8192x1024_S4608x1024_0_0_1_1_n_n none (extf .f32 du bitsLt_bf16_f32) (extf .f32 h bitsLt_bf16_f32)) transposes_S4608x1024_S1024x4608_1_0) bitsLt_bf16_f32

theorem result_apply (h : FVec Ideal S8192x1024 .bf16) (du : FVec Ideal S8192x4608 .bf16) (k : Fin 1024) (n : Fin 4608) :
    res h du (ix2 k n) = ∑ t, Cert.InDwIdeal.Mlp.term h du k n t := by
  unfold res
  pointwise
  exact Finset.sum_congr rfl fun t _ => mul_comm _ _
end Cert.InDwRefIdeal.Mlp

namespace Cert.InDwIdeal.Mlp
open Idealize.ShloMosaic Idealize.ShloMosaic.TcCoe Idealize.SL.Sem

/-- The kernel's gradient is the reference's. -/
theorem equal : Cert.algebraic_InDwIdeal_InDwRefIdeal := by
  intro m g m' g' _ hargs
  refine ⟨fun c => G m c, run m g, ?_⟩
  refine (θ_run _ _ _).mono (fun r h c => ⟨(h c).1.trans ?_, (h c).2⟩) (Cert.InDwRefIdeal.Value.run (F := Ideal) m' g')
  obtain ⟨a0, a1⟩ := hargs c
  rw [a0, a1]
  funext i
  obtain ⟨⟨k, n⟩, rfl⟩ : ∃ a : Fin 1024 × Fin 4608, i = ix2 a.1 a.2 := ⟨(i 0, i 1), eq_ix2 i⟩
  exact Cert.InDwRefIdeal.Mlp.result_apply _ _ k n

/-- The kernel before idealization is the same text: the same bodies, the same program. -/
theorem defs_eq : Cert.InDw.defs (F := Bits) = Cert.InDwIdeal.defs (F := Bits) := by
  refine congrArg (Pipeline.defs _) ?_
  unfold Cert.InDw.defs₀ Cert.InDwIdeal.defs₀
  refine congrArg Defs.onTc (funext fun l => funext fun x => ?_)
  match l, x with
  | 0, (t, s) => rfl

/-- Its run, in machine arithmetic, is this one. -/
theorem frame_kernel : Cert.quiescent_InDw := by
  intro m ρ _
  have h := Cert.InDwIdeal.Gen.frame (F := Bits) m ρ
  rw [← defs_eq] at h
  exact h

/-- The reference runs, leaves its arguments unchanged and has no counter. -/
theorem frame_reference : Cert.quiescent_InDwRefIdeal := fun m ρ _ =>
  (θ_run _ _ _).mono (fun r h => ⟨fun c => (h c).2, Idealize.ShloMosaic.sem_eq_zero_of_no_sems (by decide) r.2⟩)
    (Cert.InDwRefIdeal.Value.run (F := Ideal) m ρ)
end Cert.InDwIdeal.Mlp
-- ==== Proof.Mlp.OutDw.lean ====
/-
  The gradient of the weights an attention's output is multiplied by: the kernel adds, block of positions by block of
  positions, the products of the output with the gradient of the residual; that is the derivative of the product by the weights.
-/
module
public import proofs.«01_k».proof.Proof.Mlp.Sum
public import proofs.«01_k».proof.Proof.Gen.OutDw
public import proofs.«01_k».proof.Proof.Gen.OutDwIdeal.Value
public import proofs.«01_k».proof.Proof.Gen.OutDwRefIdeal.Run
public import Idealize.ShloMosaic.Lib.Pointwise
public import Idealize.ShloMosaic.Lib.Quiescent
@[expose] public section
set_option maxRecDepth 16384
noncomputable section
namespace Cert.OutDwIdeal.Mlp
open Cert.OutDwIdeal Cert.OutDwIdeal.Gen Cert.Mlp Idealize.ShloMosaic Idealize.ShloMosaic.TcCoe Idealize.SL.Sem

/-- What position `t` contributes to the gradient of weight `(k, n)`. -/
def term (h : Vec Ideal S8192x1024 .bf16) (du : Vec Ideal S8192x1024 .bf16) (k : Fin 1024) (n : Fin 1024) (t : Fin 8192) : EReal :=
  h (ix2 t k) * du (ix2 t n)

theorem hz : (![0, 0] : Fin 2 → Nat) = fun _ => 0 := funext fun a => by fin_cases a <;> rfl

theorem zero_apply (k : Fin 1024) (n : Fin 1024) : k0_pay1 (F := Ideal) (ix2 k n) = 0 := by
  unfold_payloads
  pointwise

theorem step_apply (a : Vec Ideal S1024x1024 .bf16) (s : Vec Ideal S1024x1024 .f32) (b : Vec Ideal S1024x1024 .bf16) (k : Fin 1024) (n : Fin 1024) :
    k0_pay2 (F := Ideal) a s b (ix2 k n) = s (ix2 k n) + ∑ r : Fin 1024, a (ix2 r k) * b (ix2 r n) := by
  unfold_payloads
  pointwise

section
variable (c : Dev nD) (i : grid0.Coords) (a3 : Memref sig .tc .vmem S1024x1024 .bf16) (h3 : a3.IsWhole) (a4 : Memref sig .tc .vmem S1024x1024 .bf16) (h4 : a4.IsWhole)
  (a5 : Memref sig .tc .vmem S1024x1024 .bf16) (h5 : a5.IsWhole) (a6 : Memref sig .tc .vmem S1024x1024 .f32) (h6 : a6.IsWhole)
  (x0 : Vec Ideal S1024x1024 .bf16) (x1 : Vec Ideal S1024x1024 .bf16) (xs : Vec Ideal S1024x1024 .f32)

/-- The first step of a sum starts it at zero. -/
theorem scr_A (c0 : cond0_0 i) (c1 : ¬cond0_1 i) :
    sout0_A_0 (F := Ideal) c i a3 h3 a4 h4 a5 h5 a6 h6 c0 c1 x0 x1 = k0_pay2 x0 (k0_pay1 (F := Ideal)) x1 := by
  unfold sout0_A_0
  rw [View.read_writes_eq_canon _ _ _ (scover0_A_0 c i a3 h3 a4 h4 a5 h5 a6 h6 c0 c1 x0 x1)]
  unfold kernelRun0_A
  dsimp only
  sl_unfold_words
  rw [View.canon_cons_unit_zero (S := S1024x1024) hz, View.readCov_unit_zero (S := S1024x1024) _ hz]
  simp only [View.readAt_eq_ld, h3.read_unread, h4.read_unread, View.ld_unit_zero (S := S1024x1024) hz, View.ld_unit_zero (S := S1024x1024) hz]

/-- A later step adds to it. -/
theorem scr_B (c0 : ¬cond0_0 i) (c1 : ¬cond0_1 i) :
    sout0_B_0 (F := Ideal) c i a3 h3 a4 h4 a5 h5 a6 h6 c0 c1 x0 x1 xs = k0_pay2 x0 xs x1 := by
  unfold sout0_B_0
  rw [View.read_writes_eq_canon _ _ _ (scover0_B_0 c i a3 h3 a4 h4 a5 h5 a6 h6 c0 c1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x1024) hz]

theorem scr_C (c0 : ¬cond0_0 i) (c1 : cond0_1 i) :
    sout0_C_0 (F := Ideal) c i a3 h3 a4 h4 a5 h5 a6 h6 c0 c1 x0 x1 xs = k0_pay2 x0 xs x1 := by
  unfold sout0_C_0
  rw [View.read_writes_eq_canon _ _ _ (scover0_C_0 c i a3 h3 a4 h4 a5 h5 a6 h6 c0 c1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x1024) hz]

/-- The last step of a sum also writes it out. -/
theorem out_C (c0 : ¬cond0_0 i) (c1 : cond0_1 i) :
    out0_C_2 (F := Ideal) c i a3 h3 a4 h4 a5 h5 a6 h6 c0 c1 x0 x1 xs = k0_pay2 x0 xs x1 := by
  unfold out0_C_2
  rw [View.read_writes_eq_canon _ _ _ (cover0_C_2 c i a3 h3 a4 h4 a5 h5 a6 h6 c0 c1 x0 x1 xs)]
  unfold kernelRun0_C
  dsimp only
  sl_unfold_words
  rw [View.canon_unit_zero hz, View.readCov_unit_zero (S := S1024x1024) _ hz]
  simp only [View.readAt_eq_ld, h3.read_unread, h4.read_unread, h6.read_unread, View.ld_unit_zero (S := S1024x1024) hz, View.ld_unit_zero (S := S1024x1024) hz]
  rfl
end

section
variable (m : (ℓ : Loc nD τ sig) → Buf (Elt Ideal) ℓ) (c : Dev nD)

theorem idx_in : ∀ t : Fin cfg0.N, (win0_0.index t (0 : Fin 2) = t.val % 8 ∧ win0_0.index t (1 : Fin 2) = 0)
    ∧ (win0_1.index t (0 : Fin 2) = t.val % 8 ∧ win0_1.index t (1 : Fin 2) = 0) :=
  (by decide +kernel : ∀ t : Fin grid0.N, _)

theorem in0 (t : Fin cfg0.N) (r : Fin 1024) (k : Fin 1024) :
    (iblk m c 0 t : Vec Ideal S1024x1024 .bf16) (ix2 r k) = (m ((c : Thread nD τ).loc main_arg0) : Vec Ideal S8192x1024 .bf16) (ix2 (row (t.val % 8) r) k) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 1024 + 1 * r.val = (1024 * (t.val % 8) + r.val) % 8192; rw [e0]; omega
  | ⟨1, _⟩ => show win0_0.index t (1 : Fin 2) * 1024 + 1 * k.val = k.val; rw [e1]; omega

theorem in1 (t : Fin cfg0.N) (r : Fin 1024) (n : Fin 1024) :
    (iblk m c 1 t : Vec Ideal S1024x1024 .bf16) (ix2 r n) = (m ((c : Thread nD τ).loc main_arg1) : Vec Ideal S8192x1024 .bf16) (ix2 (row (t.val % 8) r) n) := by
  have hN := lt_of_lt_of_eq t.isLt N_0
  obtain ⟨e0, e1⟩ := (idx_in t).2
  refine congrArg (m ((c : Thread nD τ).loc main_arg1) : Vec Ideal S8192x1024 .bf16) (funext fun a => Fin.ext ?_)
  match a with
  | ⟨0, _⟩ => show win0_1.index t (0 : Fin 2) * 1024 + 1 * r.val = (1024 * (t.val % 8) + r.val) % 8192; rw [e0]; omega
  | ⟨1, _⟩ => show win0_1.index t (1 : Fin 2) * 1024 + 1 * n.val = n.val; rw [e1]; omega

/-- What the positions contribute. -/
abbrev tm (k : Fin 1024) (n : Fin 1024) : Fin 8192 → EReal :=
  term (m ((c : Thread nD τ).loc main_arg0)) (m ((c : Thread nD τ).loc main_arg1)) k n

/-- A step over what the steps before left. -/
theorem step (t : Fin cfg0.N) (xs : Vec Ideal S1024x1024 .f32) (k : Fin 1024) (n : Fin 1024)
    (h : xs (ix2 k n) = sumTo (tm m c k n) (1024 * (t.val % 8))) :
    k0_pay2 (F := Ideal) (iblk m c 0 t) xs (iblk m c 1 t) (ix2 k n) = sumTo (tm m c k n) (1024 * (t.val % 8 + 1)) := by
  refine (step_apply _ _ _ k n).trans ?_
  simp only [in0, in1]
  rw [h]
  exact sumTo_block _ _ (Nat.mod_lt _ (by decide))

/-- What the scratch holds after a point: the sum over the positions met since it was started. -/
theorem scr_apply (k : Fin 1024) (n : Fin 1024) : ∀ (p : ℕ) (h : p < cfg0.N),
    (outsAt0 m c p h).2 (ix2 k n) = sumTo (tm m c k n) (1024 * (p % 8 + 1))
  | 0, h => by
    rw [outsAt0_A m c ⟨0, h⟩ rfl (by dsimp only; omega)]
    dsimp only
    rw [scr_A]
    exact step m c ⟨0, h⟩ _ k n ((zero_apply k n).trans (sumTo_zero _).symm)
  | p + 1, h => by
    by_cases h0 : (p + 1) % 8 = 0
    · rw [outsAt0_A m c ⟨p + 1, h⟩ h0 (by dsimp only; omega)]
      dsimp only
      rw [scr_A]
      refine step m c ⟨p + 1, h⟩ _ k n ((zero_apply k n).trans ?_)
      dsimp only
      rw [h0]
      exact (sumTo_zero _).symm
    · have hp := scr_apply k n p (Nat.lt_of_succ_lt h)
      rw [show p % 8 + 1 = (p + 1) % 8 by omega] at hp
      by_cases h1 : (p + 1) % 8 = 7
      · rw [outsAt0_C m c ⟨p + 1, h⟩ h0 h1]
        dsimp only
        rw [scr_C]
        exact step m c ⟨p + 1, h⟩ _ k n hp
      · rw [outsAt0_B m c ⟨p + 1, h⟩ h0 h1]
        dsimp only
        rw [scr_B]
        exact step m c ⟨p + 1, h⟩ _ k n hp

/-- What the last point of a sum writes out. -/
theorem out_apply (k : Fin 1024) (n : Fin 1024) (p : ℕ) (h : p < cfg0.N) (h1 : p % 8 = 7) :
    (outsAt0 m c p h).1 (ix2 k n) = ∑ t, tm m c k n t := by
  have h0 : ¬p % 8 = 0 := by omega
  have hp := scr_apply m c k n (p - 1) (by omega)
  rw [show (p - 1) % 8 + 1 = p % 8 by omega] at hp
  rw [outsAt0_C m c ⟨p, h⟩ h0 h1]
  dsimp only
  rw [out_C]
  refine (step m c ⟨p, h⟩ _ k n hp).trans ?_
  dsimp only
  rw [h1]
  exact sumTo_all _

/-- The whole result. -/
def G : Buf (Elt Ideal) ((c : Thread nD τ).loc main_v0) := fun i : S1024x1024.Idx => (∑ t, tm m c (i 0) (i 1) t : EReal)

theorem result_eq : Value.G2 (F := Ideal) m c = G m c := by
  funext i
  obtain ⟨⟨k, n⟩, rfl⟩ : ∃ a : Fin 1024 × Fin 1024, i = ix2 a.1 a.2 := ⟨(i 0, i 1), eq_ix2 i⟩
  have hk := k.isLt
  have hn := n.isLt
  have hp : Value.pt2Of (ix2 k n) = 7 := by
    show 8 * (1 * (k.val / 1024 - 0) + 1 * (n.val / 1024 - 0)) + 7 = _
    omega
  have hN : cfg0.N = 8 := N_0
  unfold Value.G2
  rw [dif_pos (by rw [hp]; omega)]
  rw [← Value.outsAt0_sweep m c (Value.pt2Of (ix2 k n)) (by rw [hp]; omega)]
  have hl : Value.loc2Of (ix2 k n) = ix2 k n := by
    funext a; apply Fin.ext
    match a with
    | ⟨0, _⟩ => show k.val % 1024 = k.val; omega
    | ⟨1, _⟩ => show n.val % 1024 = n.val; omega
  rw [hl]
  exact out_apply m c k n _ _ (by rw [hp])

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (result_eq m c), (h c).2⟩) (Value.run m ρ)
end
end Cert.OutDwIdeal.Mlp

namespace Cert.OutDwRefIdeal.Mlp
open Cert.OutDwRefIdeal Cert.OutDwRefIdeal.Gen Idealize.ShloMosaic

/-- The reference's result as its operations compose it. -/
def res (h : FVec Ideal S8192x1024 .bf16) (du : FVec Ideal S8192x1024 .bf16) : FVec Ideal S1024x1024 .bf16 :=
  truncf .bf16 (transpose S1024x1024 [1, 0] (Host.dotGeneral dot_S8192x1024_S8192x1024_S1024x1024_0_0_1_1_n_n none (extf .f32 du bitsLt_bf16_f32) (extf .f32 h bitsLt_bf16_f32)) transposes_S1024x1024_S1024x1024_1_0) bitsLt_bf16_f32

theorem result_apply (h : FVec Ideal S8192x1024 .bf16) (du : FVec Ideal S8192x1024 .bf16) (k : Fin 1024) (n : Fin 1024) :
    res h du (ix2 k n) = ∑ t, Cert.OutDwIdeal.Mlp.term h du k n t := by
  unfold res
  pointwise
  exact Finset.sum_congr rfl fun t _ => mul_comm _ _
end Cert.OutDwRefIdeal.Mlp

namespace Cert.OutDwIdeal.Mlp
open Idealize.ShloMosaic Idealize.ShloMosaic.TcCoe Idealize.SL.Sem

/-- The kernel's gradient is the reference's. -/
theorem equal : Cert.algebraic_OutDwIdeal_OutDwRefIdeal := by
  intro m g m' g' _ hargs
  refine ⟨fun c => G m c, run m g, ?_⟩
  refine (θ_run _ _ _).mono (fun r h c => ⟨(h c).1.trans ?_, (h c).2⟩) (Cert.OutDwRefIdeal.Value.run (F := Ideal) m' g')
  obtain ⟨a0, a1⟩ := hargs c
  rw [a0, a1]
  funext i
  obtain ⟨⟨k, n⟩, rfl⟩ : ∃ a : Fin 1024 × Fin 1024, i = ix2 a.1 a.2 := ⟨(i 0, i 1), eq_ix2 i⟩
  exact Cert.OutDwRefIdeal.Mlp.result_apply _ _ k n

/-- The kernel before idealization is the same text: the same bodies, the same program. -/
theorem defs_eq : Cert.OutDw.defs (F := Bits) = Cert.OutDwIdeal.defs (F := Bits) := by
  refine congrArg (Pipeline.defs _) ?_
  unfold Cert.OutDw.defs₀ Cert.OutDwIdeal.defs₀
  refine congrArg Defs.onTc (funext fun l => funext fun x => ?_)
  match l, x with
  | 0, (t, s) => rfl

/-- Its run, in machine arithmetic, is this one. -/
theorem frame_kernel : Cert.quiescent_OutDw := by
  intro m ρ _
  have h := Cert.OutDwIdeal.Gen.frame (F := Bits) m ρ
  rw [← defs_eq] at h
  exact h

/-- The reference runs, leaves its arguments unchanged and has no counter. -/
theorem frame_reference : Cert.quiescent_OutDwRefIdeal := fun m ρ _ =>
  (θ_run _ _ _).mono (fun r h => ⟨fun c => (h c).2, Idealize.ShloMosaic.sem_eq_zero_of_no_sems (by decide) r.2⟩)
    (Cert.OutDwRefIdeal.Value.run (F := Ideal) m ρ)
end Cert.OutDwIdeal.Mlp
-- ==== Proof.Mlp.InFwd.lean ====
/-
  Layer 0's projections: the kernel normalizes a block of rows, keeps it, scales it by the gain and multiplies it by the
  weights; what it does to the rows is what it does in the MLP, and is read there.
-/
module
public import proofs.«01_k».proof.Proof.Mlp.Up1
public import proofs.«01_k».proof.Proof.Gen.InFwd
public import proofs.«01_k».proof.Proof.Gen.InFwdIdeal.Value
public import proofs.«01_k».proof.Proof.Gen.InFwdRefIdeal.Run
public import Idealize.ShloMosaic.Lib.Pointwise
public import Idealize.ShloMosaic.Lib.Quiescent
@[expose] public section
set_option maxRecDepth 16384
noncomputable section
namespace Cert.InFwdIdeal.Mlp
open Cert.Up1Ideal.Mlp (h hz)
open Cert.InFwdIdeal Cert.InFwdIdeal.Gen Cert.Mlp Idealize.ShloMosaic Idealize.ShloMosaic.TcCoe Idealize.SL.Sem

/-- Entry `f` of position `i`'s projections. -/
def u (x : Vec Ideal S8192x1024 .f32) (g : Vec Ideal S1x1024 .f32) (w : Vec Ideal S1024x4608 .bf16) (i : Fin 8192) (f : Fin 4608) : EReal :=
  ∑ d : Fin 1024, h x g i d * w (ix2 d f)

/-! What the body computes, at an index: to the rows, what it does in the MLP. -/

theorem norm_apply (x : Vec Ideal S512x1024 .f32) (g : Vec Ideal S1x1024 .f32) (r : Fin 512) (d : Fin 1024) :
    k0_pay1 (F := Ideal) x g (ix2 r d) = x (ix2 r d) * (invRms fun k => x (ix2 r k)) * g (ix2 0 d) :=
  Cert.Up1Ideal.Mlp.norm_apply x g r d

theorem kept_apply (x : Vec Ideal S512x1024 .f32) (g : Vec Ideal S1x1024 .f32) (r : Fin 512) (d : Fin 1024) :
    k0_pay2 (F := Ideal) x g (ix2 r d) = x (ix2 r d) * (invRms fun k => x (ix2 r k)) * g (ix2 0 d) :=
  Cert.Up1Ideal.Mlp.kept_apply x g r d

theorem product_apply (a : Vec Ideal S512x1024 .bf16) (w : Vec Ideal S1024x4608 .bf16) (r : Fin 512) (f : Fin 4608) :
    k0_pay3 (F := Ideal) a w (ix2 r f) = ∑ d : Fin 1024, a (ix2 r d) * w (ix2 d f) := by
  unfold_payloads
  pointwise

section
variable (c : Dev nD) (i : grid0.Coords) (a2 : Memref sig .tc .vmem S512x1024 .f32) (h2 : a2.IsWhole) (a3 : Memref sig .tc .vmem S1x1024 .f32) (h3 : a3.IsWhole)
  (a4 : Memref sig .tc .vmem S1024x4608 .bf16) (h4 : a4.IsWhole) (a5 : Memref sig .tc .vmem S512x4608 .f32) (h5 : a5.IsWhole)
  (a6 : Memref sig .tc .vmem S512x1024 .bf16) (h6 : a6.IsWhole) (a7 : Memref sig .tc .vmem S512x1024 .bf16) (h7 : a7.IsWhole) (c0 : cond0_0 i)
  (x0 : Vec Ideal S512x1024 .f32) (x1 : Vec Ideal S1x1024 .f32) (x2 : Vec Ideal S1024x4608 .bf16)

/-- A point multiplies the block it has just kept. -/
theorem u_A : out0_A_3 (F := Ideal) c i a2 h2 a3 h3 a4 h4 a5 h5 a6 h6 a7 h7 c0 x0 x1 x2 = k0_pay3 (k0_pay2 x0 x1) x2 := by
  unfold out0_A_3
  rw [View.read_writes_eq_canon _ _ _ (cover0_A_3 c i a2 h2 a3 h3 a4 h4 a5 h5 a6 h6 a7 h7 c0 x0 x1 x2)]
  unfold kernelRun0_A
  dsimp only
  sl_unfold_words
  rw [View.canon_unit_zero hz, View.readCov_unit_zero (S := S512x1024) _ hz]
  simp only [View.readAt_eq_ld, h2.read_unread, h3.read_unread, h4.read_unread, View.ld_unit_zero (S := S512x1024) hz, View.ld_unit_zero (S := S1x1024) hz, View.ld_unit_zero (S := S1024x4608) hz]

theorem h_A : out0_A_4 (F := Ideal) c i a2 h2 a3 h3 a4 h4 a5 h5 a6 h6 a7 h7 c0 x0 x1 x2 = k0_pay1 x0 x1 := by
  unfold out0_A_4
  rw [View.read_writes_eq_canon _ _ _ (cover0_A_4 c i a2 h2 a3 h3 a4 h4 a5 h5 a6 h6 a7 h7 c0 x0 x1 x2)]
  unfold kernelRun0_A
  dsimp only
  sl_unfold_words
  rw [View.canon_unit_zero hz]
  simp only [View.readAt_eq_ld, h2.read_unread, h3.read_unread, View.ld_unit_zero (S := S512x1024) hz, View.ld_unit_zero (S := S1x1024) hz]
end

section
variable (m : (ℓ : Loc nD τ sig) → Buf (Elt Ideal) ℓ) (c : Dev nD) (t : Fin cfg0.N)

/-- The row of the whole array that row `r` of point `n`'s block is. -/
abbrev at_ (n : ℕ) (r : Fin 512) : Fin 8192 := ⟨(512 * n + r.val) % 8192, Nat.mod_lt _ (by decide)⟩

abbrev X : Vec Ideal S8192x1024 .f32 := m ((c : Thread nD τ).loc main_arg0)
abbrev G : Vec Ideal S1x1024 .f32 := m ((c : Thread nD τ).loc main_arg1)
abbrev W : Vec Ideal S1024x4608 .bf16 := m ((c : Thread nD τ).loc main_arg2)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0 ∧ win0_3.flush t = true)
    ∧ (win0_4.index t (0 : Fin 2) = t.val ∧ win0_4.index t (1 : Fin 2) = 0 ∧ win0_4.flush t = true) :=
  (by decide +kernel : ∀ t : Fin grid0.N, _)

theorem in0 (r : Fin 512) (d : Fin 1024) : (iblk m c 0 t : Vec Ideal S512x1024 .f32) (ix2 r d) = X m c (ix2 (at_ t.val r) d) := by
  have hN := lt_of_lt_of_eq t.isLt N_0
  obtain ⟨e0, e1⟩ := (idx_in t).1
  refine congrArg (X m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1024 + 1 * d.val = d.val; rw [e1]; omega

theorem in1 (d : Fin 1024) : (iblk m c 1 t : Vec Ideal S1x1024 .f32) (ix2 0 d) = G m c (ix2 0 d) := by
  obtain ⟨e0, e1⟩ := (idx_in t).2.1
  refine congrArg (G m c) (funext fun a => Fin.ext ?_)
  match a with
  | ⟨0, _⟩ => show win0_1.index t (0 : Fin 2) * 1 + 1 * 0 = 0; rw [e0]
  | ⟨1, _⟩ => show win0_1.index t (1 : Fin 2) * 1024 + 1 * d.val = d.val; rw [e1]; omega

theorem in2 (d : Fin 1024) (f : Fin 4608) : (iblk m c 2 t : Vec Ideal S1024x4608 .bf16) (ix2 d f) = W m c (ix2 d f) := by
  obtain ⟨e0, e1⟩ := (idx_in t).2.2.1
  refine congrArg (W m c) (funext fun a => Fin.ext ?_)
  match a with
  | ⟨0, _⟩ => show win0_2.index t (0 : Fin 2) * 1024 + 1 * d.val = d.val; rw [e0]; omega
  | ⟨1, _⟩ => show win0_2.index t (1 : Fin 2) * 4608 + 1 * f.val = f.val; rw [e1]; omega

/-- The whole first result. -/
def Hid : Buf (Elt Ideal) ((c : Thread nD τ).loc main_v0_0) := fun i : S8192x4608.Idx => u (X m c) (G m c) (W m c) (i 0) (i 1)
/-- The whole second result. -/
def Nrm : Buf (Elt Ideal) ((c : Thread nD τ).loc main_v0_1) := fun i : S8192x1024.Idx => h (X m c) (G m c) (i 0) (i 1)

theorem flushed_u : (dats m 0 c).flushed 3 t = ((cfg0.win 3).blk t).view.read (Elt Ideal) (Hid m c) := by
  rw [Value.flushed3_A, u_A]
  funext y
  obtain ⟨⟨r, f⟩, rfl⟩ : ∃ a : Fin 512 × Fin 4608, y = ix2 a.1 a.2 := ⟨(y 0, y 1), eq_ix2 y⟩
  have e : k0_pay3 (F := Ideal) (k0_pay2 (iblk m c 0 t) (iblk m c 1 t)) (iblk m c 2 t) (ix2 r f) = Hid m c (ix2 (at_ t.val r) f) := by
    rw [product_apply]
    simp only [kept_apply, in0, in1, in2]
    rfl
  refine e.trans ?_
  have hN := lt_of_lt_of_eq t.isLt N_0
  obtain ⟨e0, e1, -⟩ := (idx_in t).2.2.2.1
  refine congrArg (Hid m c) (a₁ := ix2 (at_ t.val r) f) (funext fun a => Fin.ext ?_)
  match a with
  | ⟨0, _⟩ => show (512 * t.val + r.val) % 8192 = win0_3.index t (0 : Fin 2) * 512 + 1 * r.val; rw [e0]; omega
  | ⟨1, _⟩ => show f.val = win0_3.index t (1 : Fin 2) * 4608 + 1 * f.val; rw [e1]; omega

theorem flushed_h : (dats m 0 c).flushed 4 t = ((cfg0.win 4).blk t).view.read (Elt Ideal) (Nrm m c) := by
  rw [Value.flushed4_A, h_A]
  funext y
  obtain ⟨⟨r, d⟩, rfl⟩ : ∃ a : Fin 512 × Fin 1024, y = ix2 a.1 a.2 := ⟨(y 0, y 1), eq_ix2 y⟩
  have e : k0_pay1 (F := Ideal) (iblk m c 0 t) (iblk m c 1 t) (ix2 r d) = Nrm m c (ix2 (at_ t.val r) d) := by
    rw [norm_apply]
    simp only [in0, in1]
    rfl
  refine e.trans ?_
  have hN := lt_of_lt_of_eq t.isLt N_0
  obtain ⟨e0, e1, -⟩ := (idx_in t).2.2.2.2
  refine congrArg (Nrm m c) (a₁ := ix2 (at_ t.val r) d) (funext fun a => Fin.ext ?_)
  match a with
  | ⟨0, _⟩ => show (512 * t.val + r.val) % 8192 = win0_4.index t (0 : Fin 2) * 512 + 1 * r.val; rw [e0]; omega
  | ⟨1, _⟩ => show d.val = win0_4.index t (1 : Fin 2) * 1024 + 1 * d.val; rw [e1]; omega

theorem final_u : (dats m 0 c).arrAt 3 cfg0.N = Hid m c :=
  (dats m 0 c).arrAt_eq_of_cover 3 (Hid m c) (fun t _ => flushed_u m c t) fun i => by
    have h0 : (i 0).val < 8192 := (i 0).isLt
    have h1 : (i 1).val < 4608 := (i 1).isLt
    have hN : cfg0.N = 16 := N_0
    let t : Fin cfg0.N := ⟨(i 0).val / 512, by rw [hN]; omega⟩
    obtain ⟨e0, e1, ef⟩ := (idx_in t).2.2.2.1
    refine ⟨t, ef, ?_⟩
    show i ∈ ((View.whole main_v0_0).slice (win0_3.rect t)).set
    rw [View.set_slice_whole, Rect.mem_set_unit]
    intro a
    match a with
    | ⟨0, _⟩ => show win0_3.index t (0 : Fin 2) * 512 ≤ (i 0).val ∧ (i 0).val < win0_3.index t (0 : Fin 2) * 512 + 512; rw [e0]; show (i 0).val / 512 * 512 ≤ _ ∧ _ < (i 0).val / 512 * 512 + 512; omega
    | ⟨1, _⟩ => show win0_3.index t (1 : Fin 2) * 4608 ≤ (i 1).val ∧ (i 1).val < win0_3.index t (1 : Fin 2) * 4608 + 4608; rw [e1]; omega

theorem final_h : (dats m 0 c).arrAt 4 cfg0.N = Nrm m c :=
  (dats m 0 c).arrAt_eq_of_cover 4 (Nrm m c) (fun t _ => flushed_h m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1, ef⟩ := (idx_in t).2.2.2.2
    refine ⟨t, ef, ?_⟩
    show i ∈ ((View.whole main_v0_1).slice (win0_4.rect t)).set
    rw [View.set_slice_whole, Rect.mem_set_unit]
    intro a
    match a with
    | ⟨0, _⟩ => show win0_4.index t (0 : Fin 2) * 512 ≤ (i 0).val ∧ (i 0).val < win0_4.index t (0 : Fin 2) * 512 + 512; rw [e0]; show (i 0).val / 512 * 512 ≤ _ ∧ _ < (i 0).val / 512 * 512 + 512; omega
    | ⟨1, _⟩ => show win0_4.index t (1 : Fin 2) * 1024 ≤ (i 1).val ∧ (i 1).val < win0_4.index t (1 : Fin 2) * 1024 + 1024; rw [e1]; omega

/-- The run: the two results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = Hid m c
      ∧ r.2.mem ((c : Thread nD τ).loc main_v0_1) = Nrm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final_u m c), ((h c).2.1).trans (final_h m c), (h c).2.2⟩) (Value.run_blocks m ρ)
end
end Cert.InFwdIdeal.Mlp

namespace Cert.InFwdRefIdeal.Mlp
open Cert.InFwdRefIdeal Cert.InFwdRefIdeal.Gen Cert.Mlp Idealize.ShloMosaic Idealize.ShloMosaic.TcCoe Idealize.SL.Sem
variable (x : FVec Ideal S8192x1024 .f32) (g : FVec Ideal S1x1024 .f32) (w : FVec Ideal S1024x4608 .bf16)

/-! The reference's first result as its operations compose it; its second is the MLP's. -/

/-- The projections. -/
def res : FVec Ideal S8192x4608 .f32 :=
  Host.dotGeneral dot_S8192x1024_S1024x4608_S8192x4608_1_0_0_1_n_n none (Cert.Up1RefIdeal.Mlp.norm x g) (extf .f32 w bitsLt_bf16_f32)

theorem res_apply (i : Fin 8192) (f : Fin 4608) : res x g w (ix2 i f) = Cert.InFwdIdeal.Mlp.u x g w i f := by
  unfold res
  pointwise
  simp only [Cert.Up1RefIdeal.Mlp.norm_apply]
  rfl
end Cert.InFwdRefIdeal.Mlp

namespace Cert.InFwdIdeal.Mlp
open Idealize.ShloMosaic Idealize.ShloMosaic.TcCoe Idealize.SL.Sem

/-- The kernel's projections and normalized rows are the reference's. -/
theorem equal : Cert.algebraic_InFwdIdeal_InFwdRefIdeal := by
  intro m g m' g' _ hargs
  refine ⟨fun c => Hid m c, fun c => Nrm m c, run m g, ?_⟩
  refine (θ_run _ _ _).mono (fun r h c => ⟨(h c).1.trans ?_, (h c).2.1.trans ?_, (h c).2.2⟩) (Cert.InFwdRefIdeal.Value.run (F := Ideal) m' g')
  · obtain ⟨a0, a1, a2⟩ := hargs c
    rw [a0, a1, a2]
    funext i
    obtain ⟨⟨x, f⟩, rfl⟩ : ∃ a : Fin 8192 × Fin 4608, i = ix2 a.1 a.2 := ⟨(i 0, i 1), eq_ix2 i⟩
    exact Cert.InFwdRefIdeal.Mlp.res_apply (X m c) (G m c) (W m c) x f
  · obtain ⟨a0, a1, -⟩ := hargs c
    rw [a0, a1]
    funext i
    obtain ⟨⟨x, d⟩, rfl⟩ : ∃ a : Fin 8192 × Fin 1024, i = ix2 a.1 a.2 := ⟨(i 0, i 1), eq_ix2 i⟩
    exact Cert.Up1RefIdeal.Mlp.norm_apply (X m c) (G m c) x d

/-- The kernel before idealization is the same text: the same bodies, the same program. -/
theorem defs_eq : Cert.InFwd.defs (F := Bits) = Cert.InFwdIdeal.defs (F := Bits) := by
  refine congrArg (Pipeline.defs _) ?_
  unfold Cert.InFwd.defs₀ Cert.InFwdIdeal.defs₀
  refine congrArg Defs.onTc (funext fun l => funext fun x => ?_)
  match l, x with
  | 0, (t, s) => rfl

/-- Its run, in machine arithmetic, is this one. -/
theorem frame_kernel : Cert.quiescent_InFwd := by
  intro m ρ _
  have h := Cert.InFwdIdeal.Gen.frame (F := Bits) m ρ
  rw [← defs_eq] at h
  exact h

/-- The reference runs, leaves its arguments unchanged and has no counter. -/
theorem frame_reference : Cert.quiescent_InFwdRefIdeal := fun m ρ _ =>
  (θ_run _ _ _).mono (fun r h => ⟨fun c => (h c).2.2, Idealize.ShloMosaic.sem_eq_zero_of_no_sems (by decide) r.2⟩)
    (Cert.InFwdRefIdeal.Value.run (F := Ideal) m ρ)
end Cert.InFwdIdeal.Mlp
-- ==== Proof.Mlp.InDx.lean ====
/-
  The gradient that leaves layer 0's projections: what `UpDx` says of the MLP, at the projections' sizes. The reference's
  mathematics is the one proved there.
-/
module
public import proofs.«01_k».proof.Proof.Mlp.UpDx
public import proofs.«01_k».proof.Proof.Gen.InDx
public import proofs.«01_k».proof.Proof.Gen.InDxIdeal.Frame
public import proofs.«01_k».proof.Proof.Gen.InDxRefIdeal.Run
public import Idealize.ShloMosaic.Lib.Pointwise
public import Idealize.ShloMosaic.Lib.Quiescent
@[expose] public section
set_option maxRecDepth 16384
noncomputable section
namespace Cert.InDxIdeal.Mlp
open Cert.InDxIdeal Cert.InDxIdeal.Gen Cert.Mlp Idealize.ShloMosaic Idealize.ShloMosaic.TcCoe Idealize.SL.Sem

/-- The gradient of the normalized row at entry `d` of position `i`. -/
def back (u : Vec Ideal S8192x4608 .bf16) (w : Vec Ideal S1024x4608 .bf16) (i : Fin 8192) (d : Fin 1024) : EReal :=
  ∑ f : Fin 4608, u (ix2 i f) * w (ix2 d f)

/-- The gradient that leaves the block. -/
def dx (u : Vec Ideal S8192x4608 .bf16) (w : Vec Ideal S1024x4608 .bf16) (x : Vec Ideal S8192x1024 .f32) (g : Vec Ideal S1x1024 .f32) (y : Vec Ideal S8192x1024 .f32)
    (i : Fin 8192) (d : Fin 1024) : EReal :=
  y (ix2 i d) + normGrad (fun k => x (ix2 i k)) (back u w i) (fun k => g (ix2 0 k)) d

/-- What position `i` contributes to the gradient of the gain at entry `d`. -/
def dgTerm (u : Vec Ideal S8192x4608 .bf16) (w : Vec Ideal S1024x4608 .bf16) (x : Vec Ideal S8192x1024 .f32) (d : Fin 1024) (i : Fin 8192) : EReal :=
  back u w i d * (x (ix2 i d) * invRms fun k => x (ix2 i k))

open Cert.UpDxIdeal.Mlp (hz)

/-! What the body computes is what it computes there. -/

theorem back_apply (a : Vec Ideal S512x4608 .bf16) (w : Vec Ideal S1024x4608 .bf16) (r : Fin 512) (d : Fin 1024) :
    k0_pay3 (F := Ideal) a w (ix2 r d) = ∑ f : Fin 4608, a (ix2 r f) * w (ix2 d f) := by
  unfold_payloads
  pointwise

theorem unit_apply (x : Vec Ideal S512x1024 .f32) (r : Fin 512) (d : Fin 1024) :
    k0_pay5 (F := Ideal) x (ix2 r d) = x (ix2 r d) * invRms fun k => x (ix2 r k) :=
  Cert.UpDxIdeal.Mlp.unit_apply x r d

theorem dx_apply (a : Vec Ideal S512x4608 .bf16) (w : Vec Ideal S1024x4608 .bf16) (x : Vec Ideal S512x1024 .f32) (g : Vec Ideal S1x1024 .f32) (y : Vec Ideal S512x1024 .f32) (r : Fin 512) (d : Fin 1024) :
    k0_pay6 (F := Ideal) a w x g y (ix2 r d) = y (ix2 r d) + normGrad (fun k => x (ix2 r k)) (fun k => ∑ f : Fin 4608, a (ix2 r f) * w (ix2 k f)) (fun k => g (ix2 0 k)) d := by
  unfold k0_pay6
  pointwise
  simp only [show ∀ r, k0_pay4 (F := Ideal) x (ix2 r 0) = invRms fun k => x (ix2 r k) from fun r => Cert.UpDxIdeal.Mlp.root_apply x r, unit_apply, back_apply]
  rfl

section
variable (c : Dev nD) (i : grid0.Coords) (a1 : Memref sig .tc .vmem S512x4608 .bf16) (h1 : a1.IsWhole) (a2 : Memref sig .tc .vmem S1024x4608 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole) (a8 : Memref sig .tc .vmem S8x1024 .f32) (h8 : a8.IsWhole)
  (x0 : Vec Ideal S512x4608 .bf16) (x1 : Vec Ideal S1024x4608 .bf16) (x2 : Vec Ideal S512x1024 .f32) (x3 : Vec Ideal S1x1024 .f32) (x4 : Vec Ideal S512x1024 .f32) (xo : Vec Ideal S8x1024 .f32)

theorem dx_A (c0 : cond0_0 i) : out0_A_5 (F := Ideal) c i a1 h1 a2 h2 a3 h3 a4 h4 a5 h5 a6 h6 a7 h7 a8 h8 c0 x0 x1 x2 x3 x4 = k0_pay6 x0 x1 x2 x3 x4 := by
  unfold out0_A_5
  rw [View.read_writes_eq_canon _ _ _ (cover0_A_5 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4608) hz, View.ld_unit_zero (S := S1024x4608) hz, View.ld_unit_zero (S := S512x1024) hz, View.ld_unit_zero (S := S1x1024) hz]

theorem dx16_A (c0 : cond0_0 i) : out0_A_6 (F := Ideal) c i a1 h1 a2 h2 a3 h3 a4 h4 a5 h5 a6 h6 a7 h7 a8 h8 c0 x0 x1 x2 x3 x4 = k0_pay7 x0 x1 x2 x3 x4 := by
  unfold out0_A_6
  rw [View.read_writes_eq_canon _ _ _ (cover0_A_6 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4608) hz, View.ld_unit_zero (S := S1024x4608) hz, View.ld_unit_zero (S := S512x1024) hz, View.ld_unit_zero (S := S1x1024) hz]

/-- The first point starts the sum at zero. -/
theorem dg_A (c0 : cond0_0 i) : out0_A_7 (F := Ideal) c i a1 h1 a2 h2 a3 h3 a4 h4 a5 h5 a6 h6 a7 h7 a8 h8 c0 x0 x1 x2 x3 x4 = k0_pay2 (k0_pay3 x0 x1) (k0_pay5 x2) (k0_pay1 (F := Ideal)) := by
  unfold out0_A_7
  rw [View.read_writes_eq_canon _ _ _ (cover0_A_7 c i a1 h1 a2 h2 a3 h3 a4 h4 a5 h5 a6 h6 a7 h7 a8 h8 c0 x0 x1 x2 x3 x4)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, View.ld_unit_zero (S := S512x4608) hz, View.ld_unit_zero (S := S1024x4608) hz, View.ld_unit_zero (S := S512x1024) hz]

theorem dx_B (c0 : ¬cond0_0 i) : out0_B_5 (F := Ideal) c i a1 h1 a2 h2 a3 h3 a4 h4 a5 h5 a6 h6 a7 h7 a8 h8 c0 x0 x1 x2 x3 x4 xo = k0_pay6 x0 x1 x2 x3 x4 := by
  unfold out0_B_5
  rw [View.read_writes_eq_canon _ _ _ (cover0_B_5 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x4608) hz, View.ld_unit_zero (S := S1024x4608) hz, View.ld_unit_zero (S := S512x1024) hz, View.ld_unit_zero (S := S1x1024) hz]

theorem dx16_B (c0 : ¬cond0_0 i) : out0_B_6 (F := Ideal) c i a1 h1 a2 h2 a3 h3 a4 h4 a5 h5 a6 h6 a7 h7 a8 h8 c0 x0 x1 x2 x3 x4 xo = k0_pay7 x0 x1 x2 x3 x4 := by
  unfold out0_B_6
  rw [View.read_writes_eq_canon _ _ _ (cover0_B_6 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x4608) hz, View.ld_unit_zero (S := S1024x4608) hz, View.ld_unit_zero (S := S512x1024) hz, View.ld_unit_zero (S := S1x1024) hz]

/-- A later point adds to what the point before left. -/
theorem dg_B (c0 : ¬cond0_0 i) : out0_B_7 (F := Ideal) c i a1 h1 a2 h2 a3 h3 a4 h4 a5 h5 a6 h6 a7 h7 a8 h8 c0 x0 x1 x2 x3 x4 xo = k0_pay2 (k0_pay3 x0 x1) (k0_pay5 x2) xo := by
  unfold out0_B_7
  rw [View.read_writes_eq_canon _ _ _ (cover0_B_7 c i a1 h1 a2 h2 a3 h3 a4 h4 a5 h5 a6 h6 a7 h7 a8 h8 c0 x0 x1 x2 x3 x4 xo)]
  unfold kernelRun0_B
  dsimp only
  sl_unfold_words
  rw [View.canon_unit_zero hz]
  simp only [View.readAt_eq_ld, h1.read_unread, h2.read_unread, h3.read_unread, h8.read_unread, View.ld_unit_zero (S := S512x4608) hz, View.ld_unit_zero (S := S1024x4608) hz, View.ld_unit_zero (S := S512x1024) hz, View.ld_unit_zero (S := S8x1024) hz]
end

section
variable (m : (ℓ : Loc nD τ sig) → Buf (Elt Ideal) ℓ) (c : Dev nD)

/-- The row of the whole array that row `r` of point `n`'s block is. -/
abbrev at_ (n : ℕ) (r : Fin 512) : Fin 8192 := ⟨(512 * n + r.val) % 8192, Nat.mod_lt _ (by decide)⟩

abbrev U : Vec Ideal S8192x4608 .bf16 := m ((c : Thread nD τ).loc main_arg0)
abbrev W : Vec Ideal S1024x4608 .bf16 := m ((c : Thread nD τ).loc main_arg1)
abbrev X : Vec Ideal S8192x1024 .f32 := m ((c : Thread nD τ).loc main_arg2)
abbrev G : Vec Ideal S1x1024 .f32 := m ((c : Thread nD τ).loc main_arg3)
abbrev Y : Vec Ideal S8192x1024 .f32 := m ((c : Thread nD τ).loc main_arg4)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

theorem in0 (t : Fin cfg0.N) (r : Fin 512) (f : Fin 4608) : (iblk m c 0 t : Vec Ideal S512x4608 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 4608 + 1 * f.val = f.val; rw [e1]; omega

theorem in1 (t : Fin cfg0.N) (d : Fin 1024) (f : Fin 4608) : (iblk m c 1 t : Vec Ideal S1024x4608 .bf16) (ix2 d f) = W m c (ix2 d f) := by
  obtain ⟨e0, e1⟩ := (idx_in t).2.1
  refine congrArg (W m c) (funext fun a => Fin.ext ?_)
  match a with
  | ⟨0, _⟩ => show win0_1.index t (0 : Fin 2) * 1024 + 1 * d.val = d.val; rw [e0]; omega
  | ⟨1, _⟩ => show win0_1.index t (1 : Fin 2) * 4608 + 1 * f.val = f.val; rw [e1]; omega

theorem in2 (t : Fin cfg0.N) (r : Fin 512) (d : Fin 1024) : (iblk m c 2 t : Vec Ideal S512x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 1024 + 1 * d.val = d.val; rw [e1]; omega

theorem in3 (t : Fin cfg0.N) (d : Fin 1024) : (iblk m c 3 t : Vec Ideal S1x1024 .f32) (ix2 0 d) = G m c (ix2 0 d) := by
  obtain ⟨e0, e1⟩ := (idx_in t).2.2.2.1
  refine congrArg (G m c) (funext fun a => Fin.ext ?_)
  match a with
  | ⟨0, _⟩ => show win0_3.index t (0 : Fin 2) * 1 + 1 * 0 = 0; rw [e0]
  | ⟨1, _⟩ => show win0_3.index t (1 : Fin 2) * 1024 + 1 * d.val = d.val; rw [e1]; omega

theorem in4 (t : Fin cfg0.N) (r : Fin 512) (d : Fin 1024) : (iblk m c 4 t : Vec Ideal S512x1024 .f32) (ix2 r d) = Y m c (ix2 (at_ t.val r) d) := by
  have hN := lt_of_lt_of_eq t.isLt N_0
  obtain ⟨e0, e1⟩ := (idx_in t).2.2.2.2.1
  refine congrArg (Y m c) (funext fun a => Fin.ext ?_)
  match a with
  | ⟨0, _⟩ => show win0_4.index t (0 : Fin 2) * 512 + 1 * r.val = (512 * t.val + r.val) % 8192; rw [e0]; omega
  | ⟨1, _⟩ => show win0_4.index t (1 : Fin 2) * 1024 + 1 * d.val = d.val; rw [e1]; omega

/-- The whole first result. -/
def D : Buf (Elt Ideal) ((c : Thread nD τ).loc main_v0_0) := fun i : S8192x1024.Idx => dx (U m c) (W m c) (X m c) (G m c) (Y m c) (i 0) (i 1)
/-- The second, which differs in its format only. -/
def D16 : Buf (Elt Ideal) ((c : Thread nD τ).loc main_v0_1) := fun i : S8192x1024.Idx => dx (U m c) (W m c) (X m c) (G m c) (Y m c) (i 0) (i 1)

/-- What a point stores. -/
theorem point_apply (t : Fin cfg0.N) (r : Fin 512) (d : Fin 1024) :
    k0_pay6 (F := Ideal) (iblk m c 0 t) (iblk m c 1 t) (iblk m c 2 t) (iblk m c 3 t) (iblk m c 4 t) (ix2 r d) = dx (U m c) (W m c) (X m c) (G m c) (Y m c) (at_ t.val r) d := by
  refine (dx_apply _ _ _ _ _ r d).trans ?_
  simp only [in0, in1, in2, in3, in4]
  rfl

theorem left_dx (t : Fin cfg0.N) : (outsAt0 m c t.val t.isLt).1 = k0_pay6 (F := Ideal) (iblk m c 0 t) (iblk m c 1 t) (iblk m c 2 t) (iblk m c 3 t) (iblk m c 4 t) := by
  by_cases h : t.val % 16 = 0
  · rw [outsAt0_A m c t h]; dsimp only; rw [dx_A]
  · rw [outsAt0_B m c t h]; dsimp only; rw [dx_B]

theorem left_dx16 (t : Fin cfg0.N) : (outsAt0 m c t.val t.isLt).2.1 = k0_pay7 (F := Ideal) (iblk m c 0 t) (iblk m c 1 t) (iblk m c 2 t) (iblk m c 3 t) (iblk m c 4 t) := by
  by_cases h : t.val % 16 = 0
  · rw [outsAt0_A m c t h]; dsimp only; rw [dx16_A]
  · rw [outsAt0_B m c t h]; dsimp only; rw [dx16_B]

theorem flushed_dx (t : Fin cfg0.N) : (dats m 0 c).flushed 5 t = ((cfg0.win 5).blk t).view.read (Elt Ideal) (D m c) := by
  show (cfg0.win 5).cut (grid0.coords t) ((dats m 0 c).after 5 t) = _
  rw [after0_5, left_dx]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.1
  refine congrArg (D m c) (a₁ := ix2 (at_ t.val r) d) (funext fun a => Fin.ext ?_)
  match a with
  | ⟨0, _⟩ => show (512 * t.val + r.val) % 8192 = win0_5.index t (0 : Fin 2) * 512 + 1 * r.val; rw [e0]; omega
  | ⟨1, _⟩ => show d.val = win0_5.index t (1 : Fin 2) * 1024 + 1 * d.val; rw [e1]; omega

theorem flushed_dx16 (t : Fin cfg0.N) : (dats m 0 c).flushed 6 t = ((cfg0.win 6).blk t).view.read (Elt Ideal) (D16 m c) := by
  show (cfg0.win 6).cut (grid0.coords t) ((dats m 0 c).after 6 t) = _
  rw [after0_6, left_dx16]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.2.1
  refine congrArg (D16 m c) (a₁ := ix2 (at_ t.val r) d) (funext fun a => Fin.ext ?_)
  match a with
  | ⟨0, _⟩ => show (512 * t.val + r.val) % 8192 = win0_6.index t (0 : Fin 2) * 512 + 1 * r.val; rw [e0]; omega
  | ⟨1, _⟩ => show d.val = win0_6.index t (1 : Fin 2) * 1024 + 1 * d.val; rw [e1]; omega

theorem final_dx : (dats m 0 c).arrAt 5 cfg0.N = D m c :=
  (dats m 0 c).arrAt_eq_of_cover 5 (D m c) (fun t _ => flushed_dx m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; rw [e0]; show (i 0).val / 512 * 512 ≤ _ ∧ _ < (i 0).val / 512 * 512 + 512; omega
    | ⟨1, _⟩ => show win0_5.index t (1 : Fin 2) * 1024 ≤ (i 1).val ∧ (i 1).val < win0_5.index t (1 : Fin 2) * 1024 + 1024; rw [e1]; omega

theorem final_dx16 : (dats m 0 c).arrAt 6 cfg0.N = D16 m c :=
  (dats m 0 c).arrAt_eq_of_cover 6 (D16 m c) (fun t _ => flushed_dx16 m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.2.1
    refine ⟨t, flush0_6 t, ?_⟩
    show i ∈ ((View.whole main_v0_1).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0]; show (i 0).val / 512 * 512 ≤ _ ∧ _ < (i 0).val / 512 * 512 + 512; omega
    | ⟨1, _⟩ => show win0_6.index t (1 : Fin 2) * 1024 ≤ (i 1).val ∧ (i 1).val < win0_6.index t (1 : Fin 2) * 1024 + 1024; rw [e1]; omega

/-! The gradient of the gain. -/

/-- What the `j`-th of the positions that leave remainder `r` contributes. -/
abbrev tm (r : Fin 8) (d : Fin 1024) (j : ℕ) : EReal := dgTerm (U m c) (W m c) (X m c) d ⟨(8 * j + r.val) % 8192, Nat.mod_lt _ (by decide)⟩

/-- A point over what the points before left. -/
theorem step (t : Fin cfg0.N) (s : Vec Ideal S8x1024 .f32) (r : Fin 8) (d : Fin 1024) (h : s (ix2 r d) = ∑ j ∈ Finset.range (64 * t.val), tm m c r d j) :
    k0_pay2 (F := Ideal) (k0_pay3 (iblk m c 0 t) (iblk m c 1 t)) (k0_pay5 (iblk m c 2 t)) s (ix2 r d) = ∑ j ∈ Finset.range (64 * (t.val + 1)), tm m c r d j := by
  refine (Cert.UpDxIdeal.Mlp.gain_apply _ _ _ r d).trans ?_
  rw [h, Nat.mul_add, Nat.mul_one, Finset.sum_range_add, Finset.sum_range (n := 64)]
  refine congrArg _ (Finset.sum_congr rfl fun j _ => ?_)
  rw [back_apply, unit_apply]
  simp only [in0, in1, in2]
  have e : at_ t.val ⟨j.val * 8 + r.val, by have := j.isLt; have := r.isLt; omega⟩ = ⟨(8 * (64 * t.val + j.val) + r.val) % 8192, Nat.mod_lt _ (by decide)⟩ := Fin.ext (by show (512 * t.val + (j.val * 8 + r.val)) % 8192 = _; dsimp only; congr 1; omega)
  rw [e]
  rfl

/-- What the sum's block holds after a point. -/
theorem left_dg (r : Fin 8) (d : Fin 1024) : ∀ (p : ℕ) (h : p < cfg0.N), (outsAt0 m c p h).2.2 (ix2 r d) = ∑ j ∈ Finset.range (64 * (p + 1)), tm m c r d j
  | 0, h => by
    rw [outsAt0_A m c ⟨0, h⟩ rfl]
    dsimp only
    rw [dg_A]
    exact step m c ⟨0, h⟩ _ r d ((Cert.UpDxIdeal.Mlp.zero_apply r d).trans (Finset.sum_range_zero _).symm)
  | p + 1, h => by
    have hN := lt_of_lt_of_eq h N_0
    rw [outsAt0_B m c ⟨p + 1, h⟩ (by dsimp only; omega)]
    dsimp only
    rw [dg_B]
    exact step m c ⟨p + 1, h⟩ _ r d (left_dg r d p (Nat.lt_of_succ_lt h))

/-- The sums, one for each remainder. -/
def Dg8 : Buf (Elt Ideal) ((c : Thread nD τ).loc main_v0_2) := fun i : S8x1024.Idx => (∑ j ∈ Finset.range 1024, tm m c (i 0) (i 1) j : EReal)
/-- The whole third result. -/
def Dg : Buf (Elt Ideal) ((c : Thread nD τ).loc main_v1) := fun i : S1024.Idx => (∑ i', dgTerm (U m c) (W m c) (X m c) (i 0) i' : EReal)

theorem final_dg : (dats m 0 c).arrAt 7 cfg0.N = Dg8 m c :=
  (dats m 0 c).arrAt_eq_of_cover 7 (Dg8 m c) (fun t hf => by
    have hN := lt_of_lt_of_eq t.isLt N_0
    have ht : t.val = 15 := by have := (flush0_7 t).mp hf; omega
    show (cfg0.win 7).cut (grid0.coords t) ((dats m 0 c).after 7 t) = _
    rw [after0_7]
    funext y
    obtain ⟨⟨r, d⟩, rfl⟩ : ∃ a : Fin 8 × Fin 1024, y = ix2 a.1 a.2 := ⟨(y 0, y 1), eq_ix2 y⟩
    refine (left_dg m c r d t.val t.isLt).trans ?_
    rw [ht]
    obtain ⟨e0, e1⟩ := (idx_in t).2.2.2.2.2.2.2
    refine congrArg (Dg8 m c) (a₁ := ix2 r d) (funext fun a => Fin.ext ?_)
    match a with
    | ⟨0, _⟩ => show r.val = win0_7.index t (0 : Fin 2) * 8 + 1 * r.val; rw [e0]; omega
    | ⟨1, _⟩ => show d.val = win0_7.index t (1 : Fin 2) * 1024 + 1 * d.val; rw [e1]; omega) fun i => by
    have h0 : (i 0).val < 8 := (i 0).isLt
    have h1 : (i 1).val < 1024 := (i 1).isLt
    have hN : cfg0.N = 16 := N_0
    let t : Fin cfg0.N := ⟨15, by rw [hN]; omega⟩
    obtain ⟨e0, e1⟩ := (idx_in t).2.2.2.2.2.2.2
    refine ⟨t, (flush0_7 t).mpr rfl, ?_⟩
    show i ∈ ((View.whole main_v0_2).slice (win0_7.rect t)).set
    rw [View.set_slice_whole, Rect.mem_set_unit]
    intro a
    match a with
    | ⟨0, _⟩ => show win0_7.index t (0 : Fin 2) * 8 ≤ (i 0).val ∧ (i 0).val < win0_7.index t (0 : Fin 2) * 8 + 8; rw [e0]; omega
    | ⟨1, _⟩ => show win0_7.index t (1 : Fin 2) * 1024 ≤ (i 1).val ∧ (i 1).val < win0_7.index t (1 : Fin 2) * 1024 + 1024; rw [e1]; omega

theorem fold_eq : Cert.UpDxIdeal.Mlp.fold (Dg8 m c) = Dg m c := by
  funext i
  obtain ⟨d, rfl⟩ : ∃ d : Fin 1024, i = ix1 d := ⟨i 0, eq_ix1 i⟩
  rw [Cert.UpDxIdeal.Mlp.fold_apply]
  refine Eq.trans (Finset.sum_congr rfl fun r _ => ?_) (sum_by_eight (dgTerm (U m c) (W m c) (X m c) d))
  refine (Finset.sum_range (fun j => tm m c r d j)).trans (Finset.sum_congr rfl fun j _ => ?_)
  have hj := j.isLt
  have hr := r.isLt
  exact congrArg (dgTerm (U m c) (W m c) (X m c) d) (Fin.ext (Nat.mod_eq_of_lt (by omega)))

/-- What the third result holds: the sum of what the kernel left. -/
theorem tail_eq : Pipeline.afterTail₀ cfgs (dats m) 0 (V0 m) [hostOps1] c main_v1 = Dg m c := by
  have e : Pipeline.afterTail₀ cfgs (dats m) 0 (V0 m) [hostOps1] c main_v1 = Cert.UpDxIdeal.Mlp.fold ((dats m 0 c).arrAt 7 cfg0.N) := by
    unfold Pipeline.afterTail₀
    simp only [List.flatten_cons, List.flatten_nil, List.append_nil]
    after_results_simp
    exact congrArg Cert.UpDxIdeal.Mlp.fold (Pipeline.withArrays_arr (cfgs 0).spec (by decide) c (V0 m c) (fun w => (dats m 0 c).arrAt w (cfgs 0).N) 7)
  rw [e, final_dg, fold_eq]

/-- The run: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = D m c
      ∧ r.2.mem ((c : Thread nD τ).loc main_v0_1) = D16 m c
      ∧ r.2.mem ((c : Thread nD τ).loc main_v1) = Dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_dx m c), ((h c).1 6).trans (final_dx16 m c),
      ((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)
end
end Cert.InDxIdeal.Mlp

namespace Cert.InDxRefIdeal.Mlp
open Cert.InDxRefIdeal Cert.InDxRefIdeal.Gen Cert.Mlp Idealize.ShloMosaic Idealize.ShloMosaic.TcCoe Idealize.SL.Sem
variable (u : FVec Ideal S8192x4608 .bf16) (w : FVec Ideal S1024x4608 .bf16) (x : FVec Ideal S8192x1024 .f32) (g : FVec Ideal S1x1024 .f32) (y : FVec Ideal S8192x1024 .f32)

/-- The gradient of the norm's result. -/
def dh : FVec Ideal S8192x1024 .f32 :=
  Host.dotGeneral dot_S8192x4608_S1024x4608_S8192x1024_1_1_0_0_n_n none (extf .f32 u bitsLt_bf16_f32) (extf .f32 w bitsLt_bf16_f32)

theorem dh_apply (i : Fin 8192) (d : Fin 1024) : dh u w (ix2 i d) = Cert.InDxIdeal.Mlp.back u w i d := by
  unfold dh
  pointwise
  rfl

theorem res_eq (hu : ∀ i, ∃ r : ℝ, u i = r) (hw : ∀ i, ∃ r : ℝ, w i = r) (hx : ∀ i, ∃ r : ℝ, x i = r) (hg : ∀ i, ∃ r : ℝ, g i = r) (i : Fin 8192) (d : Fin 1024) :
    Cert.UpDxRefIdeal.Mlp.res x g y (dh u w) (ix2 i d) = Cert.InDxIdeal.Mlp.dx u w x g y i d := by
  refine (Cert.UpDxRefIdeal.Mlp.res_apply x g y (dh u w) (fun i d => ?_) hx hg i d).trans ?_
  · rw [dh_apply]
    exact product_real _ _ (fun k => hu _) (fun k => hw _)
  · simp only [dh_apply]
    rfl

theorem gain_eq (d : Fin 1024) : Cert.UpDxRefIdeal.Mlp.gain x (dh u w) (ix1 d) = ∑ i, Cert.InDxIdeal.Mlp.dgTerm u w x d i := by
  rw [Cert.UpDxRefIdeal.Mlp.gain_apply]
  simp only [dh_apply]
  rfl
end Cert.InDxRefIdeal.Mlp

namespace Cert.InDxIdeal.Mlp
open Idealize.ShloMosaic Idealize.ShloMosaic.TcCoe Idealize.SL.Sem Cert.InDxIdeal

theorem finite_facts : Cert.Pre_in_finite.Facts := ⟨by decide, by decide, by decide, by decide, by decide⟩

section
local instance : Cert.Pre_in_finite.Facts := finite_facts
theorem fin_u (A : FVec Ideal S8192x4608 .bf16) (h : cmpf .olt (Host.absf (extf .f32 A Cert.Pre_in_finite.Facts.bitsLt_bf16_f32)) (broadcastInDim S8192x4608 ![] Cert.Pre_in_finite.Facts.bcast_S_S8192x4608 (constant S_ .f32 0x7F800000#32)) = fun _ => 1#1) : ∀ i, ∃ r : ℝ, A i = r := fun i => by
  have e := congrFun h i
  obtain ⟨x, j, rfl⟩ : ∃ (x : Fin 8192) (j : Fin 4608), i = ix2 x j := ⟨i 0, i 1, eq_ix2 i⟩
  pointwise at e
  exact Cert.KernelIdeal.Bwd.real_of_abs _ e
theorem fin_w (A : FVec Ideal S1024x4608 .bf16) (h : cmpf .olt (Host.absf (extf .f32 A Cert.Pre_in_finite.Facts.bitsLt_bf16_f32)) (broadcastInDim S1024x4608 ![] Cert.Pre_in_finite.Facts.bcast_S_S1024x4608 (constant S_ .f32 0x7F800000#32)) = fun _ => 1#1) : ∀ i, ∃ r : ℝ, A i = r := fun i => by
  have e := congrFun h i
  obtain ⟨x, j, rfl⟩ : ∃ (x : Fin 1024) (j : Fin 4608), i = ix2 x j := ⟨i 0, i 1, eq_ix2 i⟩
  pointwise at e
  exact Cert.KernelIdeal.Bwd.real_of_abs _ e

/-- Under the precondition the arguments the norm's derivative is taken with are real. -/
theorem args_real (m : (ℓ : Loc nD τ sig) → Buf (Elt Ideal) ℓ) (h : Cert.Pre_InDxIdeal_in_finite m) (c : Dev nD) :
    (∀ i, ∃ r : ℝ, U m c i = r) ∧ (∀ i, ∃ r : ℝ, W m c i = r) ∧ (∀ i, ∃ r : ℝ, X m c i = r) ∧ (∀ i, ∃ r : ℝ, G m c i = r) :=
  ⟨fin_u _ (h c).1, fin_w _ (h c).2.1, Cert.UpDxIdeal.Mlp.fin_x _ (h c).2.2.1, Cert.UpDxIdeal.Mlp.fin_g _ (h c).2.2.2⟩
end

/-- The kernel's gradients are the reference's. -/
theorem equal : Cert.algebraic_InDxIdeal_InDxRefIdeal_pre_in_finite (hPre_in_finite := finite_facts) := by
  intro m g m' g' hpre hargs
  refine ⟨fun c => D m c, fun c => D16 m c, fun c => Dg m c, run m g, ?_⟩
  refine (θ_run _ _ _).mono (fun r h c => ?_) (Cert.InDxRefIdeal.Value.run (F := Ideal) m' g')
  obtain ⟨a0, a1, a2, a3, a4⟩ := hargs c
  obtain ⟨hu, hw, hx, hg⟩ := args_real m hpre c
  refine ⟨(h c).1.trans ?_, (h c).2.1.trans ?_, (h c).2.2.1.trans ?_, (h c).2.2.2⟩
  · unfold Cert.InDxRefIdeal.Value.res_main_v41
    rw [a0, a1, a2, a3, a4]
    funext i
    obtain ⟨⟨x, d⟩, rfl⟩ : ∃ a : Fin 8192 × Fin 1024, i = ix2 a.1 a.2 := ⟨(i 0, i 1), eq_ix2 i⟩
    exact Cert.InDxRefIdeal.Mlp.res_eq (U m c) (W m c) (X m c) (G m c) (Y m c) hu hw hx hg x d
  · unfold Cert.InDxRefIdeal.Value.res_main_v43
    rw [a0, a1, a2, a3, a4]
    funext i
    obtain ⟨⟨x, d⟩, rfl⟩ : ∃ a : Fin 8192 × Fin 1024, i = ix2 a.1 a.2 := ⟨(i 0, i 1), eq_ix2 i⟩
    exact Cert.InDxRefIdeal.Mlp.res_eq (U m c) (W m c) (X m c) (G m c) (Y m c) hu hw hx hg x d
  · rw [a0, a1, a2]
    funext i
    obtain ⟨d, rfl⟩ : ∃ d : Fin 1024, i = ix1 d := ⟨i 0, eq_ix1 i⟩
    exact Cert.InDxRefIdeal.Mlp.gain_eq (U m c) (W m c) (X m c) d

/-- The kernel before idealization is the same text: the same bodies, the same program. -/
theorem defs_eq : Cert.InDx.defs (F := Bits) = Cert.InDxIdeal.defs (F := Bits) := by
  refine congrArg (Pipeline.defs _) ?_
  unfold Cert.InDx.defs₀ Cert.InDxIdeal.defs₀
  refine congrArg Defs.onTc (funext fun l => funext fun x => ?_)
  match l, x with
  | 0, (t, s) => rfl

/-- Its run, in machine arithmetic, is this one. -/
theorem frame_kernel : Cert.quiescent_InDx := by
  intro m ρ _
  have h := Cert.InDxIdeal.Gen.frame (F := Bits) m ρ
  rw [← defs_eq] at h
  exact h

/-- The reference runs, leaves its arguments unchanged and has no counter. -/
theorem frame_reference : Cert.quiescent_InDxRefIdeal := fun m ρ _ =>
  (θ_run _ _ _).mono (fun r h => ⟨fun c => (h c).2.2.2, Idealize.ShloMosaic.sem_eq_zero_of_no_sems (by decide) r.2⟩)
    (Cert.InDxRefIdeal.Value.run (F := Ideal) m ρ)
end Cert.InDxIdeal.Mlp
-- ==== Proof.Mlp.OutDx.lean ====
/-
  The gradient of what layer 0's output product takes: the kernel multiplies a block of the gradient by the transposed
  weights.
-/
module
public import proofs.«01_k».proof.Defs
public import proofs.«01_k».proof.Proof.Gen.OutDx
public import proofs.«01_k».proof.Proof.Gen.OutDxIdeal.Value
public import proofs.«01_k».proof.Proof.Gen.OutDxRefIdeal.Run
public import Idealize.ShloMosaic.Lib.Pointwise
public import Idealize.ShloMosaic.Lib.Quiescent
@[expose] public section
set_option maxRecDepth 16384
noncomputable section
namespace Cert.OutDxIdeal.Mlp
open Cert.OutDxIdeal Cert.OutDxIdeal.Gen Idealize.ShloMosaic Idealize.ShloMosaic.TcCoe Idealize.SL.Sem

/-- The gradient of entry `f` at position `x`. -/
def du (dy : Vec Ideal S8192x1024 .bf16) (w : Vec Ideal S2048x1024 .bf16) (x : Fin 8192) (f : Fin 2048) : EReal :=
  ∑ d : Fin 1024, dy (ix2 x d) * w (ix2 f d)

theorem pay_apply (dy : Vec Ideal S1024x1024 .bf16) (w : Vec Ideal S2048x1024 .bf16) (r : Fin 1024) (f : Fin 2048) :
    k0_pay1 (F := Ideal) dy w (ix2 r f) = ∑ d : Fin 1024, dy (ix2 r d) * w (ix2 f d) := by
  unfold_payloads
  pointwise

section
variable (m : (ℓ : Loc nD τ sig) → Buf (Elt Ideal) ℓ) (c : Dev nD) (t : Fin cfg0.N)

/-- The row of the whole array that row `r` of point `n`'s block is. -/
abbrev at_ (n : ℕ) (r : Fin 1024) : Fin 8192 := ⟨(1024 * n + r.val) % 8192, Nat.mod_lt _ (by decide)⟩

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem in0 (r : Fin 1024) (d : Fin 1024) :
    (iblk m c 0 t : Vec Ideal S1024x1024 .bf16) (ix2 r d) = (m ((c : Thread nD τ).loc main_arg0) : Vec Ideal S8192x1024 .bf16) (ix2 (at_ t.val r) d) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 1024 + 1 * r.val = (1024 * t.val + r.val) % 8192; rw [e0]; omega
  | ⟨1, _⟩ => show win0_0.index t (1 : Fin 2) * 1024 + 1 * d.val = d.val; rw [e1]; omega

theorem in1 (f : Fin 2048) (d : Fin 1024) :
    (iblk m c 1 t : Vec Ideal S2048x1024 .bf16) (ix2 f d) = (m ((c : Thread nD τ).loc main_arg1) : Vec Ideal S2048x1024 .bf16) (ix2 f d) := by
  obtain ⟨e0, e1⟩ := (idx_in t).2.1
  refine congrArg (m ((c : Thread nD τ).loc main_arg1) : Vec Ideal S2048x1024 .bf16) (funext fun a => Fin.ext ?_)
  match a with
  | ⟨0, _⟩ => show win0_1.index t (0 : Fin 2) * 2048 + 1 * f.val = f.val; rw [e0]; omega
  | ⟨1, _⟩ => show win0_1.index t (1 : Fin 2) * 1024 + 1 * d.val = d.val; rw [e1]; omega

/-- The whole result. -/
def G : Buf (Elt Ideal) ((c : Thread nD τ).loc main_v0) := fun i : S8192x2048.Idx =>
  du (m ((c : Thread nD τ).loc main_arg0)) (m ((c : Thread nD τ).loc main_arg1)) (i 0) (i 1)

/-- What point `t` leaves in its block. -/
theorem out_apply (r : Fin 1024) (f : Fin 2048) :
    out0_2 (F := Ideal) (iblk m c 0 t) (iblk m c 1 t) (ix2 r f) = G m c (ix2 (at_ t.val r) f) := by
  unfold out0_2
  rw [View.canon_unit_zero (funext fun a => by fin_cases a <;> rfl), View.ld_unit_zero (S := S1024x1024) (funext fun a => by fin_cases a <;> rfl),
    View.ld_unit_zero (S := S2048x1024) (funext fun a => by fin_cases a <;> rfl)]
  refine (pay_apply _ _ r f).trans ?_
  simp only [in0, in1]
  rfl

theorem flushed_eq :
    (dats m 0 c).flushed 2 t = ((cfg0.win 2).blk t).view.read (Elt Ideal) (G m c) := by
  rw [Value.flushed2]
  funext y
  obtain ⟨⟨r, f⟩, rfl⟩ : ∃ a : Fin 1024 × Fin 2048, y = ix2 a.1 a.2 := ⟨(y 0, y 1), eq_ix2 y⟩
  refine (out_apply m c t r f).trans ?_
  have hN := lt_of_lt_of_eq t.isLt N_0
  obtain ⟨e0, e1⟩ := (idx_in t).2.2.1
  refine congrArg (G m c) (funext fun a => Fin.ext ?_)
  match a with
  | ⟨0, _⟩ => show (1024 * t.val + r.val) % 8192 = win0_2.index t (0 : Fin 2) * 1024 + 1 * r.val; rw [e0]; omega
  | ⟨1, _⟩ => show f.val = win0_2.index t (1 : Fin 2) * 2048 + 1 * f.val; rw [e1]; omega

theorem final : (dats m 0 c).arrAt 2 cfg0.N = G m c :=
  (dats m 0 c).arrAt_eq_of_cover 2 (G m c) (fun t _ => flushed_eq m c t) fun i => by
    have h0 : (i 0).val < 8192 := (i 0).isLt
    have h1 : (i 1).val < 2048 := (i 1).isLt
    have hN : cfg0.N = 8 := N_0
    let t : Fin cfg0.N := ⟨(i 0).val / 1024, by rw [hN]; omega⟩
    obtain ⟨e0, e1⟩ := (idx_in t).2.2.1
    refine ⟨t, (idx_in t).2.2.2, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; rw [e0]; show (i 0).val / 1024 * 1024 ≤ _ ∧ _ < (i 0).val / 1024 * 1024 + 1024; omega
    | ⟨1, _⟩ => show win0_2.index t (1 : Fin 2) * 2048 ≤ (i 1).val ∧ (i 1).val < win0_2.index t (1 : Fin 2) * 2048 + 2048; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m ρ)
end
end Cert.OutDxIdeal.Mlp

namespace Cert.OutDxRefIdeal.Mlp
open Cert.OutDxRefIdeal Cert.OutDxRefIdeal.Gen Idealize.ShloMosaic Idealize.ShloMosaic.TcCoe Idealize.SL.Sem
variable (m : (ℓ : Loc nD τ sig) → Buf (Elt Ideal) ℓ) (c : Dev nD)

/-- The reference's result as its operations compose it. -/
def res (dy : FVec Ideal S8192x1024 .bf16) (w : FVec Ideal S2048x1024 .bf16) : FVec Ideal S8192x2048 .f32 :=
  Host.dotGeneral dot_S8192x1024_S2048x1024_S8192x2048_1_1_0_0_n_n none (extf .f32 dy bitsLt_bf16_f32) (extf .f32 w bitsLt_bf16_f32)

theorem result_apply (dy : Vec Ideal S8192x1024 .bf16) (w : Vec Ideal S2048x1024 .bf16) (x : Fin 8192) (f : Fin 2048) :
    res dy w (ix2 x f) = Cert.OutDxIdeal.Mlp.du dy w x f := by
  unfold res
  pointwise
  rfl
end Cert.OutDxRefIdeal.Mlp

namespace Cert.OutDxIdeal.Mlp
open Idealize.ShloMosaic Idealize.ShloMosaic.TcCoe Idealize.SL.Sem

/-- The kernel's gradient is the reference's. -/
theorem equal : Cert.algebraic_OutDxIdeal_OutDxRefIdeal := by
  intro m g m' g' _ hargs
  refine ⟨fun c => G m c, run m g, ?_⟩
  refine (θ_run _ _ _).mono (fun r h c => ⟨(h c).1.trans ?_, (h c).2⟩) (Cert.OutDxRefIdeal.Value.run (F := Ideal) m' g')
  obtain ⟨a0, a1⟩ := hargs c
  rw [a0, a1]
  funext i
  obtain ⟨⟨x, f⟩, rfl⟩ : ∃ a : Fin 8192 × Fin 2048, i = ix2 a.1 a.2 := ⟨(i 0, i 1), eq_ix2 i⟩
  exact Cert.OutDxRefIdeal.Mlp.result_apply _ _ x f

/-- The kernel before idealization is the same text: the same bodies, the same program. -/
theorem defs_eq : Cert.OutDx.defs (F := Bits) = Cert.OutDxIdeal.defs (F := Bits) := by
  refine congrArg (Pipeline.defs _) ?_
  unfold Cert.OutDx.defs₀ Cert.OutDxIdeal.defs₀
  refine congrArg Defs.onTc (funext fun l => funext fun x => ?_)
  match l, x with
  | 0, (t, s) => rfl

/-- Its run, in machine arithmetic, is this one. -/
theorem frame_kernel : Cert.quiescent_OutDx := by
  intro m ρ _
  have h := Cert.OutDxIdeal.Gen.frame (F := Bits) m ρ
  rw [← defs_eq] at h
  exact h

/-- The reference runs, leaves its arguments unchanged and has no counter. -/
theorem frame_reference : Cert.quiescent_OutDxRefIdeal := fun m ρ _ =>
  (θ_run _ _ _).mono (fun r h => ⟨fun c => (h c).2, Idealize.ShloMosaic.sem_eq_zero_of_no_sems (by decide) r.2⟩)
    (Cert.OutDxRefIdeal.Value.run (F := Ideal) m ρ)
end Cert.OutDxIdeal.Mlp
-- ==== Proof.Mlp.OddDw.lean ====
/-
  The gradient of the weights of layer 1's projections: the kernel adds, block of positions by block of positions, the
  products of the normalised inputs with the projections' gradient; that is the derivative of the product by the weights.
-/
module
public import proofs.«01_k».proof.Proof.Mlp.Sum
public import proofs.«01_k».proof.Proof.Gen.OddDw
public import proofs.«01_k».proof.Proof.Gen.OddDwIdeal.Value
public import proofs.«01_k».proof.Proof.Gen.OddDwRefIdeal.Run
public import Idealize.ShloMosaic.Lib.Pointwise
public import Idealize.ShloMosaic.Lib.Quiescent
@[expose] public section
set_option maxRecDepth 16384
noncomputable section
namespace Cert.OddDwIdeal.Mlp
open Cert.OddDwIdeal Cert.OddDwIdeal.Gen Cert.Mlp Idealize.ShloMosaic Idealize.ShloMosaic.TcCoe Idealize.SL.Sem

/-- What position `t` contributes to the gradient of weight `(k, n)`. -/
def term (h : Vec Ideal S8192x1024 .bf16) (du : Vec Ideal S8192x1536 .bf16) (k : Fin 1024) (n : Fin 1536) (t : Fin 8192) : EReal :=
  h (ix2 t k) * du (ix2 t n)

theorem hz : (![0, 0] : Fin 2 → Nat) = fun _ => 0 := funext fun a => by fin_cases a <;> rfl

theorem zero_apply (k : Fin 1024) (n : Fin 768) : k0_pay1 (F := Ideal) (ix2 k n) = 0 := by
  unfold_payloads
  pointwise

theorem step_apply (a : Vec Ideal S1024x1024 .bf16) (s : Vec Ideal S1024x768 .f32) (b : Vec Ideal S1024x768 .bf16) (k : Fin 1024) (n : Fin 768) :
    k0_pay2 (F := Ideal) a s b (ix2 k n) = s (ix2 k n) + ∑ r : Fin 1024, a (ix2 r k) * b (ix2 r n) := by
  unfold_payloads
  pointwise

section
variable (c : Dev nD) (i : grid0.Coords) (a3 : Memref sig .tc .vmem S1024x1024 .bf16) (h3 : a3.IsWhole) (a4 : Memref sig .tc .vmem S1024x768 .bf16) (h4 : a4.IsWhole)
  (a5 : Memref sig .tc .vmem S1024x768 .bf16) (h5 : a5.IsWhole) (a6 : Memref sig .tc .vmem S1024x768 .f32) (h6 : a6.IsWhole)
  (x0 : Vec Ideal S1024x1024 .bf16) (x1 : Vec Ideal S1024x768 .bf16) (xs : Vec Ideal S1024x768 .f32)

/-- The first step of a sum starts it at zero. -/
theorem scr_A (c0 : cond0_0 i) (c1 : ¬cond0_1 i) :
    sout0_A_0 (F := Ideal) c i a3 h3 a4 h4 a5 h5 a6 h6 c0 c1 x0 x1 = k0_pay2 x0 (k0_pay1 (F := Ideal)) x1 := by
  unfold sout0_A_0
  rw [View.read_writes_eq_canon _ _ _ (scover0_A_0 c i a3 h3 a4 h4 a5 h5 a6 h6 c0 c1 x0 x1)]
  unfold kernelRun0_A
  dsimp only
  sl_unfold_words
  rw [View.canon_cons_unit_zero (S := S1024x768) hz, View.readCov_unit_zero (S := S1024x768) _ hz]
  simp only [View.readAt_eq_ld, h3.read_unread, h4.read_unread, View.ld_unit_zero (S := S1024x1024) hz, View.ld_unit_zero (S := S1024x768) hz]

/-- A later step adds to it. -/
theorem scr_B (c0 : ¬cond0_0 i) (c1 : ¬cond0_1 i) :
    sout0_B_0 (F := Ideal) c i a3 h3 a4 h4 a5 h5 a6 h6 c0 c1 x0 x1 xs = k0_pay2 x0 xs x1 := by
  unfold sout0_B_0
  rw [View.read_writes_eq_canon _ _ _ (scover0_B_0 c i a3 h3 a4 h4 a5 h5 a6 h6 c0 c1 x0 x1 xs)]
  unfold kernelRun0_B
  dsimp only
  rw [View.canon_unit_zero hz]
  simp only [View.readAt_eq_ld, h3.read_unread, h4.read_unread, h6.read_unread, View.ld_unit_zero (S := S1024x1024) hz, View.ld_unit_zero (S := S1024x768) hz]

theorem scr_C (c0 : ¬cond0_0 i) (c1 : cond0_1 i) :
    sout0_C_0 (F := Ideal) c i a3 h3 a4 h4 a5 h5 a6 h6 c0 c1 x0 x1 xs = k0_pay2 x0 xs x1 := by
  unfold sout0_C_0
  rw [View.read_writes_eq_canon _ _ _ (scover0_C_0 c i a3 h3 a4 h4 a5 h5 a6 h6 c0 c1 x0 x1 xs)]
  unfold kernelRun0_C
  dsimp only
  sl_unfold_words
  rw [View.canon_unit_zero hz]
  simp only [View.readAt_eq_ld, h3.read_unread, h4.read_unread, h6.read_unread, View.ld_unit_zero (S := S1024x1024) hz, View.ld_unit_zero (S := S1024x768) hz]

/-- The last step of a sum also writes it out. -/
theorem out_C (c0 : ¬cond0_0 i) (c1 : cond0_1 i) :
    out0_C_2 (F := Ideal) c i a3 h3 a4 h4 a5 h5 a6 h6 c0 c1 x0 x1 xs = k0_pay2 x0 xs x1 := by
  unfold out0_C_2
  rw [View.read_writes_eq_canon _ _ _ (cover0_C_2 c i a3 h3 a4 h4 a5 h5 a6 h6 c0 c1 x0 x1 xs)]
  unfold kernelRun0_C
  dsimp only
  sl_unfold_words
  rw [View.canon_unit_zero hz, View.readCov_unit_zero (S := S1024x768) _ hz]
  simp only [View.readAt_eq_ld, h3.read_unread, h4.read_unread, h6.read_unread, View.ld_unit_zero (S := S1024x1024) hz, View.ld_unit_zero (S := S1024x768) hz]
  rfl
end

section
variable (m : (ℓ : Loc nD τ sig) → Buf (Elt Ideal) ℓ) (c : Dev nD)

/-- The column of the whole array that column `n` of the `q`-th block of columns is. -/
abbrev col (q : ℕ) (n : Fin 768) : Fin 1536 := ⟨(768 * q + n.val) % 1536, Nat.mod_lt _ (by decide)⟩

theorem idx_in : ∀ t : Fin cfg0.N, (win0_0.index t (0 : Fin 2) = t.val % 8 ∧ win0_0.index t (1 : Fin 2) = 0)
    ∧ (win0_1.index t (0 : Fin 2) = t.val % 8 ∧ win0_1.index t (1 : Fin 2) = t.val / 8) :=
  (by decide +kernel : ∀ t : Fin grid0.N, _)

theorem in0 (t : Fin cfg0.N) (r : Fin 1024) (k : Fin 1024) :
    (iblk m c 0 t : Vec Ideal S1024x1024 .bf16) (ix2 r k) = (m ((c : Thread nD τ).loc main_arg0) : Vec Ideal S8192x1024 .bf16) (ix2 (row (t.val % 8) r) k) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 1024 + 1 * r.val = (1024 * (t.val % 8) + r.val) % 8192; rw [e0]; omega
  | ⟨1, _⟩ => show win0_0.index t (1 : Fin 2) * 1024 + 1 * k.val = k.val; rw [e1]; omega

theorem in1 (t : Fin cfg0.N) (r : Fin 1024) (n : Fin 768) :
    (iblk m c 1 t : Vec Ideal S1024x768 .bf16) (ix2 r n) = (m ((c : Thread nD τ).loc main_arg1) : Vec Ideal S8192x1536 .bf16) (ix2 (row (t.val % 8) r) (col (t.val / 8) n)) := by
  have hN := lt_of_lt_of_eq t.isLt N_0
  obtain ⟨e0, e1⟩ := (idx_in t).2
  refine congrArg (m ((c : Thread nD τ).loc main_arg1) : Vec Ideal S8192x1536 .bf16) (funext fun a => Fin.ext ?_)
  match a with
  | ⟨0, _⟩ => show win0_1.index t (0 : Fin 2) * 1024 + 1 * r.val = (1024 * (t.val % 8) + r.val) % 8192; rw [e0]; omega
  | ⟨1, _⟩ => show win0_1.index t (1 : Fin 2) * 768 + 1 * n.val = (768 * (t.val / 8) + n.val) % 1536; rw [e1]; omega

/-- What the positions contribute. -/
abbrev tm (k : Fin 1024) (n : Fin 1536) : Fin 8192 → EReal :=
  term (m ((c : Thread nD τ).loc main_arg0)) (m ((c : Thread nD τ).loc main_arg1)) k n

/-- A step over what the steps before left. -/
theorem step (t : Fin cfg0.N) (xs : Vec Ideal S1024x768 .f32) (k : Fin 1024) (n : Fin 768)
    (h : xs (ix2 k n) = sumTo (tm m c k (col (t.val / 8) n)) (1024 * (t.val % 8))) :
    k0_pay2 (F := Ideal) (iblk m c 0 t) xs (iblk m c 1 t) (ix2 k n) = sumTo (tm m c k (col (t.val / 8) n)) (1024 * (t.val % 8 + 1)) := by
  refine (step_apply _ _ _ k n).trans ?_
  simp only [in0, in1]
  rw [h]
  exact sumTo_block _ _ (Nat.mod_lt _ (by decide))

/-- What the scratch holds after a point: the sum over the positions met since it was started. -/
theorem scr_apply (k : Fin 1024) (n : Fin 768) : ∀ (p : ℕ) (h : p < cfg0.N),
    (outsAt0 m c p h).2 (ix2 k n) = sumTo (tm m c k (col (p / 8) n)) (1024 * (p % 8 + 1))
  | 0, h => by
    rw [outsAt0_A m c ⟨0, h⟩ rfl (by dsimp only; omega)]
    dsimp only
    rw [scr_A]
    exact step m c ⟨0, h⟩ _ k n ((zero_apply k n).trans (sumTo_zero _).symm)
  | p + 1, h => by
    by_cases h0 : (p + 1) % 8 = 0
    · rw [outsAt0_A m c ⟨p + 1, h⟩ h0 (by dsimp only; omega)]
      dsimp only
      rw [scr_A]
      refine step m c ⟨p + 1, h⟩ _ k n ((zero_apply k n).trans ?_)
      dsimp only
      rw [h0]
      exact (sumTo_zero _).symm
    · have hp := scr_apply k n p (Nat.lt_of_succ_lt h)
      rw [show p / 8 = (p + 1) / 8 by omega, show p % 8 + 1 = (p + 1) % 8 by omega] at hp
      by_cases h1 : (p + 1) % 8 = 7
      · rw [outsAt0_C m c ⟨p + 1, h⟩ h0 h1]
        dsimp only
        rw [scr_C]
        exact step m c ⟨p + 1, h⟩ _ k n hp
      · rw [outsAt0_B m c ⟨p + 1, h⟩ h0 h1]
        dsimp only
        rw [scr_B]
        exact step m c ⟨p + 1, h⟩ _ k n hp

/-- What the last point of a sum writes out. -/
theorem out_apply (k : Fin 1024) (n : Fin 768) (p : ℕ) (h : p < cfg0.N) (h1 : p % 8 = 7) :
    (outsAt0 m c p h).1 (ix2 k n) = ∑ t, tm m c k (col (p / 8) n) t := by
  have h0 : ¬p % 8 = 0 := by omega
  have hp := scr_apply m c k n (p - 1) (by omega)
  rw [show (p - 1) / 8 = p / 8 by omega, show (p - 1) % 8 + 1 = p % 8 by omega] at hp
  rw [outsAt0_C m c ⟨p, h⟩ h0 h1]
  dsimp only
  rw [out_C]
  refine (step m c ⟨p, h⟩ _ k n hp).trans ?_
  dsimp only
  rw [h1]
  exact sumTo_all _

/-- The whole result. -/
def G : Buf (Elt Ideal) ((c : Thread nD τ).loc main_v0) := fun i : S1024x1536.Idx => (∑ t, tm m c (i 0) (i 1) t : EReal)

theorem result_eq : Value.G2 (F := Ideal) m c = G m c := by
  funext i
  obtain ⟨⟨k, n⟩, rfl⟩ : ∃ a : Fin 1024 × Fin 1536, i = ix2 a.1 a.2 := ⟨(i 0, i 1), eq_ix2 i⟩
  have hk := k.isLt
  have hn := n.isLt
  have hp : Value.pt2Of (ix2 k n) = 8 * (n.val / 768) + 7 := by
    show 8 * (2 * (k.val / 1024 - 0) + 1 * (n.val / 768 - 0)) + 7 = _
    omega
  have hN : cfg0.N = 16 := N_0
  unfold Value.G2
  rw [dif_pos (by rw [hp]; omega)]
  rw [← Value.outsAt0_sweep m c (Value.pt2Of (ix2 k n)) (by rw [hp]; omega)]
  have hl : Value.loc2Of (ix2 k n) = ix2 k ⟨n.val % 768, Nat.mod_lt _ (by decide)⟩ := by
    funext a; apply Fin.ext
    match a with
    | ⟨0, _⟩ => show k.val % 1024 = k.val; omega
    | ⟨1, _⟩ => rfl
  rw [hl]
  refine (out_apply m c k _ _ _ (by rw [hp]; omega)).trans ?_
  refine congrArg (fun n' => (∑ t, tm m c k n' t : EReal)) (Fin.ext ?_)
  show (768 * (Value.pt2Of (ix2 k n) / 8) + n.val % 768) % 1536 = n.val
  rw [hp]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (result_eq m c), (h c).2⟩) (Value.run m ρ)
end
end Cert.OddDwIdeal.Mlp

namespace Cert.OddDwRefIdeal.Mlp
open Cert.OddDwRefIdeal Cert.OddDwRefIdeal.Gen Idealize.ShloMosaic

/-- The reference's result as its operations compose it. -/
def res (h : FVec Ideal S8192x1024 .bf16) (du : FVec Ideal S8192x1536 .bf16) : FVec Ideal S1024x1536 .bf16 :=
  truncf .bf16 (transpose S1024x1536 [1, 0] (Host.dotGeneral dot_S8192x1536_S8192x1024_S1536x1024_0_0_1_1_n_n none (extf .f32 du bitsLt_bf16_f32) (extf .f32 h bitsLt_bf16_f32)) transposes_S1536x1024_S1024x1536_1_0) bitsLt_bf16_f32

theorem result_apply (h : FVec Ideal S8192x1024 .bf16) (du : FVec Ideal S8192x1536 .bf16) (k : Fin 1024) (n : Fin 1536) :
    res h du (ix2 k n) = ∑ t, Cert.OddDwIdeal.Mlp.term h du k n t := by
  unfold res
  pointwise
  exact Finset.sum_congr rfl fun t _ => mul_comm _ _
end Cert.OddDwRefIdeal.Mlp

namespace Cert.OddDwIdeal.Mlp
open Idealize.ShloMosaic Idealize.ShloMosaic.TcCoe Idealize.SL.Sem

/-- The kernel's gradient is the reference's. -/
theorem equal : Cert.algebraic_OddDwIdeal_OddDwRefIdeal := by
  intro m g m' g' _ hargs
  refine ⟨fun c => G m c, run m g, ?_⟩
  refine (θ_run _ _ _).mono (fun r h c => ⟨(h c).1.trans ?_, (h c).2⟩) (Cert.OddDwRefIdeal.Value.run (F := Ideal) m' g')
  obtain ⟨a0, a1⟩ := hargs c
  rw [a0, a1]
  funext i
  obtain ⟨⟨k, n⟩, rfl⟩ : ∃ a : Fin 1024 × Fin 1536, i = ix2 a.1 a.2 := ⟨(i 0, i 1), eq_ix2 i⟩
  exact Cert.OddDwRefIdeal.Mlp.result_apply _ _ k n

/-- The kernel before idealization is the same text: the same bodies, the same program. -/
theorem defs_eq : Cert.OddDw.defs (F := Bits) = Cert.OddDwIdeal.defs (F := Bits) := by
  refine congrArg (Pipeline.defs _) ?_
  unfold Cert.OddDw.defs₀ Cert.OddDwIdeal.defs₀
  refine congrArg Defs.onTc (funext fun l => funext fun x => ?_)
  match l, x with
  | 0, (t, s) => rfl

/-- Its run, in machine arithmetic, is this one. -/
theorem frame_kernel : Cert.quiescent_OddDw := by
  intro m ρ _
  have h := Cert.OddDwIdeal.Gen.frame (F := Bits) m ρ
  rw [← defs_eq] at h
  exact h

/-- The reference runs, leaves its arguments unchanged and has no counter. -/
theorem frame_reference : Cert.quiescent_OddDwRefIdeal := fun m ρ _ =>
  (θ_run _ _ _).mono (fun r h => ⟨fun c => (h c).2, Idealize.ShloMosaic.sem_eq_zero_of_no_sems (by decide) r.2⟩)
    (Cert.OddDwRefIdeal.Value.run (F := Ideal) m ρ)
end Cert.OddDwIdeal.Mlp
-- ==== Proof.Mlp.OddOut.lean ====
/-
  Layer 1's output product: the kernel adds to the residual, block of rows by block of rows, the product of what it
  takes with the weights, as the reference does.
-/
module
public import proofs.«01_k».proof.Defs
public import proofs.«01_k».proof.Proof.Gen.OddOut
public import proofs.«01_k».proof.Proof.Gen.OddOutIdeal.Value
public import proofs.«01_k».proof.Proof.Gen.OddOutRefIdeal.Run
public import Idealize.ShloMosaic.Lib.Pointwise
public import Idealize.ShloMosaic.Lib.Quiescent
@[expose] public section
set_option maxRecDepth 16384
noncomputable section
namespace Cert.OddOutIdeal.Mlp
open Cert.OddOutIdeal Cert.OddOutIdeal.Gen Idealize.ShloMosaic Idealize.ShloMosaic.TcCoe Idealize.SL.Sem

/-- Entry `d` of the output at position `i`. -/
def out (u : Vec Ideal S8192x1024 .bf16) (w : Vec Ideal S1024x1024 .bf16) (x : Vec Ideal S8192x1024 .f32) (i : Fin 8192) (d : Fin 1024) : EReal :=
  x (ix2 i d) + ∑ f : Fin 1024, u (ix2 i f) * w (ix2 f d)

/-- What the body stores, at an index. -/
theorem pay_apply (x : Vec Ideal S1024x1024 .f32) (u : Vec Ideal S1024x1024 .bf16) (w : Vec Ideal S1024x1024 .bf16) (r : Fin 1024) (d : Fin 1024) :
    k0_pay1 (F := Ideal) x u w (ix2 r d) = x (ix2 r d) + ∑ f : Fin 1024, u (ix2 r f) * w (ix2 f d) := by
  unfold_payloads
  pointwise

section
variable (m : (ℓ : Loc nD τ sig) → Buf (Elt Ideal) ℓ) (c : Dev nD) (t : Fin cfg0.N)

/-- The row of the whole array that row `r` of point `n`'s block is. -/
abbrev at_ (n : ℕ) (r : Fin 1024) : Fin 8192 := ⟨(1024 * n + r.val) % 8192, Nat.mod_lt _ (by decide)⟩

abbrev U : Vec Ideal S8192x1024 .bf16 := m ((c : Thread nD τ).loc main_arg0)
abbrev W : Vec Ideal S1024x1024 .bf16 := m ((c : Thread nD τ).loc main_arg1)
abbrev X : Vec Ideal S8192x1024 .f32 := m ((c : Thread nD τ).loc main_arg2)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0) ∧ win0_3.flush t = true :=
  (by decide +kernel : ∀ t : Fin grid0.N, _)

theorem in0 (r : Fin 1024) (f : Fin 1024) : (iblk m c 0 t : Vec Ideal S1024x1024 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 1024 + 1 * r.val = (1024 * t.val + r.val) % 8192; rw [e0]; omega
  | ⟨1, _⟩ => show win0_0.index t (1 : Fin 2) * 1024 + 1 * f.val = f.val; rw [e1]; omega

theorem in1 (f : Fin 1024) (d : Fin 1024) : (iblk m c 1 t : Vec Ideal S1024x1024 .bf16) (ix2 f d) = W m c (ix2 f d) := by
  obtain ⟨e0, e1⟩ := (idx_in t).2.1
  refine congrArg (W m c) (funext fun a => Fin.ext ?_)
  match a with
  | ⟨0, _⟩ => show win0_1.index t (0 : Fin 2) * 1024 + 1 * f.val = f.val; rw [e0]; omega
  | ⟨1, _⟩ => show win0_1.index t (1 : Fin 2) * 1024 + 1 * d.val = d.val; rw [e1]; omega

theorem in2 (r : Fin 1024) (d : Fin 1024) : (iblk m c 2 t : Vec Ideal S1024x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 1024 + 1 * r.val = (1024 * t.val + r.val) % 8192; rw [e0]; omega
  | ⟨1, _⟩ => show win0_2.index t (1 : Fin 2) * 1024 + 1 * d.val = d.val; rw [e1]; omega

/-- The whole result. -/
def G : Buf (Elt Ideal) ((c : Thread nD τ).loc main_v0) := fun i : S8192x1024.Idx => out (U m c) (W m c) (X m c) (i 0) (i 1)

/-- What point `t` leaves in its block. -/
theorem out_apply (r : Fin 1024) (d : Fin 1024) :
    out0_3 (F := Ideal) (iblk m c 0 t) (iblk m c 1 t) (iblk m c 2 t) (ix2 r d) = G m c (ix2 (at_ t.val r) d) := by
  unfold out0_3
  have hz : (![0, 0] : Fin 2 → ℕ) = fun _ => 0 := funext fun a => by fin_cases a <;> rfl
  rw [View.canon_unit_zero hz]
  simp only [View.ld_unit_zero (S := S1024x1024) hz]
  refine (pay_apply _ _ _ r d).trans ?_
  simp only [in0, in1, in2]
  rfl

theorem flushed_eq : (dats m 0 c).flushed 3 t = ((cfg0.win 3).blk t).view.read (Elt Ideal) (G m c) := by
  rw [Value.flushed3]
  funext y
  obtain ⟨⟨r, d⟩, rfl⟩ : ∃ a : Fin 1024 × Fin 1024, y = ix2 a.1 a.2 := ⟨(y 0, y 1), eq_ix2 y⟩
  refine (out_apply m c t r d).trans ?_
  have hN := lt_of_lt_of_eq t.isLt N_0
  obtain ⟨e0, e1⟩ := (idx_in t).2.2.2.1
  refine congrArg (G m c) (funext fun a => Fin.ext ?_)
  match a with
  | ⟨0, _⟩ => show (1024 * t.val + r.val) % 8192 = win0_3.index t (0 : Fin 2) * 1024 + 1 * r.val; rw [e0]; omega
  | ⟨1, _⟩ => show d.val = win0_3.index t (1 : Fin 2) * 1024 + 1 * d.val; rw [e1]; omega

theorem final : (dats m 0 c).arrAt 3 cfg0.N = G m c :=
  (dats m 0 c).arrAt_eq_of_cover 3 (G m c) (fun t _ => flushed_eq m c t) fun i => by
    have h0 : (i 0).val < 8192 := (i 0).isLt
    have h1 : (i 1).val < 1024 := (i 1).isLt
    have hN : cfg0.N = 8 := N_0
    let t : Fin cfg0.N := ⟨(i 0).val / 1024, by rw [hN]; omega⟩
    obtain ⟨e0, e1⟩ := (idx_in t).2.2.2.1
    refine ⟨t, (idx_in t).2.2.2.2, ?_⟩
    show i ∈ ((View.whole main_v0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; rw [e0]; show (i 0).val / 1024 * 1024 ≤ _ ∧ _ < (i 0).val / 1024 * 1024 + 1024; omega
    | ⟨1, _⟩ => show win0_3.index t (1 : Fin 2) * 1024 ≤ (i 1).val ∧ (i 1).val < win0_3.index t (1 : Fin 2) * 1024 + 1024; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final m c), (h c).2⟩) (Value.run_blocks m ρ)
end
end Cert.OddOutIdeal.Mlp

namespace Cert.OddOutRefIdeal.Mlp
open Cert.OddOutRefIdeal Cert.OddOutRefIdeal.Gen Idealize.ShloMosaic Idealize.ShloMosaic.TcCoe Idealize.SL.Sem
variable (m : (ℓ : Loc nD τ sig) → Buf (Elt Ideal) ℓ) (c : Dev nD)

/-- The reference's result as its operations compose it. -/
def res (u : FVec Ideal S8192x1024 .bf16) (w : FVec Ideal S1024x1024 .bf16) (x : FVec Ideal S8192x1024 .f32) : FVec Ideal S8192x1024 .f32 :=
  addf x (Host.dotGeneral dot_S8192x1024_S1024x1024_S8192x1024_1_0_0_1_n_n none (extf .f32 u bitsLt_bf16_f32) (extf .f32 w bitsLt_bf16_f32))

theorem result_apply (u : Vec Ideal S8192x1024 .bf16) (w : Vec Ideal S1024x1024 .bf16) (x : Vec Ideal S8192x1024 .f32) (i : Fin 8192) (d : Fin 1024) :
    res u w x (ix2 i d) = Cert.OddOutIdeal.Mlp.out u w x i d := by
  unfold res
  pointwise
  rfl
end Cert.OddOutRefIdeal.Mlp

namespace Cert.OddOutIdeal.Mlp
open Idealize.ShloMosaic Idealize.ShloMosaic.TcCoe Idealize.SL.Sem

/-- The kernel's output is the reference's. -/
theorem equal : Cert.algebraic_OddOutIdeal_OddOutRefIdeal := by
  intro m g m' g' _ hargs
  refine ⟨fun c => G m c, run m g, ?_⟩
  refine (θ_run _ _ _).mono (fun r h c => ⟨(h c).1.trans ?_, (h c).2⟩) (Cert.OddOutRefIdeal.Value.run (F := Ideal) m' g')
  obtain ⟨a0, a1, a2⟩ := hargs c
  rw [a0, a1, a2]
  funext i
  obtain ⟨⟨x, d⟩, rfl⟩ : ∃ a : Fin 8192 × Fin 1024, i = ix2 a.1 a.2 := ⟨(i 0, i 1), eq_ix2 i⟩
  exact Cert.OddOutRefIdeal.Mlp.result_apply (U m c) (W m c) (X m c) x d

/-- The kernel before idealization is the same text: the same bodies, the same program. -/
theorem defs_eq : Cert.OddOut.defs (F := Bits) = Cert.OddOutIdeal.defs (F := Bits) := by
  refine congrArg (Pipeline.defs _) ?_
  unfold Cert.OddOut.defs₀ Cert.OddOutIdeal.defs₀
  refine congrArg Defs.onTc (funext fun l => funext fun x => ?_)
  match l, x with
  | 0, (t, s) => rfl

/-- Its run, in machine arithmetic, is this one. -/
theorem frame_kernel : Cert.quiescent_OddOut := by
  intro m ρ _
  have h := Cert.OddOutIdeal.Gen.frame (F := Bits) m ρ
  rw [← defs_eq] at h
  exact h

/-- The reference runs, leaves its arguments unchanged and has no counter. -/
theorem frame_reference : Cert.quiescent_OddOutRefIdeal := fun m ρ _ =>
  (θ_run _ _ _).mono (fun r h => ⟨fun c => (h c).2, Idealize.ShloMosaic.sem_eq_zero_of_no_sems (by decide) r.2⟩)
    (Cert.OddOutRefIdeal.Value.run (F := Ideal) m ρ)
end Cert.OddOutIdeal.Mlp
-- ==== Proof.Mlp.OutFwd.lean ====
/-
  Layer 0's output product: the kernel adds to the residual, block of rows by block of rows, the products of what the
  two mixers leave with the two halves of the weights; the reference multiplies their concatenation.
-/
module
public import proofs.«01_k».proof.Defs
public import proofs.«01_k».proof.Proof.Gen.OutFwd
public import proofs.«01_k».proof.Proof.Gen.OutFwdIdeal.Value
public import proofs.«01_k».proof.Proof.Gen.OutFwdRefIdeal.Run
public import Idealize.ShloMosaic.Lib.Pointwise
public import Idealize.ShloMosaic.Lib.Quiescent
@[expose] public section
set_option maxRecDepth 16384
noncomputable section
namespace Cert.OutFwdIdeal.Mlp
open Cert.OutFwdIdeal Cert.OutFwdIdeal.Gen Idealize.ShloMosaic Idealize.ShloMosaic.TcCoe Idealize.SL.Sem

/-- Entry `d` of the output at position `i`. -/
def out (u v : Vec Ideal S8192x1024 .bf16) (w : Vec Ideal S2048x1024 .bf16) (x : Vec Ideal S8192x1024 .f32) (i : Fin 8192) (d : Fin 1024) : EReal :=
  x (ix2 i d) + ∑ f : Fin 1024, u (ix2 i f) * w (ix2 ⟨f.val, by have := f.isLt; omega⟩ d) + ∑ f : Fin 1024, v (ix2 i f) * w (ix2 ⟨1024 + f.val, by have := f.isLt; omega⟩ d)

/-- What the body stores, at an index. -/
theorem pay_apply (x : Vec Ideal S1024x1024 .f32) (u : Vec Ideal S1024x1024 .bf16) (w : Vec Ideal S1024x1024 .bf16) (v : Vec Ideal S1024x1024 .bf16) (w' : Vec Ideal S1024x1024 .bf16) (r : Fin 1024) (d : Fin 1024) :
    k0_pay1 (F := Ideal) x u w v w' (ix2 r d) = x (ix2 r d) + ∑ f : Fin 1024, u (ix2 r f) * w (ix2 f d) + ∑ f : Fin 1024, v (ix2 r f) * w' (ix2 f d) := by
  unfold_payloads
  pointwise

section
variable (m : (ℓ : Loc nD τ sig) → Buf (Elt Ideal) ℓ) (c : Dev nD) (t : Fin cfg0.N)

/-- The row of the whole array that row `r` of point `n`'s block is. -/
abbrev at_ (n : ℕ) (r : Fin 1024) : Fin 8192 := ⟨(1024 * n + r.val) % 8192, Nat.mod_lt _ (by decide)⟩

abbrev U : Vec Ideal S8192x1024 .bf16 := m ((c : Thread nD τ).loc main_arg0)
abbrev V : Vec Ideal S8192x1024 .bf16 := m ((c : Thread nD τ).loc main_arg1)
abbrev W : Vec Ideal S2048x1024 .bf16 := m ((c : Thread nD τ).loc main_arg2)
abbrev X : Vec Ideal S8192x1024 .f32 := m ((c : Thread nD τ).loc main_arg3)

theorem idx_in : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 1 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) ∧ win0_5.flush t = true :=
  (by decide +kernel : ∀ t : Fin grid0.N, _)

theorem in0 (r : Fin 1024) (d : Fin 1024) : (iblk m c 0 t : Vec Ideal S1024x1024 .bf16) (ix2 r d) = U m c (ix2 (at_ t.val r) d) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 1024 + 1 * r.val = (1024 * t.val + r.val) % 8192; rw [e0]; omega
  | ⟨1, _⟩ => show win0_0.index t (1 : Fin 2) * 1024 + 1 * d.val = d.val; rw [e1]; omega

theorem in1 (r : Fin 1024) (d : Fin 1024) : (iblk m c 1 t : Vec Ideal S1024x1024 .bf16) (ix2 r d) = V m c (ix2 (at_ t.val r) d) := by
  have hN := lt_of_lt_of_eq t.isLt N_0
  obtain ⟨e0, e1⟩ := (idx_in t).2.1
  refine congrArg (V m c) (funext fun a => Fin.ext ?_)
  match a with
  | ⟨0, _⟩ => show win0_1.index t (0 : Fin 2) * 1024 + 1 * r.val = (1024 * t.val + r.val) % 8192; rw [e0]; omega
  | ⟨1, _⟩ => show win0_1.index t (1 : Fin 2) * 1024 + 1 * d.val = d.val; rw [e1]; omega

theorem in2 (f : Fin 1024) (d : Fin 1024) : (iblk m c 2 t : Vec Ideal S1024x1024 .bf16) (ix2 f d) = W m c (ix2 ⟨f.val, by have := f.isLt; omega⟩ d) := by
  obtain ⟨e0, e1⟩ := (idx_in t).2.2.1
  refine congrArg (W m c) (funext fun a => Fin.ext ?_)
  match a with
  | ⟨0, _⟩ => show win0_2.index t (0 : Fin 2) * 1024 + 1 * f.val = f.val; rw [e0]; omega
  | ⟨1, _⟩ => show win0_2.index t (1 : Fin 2) * 1024 + 1 * d.val = d.val; rw [e1]; omega

theorem in3 (f : Fin 1024) (d : Fin 1024) : (iblk m c 3 t : Vec Ideal S1024x1024 .bf16) (ix2 f d) = W m c (ix2 ⟨1024 + f.val, by have := f.isLt; omega⟩ d) := by
  obtain ⟨e0, e1⟩ := (idx_in t).2.2.2.1
  refine congrArg (W m c) (funext fun a => Fin.ext ?_)
  match a with
  | ⟨0, _⟩ => show win0_3.index t (0 : Fin 2) * 1024 + 1 * f.val = 1024 + f.val; rw [e0]; omega
  | ⟨1, _⟩ => show win0_3.index t (1 : Fin 2) * 1024 + 1 * d.val = d.val; rw [e1]; omega

theorem in4 (r : Fin 1024) (d : Fin 1024) : (iblk m c 4 t : Vec Ideal S1024x1024 .f32) (ix2 r d) = X m c (ix2 (at_ t.val r) d) := by
  have hN := lt_of_lt_of_eq t.isLt N_0
  obtain ⟨e0, e1⟩ := (idx_in t).2.2.2.2.1
  refine congrArg (X m c) (funext fun a => Fin.ext ?_)
  match a with
  | ⟨0, _⟩ => show win0_4.index t (0 : Fin 2) * 1024 + 1 * r.val = (1024 * t.val + r.val) % 8192; rw [e0]; omega
  | ⟨1, _⟩ => show win0_4.index t (1 : Fin 2) * 1024 + 1 * d.val = d.val; rw [e1]; omega

/-- The whole result. -/
def G : Buf (Elt Ideal) ((c : Thread nD τ).loc main_v0) := fun i : S8192x1024.Idx => out (U m c) (V m c) (W m c) (X m c) (i 0) (i 1)

/-- What point `t` leaves in its block. -/
theorem out_apply (r : Fin 1024) (d : Fin 1024) :
    out0_5 (F := Ideal) (iblk m c 0 t) (iblk m c 1 t) (iblk m c 2 t) (iblk m c 3 t) (iblk m c 4 t) (ix2 r d) = G m c (ix2 (at_ t.val r) d) := by
  unfold out0_5
  have hz : (![0, 0] : Fin 2 → ℕ) = fun _ => 0 := funext fun a => by fin_cases a <;> rfl
  rw [View.canon_unit_zero hz]
  simp only [View.ld_unit_zero (S := S1024x1024) hz]
  refine (pay_apply _ _ _ _ _ r d).trans ?_
  simp only [in0, in1, in2, in3, in4]
  rfl

theorem flushed_eq : (dats m 0 c).flushed 5 t = ((cfg0.win 5).blk t).view.read (Elt Ideal) (G m c) := by
  rw [Value.flushed5]
  funext y
  obtain ⟨⟨r, d⟩, rfl⟩ : ∃ a : Fin 1024 × Fin 1024, y = ix2 a.1 a.2 := ⟨(y 0, y 1), eq_ix2 y⟩
  refine (out_apply m c t r d).trans ?_
  have hN := lt_of_lt_of_eq t.isLt N_0
  obtain ⟨e0, e1⟩ := (idx_in t).2.2.2.2.2.1
  refine congrArg (G m c) (funext fun a => Fin.ext ?_)
  match a with
  | ⟨0, _⟩ => show (1024 * t.val + r.val) % 8192 = win0_5.index t (0 : Fin 2) * 1024 + 1 * r.val; rw [e0]; omega
  | ⟨1, _⟩ => show d.val = win0_5.index t (1 : Fin 2) * 1024 + 1 * d.val; rw [e1]; omega

theorem final : (dats m 0 c).arrAt 5 cfg0.N = G m c :=
  (dats m 0 c).arrAt_eq_of_cover 5 (G m c) (fun t _ => flushed_eq m c t) fun i => by
    have h0 : (i 0).val < 8192 := (i 0).isLt
    have h1 : (i 1).val < 1024 := (i 1).isLt
    have hN : cfg0.N = 8 := N_0
    let t : Fin cfg0.N := ⟨(i 0).val / 1024, by rw [hN]; omega⟩
    obtain ⟨e0, e1⟩ := (idx_in t).2.2.2.2.2.1
    refine ⟨t, (idx_in t).2.2.2.2.2.2, ?_⟩
    show i ∈ ((View.whole main_v0).slice (win0_5.rect t)).set
    rw [View.set_slice_whole, Rect.mem_set_unit]
    intro a
    match a with
    | ⟨0, _⟩ => show win0_5.index t (0 : Fin 2) * 1024 ≤ (i 0).val ∧ (i 0).val < win0_5.index t (0 : Fin 2) * 1024 + 1024; rw [e0]; show (i 0).val / 1024 * 1024 ≤ _ ∧ _ < (i 0).val / 1024 * 1024 + 1024; omega
    | ⟨1, _⟩ => show win0_5.index t (1 : Fin 2) * 1024 ≤ (i 1).val ∧ (i 1).val < win0_5.index t (1 : Fin 2) * 1024 + 1024; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h c).1).trans (final m c), (h c).2⟩) (Value.run_blocks m ρ)
end
end Cert.OutFwdIdeal.Mlp

namespace Cert.OutFwdRefIdeal.Mlp
open Cert.OutFwdRefIdeal Cert.OutFwdRefIdeal.Gen Idealize.ShloMosaic Idealize.ShloMosaic.TcCoe Idealize.SL.Sem
variable (m : (ℓ : Loc nD τ sig) → Buf (Elt Ideal) ℓ) (c : Dev nD)

/-- The reference's result as its operations compose it. -/
def res (u v : FVec Ideal S8192x1024 .bf16) (w : FVec Ideal S2048x1024 .bf16) (x : FVec Ideal S8192x1024 .f32) : FVec Ideal S8192x1024 .f32 :=
  addf x (Host.dotGeneral dot_S8192x2048_S2048x1024_S8192x1024_1_0_0_1_n_n none (concatenate S8192x2048 1 [⟨S8192x1024, extf .f32 u bitsLt_bf16_f32⟩, ⟨S8192x1024, extf .f32 v bitsLt_bf16_f32⟩] concatenates_S8192x1024_S8192x1024_S8192x2048_d1) (extf .f32 w bitsLt_bf16_f32))

theorem result_apply (u v : Vec Ideal S8192x1024 .bf16) (w : Vec Ideal S2048x1024 .bf16) (x : Vec Ideal S8192x1024 .f32) (i : Fin 8192) (d : Fin 1024) :
    res u v w x (ix2 i d) = Cert.OutFwdIdeal.Mlp.out u v w x i d := by
  unfold res
  pointwise
  exact (add_assoc _ _ _).symm
end Cert.OutFwdRefIdeal.Mlp

namespace Cert.OutFwdIdeal.Mlp
open Idealize.ShloMosaic Idealize.ShloMosaic.TcCoe Idealize.SL.Sem

/-- The kernel's output is the reference's. -/
theorem equal : Cert.algebraic_OutFwdIdeal_OutFwdRefIdeal := by
  intro m g m' g' _ hargs
  refine ⟨fun c => G m c, run m g, ?_⟩
  refine (θ_run _ _ _).mono (fun r h c => ⟨(h c).1.trans ?_, (h c).2⟩) (Cert.OutFwdRefIdeal.Value.run (F := Ideal) m' g')
  obtain ⟨a0, a1, a2, a3⟩ := hargs c
  rw [a0, a1, a2, a3]
  funext i
  obtain ⟨⟨x, d⟩, rfl⟩ : ∃ a : Fin 8192 × Fin 1024, i = ix2 a.1 a.2 := ⟨(i 0, i 1), eq_ix2 i⟩
  exact Cert.OutFwdRefIdeal.Mlp.result_apply (U m c) (V m c) (W m c) (X m c) x d

/-- The kernel before idealization is the same text: the same bodies, the same program. -/
theorem defs_eq : Cert.OutFwd.defs (F := Bits) = Cert.OutFwdIdeal.defs (F := Bits) := by
  refine congrArg (Pipeline.defs _) ?_
  unfold Cert.OutFwd.defs₀ Cert.OutFwdIdeal.defs₀
  refine congrArg Defs.onTc (funext fun l => funext fun x => ?_)
  match l, x with
  | 0, (t, s) => rfl

/-- Its run, in machine arithmetic, is this one. -/
theorem frame_kernel : Cert.quiescent_OutFwd := by
  intro m ρ _
  have h := Cert.OutFwdIdeal.Gen.frame (F := Bits) m ρ
  rw [← defs_eq] at h
  exact h

/-- The reference runs, leaves its arguments unchanged and has no counter. -/
theorem frame_reference : Cert.quiescent_OutFwdRefIdeal := fun m ρ _ =>
  (θ_run _ _ _).mono (fun r h => ⟨fun c => (h c).2, Idealize.ShloMosaic.sem_eq_zero_of_no_sems (by decide) r.2⟩)
    (Cert.OutFwdRefIdeal.Value.run (F := Ideal) m ρ)
end Cert.OutFwdIdeal.Mlp
-- ==== Proof.Mlp.OddFwd.lean ====
/-
  Layer 1's projections: what `InFwd` says of layer 0's, with blocks of other sizes.
-/
module
public import proofs.«01_k».proof.Proof.Mlp.Up1
public import proofs.«01_k».proof.Proof.Gen.OddFwd
public import proofs.«01_k».proof.Proof.Gen.OddFwdIdeal.Value
public import proofs.«01_k».proof.Proof.Gen.OddFwdRefIdeal.Run
public import Idealize.ShloMosaic.Lib.Pointwise
public import Idealize.ShloMosaic.Lib.Quiescent
@[expose] public section
set_option maxRecDepth 16384
noncomputable section
namespace Cert.OddFwdIdeal.Mlp
open Cert.Up1Ideal.Mlp (h hz)
open Cert.OddFwdIdeal Cert.OddFwdIdeal.Gen Cert.Mlp Idealize.ShloMosaic Idealize.ShloMosaic.TcCoe Idealize.SL.Sem

/-- Entry `f` of position `i`'s projections. -/
def u (x : Vec Ideal S8192x1024 .f32) (g : Vec Ideal S1x1024 .f32) (w : Vec Ideal S1024x1536 .bf16) (i : Fin 8192) (f : Fin 1536) : EReal :=
  ∑ d : Fin 1024, h x g i d * w (ix2 d f)

/-! What the body computes, at an index. -/

theorem norm_apply (x : Vec Ideal S1024x1024 .f32) (g : Vec Ideal S1x1024 .f32) (r : Fin 1024) (d : Fin 1024) :
    k0_pay1 (F := Ideal) x g (ix2 r d) = x (ix2 r d) * (invRms fun k => x (ix2 r k)) * g (ix2 0 d) := by
  unfold_payloads
  pointwise
  rfl

theorem kept_apply (x : Vec Ideal S1024x1024 .f32) (g : Vec Ideal S1x1024 .f32) (r : Fin 1024) (d : Fin 1024) :
    k0_pay2 (F := Ideal) x g (ix2 r d) = x (ix2 r d) * (invRms fun k => x (ix2 r k)) * g (ix2 0 d) := by
  unfold k0_pay2
  pointwise
  exact norm_apply x g r d

theorem product_apply (a : Vec Ideal S1024x1024 .bf16) (w : Vec Ideal S1024x1536 .bf16) (r : Fin 1024) (f : Fin 1536) :
    k0_pay3 (F := Ideal) a w (ix2 r f) = ∑ d : Fin 1024, a (ix2 r d) * w (ix2 d f) := by
  unfold_payloads
  pointwise

section
variable (c : Dev nD) (i : grid0.Coords) (a2 : Memref sig .tc .vmem S1024x1024 .f32) (h2 : a2.IsWhole) (a3 : Memref sig .tc .vmem S1x1024 .f32) (h3 : a3.IsWhole)
  (a4 : Memref sig .tc .vmem S1024x1536 .bf16) (h4 : a4.IsWhole) (a5 : Memref sig .tc .vmem S1024x1536 .f32) (h5 : a5.IsWhole)
  (a6 : Memref sig .tc .vmem S1024x1024 .bf16) (h6 : a6.IsWhole) (a7 : Memref sig .tc .vmem S1024x1024 .bf16) (h7 : a7.IsWhole) (c0 : cond0_0 i)
  (x0 : Vec Ideal S1024x1024 .f32) (x1 : Vec Ideal S1x1024 .f32) (x2 : Vec Ideal S1024x1536 .bf16)

/-- A point multiplies the block it has just kept. -/
theorem u_A : out0_A_3 (F := Ideal) c i a2 h2 a3 h3 a4 h4 a5 h5 a6 h6 a7 h7 c0 x0 x1 x2 = k0_pay3 (k0_pay2 x0 x1) x2 := by
  unfold out0_A_3
  rw [View.read_writes_eq_canon _ _ _ (cover0_A_3 c i a2 h2 a3 h3 a4 h4 a5 h5 a6 h6 a7 h7 c0 x0 x1 x2)]
  unfold kernelRun0_A
  dsimp only
  sl_unfold_words
  rw [View.canon_unit_zero hz, View.readCov_unit_zero (S := S1024x1024) _ hz]
  simp only [View.readAt_eq_ld, h2.read_unread, h3.read_unread, h4.read_unread, View.ld_unit_zero (S := S1024x1024) hz, View.ld_unit_zero (S := S1x1024) hz, View.ld_unit_zero (S := S1024x1536) hz]

theorem h_A : out0_A_4 (F := Ideal) c i a2 h2 a3 h3 a4 h4 a5 h5 a6 h6 a7 h7 c0 x0 x1 x2 = k0_pay1 x0 x1 := by
  unfold out0_A_4
  rw [View.read_writes_eq_canon _ _ _ (cover0_A_4 c i a2 h2 a3 h3 a4 h4 a5 h5 a6 h6 a7 h7 c0 x0 x1 x2)]
  unfold kernelRun0_A
  dsimp only
  sl_unfold_words
  rw [View.canon_unit_zero hz]
  simp only [View.readAt_eq_ld, h2.read_unread, h3.read_unread, View.ld_unit_zero (S := S1024x1024) hz, View.ld_unit_zero (S := S1x1024) hz]
end

section
variable (m : (ℓ : Loc nD τ sig) → Buf (Elt Ideal) ℓ) (c : Dev nD) (t : Fin cfg0.N)

/-- The row of the whole array that row `r` of point `n`'s block is. -/
abbrev at_ (n : ℕ) (r : Fin 1024) : Fin 8192 := ⟨(1024 * n + r.val) % 8192, Nat.mod_lt _ (by decide)⟩

abbrev X : Vec Ideal S8192x1024 .f32 := m ((c : Thread nD τ).loc main_arg0)
abbrev G : Vec Ideal S1x1024 .f32 := m ((c : Thread nD τ).loc main_arg1)
abbrev W : Vec Ideal S1024x1536 .bf16 := m ((c : Thread nD τ).loc main_arg2)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0 ∧ win0_3.flush t = true)
    ∧ (win0_4.index t (0 : Fin 2) = t.val ∧ win0_4.index t (1 : Fin 2) = 0 ∧ win0_4.flush t = true) :=
  (by decide +kernel : ∀ t : Fin grid0.N, _)

theorem in0 (r : Fin 1024) (d : Fin 1024) : (iblk m c 0 t : Vec Ideal S1024x1024 .f32) (ix2 r d) = X m c (ix2 (at_ t.val r) d) := by
  have hN := lt_of_lt_of_eq t.isLt N_0
  obtain ⟨e0, e1⟩ := (idx_in t).1
  refine congrArg (X m c) (funext fun a => Fin.ext ?_)
  match a with
  | ⟨0, _⟩ => show win0_0.index t (0 : Fin 2) * 1024 + 1 * r.val = (1024 * t.val + r.val) % 8192; rw [e0]; omega
  | ⟨1, _⟩ => show win0_0.index t (1 : Fin 2) * 1024 + 1 * d.val = d.val; rw [e1]; omega

theorem in1 (d : Fin 1024) : (iblk m c 1 t : Vec Ideal S1x1024 .f32) (ix2 0 d) = G m c (ix2 0 d) := by
  obtain ⟨e0, e1⟩ := (idx_in t).2.1
  refine congrArg (G m c) (funext fun a => Fin.ext ?_)
  match a with
  | ⟨0, _⟩ => show win0_1.index t (0 : Fin 2) * 1 + 1 * 0 = 0; rw [e0]
  | ⟨1, _⟩ => show win0_1.index t (1 : Fin 2) * 1024 + 1 * d.val = d.val; rw [e1]; omega

theorem in2 (d : Fin 1024) (f : Fin 1536) : (iblk m c 2 t : Vec Ideal S1024x1536 .bf16) (ix2 d f) = W m c (ix2 d f) := by
  obtain ⟨e0, e1⟩ := (idx_in t).2.2.1
  refine congrArg (W m c) (funext fun a => Fin.ext ?_)
  match a with
  | ⟨0, _⟩ => show win0_2.index t (0 : Fin 2) * 1024 + 1 * d.val = d.val; rw [e0]; omega
  | ⟨1, _⟩ => show win0_2.index t (1 : Fin 2) * 1536 + 1 * f.val = f.val; rw [e1]; omega

/-- The whole first result. -/
def Hid : Buf (Elt Ideal) ((c : Thread nD τ).loc main_v0_0) := fun i : S8192x1536.Idx => u (X m c) (G m c) (W m c) (i 0) (i 1)
/-- The whole second result. -/
def Nrm : Buf (Elt Ideal) ((c : Thread nD τ).loc main_v0_1) := fun i : S8192x1024.Idx => h (X m c) (G m c) (i 0) (i 1)

theorem flushed_u : (dats m 0 c).flushed 3 t = ((cfg0.win 3).blk t).view.read (Elt Ideal) (Hid m c) := by
  rw [Value.flushed3_A, u_A]
  funext y
  obtain ⟨⟨r, f⟩, rfl⟩ : ∃ a : Fin 1024 × Fin 1536, y = ix2 a.1 a.2 := ⟨(y 0, y 1), eq_ix2 y⟩
  have e : k0_pay3 (F := Ideal) (k0_pay2 (iblk m c 0 t) (iblk m c 1 t)) (iblk m c 2 t) (ix2 r f) = Hid m c (ix2 (at_ t.val r) f) := by
    rw [product_apply]
    simp only [kept_apply, in0, in1, in2]
    rfl
  refine e.trans ?_
  have hN := lt_of_lt_of_eq t.isLt N_0
  obtain ⟨e0, e1, -⟩ := (idx_in t).2.2.2.1
  refine congrArg (Hid m c) (a₁ := ix2 (at_ t.val r) f) (funext fun a => Fin.ext ?_)
  match a with
  | ⟨0, _⟩ => show (1024 * t.val + r.val) % 8192 = win0_3.index t (0 : Fin 2) * 1024 + 1 * r.val; rw [e0]; omega
  | ⟨1, _⟩ => show f.val = win0_3.index t (1 : Fin 2) * 1536 + 1 * f.val; rw [e1]; omega

theorem flushed_h : (dats m 0 c).flushed 4 t = ((cfg0.win 4).blk t).view.read (Elt Ideal) (Nrm m c) := by
  rw [Value.flushed4_A, h_A]
  funext y
  obtain ⟨⟨r, d⟩, rfl⟩ : ∃ a : Fin 1024 × Fin 1024, y = ix2 a.1 a.2 := ⟨(y 0, y 1), eq_ix2 y⟩
  have e : k0_pay1 (F := Ideal) (iblk m c 0 t) (iblk m c 1 t) (ix2 r d) = Nrm m c (ix2 (at_ t.val r) d) := by
    rw [norm_apply]
    simp only [in0, in1]
    rfl
  refine e.trans ?_
  have hN := lt_of_lt_of_eq t.isLt N_0
  obtain ⟨e0, e1, -⟩ := (idx_in t).2.2.2.2
  refine congrArg (Nrm m c) (a₁ := ix2 (at_ t.val r) d) (funext fun a => Fin.ext ?_)
  match a with
  | ⟨0, _⟩ => show (1024 * t.val + r.val) % 8192 = win0_4.index t (0 : Fin 2) * 1024 + 1 * r.val; rw [e0]; omega
  | ⟨1, _⟩ => show d.val = win0_4.index t (1 : Fin 2) * 1024 + 1 * d.val; rw [e1]; omega

theorem final_u : (dats m 0 c).arrAt 3 cfg0.N = Hid m c :=
  (dats m 0 c).arrAt_eq_of_cover 3 (Hid m c) (fun t _ => flushed_u m c t) fun i => by
    have h0 : (i 0).val < 8192 := (i 0).isLt
    have h1 : (i 1).val < 1536 := (i 1).isLt
    have hN : cfg0.N = 8 := N_0
    let t : Fin cfg0.N := ⟨(i 0).val / 1024, by rw [hN]; omega⟩
    obtain ⟨e0, e1, ef⟩ := (idx_in t).2.2.2.1
    refine ⟨t, ef, ?_⟩
    show i ∈ ((View.whole main_v0_0).slice (win0_3.rect t)).set
    rw [View.set_slice_whole, Rect.mem_set_unit]
    intro a
    match a with
    | ⟨0, _⟩ => show win0_3.index t (0 : Fin 2) * 1024 ≤ (i 0).val ∧ (i 0).val < win0_3.index t (0 : Fin 2) * 1024 + 1024; rw [e0]; show (i 0).val / 1024 * 1024 ≤ _ ∧ _ < (i 0).val / 1024 * 1024 + 1024; omega
    | ⟨1, _⟩ => show win0_3.index t (1 : Fin 2) * 1536 ≤ (i 1).val ∧ (i 1).val < win0_3.index t (1 : Fin 2) * 1536 + 1536; rw [e1]; omega

theorem final_h : (dats m 0 c).arrAt 4 cfg0.N = Nrm m c :=
  (dats m 0 c).arrAt_eq_of_cover 4 (Nrm m c) (fun t _ => flushed_h m c t) fun i => by
    have h0 : (i 0).val < 8192 := (i 0).isLt
    have h1 : (i 1).val < 1024 := (i 1).isLt
    have hN : cfg0.N = 8 := N_0
    let t : Fin cfg0.N := ⟨(i 0).val / 1024, by rw [hN]; omega⟩
    obtain ⟨e0, e1, ef⟩ := (idx_in t).2.2.2.2
    refine ⟨t, ef, ?_⟩
    show i ∈ ((View.whole main_v0_1).slice (win0_4.rect t)).set
    rw [View.set_slice_whole, Rect.mem_set_unit]
    intro a
    match a with
    | ⟨0, _⟩ => show win0_4.index t (0 : Fin 2) * 1024 ≤ (i 0).val ∧ (i 0).val < win0_4.index t (0 : Fin 2) * 1024 + 1024; rw [e0]; show (i 0).val / 1024 * 1024 ≤ _ ∧ _ < (i 0).val / 1024 * 1024 + 1024; omega
    | ⟨1, _⟩ => show win0_4.index t (1 : Fin 2) * 1024 ≤ (i 1).val ∧ (i 1).val < win0_4.index t (1 : Fin 2) * 1024 + 1024; rw [e1]; omega

/-- The run: the two results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = Hid m c
      ∧ r.2.mem ((c : Thread nD τ).loc main_v0_1) = Nrm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1).trans (final_u m c), ((h c).2.1).trans (final_h m c), (h c).2.2⟩) (Value.run_blocks m ρ)
end
end Cert.OddFwdIdeal.Mlp

namespace Cert.OddFwdRefIdeal.Mlp
open Cert.OddFwdRefIdeal Cert.OddFwdRefIdeal.Gen Cert.Mlp Idealize.ShloMosaic Idealize.ShloMosaic.TcCoe Idealize.SL.Sem
variable (x : FVec Ideal S8192x1024 .f32) (g : FVec Ideal S1x1024 .f32) (w : FVec Ideal S1024x1536 .bf16)

/-! The reference's first result as its operations compose it; its second is the MLP's. -/

/-- The projections. -/
def res : FVec Ideal S8192x1536 .f32 :=
  Host.dotGeneral dot_S8192x1024_S1024x1536_S8192x1536_1_0_0_1_n_n none (Cert.Up1RefIdeal.Mlp.norm x g) (extf .f32 w bitsLt_bf16_f32)

theorem res_apply (i : Fin 8192) (f : Fin 1536) : res x g w (ix2 i f) = Cert.OddFwdIdeal.Mlp.u x g w i f := by
  unfold res
  pointwise
  simp only [Cert.Up1RefIdeal.Mlp.norm_apply]
  rfl
end Cert.OddFwdRefIdeal.Mlp

namespace Cert.OddFwdIdeal.Mlp
open Idealize.ShloMosaic Idealize.ShloMosaic.TcCoe Idealize.SL.Sem

/-- The kernel's projections and normalized rows are the reference's. -/
theorem equal : Cert.algebraic_OddFwdIdeal_OddFwdRefIdeal := by
  intro m g m' g' _ hargs
  refine ⟨fun c => Hid m c, fun c => Nrm m c, run m g, ?_⟩
  refine (θ_run _ _ _).mono (fun r h c => ⟨(h c).1.trans ?_, (h c).2.1.trans ?_, (h c).2.2⟩) (Cert.OddFwdRefIdeal.Value.run (F := Ideal) m' g')
  · obtain ⟨a0, a1, a2⟩ := hargs c
    rw [a0, a1, a2]
    funext i
    obtain ⟨⟨x, f⟩, rfl⟩ : ∃ a : Fin 8192 × Fin 1536, i = ix2 a.1 a.2 := ⟨(i 0, i 1), eq_ix2 i⟩
    exact Cert.OddFwdRefIdeal.Mlp.res_apply (X m c) (G m c) (W m c) x f
  · obtain ⟨a0, a1, -⟩ := hargs c
    rw [a0, a1]
    funext i
    obtain ⟨⟨x, d⟩, rfl⟩ : ∃ a : Fin 8192 × Fin 1024, i = ix2 a.1 a.2 := ⟨(i 0, i 1), eq_ix2 i⟩
    exact Cert.Up1RefIdeal.Mlp.norm_apply (X m c) (G m c) x d

/-- The kernel before idealization is the same text: the same bodies, the same program. -/
theorem defs_eq : Cert.OddFwd.defs (F := Bits) = Cert.OddFwdIdeal.defs (F := Bits) := by
  refine congrArg (Pipeline.defs _) ?_
  unfold Cert.OddFwd.defs₀ Cert.OddFwdIdeal.defs₀
  refine congrArg Defs.onTc (funext fun l => funext fun x => ?_)
  match l, x with
  | 0, (t, s) => rfl

/-- Its run, in machine arithmetic, is this one. -/
theorem frame_kernel : Cert.quiescent_OddFwd := by
  intro m ρ _
  have h := Cert.OddFwdIdeal.Gen.frame (F := Bits) m ρ
  rw [← defs_eq] at h
  exact h

/-- The reference runs, leaves its arguments unchanged and has no counter. -/
theorem frame_reference : Cert.quiescent_OddFwdRefIdeal := fun m ρ _ =>
  (θ_run _ _ _).mono (fun r h => ⟨fun c => (h c).2.2, Idealize.ShloMosaic.sem_eq_zero_of_no_sems (by decide) r.2⟩)
    (Cert.OddFwdRefIdeal.Value.run (F := Ideal) m ρ)
end Cert.OddFwdIdeal.Mlp
-- ==== Proof.Mlp.OddOutDx.lean ====
/-
  The gradient of what layer 1's output product takes: what `OutDx` says of layer 0, at another width and rounded.
-/
module
public import proofs.«01_k».proof.Defs
public import proofs.«01_k».proof.Proof.Gen.OddOutDx
public import proofs.«01_k».proof.Proof.Gen.OddOutDxIdeal.Value
public import proofs.«01_k».proof.Proof.Gen.OddOutDxRefIdeal.Run
public import Idealize.ShloMosaic.Lib.Pointwise
public import Idealize.ShloMosaic.Lib.Quiescent
@[expose] public section
set_option maxRecDepth 16384
noncomputable section
namespace Cert.OddOutDxIdeal.Mlp
open Cert.OddOutDxIdeal Cert.OddOutDxIdeal.Gen Idealize.ShloMosaic Idealize.ShloMosaic.TcCoe Idealize.SL.Sem

/-- The gradient of entry `f` at position `x`. -/
def du (dy : Vec Ideal S8192x1024 .bf16) (w : Vec Ideal S1024x1024 .bf16) (x : Fin 8192) (f : Fin 1024) : EReal :=
  ∑ d : Fin 1024, dy (ix2 x d) * w (ix2 f d)

theorem pay_apply (dy : Vec Ideal S1024x1024 .bf16) (w : Vec Ideal S1024x1024 .bf16) (r : Fin 1024) (f : Fin 1024) :
    k0_pay1 (F := Ideal) dy w (ix2 r f) = ∑ d : Fin 1024, dy (ix2 r d) * w (ix2 f d) := by
  unfold_payloads
  pointwise

section
variable (m : (ℓ : Loc nD τ sig) → Buf (Elt Ideal) ℓ) (c : Dev nD) (t : Fin cfg0.N)

/-- The row of the whole array that row `r` of point `n`'s block is. -/
abbrev at_ (n : ℕ) (r : Fin 1024) : Fin 8192 := ⟨(1024 * n + r.val) % 8192, Nat.mod_lt _ (by decide)⟩

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0) ∧ win0_2.flush t = true :=
  (by decide +kernel : ∀ t : Fin grid0.N, _)

theorem in0 (r : Fin 1024) (d : Fin 1024) :
    (iblk m c 0 t : Vec Ideal S1024x1024 .bf16) (ix2 r d) = (m ((c : Thread nD τ).loc main_arg0) : Vec Ideal S8192x1024 .bf16) (ix2 (at_ t.val r) d) := by
  have hN := lt_of_lt_of_eq t.isLt N_0
  obtain ⟨e0, e1⟩ := (idx_in t).1
  refine congrArg (m ((c : Thread nD τ).loc main_arg0) : Vec Ideal S8192x1024 .bf16) (funext fun a => Fin.ext ?_)
  match a with
  | ⟨0, _⟩ => show win0_0.index t (0 : Fin 2) * 1024 + 1 * r.val = (1024 * t.val + r.val) % 8192; rw [e0]; omega
  | ⟨1, _⟩ => show win0_0.index t (1 : Fin 2) * 1024 + 1 * d.val = d.val; rw [e1]; omega

theorem in1 (f : Fin 1024) (d : Fin 1024) :
    (iblk m c 1 t : Vec Ideal S1024x1024 .bf16) (ix2 f d) = (m ((c : Thread nD τ).loc main_arg1) : Vec Ideal S1024x1024 .bf16) (ix2 f d) := by
  obtain ⟨e0, e1⟩ := (idx_in t).2.1
  refine congrArg (m ((c : Thread nD τ).loc main_arg1) : Vec Ideal S1024x1024 .bf16) (funext fun a => Fin.ext ?_)
  match a with
  | ⟨0, _⟩ => show win0_1.index t (0 : Fin 2) * 1024 + 1 * f.val = f.val; rw [e0]; omega
  | ⟨1, _⟩ => show win0_1.index t (1 : Fin 2) * 1024 + 1 * d.val = d.val; rw [e1]; omega

/-- The whole result. -/
def G : Buf (Elt Ideal) ((c : Thread nD τ).loc main_v0) := fun i : S8192x1024.Idx =>
  du (m ((c : Thread nD τ).loc main_arg0)) (m ((c : Thread nD τ).loc main_arg1)) (i 0) (i 1)

/-- What point `t` leaves in its block. -/
theorem out_apply (r : Fin 1024) (f : Fin 1024) :
    out0_2 (F := Ideal) (iblk m c 0 t) (iblk m c 1 t) (ix2 r f) = G m c (ix2 (at_ t.val r) f) := by
  unfold out0_2
  have hz : (![0, 0] : Fin 2 → ℕ) = fun _ => 0 := funext fun a => by fin_cases a <;> rfl
  rw [View.canon_unit_zero hz]
  simp only [View.ld_unit_zero (S := S1024x1024) hz]
  refine (pay_apply _ _ r f).trans ?_
  simp only [in0, in1]
  rfl

theorem flushed_eq :
    (dats m 0 c).flushed 2 t = ((cfg0.win 2).blk t).view.read (Elt Ideal) (G m c) := by
  rw [Value.flushed2]
  funext y
  obtain ⟨⟨r, f⟩, rfl⟩ : ∃ a : Fin 1024 × Fin 1024, y = ix2 a.1 a.2 := ⟨(y 0, y 1), eq_ix2 y⟩
  refine (out_apply m c t r f).trans ?_
  have hN := lt_of_lt_of_eq t.isLt N_0
  obtain ⟨e0, e1⟩ := (idx_in t).2.2.1
  refine congrArg (G m c) (funext fun a => Fin.ext ?_)
  match a with
  | ⟨0, _⟩ => show (1024 * t.val + r.val) % 8192 = win0_2.index t (0 : Fin 2) * 1024 + 1 * r.val; rw [e0]; omega
  | ⟨1, _⟩ => show f.val = win0_2.index t (1 : Fin 2) * 1024 + 1 * f.val; rw [e1]; omega

theorem final : (dats m 0 c).arrAt 2 cfg0.N = G m c :=
  (dats m 0 c).arrAt_eq_of_cover 2 (G m c) (fun t _ => flushed_eq m c t) fun i => by
    have h0 : (i 0).val < 8192 := (i 0).isLt
    have h1 : (i 1).val < 1024 := (i 1).isLt
    have hN : cfg0.N = 8 := N_0
    let t : Fin cfg0.N := ⟨(i 0).val / 1024, by rw [hN]; omega⟩
    obtain ⟨e0, e1⟩ := (idx_in t).2.2.1
    refine ⟨t, (idx_in t).2.2.2, ?_⟩
    show i ∈ ((View.whole main_v0).slice (win0_2.rect t)).set
    rw [View.set_slice_whole, Rect.mem_set_unit]
    intro a
    match a with
    | ⟨0, _⟩ => show win0_2.index t (0 : Fin 2) * 1024 ≤ (i 0).val ∧ (i 0).val < win0_2.index t (0 : Fin 2) * 1024 + 1024; rw [e0]; show (i 0).val / 1024 * 1024 ≤ _ ∧ _ < (i 0).val / 1024 * 1024 + 1024; omega
    | ⟨1, _⟩ => show win0_2.index t (1 : Fin 2) * 1024 ≤ (i 1).val ∧ (i 1).val < win0_2.index t (1 : Fin 2) * 1024 + 1024; rw [e1]; omega

/-- The run: the result is `G`, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1).trans (final m c), (h c).2⟩) (Value.run_blocks m ρ)
end
end Cert.OddOutDxIdeal.Mlp

namespace Cert.OddOutDxRefIdeal.Mlp
open Cert.OddOutDxRefIdeal Cert.OddOutDxRefIdeal.Gen Idealize.ShloMosaic Idealize.ShloMosaic.TcCoe Idealize.SL.Sem
variable (m : (ℓ : Loc nD τ sig) → Buf (Elt Ideal) ℓ) (c : Dev nD)

/-- The reference's result as its operations compose it. -/
def res (dy : FVec Ideal S8192x1024 .bf16) (w : FVec Ideal S1024x1024 .bf16) : FVec Ideal S8192x1024 .bf16 :=
  truncf .bf16 (Host.dotGeneral dot_S8192x1024_S1024x1024_S8192x1024_1_1_0_0_n_n none (extf .f32 dy bitsLt_bf16_f32) (extf .f32 w bitsLt_bf16_f32)) bitsLt_bf16_f32

theorem result_apply (dy : Vec Ideal S8192x1024 .bf16) (w : Vec Ideal S1024x1024 .bf16) (x : Fin 8192) (f : Fin 1024) :
    res dy w (ix2 x f) = Cert.OddOutDxIdeal.Mlp.du dy w x f := by
  unfold res
  pointwise
  rfl
end Cert.OddOutDxRefIdeal.Mlp

namespace Cert.OddOutDxIdeal.Mlp
open Idealize.ShloMosaic Idealize.ShloMosaic.TcCoe Idealize.SL.Sem

/-- The kernel's gradient is the reference's. -/
theorem equal : Cert.algebraic_OddOutDxIdeal_OddOutDxRefIdeal := by
  intro m g m' g' _ hargs
  refine ⟨fun c => G m c, run m g, ?_⟩
  refine (θ_run _ _ _).mono (fun r h c => ⟨(h c).1.trans ?_, (h c).2⟩) (Cert.OddOutDxRefIdeal.Value.run (F := Ideal) m' g')
  obtain ⟨a0, a1⟩ := hargs c
  rw [a0, a1]
  funext i
  obtain ⟨⟨x, f⟩, rfl⟩ : ∃ a : Fin 8192 × Fin 1024, i = ix2 a.1 a.2 := ⟨(i 0, i 1), eq_ix2 i⟩
  exact Cert.OddOutDxRefIdeal.Mlp.result_apply _ _ x f

/-- The kernel before idealization is the same text: the same bodies, the same program. -/
theorem defs_eq : Cert.OddOutDx.defs (F := Bits) = Cert.OddOutDxIdeal.defs (F := Bits) := by
  refine congrArg (Pipeline.defs _) ?_
  unfold Cert.OddOutDx.defs₀ Cert.OddOutDxIdeal.defs₀
  refine congrArg Defs.onTc (funext fun l => funext fun x => ?_)
  match l, x with
  | 0, (t, s) => rfl

/-- Its run, in machine arithmetic, is this one. -/
theorem frame_kernel : Cert.quiescent_OddOutDx := by
  intro m ρ _
  have h := Cert.OddOutDxIdeal.Gen.frame (F := Bits) m ρ
  rw [← defs_eq] at h
  exact h

/-- The reference runs, leaves its arguments unchanged and has no counter. -/
theorem frame_reference : Cert.quiescent_OddOutDxRefIdeal := fun m ρ _ =>
  (θ_run _ _ _).mono (fun r h => ⟨fun c => (h c).2, Idealize.ShloMosaic.sem_eq_zero_of_no_sems (by decide) r.2⟩)
    (Cert.OddOutDxRefIdeal.Value.run (F := Ideal) m ρ)
end Cert.OddOutDxIdeal.Mlp
-- ==== Proof.Mlp.OddDx.lean ====
/-
  The gradient that leaves layer 1's projections: what `InDx` says of layer 0's, at another width.
-/
module
public import proofs.«01_k».proof.Proof.Mlp.UpDx
public import proofs.«01_k».proof.Proof.Gen.OddDx
public import proofs.«01_k».proof.Proof.Gen.OddDxIdeal.Frame
public import proofs.«01_k».proof.Proof.Gen.OddDxRefIdeal.Run
public import Idealize.ShloMosaic.Lib.Pointwise
public import Idealize.ShloMosaic.Lib.Quiescent
@[expose] public section
set_option maxRecDepth 16384
noncomputable section
namespace Cert.OddDxIdeal.Mlp
open Cert.OddDxIdeal Cert.OddDxIdeal.Gen Cert.Mlp Idealize.ShloMosaic Idealize.ShloMosaic.TcCoe Idealize.SL.Sem

/-- The gradient of the normalized row at entry `d` of position `i`. -/
def back (u : Vec Ideal S8192x1536 .bf16) (w : Vec Ideal S1024x1536 .bf16) (i : Fin 8192) (d : Fin 1024) : EReal :=
  ∑ f : Fin 1536, u (ix2 i f) * w (ix2 d f)

/-- The gradient that leaves the block. -/
def dx (u : Vec Ideal S8192x1536 .bf16) (w : Vec Ideal S1024x1536 .bf16) (x : Vec Ideal S8192x1024 .f32) (g : Vec Ideal S1x1024 .f32) (y : Vec Ideal S8192x1024 .f32)
    (i : Fin 8192) (d : Fin 1024) : EReal :=
  y (ix2 i d) + normGrad (fun k => x (ix2 i k)) (back u w i) (fun k => g (ix2 0 k)) d

/-- What position `i` contributes to the gradient of the gain at entry `d`. -/
def dgTerm (u : Vec Ideal S8192x1536 .bf16) (w : Vec Ideal S1024x1536 .bf16) (x : Vec Ideal S8192x1024 .f32) (d : Fin 1024) (i : Fin 8192) : EReal :=
  back u w i d * (x (ix2 i d) * invRms fun k => x (ix2 i k))

open Cert.UpDxIdeal.Mlp (hz)

/-! What the body computes is what it computes there. -/

theorem back_apply (a : Vec Ideal S512x1536 .bf16) (w : Vec Ideal S1024x1536 .bf16) (r : Fin 512) (d : Fin 1024) :
    k0_pay3 (F := Ideal) a w (ix2 r d) = ∑ f : Fin 1536, a (ix2 r f) * w (ix2 d f) := by
  unfold_payloads
  pointwise

theorem unit_apply (x : Vec Ideal S512x1024 .f32) (r : Fin 512) (d : Fin 1024) :
    k0_pay5 (F := Ideal) x (ix2 r d) = x (ix2 r d) * invRms fun k => x (ix2 r k) :=
  Cert.UpDxIdeal.Mlp.unit_apply x r d

theorem dx_apply (a : Vec Ideal S512x1536 .bf16) (w : Vec Ideal S1024x1536 .bf16) (x : Vec Ideal S512x1024 .f32) (g : Vec Ideal S1x1024 .f32) (y : Vec Ideal S512x1024 .f32) (r : Fin 512) (d : Fin 1024) :
    k0_pay6 (F := Ideal) a w x g y (ix2 r d) = y (ix2 r d) + normGrad (fun k => x (ix2 r k)) (fun k => ∑ f : Fin 1536, a (ix2 r f) * w (ix2 k f)) (fun k => g (ix2 0 k)) d := by
  unfold k0_pay6
  pointwise
  simp only [show ∀ r, k0_pay4 (F := Ideal) x (ix2 r 0) = invRms fun k => x (ix2 r k) from fun r => Cert.UpDxIdeal.Mlp.root_apply x r, unit_apply, back_apply]
  rfl

section
variable (c : Dev nD) (i : grid0.Coords) (a1 : Memref sig .tc .vmem S512x1536 .bf16) (h1 : a1.IsWhole) (a2 : Memref sig .tc .vmem S1024x1536 .bf16) (h2 : a2.IsWhole)
  (a3 : Memref sig .tc .vmem S512x1024 .f32) (h3 : a3.IsWhole) (a4 : Memref sig .tc .vmem S1x1024 .f32) (h4 : a4.IsWhole) (a5 : Memref sig .tc .vmem S512x1024 .f32) (h5 : a5.IsWhole)
  (a6 : Memref sig .tc .vmem S512x1024 .f32) (h6 : a6.IsWhole) (a7 : Memref sig .tc .vmem S512x1024 .bf16) (h7 : a7.IsWhole) (a8 : Memref sig .tc .vmem S8x1024 .f32) (h8 : a8.IsWhole)
  (x0 : Vec Ideal S512x1536 .bf16) (x1 : Vec Ideal S1024x1536 .bf16) (x2 : Vec Ideal S512x1024 .f32) (x3 : Vec Ideal S1x1024 .f32) (x4 : Vec Ideal S512x1024 .f32) (xo : Vec Ideal S8x1024 .f32)

theorem dx_A (c0 : cond0_0 i) : out0_A_5 (F := Ideal) c i a1 h1 a2 h2 a3 h3 a4 h4 a5 h5 a6 h6 a7 h7 a8 h8 c0 x0 x1 x2 x3 x4 = k0_pay6 x0 x1 x2 x3 x4 := by
  unfold out0_A_5
  rw [View.read_writes_eq_canon _ _ _ (cover0_A_5 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x1536) hz, View.ld_unit_zero (S := S1024x1536) hz, View.ld_unit_zero (S := S512x1024) hz, View.ld_unit_zero (S := S1x1024) hz]

theorem dx16_A (c0 : cond0_0 i) : out0_A_6 (F := Ideal) c i a1 h1 a2 h2 a3 h3 a4 h4 a5 h5 a6 h6 a7 h7 a8 h8 c0 x0 x1 x2 x3 x4 = k0_pay7 x0 x1 x2 x3 x4 := by
  unfold out0_A_6
  rw [View.read_writes_eq_canon _ _ _ (cover0_A_6 c i a1 h1 a2 h2 a3 h3 a4 h4 a5 h5 a6 h6 a7 h7 a8 h8 c0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S512x1536) hz, View.ld_unit_zero (S := S1024x1536) hz, View.ld_unit_zero (S := S512x1024) hz, View.ld_unit_zero (S := S1x1024) hz]

/-- The first point starts the sum at zero. -/
theorem dg_A (c0 : cond0_0 i) : out0_A_7 (F := Ideal) c i a1 h1 a2 h2 a3 h3 a4 h4 a5 h5 a6 h6 a7 h7 a8 h8 c0 x0 x1 x2 x3 x4 = k0_pay2 (k0_pay3 x0 x1) (k0_pay5 x2) (k0_pay1 (F := Ideal)) := by
  unfold out0_A_7
  rw [View.read_writes_eq_canon _ _ _ (cover0_A_7 c i a1 h1 a2 h2 a3 h3 a4 h4 a5 h5 a6 h6 a7 h7 a8 h8 c0 x0 x1 x2 x3 x4)]
  unfold kernelRun0_A
  dsimp only
  sl_unfold_words
  rw [View.canon_cons_unit_zero (S := S8x1024) hz, View.readCov_unit_zero (S := S8x1024) _ hz]
  simp only [View.readAt_eq_ld, h1.read_unread, h2.read_unread, h3.read_unread, View.ld_unit_zero (S := S512x1536) hz, View.ld_unit_zero (S := S1024x1536) hz, View.ld_unit_zero (S := S512x1024) hz]

theorem dx_B (c0 : ¬cond0_0 i) : out0_B_5 (F := Ideal) c i a1 h1 a2 h2 a3 h3 a4 h4 a5 h5 a6 h6 a7 h7 a8 h8 c0 x0 x1 x2 x3 x4 xo = k0_pay6 x0 x1 x2 x3 x4 := by
  unfold out0_B_5
  rw [View.read_writes_eq_canon _ _ _ (cover0_B_5 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x1536) hz, View.ld_unit_zero (S := S1024x1536) hz, View.ld_unit_zero (S := S512x1024) hz, View.ld_unit_zero (S := S1x1024) hz]

theorem dx16_B (c0 : ¬cond0_0 i) : out0_B_6 (F := Ideal) c i a1 h1 a2 h2 a3 h3 a4 h4 a5 h5 a6 h6 a7 h7 a8 h8 c0 x0 x1 x2 x3 x4 xo = k0_pay7 x0 x1 x2 x3 x4 := by
  unfold out0_B_6
  rw [View.read_writes_eq_canon _ _ _ (cover0_B_6 c i a1 h1 a2 h2 a3 h3 a4 h4 a5 h5 a6 h6 a7 h7 a8 h8 c0 x0 x1 x2 x3 x4 xo)]
  unfold kernelRun0_B
  dsimp only
  rw [View.canon_unit_zero hz]
  simp only [View.readAt_eq_ld, h1.read_unread, h2.read_unread, h3.read_unread, h4.read_unread, h5.read_unread, View.ld_unit_zero (S := S512x1536) hz, View.ld_unit_zero (S := S1024x1536) hz, View.ld_unit_zero (S := S512x1024) hz, View.ld_unit_zero (S := S1x1024) hz]

/-- A later point adds to what the point before left. -/
theorem dg_B (c0 : ¬cond0_0 i) : out0_B_7 (F := Ideal) c i a1 h1 a2 h2 a3 h3 a4 h4 a5 h5 a6 h6 a7 h7 a8 h8 c0 x0 x1 x2 x3 x4 xo = k0_pay2 (k0_pay3 x0 x1) (k0_pay5 x2) xo := by
  unfold out0_B_7
  rw [View.read_writes_eq_canon _ _ _ (cover0_B_7 c i a1 h1 a2 h2 a3 h3 a4 h4 a5 h5 a6 h6 a7 h7 a8 h8 c0 x0 x1 x2 x3 x4 xo)]
  unfold kernelRun0_B
  dsimp only
  sl_unfold_words
  rw [View.canon_unit_zero hz]
  simp only [View.readAt_eq_ld, h1.read_unread, h2.read_unread, h3.read_unread, h8.read_unread, View.ld_unit_zero (S := S512x1536) hz, View.ld_unit_zero (S := S1024x1536) hz, View.ld_unit_zero (S := S512x1024) hz, View.ld_unit_zero (S := S8x1024) hz]
end

section
variable (m : (ℓ : Loc nD τ sig) → Buf (Elt Ideal) ℓ) (c : Dev nD)

/-- The row of the whole array that row `r` of point `n`'s block is. -/
abbrev at_ (n : ℕ) (r : Fin 512) : Fin 8192 := ⟨(512 * n + r.val) % 8192, Nat.mod_lt _ (by decide)⟩

abbrev U : Vec Ideal S8192x1536 .bf16 := m ((c : Thread nD τ).loc main_arg0)
abbrev W : Vec Ideal S1024x1536 .bf16 := m ((c : Thread nD τ).loc main_arg1)
abbrev X : Vec Ideal S8192x1024 .f32 := m ((c : Thread nD τ).loc main_arg2)
abbrev G : Vec Ideal S1x1024 .f32 := m ((c : Thread nD τ).loc main_arg3)
abbrev Y : Vec Ideal S8192x1024 .f32 := m ((c : Thread nD τ).loc main_arg4)

theorem idx_in : ∀ t : Fin cfg0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0) :=
  (by decide +kernel : ∀ t : Fin grid0.N, _)

theorem in0 (t : Fin cfg0.N) (r : Fin 512) (f : Fin 1536) : (iblk m c 0 t : Vec Ideal S512x1536 .bf16) (ix2 r f) = U m c (ix2 (at_ t.val r) f) := by
  have hN := lt_of_lt_of_eq t.isLt N_0
  obtain ⟨e0, e1⟩ := (idx_in t).1
  refine congrArg (U m c) (funext fun a => Fin.ext ?_)
  match a with
  | ⟨0, _⟩ => show win0_0.index t (0 : Fin 2) * 512 + 1 * r.val = (512 * t.val + r.val) % 8192; rw [e0]; omega
  | ⟨1, _⟩ => show win0_0.index t (1 : Fin 2) * 1536 + 1 * f.val = f.val; rw [e1]; omega

theorem in1 (t : Fin cfg0.N) (d : Fin 1024) (f : Fin 1536) : (iblk m c 1 t : Vec Ideal S1024x1536 .bf16) (ix2 d f) = W m c (ix2 d f) := by
  obtain ⟨e0, e1⟩ := (idx_in t).2.1
  refine congrArg (W m c) (funext fun a => Fin.ext ?_)
  match a with
  | ⟨0, _⟩ => show win0_1.index t (0 : Fin 2) * 1024 + 1 * d.val = d.val; rw [e0]; omega
  | ⟨1, _⟩ => show win0_1.index t (1 : Fin 2) * 1536 + 1 * f.val = f.val; rw [e1]; omega

theorem in2 (t : Fin cfg0.N) (r : Fin 512) (d : Fin 1024) : (iblk m c 2 t : Vec Ideal S512x1024 .f32) (ix2 r d) = X m c (ix2 (at_ t.val r) d) := by
  have hN := lt_of_lt_of_eq t.isLt N_0
  obtain ⟨e0, e1⟩ := (idx_in t).2.2.1
  refine congrArg (X m c) (funext fun a => Fin.ext ?_)
  match a with
  | ⟨0, _⟩ => show win0_2.index t (0 : Fin 2) * 512 + 1 * r.val = (512 * t.val + r.val) % 8192; rw [e0]; omega
  | ⟨1, _⟩ => show win0_2.index t (1 : Fin 2) * 1024 + 1 * d.val = d.val; rw [e1]; omega

theorem in3 (t : Fin cfg0.N) (d : Fin 1024) : (iblk m c 3 t : Vec Ideal S1x1024 .f32) (ix2 0 d) = G m c (ix2 0 d) := by
  obtain ⟨e0, e1⟩ := (idx_in t).2.2.2.1
  refine congrArg (G m c) (funext fun a => Fin.ext ?_)
  match a with
  | ⟨0, _⟩ => show win0_3.index t (0 : Fin 2) * 1 + 1 * 0 = 0; rw [e0]
  | ⟨1, _⟩ => show win0_3.index t (1 : Fin 2) * 1024 + 1 * d.val = d.val; rw [e1]; omega

theorem in4 (t : Fin cfg0.N) (r : Fin 512) (d : Fin 1024) : (iblk m c 4 t : Vec Ideal S512x1024 .f32) (ix2 r d) = Y m c (ix2 (at_ t.val r) d) := by
  have hN := lt_of_lt_of_eq t.isLt N_0
  obtain ⟨e0, e1⟩ := (idx_in t).2.2.2.2.1
  refine congrArg (Y m c) (funext fun a => Fin.ext ?_)
  match a with
  | ⟨0, _⟩ => show win0_4.index t (0 : Fin 2) * 512 + 1 * r.val = (512 * t.val + r.val) % 8192; rw [e0]; omega
  | ⟨1, _⟩ => show win0_4.index t (1 : Fin 2) * 1024 + 1 * d.val = d.val; rw [e1]; omega

/-- The whole first result. -/
def D : Buf (Elt Ideal) ((c : Thread nD τ).loc main_v0_0) := fun i : S8192x1024.Idx => dx (U m c) (W m c) (X m c) (G m c) (Y m c) (i 0) (i 1)
/-- The second, which differs in its format only. -/
def D16 : Buf (Elt Ideal) ((c : Thread nD τ).loc main_v0_1) := fun i : S8192x1024.Idx => dx (U m c) (W m c) (X m c) (G m c) (Y m c) (i 0) (i 1)

/-- What a point stores. -/
theorem point_apply (t : Fin cfg0.N) (r : Fin 512) (d : Fin 1024) :
    k0_pay6 (F := Ideal) (iblk m c 0 t) (iblk m c 1 t) (iblk m c 2 t) (iblk m c 3 t) (iblk m c 4 t) (ix2 r d) = dx (U m c) (W m c) (X m c) (G m c) (Y m c) (at_ t.val r) d := by
  refine (dx_apply _ _ _ _ _ r d).trans ?_
  simp only [in0, in1, in2, in3, in4]
  rfl

theorem left_dx (t : Fin cfg0.N) : (outsAt0 m c t.val t.isLt).1 = k0_pay6 (F := Ideal) (iblk m c 0 t) (iblk m c 1 t) (iblk m c 2 t) (iblk m c 3 t) (iblk m c 4 t) := by
  by_cases h : t.val % 16 = 0
  · rw [outsAt0_A m c t h]; dsimp only; rw [dx_A]
  · rw [outsAt0_B m c t h]; dsimp only; rw [dx_B]

theorem left_dx16 (t : Fin cfg0.N) : (outsAt0 m c t.val t.isLt).2.1 = k0_pay7 (F := Ideal) (iblk m c 0 t) (iblk m c 1 t) (iblk m c 2 t) (iblk m c 3 t) (iblk m c 4 t) := by
  by_cases h : t.val % 16 = 0
  · rw [outsAt0_A m c t h]; dsimp only; rw [dx16_A]
  · rw [outsAt0_B m c t h]; dsimp only; rw [dx16_B]

theorem flushed_dx (t : Fin cfg0.N) : (dats m 0 c).flushed 5 t = ((cfg0.win 5).blk t).view.read (Elt Ideal) (D m c) := by
  show (cfg0.win 5).cut (grid0.coords t) ((dats m 0 c).after 5 t) = _
  rw [after0_5, left_dx]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.1
  refine congrArg (D m c) (a₁ := ix2 (at_ t.val r) d) (funext fun a => Fin.ext ?_)
  match a with
  | ⟨0, _⟩ => show (512 * t.val + r.val) % 8192 = win0_5.index t (0 : Fin 2) * 512 + 1 * r.val; rw [e0]; omega
  | ⟨1, _⟩ => show d.val = win0_5.index t (1 : Fin 2) * 1024 + 1 * d.val; rw [e1]; omega

theorem flushed_dx16 (t : Fin cfg0.N) : (dats m 0 c).flushed 6 t = ((cfg0.win 6).blk t).view.read (Elt Ideal) (D16 m c) := by
  show (cfg0.win 6).cut (grid0.coords t) ((dats m 0 c).after 6 t) = _
  rw [after0_6, left_dx16]
  funext y
  obtain ⟨⟨r, d⟩, rfl⟩ : ∃ a : Fin 512 × Fin 1024, y = ix2 a.1 a.2 := ⟨(y 0, y 1), eq_ix2 y⟩
  refine (point_apply m c t r d).trans ?_
  have hN := lt_of_lt_of_eq t.isLt N_0
  obtain ⟨e0, e1⟩ := (idx_in t).2.2.2.2.2.2.1
  refine congrArg (D16 m c) (a₁ := ix2 (at_ t.val r) d) (funext fun a => Fin.ext ?_)
  match a with
  | ⟨0, _⟩ => show (512 * t.val + r.val) % 8192 = win0_6.index t (0 : Fin 2) * 512 + 1 * r.val; rw [e0]; omega
  | ⟨1, _⟩ => show d.val = win0_6.index t (1 : Fin 2) * 1024 + 1 * d.val; rw [e1]; omega

theorem final_dx : (dats m 0 c).arrAt 5 cfg0.N = D m c :=
  (dats m 0 c).arrAt_eq_of_cover 5 (D m c) (fun t _ => flushed_dx m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.1
    refine ⟨t, flush0_5 t, ?_⟩
    show i ∈ ((View.whole main_v0_0).slice (win0_5.rect t)).set
    rw [View.set_slice_whole, Rect.mem_set_unit]
    intro a
    match a with
    | ⟨0, _⟩ => show win0_5.index t (0 : Fin 2) * 512 ≤ (i 0).val ∧ (i 0).val < win0_5.index t (0 : Fin 2) * 512 + 512; rw [e0]; show (i 0).val / 512 * 512 ≤ _ ∧ _ < (i 0).val / 512 * 512 + 512; omega
    | ⟨1, _⟩ => show win0_5.index t (1 : Fin 2) * 1024 ≤ (i 1).val ∧ (i 1).val < win0_5.index t (1 : Fin 2) * 1024 + 1024; rw [e1]; omega

theorem final_dx16 : (dats m 0 c).arrAt 6 cfg0.N = D16 m c :=
  (dats m 0 c).arrAt_eq_of_cover 6 (D16 m c) (fun t _ => flushed_dx16 m c t) fun i => by
    have h0 : (i 0).val < 8192 := (i 0).isLt
    have h1 : (i 1).val < 1024 := (i 1).isLt
    have hN : cfg0.N = 16 := N_0
    let t : Fin cfg0.N := ⟨(i 0).val / 512, by rw [hN]; omega⟩
    obtain ⟨e0, e1⟩ := (idx_in t).2.2.2.2.2.2.1
    refine ⟨t, flush0_6 t, ?_⟩
    show i ∈ ((View.whole main_v0_1).slice (win0_6.rect t)).set
    rw [View.set_slice_whole, Rect.mem_set_unit]
    intro a
    match a with
    | ⟨0, _⟩ => show win0_6.index t (0 : Fin 2) * 512 ≤ (i 0).val ∧ (i 0).val < win0_6.index t (0 : Fin 2) * 512 + 512; rw [e0]; show (i 0).val / 512 * 512 ≤ _ ∧ _ < (i 0).val / 512 * 512 + 512; omega
    | ⟨1, _⟩ => show win0_6.index t (1 : Fin 2) * 1024 ≤ (i 1).val ∧ (i 1).val < win0_6.index t (1 : Fin 2) * 1024 + 1024; rw [e1]; omega

/-! The gradient of the gain. -/

/-- What the `j`-th of the positions that leave remainder `r` contributes. -/
abbrev tm (r : Fin 8) (d : Fin 1024) (j : ℕ) : EReal := dgTerm (U m c) (W m c) (X m c) d ⟨(8 * j + r.val) % 8192, Nat.mod_lt _ (by decide)⟩

/-- A point over what the points before left. -/
theorem step (t : Fin cfg0.N) (s : Vec Ideal S8x1024 .f32) (r : Fin 8) (d : Fin 1024) (h : s (ix2 r d) = ∑ j ∈ Finset.range (64 * t.val), tm m c r d j) :
    k0_pay2 (F := Ideal) (k0_pay3 (iblk m c 0 t) (iblk m c 1 t)) (k0_pay5 (iblk m c 2 t)) s (ix2 r d) = ∑ j ∈ Finset.range (64 * (t.val + 1)), tm m c r d j := by
  refine (Cert.UpDxIdeal.Mlp.gain_apply _ _ _ r d).trans ?_
  rw [h, Nat.mul_add, Nat.mul_one, Finset.sum_range_add, Finset.sum_range (n := 64)]
  refine congrArg _ (Finset.sum_congr rfl fun j _ => ?_)
  rw [back_apply, unit_apply]
  simp only [in0, in1, in2]
  have e : at_ t.val ⟨j.val * 8 + r.val, by have := j.isLt; have := r.isLt; omega⟩ = ⟨(8 * (64 * t.val + j.val) + r.val) % 8192, Nat.mod_lt _ (by decide)⟩ := Fin.ext (by show (512 * t.val + (j.val * 8 + r.val)) % 8192 = _; dsimp only; congr 1; omega)
  rw [e]
  rfl

/-- What the sum's block holds after a point. -/
theorem left_dg (r : Fin 8) (d : Fin 1024) : ∀ (p : ℕ) (h : p < cfg0.N), (outsAt0 m c p h).2.2 (ix2 r d) = ∑ j ∈ Finset.range (64 * (p + 1)), tm m c r d j
  | 0, h => by
    rw [outsAt0_A m c ⟨0, h⟩ rfl]
    dsimp only
    rw [dg_A]
    exact step m c ⟨0, h⟩ _ r d ((Cert.UpDxIdeal.Mlp.zero_apply r d).trans (Finset.sum_range_zero _).symm)
  | p + 1, h => by
    have hN := lt_of_lt_of_eq h N_0
    rw [outsAt0_B m c ⟨p + 1, h⟩ (by dsimp only; omega)]
    dsimp only
    rw [dg_B]
    exact step m c ⟨p + 1, h⟩ _ r d (left_dg r d p (Nat.lt_of_succ_lt h))

/-- The sums, one for each remainder. -/
def Dg8 : Buf (Elt Ideal) ((c : Thread nD τ).loc main_v0_2) := fun i : S8x1024.Idx => (∑ j ∈ Finset.range 1024, tm m c (i 0) (i 1) j : EReal)
/-- The whole third result. -/
def Dg : Buf (Elt Ideal) ((c : Thread nD τ).loc main_v1) := fun i : S1024.Idx => (∑ i', dgTerm (U m c) (W m c) (X m c) (i 0) i' : EReal)

theorem final_dg : (dats m 0 c).arrAt 7 cfg0.N = Dg8 m c :=
  (dats m 0 c).arrAt_eq_of_cover 7 (Dg8 m c) (fun t hf => by
    have hN := lt_of_lt_of_eq t.isLt N_0
    have ht : t.val = 15 := by have := (flush0_7 t).mp hf; omega
    show (cfg0.win 7).cut (grid0.coords t) ((dats m 0 c).after 7 t) = _
    rw [after0_7]
    funext y
    obtain ⟨⟨r, d⟩, rfl⟩ : ∃ a : Fin 8 × Fin 1024, y = ix2 a.1 a.2 := ⟨(y 0, y 1), eq_ix2 y⟩
    refine (left_dg m c r d t.val t.isLt).trans ?_
    rw [ht]
    obtain ⟨e0, e1⟩ := (idx_in t).2.2.2.2.2.2.2
    refine congrArg (Dg8 m c) (a₁ := ix2 r d) (funext fun a => Fin.ext ?_)
    match a with
    | ⟨0, _⟩ => show r.val = win0_7.index t (0 : Fin 2) * 8 + 1 * r.val; rw [e0]; omega
    | ⟨1, _⟩ => show d.val = win0_7.index t (1 : Fin 2) * 1024 + 1 * d.val; rw [e1]; omega) fun i => by
    have h0 : (i 0).val < 8 := (i 0).isLt
    have h1 : (i 1).val < 1024 := (i 1).isLt
    have hN : cfg0.N = 16 := N_0
    let t : Fin cfg0.N := ⟨15, by rw [hN]; omega⟩
    obtain ⟨e0, e1⟩ := (idx_in t).2.2.2.2.2.2.2
    refine ⟨t, (flush0_7 t).mpr rfl, ?_⟩
    show i ∈ ((View.whole main_v0_2).slice (win0_7.rect t)).set
    rw [View.set_slice_whole, Rect.mem_set_unit]
    intro a
    match a with
    | ⟨0, _⟩ => show win0_7.index t (0 : Fin 2) * 8 ≤ (i 0).val ∧ (i 0).val < win0_7.index t (0 : Fin 2) * 8 + 8; rw [e0]; omega
    | ⟨1, _⟩ => show win0_7.index t (1 : Fin 2) * 1024 ≤ (i 1).val ∧ (i 1).val < win0_7.index t (1 : Fin 2) * 1024 + 1024; rw [e1]; omega

theorem fold_eq : Cert.UpDxIdeal.Mlp.fold (Dg8 m c) = Dg m c := by
  funext i
  obtain ⟨d, rfl⟩ : ∃ d : Fin 1024, i = ix1 d := ⟨i 0, eq_ix1 i⟩
  rw [Cert.UpDxIdeal.Mlp.fold_apply]
  refine Eq.trans (Finset.sum_congr rfl fun r _ => ?_) (sum_by_eight (dgTerm (U m c) (W m c) (X m c) d))
  refine (Finset.sum_range (fun j => tm m c r d j)).trans (Finset.sum_congr rfl fun j _ => ?_)
  have hj := j.isLt
  have hr := r.isLt
  exact congrArg (dgTerm (U m c) (W m c) (X m c) d) (Fin.ext (Nat.mod_eq_of_lt (by omega)))

/-- What the third result holds: the sum of what the kernel left. -/
theorem tail_eq : Pipeline.afterTail₀ cfgs (dats m) 0 (V0 m) [hostOps1] c main_v1 = Dg m c := by
  have e : Pipeline.afterTail₀ cfgs (dats m) 0 (V0 m) [hostOps1] c main_v1 = Cert.UpDxIdeal.Mlp.fold ((dats m 0 c).arrAt 7 cfg0.N) := by
    unfold Pipeline.afterTail₀
    simp only [List.flatten_cons, List.flatten_nil, List.append_nil]
    after_results_simp
    exact congrArg Cert.UpDxIdeal.Mlp.fold (Pipeline.withArrays_arr (cfgs 0).spec (by decide) c (V0 m c) (fun w => (dats m 0 c).arrAt w (cfgs 0).N) 7)
  rw [e, final_dg, fold_eq]

/-- The run: the three results, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0_0) = D m c
      ∧ r.2.mem ((c : Thread nD τ).loc main_v0_1) = D16 m c
      ∧ r.2.mem ((c : Thread nD τ).loc main_v1) = Dg m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨((h c).1 5).trans (final_dx m c), ((h c).1 6).trans (final_dx16 m c),
      ((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩) (run_main m ρ)
end
end Cert.OddDxIdeal.Mlp

namespace Cert.OddDxRefIdeal.Mlp
open Cert.OddDxRefIdeal Cert.OddDxRefIdeal.Gen Cert.Mlp Idealize.ShloMosaic Idealize.ShloMosaic.TcCoe Idealize.SL.Sem
variable (u : FVec Ideal S8192x1536 .bf16) (w : FVec Ideal S1024x1536 .bf16) (x : FVec Ideal S8192x1024 .f32) (g : FVec Ideal S1x1024 .f32) (y : FVec Ideal S8192x1024 .f32)

/-- The gradient of the norm's result. -/
def dh : FVec Ideal S8192x1024 .f32 :=
  Host.dotGeneral dot_S8192x1536_S1024x1536_S8192x1024_1_1_0_0_n_n none (extf .f32 u bitsLt_bf16_f32) (extf .f32 w bitsLt_bf16_f32)

theorem dh_apply (i : Fin 8192) (d : Fin 1024) : dh u w (ix2 i d) = Cert.OddDxIdeal.Mlp.back u w i d := by
  unfold dh
  pointwise
  rfl

theorem res_eq (hu : ∀ i, ∃ r : ℝ, u i = r) (hw : ∀ i, ∃ r : ℝ, w i = r) (hx : ∀ i, ∃ r : ℝ, x i = r) (hg : ∀ i, ∃ r : ℝ, g i = r) (i : Fin 8192) (d : Fin 1024) :
    Cert.UpDxRefIdeal.Mlp.res x g y (dh u w) (ix2 i d) = Cert.OddDxIdeal.Mlp.dx u w x g y i d := by
  refine (Cert.UpDxRefIdeal.Mlp.res_apply x g y (dh u w) (fun i d => ?_) hx hg i d).trans ?_
  · rw [dh_apply]
    exact product_real _ _ (fun k => hu _) (fun k => hw _)
  · simp only [dh_apply]
    rfl

theorem gain_eq (d : Fin 1024) : Cert.UpDxRefIdeal.Mlp.gain x (dh u w) (ix1 d) = ∑ i, Cert.OddDxIdeal.Mlp.dgTerm u w x d i := by
  rw [Cert.UpDxRefIdeal.Mlp.gain_apply]
  simp only [dh_apply]
  rfl
end Cert.OddDxRefIdeal.Mlp

namespace Cert.OddDxIdeal.Mlp
open Idealize.ShloMosaic Idealize.ShloMosaic.TcCoe Idealize.SL.Sem Cert.OddDxIdeal

theorem finite_facts : Cert.Pre_odd_finite.Facts := ⟨by decide, by decide, by decide, by decide, by decide⟩

section
local instance : Cert.Pre_odd_finite.Facts := finite_facts
theorem fin_u (A : FVec Ideal S8192x1536 .bf16) (h : cmpf .olt (Host.absf (extf .f32 A Cert.Pre_odd_finite.Facts.bitsLt_bf16_f32)) (broadcastInDim S8192x1536 ![] Cert.Pre_odd_finite.Facts.bcast_S_S8192x1536 (constant S_ .f32 0x7F800000#32)) = fun _ => 1#1) : ∀ i, ∃ r : ℝ, A i = r := fun i => by
  have e := congrFun h i
  obtain ⟨x, j, rfl⟩ : ∃ (x : Fin 8192) (j : Fin 1536), i = ix2 x j := ⟨i 0, i 1, eq_ix2 i⟩
  pointwise at e
  exact Cert.KernelIdeal.Bwd.real_of_abs _ e
theorem fin_w (A : FVec Ideal S1024x1536 .bf16) (h : cmpf .olt (Host.absf (extf .f32 A Cert.Pre_odd_finite.Facts.bitsLt_bf16_f32)) (broadcastInDim S1024x1536 ![] Cert.Pre_odd_finite.Facts.bcast_S_S1024x1536 (constant S_ .f32 0x7F800000#32)) = fun _ => 1#1) : ∀ i, ∃ r : ℝ, A i = r := fun i => by
  have e := congrFun h i
  obtain ⟨x, j, rfl⟩ : ∃ (x : Fin 1024) (j : Fin 1536), i = ix2 x j := ⟨i 0, i 1, eq_ix2 i⟩
  pointwise at e
  exact Cert.KernelIdeal.Bwd.real_of_abs _ e

/-- Under the precondition the arguments the norm's derivative is taken with are real. -/
theorem args_real (m : (ℓ : Loc nD τ sig) → Buf (Elt Ideal) ℓ) (h : Cert.Pre_OddDxIdeal_odd_finite m) (c : Dev nD) :
    (∀ i, ∃ r : ℝ, U m c i = r) ∧ (∀ i, ∃ r : ℝ, W m c i = r) ∧ (∀ i, ∃ r : ℝ, X m c i = r) ∧ (∀ i, ∃ r : ℝ, G m c i = r) :=
  ⟨fin_u _ (h c).1, fin_w _ (h c).2.1, Cert.UpDxIdeal.Mlp.fin_x _ (h c).2.2.1, Cert.UpDxIdeal.Mlp.fin_g _ (h c).2.2.2⟩
end

/-- The kernel's gradients are the reference's. -/
theorem equal : Cert.algebraic_OddDxIdeal_OddDxRefIdeal_pre_odd_finite (hPre_odd_finite := finite_facts) := by
  intro m g m' g' hpre hargs
  refine ⟨fun c => D m c, fun c => D16 m c, fun c => Dg m c, run m g, ?_⟩
  refine (θ_run _ _ _).mono (fun r h c => ?_) (Cert.OddDxRefIdeal.Value.run (F := Ideal) m' g')
  obtain ⟨a0, a1, a2, a3, a4⟩ := hargs c
  obtain ⟨hu, hw, hx, hg⟩ := args_real m hpre c
  refine ⟨(h c).1.trans ?_, (h c).2.1.trans ?_, (h c).2.2.1.trans ?_, (h c).2.2.2⟩
  · unfold Cert.OddDxRefIdeal.Value.res_main_v41
    rw [a0, a1, a2, a3, a4]
    funext i
    obtain ⟨⟨x, d⟩, rfl⟩ : ∃ a : Fin 8192 × Fin 1024, i = ix2 a.1 a.2 := ⟨(i 0, i 1), eq_ix2 i⟩
    exact Cert.OddDxRefIdeal.Mlp.res_eq (U m c) (W m c) (X m c) (G m c) (Y m c) hu hw hx hg x d
  · unfold Cert.OddDxRefIdeal.Value.res_main_v43
    rw [a0, a1, a2, a3, a4]
    funext i
    obtain ⟨⟨x, d⟩, rfl⟩ : ∃ a : Fin 8192 × Fin 1024, i = ix2 a.1 a.2 := ⟨(i 0, i 1), eq_ix2 i⟩
    exact Cert.OddDxRefIdeal.Mlp.res_eq (U m c) (W m c) (X m c) (G m c) (Y m c) hu hw hx hg x d
  · rw [a0, a1, a2]
    funext i
    obtain ⟨d, rfl⟩ : ∃ d : Fin 1024, i = ix1 d := ⟨i 0, eq_ix1 i⟩
    exact Cert.OddDxRefIdeal.Mlp.gain_eq (U m c) (W m c) (X m c) d

/-- The kernel before idealization is the same text: the same bodies, the same program. -/
theorem defs_eq : Cert.OddDx.defs (F := Bits) = Cert.OddDxIdeal.defs (F := Bits) := by
  refine congrArg (Pipeline.defs _) ?_
  unfold Cert.OddDx.defs₀ Cert.OddDxIdeal.defs₀
  refine congrArg Defs.onTc (funext fun l => funext fun x => ?_)
  match l, x with
  | 0, (t, s) => rfl

/-- Its run, in machine arithmetic, is this one. -/
theorem frame_kernel : Cert.quiescent_OddDx := by
  intro m ρ _
  have h := Cert.OddDxIdeal.Gen.frame (F := Bits) m ρ
  rw [← defs_eq] at h
  exact h

/-- The reference runs, leaves its arguments unchanged and has no counter. -/
theorem frame_reference : Cert.quiescent_OddDxRefIdeal := fun m ρ _ =>
  (θ_run _ _ _).mono (fun r h => ⟨fun c => (h c).2.2.2, Idealize.ShloMosaic.sem_eq_zero_of_no_sems (by decide) r.2⟩)
    (Cert.OddDxRefIdeal.Value.run (F := Ideal) m ρ)
end Cert.OddDxIdeal.Mlp
-- ==== Proof.lean ====
/-
  The certificate. The backward flash kernel: it and its idealization run, end with their arguments unchanged and every
  counter at zero; the idealization differs by one named constant; and over the extended reals, where the arguments are
  real numbers, the three gradients it leaves are the reference's. Calls of the MLP and of the mixers, backward and
  forward: the same, with no constant named, and with a condition on the arguments only where the norm is differentiated.
-/
module

public import proofs.«01_k».proof.Defs
public import proofs.«01_k».proof.Proof.Finite
public import proofs.«01_k».proof.Proof.Gen.ReferenceIdeal.Run
public import proofs.«01_k».proof.Proof.Bwd.Same
public import Idealize.ShloMosaic.Lib.Quiescent
public import proofs.«01_k».proof.Proof.Mlp.DownDx
public import proofs.«01_k».proof.Proof.Mlp.DownDw
public import proofs.«01_k».proof.Proof.Mlp.UpDw
public import proofs.«01_k».proof.Proof.Mlp.UpDx
public import proofs.«01_k».proof.Proof.Mlp.DownDx0
public import proofs.«01_k».proof.Proof.Mlp.UpDx0
public import proofs.«01_k».proof.Proof.Mlp.Up1
public import proofs.«01_k».proof.Proof.Mlp.Up0
public import proofs.«01_k».proof.Proof.Mlp.Down0
public import proofs.«01_k».proof.Proof.Mlp.Down1
public import proofs.«01_k».proof.Proof.Mlp.InDw
public import proofs.«01_k».proof.Proof.Mlp.OutDw
public import proofs.«01_k».proof.Proof.Mlp.InFwd
public import proofs.«01_k».proof.Proof.Mlp.InDx
public import proofs.«01_k».proof.Proof.Mlp.OutDx
public import proofs.«01_k».proof.Proof.Mlp.OddDw
public import proofs.«01_k».proof.Proof.Mlp.OddOut
public import proofs.«01_k».proof.Proof.Mlp.OutFwd
public import proofs.«01_k».proof.Proof.Mlp.OddFwd
public import proofs.«01_k».proof.Proof.Mlp.OddOutDx
public import proofs.«01_k».proof.Proof.Mlp.OddDx

@[expose] public section

noncomputable section

namespace Cert.Proof

open Idealize.ShloMosaic Idealize.SL.Sem

/-- The reference runs, leaves its arguments unchanged and has no counter. -/
theorem reference_frame (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0) :=
  (θ_run _ _ _).mono (fun r h => ⟨fun c => (h c).2.2.2, Idealize.ShloMosaic.sem_eq_zero_of_no_sems (by decide) r.2⟩)
    (Cert.ReferenceIdeal.Value.run (F := Ideal) m ρ)

/-- The gradients the idealized kernel leaves are the reference's. -/
theorem gradients : Cert.algebraic_KernelIdeal_ReferenceIdeal_pre_finite (hPre_finite := Cert.KernelIdeal.Bwd.finite_facts) := by
  intro m g m' g' hpre hargs
  refine ⟨fun c => Cert.KernelIdeal.Bwd.G7 m c, fun c => Cert.KernelIdeal.Bwd.G8 m c, fun c => Cert.KernelIdeal.Bwd.G9 m c, Cert.KernelIdeal.Bwd.run m g, ?_⟩
  refine (θ_run _ _ _).mono (fun r h c => ?_) (Cert.ReferenceIdeal.Value.run (F := Ideal) m' g')
  obtain ⟨a0, a1, a2, a3⟩ := hargs c
  obtain ⟨hq, hk, hv, hg⟩ := Cert.KernelIdeal.Bwd.args_real m hpre c
  refine ⟨(h c).1.trans ?_, (h c).2.1.trans ?_, (h c).2.2.1.trans ?_, (h c).2.2.2⟩
  · refine (Cert.ReferenceIdeal.Read.val_main_v65_eq m' c).trans ?_
    rw [a0, a1, a2, a3]
    exact (Cert.KernelIdeal.Bwd.results_q m c hq hk hv hg).symm
  · refine (Cert.ReferenceIdeal.Read.val_main_v63_eq m' c).trans ?_
    rw [a0, a1, a2, a3]
    exact (Cert.KernelIdeal.Bwd.results_k m c hq hk hv hg).symm
  · rw [a0, a1, a3]
    refine (Cert.ReferenceIdeal.Read.val_main_v62_eq _ _ _).trans ?_
    exact (Cert.KernelIdeal.Bwd.results_v m c hq hk hg).symm

theorem claim : Cert.Claim :=
  ⟨Cert.Kernel.Gen.facts, Cert.KernelIdeal.Gen.facts, Cert.ReferenceIdeal.Gen.facts,
    Cert.DownDx.Gen.facts, Cert.DownDxIdeal.Gen.facts, Cert.DownDxRefIdeal.Gen.facts,
    Cert.DownDw.Gen.facts, Cert.DownDwIdeal.Gen.facts, Cert.DownDwRefIdeal.Gen.facts,
    Cert.UpDw.Gen.facts, Cert.UpDwIdeal.Gen.facts, Cert.UpDwRefIdeal.Gen.facts,
    Cert.UpDx.Gen.facts, Cert.UpDxIdeal.Gen.facts, Cert.UpDxRefIdeal.Gen.facts,
    Cert.DownDx0.Gen.facts, Cert.DownDx0Ideal.Gen.facts, Cert.DownDx0RefIdeal.Gen.facts,
    Cert.UpDx0.Gen.facts, Cert.UpDx0Ideal.Gen.facts, Cert.UpDx0RefIdeal.Gen.facts,
    Cert.Up1.Gen.facts, Cert.Up1Ideal.Gen.facts, Cert.Up1RefIdeal.Gen.facts,
    Cert.Up0.Gen.facts, Cert.Up0Ideal.Gen.facts, Cert.Up0RefIdeal.Gen.facts,
    Cert.Down0.Gen.facts, Cert.Down0Ideal.Gen.facts, Cert.Down0RefIdeal.Gen.facts,
    Cert.Down1.Gen.facts, Cert.Down1Ideal.Gen.facts, Cert.Down1RefIdeal.Gen.facts,
    Cert.InDw.Gen.facts, Cert.InDwIdeal.Gen.facts, Cert.InDwRefIdeal.Gen.facts,
    Cert.OutDw.Gen.facts, Cert.OutDwIdeal.Gen.facts, Cert.OutDwRefIdeal.Gen.facts,
    Cert.InFwd.Gen.facts, Cert.InFwdIdeal.Gen.facts, Cert.InFwdRefIdeal.Gen.facts,
    Cert.InDx.Gen.facts, Cert.InDxIdeal.Gen.facts, Cert.InDxRefIdeal.Gen.facts,
    Cert.OutDx.Gen.facts, Cert.OutDxIdeal.Gen.facts, Cert.OutDxRefIdeal.Gen.facts,
    Cert.OddDw.Gen.facts, Cert.OddDwIdeal.Gen.facts, Cert.OddDwRefIdeal.Gen.facts,
    Cert.OddDx.Gen.facts, Cert.OddDxIdeal.Gen.facts, Cert.OddDxRefIdeal.Gen.facts,
    Cert.OddOutDx.Gen.facts, Cert.OddOutDxIdeal.Gen.facts, Cert.OddOutDxRefIdeal.Gen.facts,
    Cert.OddFwd.Gen.facts, Cert.OddFwdIdeal.Gen.facts, Cert.OddFwdRefIdeal.Gen.facts,
    Cert.OutFwd.Gen.facts, Cert.OutFwdIdeal.Gen.facts, Cert.OutFwdRefIdeal.Gen.facts,
    Cert.OddOut.Gen.facts, Cert.OddOutIdeal.Gen.facts, Cert.OddOutRefIdeal.Gen.facts,
    Cert.KernelIdeal.Bwd.finite_facts, Cert.UpDxIdeal.Mlp.finite_facts, Cert.InDxIdeal.Mlp.finite_facts, Cert.OddDxIdeal.Mlp.finite_facts,
    Cert.KernelIdeal.Bwd.frame_kernel,
    fun m ρ _ => Cert.KernelIdeal.Bwd.frame m ρ,
    fun m ρ _ => Cert.KernelIdeal.Bwd.frame m ρ,
    fun m ρ _ => reference_frame m ρ,
    fun m ρ _ => reference_frame m ρ,
    Cert.DownDxIdeal.Mlp.frame_kernel, fun m ρ _ => Cert.DownDxIdeal.Gen.frame m ρ, Cert.DownDxIdeal.Mlp.frame_reference,
    Cert.DownDwIdeal.Mlp.frame_kernel, fun m ρ _ => Cert.DownDwIdeal.Gen.frame m ρ, Cert.DownDwIdeal.Mlp.frame_reference,
    Cert.UpDwIdeal.Mlp.frame_kernel, fun m ρ _ => Cert.UpDwIdeal.Gen.frame m ρ, Cert.UpDwIdeal.Mlp.frame_reference,
    Cert.UpDxIdeal.Mlp.frame_kernel, fun m ρ _ => Cert.UpDxIdeal.Gen.frame m ρ, fun m ρ _ => Cert.UpDxIdeal.Gen.frame m ρ,
    fun m ρ _ => Cert.UpDxIdeal.Mlp.frame_reference m ρ trivial, fun m ρ _ => Cert.UpDxIdeal.Mlp.frame_reference m ρ trivial,
    Cert.DownDx0Ideal.Mlp.frame_kernel, fun m ρ _ => Cert.DownDx0Ideal.Gen.frame m ρ, Cert.DownDx0Ideal.Mlp.frame_reference,
    Cert.UpDx0Ideal.Mlp.frame_kernel, fun m ρ _ => Cert.UpDx0Ideal.Gen.frame m ρ, fun m ρ _ => Cert.UpDx0Ideal.Gen.frame m ρ,
    fun m ρ _ => Cert.UpDx0Ideal.Mlp.frame_reference m ρ trivial, fun m ρ _ => Cert.UpDx0Ideal.Mlp.frame_reference m ρ trivial,
    Cert.Up1Ideal.Mlp.frame_kernel, fun m ρ _ => Cert.Up1Ideal.Gen.frame m ρ, Cert.Up1Ideal.Mlp.frame_reference,
    Cert.Up0Ideal.Mlp.frame_kernel, fun m ρ _ => Cert.Up0Ideal.Gen.frame m ρ, Cert.Up0Ideal.Mlp.frame_reference,
    Cert.Down0Ideal.Mlp.frame_kernel, fun m ρ _ => Cert.Down0Ideal.Gen.frame m ρ, Cert.Down0Ideal.Mlp.frame_reference,
    Cert.Down1Ideal.Mlp.frame_kernel, fun m ρ _ => Cert.Down1Ideal.Gen.frame m ρ, Cert.Down1Ideal.Mlp.frame_reference,
    Cert.InDwIdeal.Mlp.frame_kernel, fun m ρ _ => Cert.InDwIdeal.Gen.frame m ρ, Cert.InDwIdeal.Mlp.frame_reference,
    Cert.OutDwIdeal.Mlp.frame_kernel, fun m ρ _ => Cert.OutDwIdeal.Gen.frame m ρ, Cert.OutDwIdeal.Mlp.frame_reference,
    Cert.InFwdIdeal.Mlp.frame_kernel, fun m ρ _ => Cert.InFwdIdeal.Gen.frame m ρ, Cert.InFwdIdeal.Mlp.frame_reference,
    Cert.InDxIdeal.Mlp.frame_kernel, fun m ρ _ => Cert.InDxIdeal.Gen.frame m ρ, fun m ρ _ => Cert.InDxIdeal.Gen.frame m ρ,
    fun m ρ _ => Cert.InDxIdeal.Mlp.frame_reference m ρ trivial, fun m ρ _ => Cert.InDxIdeal.Mlp.frame_reference m ρ trivial,
    Cert.OutDxIdeal.Mlp.frame_kernel, fun m ρ _ => Cert.OutDxIdeal.Gen.frame m ρ, Cert.OutDxIdeal.Mlp.frame_reference,
    Cert.OddDwIdeal.Mlp.frame_kernel, fun m ρ _ => Cert.OddDwIdeal.Gen.frame m ρ, Cert.OddDwIdeal.Mlp.frame_reference,
    Cert.OddDxIdeal.Mlp.frame_kernel, fun m ρ _ => Cert.OddDxIdeal.Gen.frame m ρ, fun m ρ _ => Cert.OddDxIdeal.Gen.frame m ρ,
    fun m ρ _ => Cert.OddDxIdeal.Mlp.frame_reference m ρ trivial, fun m ρ _ => Cert.OddDxIdeal.Mlp.frame_reference m ρ trivial,
    Cert.OddOutDxIdeal.Mlp.frame_kernel, fun m ρ _ => Cert.OddOutDxIdeal.Gen.frame m ρ, Cert.OddOutDxIdeal.Mlp.frame_reference,
    Cert.OddFwdIdeal.Mlp.frame_kernel, fun m ρ _ => Cert.OddFwdIdeal.Gen.frame m ρ, Cert.OddFwdIdeal.Mlp.frame_reference,
    Cert.OutFwdIdeal.Mlp.frame_kernel, fun m ρ _ => Cert.OutFwdIdeal.Gen.frame m ρ, Cert.OutFwdIdeal.Mlp.frame_reference,
    Cert.OddOutIdeal.Mlp.frame_kernel, fun m ρ _ => Cert.OddOutIdeal.Gen.frame m ρ, Cert.OddOutIdeal.Mlp.frame_reference,
    IdealRules.named_const.statement Cert.KernelIdeal.κ "ln2" .f32 0x3F317218#32 ((Real.log 2 : ℝ) : EReal) rfl,
    gradients,
    trivial, Cert.DownDxIdeal.Mlp.equal,
    trivial, Cert.DownDwIdeal.Mlp.equal,
    trivial, Cert.UpDwIdeal.Mlp.equal,
    trivial, Cert.UpDxIdeal.Mlp.equal,
    trivial, Cert.DownDx0Ideal.Mlp.equal,
    trivial, Cert.UpDx0Ideal.Mlp.equal,
    trivial, Cert.Up1Ideal.Mlp.equal,
    trivial, Cert.Up0Ideal.Mlp.equal,
    trivial, Cert.Down0Ideal.Mlp.equal,
    trivial, Cert.Down1Ideal.Mlp.equal,
    trivial, Cert.InDwIdeal.Mlp.equal,
    trivial, Cert.OutDwIdeal.Mlp.equal,
    trivial, Cert.InFwdIdeal.Mlp.equal,
    trivial, Cert.InDxIdeal.Mlp.equal,
    trivial, Cert.OutDxIdeal.Mlp.equal,
    trivial, Cert.OddDwIdeal.Mlp.equal,
    trivial, Cert.OddDxIdeal.Mlp.equal,
    trivial, Cert.OddOutDxIdeal.Mlp.equal,
    trivial, Cert.OddFwdIdeal.Mlp.equal,
    trivial, Cert.OutFwdIdeal.Mlp.equal,
    trivial, Cert.OddOutIdeal.Mlp.equal⟩

end Cert.Proof

end
